-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11)) (m ((c.tc : Thread Cert.Kernel4Ideal.nD Cert.Kernel4Ideal.τ).loc Cert.Kernel4Ideal.main_arg12))).2.2.2.2.2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11)) (m ((c.tc : Thread Cert.Reference4Ideal.nD Cert.Reference4Ideal.τ).loc Cert.Reference4Ideal.main_arg12))).2.2.2.2.2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v123_0)) (v1 : (c : Dev Cert.KernelIdeal.nD) → Buf (Elt Ideal) ((c.tc : Thread Cert.KernelIdeal.nD Cert.KernelIdeal.τ).loc Cert.KernelIdeal.main_v123_1)) (v2 : (c : Dev Cert.KernelIdeal.nD) → Buf (Elt Ideal) ((c.tc : Thread Cert.KernelIdeal.nD Cert.KernelIdeal.τ).loc Cert.KernelIdeal.main_v123_2)) (v3 : (c : Dev Cert.KernelIdeal.nD) → Buf (Elt Ideal) ((c.tc : Thread Cert.KernelIdeal.nD Cert.KernelIdeal.τ).loc Cert.KernelIdeal.main_v123_3)) (v4 : (c : Dev Cert.KernelIdeal.nD) → Buf (Elt Ideal) ((c.tc : Thread Cert.KernelIdeal.nD Cert.KernelIdeal.τ).loc Cert.KernelIdeal.main_v123_4)) (v5 : (c : Dev Cert.KernelIdeal.nD) → Buf (Elt Ideal) ((c.tc : Thread Cert.KernelIdeal.nD Cert.KernelIdeal.τ).loc Cert.KernelIdeal.main_v123_5)) (v6 : (c : Dev Cert.KernelIdeal.nD) → Buf (Elt Ideal) ((c.tc : Thread Cert.KernelIdeal.nD Cert.KernelIdeal.τ).loc Cert.KernelIdeal.main_v123_6)) (v7 : (c : Dev Cert.KernelIdeal.nD) → Buf (Elt Ideal) ((c.tc : Thread Cert.KernelIdeal.nD Cert.KernelIdeal.τ).loc Cert.KernelIdeal.main_v123_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123_0) = v0 c
          ∧ r.2.mem ((c.tc : Thread Cert.KernelIdeal.nD Cert.KernelIdeal.τ).loc Cert.KernelIdeal.main_v123_1) = v1 c
          ∧ r.2.mem ((c.tc : Thread Cert.KernelIdeal.nD Cert.KernelIdeal.τ).loc Cert.KernelIdeal.main_v123_2) = v2 c
          ∧ r.2.mem ((c.tc : Thread Cert.KernelIdeal.nD Cert.KernelIdeal.τ).loc Cert.KernelIdeal.main_v123_3) = v3 c
          ∧ r.2.mem ((c.tc : Thread Cert.KernelIdeal.nD Cert.KernelIdeal.τ).loc Cert.KernelIdeal.main_v123_4) = v4 c
          ∧ r.2.mem ((c.tc : Thread Cert.KernelIdeal.nD Cert.KernelIdeal.τ).loc Cert.KernelIdeal.main_v123_5) = v5 c
          ∧ r.2.mem ((c.tc : Thread Cert.KernelIdeal.nD Cert.KernelIdeal.τ).loc Cert.KernelIdeal.main_v123_6) = v6 c
          ∧ r.2.mem ((c.tc : Thread Cert.KernelIdeal.nD Cert.KernelIdeal.τ).loc Cert.KernelIdeal.main_v123_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v357) = v0 c
          ∧ r.2.mem ((c.tc : Thread Cert.ReferenceIdeal.nD Cert.ReferenceIdeal.τ).loc Cert.ReferenceIdeal.main_v329) = v1 c
          ∧ r.2.mem ((c.tc : Thread Cert.ReferenceIdeal.nD Cert.ReferenceIdeal.τ).loc Cert.ReferenceIdeal.main_v186) = v2 c
          ∧ r.2.mem ((c.tc : Thread Cert.ReferenceIdeal.nD Cert.ReferenceIdeal.τ).loc Cert.ReferenceIdeal.main_v260) = v3 c
          ∧ r.2.mem ((c.tc : Thread Cert.ReferenceIdeal.nD Cert.ReferenceIdeal.τ).loc Cert.ReferenceIdeal.main_v201) = v4 c
          ∧ r.2.mem ((c.tc : Thread Cert.ReferenceIdeal.nD Cert.ReferenceIdeal.τ).loc Cert.ReferenceIdeal.main_v196) = v5 c
          ∧ r.2.mem ((c.tc : Thread Cert.ReferenceIdeal.nD Cert.ReferenceIdeal.τ).loc Cert.ReferenceIdeal.main_v359) = v6 c
          ∧ r.2.mem ((c.tc : Thread Cert.ReferenceIdeal.nD Cert.ReferenceIdeal.τ).loc Cert.ReferenceIdeal.main_v361) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_v29) = v1 c
          ∧ r.2.mem ((c.tc : Thread Cert.Reference2Ideal.nD Cert.Reference2Ideal.τ).loc Cert.Reference2Ideal.main_v30) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)) (v3 : (c : Dev Cert.Kernel3Ideal.nD) → Buf (Elt Ideal) ((c.tc : Thread Cert.Kernel3Ideal.nD Cert.Kernel3Ideal.τ).loc Cert.Kernel3Ideal.main_v10_3)) (v4 : (c : Dev Cert.Kernel3Ideal.nD) → Buf (Elt Ideal) ((c.tc : Thread Cert.Kernel3Ideal.nD Cert.Kernel3Ideal.τ).loc Cert.Kernel3Ideal.main_v10_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_v10_3) = v3 c
          ∧ r.2.mem ((c.tc : Thread Cert.Kernel3Ideal.nD Cert.Kernel3Ideal.τ).loc Cert.Kernel3Ideal.main_v10_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v30) = v2 c
          ∧ r.2.mem ((c.tc : Thread Cert.Reference3Ideal.nD Cert.Reference3Ideal.τ).loc Cert.Reference3Ideal.main_v80) = v3 c
          ∧ r.2.mem ((c.tc : Thread Cert.Reference3Ideal.nD Cert.Reference3Ideal.τ).loc Cert.Reference3Ideal.main_v82) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "gelu_a" .f32 0x3D372713#32 ((8943 / 200000 : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v158) = v0 c
          ∧ r.2.mem ((c.tc : Thread Cert.Reference4Ideal.nD Cert.Reference4Ideal.τ).loc Cert.Reference4Ideal.main_v160) = v1 c
          ∧ r.2.mem ((c.tc : Thread Cert.Reference4Ideal.nD Cert.Reference4Ideal.τ).loc Cert.Reference4Ideal.main_v101) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_5) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite4 : Cert.Pre_finite4.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1536 : S_.BroadcastsInDim S1024x1536 (![] : Fin 0 → Fin S1024x1536.rank)
  bcast_S_S4x128x128 : S_.BroadcastsInDim S4x128x128 (![] : Fin 0 → Fin S4x128x128.rank)
  bcast_S_S1x512 : S_.BroadcastsInDim S1x512 (![] : Fin 0 → Fin S1x512.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024x1024 : S_.BroadcastsInDim S1024x1024 (![] : Fin 0 → Fin S1024x1024.rank)

variable [Facts]

def fn_part2 {F : FTy → Type} [FloatOps F] (main_arg12 : FVec F S8x128 .f32) (main_arg13 : FVec F S1024x1024 .f32) (main_v2 : IVec S8192x1024 1) (main_v5 : IVec S8192x1024 1) (main_v8 : IVec S1x1024 1) (main_v11 : IVec S1x1024 1) (main_v14 : IVec S1x1024 1) (main_v17 : IVec S1x1024 1) (main_v20 : IVec S1024x1536 1) (main_v23 : IVec S4x128x128 1) (main_v26 : IVec S1x512 1) (main_v29 : IVec S1x512 1) (main_v32 : IVec S1x512 1) (main_v35 : IVec S8x128x128 1) : IVec S8192x1024 1 × IVec S8192x1024 1 × IVec S1x1024 1 × IVec S1x1024 1 × IVec S1x1024 1 × IVec S1x1024 1 × IVec S1024x1536 1 × IVec S4x128x128 1 × IVec S1x512 1 × IVec S1x512 1 × IVec S1x512 1 × IVec S8x128x128 1 × IVec S8x128 1 × IVec S1024x1024 1 :=
  let main_v36 : FVec F S8x128 .f32 := Host.absf main_arg12
  let main_cst_11 : FVec F S_ .f32 := constant S_ .f32 0x7F800000#32
  let main_v37 : FVec F S8x128 .f32 := broadcastInDim S8x128 ![] bcast_S_S8x128 main_cst_11
  let main_v38 : IVec S8x128 1 := cmpf .olt main_v36 main_v37
  let main_v39 : FVec F S1024x1024 .f32 := Host.absf main_arg13
  let main_cst_12 : FVec F S_ .f32 := constant S_ .f32 0x7F800000#32
  let main_v40 : FVec F S1024x1024 .f32 := broadcastInDim S1024x1024 ![] bcast_S_S1024x1024 main_cst_12
  let main_v41 : IVec S1024x1024 1 := cmpf .olt main_v39 main_v40
  (main_v2, main_v5, main_v8, main_v11, main_v14, main_v17, main_v20, main_v23, main_v26, main_v29, main_v32, main_v35, main_v38, main_v41)

def fn_part1 {F : FTy → Type} [FloatOps F] (main_arg6 : FVec F S1024x1536 .f32) (main_arg7 : FVec F S4x128x128 .f32) (main_arg8 : FVec F S1x512 .f32) (main_arg9 : FVec F S1x512 .f32) (main_arg10 : FVec F S1x512 .f32) (main_arg11 : FVec F S8x128x128 .f32) (main_arg12 : FVec F S8x128 .f32) (main_arg13 : FVec F S1024x1024 .f32) (main_v2 : IVec S8192x1024 1) (main_v5 : IVec S8192x1024 1) (main_v8 : IVec S1x1024 1) (main_v11 : IVec S1x1024 1) (main_v14 : IVec S1x1024 1) (main_v17 : IVec S1x1024 1) : IVec S8192x1024 1 × IVec S8192x1024 1 × IVec S1x1024 1 × IVec S1x1024 1 × IVec S1x1024 1 × IVec S1x1024 1 × IVec S1024x1536 1 × IVec S4x128x128 1 × IVec S1x512 1 × IVec S1x512 1 × IVec S1x512 1 × IVec S8x128x128 1 × IVec S8x128 1 × IVec S1024x1024 1 :=
  let main_v18 : FVec F S1024x1536 .f32 := Host.absf main_arg6
  let main_cst_5 : FVec F S_ .f32 := constant S_ .f32 0x7F800000#32
  let main_v19 : FVec F S1024x1536 .f32 := broadcastInDim S1024x1536 ![] bcast_S_S1024x1536 main_cst_5
  let main_v20 : IVec S1024x1536 1 := cmpf .olt main_v18 main_v19
  let main_v21 : FVec F S4x128x128 .f32 := Host.absf main_arg7
  let main_cst_6 : FVec F S_ .f32 := constant S_ .f32 0x7F800000#32
  let main_v22 : FVec F S4x128x128 .f32 := broadcastInDim S4x128x128 ![] bcast_S_S4x128x128 main_cst_6
  let main_v23 : IVec S4x128x128 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x512 .f32 := Host.absf main_arg9
  let main_cst_8 : FVec F S_ .f32 := constant S_ .f32 0x7F800000#32
  let main_v28 : FVec F S1x512 .f32 := broadcastInDim S1x512 ![] bcast_S_S1x512 main_cst_8
  let main_v29 : IVec S1x512 1 := cmpf .olt main_v27 main_v28
  let main_v30 : FVec F S1x512 .f32 := Host.absf main_arg10
  let main_cst_9 : FVec F S_ .f32 := constant S_ .f32 0x7F800000#32
  let main_v31 : FVec F S1x512 .f32 := broadcastInDim S1x512 ![] bcast_S_S1x512 main_cst_9
  let main_v32 : IVec S1x512 1 := cmpf .olt main_v30 main_v31
  let main_v33 : FVec F S8x128x128 .f32 := Host.absf main_arg11
  let main_cst_10 : FVec F S_ .f32 := constant S_ .f32 0x7F800000#32
  let main_v34 : FVec F S8x128x128 .f32 := broadcastInDim S8x128x128 ![] bcast_S_S8x128x128 main_cst_10
  let main_v35 : IVec S8x128x128 1 := cmpf .olt main_v33 main_v34
  fn_part2 (F := F) main_arg12 main_arg13 main_v2 main_v5 main_v8 main_v11 main_v14 main_v17 main_v20 main_v23 main_v26 main_v29 main_v32 main_v35

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1x1024 .f32) (main_arg5 : FVec F S1x1024 .f32) (main_arg6 : FVec F S1024x1536 .f32) (main_arg7 : FVec F S4x128x128 .f32) (main_arg8 : FVec F S1x512 .f32) (main_arg9 : FVec F S1x512 .f32) (main_arg10 : FVec F S1x512 .f32) (main_arg11 : FVec F S8x128x128 .f32) (main_arg12 : FVec F S8x128 .f32) (main_arg13 : FVec F S1024x1024 .f32) : IVec S8192x1024 1 × IVec S8192x1024 1 × IVec S1x1024 1 × IVec S1x1024 1 × IVec S1x1024 1 × IVec S1x1024 1 × IVec S1024x1536 1 × IVec S4x128x128 1 × IVec S1x512 1 × IVec S1x512 1 × IVec S1x512 1 × IVec S8x128x128 1 × IVec S8x128 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_arg8 main_arg9 main_arg10 main_arg11 main_arg12 main_arg13 main_v2 main_v5 main_v8 main_v11 main_v14 main_v17
-- ==== Pre_finite4.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1536 : S_.BroadcastsInDim S1024x1536 (![] : Fin 0 → Fin S1024x1536.rank)
  bcast_S_S4x128x128 : S_.BroadcastsInDim S4x128x128 (![] : Fin 0 → Fin S4x128x128.rank)
  bcast_S_S1x512 : S_.BroadcastsInDim S1x512 (![] : Fin 0 → Fin S1x512.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024x1024 : S_.BroadcastsInDim S1024x1024 (![] : Fin 0 → Fin S1024x1024.rank)

variable [Facts]

def fn_part2 {F : FTy → Type} [FloatOps F] (main_arg12 : FVec F S1024x1024 .f32) (main_v2 : IVec S8192x1024 1) (main_v5 : IVec S1x1024 1) (main_v8 : IVec S1x1024 1) (main_v11 : IVec S1x1024 1) (main_v14 : IVec S1x1024 1) (main_v17 : IVec S1024x1536 1) (main_v20 : IVec S4x128x128 1) (main_v23 : IVec S1x512 1) (main_v26 : IVec S1x512 1) (main_v29 : IVec S1x512 1) (main_v32 : IVec S8x128x128 1) (main_v35 : IVec S8x128 1) : IVec S8192x1024 1 × IVec S1x1024 1 × IVec S1x1024 1 × IVec S1x1024 1 × IVec S1x1024 1 × IVec S1024x1536 1 × IVec S4x128x128 1 × IVec S1x512 1 × IVec S1x512 1 × IVec S1x512 1 × IVec S8x128x128 1 × IVec S8x128 1 × IVec S1024x1024 1 :=
  let main_v36 : FVec F S1024x1024 .f32 := Host.absf main_arg12
  let main_cst_11 : FVec F S_ .f32 := constant S_ .f32 0x7F800000#32
  let main_v37 : FVec F S1024x1024 .f32 := broadcastInDim S1024x1024 ![] bcast_S_S1024x1024 main_cst_11
  let main_v38 : IVec S1024x1024 1 := cmpf .olt main_v36 main_v37
  (main_v2, main_v5, main_v8, main_v11, main_v14, main_v17, main_v20, main_v23, main_v26, main_v29, main_v32, main_v35, main_v38)

def fn_part1 {F : FTy → Type} [FloatOps F] (main_arg6 : FVec F S4x128x128 .f32) (main_arg7 : FVec F S1x512 .f32) (main_arg8 : FVec F S1x512 .f32) (main_arg9 : FVec F S1x512 .f32) (main_arg10 : FVec F S8x128x128 .f32) (main_arg11 : FVec F S8x128 .f32) (main_arg12 : FVec F S1024x1024 .f32) (main_v2 : IVec S8192x1024 1) (main_v5 : IVec S1x1024 1) (main_v8 : IVec S1x1024 1) (main_v11 : IVec S1x1024 1) (main_v14 : IVec S1x1024 1) (main_v17 : IVec S1024x1536 1) : IVec S8192x1024 1 × IVec S1x1024 1 × IVec S1x1024 1 × IVec S1x1024 1 × IVec S1x1024 1 × IVec S1024x1536 1 × IVec S4x128x128 1 × IVec S1x512 1 × IVec S1x512 1 × IVec S1x512 1 × IVec S8x128x128 1 × IVec S8x128 1 × IVec S1024x1024 1 :=
  let main_v18 : FVec F S4x128x128 .f32 := Host.absf main_arg6
  let main_cst_5 : FVec F S_ .f32 := constant S_ .f32 0x7F800000#32
  let main_v19 : FVec F S4x128x128 .f32 := broadcastInDim S4x128x128 ![] bcast_S_S4x128x128 main_cst_5
  let main_v20 : IVec S4x128x128 1 := cmpf .olt main_v18 main_v19
  let main_v21 : FVec F S1x512 .f32 := Host.absf main_arg7
  let main_cst_6 : FVec F S_ .f32 := constant S_ .f32 0x7F800000#32
  let main_v22 : FVec F S1x512 .f32 := broadcastInDim S1x512 ![] bcast_S_S1x512 main_cst_6
  let main_v23 : IVec S1x512 1 := cmpf .olt main_v21 main_v22
  let main_v24 : FVec F S1x512 .f32 := Host.absf main_arg8
  let main_cst_7 : FVec F S_ .f32 := constant S_ .f32 0x7F800000#32
  let main_v25 : FVec F S1x512 .f32 := broadcastInDim S1x512 ![] bcast_S_S1x512 main_cst_7
  let main_v26 : IVec S1x512 1 := cmpf .olt main_v24 main_v25
  let main_v27 : FVec F S1x512 .f32 := Host.absf main_arg9
  let main_cst_8 : FVec F S_ .f32 := constant S_ .f32 0x7F800000#32
  let main_v28 : FVec F S1x512 .f32 := broadcastInDim S1x512 ![] bcast_S_S1x512 main_cst_8
  let main_v29 : IVec S1x512 1 := cmpf .olt main_v27 main_v28
  let main_v30 : FVec F S8x128x128 .f32 := Host.absf main_arg10
  let main_cst_9 : FVec F S_ .f32 := constant S_ .f32 0x7F800000#32
  let main_v31 : FVec F S8x128x128 .f32 := broadcastInDim S8x128x128 ![] bcast_S_S8x128x128 main_cst_9
  let main_v32 : IVec S8x128x128 1 := cmpf .olt main_v30 main_v31
  let main_v33 : FVec F S8x128 .f32 := Host.absf main_arg11
  let main_cst_10 : FVec F S_ .f32 := constant S_ .f32 0x7F800000#32
  let main_v34 : FVec F S8x128 .f32 := broadcastInDim S8x128 ![] bcast_S_S8x128 main_cst_10
  let main_v35 : IVec S8x128 1 := cmpf .olt main_v33 main_v34
  fn_part2 (F := F) main_arg12 main_v2 main_v5 main_v8 main_v11 main_v14 main_v17 main_v20 main_v23 main_v26 main_v29 main_v32 main_v35

def fn {F : FTy → Type} [FloatOps F] (main_arg0 : FVec F S8192x1024 .f32) (main_arg1 : FVec F S1x1024 .f32) (main_arg2 : FVec F S1x1024 .f32) (main_arg3 : FVec F S1x1024 .f32) (main_arg4 : FVec F S1x1024 .f32) (main_arg5 : FVec F S1024x1536 .f32) (main_arg6 : FVec F S4x128x128 .f32) (main_arg7 : FVec F S1x512 .f32) (main_arg8 : FVec F S1x512 .f32) (main_arg9 : FVec F S1x512 .f32) (main_arg10 : FVec F S8x128x128 .f32) (main_arg11 : FVec F S8x128 .f32) (main_arg12 : FVec F S1024x1024 .f32) : IVec S8192x1024 1 × IVec S1x1024 1 × IVec S1x1024 1 × IVec S1x1024 1 × IVec S1x1024 1 × IVec S1024x1536 1 × IVec S4x128x128 1 × IVec S1x512 1 × IVec S1x512 1 × IVec S1x512 1 × IVec S8x128x128 1 × IVec S8x128 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1024x1536 .f32 := Host.absf main_arg5
  let main_cst_4 : FVec F S_ .f32 := constant S_ .f32 0x7F800000#32
  let main_v16 : FVec F S1024x1536 .f32 := broadcastInDim S1024x1536 ![] bcast_S_S1024x1536 main_cst_4
  let main_v17 : IVec S1024x1536 1 := cmpf .olt main_v15 main_v16
  fn_part1 (F := F) main_arg6 main_arg7 main_arg8 main_arg9 main_arg10 main_arg11 main_arg12 main_v2 main_v5 main_v8 main_v11 main_v14 main_v17
-- ==== Pre_finite5.lean ====
abbrev S8192x1024 : Shape := ⟨2, ![8192, 1024]⟩
abbrev S8x1024 : Shape := ⟨2, ![8, 1024]⟩
abbrev S2x1024x2816 : Shape := ⟨3, ![2, 1024, 2816]⟩
abbrev S2x1408x1024 : Shape := ⟨3, ![2, 1408, 1024]⟩
abbrev S8192x2816 : Shape := ⟨2, ![8192, 2816]⟩
abbrev S1x1024 : Shape := ⟨2, ![1, 1024]⟩
abbrev S1x1024x2816 : Shape := ⟨3, ![1, 1024, 2816]⟩
abbrev S1x1408x1024 : Shape := ⟨3, ![1, 1408, 1024]⟩
abbrev S8192x1408 : Shape := ⟨2, ![8192, 1408]⟩
abbrev S_ : Shape := ⟨0, ![]⟩

class Facts : Prop where
  slices_S8x1024_S1x1024_2_0 : S8x1024.Slices ![2, 0] S1x1024
  slices_S2x1024x2816_S1x1024x2816_0_0_0 : S2x1024x2816.Slices ![0, 0, 0] S1x1024x2816
  slices_S2x1408x1024_S1x1408x1024_0_0_0 : S2x1408x1024.Slices ![0, 0, 0] S1x1408x1024
  slices_S8192x2816_S8192x1408_0_0 : S8192x2816.Slices ![0, 0] S8192x1408
  bitsLt_bf16_f32 : FTy.bits .bf16 < FTy.bits .f32
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x1408x1024 : S_.BroadcastsInDim S1x1408x1024 (![] : Fin 0 → Fin S1x1408x1024.rank)
  bcast_S_S8192x1408 : S_.BroadcastsInDim S8192x1408 (![] : Fin 0 → Fin S8192x1408.rank)

variable [Facts]

def fn_part1 {F : FTy → Type} [FloatOps F] (main_v7 : FVec F S8192x1408 .f32) (main_v8 : FVec F S8192x1408 .f32) (main_v11 : IVec S8192x1024 1) (main_v14 : IVec S1x1024 1) (main_v17 : IVec S1x1024x2816 1) (main_v18 : FVec F S1x1408x1024 .f32) (main_v19 : FVec F S1x1408x1024 .f32) : IVec S8192x1024 1 × IVec S1x1024 1 × IVec S1x1024x2816 1 × IVec S1x1408x1024 1 × IVec S8192x1408 1 × IVec S8192x1408 1 :=
  let main_v20 : IVec S1x1408x1024 1 := cmpf .olt main_v18 main_v19
  let main_v21 : FVec F S8192x1408 .f32 := Host.absf main_v7
  let main_cst_3 : FVec F S_ .f32 := constant S_ .f32 0x7F800000#32
  let main_v22 : FVec F S8192x1408 .f32 := broadcastInDim S8192x1408 ![] bcast_S_S8192x1408 main_cst_3
  let main_v23 : IVec S8192x1408 1 := cmpf .olt main_v21 main_v22
  let main_v24 : FVec F S8192x1408 .f32 := Host.absf main_v8
  let main_cst_4 : FVec F S_ .f32 := constant S_ .f32 0x7F800000#32
  let main_v25 : FVec F S8192x1408 .f32 := broadcastInDim S8192x1408 ![] bcast_S_S8192x1408 main_cst_4
  let main_v26 : IVec S8192x1408 1 := cmpf .olt main_v24 main_v25
  (main_v11, main_v14, main_v17, main_v20, main_v23, main_v26)

def fn {F : FTy → Type} [FloatOps F] (main_arg0 : FVec F S8192x1024 .f32) (main_arg1 : FVec F S8192x1024 .f32) (main_arg2 : FVec F S8x1024 .f32) (main_arg3 : FVec F S2x1024x2816 .bf16) (main_arg4 : FVec F S2x1408x1024 .bf16) (main_arg5 : FVec F S8192x2816 .bf16) (main_arg6 : FVec F S8192x2816 .bf16) : IVec S8192x1024 1 × IVec S1x1024 1 × IVec S1x1024x2816 1 × IVec S1x1408x1024 1 × IVec S8192x1408 1 × IVec S8192x1408 1 :=
  let main_v0 : FVec F S1x1024 .f32 := (extractStridedSlice S1x1024 ![2, 0] · slices_S8x1024_S1x1024_2_0) main_arg2
  let main_v1 : FVec F S1x1024x2816 .bf16 := (extractStridedSlice S1x1024x2816 ![0, 0, 0] · slices_S2x1024x2816_S1x1024x2816_0_0_0) main_arg3
  let main_v2 : FVec F S1x1408x1024 .bf16 := (extractStridedSlice S1x1408x1024 ![0, 0, 0] · slices_S2x1408x1024_S1x1408x1024_0_0_0) main_arg4
  let main_v3 : FVec F S8192x1408 .bf16 := (extractStridedSlice S8192x1408 ![0, 0] · slices_S8192x2816_S8192x1408_0_0) main_arg5
  let main_v4 : FVec F S8192x1408 .bf16 := (extractStridedSlice S8192x1408 ![0, 0] · slices_S8192x2816_S8192x1408_0_0) main_arg6
  let main_v5 : FVec F S1x1024x2816 .f32 := (extf .f32 · bitsLt_bf16_f32) main_v1
  let main_v6 : FVec F S1x1408x1024 .f32 := (extf .f32 · bitsLt_bf16_f32) main_v2
  let main_v7 : FVec F S8192x1408 .f32 := (extf .f32 · bitsLt_bf16_f32) main_v3
  let main_v8 : FVec F S8192x1408 .f32 := (extf .f32 · bitsLt_bf16_f32) main_v4
  let main_v9 : FVec F S8192x1024 .f32 := Host.absf main_arg1
  let main_cst : FVec F S_ .f32 := constant S_ .f32 0x7F800000#32
  let main_v10 : FVec F S8192x1024 .f32 := broadcastInDim S8192x1024 ![] bcast_S_S8192x1024 main_cst
  let main_v11 : IVec S8192x1024 1 := cmpf .olt main_v9 main_v10
  let main_v12 : FVec F S1x1024 .f32 := Host.absf main_v0
  let main_cst_0 : FVec F S_ .f32 := constant S_ .f32 0x7F800000#32
  let main_v13 : FVec F S1x1024 .f32 := broadcastInDim S1x1024 ![] bcast_S_S1x1024 main_cst_0
  let main_v14 : IVec S1x1024 1 := cmpf .olt main_v12 main_v13
  let main_v15 : FVec F S1x1024x2816 .f32 := Host.absf main_v5
  let main_cst_1 : FVec F S_ .f32 := constant S_ .f32 0x7F800000#32
  let main_v16 : FVec F S1x1024x2816 .f32 := broadcastInDim S1x1024x2816 ![] bcast_S_S1x1024x2816 main_cst_1
  let main_v17 : IVec S1x1024x2816 1 := cmpf .olt main_v15 main_v16
  let main_v18 : FVec F S1x1408x1024 .f32 := Host.absf main_v6
  let main_cst_2 : FVec F S_ .f32 := constant S_ .f32 0x7F800000#32
  let main_v19 : FVec F S1x1408x1024 .f32 := broadcastInDim S1x1408x1024 ![] bcast_S_S1x1408x1024 main_cst_2
  fn_part1 (F := F) main_v7 main_v8 main_v11 main_v14 main_v17 main_v18 main_v19
-- ==== Kernel.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8184x128 : Shape := ⟨2, ![8184, 128]⟩
abbrev S16x128 : Shape := ⟨2, ![16, 128]⟩
abbrev S8176x128 : Shape := ⟨2, ![8176, 128]⟩
abbrev S128x128 : Shape := ⟨2, ![128, 128]⟩
abbrev S1x128x128 : Shape := ⟨3, ![1, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S4x1024 : Shape := ⟨2, ![4, 1024]⟩
abbrev S8x1024 : Shape := ⟨2, ![8, 1024]⟩
abbrev S5x512 : Shape := ⟨2, ![5, 512]⟩
abbrev S8x512 : Shape := ⟨2, ![8, 512]⟩
abbrev S512x1024 : Shape := ⟨2, ![512, 1024]⟩
abbrev S512x512 : Shape := ⟨2, ![512, 512]⟩
abbrev S528x512 : Shape := ⟨2, ![528, 512]⟩
abbrev S16x512 : Shape := ⟨2, ![16, 512]⟩
abbrev S512 : Shape := ⟨1, ![512]⟩
abbrev S512x1 : Shape := ⟨2, ![512, 1]⟩
abbrev S512x128 : Shape := ⟨2, ![512, 128]⟩
abbrev S256x512 : Shape := ⟨2, ![256, 512]⟩
abbrev S1x128x256 : Shape := ⟨3, ![1, 128, 256]⟩
abbrev S128x256 : Shape := ⟨2, ![128, 256]⟩
abbrev S512x1536 : Shape := ⟨2, ![512, 1536]⟩
abbrev S1024 : Shape := ⟨1, ![1024]⟩

abbrev nBuf : Space → Nat
  | .hbm => 169
  | .vmem => 27
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1024x1536, .f32⟩
  | 7 => ⟨S4x128x128, .f32⟩
  | 8 => ⟨S1x512, .f32⟩
  | 9 => ⟨S1x512, .f32⟩
  | 10 => ⟨S1x512, .f32⟩
  | 11 => ⟨S8x128x128, .f32⟩
  | 12 => ⟨S8x128, .f32⟩
  | 13 => ⟨S1024x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1024, .f32⟩
  | 26 => ⟨S8192x1024, .f32⟩
  | 27 => ⟨S8192x1024, .f32⟩
  | 28 => ⟨S8192x1024, .f32⟩
  | 29 => ⟨S_, .f32⟩
  | 30 => ⟨S1x1024, .f32⟩
  | 31 => ⟨S1x1024, .f32⟩
  | 32 => ⟨S8192x1024, .f32⟩
  | 33 => ⟨S8192x1024, .f32⟩
  | 34 => ⟨S8192x1024, .f32⟩
  | 35 => ⟨S8192x1024, .f32⟩
  | 36 => ⟨S8192x1536, .f32⟩
  | 37 => ⟨S8192x512, .f32⟩
  | 38 => ⟨S8192x4x128, .f32⟩
  | 39 => ⟨S_, .f32⟩
  | 40 => ⟨S_, .f32⟩
  | 41 => ⟨S8192x4x128, .f32⟩
  | 42 => ⟨S8192, .i32⟩
  | 43 => ⟨S8192x1x128, .f32⟩
  | 44 => ⟨S8192x128, .f32⟩
  | 45 => ⟨S_, .f32⟩
  | 46 => ⟨S2x128, .f32⟩
  | 47 => ⟨S8190x128, .f32⟩
  | 48 => ⟨S8192x128, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .f32⟩
  | 56 => ⟨S8192x1, .f32⟩
  | 57 => ⟨S8192x128, .f32⟩
  | 58 => ⟨S8192x128, .f32⟩
  | 59 => ⟨S8192x128, .f32⟩
  | 60 => ⟨S8192x1x128, .f32⟩
  | 61 => ⟨S8192x128, .f32⟩
  | 62 => ⟨S8192x128, .f32⟩
  | 63 => ⟨S8192x1x128, .f32⟩
  | 64 => ⟨S8192x128, .f32⟩
  | 65 => ⟨S_, .f32⟩
  | 66 => ⟨S4x128, .f32⟩
  | 67 => ⟨S8188x128, .f32⟩
  | 68 => ⟨S8192x128, .f32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S8192, .f32⟩
  | 76 => ⟨S8192x1, .f32⟩
  | 77 => ⟨S8192x128, .f32⟩
  | 78 => ⟨S8192x128, .f32⟩
  | 79 => ⟨S8192x128, .f32⟩
  | 80 => ⟨S8192x1x128, .f32⟩
  | 81 => ⟨S8192x128, .f32⟩
  | 82 => ⟨S8192x128, .f32⟩
  | 83 => ⟨S8192x1x128, .f32⟩
  | 84 => ⟨S8192x128, .f32⟩
  | 85 => ⟨S_, .f32⟩
  | 86 => ⟨S8x128, .f32⟩
  | 87 => ⟨S8184x128, .f32⟩
  | 88 => ⟨S8192x128, .f32⟩
  | 89 => ⟨S_, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192, .f32⟩
  | 96 => ⟨S8192x1, .f32⟩
  | 97 => ⟨S8192x128, .f32⟩
  | 98 => ⟨S8192x128, .f32⟩
  | 99 => ⟨S8192x128, .f32⟩
  | 100 => ⟨S8192x1x128, .f32⟩
  | 101 => ⟨S8192x128, .f32⟩
  | 102 => ⟨S8192x128, .f32⟩
  | 103 => ⟨S8192x1x128, .f32⟩
  | 104 => ⟨S8192x128, .f32⟩
  | 105 => ⟨S_, .f32⟩
  | 106 => ⟨S16x128, .f32⟩
  | 107 => ⟨S8176x128, .f32⟩
  | 108 => ⟨S8192x128, .f32⟩
  | 109 => ⟨S_, .i32⟩
  | 110 => ⟨S8192, .i32⟩
  | 111 => ⟨S8192, .i32⟩
  | 112 => ⟨S_, .i32⟩
  | 113 => ⟨S8192, .i32⟩
  | 114 => ⟨S8192, .i32⟩
  | 115 => ⟨S8192, .f32⟩
  | 116 => ⟨S8192x1, .f32⟩
  | 117 => ⟨S8192x128, .f32⟩
  | 118 => ⟨S8192x128, .f32⟩
  | 119 => ⟨S8192x128, .f32⟩
  | 120 => ⟨S8192x1x128, .f32⟩
  | 121 => ⟨S8192x128, .f32⟩
  | 122 => ⟨S8192x128, .f32⟩
  | 123 => ⟨S8192x1x128, .f32⟩
  | 124 => ⟨S8192x1x128, .f32⟩
  | 125 => ⟨S8192x1x128, .f32⟩
  | 126 => ⟨S8192x1x128, .f32⟩
  | 127 => ⟨S8192x4x128, .f32⟩
  | _ => ⟨S8192x1024, .f32⟩

abbrev hbmTy0_1 (i : Nat) : BufTy := match i % 128 with
  | 0 => ⟨S8192x512, .f32⟩
  | 1 => ⟨S8192x512, .bf16⟩
  | 2 => ⟨S8192x1024, .f32⟩
  | 3 => ⟨S128x128, .i32⟩
  | 4 => ⟨S128x128, .i32⟩
  | 5 => ⟨S128x128, .i1⟩
  | 6 => ⟨S1x128x128, .i1⟩
  | 7 => ⟨S_, .f32⟩
  | 8 => ⟨S_, .f32⟩
  | 9 => ⟨S8x128x128, .i1⟩
  | 10 => ⟨S8x128x128, .f32⟩
  | 11 => ⟨S8x128x128, .f32⟩
  | 12 => ⟨S4x128x128, .f32⟩
  | 13 => ⟨S4x128x128, .f32⟩
  | 14 => ⟨S4x128x256, .f32⟩
  | 15 => ⟨S4x128x256, .bf16⟩
  | 16 => ⟨S8x128x128, .f32⟩
  | 17 => ⟨S4x128x128, .f32⟩
  | 18 => ⟨S4x128x128, .f32⟩
  | 19 => ⟨S4x128x256, .f32⟩
  | 20 => ⟨S4x128x256, .bf16⟩
  | 21 => ⟨S128x8, .f32⟩
  | 22 => ⟨S128x8x64, .f32⟩
  | 23 => ⟨S128x512, .f32⟩
  | 24 => ⟨S_, .f32⟩
  | 25 => ⟨S4x1024, .f32⟩
  | 26 => ⟨S8x1024, .f32⟩
  | 27 => ⟨S_, .f32⟩
  | 28 => ⟨S5x512, .f32⟩
  | 29 => ⟨S8x512, .f32⟩
  | 30 => ⟨S1024x1536, .bf16⟩
  | 31 => ⟨S4x128x128, .bf16⟩
  | 32 => ⟨S1024x1024, .bf16⟩
  | 33 => ⟨S8192x1024, .f32⟩
  | 34 => ⟨S1024x1536, .f32⟩
  | 35 => ⟨S1024x1024, .f32⟩
  | 36 => ⟨S4x128x128, .f32⟩
  | 37 => ⟨S8x128x128, .f32⟩
  | 38 => ⟨S8x128, .f32⟩
  | 39 => ⟨S8x512, .f32⟩
  | 40 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S8x1024, .f32⟩
  | .local _ .vmem, ⟨9, _⟩ => ⟨S1024x1536, .bf16⟩
  | .local _ .vmem, ⟨10, _⟩ => ⟨S4x128x128, .bf16⟩
  | .local _ .vmem, ⟨11, _⟩ => ⟨S8x512, .f32⟩
  | .local _ .vmem, ⟨12, _⟩ => ⟨S4x128x256, .bf16⟩
  | .local _ .vmem, ⟨13, _⟩ => ⟨S4x128x256, .bf16⟩
  | .local _ .vmem, ⟨14, _⟩ => ⟨S128x512, .f32⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S1024x1536, .f32⟩
  | .local _ .vmem, ⟨19, _⟩ => ⟨S1024x1024, .f32⟩
  | .local _ .vmem, ⟨20, _⟩ => ⟨S4x128x128, .f32⟩
  | .local _ .vmem, ⟨21, _⟩ => ⟨S8x128x128, .f32⟩
  | .local _ .vmem, ⟨22, _⟩ => ⟨S8x128, .f32⟩
  | .local _ .vmem, ⟨23, _⟩ => ⟨S8x512, .f32⟩
  | .local _ .vmem, ⟨24, _⟩ => ⟨S8x1024, .f32⟩
  | .local _ .vmem, ⟨25, _⟩ => ⟨S528x512, .f32⟩
  | .local _ .vmem, ⟨26, _⟩ => ⟨S128x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call0_call0_cst : Ref sig .tc := ⟨.hbm, 39, rfl⟩
abbrev main_call0_call0_v0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c : Ref sig .tc := ⟨.hbm, 49, rfl⟩
abbrev main_v28 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_6 : Ref sig .tc := ⟨.hbm, 69, rfl⟩
abbrev main_v45 : Ref sig .tc := ⟨.hbm, 70, rfl⟩
abbrev main_v46 : Ref sig .tc := ⟨.hbm, 71, rfl⟩
abbrev main_c_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_c_9 : Ref sig .tc := ⟨.hbm, 89, rfl⟩
abbrev main_v62 : Ref sig .tc := ⟨.hbm, 90, rfl⟩
abbrev main_v63 : Ref sig .tc := ⟨.hbm, 91, rfl⟩
abbrev main_c_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_12 : Ref sig .tc := ⟨.hbm, 109, rfl⟩
abbrev main_v79 : Ref sig .tc := ⟨.hbm, 110, rfl⟩
abbrev main_v80 : Ref sig .tc := ⟨.hbm, 111, rfl⟩
abbrev main_c_13 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_cst_14 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_15 : Ref sig .tc := ⟨.hbm, 152, rfl⟩
abbrev main_v116 : Ref sig .tc := ⟨.hbm, 153, rfl⟩
abbrev main_v117 : Ref sig .tc := ⟨.hbm, 154, rfl⟩
abbrev main_cst_16 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123_0 : Ref sig .tc := ⟨.hbm, 161, rfl⟩
abbrev main_v123_1 : Ref sig .tc := ⟨.hbm, 162, rfl⟩
abbrev main_v123_2 : Ref sig .tc := ⟨.hbm, 163, rfl⟩
abbrev main_v123_3 : Ref sig .tc := ⟨.hbm, 164, rfl⟩
abbrev main_v123_4 : Ref sig .tc := ⟨.hbm, 165, rfl⟩
abbrev main_v123_5 : Ref sig .tc := ⟨.hbm, 166, rfl⟩
abbrev main_v123_6 : Ref sig .tc := ⟨.hbm, 167, rfl⟩
abbrev main_v123_7 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32_391 : BitVec 32 := 15#32
  let v812 : BitVec 1 := Scalar.cmpi .eq arg0 c15_i32_391
  let v813 : BitVec 32 := Scalar.extui v812
  let c0_i32_392 : BitVec 32 := 0#32
  let v814 : BitVec 1 := Scalar.cmpi .ne v813 c0_i32_392
  v814

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩
abbrev S1024 : Shape := ⟨1, ![1024]⟩
abbrev S512 : Shape := ⟨1, ![512]⟩
abbrev S4x8192x128 : Shape := ⟨3, ![4, 8192, 128]⟩
abbrev S1536x1024 : Shape := ⟨2, ![1536, 1024]⟩
abbrev S5x512 : Shape := ⟨2, ![5, 512]⟩
abbrev S8x512 : Shape := ⟨2, ![8, 512]⟩
abbrev S4x1024 : Shape := ⟨2, ![4, 1024]⟩
abbrev S8x1024 : Shape := ⟨2, ![8, 1024]⟩

abbrev nBuf : Space → Nat
  | .hbm => 471
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1x1024, .f32⟩
  | 5 => ⟨S1x1024, .f32⟩
  | 6 => ⟨S1024x1536, .f32⟩
  | 7 => ⟨S4x128x128, .f32⟩
  | 8 => ⟨S1x512, .f32⟩
  | 9 => ⟨S1x512, .f32⟩
  | 10 => ⟨S1x512, .f32⟩
  | 11 => ⟨S8x128x128, .f32⟩
  | 12 => ⟨S8x128, .f32⟩
  | 13 => ⟨S1024x1024, .f32⟩
  | 14 => ⟨S8192x1024, .f32⟩
  | 15 => ⟨S_, .f32⟩
  | 16 => ⟨S8192, .f32⟩
  | 17 => ⟨S8192x1, .f32⟩
  | 18 => ⟨S_, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S1x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S8192x1536, .f32⟩
  | 41 => ⟨S8192x512, .f32⟩
  | 42 => ⟨S8192x4x128, .f32⟩
  | 43 => ⟨S_, .f32⟩
  | 44 => ⟨S_, .f32⟩
  | 45 => ⟨S8192x4x128, .f32⟩
  | 46 => ⟨S8192, .i32⟩
  | 47 => ⟨S8192x1x128, .f32⟩
  | 48 => ⟨S8192x128, .f32⟩
  | 49 => ⟨S_, .f32⟩
  | 50 => ⟨S2x128, .f32⟩
  | 51 => ⟨S8190x128, .f32⟩
  | 52 => ⟨S8192x128, .f32⟩
  | 53 => ⟨S_, .f32⟩
  | 54 => ⟨S2x128, .f32⟩
  | 55 => ⟨S_, .i32⟩
  | 56 => ⟨S8192, .i32⟩
  | 57 => ⟨S8192, .i32⟩
  | 58 => ⟨S_, .i32⟩
  | 59 => ⟨S8192, .i32⟩
  | 60 => ⟨S8192, .i32⟩
  | 61 => ⟨S8192, .f32⟩
  | 62 => ⟨S8192x1, .f32⟩
  | 63 => ⟨S8192x128, .f32⟩
  | 64 => ⟨S8192x128, .f32⟩
  | 65 => ⟨S8192x128, .f32⟩
  | 66 => ⟨S8192x1x128, .f32⟩
  | 67 => ⟨S8192x128, .f32⟩
  | 68 => ⟨S8192x128, .f32⟩
  | 69 => ⟨S8192x1x128, .f32⟩
  | 70 => ⟨S8192x128, .f32⟩
  | 71 => ⟨S_, .f32⟩
  | 72 => ⟨S4x128, .f32⟩
  | 73 => ⟨S8188x128, .f32⟩
  | 74 => ⟨S8192x128, .f32⟩
  | 75 => ⟨S_, .f32⟩
  | 76 => ⟨S4x128, .f32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S8192, .f32⟩
  | 84 => ⟨S8192x1, .f32⟩
  | 85 => ⟨S8192x128, .f32⟩
  | 86 => ⟨S8192x128, .f32⟩
  | 87 => ⟨S8192x128, .f32⟩
  | 88 => ⟨S8192x1x128, .f32⟩
  | 89 => ⟨S8192x128, .f32⟩
  | 90 => ⟨S8192x128, .f32⟩
  | 91 => ⟨S8192x1x128, .f32⟩
  | 92 => ⟨S8192x128, .f32⟩
  | 93 => ⟨S_, .f32⟩
  | 94 => ⟨S8x128, .f32⟩
  | 95 => ⟨S8184x128, .f32⟩
  | 96 => ⟨S8192x128, .f32⟩
  | 97 => ⟨S_, .f32⟩
  | 98 => ⟨S8x128, .f32⟩
  | 99 => ⟨S_, .i32⟩
  | 100 => ⟨S8192, .i32⟩
  | 101 => ⟨S8192, .i32⟩
  | 102 => ⟨S_, .i32⟩
  | 103 => ⟨S8192, .i32⟩
  | 104 => ⟨S8192, .i32⟩
  | 105 => ⟨S8192, .f32⟩
  | 106 => ⟨S8192x1, .f32⟩
  | 107 => ⟨S8192x128, .f32⟩
  | 108 => ⟨S8192x128, .f32⟩
  | 109 => ⟨S8192x128, .f32⟩
  | 110 => ⟨S8192x1x128, .f32⟩
  | 111 => ⟨S8192x128, .f32⟩
  | 112 => ⟨S8192x128, .f32⟩
  | 113 => ⟨S8192x1x128, .f32⟩
  | 114 => ⟨S8192x128, .f32⟩
  | 115 => ⟨S_, .f32⟩
  | 116 => ⟨S16x128, .f32⟩
  | 117 => ⟨S8176x128, .f32⟩
  | 118 => ⟨S8192x128, .f32⟩
  | 119 => ⟨S_, .f32⟩
  | 120 => ⟨S16x128, .f32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S8192, .f32⟩
  | _ => ⟨S8192x1024, .f32⟩

abbrev hbmTy0_1 (i : Nat) : BufTy := match i % 128 with
  | 0 => ⟨S8192x1, .f32⟩
  | 1 => ⟨S8192x128, .f32⟩
  | 2 => ⟨S8192x128, .f32⟩
  | 3 => ⟨S8192x128, .f32⟩
  | 4 => ⟨S8192x1x128, .f32⟩
  | 5 => ⟨S8192x128, .f32⟩
  | 6 => ⟨S8192x128, .f32⟩
  | 7 => ⟨S8192x1x128, .f32⟩
  | 8 => ⟨S8192x1x128, .f32⟩
  | 9 => ⟨S8192x1x128, .f32⟩
  | 10 => ⟨S8192x1x128, .f32⟩
  | 11 => ⟨S8192x4x128, .f32⟩
  | 12 => ⟨S4x128x8192, .f32⟩
  | 13 => ⟨S8192x4x128, .f32⟩
  | 14 => ⟨S8192x512, .f32⟩
  | 15 => ⟨S8192x512, .f32⟩
  | 16 => ⟨S8192x512, .f32⟩
  | 17 => ⟨S8192x1024, .f32⟩
  | 18 => ⟨S8192x1024, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S8192x512, .f32⟩
  | 50 => ⟨S8192x512, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192, .f32⟩
  | 65 => ⟨S8192x1, .f32⟩
  | 66 => ⟨S_, .f32⟩
  | 67 => ⟨S8192x1, .f32⟩
  | 68 => ⟨S8192x1, .f32⟩
  | 69 => ⟨S8192x512, .f32⟩
  | 70 => ⟨S8192x512, .f32⟩
  | 71 => ⟨S_, .f32⟩
  | 72 => ⟨S8192x1, .f32⟩
  | 73 => ⟨S8192x1, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S64x128x8x64, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S1x128x128, .i1⟩
  | 98 => ⟨S_, .f32⟩
  | 99 => ⟨S8x128x128, .i1⟩
  | 100 => ⟨S8x128x128, .f32⟩
  | 101 => ⟨S8x128x128, .f32⟩
  | 102 => ⟨S_, .f32⟩
  | 103 => ⟨S8x128x128, .f32⟩
  | 104 => ⟨S8x64x64x128, .f32⟩
  | 105 => ⟨S64x128x8x64, .f32⟩
  | 106 => ⟨S128x8, .f32⟩
  | 107 => ⟨S1x128x8x1, .f32⟩
  | 108 => ⟨S64x128x8x64, .f32⟩
  | 109 => ⟨S64x128x8x64, .f32⟩
  | 110 => ⟨S8192x512, .f32⟩
  | 111 => ⟨S8192x512, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S_, .f32⟩
  | 122 => ⟨S1024, .f32⟩
  | 123 => ⟨S1x1024, .f32⟩
  | 124 => ⟨S1024x1024, .f32⟩
  | 125 => ⟨S1024x1024, .f32⟩
  | 126 => ⟨S8192x1024, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S8192x512, .f32⟩
  | 3 => ⟨S64x128x8x64, .f32⟩
  | 4 => ⟨S_, .f32⟩
  | 5 => ⟨S128x8, .f32⟩
  | 6 => ⟨S1x128x8x1, .f32⟩
  | 7 => ⟨S_, .f32⟩
  | 8 => ⟨S128x8, .f32⟩
  | 9 => ⟨S8x128, .f32⟩
  | 10 => ⟨S8x64x64x128, .f32⟩
  | 11 => ⟨S8x128x128, .f32⟩
  | 12 => ⟨S8x64x64x128, .f32⟩
  | 13 => ⟨S64x128x8x64, .f32⟩
  | 14 => ⟨S_, .f32⟩
  | 15 => ⟨S8x128x128, .f32⟩
  | 16 => ⟨S8x128x128, .f32⟩
  | 17 => ⟨S8192x512, .f32⟩
  | 18 => ⟨S_, .f32⟩
  | 19 => ⟨S512, .f32⟩
  | 20 => ⟨S1x512, .f32⟩
  | 21 => ⟨S8192x512, .f32⟩
  | 22 => ⟨S_, .f32⟩
  | 23 => ⟨S512, .f32⟩
  | 24 => ⟨S1x512, .f32⟩
  | 25 => ⟨S8192x512, .f32⟩
  | 26 => ⟨S8192x512, .f32⟩
  | 27 => ⟨S8192x512, .f32⟩
  | 28 => ⟨S_, .f32⟩
  | 29 => ⟨S8192, .f32⟩
  | 30 => ⟨S8192x1, .f32⟩
  | 31 => ⟨S8192x512, .f32⟩
  | 32 => ⟨S8192x512, .f32⟩
  | 33 => ⟨S8192x1, .f32⟩
  | 34 => ⟨S8192x512, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192, .f32⟩
  | 43 => ⟨S8192x512, .f32⟩
  | 44 => ⟨S8192x512, .f32⟩
  | 45 => ⟨S8192x512, .f32⟩
  | 46 => ⟨S_, .f32⟩
  | 47 => ⟨S8192, .f32⟩
  | 48 => ⟨S8192x1, .f32⟩
  | 49 => ⟨S8192x512, .f32⟩
  | 50 => ⟨S8192x1, .f32⟩
  | 51 => ⟨S_, .f32⟩
  | 52 => ⟨S8192x1, .f32⟩
  | 53 => ⟨S8192x1, .f32⟩
  | 54 => ⟨S_, .f32⟩
  | 55 => ⟨S8192, .f32⟩
  | 56 => ⟨S8192x512, .f32⟩
  | 57 => ⟨S8192x512, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x1024, .f32⟩
  | 76 => ⟨S8192x1024, .f32⟩
  | 77 => ⟨S_, .f32⟩
  | 78 => ⟨S8192x1536, .f32⟩
  | 79 => ⟨S8192x512, .f32⟩
  | 80 => ⟨S_, .f32⟩
  | 81 => ⟨S512, .f32⟩
  | 82 => ⟨S1x512, .f32⟩
  | 83 => ⟨S8192x512, .f32⟩
  | 84 => ⟨S8192x512, .f32⟩
  | 85 => ⟨S8192x4x128, .f32⟩
  | 86 => ⟨S4x128x8192, .f32⟩
  | 87 => ⟨S4x8192x128, .f32⟩
  | 88 => ⟨S8192x4x128, .f32⟩
  | 89 => ⟨S4x128x128, .f32⟩
  | 90 => ⟨S4x128x128, .f32⟩
  | 91 => ⟨S8192x1x128, .f32⟩
  | 92 => ⟨S8192x128, .f32⟩
  | 93 => ⟨S8192x1x128, .f32⟩
  | 94 => ⟨S8192x128, .f32⟩
  | 95 => ⟨S8192x1x128, .f32⟩
  | 96 => ⟨S8192x128, .f32⟩
  | 97 => ⟨S8192x1x128, .f32⟩
  | 98 => ⟨S8192x128, .f32⟩
  | 99 => ⟨S8192x128, .f32⟩
  | 100 => ⟨S8192x1x128, .f32⟩
  | 101 => ⟨S_, .f32⟩
  | 102 => ⟨S8192x4x128, .f32⟩
  | 103 => ⟨S8192x128, .f32⟩
  | 104 => ⟨S8192x128, .f32⟩
  | 105 => ⟨S8192x128, .f32⟩
  | 106 => ⟨S16x128, .f32⟩
  | 107 => ⟨S8176x128, .f32⟩
  | 108 => ⟨S_, .f32⟩
  | 109 => ⟨S8192x128, .f32⟩
  | 110 => ⟨S8192x128, .f32⟩
  | 111 => ⟨S8192x1x128, .f32⟩
  | 112 => ⟨S_, .f32⟩
  | 113 => ⟨S8192x4x128, .f32⟩
  | 114 => ⟨S8192x128, .f32⟩
  | 115 => ⟨S8192x1x128, .f32⟩
  | 116 => ⟨S_, .f32⟩
  | 117 => ⟨S8192x4x128, .f32⟩
  | 118 => ⟨S8192x4x128, .f32⟩
  | 119 => ⟨S8192x128, .f32⟩
  | 120 => ⟨S8192x128, .f32⟩
  | 121 => ⟨S8192x128, .f32⟩
  | 122 => ⟨S8x128, .f32⟩
  | 123 => ⟨S8184x128, .f32⟩
  | 124 => ⟨S_, .f32⟩
  | 125 => ⟨S8192x128, .f32⟩
  | 126 => ⟨S8192x128, .f32⟩
  | 127 => ⟨S8192x1x128, .f32⟩
  | _ => ⟨S8192x1024, .f32⟩

abbrev hbmTy0_3 (i : Nat) : BufTy := match i % 128 with
  | 0 => ⟨S_, .f32⟩
  | 1 => ⟨S8192x4x128, .f32⟩
  | 2 => ⟨S8192x4x128, .f32⟩
  | 3 => ⟨S8192x128, .f32⟩
  | 4 => ⟨S8192x1x128, .f32⟩
  | 5 => ⟨S_, .f32⟩
  | 6 => ⟨S8192x4x128, .f32⟩
  | 7 => ⟨S8192x4x128, .f32⟩
  | 8 => ⟨S8192x128, .f32⟩
  | 9 => ⟨S8192x128, .f32⟩
  | 10 => ⟨S8192x128, .f32⟩
  | 11 => ⟨S4x128, .f32⟩
  | 12 => ⟨S8188x128, .f32⟩
  | 13 => ⟨S_, .f32⟩
  | 14 => ⟨S8192x128, .f32⟩
  | 15 => ⟨S8192x128, .f32⟩
  | 16 => ⟨S8192x1x128, .f32⟩
  | 17 => ⟨S_, .f32⟩
  | 18 => ⟨S8192x4x128, .f32⟩
  | 19 => ⟨S8192x4x128, .f32⟩
  | 20 => ⟨S8192x128, .f32⟩
  | 21 => ⟨S8192x1x128, .f32⟩
  | 22 => ⟨S_, .f32⟩
  | 23 => ⟨S8192x4x128, .f32⟩
  | 24 => ⟨S8192x4x128, .f32⟩
  | 25 => ⟨S8192x128, .f32⟩
  | 26 => ⟨S8192x128, .f32⟩
  | 27 => ⟨S8192x128, .f32⟩
  | 28 => ⟨S2x128, .f32⟩
  | 29 => ⟨S8190x128, .f32⟩
  | 30 => ⟨S_, .f32⟩
  | 31 => ⟨S8192x128, .f32⟩
  | 32 => ⟨S8192x128, .f32⟩
  | 33 => ⟨S8192x1x128, .f32⟩
  | 34 => ⟨S_, .f32⟩
  | 35 => ⟨S8192x4x128, .f32⟩
  | 36 => ⟨S8192x4x128, .f32⟩
  | 37 => ⟨S_, .f32⟩
  | 38 => ⟨S_, .f32⟩
  | 39 => ⟨S8192x4x128, .f32⟩
  | 40 => ⟨S8192x4x128, .f32⟩
  | 41 => ⟨S8192x512, .f32⟩
  | 42 => ⟨S_, .f32⟩
  | 43 => ⟨S8192x1536, .f32⟩
  | 44 => ⟨S8192x1536, .f32⟩
  | 45 => ⟨S1536x1024, .f32⟩
  | 46 => ⟨S1024x1536, .f32⟩
  | 47 => ⟨S8192x1024, .f32⟩
  | 48 => ⟨S_, .f32⟩
  | 49 => ⟨S1024, .f32⟩
  | 50 => ⟨S1x1024, .f32⟩
  | 51 => ⟨S8192x1024, .f32⟩
  | 52 => ⟨S_, .f32⟩
  | 53 => ⟨S1024, .f32⟩
  | 54 => ⟨S1x1024, .f32⟩
  | 55 => ⟨S8192x1024, .f32⟩
  | 56 => ⟨S8192x1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S8192x1024, .f32⟩
  | 63 => ⟨S8192x1024, .f32⟩
  | 64 => ⟨S_, .f32⟩
  | 65 => ⟨S8192, .f32⟩
  | 66 => ⟨S8192x1, .f32⟩
  | 67 => ⟨S8192x1024, .f32⟩
  | 68 => ⟨S8192x1024, .f32⟩
  | 69 => ⟨S8192x1024, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S_, .f32⟩
  | 82 => ⟨S5x512, .f32⟩
  | 83 => ⟨S8x512, .f32⟩
  | 84 => ⟨S_, .f32⟩
  | 85 => ⟨S4x1024, .f32⟩
  | 86 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_call0_cst : Ref sig .tc := ⟨.hbm, 43, rfl⟩
abbrev main_call0_call0_v0 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_c_14 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_c_17 : Ref sig .tc := ⟨.hbm, 121, rfl⟩
abbrev main_v86 : Ref sig .tc := ⟨.hbm, 122, rfl⟩
abbrev main_v87 : Ref sig .tc := ⟨.hbm, 123, rfl⟩
abbrev main_c_18 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_cst_19 : Ref sig .tc := ⟨.hbm, 149, rfl⟩
abbrev main_v112 : Ref sig .tc := ⟨.hbm, 150, rfl⟩
abbrev main_v113 : Ref sig .tc := ⟨.hbm, 151, rfl⟩
abbrev main_cst_20 : Ref sig .tc := ⟨.hbm, 152, rfl⟩
abbrev main_v114 : Ref sig .tc := ⟨.hbm, 153, rfl⟩
abbrev main_v115 : Ref sig .tc := ⟨.hbm, 154, rfl⟩
abbrev main_cst_21 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_22 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_23 : Ref sig .tc := ⟨.hbm, 163, rfl⟩
abbrev main_v122 : Ref sig .tc := ⟨.hbm, 164, rfl⟩
abbrev main_v123 : Ref sig .tc := ⟨.hbm, 165, rfl⟩
abbrev main_cst_24 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_25 : Ref sig .tc := ⟨.hbm, 170, rfl⟩
abbrev main_v127 : Ref sig .tc := ⟨.hbm, 171, rfl⟩
abbrev main_v128 : Ref sig .tc := ⟨.hbm, 172, rfl⟩
abbrev main_cst_26 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_27 : Ref sig .tc := ⟨.hbm, 179, rfl⟩
abbrev main_v134 : Ref sig .tc := ⟨.hbm, 180, rfl⟩
abbrev main_v135 : Ref sig .tc := ⟨.hbm, 181, rfl⟩
abbrev main_cst_28 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_29 : Ref sig .tc := ⟨.hbm, 188, rfl⟩
abbrev main_v141 : Ref sig .tc := ⟨.hbm, 189, rfl⟩
abbrev main_v142 : Ref sig .tc := ⟨.hbm, 190, rfl⟩
abbrev main_cst_30 : Ref sig .tc := ⟨.hbm, 191, rfl⟩
abbrev main_v143 : Ref sig .tc := ⟨.hbm, 192, rfl⟩
abbrev main_v144 : Ref sig .tc := ⟨.hbm, 193, rfl⟩
abbrev main_cst_31 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_32 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_cst_33 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_c_34 : Ref sig .tc := ⟨.hbm, 214, rfl⟩
abbrev main_v162 : Ref sig .tc := ⟨.hbm, 215, rfl⟩
abbrev main_call1_v0 : Ref sig .tc := ⟨.hbm, 216, rfl⟩
abbrev main_call1_c : Ref sig .tc := ⟨.hbm, 217, rfl⟩
abbrev main_call1_v1 : Ref sig .tc := ⟨.hbm, 218, rfl⟩
abbrev main_call1_v2 : Ref sig .tc := ⟨.hbm, 219, rfl⟩
abbrev main_call1_v3 : Ref sig .tc := ⟨.hbm, 220, rfl⟩
abbrev main_call1_v4 : Ref sig .tc := ⟨.hbm, 221, rfl⟩
abbrev main_call1_c_0 : Ref sig .tc := ⟨.hbm, 222, rfl⟩
abbrev main_call1_v5 : Ref sig .tc := ⟨.hbm, 223, rfl⟩
abbrev main_v163 : Ref sig .tc := ⟨.hbm, 224, rfl⟩
abbrev main_v164 : Ref sig .tc := ⟨.hbm, 225, rfl⟩
abbrev main_cst_35 : Ref sig .tc := ⟨.hbm, 226, rfl⟩
abbrev main_v165_1 : Ref sig .tc := ⟨.hbm, 227, rfl⟩
abbrev main_call2_v1 : Ref sig .tc := ⟨.hbm, 228, rfl⟩
abbrev main_v165_0 : Ref sig .tc := ⟨.hbm, 229, rfl⟩
abbrev main_call2_cst : Ref sig .tc := ⟨.hbm, 230, rfl⟩
abbrev main_v165_2 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_36 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_37 : Ref sig .tc := ⟨.hbm, 260, rfl⟩
abbrev main_v193 : Ref sig .tc := ⟨.hbm, 261, rfl⟩
abbrev main_v194 : Ref sig .tc := ⟨.hbm, 262, rfl⟩
abbrev main_cst_38 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_v200 : Ref sig .tc := ⟨.hbm, 269, rfl⟩
abbrev main_call3_cst : Ref sig .tc := ⟨.hbm, 270, rfl⟩
abbrev main_call3_v0 : Ref sig .tc := ⟨.hbm, 271, rfl⟩
abbrev main_v201 : Ref sig .tc := ⟨.hbm, 272, rfl⟩
abbrev main_v202 : Ref sig .tc := ⟨.hbm, 273, rfl⟩
abbrev main_cst_39 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_cst_40 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_cst_41 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_cst_42 : Ref sig .tc := ⟨.hbm, 291, rfl⟩
abbrev main_v217 : Ref sig .tc := ⟨.hbm, 292, rfl⟩
abbrev main_v218 : Ref sig .tc := ⟨.hbm, 293, rfl⟩
abbrev main_cst_43 : Ref sig .tc := ⟨.hbm, 294, rfl⟩
abbrev main_v219 : Ref sig .tc := ⟨.hbm, 295, rfl⟩
abbrev main_v220 : Ref sig .tc := ⟨.hbm, 296, rfl⟩
abbrev main_cst_44 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_cst_45 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_cst_46 : Ref sig .tc := ⟨.hbm, 307, rfl⟩
abbrev main_v229 : Ref sig .tc := ⟨.hbm, 308, rfl⟩
abbrev main_v230 : Ref sig .tc := ⟨.hbm, 309, rfl⟩
abbrev main_cst_47 : Ref sig .tc := ⟨.hbm, 310, rfl⟩
abbrev main_v231 : Ref sig .tc := ⟨.hbm, 311, rfl⟩
abbrev main_v232 : Ref sig .tc := ⟨.hbm, 312, rfl⟩
abbrev main_v233 : Ref sig .tc := ⟨.hbm, 313, rfl⟩
abbrev main_v234 : Ref sig .tc := ⟨.hbm, 314, rfl⟩
abbrev main_v235 : Ref sig .tc := ⟨.hbm, 315, rfl⟩
abbrev main_v236 : Ref sig .tc := ⟨.hbm, 316, rfl⟩
abbrev main_cst_48 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_cst_49 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_cst_50 : Ref sig .tc := ⟨.hbm, 325, rfl⟩
abbrev main_v243 : Ref sig .tc := ⟨.hbm, 326, rfl⟩
abbrev main_v244 : Ref sig .tc := ⟨.hbm, 327, rfl⟩
abbrev main_cst_51 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_cst_52 : Ref sig .tc := ⟨.hbm, 333, rfl⟩
abbrev main_v249 : Ref sig .tc := ⟨.hbm, 334, rfl⟩
abbrev main_v250 : Ref sig .tc := ⟨.hbm, 335, rfl⟩
abbrev main_cst_53 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_v263 : Ref sig .tc := ⟨.hbm, 349, rfl⟩
abbrev main_v264 : Ref sig .tc := ⟨.hbm, 350, rfl⟩
abbrev main_v265 : Ref sig .tc := ⟨.hbm, 351, rfl⟩
abbrev main_v266 : Ref sig .tc := ⟨.hbm, 352, rfl⟩
abbrev main_v267 : Ref sig .tc := ⟨.hbm, 353, rfl⟩
abbrev main_v268 : Ref sig .tc := ⟨.hbm, 354, rfl⟩
abbrev main_v269 : Ref sig .tc := ⟨.hbm, 355, rfl⟩
abbrev main_v270 : Ref sig .tc := ⟨.hbm, 356, rfl⟩
abbrev main_cst_54 : Ref sig .tc := ⟨.hbm, 357, rfl⟩
abbrev main_v271 : Ref sig .tc := ⟨.hbm, 358, rfl⟩
abbrev main_v272 : Ref sig .tc := ⟨.hbm, 359, rfl⟩
abbrev main_v273 : Ref sig .tc := ⟨.hbm, 360, rfl⟩
abbrev main_v274 : Ref sig .tc := ⟨.hbm, 361, rfl⟩
abbrev main_v275 : Ref sig .tc := ⟨.hbm, 362, rfl⟩
abbrev main_v276 : Ref sig .tc := ⟨.hbm, 363, rfl⟩
abbrev main_cst_55 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_cst_56 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_cst_57 : Ref sig .tc := ⟨.hbm, 372, rfl⟩
abbrev main_v283 : Ref sig .tc := ⟨.hbm, 373, rfl⟩
abbrev main_v284 : Ref sig .tc := ⟨.hbm, 374, rfl⟩
abbrev main_v285 : Ref sig .tc := ⟨.hbm, 375, rfl⟩
abbrev main_v286 : Ref sig .tc := ⟨.hbm, 376, rfl⟩
abbrev main_v287 : Ref sig .tc := ⟨.hbm, 377, rfl⟩
abbrev main_v288 : Ref sig .tc := ⟨.hbm, 378, rfl⟩
abbrev main_v289 : Ref sig .tc := ⟨.hbm, 379, rfl⟩
abbrev main_cst_58 : Ref sig .tc := ⟨.hbm, 380, rfl⟩
abbrev main_v290 : Ref sig .tc := ⟨.hbm, 381, rfl⟩
abbrev main_v291 : Ref sig .tc := ⟨.hbm, 382, rfl⟩
abbrev main_v292 : Ref sig .tc := ⟨.hbm, 383, rfl⟩
abbrev main_cst_59 : Ref sig .tc := ⟨.hbm, 384, rfl⟩
abbrev main_v293 : Ref sig .tc := ⟨.hbm, 385, rfl⟩
abbrev main_v294 : Ref sig .tc := ⟨.hbm, 386, rfl⟩
abbrev main_v295 : Ref sig .tc := ⟨.hbm, 387, rfl⟩
abbrev main_v296 : Ref sig .tc := ⟨.hbm, 388, rfl⟩
abbrev main_cst_60 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_cst_61 : Ref sig .tc := ⟨.hbm, 397, rfl⟩
abbrev main_v304 : Ref sig .tc := ⟨.hbm, 398, rfl⟩
abbrev main_v305 : Ref sig .tc := ⟨.hbm, 399, rfl⟩
abbrev main_v306 : Ref sig .tc := ⟨.hbm, 400, rfl⟩
abbrev main_cst_62 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_cst_63 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_v316 : Ref sig .tc := ⟨.hbm, 412, rfl⟩
abbrev main_v317 : Ref sig .tc := ⟨.hbm, 413, rfl⟩
abbrev main_cst_64 : Ref sig .tc := ⟨.hbm, 414, rfl⟩
abbrev main_v318 : Ref sig .tc := ⟨.hbm, 415, rfl⟩
abbrev main_v319 : Ref sig .tc := ⟨.hbm, 416, rfl⟩
abbrev main_v320 : Ref sig .tc := ⟨.hbm, 417, rfl⟩
abbrev main_cst_65 : Ref sig .tc := ⟨.hbm, 418, rfl⟩
abbrev main_v321 : Ref sig .tc := ⟨.hbm, 419, rfl⟩
abbrev main_v322 : Ref sig .tc := ⟨.hbm, 420, rfl⟩
abbrev main_call4_call0_cst : Ref sig .tc := ⟨.hbm, 421, rfl⟩
abbrev main_call4_call0_v0 : Ref sig .tc := ⟨.hbm, 422, rfl⟩
abbrev main_v323 : Ref sig .tc := ⟨.hbm, 423, rfl⟩
abbrev main_v324 : Ref sig .tc := ⟨.hbm, 424, rfl⟩
abbrev main_v325 : Ref sig .tc := ⟨.hbm, 425, rfl⟩
abbrev main_cst_66 : Ref sig .tc := ⟨.hbm, 426, rfl⟩
abbrev main_v326 : Ref sig .tc := ⟨.hbm, 427, rfl⟩
abbrev main_v327 : Ref sig .tc := ⟨.hbm, 428, rfl⟩
abbrev main_v328 : Ref sig .tc := ⟨.hbm, 429, rfl⟩
abbrev main_v329 : Ref sig .tc := ⟨.hbm, 430, rfl⟩
abbrev main_v330 : Ref sig .tc := ⟨.hbm, 431, rfl⟩
abbrev main_cst_67 : Ref sig .tc := ⟨.hbm, 432, rfl⟩
abbrev main_v331 : Ref sig .tc := ⟨.hbm, 433, rfl⟩
abbrev main_v332 : Ref sig .tc := ⟨.hbm, 434, rfl⟩
abbrev main_v333 : Ref sig .tc := ⟨.hbm, 435, rfl⟩
abbrev main_cst_68 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_v338 : Ref sig .tc := ⟨.hbm, 441, rfl⟩
abbrev main_cst_69 : Ref sig .tc := ⟨.hbm, 442, rfl⟩
abbrev main_v339 : Ref sig .tc := ⟨.hbm, 443, rfl⟩
abbrev main_v340 : Ref sig .tc := ⟨.hbm, 444, rfl⟩
abbrev main_v341 : Ref sig .tc := ⟨.hbm, 445, rfl⟩
abbrev main_v342 : Ref sig .tc := ⟨.hbm, 446, rfl⟩
abbrev main_v343 : Ref sig .tc := ⟨.hbm, 447, rfl⟩
abbrev main_cst_70 : Ref sig .tc := ⟨.hbm, 448, rfl⟩
abbrev main_v344 : Ref sig .tc := ⟨.hbm, 449, rfl⟩
abbrev main_v345 : Ref sig .tc := ⟨.hbm, 450, rfl⟩
abbrev main_v346 : Ref sig .tc := ⟨.hbm, 451, rfl⟩
abbrev main_v347 : Ref sig .tc := ⟨.hbm, 452, rfl⟩
abbrev main_v348 : Ref sig .tc := ⟨.hbm, 453, rfl⟩
abbrev main_v349 : Ref sig .tc := ⟨.hbm, 454, rfl⟩
abbrev main_cst_71 : Ref sig .tc := ⟨.hbm, 455, rfl⟩
abbrev main_v350 : Ref sig .tc := ⟨.hbm, 456, rfl⟩
abbrev main_v351 : Ref sig .tc := ⟨.hbm, 457, rfl⟩
abbrev main_cst_72 : Ref sig .tc := ⟨.hbm, 458, rfl⟩
abbrev main_v352 : Ref sig .tc := ⟨.hbm, 459, rfl⟩
abbrev main_v353 : Ref sig .tc := ⟨.hbm, 460, rfl⟩
abbrev main_v354 : Ref sig .tc := ⟨.hbm, 461, rfl⟩
abbrev main_v355 : Ref sig .tc := ⟨.hbm, 462, rfl⟩
abbrev main_v356 : Ref sig .tc := ⟨.hbm, 463, rfl⟩
abbrev main_v357 : Ref sig .tc := ⟨.hbm, 464, rfl⟩
abbrev main_cst_73 : Ref sig .tc := ⟨.hbm, 465, rfl⟩
abbrev main_v358 : Ref sig .tc := ⟨.hbm, 466, rfl⟩
abbrev main_v359 : Ref sig .tc := ⟨.hbm, 467, rfl⟩
abbrev main_cst_74 : Ref sig .tc := ⟨.hbm, 468, rfl⟩
abbrev main_v360 : Ref sig .tc := ⟨.hbm, 469, rfl⟩
abbrev main_v361 : Ref sig .tc := ⟨.hbm, 470, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4x1024 : Shape := ⟨2, ![4, 1024]⟩
abbrev S8x1024 : Shape := ⟨2, ![8, 1024]⟩
abbrev S1024x2x2x1408 : Shape := ⟨4, ![1024, 2, 2, 1408]⟩
abbrev S2x1024x2x1408 : Shape := ⟨4, ![2, 1024, 2, 1408]⟩
abbrev S2x1024x2816 : Shape := ⟨3, ![2, 1024, 2816]⟩
abbrev S2x1408x1024 : Shape := ⟨3, ![2, 1408, 1024]⟩
abbrev S8192x2816 : Shape := ⟨2, ![8192, 2816]⟩
abbrev S512x1024 : Shape := ⟨2, ![512, 1024]⟩
abbrev S512x1408 : Shape := ⟨2, ![512, 1408]⟩
abbrev S2 : Shape := ⟨1, ![2]⟩
abbrev S1 : Shape := ⟨1, ![1]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S1x1408x1024 : Shape := ⟨3, ![1, 1408, 1024]⟩
abbrev S1408x1024 : Shape := ⟨2, ![1408, 1024]⟩

abbrev nBuf : Space → Nat
  | .hbm => 19
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S_, .f32⟩
  | .hbm, ⟨8, _⟩ => ⟨S4x1024, .f32⟩
  | .hbm, ⟨9, _⟩ => ⟨S8x1024, .f32⟩
  | .hbm, ⟨10, _⟩ => ⟨S1024x2x2x1408, .f32⟩
  | .hbm, ⟨11, _⟩ => ⟨S2x1024x2x1408, .f32⟩
  | .hbm, ⟨12, _⟩ => ⟨S2x1024x2816, .f32⟩
  | .hbm, ⟨13, _⟩ => ⟨S2x1024x2816, .bf16⟩
  | .hbm, ⟨14, _⟩ => ⟨S2x1408x1024, .f32⟩
  | .hbm, ⟨15, _⟩ => ⟨S2x1408x1024, .bf16⟩
  | .hbm, ⟨16, _⟩ => ⟨S8192x1024, .f32⟩
  | .hbm, ⟨17, _⟩ => ⟨S8192x2816, .bf16⟩
  | .hbm, ⟨18, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1024, .f32⟩
  | .local _ .vmem, ⟨10, _⟩ => ⟨S2x1024x2816, .bf16⟩
  | .local _ .vmem, ⟨11, _⟩ => ⟨S2x1408x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let arg1 : BitVec 32 := BitVec.ofNat 32 (i 1).val
  let v31 : Index := Scalar.indexCast arg1
  let c0_10 : Index := 0#32
  let c0_11 : Index := 0#32
  ![v31.toNat, 0, 0]
def k0_off2 (i : grid0.Coords) : Fin 3 → Nat :=
  let arg1 : BitVec 32 := BitVec.ofNat 32 (i 1).val
  let v51 : Index := Scalar.indexCast arg1
  let c0_21 : Index := 0#32
  let c0_22 : Index := 0#32
  ![v51.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x5632, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2816, .bf16⟩
  | .hbm, ⟨50, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S7x1024 : Shape := ⟨2, ![7, 1024]⟩
abbrev S8x1024 : Shape := ⟨2, ![8, 1024]⟩
abbrev S4x1024 : Shape := ⟨2, ![4, 1024]⟩
abbrev S1024x2x2x1408 : Shape := ⟨4, ![1024, 2, 2, 1408]⟩
abbrev S2x1024x2x1408 : Shape := ⟨4, ![2, 1024, 2, 1408]⟩
abbrev S2x1024x2816 : Shape := ⟨3, ![2, 1024, 2816]⟩
abbrev S2x1408x1024 : Shape := ⟨3, ![2, 1408, 1024]⟩
abbrev S8192x2816 : Shape := ⟨2, ![8192, 2816]⟩
abbrev S8x128 : Shape := ⟨2, ![8, 128]⟩
abbrev S512x1024 : Shape := ⟨2, ![512, 1024]⟩
abbrev S512x1408 : Shape := ⟨2, ![512, 1408]⟩
abbrev S2 : Shape := ⟨1, ![2]⟩
abbrev S1 : Shape := ⟨1, ![1]⟩
abbrev S512 : Shape := ⟨1, ![512]⟩
abbrev S512x1 : Shape := ⟨2, ![512, 1]⟩
abbrev S1x1024x2816 : Shape := ⟨3, ![1, 1024, 2816]⟩
abbrev S1024x2816 : Shape := ⟨2, ![1024, 2816]⟩
abbrev S512x2816 : Shape := ⟨2, ![512, 2816]⟩
abbrev S1x1408x1024 : Shape := ⟨3, ![1, 1408, 1024]⟩
abbrev S1408x1024 : Shape := ⟨2, ![1408, 1024]⟩
abbrev S1x512x1024 : Shape := ⟨3, ![1, 512, 1024]⟩
abbrev S1x1x1 : Shape := ⟨3, ![1, 1, 1]⟩
abbrev S1024 : Shape := ⟨1, ![1024]⟩

abbrev nBuf : Space → Nat
  | .hbm => 26
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S1x1024, .f32⟩
  | .hbm, ⟨9, _⟩ => ⟨S_, .f32⟩
  | .hbm, ⟨10, _⟩ => ⟨S7x1024, .f32⟩
  | .hbm, ⟨11, _⟩ => ⟨S8x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S1024x2x2x1408, .f32⟩
  | .hbm, ⟨16, _⟩ => ⟨S2x1024x2x1408, .f32⟩
  | .hbm, ⟨17, _⟩ => ⟨S2x1024x2816, .f32⟩
  | .hbm, ⟨18, _⟩ => ⟨S2x1024x2816, .bf16⟩
  | .hbm, ⟨19, _⟩ => ⟨S2x1408x1024, .f32⟩
  | .hbm, ⟨20, _⟩ => ⟨S2x1408x1024, .bf16⟩
  | .hbm, ⟨21, _⟩ => ⟨S8192x1024, .f32⟩
  | .hbm, ⟨22, _⟩ => ⟨S8192x2816, .bf16⟩
  | .hbm, ⟨23, _⟩ => ⟨S8192x2816, .bf16⟩
  | .hbm, ⟨24, _⟩ => ⟨S8x128, .f32⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S8x128, .f32⟩
  | .local _ .vmem, ⟨13, _⟩ => ⟨S8x1024, .f32⟩
  | .local _ .vmem, ⟨14, _⟩ => ⟨S512x1024, .f32⟩
  | .local _ .vmem, ⟨15, _⟩ => ⟨S2x1024x2816, .bf16⟩
  | .local _ .vmem, ⟨16, _⟩ => ⟨S2x1408x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![16, 2], ![false, false]⟩

def k0_off1 (i : grid0.Coords) : Fin 3 → Nat :=
  let arg1 : BitVec 32 := BitVec.ofNat 32 (i 1).val
  let v31 : Index := Scalar.indexCast arg1
  let c0_10 : Index := 0#32
  let c0_11 : Index := 0#32
  ![v31.toNat, 0, 0]
def k0_off2 (i : grid0.Coords) : Fin 3 → Nat :=
  let arg1 : BitVec 32 := BitVec.ofNat 32 (i 1).val
  let v51 : Index := Scalar.indexCast arg1
  let c0_21 : Index := 0#32
  let c0_22 : Index := 0#32
  ![v51.toNat, 0, 0]
def k0_cond2 (i : grid0.Coords) : BitVec 1 :=
  let arg1 : BitVec 32 := BitVec.ofNat 32 (i 1).val
  let c1_i32 : BitVec 32 := 1#32
  let v67 : BitVec 1 := Scalar.cmpi .eq arg1 c1_i32
  let v68 : BitVec 32 := Scalar.extui v67
  let c0_i32_30 : BitVec 32 := 0#32
  let v69 : BitVec 1 := Scalar.cmpi .ne v68 c0_i32_30
  v69

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S8192x1024 : Shape := ⟨2, ![8192, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S1024 : Shape := ⟨1, ![1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S1x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x5632, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x2816, .bf16⟩
  | .hbm, ⟨52, _⟩ => ⟨S8192x2816, .bf16⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S8192, .f32⟩
  | .hbm, ⟨93, _⟩ => ⟨S_, .f32⟩
  | .hbm, ⟨94, _⟩ => ⟨S8192, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S_, .f32⟩
  | .hbm, ⟨106, _⟩ => ⟨S8192, .f32⟩
  | .hbm, ⟨107, _⟩ => ⟨S8192x1, .f32⟩
  | .hbm, ⟨108, _⟩ => ⟨S8192x1024, .f32⟩
  | .hbm, ⟨109, _⟩ => ⟨S8192x1024, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x1024, .f32⟩
  | .hbm, ⟨117, _⟩ => ⟨S8192x1024, .f32⟩
  | .hbm, ⟨118, _⟩ => ⟨S8192x1024, .f32⟩
  | .hbm, ⟨119, _⟩ => ⟨S8x128, .f32⟩
  | .hbm, ⟨120, _⟩ => ⟨S_, .f32⟩
  | .hbm, ⟨121, _⟩ => ⟨S7x1024, .f32⟩
  | .hbm, ⟨122, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_cst_13 : Ref sig .tc := ⟨.hbm, 87, rfl⟩
abbrev main_v56 : Ref sig .tc := ⟨.hbm, 88, rfl⟩
abbrev main_cst_14 : Ref sig .tc := ⟨.hbm, 89, rfl⟩
abbrev main_cst_15 : Ref sig .tc := ⟨.hbm, 90, rfl⟩
abbrev main_v57 : Ref sig .tc := ⟨.hbm, 91, rfl⟩
abbrev main_v58 : Ref sig .tc := ⟨.hbm, 92, rfl⟩
abbrev main_cst_16 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_17 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_18 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_19 : Ref sig .tc := ⟨.hbm, 111, rfl⟩
abbrev main_v74 : Ref sig .tc := ⟨.hbm, 112, rfl⟩
abbrev main_v75 : Ref sig .tc := ⟨.hbm, 113, rfl⟩
abbrev main_cst_20 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_21 : Ref sig .tc := ⟨.hbm, 120, rfl⟩
abbrev main_v81 : Ref sig .tc := ⟨.hbm, 121, rfl⟩
abbrev main_v82 : Ref sig .tc := ⟨.hbm, 122, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S128x128 : Shape := ⟨2, ![128, 128]⟩
abbrev S1x128x128 : Shape := ⟨3, ![1, 128, 128]⟩
abbrev S_ : Shape := ⟨0, ![]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S4x1024 : Shape := ⟨2, ![4, 1024]⟩
abbrev S8x1024 : Shape := ⟨2, ![8, 1024]⟩
abbrev S5x512 : Shape := ⟨2, ![5, 512]⟩
abbrev S8x512 : Shape := ⟨2, ![8, 512]⟩
abbrev S8192x512 : Shape := ⟨2, ![8192, 512]⟩
abbrev S512x1024 : Shape := ⟨2, ![512, 1024]⟩
abbrev S512x512 : Shape := ⟨2, ![512, 512]⟩
abbrev S528x512 : Shape := ⟨2, ![528, 512]⟩
abbrev S16x512 : Shape := ⟨2, ![16, 512]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x128 : Shape := ⟨2, ![1, 128]⟩
abbrev S256x512 : Shape := ⟨2, ![256, 512]⟩
abbrev S1x128x256 : Shape := ⟨3, ![1, 128, 256]⟩
abbrev S128x256 : Shape := ⟨2, ![128, 256]⟩

abbrev nBuf : Space → Nat
  | .hbm => 41
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1024x1536, .f32⟩
  | .hbm, ⟨6, _⟩ => ⟨S4x128x128, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S8x128x128, .f32⟩
  | .hbm, ⟨11, _⟩ => ⟨S8x128, .f32⟩
  | .hbm, ⟨12, _⟩ => ⟨S1024x1024, .f32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S1x128x128, .i1⟩
  | .hbm, ⟨17, _⟩ => ⟨S_, .f32⟩
  | .hbm, ⟨18, _⟩ => ⟨S_, .f32⟩
  | .hbm, ⟨19, _⟩ => ⟨S8x128x128, .i1⟩
  | .hbm, ⟨20, _⟩ => ⟨S8x128x128, .f32⟩
  | .hbm, ⟨21, _⟩ => ⟨S8x128x128, .f32⟩
  | .hbm, ⟨22, _⟩ => ⟨S4x128x128, .f32⟩
  | .hbm, ⟨23, _⟩ => ⟨S4x128x128, .f32⟩
  | .hbm, ⟨24, _⟩ => ⟨S4x128x256, .f32⟩
  | .hbm, ⟨25, _⟩ => ⟨S4x128x256, .bf16⟩
  | .hbm, ⟨26, _⟩ => ⟨S128x8, .f32⟩
  | .hbm, ⟨27, _⟩ => ⟨S128x8x64, .f32⟩
  | .hbm, ⟨28, _⟩ => ⟨S128x512, .f32⟩
  | .hbm, ⟨29, _⟩ => ⟨S_, .f32⟩
  | .hbm, ⟨30, _⟩ => ⟨S4x1024, .f32⟩
  | .hbm, ⟨31, _⟩ => ⟨S8x1024, .f32⟩
  | .hbm, ⟨32, _⟩ => ⟨S_, .f32⟩
  | .hbm, ⟨33, _⟩ => ⟨S5x512, .f32⟩
  | .hbm, ⟨34, _⟩ => ⟨S8x512, .f32⟩
  | .hbm, ⟨35, _⟩ => ⟨S1024x1536, .bf16⟩
  | .hbm, ⟨36, _⟩ => ⟨S4x128x128, .bf16⟩
  | .hbm, ⟨37, _⟩ => ⟨S1024x1024, .bf16⟩
  | .hbm, ⟨38, _⟩ => ⟨S8192x1024, .f32⟩
  | .hbm, ⟨39, _⟩ => ⟨S8192x512, .bf16⟩
  | .hbm, ⟨40, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x1536, .bf16⟩
  | .local _ .vmem, ⟨4, _⟩ => ⟨S4x128x128, .bf16⟩
  | .local _ .vmem, ⟨5, _⟩ => ⟨S8x512, .f32⟩
  | .local _ .vmem, ⟨6, _⟩ => ⟨S4x128x256, .bf16⟩
  | .local _ .vmem, ⟨7, _⟩ => ⟨S128x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x512, .bf16⟩
  | .local _ .vmem, ⟨12, _⟩ => ⟨S512x512, .bf16⟩
  | .local _ .vmem, ⟨13, _⟩ => ⟨S512x1024, .f32⟩
  | .local _ .vmem, ⟨14, _⟩ => ⟨S512x1024, .f32⟩
  | .local _ .vmem, ⟨15, _⟩ => ⟨S528x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel4Ideal.lean ====
variable {F : FTy → Type} [FloatOps F] [Named F]
def κ : String → Option EReal := fun
  | "gelu_a" => some ((8943 / 200000 : ℝ) : EReal)
  | _ => none
-- ==== Reference4Ideal.lean ====
abbrev S8192x1024 : Shape := ⟨2, ![8192, 1024]⟩
abbrev S1x1024 : Shape := ⟨2, ![1, 1024]⟩
abbrev S1024x1536 : Shape := ⟨2, ![1024, 1536]⟩
abbrev S4x128x128 : Shape := ⟨3, ![4, 128, 128]⟩
abbrev S1x512 : Shape := ⟨2, ![1, 512]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩
abbrev S8192x512 : Shape := ⟨2, ![8192, 512]⟩
abbrev S8192x4x128 : Shape := ⟨3, ![8192, 4, 128]⟩
abbrev S8192x1x128 : Shape := ⟨3, ![8192, 1, 128]⟩
abbrev S8192x128 : Shape := ⟨2, ![8192, 128]⟩
abbrev S2x128 : Shape := ⟨2, ![2, 128]⟩
abbrev S8190x128 : Shape := ⟨2, ![8190, 128]⟩
abbrev S4x128 : Shape := ⟨2, ![4, 128]⟩
abbrev S8188x128 : Shape := ⟨2, ![8188, 128]⟩
abbrev S8184x128 : Shape := ⟨2, ![8184, 128]⟩
abbrev S16x128 : Shape := ⟨2, ![16, 128]⟩
abbrev S8176x128 : Shape := ⟨2, ![8176, 128]⟩
abbrev S4x128x8192 : Shape := ⟨3, ![4, 128, 8192]⟩
abbrev S64x128x8x64 : Shape := ⟨4, ![64, 128, 8, 64]⟩
abbrev S128x128 : Shape := ⟨2, ![128, 128]⟩
abbrev S1x128x128 : Shape := ⟨3, ![1, 128, 128]⟩
abbrev S8x64x64x128 : Shape := ⟨4, ![8, 64, 64, 128]⟩
abbrev S128x8 : Shape := ⟨2, ![128, 8]⟩
abbrev S1x128x8x1 : Shape := ⟨4, ![1, 128, 8, 1]⟩

abbrev nBuf : Space → Nat
  | .hbm => 214
  | .vmem => 0
  | .smem => 0
  | _ => 0

abbrev hbmTy0_0 (i : Nat) : BufTy := match i % 128 with
  | 0 => ⟨S8192x1024, .f32⟩
  | 1 => ⟨S1x1024, .f32⟩
  | 2 => ⟨S1x1024, .f32⟩
  | 3 => ⟨S1x1024, .f32⟩
  | 4 => ⟨S1x1024, .f32⟩
  | 5 => ⟨S1024x1536, .f32⟩
  | 6 => ⟨S4x128x128, .f32⟩
  | 7 => ⟨S1x512, .f32⟩
  | 8 => ⟨S1x512, .f32⟩
  | 9 => ⟨S1x512, .f32⟩
  | 10 => ⟨S8x128x128, .f32⟩
  | 11 => ⟨S8x128, .f32⟩
  | 12 => ⟨S1024x1024, .f32⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S1x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S8192x1536, .f32⟩
  | 36 => ⟨S8192x512, .f32⟩
  | 37 => ⟨S8192x4x128, .f32⟩
  | 38 => ⟨S_, .f32⟩
  | 39 => ⟨S_, .f32⟩
  | 40 => ⟨S8192x4x128, .f32⟩
  | 41 => ⟨S8192, .i32⟩
  | 42 => ⟨S8192x1x128, .f32⟩
  | 43 => ⟨S8192x128, .f32⟩
  | 44 => ⟨S_, .f32⟩
  | 45 => ⟨S2x128, .f32⟩
  | 46 => ⟨S8190x128, .f32⟩
  | 47 => ⟨S8192x128, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S8192x1, .f32⟩
  | 56 => ⟨S8192x128, .f32⟩
  | 57 => ⟨S8192x128, .f32⟩
  | 58 => ⟨S8192x128, .f32⟩
  | 59 => ⟨S8192x1x128, .f32⟩
  | 60 => ⟨S8192x128, .f32⟩
  | 61 => ⟨S8192x128, .f32⟩
  | 62 => ⟨S8192x1x128, .f32⟩
  | 63 => ⟨S8192x128, .f32⟩
  | 64 => ⟨S_, .f32⟩
  | 65 => ⟨S4x128, .f32⟩
  | 66 => ⟨S8188x128, .f32⟩
  | 67 => ⟨S8192x128, .f32⟩
  | 68 => ⟨S_, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192, .f32⟩
  | 75 => ⟨S8192x1, .f32⟩
  | 76 => ⟨S8192x128, .f32⟩
  | 77 => ⟨S8192x128, .f32⟩
  | 78 => ⟨S8192x128, .f32⟩
  | 79 => ⟨S8192x1x128, .f32⟩
  | 80 => ⟨S8192x128, .f32⟩
  | 81 => ⟨S8192x128, .f32⟩
  | 82 => ⟨S8192x1x128, .f32⟩
  | 83 => ⟨S8192x128, .f32⟩
  | 84 => ⟨S_, .f32⟩
  | 85 => ⟨S8x128, .f32⟩
  | 86 => ⟨S8184x128, .f32⟩
  | 87 => ⟨S8192x128, .f32⟩
  | 88 => ⟨S_, .i32⟩
  | 89 => ⟨S8192, .i32⟩
  | 90 => ⟨S8192, .i32⟩
  | 91 => ⟨S_, .i32⟩
  | 92 => ⟨S8192, .i32⟩
  | 93 => ⟨S8192, .i32⟩
  | 94 => ⟨S8192, .f32⟩
  | 95 => ⟨S8192x1, .f32⟩
  | 96 => ⟨S8192x128, .f32⟩
  | 97 => ⟨S8192x128, .f32⟩
  | 98 => ⟨S8192x128, .f32⟩
  | 99 => ⟨S8192x1x128, .f32⟩
  | 100 => ⟨S8192x128, .f32⟩
  | 101 => ⟨S8192x128, .f32⟩
  | 102 => ⟨S8192x1x128, .f32⟩
  | 103 => ⟨S8192x128, .f32⟩
  | 104 => ⟨S_, .f32⟩
  | 105 => ⟨S16x128, .f32⟩
  | 106 => ⟨S8176x128, .f32⟩
  | 107 => ⟨S8192x128, .f32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S8192, .f32⟩
  | 115 => ⟨S8192x1, .f32⟩
  | 116 => ⟨S8192x128, .f32⟩
  | 117 => ⟨S8192x128, .f32⟩
  | 118 => ⟨S8192x128, .f32⟩
  | 119 => ⟨S8192x1x128, .f32⟩
  | 120 => ⟨S8192x128, .f32⟩
  | 121 => ⟨S8192x128, .f32⟩
  | 122 => ⟨S8192x1x128, .f32⟩
  | 123 => ⟨S8192x1x128, .f32⟩
  | 124 => ⟨S8192x1x128, .f32⟩
  | 125 => ⟨S8192x1x128, .f32⟩
  | 126 => ⟨S8192x4x128, .f32⟩
  | 127 => ⟨S4x128x8192, .f32⟩
  | _ => ⟨S8192x1024, .f32⟩

abbrev hbmTy0_1 (i : Nat) : BufTy := match i % 128 with
  | 0 => ⟨S8192x4x128, .f32⟩
  | 1 => ⟨S8192x512, .f32⟩
  | 2 => ⟨S8192x512, .f32⟩
  | 3 => ⟨S8192x512, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x512, .f32⟩
  | 26 => ⟨S8192x512, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x512, .f32⟩
  | 34 => ⟨S8192x512, .f32⟩
  | 35 => ⟨S8192x512, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S8192x512, .f32⟩
  | 43 => ⟨S8192x512, .f32⟩
  | 44 => ⟨S_, .f32⟩
  | 45 => ⟨S8192x1, .f32⟩
  | 46 => ⟨S8192x1, .f32⟩
  | 47 => ⟨S8192x1, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S64x128x8x64, .f32⟩
  | 55 => ⟨S_, .i1⟩
  | 56 => ⟨S128x128, .i1⟩
  | 57 => ⟨S128x128, .i32⟩
  | 58 => ⟨S_, .i32⟩
  | 59 => ⟨S128x128, .i32⟩
  | 60 => ⟨S128x128, .i32⟩
  | 61 => ⟨S128x128, .i32⟩
  | 62 => ⟨S128x128, .i1⟩
  | 63 => ⟨S_, .i1⟩
  | 64 => ⟨S128x128, .i1⟩
  | 65 => ⟨S128x128, .i1⟩
  | 66 => ⟨S1x128x128, .i1⟩
  | 67 => ⟨S_, .f32⟩
  | 68 => ⟨S8x128x128, .i1⟩
  | 69 => ⟨S8x128x128, .f32⟩
  | 70 => ⟨S8x128x128, .f32⟩
  | 71 => ⟨S8x64x64x128, .f32⟩
  | 72 => ⟨S64x128x8x64, .f32⟩
  | 73 => ⟨S128x8, .f32⟩
  | 74 => ⟨S1x128x8x1, .f32⟩
  | 75 => ⟨S64x128x8x64, .f32⟩
  | 76 => ⟨S64x128x8x64, .f32⟩
  | 77 => ⟨S8192x512, .f32⟩
  | 78 => ⟨S8192x512, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x512, .f32⟩
  | 85 => ⟨S8192x512, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_call0_cst : Ref sig .tc := ⟨.hbm, 38, rfl⟩
abbrev main_call0_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_9 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_11 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_12 : Ref sig .tc := ⟨.hbm, 108, rfl⟩
abbrev main_v79 : Ref sig .tc := ⟨.hbm, 109, rfl⟩
abbrev main_v80 : Ref sig .tc := ⟨.hbm, 110, rfl⟩
abbrev main_c_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_14 : Ref sig .tc := ⟨.hbm, 135, rfl⟩
abbrev main_v104 : Ref sig .tc := ⟨.hbm, 136, rfl⟩
abbrev main_v105 : Ref sig .tc := ⟨.hbm, 137, rfl⟩
abbrev main_cst_15 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_16 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_17 : Ref sig .tc := ⟨.hbm, 146, rfl⟩
abbrev main_v112 : Ref sig .tc := ⟨.hbm, 147, rfl⟩
abbrev main_v113 : Ref sig .tc := ⟨.hbm, 148, rfl⟩
abbrev main_cst_18 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_19 : Ref sig .tc := ⟨.hbm, 155, rfl⟩
abbrev main_v119 : Ref sig .tc := ⟨.hbm, 156, rfl⟩
abbrev main_v120 : Ref sig .tc := ⟨.hbm, 157, rfl⟩
abbrev main_cst_20 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_21 : Ref sig .tc := ⟨.hbm, 164, rfl⟩
abbrev main_v126 : Ref sig .tc := ⟨.hbm, 165, rfl⟩
abbrev main_v127 : Ref sig .tc := ⟨.hbm, 166, rfl⟩
abbrev main_cst_22 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_23 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_c_24 : Ref sig .tc := ⟨.hbm, 183, rfl⟩
abbrev main_v142 : Ref sig .tc := ⟨.hbm, 184, rfl⟩
abbrev main_call1_v0 : Ref sig .tc := ⟨.hbm, 185, rfl⟩
abbrev main_call1_c : Ref sig .tc := ⟨.hbm, 186, rfl⟩
abbrev main_call1_v1 : Ref sig .tc := ⟨.hbm, 187, rfl⟩
abbrev main_call1_v2 : Ref sig .tc := ⟨.hbm, 188, rfl⟩
abbrev main_call1_v3 : Ref sig .tc := ⟨.hbm, 189, rfl⟩
abbrev main_call1_v4 : Ref sig .tc := ⟨.hbm, 190, rfl⟩
abbrev main_call1_c_0 : Ref sig .tc := ⟨.hbm, 191, rfl⟩
abbrev main_call1_v5 : Ref sig .tc := ⟨.hbm, 192, rfl⟩
abbrev main_v143 : Ref sig .tc := ⟨.hbm, 193, rfl⟩
abbrev main_v144 : Ref sig .tc := ⟨.hbm, 194, rfl⟩
abbrev main_cst_25 : Ref sig .tc := ⟨.hbm, 195, rfl⟩
abbrev main_call2_v0 : Ref sig .tc := ⟨.hbm, 196, rfl⟩
abbrev main_call2_v1 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩

abbrev nD : Nat := 1
abbrev τ : Topo := Topo.v7x

variable {F : FTy → Type} [FloatOps F]
-- ==== Kernel5.lean ====
abbrev S8192x1024 : Shape := ⟨2, ![8192, 1024]⟩
abbrev S8x1024 : Shape := ⟨2, ![8, 1024]⟩
abbrev S2x1024x2816 : Shape := ⟨3, ![2, 1024, 2816]⟩
abbrev S2x1408x1024 : Shape := ⟨3, ![2, 1408, 1024]⟩
abbrev S8192x2816 : Shape := ⟨2, ![8192, 2816]⟩
abbrev S4x512x1408 : Shape := ⟨3, ![4, 512, 1408]⟩
abbrev S4x352x1024 : Shape := ⟨3, ![4, 352, 1024]⟩
abbrev S512x1024 : Shape := ⟨2, ![512, 1024]⟩
abbrev S512x1408 : Shape := ⟨2, ![512, 1408]⟩
abbrev S1x1408x1024 : Shape := ⟨3, ![1, 1408, 1024]⟩
abbrev S1024x2816 : Shape := ⟨2, ![1024, 2816]⟩
abbrev S1408x1024 : Shape := ⟨2, ![1408, 1024]⟩
abbrev S4 : Shape := ⟨1, ![4]⟩
abbrev S1 : Shape := ⟨1, ![1]⟩
abbrev S_ : Shape := ⟨0, ![]⟩
abbrev S1x1024x2816 : Shape := ⟨3, ![1, 1024, 2816]⟩
abbrev S1x1024 : Shape := ⟨2, ![1, 1024]⟩
abbrev S512 : Shape := ⟨1, ![512]⟩
abbrev S512x1 : Shape := ⟨2, ![512, 1]⟩
abbrev S512x2816 : Shape := ⟨2, ![512, 2816]⟩
abbrev S1024 : Shape := ⟨1, ![1024]⟩
abbrev S1x512x1408 : Shape := ⟨3, ![1, 512, 1408]⟩
abbrev S1x352x1024 : Shape := ⟨3, ![1, 352, 1024]⟩
abbrev S352x1024 : Shape := ⟨2, ![352, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1024, .f32⟩
  | .hbm, ⟨3, _⟩ => ⟨S2x1024x2816, .bf16⟩
  | .hbm, ⟨4, _⟩ => ⟨S2x1408x1024, .bf16⟩
  | .hbm, ⟨5, _⟩ => ⟨S8192x2816, .bf16⟩
  | .hbm, ⟨6, _⟩ => ⟨S8192x2816, .bf16⟩
  | .hbm, ⟨7, _⟩ => ⟨S8192x1024, .f32⟩
  | .hbm, ⟨8, _⟩ => ⟨S4x512x1408, .f32⟩
  | .hbm, ⟨9, _⟩ => ⟨S4x352x1024, .f32⟩
  | .hbm, ⟨10, _⟩ => ⟨S4x512x1408, .f32⟩
  | .hbm, ⟨11, _⟩ => ⟨S4x352x1024, .f32⟩
  | .hbm, ⟨12, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S8x1024, .f32⟩
  | .local _ .vmem, ⟨9, _⟩ => ⟨S1x1408x1024, .bf16⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | .local _ .vmem, ⟨13, _⟩ => ⟨S1024x2816, .f32⟩
  | .local _ .vmem, ⟨14, _⟩ => ⟨S1408x1024, .f32⟩
  | .local _ .vmem, ⟨15, _⟩ => ⟨S1024x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c15_i32 : BitVec 32 := 15#32
  let v72 : BitVec 1 := Scalar.cmpi .eq arg0 c15_i32
  let v73 : BitVec 32 := Scalar.extui v72
  let c0_i32_38 : BitVec 32 := 0#32
  let v74 : BitVec 1 := Scalar.cmpi .ne v73 c0_i32_38
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S8192x1024 : Shape := ⟨2, ![8192, 1024]⟩
abbrev S8x1024 : Shape := ⟨2, ![8, 1024]⟩
abbrev S2x1024x2816 : Shape := ⟨3, ![2, 1024, 2816]⟩
abbrev S2x1408x1024 : Shape := ⟨3, ![2, 1408, 1024]⟩
abbrev S8192x2816 : Shape := ⟨2, ![8192, 2816]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1024x2816 : Shape := ⟨3, ![1, 1024, 2816]⟩
abbrev S1024x2816 : Shape := ⟨2, ![1024, 2816]⟩
abbrev S1024x1408 : Shape := ⟨2, ![1024, 1408]⟩
abbrev S8192x1408 : Shape := ⟨2, ![8192, 1408]⟩
abbrev S1x1408x1024 : Shape := ⟨3, ![1, 1408, 1024]⟩
abbrev S1408x1024 : Shape := ⟨2, ![1408, 1024]⟩
abbrev S1024 : Shape := ⟨1, ![1024]⟩
abbrev S2x1024 : Shape := ⟨2, ![2, 1024]⟩
abbrev S5x1024 : Shape := ⟨2, ![5, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8x1024, .f32⟩
  | .hbm, ⟨3, _⟩ => ⟨S2x1024x2816, .bf16⟩
  | .hbm, ⟨4, _⟩ => ⟨S2x1408x1024, .bf16⟩
  | .hbm, ⟨5, _⟩ => ⟨S8192x2816, .bf16⟩
  | .hbm, ⟨6, _⟩ => ⟨S8192x2816, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S2x1024x2816, .f32⟩
  | .hbm, ⟨34, _⟩ => ⟨S1x1024x2816, .f32⟩
  | .hbm, ⟨35, _⟩ => ⟨S1024x2816, .f32⟩
  | .hbm, ⟨36, _⟩ => ⟨S1024x1408, .f32⟩
  | .hbm, ⟨37, _⟩ => ⟨S1024x1408, .f32⟩
  | .hbm, ⟨38, _⟩ => ⟨S8192x2816, .f32⟩
  | .hbm, ⟨39, _⟩ => ⟨S8192x1408, .f32⟩
  | .hbm, ⟨40, _⟩ => ⟨S8192x2816, .f32⟩
  | .hbm, ⟨41, _⟩ => ⟨S8192x1408, .f32⟩
  | .hbm, ⟨42, _⟩ => ⟨S2x1408x1024, .f32⟩
  | .hbm, ⟨43, _⟩ => ⟨S1x1408x1024, .f32⟩
  | .hbm, ⟨44, _⟩ => ⟨S1408x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S8192x1408, .f32⟩
  | .hbm, ⟨49, _⟩ => ⟨S8192x1408, .f32⟩
  | .hbm, ⟨50, _⟩ => ⟨S_, .f32⟩
  | .hbm, ⟨51, _⟩ => ⟨S8192x1408, .f32⟩
  | .hbm, ⟨52, _⟩ => ⟨S8192x1408, .f32⟩
  | .hbm, ⟨53, _⟩ => ⟨S_, .f32⟩
  | .hbm, ⟨54, _⟩ => ⟨S8192x1408, .f32⟩
  | .hbm, ⟨55, _⟩ => ⟨S8192x1408, .f32⟩
  | .hbm, ⟨56, _⟩ => ⟨S_, .f32⟩
  | .hbm, ⟨57, _⟩ => ⟨S8192x1408, .f32⟩
  | .hbm, ⟨58, _⟩ => ⟨S8192x1408, .f32⟩
  | .hbm, ⟨59, _⟩ => ⟨S8192x1408, .f32⟩
  | .hbm, ⟨60, _⟩ => ⟨S8192x1408, .f32⟩
  | .hbm, ⟨61, _⟩ => ⟨S8192x1408, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1408, .f32⟩
  | .hbm, ⟨72, _⟩ => ⟨S8192x1408, .f32⟩
  | .hbm, ⟨73, _⟩ => ⟨S8192x1408, .f32⟩
  | .hbm, ⟨74, _⟩ => ⟨S8192x1408, .f32⟩
  | .hbm, ⟨75, _⟩ => ⟨S8192x1408, .f32⟩
  | .hbm, ⟨76, _⟩ => ⟨S8192x1408, .f32⟩
  | .hbm, ⟨77, _⟩ => ⟨S8192x1408, .f32⟩
  | .hbm, ⟨78, _⟩ => ⟨S_, .f32⟩
  | .hbm, ⟨79, _⟩ => ⟨S1x1024, .f32⟩
  | .hbm, ⟨80, _⟩ => ⟨S1x1024, .f32⟩
  | .hbm, ⟨81, _⟩ => ⟨S8192x1408, .f32⟩
  | .hbm, ⟨82, _⟩ => ⟨S8192x1408, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S2x1024, .f32⟩
  | .hbm, ⟨88, _⟩ => ⟨S_, .f32⟩
  | .hbm, ⟨89, _⟩ => ⟨S5x1024, .f32⟩
  | .hbm, ⟨90, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v36_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v36_1 : Ref sig .tc := ⟨.hbm, 59, rfl⟩
abbrev main_v36_0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v49 : Ref sig .tc := ⟨.hbm, 77, rfl⟩
abbrev main_cst_5 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_cst_7 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Proof.Spec.lean ====
/-
  The mathematics of the mixer's backward pass over the real numbers, entry by entry: what both programs compute where
  every argument is finite. An array is a function of natural-number indices; row `s` of the sequence, column `d` of the
  model dimension, column `k` of the gated branch, head `h` (64 columns each), place `t` inside a chunk of 128 rows.
-/
module

public import Idealize.ShloMosaic.PureOps.Ideal

@[expose] public section

noncomputable section

namespace MixBwd

open Finset

/-- The fourteen arguments, as real arrays. -/
structure Params where
  x : ℕ → ℕ → ℝ
  dxo : ℕ → ℕ → ℝ
  shift : ℕ → ℝ
  scale : ℕ → ℝ
  gate : ℕ → ℝ
  gn : ℕ → ℝ
  win : ℕ → ℕ → ℝ
  wpool : ℕ → ℕ → ℕ → ℝ
  ps : ℕ → ℝ
  lg : ℕ → ℝ
  lb : ℕ → ℝ
  wsp : ℕ → ℕ → ℕ → ℝ
  bsp : ℕ → ℕ → ℝ
  wout : ℕ → ℕ → ℝ

/-- The norms' added constant: the number that the programs' float word for 1e-6 is. -/
def eps : ℝ := 8796093 / 8796093022208
/-- The factor inside the tanh: the number that the float word for √(2/π) is. -/
def gk : ℝ := 6693141 / 8388608
/-- The cubic coefficient of the tanh form of GELU. -/
def ga : ℝ := 8943 / 200000

theorem eps_pos : 0 < eps := by unfold eps; norm_num

/-- The tanh of the GELU. -/
def gt (z : ℝ) : ℝ := Real.tanh (gk * (z + ga * (z * z * z)))
/-- GELU. -/
def ge (z : ℝ) : ℝ := z * (1 / 2 * (1 + gt z))
/-- Its derivative. -/
def gd (z : ℝ) : ℝ :=
  1 / 2 * (1 + gt z) + 1 / 2 * z * (1 - gt z * gt z) * (gk * (1 + 3 * ga * (z * z)))

/-- The width of pool group `g`'s window. -/
def width (g : ℕ) : ℕ := 2 ^ (g + 1)
/-- How many rows a window that ends at row `s` holds. -/
def cnt (g s : ℕ) : ℝ := ((min (s + 1) (width g) : ℕ) : ℝ)

theorem cnt_pos (g s : ℕ) : 0 < cnt g s := by
  unfold cnt width
  exact_mod_cast Nat.lt_min.mpr ⟨Nat.succ_pos s, Nat.pos_of_ne_zero (by positivity)⟩

namespace Params

variable (P : Params)

/-! ### Forward -/

def ms (s : ℕ) : ℝ := (∑ d : Fin 1024, P.x s d * P.x s d) / 1024 + eps
def r (s : ℕ) : ℝ := (Real.sqrt (P.ms s))⁻¹
def xn (s d : ℕ) : ℝ := P.x s d * P.r s
def hp (s d : ℕ) : ℝ := P.xn s d * P.gn d
def h (s d : ℕ) : ℝ := P.hp s d * (1 + P.scale d) + P.shift d
def proj (s j : ℕ) : ℝ := ∑ d : Fin 1024, P.h s d * P.win d j
/-- The running sum of the pooled half, down the sequence. -/
def csum (s j : ℕ) : ℝ := ∑ i ∈ range (s + 1), P.proj i j
/-- The windows' means less the row itself. -/
def pooled (s j : ℕ) : ℝ :=
  (P.csum s j - if s < width (j / 128) then 0 else P.csum (s - width (j / 128)) j) / cnt (j / 128) s - P.proj s j
def mixed (s j : ℕ) : ℝ := ∑ c : Fin 128, P.pooled s (128 * (j / 128) + c) * P.wpool (j / 128) c (j % 128)
def zb (s k : ℕ) : ℝ := P.proj s (512 + k)
def u (s k : ℕ) : ℝ := ge (P.zb s k)
def v (s k : ℕ) : ℝ := ge (P.zb s (512 + k))
def mu (s : ℕ) : ℝ := (∑ k : Fin 512, P.v s k) / 512
def vc (s k : ℕ) : ℝ := P.v s k - P.mu s
def var (s : ℕ) : ℝ := (∑ k : Fin 512, P.vc s k * P.vc s k) / 512 + eps
def rs (s : ℕ) : ℝ := (Real.sqrt (P.var s))⁻¹
def vh (s k : ℕ) : ℝ := P.vc s k * P.rs s
def vl (s k : ℕ) : ℝ := P.vh s k * P.lg k + P.lb k
/-- The spatial weights of head `h`, the part above the diagonal dropped. -/
def wm (h t t' : ℕ) : ℝ := if t' ≤ t then P.wsp h t t' else 0
def sv (s k : ℕ) : ℝ :=
  (∑ t' : Fin 128, P.wm (k / 64) (s % 128) t' * P.vl (128 * (s / 128) + t') k) + P.bsp (k / 64) (s % 128)
def yb (s k : ℕ) : ℝ := P.u s k * P.sv s k
def cat (s j : ℕ) : ℝ := if j < 512 then P.mixed s j * P.ps j else P.yb s (j - 512)
def mix (s d : ℕ) : ℝ := ∑ j : Fin 1024, P.cat s j * P.wout j d

/-! ### Backward -/

def dm (s d : ℕ) : ℝ := P.dxo s d * P.gate d
def dcat (s j : ℕ) : ℝ := ∑ d : Fin 1024, P.dm s d * P.wout j d
def dyb (s k : ℕ) : ℝ := P.dcat s (512 + k)
def dmixed (s j : ℕ) : ℝ := P.dcat s j * P.ps j
def dpool (s j : ℕ) : ℝ := ∑ e : Fin 128, P.dmixed s (128 * (j / 128) + e) * P.wpool (j / 128) (j % 128) e
/-- The gradient of a window's sum: its mean's gradient over the count. -/
def q (s j : ℕ) : ℝ := P.dpool s j / cnt (j / 128) s
/-- The same, 0 past the end of the sequence. -/
def qz (s j : ℕ) : ℝ := if s < 8192 then P.q s j else 0
def dxa (s j : ℕ) : ℝ := (∑ i ∈ range (width (j / 128)), P.qz (s + i) j) - P.dpool s j
def du (s k : ℕ) : ℝ := P.dyb s k * P.sv s k
def dsv (s k : ℕ) : ℝ := P.dyb s k * P.u s k
def dvl (s k : ℕ) : ℝ := ∑ t : Fin 128, P.wm (k / 64) t (s % 128) * P.dsv (128 * (s / 128) + t) k
def dvh (s k : ℕ) : ℝ := P.dvl s k * P.lg k
def m1 (s : ℕ) : ℝ := (∑ k : Fin 512, P.dvh s k) / 512
def m2 (s : ℕ) : ℝ := (∑ k : Fin 512, P.dvh s k * P.vh s k) / 512
def dv (s k : ℕ) : ℝ := P.rs s * (P.dvh s k - P.m1 s - P.vh s k * P.m2 s)
def dzb (s k : ℕ) : ℝ := (if k < 512 then P.du s k else P.dv s (k - 512)) * gd (P.zb s k)
def dproj (s j : ℕ) : ℝ := if j < 512 then P.dxa s j else P.dzb s (j - 512)
def dh (s d : ℕ) : ℝ := ∑ j : Fin 1536, P.dproj s j * P.win d j
def dhp (s d : ℕ) : ℝ := P.dh s d * (1 + P.scale d)
def dxn (s d : ℕ) : ℝ := P.dhp s d * P.gn d
def m3 (s : ℕ) : ℝ := (∑ d : Fin 1024, P.dxn s d * P.xn s d) / 1024

/-! ### Results -/

def dx (s d : ℕ) : ℝ := P.dxo s d + P.r s * (P.dxn s d - P.xn s d * P.m3 s)
def dwin (d j : ℕ) : ℝ := ∑ s : Fin 8192, P.h s d * P.dproj s j
def dwout (j d : ℕ) : ℝ := (∑ s : Fin 8192, P.cat s j * P.dxo s d) * P.gate d
def dwpool (g c e : ℕ) : ℝ := ∑ s : Fin 8192, P.pooled s (128 * g + c) * P.dmixed s (128 * g + e)
def dwsp (h t t' : ℕ) : ℝ :=
  if t' ≤ t then
    ∑ n : Fin 64, ∑ c : Fin 64, P.dsv (128 * n + t) (64 * h + c) * P.vl (128 * n + t') (64 * h + c)
  else 0
def dbsp (h t : ℕ) : ℝ := ∑ n : Fin 64, ∑ c : Fin 64, P.dsv (128 * n + t) (64 * h + c)
def dps (j : ℕ) : ℝ := ∑ s : Fin 8192, P.dcat s j * P.mixed s j
def dlg (k : ℕ) : ℝ := ∑ s : Fin 8192, P.dvl s k * P.vh s k
def dlb (k : ℕ) : ℝ := ∑ s : Fin 8192, P.dvl s k
def v512 (i k : ℕ) : ℝ := if i = 0 then P.dps k else if i = 1 then P.dlg k else if i = 2 then P.dlb k else 0
def dshift (d : ℕ) : ℝ := ∑ s : Fin 8192, P.dh s d
def dscale (d : ℕ) : ℝ := ∑ s : Fin 8192, P.dh s d * P.hp s d
def dgate (d : ℕ) : ℝ := ∑ s : Fin 8192, P.dxo s d * P.mix s d
def dgn (d : ℕ) : ℝ := ∑ s : Fin 8192, P.dhp s d * P.xn s d
def vd (i d : ℕ) : ℝ :=
  if i = 0 then P.dshift d else if i = 1 then P.dscale d else if i = 2 then P.dgate d
  else if i = 3 then P.dgn d else 0

theorem ms_pos (s : ℕ) : 0 < P.ms s :=
  add_pos_of_nonneg_of_pos (div_nonneg (sum_nonneg fun _ _ => mul_self_nonneg _) (by norm_num)) eps_pos
theorem var_pos (s : ℕ) : 0 < P.var s :=
  add_pos_of_nonneg_of_pos (div_nonneg (sum_nonneg fun _ _ => mul_self_nonneg _) (by norm_num)) eps_pos

end Params

end MixBwd
-- ==== Proof.Reals.lean ====
/-
  Scalars: the ideal float operations at real numbers, and the constants that the programs hold.
-/
module

public import proofs.«01_k».proof.Proof.Spec
public import Idealize.ShloMosaic.PureOps.Ideal.Laws

@[expose] public section

noncomputable section

namespace MixBwd

open Idealize.ShloMosaic

variable {φ : FTy}

theorem add_r (a b : ℝ) : FloatOps.addf (F := Ideal) (φ := φ) (a : EReal) (b : EReal) = ((a + b : ℝ) : EReal) := rfl
theorem sub_r (a b : ℝ) : FloatOps.subf (F := Ideal) (φ := φ) (a : EReal) (b : EReal) = ((a - b : ℝ) : EReal) := rfl
theorem mul_r (a b : ℝ) : FloatOps.mulf (F := Ideal) (φ := φ) (a : EReal) (b : EReal) = ((a * b : ℝ) : EReal) := rfl
theorem neg_r (a : ℝ) : FloatOps.negf (F := Ideal) (φ := φ) (a : EReal) = ((-a : ℝ) : EReal) := rfl
theorem hneg_r (a : ℝ) : FloatOps.hostNegf (F := Ideal) (φ := φ) (a : EReal) = ((-a : ℝ) : EReal) := rfl
theorem tanh_r (a : ℝ) : FloatOps.tanh (F := Ideal) (φ := φ) (a : EReal) = ((Real.tanh a : ℝ) : EReal) := rfl
theorem htanh_r (a : ℝ) :
    FloatOps.hostUnary (F := Ideal) .tanh (φ := φ) (a : EReal) = ((Real.tanh a : ℝ) : EReal) := rfl

theorem div_r' (a b : ℝ) (hb : b ≠ 0) : Ideal.div (a : EReal) (b : EReal) = ((a / b : ℝ) : EReal) := by
  rw [Ideal.div_coe hb, ← EReal.coe_mul, mul_one_div]
theorem div_r (a b : ℝ) (hb : b ≠ 0) :
    FloatOps.divf (F := Ideal) (φ := φ) (a : EReal) (b : EReal) = ((a / b : ℝ) : EReal) := div_r' a b hb
theorem hdiv_r (a b : ℝ) (hb : b ≠ 0) :
    FloatOps.hostDivf (F := Ideal) (φ := φ) (a : EReal) (b : EReal) = ((a / b : ℝ) : EReal) := div_r' a b hb

theorem rsqrt_r' (a : ℝ) (ha : 0 < a) : Ideal.rsqrt (a : EReal) = (((Real.sqrt a)⁻¹ : ℝ) : EReal) := by
  rw [Ideal.rsqrt_coe, if_neg (not_lt.mpr ha.le), if_neg ha.ne']
theorem rsqrt_r (a : ℝ) (ha : 0 < a) :
    FloatOps.rsqrt (F := Ideal) (φ := φ) (a : EReal) = (((Real.sqrt a)⁻¹ : ℝ) : EReal) := rsqrt_r' a ha
theorem hrsqrt_r (a : ℝ) (ha : 0 < a) :
    FloatOps.hostUnary (F := Ideal) .rsqrt (φ := φ) (a : EReal) = (((Real.sqrt a)⁻¹ : ℝ) : EReal) := rsqrt_r' a ha

/-- A sum of real numbers in the extended reals. -/
theorem sum_r {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ### Constants -/

theorem w_zero : Ideal.ofBits .f32 0x00000000#32 = ((0 : ℝ) : EReal) := by simp [Ideal.ofBits, Ideal.ieee]
theorem w_one : Ideal.ofBits .f32 0x3F800000#32 = ((1 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_mhalf : Ideal.ofBits .f32 0xBF000000#32 = ((-1 / 2 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_512 : Ideal.ofBits .f32 0x44000000#32 = ((512 : ℝ) : EReal) := by
  simp [Ideal.ofBits, Ideal.ieee, -EReal.coe_mul]; norm_num
theorem w_1024 : Ideal.ofBits .f32 0x44800000#32 = ((1024 : ℝ) : EReal) := by
  simp [Ideal.ofBits, Ideal.ieee, -EReal.coe_mul]; norm_num
theorem w_200000 : Ideal.ofBits .f32 0x48435000#32 = ((200000 : ℝ) : EReal) := by
  simp [Ideal.ofBits, Ideal.ieee, -EReal.coe_mul]; norm_num
theorem w_8943 : Ideal.ofBits .f32 0x460BBC00#32 = ((8943 : ℝ) : EReal) := by
  simp [Ideal.ofBits, Ideal.ieee, -EReal.coe_mul]; norm_num
theorem w_eps : Ideal.ofBits .f32 0x358637BD#32 = ((eps : ℝ) : EReal) := by
  simp [Ideal.ofBits, Ideal.ieee, -EReal.coe_mul, eps]; norm_num
theorem w_gk : Ideal.ofBits .f32 0x3F4C422A#32 = ((gk : ℝ) : EReal) := by
  simp [Ideal.ofBits, Ideal.ieee, -EReal.coe_mul, gk]; norm_num

end MixBwd
-- ==== Proof.HostOps.lean ====
/-
  Three host operations read at an index: a running sum down the first axis, a pad, a sum over two axes.
-/
module

public import proofs.«01_k».proof.Proof.Reals
public import Idealize.ShloMosaic.PureOps.Contract
public import Idealize.ShloMosaic.Lib.ValueIdxCore
public import Idealize.ShloMosaic.Lib.Pointwise.Reduce

@[expose] public section

noncomputable section

namespace MixBwd

open Idealize.ShloMosaic Idealize.ShloMosaic.ValueIdx

/-- A sum of entries that are real numbers. -/
theorem red_r {n : ℕ} {z : EReal} {g : Fin n → EReal} {f : Fin n → ℝ} (hz : z = ((0 : ℝ) : EReal))
    (h : ∀ k, g k = ((f k : ℝ) : EReal)) : z + ∑ k, g k = ((∑ k, f k : ℝ) : EReal) := by
  rw [hz, EReal.coe_zero, zero_add, Finset.sum_congr rfl fun k _ => h k, sum_r]

/-- A sum of products of entries that are real numbers. -/
theorem dot_r {n : ℕ} {g g' : Fin n → EReal} {f f' : Fin n → ℝ} (h : ∀ k, g k = ((f k : ℝ) : EReal))
    (h' : ∀ k, g' k = ((f' k : ℝ) : EReal)) : ∑ k, g k * g' k = ((∑ k, f k * f' k : ℝ) : EReal) := by
  rw [Finset.sum_congr rfl fun k _ => (by rw [h k, h' k, ← EReal.coe_mul] : g k * g' k = ((f k * f' k : ℝ) : EReal)),
    sum_r]

theorem foldl_add_r {α : Type} (l : List α) (g : α → ℝ) (z : ℝ) :
    l.foldl (fun (r : EReal) n => r + ((g n : ℝ) : EReal)) (z : EReal) = ((z + (l.map g).sum : ℝ) : EReal) := by
  induction l generalizing z with
  | nil => simp
  | cons a l ih => rw [List.foldl_cons, ← EReal.coe_add, ih, List.map_cons, List.sum_cons, add_assoc]

/-- The indices of a window that is one wide on the last two axes are the places along the first. -/
def lineEquiv (n : ℕ) : (⟨3, ![n, 1, 1]⟩ : Shape).Idx ≃ Fin n where
  toFun j := j 0
  invFun k := fun a => match a with
    | ⟨0, _⟩ => k
    | ⟨1, _⟩ => (0 : Fin 1)
    | ⟨2, _⟩ => (0 : Fin 1)
  left_inv j := by
    funext a
    match a with
    | ⟨0, _⟩ => rfl
    | ⟨1, _⟩ => exact (Fin.fin_one_eq_zero (j 1)).symm
    | ⟨2, _⟩ => exact (Fin.fin_one_eq_zero (j 2)).symm
  right_inv _ := rfl

/-- A windowed sum down the first axis of real entries, the initial value 0. -/
theorem window_r {n b c lo hi : ℕ} (x : (⟨3, ![n, b, c]⟩ : Shape).Idx → EReal) (f : ℕ → ℕ → ℕ → ℝ)
    (hx : ∀ i, x i = ((f (i 0).val (i 1).val (i 2).val : ℝ) : EReal))
    (h : (⟨3, ![n, b, c]⟩ : Shape).ReduceWindows ![n, 1, 1] ![1, 1, 1] ![lo, 0, 0] ![hi, 0, 0] ⟨3, ![n, b, c]⟩)
    (z : EReal) (hz : z = ((0 : ℝ) : EReal)) (j : (⟨3, ![n, b, c]⟩ : Shape).Idx) :
    Ideal.hostReduceWindowAdd ![n, 1, 1] ![1, 1, 1] ![lo, 0, 0] ![hi, 0, 0] h x z j
      = ((∑ k : Fin n, if lo ≤ (j 0).val + k.val ∧ (j 0).val + k.val - lo < n
          then f ((j 0).val + k.val - lo) (j 1).val (j 2).val else 0 : ℝ) : EReal) := by
  subst hz
  unfold Ideal.hostReduceWindowAdd Host.reduceWindow
  let W : Shape := ⟨3, ![n, 1, 1]⟩
  let g : Fin W.numel → ℝ := fun m =>
    if lo ≤ (j 0).val + (W.rowMajor.symm m 0).val ∧ (j 0).val + (W.rowMajor.symm m 0).val - lo < n
      then f ((j 0).val + (W.rowMajor.symm m 0).val - lo) (j 1).val (j 2).val else 0
  have hstep : ∀ (r : EReal) (m : Fin W.numel),
      (let p : Fin 3 → Nat := fun a => (j (a.cast h.1.symm)).val * (![1, 1, 1] : Fin 3 → ℕ) a + (W.rowMajor.symm m a).val;
      r + (if hin : ∀ a, (![lo, 0, 0] : Fin 3 → ℕ) a ≤ p a ∧ p a - (![lo, 0, 0] : Fin 3 → ℕ) a < (⟨3, ![n, b, c]⟩ : Shape).size a
          then x (fun a => ⟨p a - (![lo, 0, 0] : Fin 3 → ℕ) a, (hin a).2⟩) else ((0 : ℝ) : EReal))) = r + ((g m : ℝ) : EReal) := by
    intro r m
    dsimp only
    congr 1
    have e1 : (W.rowMajor.symm m 1).val = 0 := by
      have := (W.rowMajor.symm m 1).isLt; have : (W.rowMajor.symm m 1).val < 1 := this; omega
    have e2 : (W.rowMajor.symm m 2).val = 0 := by
      have := (W.rowMajor.symm m 2).isLt; have : (W.rowMajor.symm m 2).val < 1 := this; omega
    have b1 : (j 1).val < b := (j 1).isLt
    have b2 : (j 2).val < c := (j 2).isLt
    by_cases hc : lo ≤ (j 0).val + (W.rowMajor.symm m 0).val ∧ (j 0).val + (W.rowMajor.symm m 0).val - lo < n
    · have hin : ∀ a : Fin 3, (![lo, 0, 0] : Fin 3 → ℕ) a ≤ (j (a.cast h.1.symm)).val * (![1, 1, 1] : Fin 3 → ℕ) a + (W.rowMajor.symm m a).val
          ∧ (j (a.cast h.1.symm)).val * (![1, 1, 1] : Fin 3 → ℕ) a + (W.rowMajor.symm m a).val - (![lo, 0, 0] : Fin 3 → ℕ) a < (⟨3, ![n, b, c]⟩ : Shape).size a := by
        intro a
        match a with
        | ⟨0, _⟩ => show lo ≤ (j 0).val * 1 + _ ∧ (j 0).val * 1 + (W.rowMajor.symm m 0).val - lo < n; rw [mul_one]; exact hc
        | ⟨1, _⟩ => show 0 ≤ (j 1).val * 1 + _ ∧ (j 1).val * 1 + (W.rowMajor.symm m 1).val - 0 < b; rw [e1]; omega
        | ⟨2, _⟩ => show 0 ≤ (j 2).val * 1 + _ ∧ (j 2).val * 1 + (W.rowMajor.symm m 2).val - 0 < c; rw [e2]; omega
      rw [dif_pos hin, hx]
      show ((f ((j 0).val * 1 + (W.rowMajor.symm m 0).val - lo) ((j 1).val * 1 + (W.rowMajor.symm m 1).val - 0)
        ((j 2).val * 1 + (W.rowMajor.symm m 2).val - 0) : ℝ) : EReal) = ((if _ then _ else _ : ℝ) : EReal)
      rw [if_pos hc, e1, e2, mul_one, mul_one, mul_one, add_zero, add_zero, Nat.sub_zero, Nat.sub_zero]
    · rw [dif_neg (fun hin => hc (by have := hin 0; change lo ≤ (j 0).val * 1 + (W.rowMajor.symm m 0).val ∧ (j 0).val * 1 + (W.rowMajor.symm m 0).val - lo < n at this; rwa [mul_one] at this))]
      show ((0 : ℝ) : EReal) = ((if _ then _ else _ : ℝ) : EReal)
      rw [if_neg hc]
  have hfun : (fun (r : EReal) (m : Fin W.numel) =>
      let p : Fin 3 → Nat := fun a => (j (a.cast h.1.symm)).val * (![1, 1, 1] : Fin 3 → ℕ) a + (W.rowMajor.symm m a).val;
      r + (if hin : ∀ a, (![lo, 0, 0] : Fin 3 → ℕ) a ≤ p a ∧ p a - (![lo, 0, 0] : Fin 3 → ℕ) a < (⟨3, ![n, b, c]⟩ : Shape).size a
          then x (fun a => ⟨p a - (![lo, 0, 0] : Fin 3 → ℕ) a, (hin a).2⟩) else ((0 : ℝ) : EReal))) = fun r m => r + ((g m : ℝ) : EReal) :=
    funext fun r => funext fun m => hstep r m
  refine (congrArg (fun F => (List.finRange W.numel).foldl F ((0 : ℝ) : EReal)) hfun).trans ?_
  rw [foldl_add_r, zero_add]
  refine congrArg _ ?_
  rw [show ((List.finRange W.numel).map g).sum = ∑ m, g m from by rw [← List.ofFn_eq_map, List.sum_ofFn]]
  rw [← Equiv.sum_comp ((lineEquiv n).symm.trans W.rowMajor) g]
  refine Finset.sum_congr rfl fun k _ => ?_
  have : W.rowMajor.symm (((lineEquiv n).symm.trans W.rowMajor) k) 0 = k := by
    show W.rowMajor.symm (W.rowMajor ((lineEquiv n).symm k)) 0 = k
    rw [Equiv.symm_apply_apply]
    rfl
  show (if _ then _ else _) = _
  rw [this]

/-- The same for the host's operation. -/
theorem hostWindow_r {n b c lo hi : ℕ} {u : Shape} (x : (⟨3, ![n, b, c]⟩ : Shape).Idx → EReal) (f : ℕ → ℕ → ℕ → ℝ)
    (hx : ∀ i, x i = ((f (i 0).val (i 1).val (i 2).val : ℝ) : EReal)) (z : u.Idx → EReal)
    (h : (⟨3, ![n, b, c]⟩ : Shape).ReduceWindows ![n, 1, 1] ![1, 1, 1] ![lo, 0, 0] ![hi, 0, 0] ⟨3, ![n, b, c]⟩)
    (hu : 0 < u.numel) (hz : ∀ i, z i = ((0 : ℝ) : EReal)) (j : (⟨3, ![n, b, c]⟩ : Shape).Idx) :
    Host.reduceWindowAdd (F := Ideal) (φ := .f32) ![n, 1, 1] ![1, 1, 1] ![lo, 0, 0] ![hi, 0, 0] x z h hu j
      = ((∑ k : Fin n, if lo ≤ (j 0).val + k.val ∧ (j 0).val + k.val - lo < n
          then f ((j 0).val + k.val - lo) (j 1).val (j 2).val else 0 : ℝ) : EReal) :=
  window_r x f hx h _ (hz _) j

/-- The running sum: the window that ends at the row. -/
theorem prefix_r (f : ℕ → ℝ) (n m s : ℕ) (hm : m = n + 1) (hs : s < m) :
    (∑ k : Fin m, if n ≤ s + k.val ∧ s + k.val - n < m then f (s + k.val - n) else 0)
      = ∑ i ∈ Finset.range (s + 1), f i := by
  subst hm
  rw [Finset.sum_fin_eq_sum_range]
  rw [Finset.sum_congr rfl (g := fun k => if n ≤ s + k then f (s + k - n) else 0) (by
    intro k hk
    have := Finset.mem_range.mp hk
    rw [dif_pos this]
    by_cases h : n ≤ s + k
    · rw [if_pos h, if_pos ⟨h, by omega⟩]
    · rw [if_neg h, if_neg fun h' => h h'.1])]
  rw [← Finset.sum_filter]
  refine Finset.sum_bij' (fun k _ => s + k - n) (fun i _ => n + i - s) ?_ ?_ ?_ ?_ ?_
  · intro k hk; simp at hk ⊢; omega
  · intro k hk; simp at hk ⊢; omega
  · intro k hk; simp at hk ⊢; omega
  · intro k hk; simp at hk ⊢; omega
  · intro k hk; rfl

/-- The running sum from the other end, of a difference of a sequence and itself `w` places on: the next `w` entries,
    where the sequence is 0 from `n` on. -/
theorem suffix_r (f : ℕ → ℝ) (n w s : ℕ) (hf : ∀ i, n ≤ i → f i = 0) :
    (∑ k : Fin n, if s + k.val < n then f (s + k.val) - f (s + k.val + w) else 0) = ∑ i ∈ Finset.range w, f (s + i) := by
  have h1 : ∀ k : Fin n, (if s + k.val < n then f (s + k.val) - f (s + k.val + w) else 0)
      = f (s + k.val) - f (s + (w + k.val)) := by
    intro k
    by_cases h : s + k.val < n
    · rw [if_pos h, show s + k.val + w = s + (w + k.val) by omega]
    · rw [if_neg h, hf _ (by omega), hf _ (by omega), sub_zero]
  rw [Finset.sum_congr rfl fun k _ => h1 k, Fin.sum_univ_eq_sum_range (fun k => f (s + k) - f (s + (w + k))) n,
    Finset.sum_sub_distrib]
  have h2 := Finset.sum_range_add (fun k => f (s + k)) w n
  have h3 := Finset.sum_range_add (fun k => f (s + k)) n w
  have h4 : ∑ x ∈ Finset.range w, f (s + (n + x)) = 0 := Finset.sum_eq_zero fun x _ => hf _ (by omega)
  rw [add_comm n w] at h3
  linarith

/-- A host sum over the first and last of four axes. -/
theorem outer_r {a b c d : ℕ} {t : Shape} (h : (⟨4, ![a, b, c, d]⟩ : Shape).ReducesTo [0, 3] t)
    (x : (⟨4, ![a, b, c, d]⟩ : Shape).Idx → EReal) (f : ℕ → ℕ → ℕ → ℕ → ℝ)
    (hx : ∀ i, x i = ((f (i 0).val (i 1).val (i 2).val (i 3).val : ℝ) : EReal)) (z : EReal) (hz : z = ((0 : ℝ) : EReal))
    (p q : ℕ) (j : t.Idx)
    (hj : ∀ i : (⟨4, ![a, b, c, d]⟩ : Shape).Idx, h.drop i = j ↔ (i 1).val = p ∧ (i 2).val = q) (hp : p < b) (hq : q < c) :
    Ideal.hostReduceAdd h x z j = ((∑ n : Fin a, ∑ e : Fin d, f n.val p q e.val : ℝ) : EReal) := by
  subst hz
  unfold Ideal.hostReduceAdd
  rw [EReal.coe_zero, zero_add, Finset.sum_congr rfl fun i _ => hx i, sum_r]
  refine congrArg _ ?_
  rw [← Fintype.sum_prod_type' (f := fun (n : Fin a) (e : Fin d) => f n.val p q e.val)]
  symm
  refine Finset.sum_bij' (fun (k : Fin a × Fin d) _ => (ValueIdx.ix4 k.1 ⟨p, hp⟩ ⟨q, hq⟩ k.2 : (⟨4, ![a, b, c, d]⟩ : Shape).Idx))
    (fun i _ => ((i 0 : Fin a), (i 3 : Fin d))) ?_ ?_ ?_ ?_ ?_
  · intro k _; exact Finset.mem_filter.mpr ⟨Finset.mem_univ _, (hj _).mpr ⟨rfl, rfl⟩⟩
  · intro i _; exact Finset.mem_univ _
  · intro k _; rfl
  · intro i hi
    have hi' := (hj i).mp (Finset.mem_filter.mp hi).2
    funext e
    match e with
    | ⟨0, _⟩ => rfl
    | ⟨1, _⟩ => exact Fin.ext hi'.1.symm
    | ⟨2, _⟩ => exact Fin.ext hi'.2.symm
    | ⟨3, _⟩ => rfl
  · intro k _; rfl

end MixBwd
-- ==== Proof.Arrange.lean ====
/-
  Pads, concatenations and integer tests of the host, read at an index where the entries are real numbers.
-/
module

public import proofs.«01_k».proof.Proof.HostOps
public import Idealize.ShloMosaic.Lib.KernelVsHost
public import Idealize.ShloMosaic.Lib.Pipeline.Value
public import Idealize.ShloMosaic.Lib.WordCmp
public import Idealize.ShloMosaic.Lib.WordArith

@[expose] public section

noncomputable section

namespace MixBwd

open Idealize.ShloMosaic

/-- A zero pad of a matrix. -/
theorem pad2_r {a b a' b' l0 l1 u0 u1 : ℕ} {u : Shape} (x : (⟨2, ![a, b]⟩ : Shape).Idx → EReal) (f : ℕ → ℕ → ℝ)
    (hx : ∀ i, x i = ((f (i 0).val (i 1).val : ℝ) : EReal)) (v : u.Idx → EReal) (hv : ∀ i, v i = ((0 : ℝ) : EReal))
    (h : (⟨2, ![a, b]⟩ : Shape).Pads ![l0, l1] ![u0, u1] ![0, 0] ⟨2, ![a', b']⟩) (hu : 0 < u.numel)
    (j : (⟨2, ![a', b']⟩ : Shape).Idx) :
    pad ⟨2, ![a', b']⟩ ![l0, l1] ![u0, u1] ![0, 0] x v h hu j
      = ((if l0 ≤ (j 0).val ∧ (j 0).val - l0 < a ∧ l1 ≤ (j 1).val ∧ (j 1).val - l1 < b
          then f ((j 0).val - l0) ((j 1).val - l1) else 0 : ℝ) : EReal) := by
  by_cases c : l0 ≤ (j 0).val ∧ (j 0).val - l0 < a ∧ l1 ≤ (j 1).val ∧ (j 1).val - l1 < b
  · rw [if_pos c, pad_apply_of_inside _ _ _ x v h hu j (fun e => match e with
        | ⟨0, _⟩ => ⟨(j 0).val - l0, c.2.1⟩
        | ⟨1, _⟩ => ⟨(j 1).val - l1, c.2.2.2⟩) (fun e => by
        match e with
        | ⟨0, _⟩ => show (j 0).val = l0 + ((j 0).val - l0) * (0 + 1); omega
        | ⟨1, _⟩ => show (j 1).val = l1 + ((j 1).val - l1) * (0 + 1); omega), hx]
    rfl
  · rw [if_neg c]
    by_cases c0 : l0 ≤ (j 0).val ∧ (j 0).val - l0 < a
    · refine (pad_apply_of_not_inside _ _ _ x v h hu j 1 fun hc => c ⟨c0.1, c0.2, hc.1, ?_⟩).trans (hv _)
      have := hc.2.2
      change ((j 1).val - l1) / (0 + 1) < b at this
      rwa [zero_add, Nat.div_one] at this
    · refine (pad_apply_of_not_inside _ _ _ x v h hu j 0 fun hc => c0 ⟨hc.1, ?_⟩).trans (hv _)
      have := hc.2.2
      change ((j 0).val - l0) / (0 + 1) < a at this
      rwa [zero_add, Nat.div_one] at this

/-- A matrix put as layer `g` of a stack, the other layers 0. -/
theorem padLayer_r {a b c g l u : ℕ} {w : Shape} (x : (⟨3, ![a, 1, b]⟩ : Shape).Idx → EReal) (f : ℕ → ℕ → ℝ)
    (hx : ∀ i, x i = ((f (i 0).val (i 2).val : ℝ) : EReal)) (v : w.Idx → EReal) (hv : ∀ i, v i = ((0 : ℝ) : EReal))
    (h : (⟨3, ![a, 1, b]⟩ : Shape).Pads ![0, l, 0] ![0, u, 0] ![0, 0, 0] ⟨3, ![a, c, b]⟩) (hu : 0 < w.numel) (hl : l = g)
    (j : (⟨3, ![a, c, b]⟩ : Shape).Idx) :
    pad ⟨3, ![a, c, b]⟩ ![0, l, 0] ![0, u, 0] ![0, 0, 0] x v h hu j
      = ((if (j 1).val = g then f (j 0).val (j 2).val else 0 : ℝ) : EReal) := by
  subst hl
  by_cases e : (j 1).val = l
  · rw [if_pos e, pad_apply_of_inside _ _ _ x v h hu j (fun e => match e with
        | ⟨0, _⟩ => j 0
        | ⟨1, _⟩ => (0 : Fin 1)
        | ⟨2, _⟩ => j 2) (fun k => by
        match k with
        | ⟨0, _⟩ => show (j 0).val = 0 + (j 0).val * (0 + 1); omega
        | ⟨1, _⟩ => show (j 1).val = l + 0 * (0 + 1); omega
        | ⟨2, _⟩ => show (j 2).val = 0 + (j 2).val * (0 + 1); omega), hx]
    rfl
  · rw [if_neg e]
    refine (pad_apply_of_not_inside _ _ _ x v h hu j 1 fun hc => e ?_).trans (hv _)
    have h1 := hc.2.2
    have h2 := hc.1
    change ((j 1).val - l) / (0 + 1) < 1 at h1
    change l ≤ (j 1).val at h2
    rw [zero_add, Nat.div_one] at h1
    omega

/-- Two matrices one above the other. -/
theorem cat0_r {a b c n : ℕ} (x : (⟨2, ![a, c]⟩ : Shape).Idx → EReal) (y : (⟨2, ![b, c]⟩ : Shape).Idx → EReal)
    (f g : ℕ → ℕ → ℝ) (hx : ∀ i, x i = ((f (i 0).val (i 1).val : ℝ) : EReal))
    (hy : ∀ i, y i = ((g (i 0).val (i 1).val : ℝ) : EReal))
    (h : Shape.Concatenates [⟨2, ![a, c]⟩, ⟨2, ![b, c]⟩] ⟨2, ![n, c]⟩ 0) (hn : n = a + b)
    (j : (⟨2, ![n, c]⟩ : Shape).Idx) :
    concatenate ⟨2, ![n, c]⟩ 0 [⟨⟨2, ![a, c]⟩, x⟩, ⟨⟨2, ![b, c]⟩, y⟩] h j
      = ((if (j 0).val < a then f (j 0).val (j 1).val else g ((j 0).val - a) (j 1).val : ℝ) : EReal) := by
  have hj : (j 0).val < n := (j 0).isLt
  by_cases e : (j 0).val < a
  · rw [if_pos e, concatenate_pair_apply_left 0 x y h j rfl (fun k => match k with
        | ⟨0, _⟩ => ⟨(j 0).val, e⟩
        | ⟨1, _⟩ => j 1) (fun k => by
        match k with
        | ⟨0, _⟩ => rfl
        | ⟨1, _⟩ => rfl), hx]
    rfl
  · rw [if_neg e, concatenate_pair_apply_right 0 x y h j rfl rfl (fun k => match k with
        | ⟨0, _⟩ => (⟨(j 0).val - a, by omega⟩ : Fin b)
        | ⟨1, _⟩ => j 1) (fun k hk => by
        match k with
        | ⟨0, _⟩ => exact absurd rfl hk
        | ⟨1, _⟩ => rfl) (by show (j 0).val - a + a = (j 0).val; omega), hy]
    rfl

/-- Two matrices side by side. -/
theorem cat1_r {a b c n : ℕ} (x : (⟨2, ![c, a]⟩ : Shape).Idx → EReal) (y : (⟨2, ![c, b]⟩ : Shape).Idx → EReal)
    (f g : ℕ → ℕ → ℝ) (hx : ∀ i, x i = ((f (i 0).val (i 1).val : ℝ) : EReal))
    (hy : ∀ i, y i = ((g (i 0).val (i 1).val : ℝ) : EReal))
    (h : Shape.Concatenates [⟨2, ![c, a]⟩, ⟨2, ![c, b]⟩] ⟨2, ![c, n]⟩ 1) (hn : n = a + b)
    (j : (⟨2, ![c, n]⟩ : Shape).Idx) :
    concatenate ⟨2, ![c, n]⟩ 1 [⟨⟨2, ![c, a]⟩, x⟩, ⟨⟨2, ![c, b]⟩, y⟩] h j
      = ((if (j 1).val < a then f (j 0).val (j 1).val else g (j 0).val ((j 1).val - a) : ℝ) : EReal) := by
  have hj : (j 1).val < n := (j 1).isLt
  by_cases e : (j 1).val < a
  · rw [if_pos e, concatenate_pair_apply_left 1 x y h j rfl (fun k => match k with
        | ⟨0, _⟩ => j 0
        | ⟨1, _⟩ => ⟨(j 1).val, e⟩) (fun k => by
        match k with
        | ⟨0, _⟩ => rfl
        | ⟨1, _⟩ => rfl), hx]
    rfl
  · rw [if_neg e, concatenate_pair_apply_right 1 x y h j rfl rfl (fun k => match k with
        | ⟨0, _⟩ => j 0
        | ⟨1, _⟩ => (⟨(j 1).val - a, by omega⟩ : Fin b)) (fun k hk => by
        match k with
        | ⟨0, _⟩ => rfl
        | ⟨1, _⟩ => exact absurd rfl hk) (by show (j 1).val - a + a = (j 1).val; omega), hy]
    rfl

/-- Four layers stacked. -/
theorem layers_r {a b : ℕ} (x0 x1 x2 x3 : (⟨3, ![a, 1, b]⟩ : Shape).Idx → EReal) (f : ℕ → ℕ → ℕ → ℝ)
    (h0 : ∀ i, x0 i = ((f (i 0).val 0 (i 2).val : ℝ) : EReal)) (h1 : ∀ i, x1 i = ((f (i 0).val 1 (i 2).val : ℝ) : EReal))
    (h2 : ∀ i, x2 i = ((f (i 0).val 2 (i 2).val : ℝ) : EReal)) (h3 : ∀ i, x3 i = ((f (i 0).val 3 (i 2).val : ℝ) : EReal))
    (h : Shape.Concatenates [⟨3, ![a, 1, b]⟩, ⟨3, ![a, 1, b]⟩, ⟨3, ![a, 1, b]⟩, ⟨3, ![a, 1, b]⟩] ⟨3, ![a, 4, b]⟩ 1)
    (j : (⟨3, ![a, 4, b]⟩ : Shape).Idx) :
    concatenate ⟨3, ![a, 4, b]⟩ 1 [⟨⟨3, ![a, 1, b]⟩, x0⟩, ⟨⟨3, ![a, 1, b]⟩, x1⟩, ⟨⟨3, ![a, 1, b]⟩, x2⟩, ⟨⟨3, ![a, 1, b]⟩, x3⟩] h j
      = ((f (j 0).val (j 1).val (j 2).val : ℝ) : EReal) := by
  let xs : List ((s : Shape) × (s.Idx → EReal)) :=
    [⟨⟨3, ![a, 1, b]⟩, x0⟩, ⟨⟨3, ![a, 1, b]⟩, x1⟩, ⟨⟨3, ![a, 1, b]⟩, x2⟩, ⟨⟨3, ![a, 1, b]⟩, x3⟩]
  have hj : (j 1).val < 4 := (j 1).isLt
  have key : (j 1).val = 0 ∨ (j 1).val = 1 ∨ (j 1).val = 2 ∨ (j 1).val = 3 := by omega
  rcases key with e | e | e | e
  · rw [e]
    exact (concatenate_apply_piece 1 xs h j 0 (by show 0 < 4; norm_num) ⟨3, ![a, 1, b]⟩ x0 rfl rfl 0 rfl (fun e => match e with
        | ⟨0, _⟩ => j 0
        | ⟨1, _⟩ => (0 : Fin 1)
        | ⟨2, _⟩ => j 2) (fun b hb => by
      match b with
      | ⟨0, _⟩ => rfl
      | ⟨1, _⟩ => exact absurd rfl hb
      | ⟨2, _⟩ => rfl) (by rw [e]; rfl)).trans (h0 _)
  · rw [e]
    exact (concatenate_apply_piece 1 xs h j 1 (by show 1 < 4; norm_num) ⟨3, ![a, 1, b]⟩ x1 rfl rfl 1 rfl (fun e => match e with
        | ⟨0, _⟩ => j 0
        | ⟨1, _⟩ => (0 : Fin 1)
        | ⟨2, _⟩ => j 2) (fun b hb => by
      match b with
      | ⟨0, _⟩ => rfl
      | ⟨1, _⟩ => exact absurd rfl hb
      | ⟨2, _⟩ => rfl) (by rw [e]; rfl)).trans (h1 _)
  · rw [e]
    exact (concatenate_apply_piece 1 xs h j 2 (by show 2 < 4; norm_num) ⟨3, ![a, 1, b]⟩ x2 rfl rfl 2 rfl (fun e => match e with
        | ⟨0, _⟩ => j 0
        | ⟨1, _⟩ => (0 : Fin 1)
        | ⟨2, _⟩ => j 2) (fun b hb => by
      match b with
      | ⟨0, _⟩ => rfl
      | ⟨1, _⟩ => exact absurd rfl hb
      | ⟨2, _⟩ => rfl) (by rw [e]; rfl)).trans (h2 _)
  · rw [e]
    exact (concatenate_apply_piece 1 xs h j 3 (by show 3 < 4; norm_num) ⟨3, ![a, 1, b]⟩ x3 rfl rfl 3 rfl (fun e => match e with
        | ⟨0, _⟩ => j 0
        | ⟨1, _⟩ => (0 : Fin 1)
        | ⟨2, _⟩ => j 2) (fun b hb => by
      match b with
      | ⟨0, _⟩ => rfl
      | ⟨1, _⟩ => exact absurd rfl hb
      | ⟨2, _⟩ => rfl) (by rw [e]; rfl)).trans (h3 _)

/-- 3 rows over 5 rows of zeros. -/
theorem rows35_r {c : ℕ} (x0 x1 x2 : (⟨2, ![1, c]⟩ : Shape).Idx → EReal) (y : (⟨2, ![5, c]⟩ : Shape).Idx → EReal)
    (f0 f1 f2 : ℕ → ℝ)
    (h0 : ∀ i, x0 i = ((f0 (i 1).val : ℝ) : EReal))
    (h1 : ∀ i, x1 i = ((f1 (i 1).val : ℝ) : EReal))
    (h2 : ∀ i, x2 i = ((f2 (i 1).val : ℝ) : EReal))
    (hy : ∀ i, y i = ((0 : ℝ) : EReal))
    (h : Shape.Concatenates [⟨2, ![1, c]⟩, ⟨2, ![1, c]⟩, ⟨2, ![1, c]⟩, ⟨2, ![5, c]⟩] ⟨2, ![8, c]⟩ 0)
    (j : (⟨2, ![8, c]⟩ : Shape).Idx) :
    concatenate ⟨2, ![8, c]⟩ 0 [⟨⟨2, ![1, c]⟩, x0⟩, ⟨⟨2, ![1, c]⟩, x1⟩, ⟨⟨2, ![1, c]⟩, x2⟩, ⟨⟨2, ![5, c]⟩, y⟩] h j
      = ((if (j 0).val = 0 then f0 (j 1).val else if (j 0).val = 1 then f1 (j 1).val else if (j 0).val = 2 then f2 (j 1).val else 0 : ℝ) : EReal) := by
  let xs : List ((s : Shape) × (s.Idx → EReal)) := [⟨⟨2, ![1, c]⟩, x0⟩, ⟨⟨2, ![1, c]⟩, x1⟩, ⟨⟨2, ![1, c]⟩, x2⟩, ⟨⟨2, ![5, c]⟩, y⟩]
  have hj : (j 0).val < 8 := (j 0).isLt
  have key : (j 0).val = 0 ∨ (j 0).val = 1 ∨ (j 0).val = 2 ∨ 3 ≤ (j 0).val := by omega
  rcases key with e | e | e | e
  · refine (concatenate_apply_piece 0 xs h j 0 (by show 0 < 4; norm_num) ⟨2, ![1, c]⟩ x0 rfl rfl 0 rfl (fun e => match e with
        | ⟨0, _⟩ => (0 : Fin 1)
        | ⟨1, _⟩ => j 1) (fun b hb => by
      match b with
      | ⟨0, _⟩ => exact absurd rfl hb
      | ⟨1, _⟩ => rfl) (by show 0 + 0 = (j 0).val; omega)).trans ((h0 _).trans (congrArg _ ?_))
    rw [if_pos e]; rfl
  · refine (concatenate_apply_piece 0 xs h j 1 (by show 1 < 4; norm_num) ⟨2, ![1, c]⟩ x1 rfl rfl 1 rfl (fun e => match e with
        | ⟨0, _⟩ => (0 : Fin 1)
        | ⟨1, _⟩ => j 1) (fun b hb => by
      match b with
      | ⟨0, _⟩ => exact absurd rfl hb
      | ⟨1, _⟩ => rfl) (by show 1 + 0 = (j 0).val; omega)).trans ((h1 _).trans (congrArg _ ?_))
    rw [if_neg (by omega)]; rw [if_pos e]; rfl
  · refine (concatenate_apply_piece 0 xs h j 2 (by show 2 < 4; norm_num) ⟨2, ![1, c]⟩ x2 rfl rfl 2 rfl (fun e => match e with
        | ⟨0, _⟩ => (0 : Fin 1)
        | ⟨1, _⟩ => j 1) (fun b hb => by
      match b with
      | ⟨0, _⟩ => exact absurd rfl hb
      | ⟨1, _⟩ => rfl) (by show 2 + 0 = (j 0).val; omega)).trans ((h2 _).trans (congrArg _ ?_))
    rw [if_neg (by omega)]; rw [if_neg (by omega)]; rw [if_pos e]; rfl
  · refine (concatenate_apply_piece 0 xs h j 3 (by show 3 < 4; norm_num) ⟨2, ![5, c]⟩ y rfl rfl 3 rfl (fun e => match e with
        | ⟨0, _⟩ => (⟨(j 0).val - 3, by omega⟩ : Fin 5)
        | ⟨1, _⟩ => j 1) (fun b hb => by
      match b with
      | ⟨0, _⟩ => exact absurd rfl hb
      | ⟨1, _⟩ => rfl) (by show 3 + ((j 0).val - 3) = (j 0).val; omega)).trans ((hy _).trans (congrArg _ ?_))
    rw [if_neg (by omega)]; rw [if_neg (by omega)]; rw [if_neg (by omega)]

/-- 4 rows over 4 rows of zeros. -/
theorem rows44_r {c : ℕ} (x0 x1 x2 x3 : (⟨2, ![1, c]⟩ : Shape).Idx → EReal) (y : (⟨2, ![4, c]⟩ : Shape).Idx → EReal)
    (f0 f1 f2 f3 : ℕ → ℝ)
    (h0 : ∀ i, x0 i = ((f0 (i 1).val : ℝ) : EReal))
    (h1 : ∀ i, x1 i = ((f1 (i 1).val : ℝ) : EReal))
    (h2 : ∀ i, x2 i = ((f2 (i 1).val : ℝ) : EReal))
    (h3 : ∀ i, x3 i = ((f3 (i 1).val : ℝ) : EReal))
    (hy : ∀ i, y i = ((0 : ℝ) : EReal))
    (h : Shape.Concatenates [⟨2, ![1, c]⟩, ⟨2, ![1, c]⟩, ⟨2, ![1, c]⟩, ⟨2, ![1, c]⟩, ⟨2, ![4, c]⟩] ⟨2, ![8, c]⟩ 0)
    (j : (⟨2, ![8, c]⟩ : Shape).Idx) :
    concatenate ⟨2, ![8, c]⟩ 0 [⟨⟨2, ![1, c]⟩, x0⟩, ⟨⟨2, ![1, c]⟩, x1⟩, ⟨⟨2, ![1, c]⟩, x2⟩, ⟨⟨2, ![1, c]⟩, x3⟩, ⟨⟨2, ![4, c]⟩, y⟩] h j
      = ((if (j 0).val = 0 then f0 (j 1).val else if (j 0).val = 1 then f1 (j 1).val else if (j 0).val = 2 then f2 (j 1).val else if (j 0).val = 3 then f3 (j 1).val else 0 : ℝ) : EReal) := by
  let xs : List ((s : Shape) × (s.Idx → EReal)) := [⟨⟨2, ![1, c]⟩, x0⟩, ⟨⟨2, ![1, c]⟩, x1⟩, ⟨⟨2, ![1, c]⟩, x2⟩, ⟨⟨2, ![1, c]⟩, x3⟩, ⟨⟨2, ![4, c]⟩, y⟩]
  have hj : (j 0).val < 8 := (j 0).isLt
  have key : (j 0).val = 0 ∨ (j 0).val = 1 ∨ (j 0).val = 2 ∨ (j 0).val = 3 ∨ 4 ≤ (j 0).val := by omega
  rcases key with e | e | e | e | e
  · refine (concatenate_apply_piece 0 xs h j 0 (by show 0 < 5; norm_num) ⟨2, ![1, c]⟩ x0 rfl rfl 0 rfl (fun e => match e with
        | ⟨0, _⟩ => (0 : Fin 1)
        | ⟨1, _⟩ => j 1) (fun b hb => by
      match b with
      | ⟨0, _⟩ => exact absurd rfl hb
      | ⟨1, _⟩ => rfl) (by show 0 + 0 = (j 0).val; omega)).trans ((h0 _).trans (congrArg _ ?_))
    rw [if_pos e]; rfl
  · refine (concatenate_apply_piece 0 xs h j 1 (by show 1 < 5; norm_num) ⟨2, ![1, c]⟩ x1 rfl rfl 1 rfl (fun e => match e with
        | ⟨0, _⟩ => (0 : Fin 1)
        | ⟨1, _⟩ => j 1) (fun b hb => by
      match b with
      | ⟨0, _⟩ => exact absurd rfl hb
      | ⟨1, _⟩ => rfl) (by show 1 + 0 = (j 0).val; omega)).trans ((h1 _).trans (congrArg _ ?_))
    rw [if_neg (by omega)]; rw [if_pos e]; rfl
  · refine (concatenate_apply_piece 0 xs h j 2 (by show 2 < 5; norm_num) ⟨2, ![1, c]⟩ x2 rfl rfl 2 rfl (fun e => match e with
        | ⟨0, _⟩ => (0 : Fin 1)
        | ⟨1, _⟩ => j 1) (fun b hb => by
      match b with
      | ⟨0, _⟩ => exact absurd rfl hb
      | ⟨1, _⟩ => rfl) (by show 2 + 0 = (j 0).val; omega)).trans ((h2 _).trans (congrArg _ ?_))
    rw [if_neg (by omega)]; rw [if_neg (by omega)]; rw [if_pos e]; rfl
  · refine (concatenate_apply_piece 0 xs h j 3 (by show 3 < 5; norm_num) ⟨2, ![1, c]⟩ x3 rfl rfl 3 rfl (fun e => match e with
        | ⟨0, _⟩ => (0 : Fin 1)
        | ⟨1, _⟩ => j 1) (fun b hb => by
      match b with
      | ⟨0, _⟩ => exact absurd rfl hb
      | ⟨1, _⟩ => rfl) (by show 3 + 0 = (j 0).val; omega)).trans ((h3 _).trans (congrArg _ ?_))
    rw [if_neg (by omega)]; rw [if_neg (by omega)]; rw [if_neg (by omega)]; rw [if_pos e]; rfl
  · refine (concatenate_apply_piece 0 xs h j 4 (by show 4 < 5; norm_num) ⟨2, ![4, c]⟩ y rfl rfl 4 rfl (fun e => match e with
        | ⟨0, _⟩ => (⟨(j 0).val - 4, by omega⟩ : Fin 4)
        | ⟨1, _⟩ => j 1) (fun b hb => by
      match b with
      | ⟨0, _⟩ => exact absurd rfl hb
      | ⟨1, _⟩ => rfl) (by show 4 + ((j 0).val - 4) = (j 0).val; omega)).trans ((hy _).trans (congrArg _ ?_))
    rw [if_neg (by omega)]; rw [if_neg (by omega)]; rw [if_neg (by omega)]; rw [if_neg (by omega)]

/-- The count of a window's rows, as the host makes it. -/
theorem cnt_word (g s : ℕ) (hg : g < 4) (hs : s < 8192) (w : BitVec 32) (hw : w = BitVec.ofNat 32 (width g)) :
    FloatOps.sitofp (F := Ideal) .f32 (IntOp.minsi (IntOp.addi (BitVec.ofNat 32 s) 1#32) w) = ((cnt g s : ℝ) : EReal) := by
  subst hw
  have hwid : width g ≤ 16 := by
    unfold width
    exact Nat.pow_le_pow_right (n := 2) (by norm_num) (show g + 1 ≤ 4 by omega)
  have hadd : IntOp.addi (BitVec.ofNat 32 s) 1#32 = BitVec.ofNat 32 (s + 1) := by
    show BitVec.ofNat 32 s + BitVec.ofNat 32 1 = _
    rw [BitVec.ofNat_add]
  have n1 : (BitVec.ofNat 32 (s + 1)).toNat = s + 1 := by rw [BitVec.toNat_ofNat]; omega
  have n2 : (BitVec.ofNat 32 (width g)).toNat = width g := by rw [BitVec.toNat_ofNat]; omega
  have hm : (IntOp.minsi (BitVec.ofNat 32 (s + 1)) (BitVec.ofNat 32 (width g))).toNat = min (s + 1) (width g) := by
    rw [WordArith.toNat_minsi_of_lt _ _ (by rw [n1]; omega) (by rw [n2]; omega), n1, n2]
  rw [hadd]
  show (((BitVec.toInt _ : ℤ) : ℝ) : EReal) = _
  refine congrArg _ ?_
  rw [BitVec.toInt_eq_toNat_of_lt (by rw [hm]; omega), hm]
  rfl

/-- The host's test `col ≤ row`. -/
theorem tril_word (a b : ℕ) (ha : a < 128) (hb : b < 128) :
    IntOp.cmpi .sge (IntOp.addi (BitVec.ofNat 32 a) 0#32) (BitVec.ofNat 32 b) = if b ≤ a then 1#1 else 0#1 := by
  have hadd : IntOp.addi (BitVec.ofNat 32 a) 0#32 = BitVec.ofNat 32 a := BitVec.add_zero _
  rw [hadd, WordCmp.cmpi_sge_ofNat (by norm_num; omega) (by norm_num; omega)]
  by_cases h : b ≤ a <;> simp [h]

end MixBwd
-- ==== Proof.Tile.lean ====
/-
  The kernel's operations on tiles whose entries are real numbers: which real array each one gives.
-/
module

public import proofs.«01_k».proof.Proof.Arrange
public import Idealize.ShloMosaic.Lib.Pipeline.ValueKit
public import Idealize.ShloMosaic.Lib.Pipeline.ReadBack
public import Idealize.ShloMosaic.Lib.Pointwise
public import Idealize.ShloMosaic.Lib.ValueLayout
public import Idealize.ShloMosaic.Lib.ValueLayoutCasts

@[expose] public section

noncomputable section

namespace MixBwd

open Idealize.ShloMosaic Idealize.ShloMosaic.ValueIdx Idealize.SL.Sem

/-- The matrix `v` holds the real numbers `f`. -/
def R2 {n m : ℕ} (v : (⟨2, ![n, m]⟩ : Shape).Idx → EReal) (f : ℕ → ℕ → ℝ) : Prop :=
  ∀ i, v i = ((f (i 0).val (i 1).val : ℝ) : EReal)

/-- The stack of matrices `v` holds the real numbers `f`. -/
def R3 {l n m : ℕ} (v : (⟨3, ![l, n, m]⟩ : Shape).Idx → EReal) (f : ℕ → ℕ → ℕ → ℝ) : Prop :=
  ∀ i, v i = ((f (i 0).val (i 1).val (i 2).val : ℝ) : EReal)

variable {n m : ℕ}

theorem R2.congr {v : (⟨2, ![n, m]⟩ : Shape).Idx → EReal} {f g : ℕ → ℕ → ℝ} (h : R2 v f)
    (e : ∀ i j, i < n → j < m → f i j = g i j) : R2 v g :=
  fun i => (h i).trans (congrArg _ (e _ _ (i 0).isLt (i 1).isLt))

theorem R3.congr {l : ℕ} {v : (⟨3, ![l, n, m]⟩ : Shape).Idx → EReal} {f g : ℕ → ℕ → ℕ → ℝ} (h : R3 v f)
    (e : ∀ k i j, k < l → i < n → j < m → f k i j = g k i j) : R3 v g :=
  fun i => (h i).trans (congrArg _ (e _ _ _ (i 0).isLt (i 1).isLt (i 2).isLt))

theorem ex2 (i : (⟨2, ![n, m]⟩ : Shape).Idx) : ∃ (p : Fin n) (q : Fin m), i = ValueIdx.ix2 p q :=
  ⟨i 0, i 1, funext fun a => by match a with
    | ⟨0, _⟩ => rfl
    | ⟨1, _⟩ => rfl⟩

theorem ex3 {l : ℕ} (i : (⟨3, ![l, n, m]⟩ : Shape).Idx) : ∃ (k : Fin l) (p : Fin n) (q : Fin m), i = ValueIdx.ix3 k p q :=
  ⟨i 0, i 1, i 2, funext fun a => by match a with
    | ⟨0, _⟩ => rfl
    | ⟨1, _⟩ => rfl
    | ⟨2, _⟩ => rfl⟩

section Pointwise

variable {a b : FVec Ideal ⟨2, ![n, m]⟩ .f32} {f g : ℕ → ℕ → ℝ}

theorem R2.add (ha : R2 a f) (hb : R2 b g) : R2 (addf a b) (fun i j => f i j + g i j) :=
  fun i => congrArg₂ (FloatOps.addf (F := Ideal) (φ := .f32)) (ha i) (hb i)
theorem R2.sub (ha : R2 a f) (hb : R2 b g) : R2 (subf a b) (fun i j => f i j - g i j) :=
  fun i => congrArg₂ (FloatOps.subf (F := Ideal) (φ := .f32)) (ha i) (hb i)
theorem R2.mul (ha : R2 a f) (hb : R2 b g) : R2 (mulf a b) (fun i j => f i j * g i j) :=
  fun i => congrArg₂ (FloatOps.mulf (F := Ideal) (φ := .f32)) (ha i) (hb i)
theorem R2.div (ha : R2 a f) (hb : R2 b g) (h0 : ∀ i j, g i j ≠ 0) : R2 (divf a b) (fun i j => f i j / g i j) :=
  fun i => (congrArg₂ (FloatOps.divf (F := Ideal) (φ := .f32)) (ha i) (hb i)).trans (div_r _ _ (h0 _ _))
theorem R2.tanh (ha : R2 a f) : R2 (Idealize.ShloMosaic.tanh a) (fun i j => Real.tanh (f i j)) :=
  fun i => congrArg (FloatOps.tanh (F := Ideal) (φ := .f32)) (ha i)
theorem R2.rsqrt (ha : R2 a f) (h0 : ∀ i j, i < n → j < m → 0 < f i j) :
    R2 (Idealize.ShloMosaic.rsqrt a) (fun i j => (Real.sqrt (f i j))⁻¹) :=
  fun i => (congrArg (FloatOps.rsqrt (F := Ideal) (φ := .f32)) (ha i)).trans
    (rsqrt_r _ (h0 _ _ (i 0).isLt (i 1).isLt))

end Pointwise

/-- One number everywhere. -/
theorem R2.const {z : EReal} {c : ℝ} (h : z = ((c : ℝ) : EReal)) :
    R2 (broadcast (⟨2, ![n, m]⟩ : Shape) z) (fun _ _ => c) := fun _ => h

theorem R2.zero : R2 (broadcast (⟨2, ![n, m]⟩ : Shape) (Scalar.ofBits (F := Ideal) .f32 0x00000000#32)) (fun _ _ => 0) :=
  R2.const w_zero

section Shape

variable {a : (⟨2, ![n, m]⟩ : Shape).Idx → EReal} {f : ℕ → ℕ → ℝ}

theorem R2.cast (ha : R2 a f) (h : (⟨2, ![n, m]⟩ : Shape).ShapeCasts ⟨2, ![n, m]⟩) : R2 (shapeCast ⟨2, ![n, m]⟩ a h) f := by
  rw [shapeCast_self]; exact ha

theorem R3.drop {f : ℕ → ℕ → ℕ → ℝ} {w : (⟨3, ![1, n, m]⟩ : Shape).Idx → EReal} (hw : R3 w f)
    (h : (⟨3, ![1, n, m]⟩ : Shape).ShapeCasts ⟨2, ![n, m]⟩) : R2 (shapeCast ⟨2, ![n, m]⟩ w h) (fun i j => f 0 i j) :=
  fun i => by
    obtain ⟨p, q, rfl⟩ := ex2 i
    rw [shapeCast_1ab_ab_apply, hw]
    rfl

theorem R3.slab (ha : R2 a f) (h : (⟨2, ![n, m]⟩ : Shape).ShapeCasts ⟨3, ![1, n, m]⟩) :
    R3 (shapeCast ⟨3, ![1, n, m]⟩ a h) (fun _ i j => f i j) :=
  fun i => by
    obtain ⟨k, p, q, rfl⟩ := ex3 i
    rw [shapeCast_ab_1ab_apply, ha]
    rfl

theorem R2.row {v : (⟨2, ![1, m]⟩ : Shape).Idx → EReal} (hv : R2 v f) (h : (⟨2, ![1, m]⟩ : Shape).Broadcasts ⟨2, ![n, m]⟩) :
    R2 (broadcastTo ⟨2, ![n, m]⟩ v h) (fun _ j => f 0 j) := fun i => by
  refine (broadcastTo_apply v h i (ValueIdx.ix2 (0 : Fin 1) (i 1)) fun a => ?_).trans (hv _)
  match a with
  | ⟨0, _⟩ => rfl
  | ⟨1, _⟩ =>
    show (i 1).val = if m = 1 then 0 else (i 1).val
    split_ifs with e
    · have : (i 1).val < m := (i 1).isLt
      omega
    · rfl

theorem R2.column {v : (⟨2, ![n, 1]⟩ : Shape).Idx → EReal} (hv : R2 v f) (h : (⟨2, ![n, 1]⟩ : Shape).Broadcasts ⟨2, ![n, m]⟩) :
    R2 (broadcastTo ⟨2, ![n, m]⟩ v h) (fun i _ => f i 0) := fun i => by
  refine (broadcastTo_apply v h i (ValueIdx.ix2 (i 0) (0 : Fin 1)) fun a => ?_).trans (hv _)
  match a with
  | ⟨0, _⟩ =>
    show (i 0).val = if n = 1 then 0 else (i 0).val
    split_ifs with e
    · have : (i 0).val < n := (i 0).isLt
      omega
    · rfl
  | ⟨1, _⟩ => rfl

theorem R2.slice (ha : R2 a f) {n' m' r c : ℕ} (h : (⟨2, ![n, m]⟩ : Shape).Slices ![r, c] ⟨2, ![n', m']⟩) :
    R2 (extractStridedSlice ⟨2, ![n', m']⟩ ![r, c] a h) (fun i j => f (r + i) (c + j)) := fun i => by
  have h0 := h.2 0
  have h1 := h.2 1
  change r + n' ≤ n at h0
  change c + m' ≤ m at h1
  have i0 : (i 0).val < n' := (i 0).isLt
  have i1 : (i 1).val < m' := (i 1).isLt
  exact (extractStridedSlice_apply ![r, c] a h i (ValueIdx.ix2 (⟨r + (i 0).val, by omega⟩ : Fin n) (⟨c + (i 1).val, by omega⟩ : Fin m))
    fun k => by match k with
      | ⟨0, _⟩ => rfl
      | ⟨1, _⟩ => rfl).trans (ha _)

/-- A load of part of a matrix. -/
theorem R2.ld (ha : R2 a f) {n' m' r c : ℕ} (inb : ∀ k, ![r, c] k + ![n', m'] k ≤ (⟨2, ![n, m]⟩ : Shape).size k) :
    R2 (n := n') (m := m')
      (View.ld (Val := Elt Ideal) (e' := .f32) (S := ⟨2, ![n, m]⟩) a (Rect.unit (s := ⟨2, ![n, m]⟩) ![r, c] ![n', m'] inb))
      (fun i j => f (r + i) (c + j)) := fun i => by
  have h0 := inb 0
  have h1 := inb 1
  change r + n' ≤ n at h0
  change c + m' ≤ m at h1
  have i0 : (i 0).val < n' := (i 0).isLt
  have i1 : (i 1).val < m' := (i 1).isLt
  exact (View.ld_unit_apply_of (Val := Elt Ideal) (e := .f32) a ![r, c] ![n', m'] inb i
    (ValueIdx.ix2 (⟨r + (i 0).val, by omega⟩ : Fin n) (⟨c + (i 1).val, by omega⟩ : Fin m)) fun k => by match k with
      | ⟨0, _⟩ => rfl
      | ⟨1, _⟩ => rfl).trans (ha _)

/-- A load of part of a stack of matrices. -/
theorem R3.ld {l : ℕ} {a : (⟨3, ![l, n, m]⟩ : Shape).Idx → EReal} {f : ℕ → ℕ → ℕ → ℝ} (ha : R3 a f) {l' n' m' p r c : ℕ}
    (inb : ∀ k, ![p, r, c] k + ![l', n', m'] k ≤ (⟨3, ![l, n, m]⟩ : Shape).size k) :
    R3 (l := l') (n := n') (m := m') (View.ld (Val := Elt Ideal) (e' := .f32) (S := ⟨3, ![l, n, m]⟩) a
      (Rect.unit (s := ⟨3, ![l, n, m]⟩) ![p, r, c] ![l', n', m'] inb))
      (fun k i j => f (p + k) (r + i) (c + j)) := fun i => by
  have h0 := inb 0
  have h1 := inb 1
  have h2 := inb 2
  change p + l' ≤ l at h0
  change r + n' ≤ n at h1
  change c + m' ≤ m at h2
  have i0 : (i 0).val < l' := (i 0).isLt
  have i1 : (i 1).val < n' := (i 1).isLt
  have i2 : (i 2).val < m' := (i 2).isLt
  exact (View.ld_unit_apply_of (Val := Elt Ideal) (e := .f32) a ![p, r, c] ![l', n', m'] inb i
    (ValueIdx.ix3 (⟨p + (i 0).val, by omega⟩ : Fin l) (⟨r + (i 1).val, by omega⟩ : Fin n) (⟨c + (i 2).val, by omega⟩ : Fin m))
    fun k => by match k with
      | ⟨0, _⟩ => rfl
      | ⟨1, _⟩ => rfl
      | ⟨2, _⟩ => rfl).trans (ha _)

/-- A load of part of a matrix of the narrower format. -/
theorem R2.ldb (ha : R2 a f) {n' m' r c : ℕ} (inb : ∀ k, ![r, c] k + ![n', m'] k ≤ (⟨2, ![n, m]⟩ : Shape).size k) :
    R2 (n := n') (m := m')
      (View.ld (Val := Elt Ideal) (e' := .bf16) (S := ⟨2, ![n, m]⟩) a (Rect.unit (s := ⟨2, ![n, m]⟩) ![r, c] ![n', m'] inb))
      (fun i j => f (r + i) (c + j)) := fun i => by
  have h0 := inb 0
  have h1 := inb 1
  change r + n' ≤ n at h0
  change c + m' ≤ m at h1
  have i0 : (i 0).val < n' := (i 0).isLt
  have i1 : (i 1).val < m' := (i 1).isLt
  exact (View.ld_unit_apply_of (Val := Elt Ideal) (e := .bf16) a ![r, c] ![n', m'] inb i
    (ValueIdx.ix2 (⟨r + (i 0).val, by omega⟩ : Fin n) (⟨c + (i 1).val, by omega⟩ : Fin m)) fun k => by match k with
      | ⟨0, _⟩ => rfl
      | ⟨1, _⟩ => rfl).trans (ha _)

/-- A load of part of a stack of matrices of the narrower format. -/
theorem R3.ldb {l : ℕ} {a : (⟨3, ![l, n, m]⟩ : Shape).Idx → EReal} {f : ℕ → ℕ → ℕ → ℝ} (ha : R3 a f) {l' n' m' p r c : ℕ}
    (inb : ∀ k, ![p, r, c] k + ![l', n', m'] k ≤ (⟨3, ![l, n, m]⟩ : Shape).size k) :
    R3 (l := l') (n := n') (m := m') (View.ld (Val := Elt Ideal) (e' := .bf16) (S := ⟨3, ![l, n, m]⟩) a
      (Rect.unit (s := ⟨3, ![l, n, m]⟩) ![p, r, c] ![l', n', m'] inb))
      (fun k i j => f (p + k) (r + i) (c + j)) := fun i => by
  have h0 := inb 0
  have h1 := inb 1
  have h2 := inb 2
  change p + l' ≤ l at h0
  change r + n' ≤ n at h1
  change c + m' ≤ m at h2
  have i0 : (i 0).val < l' := (i 0).isLt
  have i1 : (i 1).val < n' := (i 1).isLt
  have i2 : (i 2).val < m' := (i 2).isLt
  exact (View.ld_unit_apply_of (Val := Elt Ideal) (e := .bf16) a ![p, r, c] ![l', n', m'] inb i
    (ValueIdx.ix3 (⟨p + (i 0).val, by omega⟩ : Fin l) (⟨r + (i 1).val, by omega⟩ : Fin n) (⟨c + (i 2).val, by omega⟩ : Fin m))
    fun k => by match k with
      | ⟨0, _⟩ => rfl
      | ⟨1, _⟩ => rfl
      | ⟨2, _⟩ => rfl).trans (ha _)

/-- The row sums, as a column. -/
theorem R2.rowSum (ha : R2 a f) (h : (⟨2, ![n, m]⟩ : Shape).Reduces [1] ⟨1, ![n]⟩) (hφ : FKind.Formats FTy.f32)
    (hacc : 0x00000000#32 = FKind.add.neutral FTy.f32 hφ) (hc : (⟨1, ![n]⟩ : Shape).ShapeCasts ⟨2, ![n, 1]⟩) :
    R2 (shapeCast ⟨2, ![n, 1]⟩ (multiReduction (F := Ideal) (φ := .f32) .add [1] ⟨1, ![n]⟩ a 0x00000000#32 h hφ hacc) hc)
      (fun i _ => ∑ k : Fin m, f i k) := fun i => by
  obtain ⟨p, q, rfl⟩ := ex2 i
  rw [shapeCast_a_a1_apply, Ideal.multiReduction_add_single]
  rw [← sum_r]
  exact Finset.sum_congr rfl fun k _ => ha _

/-- The column sums, as a row. -/
theorem R2.colSum (ha : R2 a f) (h : (⟨2, ![n, m]⟩ : Shape).Reduces [0] ⟨1, ![m]⟩) (hφ : FKind.Formats FTy.f32)
    (hacc : 0x00000000#32 = FKind.add.neutral FTy.f32 hφ) (hc : (⟨1, ![m]⟩ : Shape).ShapeCasts ⟨2, ![1, m]⟩) :
    R2 (shapeCast ⟨2, ![1, m]⟩ (multiReduction (F := Ideal) (φ := .f32) .add [0] ⟨1, ![m]⟩ a 0x00000000#32 h hφ hacc) hc)
      (fun _ j => ∑ k : Fin n, f k j) := fun i => by
  obtain ⟨p, q, rfl⟩ := ex2 i
  rw [shapeCast_a_1a_apply, Ideal.multiReduction_add_single]
  rw [← sum_r]
  exact Finset.sum_congr rfl fun k _ => ha _

end Shape

/-! ### Products -/

section Products

variable {k : ℕ} {f g : ℕ → ℕ → ℝ}

private theorem acc_r {K : ℕ} {z : EReal} {p q : Fin K → EReal} {f g : Fin K → ℝ} (hz : z = ((0 : ℝ) : EReal))
    (hp : ∀ k, p k = ((f k : ℝ) : EReal)) (hq : ∀ k, q k = ((g k : ℝ) : EReal)) :
    z + ∑ k, p k * q k = ((∑ k, f k * g k : ℝ) : EReal) := by
  rw [dot_r hp hq, hz, ← EReal.coe_add, zero_add]

/-- Rows by columns. -/
theorem R2.mm {a : (⟨2, ![n, k]⟩ : Shape).Idx → EReal} {b : (⟨2, ![k, m]⟩ : Shape).Idx → EReal} (ha : R2 a f) (hb : R2 b g)
    (wf : DotDims.WF ⟨2, ![n, k]⟩ ⟨2, ![k, m]⟩ ⟨2, ![n, m]⟩ [1] [0] [0] [1] [] []) :
    R2 (Ideal.matmul ⟨[1], [0], [0], [1], [], [], wf⟩ a b (constant (F := Ideal) ⟨2, ![n, m]⟩ .f32 0x00000000#32))
      (fun i j => ∑ t : Fin k, f i t * g t j) := fun i => by
  rw [Ideal.matmul_apply₁ _ rfl rfl]
  exact acc_r w_zero (fun t => ha _) (fun t => hb _)

/-- Rows by rows. -/
theorem R2.mmt {a : (⟨2, ![n, k]⟩ : Shape).Idx → EReal} {b : (⟨2, ![m, k]⟩ : Shape).Idx → EReal} (ha : R2 a f) (hb : R2 b g)
    (wf : DotDims.WF ⟨2, ![n, k]⟩ ⟨2, ![m, k]⟩ ⟨2, ![n, m]⟩ [1] [1] [0] [0] [] []) :
    R2 (Ideal.matmul ⟨[1], [1], [0], [0], [], [], wf⟩ a b (constant (F := Ideal) ⟨2, ![n, m]⟩ .f32 0x00000000#32))
      (fun i j => ∑ t : Fin k, f i t * g j t) := fun i => by
  rw [Ideal.matmul_apply₁ _ rfl rfl]
  exact acc_r w_zero (fun t => ha _) (fun t => hb _)

/-- Columns by columns. -/
theorem R2.tmm {a : (⟨2, ![k, n]⟩ : Shape).Idx → EReal} {b : (⟨2, ![k, m]⟩ : Shape).Idx → EReal} (ha : R2 a f) (hb : R2 b g)
    (wf : DotDims.WF ⟨2, ![k, n]⟩ ⟨2, ![k, m]⟩ ⟨2, ![n, m]⟩ [0] [0] [1] [1] [] []) :
    R2 (Ideal.matmul ⟨[0], [0], [1], [1], [], [], wf⟩ a b (constant (F := Ideal) ⟨2, ![n, m]⟩ .f32 0x00000000#32))
      (fun i j => ∑ t : Fin k, f t i * g t j) := fun i => by
  rw [Ideal.matmul_apply₁ _ rfl rfl]
  exact acc_r w_zero (fun t => ha _) (fun t => hb _)

end Products

/-! ### Pieces side by side and above one another -/

section Cat

variable {w l : ℕ}

theorem catAt1_cons {F : ℕ → ℝ} {off : ℕ} (j : (⟨2, ![n, m]⟩ : Shape).Idx) (x : (⟨2, ![n, w]⟩ : Shape).Idx → EReal)
    (q : (s : Shape) × (s.Idx → EReal)) (xs : List ((s : Shape) × (s.Idx → EReal))) (hs) (c : ℕ) (hc)
    (hx : ∀ i : (⟨2, ![n, w]⟩ : Shape).Idx, (i 0).val = (j 0).val → x i = ((F (off + (i 1).val) : ℝ) : EReal))
    (hr : ∀ hs' c' hc', concatenateAt ⟨2, ![n, m]⟩ 1 j (q :: xs) hs' c' hc' = ((F (off + w + c') : ℝ) : EReal)) :
    concatenateAt ⟨2, ![n, m]⟩ 1 j (⟨⟨2, ![n, w]⟩, x⟩ :: q :: xs) hs c hc = ((F (off + c) : ℝ) : EReal) := by
  rw [concatenateAt_cons]
  split_ifs with e
  · exact hx _ rfl
  · rw [hr]
    have e' : w ≤ c := Nat.le_of_not_lt e
    show ((F (off + w + (c - w)) : ℝ) : EReal) = _
    rw [show off + w + (c - w) = off + c by omega]

theorem catAt1_one {F : ℕ → ℝ} {off : ℕ} (j : (⟨2, ![n, m]⟩ : Shape).Idx) (x : (⟨2, ![n, w]⟩ : Shape).Idx → EReal)
    (hs) (c : ℕ) (hc)
    (hx : ∀ i : (⟨2, ![n, w]⟩ : Shape).Idx, (i 0).val = (j 0).val → x i = ((F (off + (i 1).val) : ℝ) : EReal)) :
    concatenateAt ⟨2, ![n, m]⟩ 1 j [⟨⟨2, ![n, w]⟩, x⟩] hs c hc = ((F (off + c) : ℝ) : EReal) := by
  rw [concatenateAt_singleton]
  exact hx _ rfl

theorem catAt0_cons {F : ℕ → ℝ} {off : ℕ} (j : (⟨2, ![n, m]⟩ : Shape).Idx) (x : (⟨2, ![w, m]⟩ : Shape).Idx → EReal)
    (q : (s : Shape) × (s.Idx → EReal)) (xs : List ((s : Shape) × (s.Idx → EReal))) (hs) (c : ℕ) (hc)
    (hx : ∀ i : (⟨2, ![w, m]⟩ : Shape).Idx, (i 1).val = (j 1).val → x i = ((F (off + (i 0).val) : ℝ) : EReal))
    (hr : ∀ hs' c' hc', concatenateAt ⟨2, ![n, m]⟩ 0 j (q :: xs) hs' c' hc' = ((F (off + w + c') : ℝ) : EReal)) :
    concatenateAt ⟨2, ![n, m]⟩ 0 j (⟨⟨2, ![w, m]⟩, x⟩ :: q :: xs) hs c hc = ((F (off + c) : ℝ) : EReal) := by
  rw [concatenateAt_cons]
  split_ifs with e
  · exact hx _ rfl
  · rw [hr]
    have e' : w ≤ c := Nat.le_of_not_lt e
    show ((F (off + w + (c - w)) : ℝ) : EReal) = _
    rw [show off + w + (c - w) = off + c by omega]

theorem catAt0_one {F : ℕ → ℝ} {off : ℕ} (j : (⟨2, ![n, m]⟩ : Shape).Idx) (x : (⟨2, ![w, m]⟩ : Shape).Idx → EReal)
    (hs) (c : ℕ) (hc)
    (hx : ∀ i : (⟨2, ![w, m]⟩ : Shape).Idx, (i 1).val = (j 1).val → x i = ((F (off + (i 0).val) : ℝ) : EReal)) :
    concatenateAt ⟨2, ![n, m]⟩ 0 j [⟨⟨2, ![w, m]⟩, x⟩] hs c hc = ((F (off + c) : ℝ) : EReal) := by
  rw [concatenateAt_singleton]
  exact hx _ rfl

variable (F : ℕ → ℕ → ℝ)

theorem R2.at1 {F : ℕ → ℕ → ℝ} {g : ℕ → ℕ → ℝ} {off : ℕ} {x : (⟨2, ![n, w]⟩ : Shape).Idx → EReal} (h : R2 x g)
    (e : ∀ i j, i < n → j < w → g i j = F i (off + j)) {r : ℕ} :
    ∀ i : (⟨2, ![n, w]⟩ : Shape).Idx, (i 0).val = r → x i = ((F r (off + (i 1).val) : ℝ) : EReal) :=
  fun i hi => by rw [h i, e _ _ (i 0).isLt (i 1).isLt, hi]

theorem R2.at0 {F : ℕ → ℕ → ℝ} {g : ℕ → ℕ → ℝ} {off : ℕ} {x : (⟨2, ![w, m]⟩ : Shape).Idx → EReal} (h : R2 x g)
    (e : ∀ i j, i < w → j < m → g i j = F (off + i) j) {r : ℕ} :
    ∀ i : (⟨2, ![w, m]⟩ : Shape).Idx, (i 1).val = r → x i = ((F (off + (i 0).val) r : ℝ) : EReal) :=
  fun i hi => by rw [h i, e _ _ (i 0).isLt (i 1).isLt, hi]

/-- Four blocks of one width side by side. -/
theorem R2.cat4 {x0 x1 x2 x3 : (⟨2, ![n, w]⟩ : Shape).Idx → EReal} {f0 f1 f2 f3 : ℕ → ℕ → ℝ}
    (h0 : R2 x0 f0) (h1 : R2 x1 f1) (h2 : R2 x2 f2) (h3 : R2 x3 f3)
    (h : Shape.Concatenates [⟨2, ![n, w]⟩, ⟨2, ![n, w]⟩, ⟨2, ![n, w]⟩, ⟨2, ![n, w]⟩] ⟨2, ![n, m]⟩ 1)
    (e0 : ∀ i j, i < n → j < w → f0 i j = F i (0 + j)) (e1 : ∀ i j, i < n → j < w → f1 i j = F i (0 + w + j))
    (e2 : ∀ i j, i < n → j < w → f2 i j = F i (0 + w + w + j)) (e3 : ∀ i j, i < n → j < w → f3 i j = F i (0 + w + w + w + j)) :
    R2 (concatenate ⟨2, ![n, m]⟩ 1 [⟨⟨2, ![n, w]⟩, x0⟩, ⟨⟨2, ![n, w]⟩, x1⟩, ⟨⟨2, ![n, w]⟩, x2⟩, ⟨⟨2, ![n, w]⟩, x3⟩] h) F :=
  fun j => by
    rw [concatenate_apply]
    refine (catAt1_cons (F := F (j 0).val) (off := 0) j x0 _ _ _ _ _ (h0.at1 e0) fun _ _ _ =>
      catAt1_cons j x1 _ _ _ _ _ (h1.at1 e1) fun _ _ _ => catAt1_cons j x2 _ _ _ _ _ (h2.at1 e2) fun _ _ _ =>
      catAt1_one j x3 _ _ _ (h3.at1 e3)).trans ?_
    rw [zero_add]

/-- Four blocks of one width and a fifth side by side. -/
theorem R2.cat5 {x0 x1 x2 x3 : (⟨2, ![n, w]⟩ : Shape).Idx → EReal} {x4 : (⟨2, ![n, l]⟩ : Shape).Idx → EReal}
    {f0 f1 f2 f3 f4 : ℕ → ℕ → ℝ} (h0 : R2 x0 f0) (h1 : R2 x1 f1) (h2 : R2 x2 f2) (h3 : R2 x3 f3) (h4 : R2 x4 f4)
    (h : Shape.Concatenates [⟨2, ![n, w]⟩, ⟨2, ![n, w]⟩, ⟨2, ![n, w]⟩, ⟨2, ![n, w]⟩, ⟨2, ![n, l]⟩] ⟨2, ![n, m]⟩ 1)
    (e0 : ∀ i j, i < n → j < w → f0 i j = F i (0 + j)) (e1 : ∀ i j, i < n → j < w → f1 i j = F i (0 + w + j))
    (e2 : ∀ i j, i < n → j < w → f2 i j = F i (0 + w + w + j)) (e3 : ∀ i j, i < n → j < w → f3 i j = F i (0 + w + w + w + j))
    (e4 : ∀ i j, i < n → j < l → f4 i j = F i (0 + w + w + w + w + j)) :
    R2 (concatenate ⟨2, ![n, m]⟩ 1
      [⟨⟨2, ![n, w]⟩, x0⟩, ⟨⟨2, ![n, w]⟩, x1⟩, ⟨⟨2, ![n, w]⟩, x2⟩, ⟨⟨2, ![n, w]⟩, x3⟩, ⟨⟨2, ![n, l]⟩, x4⟩] h) F :=
  fun j => by
    rw [concatenate_apply]
    refine (catAt1_cons (F := F (j 0).val) (off := 0) j x0 _ _ _ _ _ (h0.at1 e0) fun _ _ _ =>
      catAt1_cons j x1 _ _ _ _ _ (h1.at1 e1) fun _ _ _ => catAt1_cons j x2 _ _ _ _ _ (h2.at1 e2) fun _ _ _ =>
      catAt1_cons j x3 _ _ _ _ _ (h3.at1 e3) fun _ _ _ => catAt1_one j x4 _ _ _ (h4.at1 e4)).trans ?_
    rw [zero_add]

/-- Two blocks side by side. -/
theorem R2.cat2 {x0 : (⟨2, ![n, w]⟩ : Shape).Idx → EReal} {x1 : (⟨2, ![n, l]⟩ : Shape).Idx → EReal} {f0 f1 : ℕ → ℕ → ℝ}
    (h0 : R2 x0 f0) (h1 : R2 x1 f1) (h : Shape.Concatenates [⟨2, ![n, w]⟩, ⟨2, ![n, l]⟩] ⟨2, ![n, m]⟩ 1)
    (e0 : ∀ i j, i < n → j < w → f0 i j = F i (0 + j)) (e1 : ∀ i j, i < n → j < l → f1 i j = F i (0 + w + j)) :
    R2 (concatenate ⟨2, ![n, m]⟩ 1 [⟨⟨2, ![n, w]⟩, x0⟩, ⟨⟨2, ![n, l]⟩, x1⟩] h) F :=
  fun j => by
    rw [concatenate_apply]
    refine (catAt1_cons (F := F (j 0).val) (off := 0) j x0 _ _ _ _ _ (h0.at1 e0) fun _ _ _ =>
      catAt1_one j x1 _ _ _ (h1.at1 e1)).trans ?_
    rw [zero_add]

/-- Two blocks one above the other. -/
theorem R2.stack2 {x0 : (⟨2, ![w, m]⟩ : Shape).Idx → EReal} {x1 : (⟨2, ![l, m]⟩ : Shape).Idx → EReal} {f0 f1 : ℕ → ℕ → ℝ}
    (h0 : R2 x0 f0) (h1 : R2 x1 f1) (h : Shape.Concatenates [⟨2, ![w, m]⟩, ⟨2, ![l, m]⟩] ⟨2, ![n, m]⟩ 0)
    (e0 : ∀ i j, i < w → j < m → f0 i j = F (0 + i) j) (e1 : ∀ i j, i < l → j < m → f1 i j = F (0 + w + i) j) :
    R2 (concatenate ⟨2, ![n, m]⟩ 0 [⟨⟨2, ![w, m]⟩, x0⟩, ⟨⟨2, ![l, m]⟩, x1⟩] h) F :=
  fun j => by
    rw [concatenate_apply]
    refine (catAt0_cons (F := fun i => F i (j 1).val) (off := 0) j x0 _ _ _ _ _ (h0.at0 e0) fun _ _ _ =>
      catAt0_one (F := fun i => F i (j 1).val) j x1 _ _ _ (h1.at0 e1)).trans ?_
    rw [zero_add]

/-- Four blocks of one height one above the other. -/
theorem R2.stack4 {x0 x1 x2 x3 : (⟨2, ![w, m]⟩ : Shape).Idx → EReal} {f0 f1 f2 f3 : ℕ → ℕ → ℝ}
    (h0 : R2 x0 f0) (h1 : R2 x1 f1) (h2 : R2 x2 f2) (h3 : R2 x3 f3)
    (h : Shape.Concatenates [⟨2, ![w, m]⟩, ⟨2, ![w, m]⟩, ⟨2, ![w, m]⟩, ⟨2, ![w, m]⟩] ⟨2, ![n, m]⟩ 0)
    (e0 : ∀ i j, i < w → j < m → f0 i j = F (0 + i) j) (e1 : ∀ i j, i < w → j < m → f1 i j = F (0 + w + i) j)
    (e2 : ∀ i j, i < w → j < m → f2 i j = F (0 + w + w + i) j) (e3 : ∀ i j, i < w → j < m → f3 i j = F (0 + w + w + w + i) j) :
    R2 (concatenate ⟨2, ![n, m]⟩ 0 [⟨⟨2, ![w, m]⟩, x0⟩, ⟨⟨2, ![w, m]⟩, x1⟩, ⟨⟨2, ![w, m]⟩, x2⟩, ⟨⟨2, ![w, m]⟩, x3⟩] h) F :=
  fun j => by
    rw [concatenate_apply]
    refine (catAt0_cons (F := fun i => F i (j 1).val) (off := 0) j x0 _ _ _ _ _ (h0.at0 e0) fun _ _ _ =>
      catAt0_cons (F := fun i => F i (j 1).val) j x1 _ _ _ _ _ (h1.at0 e1) fun _ _ _ =>
      catAt0_cons (F := fun i => F i (j 1).val) j x2 _ _ _ _ _ (h2.at0 e2) fun _ _ _ =>
      catAt0_one (F := fun i => F i (j 1).val) j x3 _ _ _ (h3.at0 e3)).trans ?_
    rw [zero_add]

end Cat

/-! ### Choices -/

/-- A choice by a column's place. -/
theorem R2.pick {c : IVec ⟨2, ![n, m]⟩ 1} {p : ℕ → ℕ → Prop} [∀ i j, Decidable (p i j)]
    {a b : (⟨2, ![n, m]⟩ : Shape).Idx → EReal} {f g : ℕ → ℕ → ℝ}
    (hc : ∀ i, c i = if p (i 0).val (i 1).val then 1#1 else 0#1) (ha : R2 a f) (hb : R2 b g) :
    R2 (select c a b) (fun i j => if p i j then f i j else g i j) := fun i => by
  show (if c i = 1 then a i else b i) = _
  rw [hc, ha, hb]
  by_cases h : p (i 0).val (i 1).val
  · simp only [if_pos h]; rfl
  · simp only [if_neg h]; rfl

end MixBwd
-- ==== Proof.Pay1.lean ====
/-
  The kernel's forward values on a tile: from the tile's blocks to the normed gate half, with the GELU and its derivative.
-/
module

public import proofs.«01_k».proof.Proof.Tile
public import proofs.«01_k».proof.Proof.Spec
public import proofs.«01_k».proof.Proof.Gen.KernelIdeal.Value

@[expose] public section

set_option maxRecDepth 65536

noncomputable section

namespace MixBwd

open Idealize.ShloMosaic Idealize.SL.Sem Cert.KernelIdeal Cert.KernelIdeal.Gen

variable {P : Params} {b : ℕ}

theorem k_1024 : Scalar.ofBits (F := Ideal) .f32 0x44800000#32 = ((1024 : ℝ) : EReal) := w_1024
theorem k_512 : Scalar.ofBits (F := Ideal) .f32 0x44000000#32 = ((512 : ℝ) : EReal) := w_512
theorem k_eps : Scalar.ofBits (F := Ideal) .f32 0x358637BD#32 = ((eps : ℝ) : EReal) := w_eps
theorem k_one : Scalar.ofBits (F := Ideal) .f32 0x3F800000#32 = ((1 : ℝ) : EReal) := w_one
theorem k_half : Scalar.ofBits (F := Ideal) .f32 0x3F000000#32 = ((1 / 2 : ℝ) : EReal) := w_half
theorem k_gk : Scalar.ofBits (F := Ideal) .f32 0x3F4C422A#32 = ((gk : ℝ) : EReal) := w_gk
theorem k_ga : Named.named (F := Ideal) κ "gelu_a" (φ := .f32) 0x3D372713#32 = ((ga : ℝ) : EReal) :=
  IdealRules.named_const.ideal_named_scalar _ _ _ _ rfl
theorem k_ga3 : Named.named (F := Ideal) κ "gelu_3a" (φ := .f32) 0x3E095D4F#32 = ((3 * ga : ℝ) : EReal) := by
  refine (IdealRules.named_const.ideal_named_scalar _ _ _ _ rfl).trans ?_
  unfold ga
  norm_num

variable {x : FVec Ideal S512x1024 .f32}

theorem p31 (hx : R2 x (fun i j => P.x (b + i) j)) : R2 (k0_pay31 (F := Ideal) x) (fun i _ => P.r (b + i)) :=
  (R2.rsqrt (((hx.mul hx).rowSum _ _ _ _).div (R2.const k_1024) (fun _ _ => by norm_num) |>.add (R2.const k_eps))
    fun i _ _ _ => P.ms_pos (b + i))

theorem p32 (hx : R2 x (fun i j => P.x (b + i) j)) : R2 (k0_pay32 (F := Ideal) x) (fun i j => P.xn (b + i) j) :=
  hx.mul ((p31 hx).column _)

variable {gn sc sh : FVec Ideal S1x1024 .f32}

theorem p33 (hx : R2 x (fun i j => P.x (b + i) j)) (hg : R2 gn (fun _ j => P.gn j)) :
    R2 (k0_pay33 (F := Ideal) gn x) (fun i j => P.hp (b + i) j) :=
  (p32 hx).mul ((hg.cast _).row _)

theorem p191 (hs : R2 sc (fun _ j => P.scale j)) : R2 (k0_pay191 (F := Ideal) sc) (fun _ j => 1 + P.scale j) :=
  (R2.const k_one).add hs

theorem p34 (hx : R2 x (fun i j => P.x (b + i) j)) (hg : R2 gn (fun _ j => P.gn j)) (hs : R2 sc (fun _ j => P.scale j))
    (hh : R2 sh (fun _ j => P.shift j)) : R2 (k0_pay34 (F := Ideal) gn sc sh x) (fun i j => P.h (b + i) j) :=
  ((p33 hx hg).mul (((R2.const k_one).add (hs.cast _)).row _)).add ((hh.cast _).row _)

/-! ### GELU -/

variable {z : FVec Ideal S512x1024 .f32} {Z : ℕ → ℕ → ℝ}

theorem p40 (hz : R2 z Z) : R2 (k0_pay40 (F := Ideal) z) (fun i j => gt (Z i j)) :=
  ((R2.const k_gk).mul ((hz.cast _).add (((R2.const k_ga).mul (hz.cast _)).mul ((hz.cast _).mul (hz.cast _))))).tanh.congr
    fun i j _ _ => by unfold gt; ring_nf

theorem p41 (hz : R2 z Z) : R2 (k0_pay41 (F := Ideal) z) (fun i j => ge (Z i j)) :=
  (((R2.const k_half).mul (hz.cast _)).mul ((R2.const k_one).add (p40 hz))).congr fun i j _ _ => by unfold ge; ring

theorem p43 (hz : R2 z Z) : R2 (k0_pay43 (F := Ideal) (k0_pay38 z) (k0_pay39 z) (k0_pay40 z) (k0_pay42 z)) (fun i j => gd (Z i j)) :=
  ((R2.const k_half).mul ((R2.const k_one).add (p40 hz))).add
    ((((R2.const k_half).mul (hz.cast _)).mul ((R2.const k_one).sub ((p40 hz).mul (p40 hz)))).mul
      ((R2.const k_gk).mul ((R2.const k_one).add ((R2.const k_ga3).mul ((hz.cast _).mul (hz.cast _))))))

/-! ### The gate half's norm -/

/-- The GELU's output on the tile: both halves. -/
def gz (P : Params) (b : ℕ) (i j : ℕ) : ℝ := ge (P.zb (b + i) j)

variable {g : FVec Ideal S512x1024 .f32}

theorem p44 (hg : R2 g (gz P b)) : R2 (k0_pay44 (F := Ideal) g) (fun i j => P.u (b + i) j) :=
  (hg.slice slices_S512x1024_o0_0_S512x512).congr fun i j _ _ => by rw [zero_add, zero_add]; rfl

theorem p45 (hg : R2 g (gz P b)) : R2 (k0_pay45 (F := Ideal) g) (fun i j => P.vc (b + i) j) := by
  have h1 := (hg.slice (n' := 512) (m' := 512) (r := 0) (c := 512) slices_S512x1024_o0_512_S512x512).congr
    (g := fun i j => P.v (b + i) j) fun i j _ _ => by rw [zero_add]; rfl
  exact h1.sub (((h1.rowSum _ _ _ _).div (R2.const k_512) fun _ _ => by norm_num).column _)

theorem p46 (hg : R2 g (gz P b)) : R2 (k0_pay46 (F := Ideal) g) (fun i _ => P.rs (b + i)) :=
  (R2.rsqrt ((((p45 hg).mul (p45 hg)).rowSum _ _ _ _).div (R2.const k_512) (fun _ _ => by norm_num) |>.add (R2.const k_eps))
    fun i _ _ _ => P.var_pos (b + i))

theorem p47 (hg : R2 g (gz P b)) : R2 (k0_pay47 (F := Ideal) g) (fun i j => P.vh (b + i) j) :=
  (p45 hg).mul ((p46 hg).column _)

/-- The three vectors of the gated branch, in rows. -/
def vecs (P : Params) (i j : ℕ) : ℝ := if i = 0 then P.ps j else if i = 1 then P.lg j else if i = 2 then P.lb j else 0

variable {vc : FVec Ideal S8x512 .f32}

theorem p37 (hv : R2 vc (vecs P)) : R2 (k0_pay37 (F := Ideal) vc) (fun _ j => P.ps j) :=
  (hv.slice slices_S8x512_o0_0_S1x512).congr fun i j hi _ => by
    rw [show i = 0 by omega, zero_add, zero_add]; rfl

theorem p48 (hv : R2 vc (vecs P)) (hg : R2 g (gz P b)) : R2 (k0_pay48 (F := Ideal) vc g) (fun i j => P.vl (b + i) j) := by
  have h1 := (hv.slice (n' := 1) (m' := 512) (r := 1) (c := 0) slices_S8x512_o1_0_S1x512).congr
    (g := fun _ j => P.lg j) fun i j hi _ => by rw [show i = 0 by omega, zero_add]; rfl
  have h2 := (hv.slice (n' := 1) (m' := 512) (r := 2) (c := 0) slices_S8x512_o2_0_S1x512).congr
    (g := fun _ j => P.lb j) fun i j hi _ => by rw [show i = 0 by omega, zero_add]; rfl
  exact ((p47 hg).mul (h1.row _)).add (h2.row _)

/-! ### The pooled half -/

variable {pl : FVec Ideal S512x512 .f32} {w0 w1 w2 w3 : (⟨3, ![1, 128, 128]⟩ : Shape).Idx → EReal}

theorem mixed_block {pl : (⟨2, ![512, 512]⟩ : Shape).Idx → EReal} {w : (⟨3, ![1, 128, 128]⟩ : Shape).Idx → EReal} {G k o : ℕ}
    (hp : R2 pl (fun i j => P.pooled (b + i) j)) (hw : R3 w (fun _ i j => P.wpool k i j)) (ho : o = 128 * k)
    (h1 : (⟨2, ![512, 512]⟩ : Shape).Slices ![0, o] ⟨2, ![512, 128]⟩) (h2 : (⟨3, ![1, 128, 128]⟩ : Shape).ShapeCasts ⟨2, ![128, 128]⟩)
    (wf : DotDims.WF ⟨2, ![512, 128]⟩ ⟨2, ![128, 128]⟩ ⟨2, ![512, 128]⟩ [1] [0] [0] [1] [] []) (hG : G = o) :
    R2 (Ideal.matmul ⟨[1], [0], [0], [1], [], [], wf⟩ (extractStridedSlice ⟨2, ![512, 128]⟩ ![0, o] pl h1)
      (shapeCast ⟨2, ![128, 128]⟩ w h2) (constant (F := Ideal) ⟨2, ![512, 128]⟩ .f32 0x00000000#32))
      (fun i j => if j < 128 then P.mixed (b + i) (G + j) else 0) :=
  ((hp.slice h1).mm (hw.drop h2) wf).congr fun i j _ hj => by
    subst hG ho
    rw [if_pos hj]
    unfold Params.mixed
    rw [show (128 * k + j) / 128 = k by omega, show (128 * k + j) % 128 = j by omega]
    simp only [zero_add]

theorem p36 {pl : (⟨2, ![512, 512]⟩ : Shape).Idx → EReal} (hp : R2 pl (fun i j => P.pooled (b + i) j))
    (h0 : R3 w0 (fun _ i j => P.wpool 0 i j)) (h1 : R3 w1 (fun _ i j => P.wpool 1 i j))
    (h2 : R3 w2 (fun _ i j => P.wpool 2 i j)) (h3 : R3 w3 (fun _ i j => P.wpool 3 i j)) :
    R2 (k0_pay36 (F := Ideal) pl w0 w1 w2 w3) (fun i j => P.mixed (b + i) j) :=
  R2.cat4 (n := 512) (m := 512) (w := 128) (fun i j => P.mixed (b + i) j)
    (mixed_block (G := 0) (hp.cast _) h0 rfl slices_S512x512_o0_0_S512x128 _ _ rfl)
    (mixed_block (G := 128) (hp.cast _) h1 rfl slices_S512x512_o0_128_S512x128 _ _ rfl)
    (mixed_block (G := 256) (hp.cast _) h2 rfl slices_S512x512_o0_256_S512x128 _ _ rfl)
    (mixed_block (G := 384) (hp.cast _) h3 rfl slices_S512x512_o0_384_S512x128 _ _ rfl) concatenates_S512x128_S512x128_S512x128_S512x128_S512x512_d1
    (fun _ _ _ h => if_pos h) (fun _ _ _ h => if_pos h) (fun _ _ _ h => if_pos h) (fun _ _ _ h => if_pos h)

end MixBwd
-- ==== Proof.Pay2.lean ====
/-
  The spatial products on a tile. Two heads of 64 columns share a block of 128: the kernel puts the block's four row
  groups side by side, once with the upper head's columns zeroed and once with the lower's, and multiplies the two,
  stacked, by the two heads' weights side by side.
-/
module

public import proofs.«01_k».proof.Proof.Pay1

@[expose] public section

set_option maxRecDepth 65536

noncomputable section

namespace MixBwd

open Idealize.ShloMosaic Idealize.SL.Sem Cert.KernelIdeal Cert.KernelIdeal.Gen

/-- The mask of a block's lower head. -/
theorem lane (i : S128x128.Idx) : k0_pay53 i = if (i 1).val < 64 then 1#1 else 0#1 := by
  have hi : (i 1).val < 128 := (i 1).isLt
  show IntOp.cmpi .slt (iota .tc S128x128 32 [1] iota_S128x128_d1_w32 i) (BitVec.ofNat 32 64) = _
  rw [show iota .tc S128x128 32 [1] iota_S128x128_d1_w32 i = BitVec.ofNat 32 (i 1).val by rw [WordCmp.iota_at]; simp, WordCmp.cmpi_slt_ofNat (by norm_num; omega) (by norm_num)]
  by_cases h : (i 1).val < 64 <;> simp [h]

variable {L : ℕ → ℕ → ℝ} {a0 a1 a2 a3 : FVec Ideal S128x128 .f32} {k : IVec S128x128 1}

/-- The lower head's columns. -/
def lower (L : ℕ → ℕ → ℝ) (i n : ℕ) : ℝ := if n % 128 < 64 then L (128 * (n / 128) + i) (n % 128) else 0
/-- The upper head's columns. -/
def upper (L : ℕ → ℕ → ℝ) (i n : ℕ) : ℝ := if n % 128 < 64 then 0 else L (128 * (n / 128) + i) (n % 128)

theorem lower_r (hk : ∀ i, k i = if (i 1).val < 64 then 1#1 else 0#1) (h0 : R2 a0 (fun i j => L (0 + i) j))
    (h1 : R2 a1 (fun i j => L (128 + i) j)) (h2 : R2 a2 (fun i j => L (256 + i) j)) (h3 : R2 a3 (fun i j => L (384 + i) j)) :
    R2 (k0_pay158 (F := Ideal) a0 a1 a2 a3 k (Scalar.ofBits (F := Ideal) .f32 0x00000000#32)) (lower L) :=
  R2.cat4 (n := 128) (m := 512) (w := 128) (lower L)
    (R2.pick (p := fun _ j => j < 64) hk h0 R2.zero) (R2.pick (p := fun _ j => j < 64) hk h1 R2.zero)
    (R2.pick (p := fun _ j => j < 64) hk h2 R2.zero) (R2.pick (p := fun _ j => j < 64) hk h3 R2.zero)
    concatenates_S128x128_S128x128_S128x128_S128x128_S128x512_d1
    (fun i j _ hj => by
      unfold lower; rw [show (0 + j) % 128 = j by omega, show (0 + j) / 128 = 0 by omega])
    (fun i j _ hj => by
      unfold lower; rw [show (0 + 128 + j) % 128 = j by omega, show (0 + 128 + j) / 128 = 1 by omega])
    (fun i j _ hj => by
      unfold lower; rw [show (0 + 128 + 128 + j) % 128 = j by omega, show (0 + 128 + 128 + j) / 128 = 2 by omega])
    (fun i j _ hj => by
      unfold lower; rw [show (0 + 128 + 128 + 128 + j) % 128 = j by omega, show (0 + 128 + 128 + 128 + j) / 128 = 3 by omega])

theorem upper_r (hk : ∀ i, k i = if (i 1).val < 64 then 1#1 else 0#1) (h0 : R2 a0 (fun i j => L (0 + i) j))
    (h1 : R2 a1 (fun i j => L (128 + i) j)) (h2 : R2 a2 (fun i j => L (256 + i) j)) (h3 : R2 a3 (fun i j => L (384 + i) j)) :
    R2 (k0_pay159 (F := Ideal) a0 a1 a2 a3 k) (upper L) :=
  R2.cat4 (n := 128) (m := 512) (w := 128) (upper L)
    (R2.pick (p := fun _ j => j < 64) hk R2.zero h0) (R2.pick (p := fun _ j => j < 64) hk R2.zero h1)
    (R2.pick (p := fun _ j => j < 64) hk R2.zero h2) (R2.pick (p := fun _ j => j < 64) hk R2.zero h3)
    concatenates_S128x128_S128x128_S128x128_S128x128_S128x512_d1
    (fun i j _ hj => by
      unfold upper; rw [show (0 + j) % 128 = j by omega, show (0 + j) / 128 = 0 by omega])
    (fun i j _ hj => by
      unfold upper; rw [show (0 + 128 + j) % 128 = j by omega, show (0 + 128 + j) / 128 = 1 by omega])
    (fun i j _ hj => by
      unfold upper; rw [show (0 + 128 + 128 + j) % 128 = j by omega, show (0 + 128 + 128 + j) / 128 = 2 by omega])
    (fun i j _ hj => by
      unfold upper; rw [show (0 + 128 + 128 + 128 + j) % 128 = j by omega, show (0 + 128 + 128 + 128 + j) / 128 = 3 by omega])

/-- A sum over 256 in two halves. -/
theorem sum_256 (f : ℕ → ℝ) : ∑ i : Fin 256, f i = (∑ i : Fin 128, f i) + ∑ i : Fin 128, f (128 + i) := by
  rw [show (∑ i : Fin 256, f i) = ∑ i : Fin (128 + 128), f i from rfl, Fin.sum_univ_add]
  rfl

variable {W : ℕ → ℕ → ℝ} {w : FVec Ideal S1x128x256 .bf16} {t u : FVec Ideal S128x512 .f32}

/-- The two heads' product. -/
theorem pair_r (ht : R2 t (lower L)) (hu : R2 u (upper L)) (hw : R3 w (fun _ i j => W i j)) :
    R2 (matmul (F := Ideal) (φ₁ := .bf16) (φ₂ := .bf16) dot_S128x256_S256x512_S128x512_1_0_0_1_n_n none
      (shapeCast S128x256 w shapeCasts_S1x128x256_S128x256)
      (truncf .bf16 (concatenate S256x512 0 [⟨S128x512, t⟩, ⟨S128x512, u⟩] concatenates_S128x512_S128x512_S256x512_d0)
        bitsLt_bf16_f32)
      (constant S128x512 .f32 0x00000000#32))
      (fun i n => ∑ c : Fin 128, W i (128 * (n % 128 / 64) + c) * L (128 * (n / 128) + c) (n % 128)) := by
  have hs := R2.stack2 (n := 256) (m := 512) (w := 128) (l := 128)
    (fun r n => if r < 128 then lower L r n else upper L (r - 128) n) ht hu
    concatenates_S128x512_S128x512_S256x512_d0
    (fun i j hi _ => by rw [zero_add, if_pos hi])
    (fun i j hi _ => by rw [if_neg (by omega), show 0 + 128 + i - 128 = i by omega])
  have hm := (hw.drop shapeCasts_S1x128x256_S128x256).mm hs (by decide)
  refine R2.congr hm fun i n _ _ => ?_
  rw [sum_256 fun k => W i k * (if k < 128 then lower L k n else upper L (k - 128) n)]
  have e1 : ∀ c : Fin 128, W i c * (if c.val < 128 then lower L c n else upper L (c.val - 128) n) = W i c * lower L c n :=
    fun c => by rw [if_pos c.isLt]
  have e2 : ∀ c : Fin 128, W i (128 + c) * (if 128 + c.val < 128 then lower L (128 + c) n else upper L (128 + c.val - 128) n)
      = W i (128 + c) * upper L c n :=
    fun c => by rw [if_neg (by omega), show 128 + c.val - 128 = c.val by omega]
  rw [Finset.sum_congr rfl fun c _ => e1 c, Finset.sum_congr rfl fun c _ => e2 c]
  by_cases h : n % 128 < 64
  · have z : ∀ c : Fin 128, W i (128 + c) * upper L c n = 0 := fun c => by unfold upper; rw [if_pos h, mul_zero]
    rw [Finset.sum_congr rfl fun c _ => z c, Finset.sum_const_zero, add_zero]
    refine Finset.sum_congr rfl fun c _ => ?_
    unfold lower
    rw [if_pos h, show n % 128 / 64 = 0 by omega, mul_zero, zero_add]
  · have z : ∀ c : Fin 128, W i c * lower L c n = 0 := fun c => by unfold lower; rw [if_neg h, mul_zero]
    rw [Finset.sum_congr rfl fun c _ => z c, Finset.sum_const_zero, zero_add]
    refine Finset.sum_congr rfl fun c _ => ?_
    unfold upper
    rw [if_neg h, show n % 128 / 64 = 1 by omega, mul_one]

/-- What the two heads' product gives at row `s` of the tile. -/
def heads (W L : ℕ → ℕ → ℝ) (s j : ℕ) : ℝ := ∑ c : Fin 128, W (s % 128) (128 * (j / 64) + c) * L (128 * (s / 128) + c) j

variable {v : (⟨2, ![128, 512]⟩ : Shape).Idx → EReal}

/-- A group of 128 columns of the product. -/
theorem group_r (hv : R2 v (fun i n => ∑ c : Fin 128, W i (128 * (n % 128 / 64) + c) * L (128 * (n / 128) + c) (n % 128)))
    (q o : ℕ) (ho : o = 128 * q) (h : (⟨2, ![128, 512]⟩ : Shape).Slices ![0, o] ⟨2, ![128, 128]⟩) :
    R2 (extractStridedSlice ⟨2, ![128, 128]⟩ ![0, o] v h)
      (fun i j => ∑ c : Fin 128, W i (128 * (j % 128 / 64) + c) * L (128 * q + c) (j % 128)) :=
  (hv.slice h).congr fun i j _ hj => by
    subst ho
    rw [show (128 * q + j) % 128 = j % 128 by omega, show (128 * q + j) / 128 = q by omega, zero_add]

variable {C : ℕ → ℕ → ℝ} {bs : FVec Ideal S128x128 .f32}

theorem heads_at (i j q : ℕ) (s : ℕ) (hs : s = 128 * q + i) (hi : i < 128) (hj : j < 128) :
    ∑ c : Fin 128, W i (128 * (j % 128 / 64) + c) * L (128 * q + c) (j % 128) = heads W L s j := by
  unfold heads
  rw [show s % 128 = i by omega, show s / 128 = q by omega, Nat.mod_eq_of_lt hj]

/-- The spatial product of two heads, with the bias. -/
theorem p78' (ht : R2 t (lower L)) (hu : R2 u (upper L)) (hw : R3 w (fun _ i j => W i j)) (hb : R2 bs C)
    (p : FVec Ideal S128x512 .f32)
    (hp : p = matmul (F := Ideal) (φ₁ := .bf16) (φ₂ := .bf16) dot_S128x256_S256x512_S128x512_1_0_0_1_n_n none
      (shapeCast S128x256 w shapeCasts_S1x128x256_S128x256)
      (truncf .bf16 (concatenate S256x512 0 [⟨S128x512, t⟩, ⟨S128x512, u⟩] concatenates_S128x512_S128x512_S256x512_d0)
        bitsLt_bf16_f32)
      (constant S128x512 .f32 0x00000000#32)) :
    R2 (concatenate S512x128 0
      [⟨S128x128, addf (extractStridedSlice S128x128 ![0, 0] p slices_S128x512_o0_0_S128x128)
          (shapeCast S128x128 bs shapeCasts_S128x128_S128x128)⟩,
        ⟨S128x128, addf (extractStridedSlice S128x128 ![0, 128] p slices_S128x512_o0_128_S128x128)
          (shapeCast S128x128 bs shapeCasts_S128x128_S128x128)⟩,
        ⟨S128x128, addf (extractStridedSlice S128x128 ![0, 256] p slices_S128x512_o0_256_S128x128)
          (shapeCast S128x128 bs shapeCasts_S128x128_S128x128)⟩,
        ⟨S128x128, addf (extractStridedSlice S128x128 ![0, 384] p slices_S128x512_o0_384_S128x128)
          (shapeCast S128x128 bs shapeCasts_S128x128_S128x128)⟩]
      concatenates_S128x128_S128x128_S128x128_S128x128_S512x128_d0)
      (fun s j => heads W L s j + C (s % 128) j) := by
  have hv := pair_r ht hu hw
  rw [← hp] at hv
  have hb' := hb.cast shapeCasts_S128x128_S128x128
  exact R2.stack4 (n := 512) (m := 128) (w := 128) (fun s j => heads W L s j + C (s % 128) j)
    ((group_r hv 0 0 rfl slices_S128x512_o0_0_S128x128).add hb')
    ((group_r hv 1 128 rfl slices_S128x512_o0_128_S128x128).add hb')
    ((group_r hv 2 256 rfl slices_S128x512_o0_256_S128x128).add hb')
    ((group_r hv 3 384 rfl slices_S128x512_o0_384_S128x128).add hb')
    concatenates_S128x128_S128x128_S128x128_S128x128_S512x128_d0
    (fun i j hi hj => by
      beta_reduce
      rw [heads_at i j 0 (0 + i) (by omega) hi hj, show (0 + i) % 128 = i by omega])
    (fun i j hi hj => by
      beta_reduce
      rw [heads_at i j 1 (0 + 128 + i) (by omega) hi hj, show (0 + 128 + i) % 128 = i by omega])
    (fun i j hi hj => by
      beta_reduce
      rw [heads_at i j 2 (0 + 128 + 128 + i) (by omega) hi hj, show (0 + 128 + 128 + i) % 128 = i by omega])
    (fun i j hi hj => by
      beta_reduce
      rw [heads_at i j 3 (0 + 128 + 128 + 128 + i) (by omega) hi hj, show (0 + 128 + 128 + 128 + i) % 128 = i by omega])

/-- The same without a bias. -/
theorem p182' (ht : R2 t (lower L)) (hu : R2 u (upper L)) (hw : R3 w (fun _ i j => W i j))
    (p : FVec Ideal S128x512 .f32)
    (hp : p = matmul (F := Ideal) (φ₁ := .bf16) (φ₂ := .bf16) dot_S128x256_S256x512_S128x512_1_0_0_1_n_n none
      (shapeCast S128x256 w shapeCasts_S1x128x256_S128x256)
      (truncf .bf16 (concatenate S256x512 0 [⟨S128x512, t⟩, ⟨S128x512, u⟩] concatenates_S128x512_S128x512_S256x512_d0)
        bitsLt_bf16_f32)
      (constant S128x512 .f32 0x00000000#32)) :
    R2 (concatenate S512x128 0
      [⟨S128x128, extractStridedSlice S128x128 ![0, 0] p slices_S128x512_o0_0_S128x128⟩,
        ⟨S128x128, extractStridedSlice S128x128 ![0, 128] p slices_S128x512_o0_128_S128x128⟩,
        ⟨S128x128, extractStridedSlice S128x128 ![0, 256] p slices_S128x512_o0_256_S128x128⟩,
        ⟨S128x128, extractStridedSlice S128x128 ![0, 384] p slices_S128x512_o0_384_S128x128⟩]
      concatenates_S128x128_S128x128_S128x128_S128x128_S512x128_d0)
      (heads W L) := by
  have hv := pair_r ht hu hw
  rw [← hp] at hv
  exact R2.stack4 (n := 512) (m := 128) (w := 128) (heads W L)
    (group_r hv 0 0 rfl slices_S128x512_o0_0_S128x128) (group_r hv 1 128 rfl slices_S128x512_o0_128_S128x128)
    (group_r hv 2 256 rfl slices_S128x512_o0_256_S128x128) (group_r hv 3 384 rfl slices_S128x512_o0_384_S128x128)
    concatenates_S128x128_S128x128_S128x128_S128x128_S512x128_d0
    (fun i j hi hj => heads_at i j 0 _ (by omega) hi hj) (fun i j hi hj => heads_at i j 1 _ (by omega) hi hj)
    (fun i j hi hj => heads_at i j 2 _ (by omega) hi hj) (fun i j hi hj => heads_at i j 3 _ (by omega) hi hj)

/-! ### The spatial weights' gradient -/

/-- The row groups side by side. -/
def beside (L : ℕ → ℕ → ℝ) (i n : ℕ) : ℝ := L (128 * (n / 128) + i) (n % 128)

theorem beside_r (h0 : R2 a0 (fun i j => L (0 + i) j)) (h1 : R2 a1 (fun i j => L (128 + i) j))
    (h2 : R2 a2 (fun i j => L (256 + i) j)) (h3 : R2 a3 (fun i j => L (384 + i) j)) :
    R2 (k0_pay129 (F := Ideal) a0 a1 a2 a3) (beside L) :=
  R2.cat4 (n := 128) (m := 512) (w := 128) (beside L) h0 h1 h2 h3
    concatenates_S128x128_S128x128_S128x128_S128x128_S128x512_d1
    (fun i j _ hj => by
      unfold beside; rw [show (0 + j) % 128 = j by omega, show (0 + j) / 128 = 0 by omega])
    (fun i j _ hj => by
      unfold beside; rw [show (0 + 128 + j) % 128 = j by omega, show (0 + 128 + j) / 128 = 1 by omega])
    (fun i j _ hj => by
      unfold beside; rw [show (0 + 128 + 128 + j) % 128 = j by omega, show (0 + 128 + 128 + j) / 128 = 2 by omega])
    (fun i j _ hj => by
      unfold beside; rw [show (0 + 128 + 128 + 128 + j) % 128 = j by omega, show (0 + 128 + 128 + 128 + j) / 128 = 3 by omega])

/-- A sum over 512 columns, by groups of 128 and halves of 64. -/
theorem sum_512 (f : ℕ → ℝ) :
    ∑ n : Fin 512, f n = ∑ q : Fin 4, ((∑ c : Fin 64, f (128 * q + c)) + ∑ c : Fin 64, f (128 * q + 64 + c)) := by
  have h128 : ∀ g : ℕ → ℝ, ∑ c : Fin 128, g c = (∑ c : Fin 64, g c) + ∑ c : Fin 64, g (64 + c) := fun g => by
    rw [show (∑ i : Fin 128, g i) = ∑ i : Fin (64 + 64), g i from rfl, Fin.sum_univ_add]
    rfl
  have h : ∑ n : Fin 512, f n = ∑ q : Fin 4, ∑ c : Fin 128, f (128 * q + c) := by
    rw [show (∑ i : Fin 512, f i) = ∑ i : Fin (4 * 128), f i from rfl, ← (finProdFinEquiv (m := 4) (n := 128)).sum_comp,
      Fintype.sum_prod_type]
    refine Finset.sum_congr rfl fun q _ => Finset.sum_congr rfl fun c _ => congrArg f ?_
    show c.val + 128 * q.val = _
    omega
  rw [h]
  refine Finset.sum_congr rfl fun q _ => ?_
  rw [h128 fun c => f (128 * q + c)]
  simp only [add_assoc]

variable {L' : ℕ → ℕ → ℝ} {A : ℕ → ℕ → ℝ} {acc : FVec Ideal S1x128x128 .f32} {v' : FVec Ideal S128x512 .bf16}

/-- A tile's part of the lower head's gradient. -/
theorem lower_grad (ht : R2 t (lower L)) (hv : R2 v' (beside L')) (ha : R3 acc (fun _ i j => A i j)) :
    R3 (k0_pay163 (F := Ideal) t v' acc)
      (fun _ i j => A i j + ∑ q : Fin 4, ∑ c : Fin 64, L (128 * q + i) c * L' (128 * q + j) c) := by
  have h := R3.slab (R2.add (ha.drop shapeCasts_S1x128x128_S128x128) (ht.mmt hv (by decide)))
    shapeCasts_S128x128_S1x128x128
  refine R3.congr h fun _ i j _ _ _ => congrArg (A i j + ·) ?_
  rw [sum_512 fun n => lower L i n * beside L' j n]
  refine Finset.sum_congr rfl fun q _ => ?_
  have z : ∀ c : Fin 64, lower L i (128 * q + 64 + c) * beside L' j (128 * q + 64 + c) = 0 := fun c => by
    unfold lower; rw [if_neg (by omega), zero_mul]
  rw [Finset.sum_congr rfl fun c _ => z c, Finset.sum_const_zero, add_zero]
  refine Finset.sum_congr rfl fun c _ => ?_
  unfold lower beside
  rw [if_pos (by omega), show (128 * q.val + c.val) % 128 = c by omega, show (128 * q.val + c.val) / 128 = q by omega]

/-- A tile's part of the upper head's gradient. -/
theorem upper_grad (ht : R2 t (upper L)) (hv : R2 v' (beside L')) (ha : R3 acc (fun _ i j => A i j)) :
    R3 (k0_pay163 (F := Ideal) t v' acc)
      (fun _ i j => A i j + ∑ q : Fin 4, ∑ c : Fin 64, L (128 * q + i) (64 + c) * L' (128 * q + j) (64 + c)) := by
  have h := R3.slab (R2.add (ha.drop shapeCasts_S1x128x128_S128x128) (ht.mmt hv (by decide)))
    shapeCasts_S128x128_S1x128x128
  refine R3.congr h fun _ i j _ _ _ => congrArg (A i j + ·) ?_
  rw [sum_512 fun n => upper L i n * beside L' j n]
  refine Finset.sum_congr rfl fun q _ => ?_
  have z : ∀ c : Fin 64, upper L i (128 * q + c) * beside L' j (128 * q + c) = 0 := fun c => by
    unfold upper; rw [if_pos (by omega), zero_mul]
  rw [Finset.sum_congr rfl fun c _ => z c, Finset.sum_const_zero, zero_add]
  refine Finset.sum_congr rfl fun c _ => ?_
  unfold upper beside
  rw [if_neg (by omega), show (128 * q.val + 64 + c.val) % 128 = 64 + c by omega,
    show (128 * q.val + 64 + c.val) / 128 = q by omega]

end MixBwd
-- ==== Proof.Pay3.lean ====
/-
  The kernel's backward values on a tile, up to the gradients of the pooled half and of the spatial products.
-/
module

public import proofs.«01_k».proof.Proof.Pay2

@[expose] public section

set_option maxRecDepth 65536

noncomputable section

namespace MixBwd

open Idealize.ShloMosaic Idealize.SL.Sem Cert.KernelIdeal Cert.KernelIdeal.Gen

variable {P : Params} {b M : ℕ}

/-! ### The spatial product -/

theorem heads_sv (hb : b = 512 * M) (p s j : ℕ) (hj : j < 128) (o : ℕ) (ho : o = 128 * p) :
    heads (fun t k => P.wm (2 * p + k / 128) t (k % 128)) (fun i j => P.vl (b + i) (o + j)) s j
      + P.bsp ((o + j) / 64) (s % 128) = P.sv (b + s) (o + j) := by
  subst hb ho
  unfold heads Params.sv
  rw [show (512 * M + s) % 128 = s % 128 by omega, show (512 * M + s) / 128 = 4 * M + s / 128 by omega,
    show (128 * p + j) / 64 = 2 * p + j / 64 by omega]
  refine congrArg (· + _) (Finset.sum_congr rfl fun c _ => ?_)
  have := c.isLt
  beta_reduce
  rw [show (128 * (j / 64) + c.val) / 128 = j / 64 by omega, show (128 * (j / 64) + c.val) % 128 = c by omega,
    show 512 * M + (128 * (s / 128) + c.val) = 128 * (4 * M + s / 128) + c by omega]

theorem heads_dvl (hb : b = 512 * M) (p s j : ℕ) (hj : j < 128) (o : ℕ) (ho : o = 128 * p) :
    heads (fun t k => P.wm (2 * p + k / 128) (k % 128) t) (fun i j => P.dsv (b + i) (o + j)) s j
      = P.dvl (b + s) (o + j) := by
  subst hb ho
  unfold heads Params.dvl
  rw [show (512 * M + s) % 128 = s % 128 by omega, show (512 * M + s) / 128 = 4 * M + s / 128 by omega,
    show (128 * p + j) / 64 = 2 * p + j / 64 by omega]
  refine Finset.sum_congr rfl fun c _ => ?_
  have := c.isLt
  beta_reduce
  rw [show (128 * (j / 64) + c.val) / 128 = j / 64 by omega, show (128 * (j / 64) + c.val) % 128 = c by omega,
    show 512 * M + (128 * (s / 128) + c.val) = 128 * (4 * M + s / 128) + c by omega]

/-- Two heads' weights side by side. -/
def wc (P : Params) (p i k : ℕ) : ℝ := P.wm (2 * p + k / 128) i (k % 128)
/-- The same weights, each transposed. -/
def wt (P : Params) (p i k : ℕ) : ℝ := P.wm (2 * p + k / 128) (k % 128) i

variable {v d : FVec Ideal S512x512 .f32} {w0 w1 w2 w3 : FVec Ideal S1x128x256 .bf16} {c0 c1 c2 c3 : FVec Ideal S128x128 .f32}
variable {g : FVec Ideal S512x1024 .f32} {vc : FVec Ideal S8x512 .f32}

theorem p78 (hb : b = 512 * M) (hv : R2 (k0_pay48 (F := Ideal) vc g) (fun i j => P.vl (b + i) j))
    (hw0 : R3 w0 (fun _ i j => wc P 0 i j)) (hw1 : R3 w1 (fun _ i j => wc P 1 i j))
    (hw2 : R3 w2 (fun _ i j => wc P 2 i j)) (hw3 : R3 w3 (fun _ i j => wc P 3 i j))
    (hc0 : R2 c0 (fun t k => P.bsp ((0 + k) / 64) t)) (hc1 : R2 c1 (fun t k => P.bsp ((128 + k) / 64) t))
    (hc2 : R2 c2 (fun t k => P.bsp ((256 + k) / 64) t)) (hc3 : R2 c3 (fun t k => P.bsp ((384 + k) / 64) t)) :
    R2 (k0_pay78 (F := Ideal)
      (k0_pay54 (k0_pay49 vc g) (k0_pay50 vc g) (k0_pay51 vc g) (k0_pay52 vc g) k0_pay53 (FloatOps.ofBits FTy.f32 0#32) w0 c0)
      (k0_pay62 (k0_pay55 (k0_pay48 vc g)) (k0_pay56 (k0_pay48 vc g)) (k0_pay57 (k0_pay48 vc g)) (k0_pay58 (k0_pay48 vc g))
        k0_pay59 (k0_pay60 (k0_pay48 vc g)) k0_pay61 w1 c1)
      (k0_pay71 (k0_pay63 (k0_pay48 vc g)) (k0_pay64 (k0_pay48 vc g)) (k0_pay65 (k0_pay48 vc g)) (k0_pay66 (k0_pay48 vc g))
        k0_pay67 (k0_pay68 (k0_pay48 vc g)) (k0_pay69 (k0_pay48 vc g)) (k0_pay70 (k0_pay48 vc g)) w2 c2)
      (k0_pay72 (k0_pay48 vc g)) (k0_pay73 (k0_pay48 vc g)) (k0_pay74 (k0_pay48 vc g)) (k0_pay75 (k0_pay48 vc g))
      k0_pay76 (k0_pay77 (k0_pay48 vc g)) w3 c3) (fun i j => P.sv (b + i) j) := by
  generalize hV : k0_pay48 (F := Ideal) vc g = v at hv
  have b0 := p78' (lower_r (L := fun i j => P.vl (b + i) (0 + j)) lane (hv.slice slices_S512x512_o0_0_S128x128)
    (hv.slice slices_S512x512_o128_0_S128x128) (hv.slice slices_S512x512_o256_0_S128x128)
    (hv.slice slices_S512x512_o384_0_S128x128)) (upper_r (L := fun i j => P.vl (b + i) (0 + j)) lane
    (hv.slice slices_S512x512_o0_0_S128x128)
    (hv.slice slices_S512x512_o128_0_S128x128) (hv.slice slices_S512x512_o256_0_S128x128)
    (hv.slice slices_S512x512_o384_0_S128x128)) hw0 hc0 _ rfl
  have b1 := p78' (lower_r (L := fun i j => P.vl (b + i) (128 + j)) lane (hv.slice slices_S512x512_o0_128_S128x128)
    (hv.slice slices_S512x512_o128_128_S128x128) (hv.slice slices_S512x512_o256_128_S128x128)
    (hv.slice slices_S512x512_o384_128_S128x128)) (upper_r (L := fun i j => P.vl (b + i) (128 + j)) lane
    (hv.slice slices_S512x512_o0_128_S128x128)
    (hv.slice slices_S512x512_o128_128_S128x128) (hv.slice slices_S512x512_o256_128_S128x128)
    (hv.slice slices_S512x512_o384_128_S128x128)) hw1 hc1 _ rfl
  have b2 := p78' (lower_r (L := fun i j => P.vl (b + i) (256 + j)) lane (hv.slice slices_S512x512_o0_256_S128x128)
    (hv.slice slices_S512x512_o128_256_S128x128) (hv.slice slices_S512x512_o256_256_S128x128)
    (hv.slice slices_S512x512_o384_256_S128x128)) (upper_r (L := fun i j => P.vl (b + i) (256 + j)) lane
    (hv.slice slices_S512x512_o0_256_S128x128)
    (hv.slice slices_S512x512_o128_256_S128x128) (hv.slice slices_S512x512_o256_256_S128x128)
    (hv.slice slices_S512x512_o384_256_S128x128)) hw2 hc2 _ rfl
  have b3 := p78' (lower_r (L := fun i j => P.vl (b + i) (384 + j)) lane (hv.slice slices_S512x512_o0_384_S128x128)
    (hv.slice slices_S512x512_o128_384_S128x128) (hv.slice slices_S512x512_o256_384_S128x128)
    (hv.slice slices_S512x512_o384_384_S128x128)) (upper_r (L := fun i j => P.vl (b + i) (384 + j)) lane
    (hv.slice slices_S512x512_o0_384_S128x128)
    (hv.slice slices_S512x512_o128_384_S128x128) (hv.slice slices_S512x512_o256_384_S128x128)
    (hv.slice slices_S512x512_o384_384_S128x128)) hw3 hc3 _ rfl
  have key := R2.cat4 (n := 512) (m := 512) (w := 128) (fun i j => P.sv (b + i) j) b0 b1 b2 b3
    concatenates_S512x128_S512x128_S512x128_S512x128_S512x512_d1
    (fun i j _ hj => heads_sv hb 0 i j hj 0 rfl) (fun i j _ hj => heads_sv hb 1 i j hj 128 rfl)
    (fun i j _ hj => heads_sv hb 2 i j hj 256 rfl) (fun i j _ hj => heads_sv hb 3 i j hj 384 rfl)
  subst hV
  exact key

/-! ### The projection's gradient and the mixed gradient -/

variable {dxo : FVec Ideal S512x1024 .f32} {mx : FVec Ideal S512x512 .f32} {ps : FVec Ideal S1x512 .f32} {u : FVec Ideal S512x512 .f32}
variable {A : ℕ → ℕ → ℝ}

theorem p79 {v152 v193 v234 : FVec Ideal S512x128 .f32} {v235 v236 v237 v238 : FVec Ideal S128x128 .f32} {v241 : IVec S128x128 1}
    {v250 : FVec Ideal S128x512 .f32} {v262 : FVec Ideal S1x128x256 .bf16} {v265 : FVec Ideal S128x128 .f32}
    {acc : FVec Ideal S1024x1024 .f32} (hx : R2 dxo (fun i j => P.dxo (b + i) j)) (hm : R2 mx (fun i j => P.mixed (b + i) j))
    (hp : R2 ps (fun _ j => P.ps j)) (hu : R2 u (fun i j => P.u (b + i) j))
    (hs : R2 (k0_pay78 (F := Ideal) v152 v193 v234 v235 v236 v237 v238 v241 v250 v262 v265) (fun i j => P.sv (b + i) j))
    (ha : R2 acc A) :
    R2 (k0_pay79 (F := Ideal) dxo mx ps u v152 v193 v234 v235 v236 v237 v238 v241 v250 v262 v265 acc)
      (fun j e => A j e + ∑ i : Fin 512, P.cat (b + i) j * P.dxo (b + i) e) :=
  (ha.cast shapeCasts_S1024x1024_S1024x1024).add
    ((R2.cat2 (n := 512) (m := 1024) (w := 512) (l := 512) (fun i j => P.cat (b + i) j) (hm.mul (hp.row broadcasts_S1x512_S512x512))
      (hu.mul hs) concatenates_S512x512_S512x512_S512x1024_d1
      (fun i j _ hj => by
        beta_reduce
        unfold Params.cat
        rw [zero_add, if_pos hj])
      (fun i j _ hj => by
        beta_reduce
        unfold Params.cat Params.yb
        rw [if_neg (by omega), show 0 + 512 + j - 512 = j by omega])).tmm hx (by decide))

variable {gt' : FVec Ideal S1x1024 .f32} {dm : FVec Ideal S512x1024 .bf16} {wo : FVec Ideal S1024x1024 .bf16}

theorem p80 (hg : R2 gt' (fun _ j => P.gate j)) (hx : R2 dxo (fun i j => P.dxo (b + i) j)) :
    R2 (k0_pay80 (F := Ideal) gt' dxo) (fun i j => P.dm (b + i) j) :=
  hx.mul (hg.row broadcasts_S1x1024_S512x1024)

theorem p82 (hd : R2 dm (fun i j => P.dm (b + i) j)) (hw : R2 wo P.wout) :
    R2 (k0_pay82 (F := Ideal) dm wo) (fun i j => P.dcat (b + i) j) := hd.mmt hw (by decide)

theorem p83 (hd : R2 dm (fun i j => P.dm (b + i) j)) (hw : R2 wo P.wout) :
    R2 (k0_pay83 (F := Ideal) dm wo) (fun i j => P.dcat (b + i) j) :=
  ((p82 hd hw).slice slices_S512x1024_o0_0_S512x512).congr fun i j _ _ => by rw [zero_add, zero_add]

theorem p84 (hd : R2 dm (fun i j => P.dm (b + i) j)) (hw : R2 wo P.wout) :
    R2 (k0_pay84 (F := Ideal) dm wo) (fun i j => P.dyb (b + i) j) :=
  ((p82 hd hw).slice slices_S512x1024_o0_512_S512x512).congr fun i j _ _ => by rw [zero_add]; rfl

theorem p85 {acc : FVec Ideal S1x512 .f32} {A : ℕ → ℝ} (hm : R2 mx (fun i j => P.mixed (b + i) j))
    (hd : R2 dm (fun i j => P.dm (b + i) j)) (hw : R2 wo P.wout) (ha : R2 acc (fun _ j => A j)) :
    R2 (k0_pay85 (F := Ideal) mx dm wo acc) (fun _ j => A j + ∑ i : Fin 512, P.dcat (b + i) j * P.mixed (b + i) j) :=
  (ha.cast shapeCasts_S1x512_S1x512).add (((p83 hd hw).mul hm).colSum _ _ _ _)

theorem p86 (hp : R2 ps (fun _ j => P.ps j)) (hd : R2 dm (fun i j => P.dm (b + i) j)) (hw : R2 wo P.wout) :
    R2 (k0_pay86 (F := Ideal) ps dm wo) (fun i j => P.dmixed (b + i) j) :=
  (p83 hd hw).mul (hp.row broadcasts_S1x512_S512x512)

/-! ### The pooled half's gradient -/

theorem dpool_block {dx : (⟨2, ![512, 512]⟩ : Shape).Idx → EReal} {w : (⟨3, ![1, 128, 128]⟩ : Shape).Idx → EReal} {k o : ℕ}
    (hp : R2 dx (fun i j => P.dmixed (b + i) j)) (hw : R3 w (fun _ i j => P.wpool k i j)) (ho : o = 128 * k)
    (h1 : (⟨2, ![512, 512]⟩ : Shape).Slices ![0, o] ⟨2, ![512, 128]⟩) (h2 : (⟨3, ![1, 128, 128]⟩ : Shape).ShapeCasts ⟨2, ![128, 128]⟩)
    (wf : DotDims.WF ⟨2, ![512, 128]⟩ ⟨2, ![128, 128]⟩ ⟨2, ![512, 128]⟩ [1] [1] [0] [0] [] []) :
    R2 (Ideal.matmul ⟨[1], [1], [0], [0], [], [], wf⟩ (extractStridedSlice ⟨2, ![512, 128]⟩ ![0, o] dx h1)
      (shapeCast ⟨2, ![128, 128]⟩ w h2) (constant (F := Ideal) ⟨2, ![512, 128]⟩ .f32 0x00000000#32))
      (fun i j => P.dpool (b + i) (o + j)) :=
  ((hp.slice h1).mmt (hw.drop h2) wf).congr fun i j _ hj => by
    subst ho
    unfold Params.dpool
    rw [show (128 * k + j) / 128 = k by omega, show (128 * k + j) % 128 = j by omega]
    simp only [zero_add]

theorem dwpool_block {pl dx : (⟨2, ![512, 512]⟩ : Shape).Idx → EReal} {acc : (⟨3, ![1, 128, 128]⟩ : Shape).Idx → EReal} {o : ℕ}
    (hp : R2 pl (fun i j => P.pooled (b + i) j))
    (hd : R2 dx (fun i j => P.dmixed (b + i) j)) (ha : R3 acc (fun _ i j => A i j))
    (h1 : (⟨2, ![512, 512]⟩ : Shape).Slices ![0, o] ⟨2, ![512, 128]⟩) (h2 : (⟨3, ![1, 128, 128]⟩ : Shape).ShapeCasts ⟨2, ![128, 128]⟩)
    (h3 : (⟨2, ![128, 128]⟩ : Shape).ShapeCasts ⟨3, ![1, 128, 128]⟩)
    (wf : DotDims.WF ⟨2, ![512, 128]⟩ ⟨2, ![512, 128]⟩ ⟨2, ![128, 128]⟩ [0] [0] [1] [1] [] []) :
    R3 (shapeCast ⟨3, ![1, 128, 128]⟩ (addf (F := Ideal) (φ := .f32) (shapeCast ⟨2, ![128, 128]⟩ acc h2)
      (Ideal.matmul ⟨[0], [0], [1], [1], [], [], wf⟩ (extractStridedSlice ⟨2, ![512, 128]⟩ ![0, o] pl h1)
      (extractStridedSlice ⟨2, ![512, 128]⟩ ![0, o] dx h1) (constant (F := Ideal) ⟨2, ![128, 128]⟩ .f32 0x00000000#32))) h3)
      (fun _ c e => A c e + ∑ i : Fin 512, P.pooled (b + i) (o + c) * P.dmixed (b + i) (o + e)) :=
  (R3.slab (R2.add (ha.drop h2) ((hp.slice h1).tmm (hd.slice h1) wf)) h3).congr fun _ i j _ _ _ => by
    simp only [zero_add]

/-- The number of rows in the window that ends at each row. -/
theorem cnt_r {pos : IVec S512x1 32} {k : ℕ} (hk : k < 4) (hb : b + 512 ≤ 8192)
    (hpos : ∀ i, pos i = BitVec.ofNat 32 (b + (i 0).val)) (w : BitVec 32) (hw : w = BitVec.ofNat 32 (width k)) :
    R2 (sitofp (F := Ideal) .f32 (minsi (addi pos (broadcast S512x1 1#32)) (broadcast S512x1 w))) (fun i _ => cnt k (b + i)) :=
  fun i => by
    have hi : (i 0).val < 512 := (i 0).isLt
    show FloatOps.sitofp (F := Ideal) .f32 (IntOp.minsi (IntOp.addi (pos i) 1#32) w) = _
    rw [hpos]
    exact cnt_word k (b + (i 0).val) hk (by omega) w hw

/-- A pool group's gradient over its counts. -/
theorem q_block {pos : IVec S512x1 32} {k o : ℕ} {x : (⟨2, ![512, 128]⟩ : Shape).Idx → EReal} (hk : k < 4) (hb : b + 512 ≤ 8192)
    (hpos : ∀ i, pos i = BitVec.ofNat 32 (b + (i 0).val)) (w : BitVec 32) (hw : w = BitVec.ofNat 32 (width k)) (ho : o = 128 * k)
    (hx : R2 x (fun i j => P.dpool (b + i) (o + j))) (h : (⟨2, ![512, 1]⟩ : Shape).Broadcasts ⟨2, ![512, 128]⟩) :
    R2 (divf (F := Ideal) (φ := .f32) x (broadcastTo ⟨2, ![512, 128]⟩
      (sitofp (F := Ideal) .f32 (minsi (addi pos (broadcast S512x1 1#32)) (broadcast S512x1 w))) h))
      (fun i j => P.q (b + i) (o + j)) :=
  (hx.div ((cnt_r hk hb hpos w hw).column h) fun _ _ => (cnt_pos _ _).ne').congr fun i j _ hj => by
    subst ho
    unfold Params.q
    rw [show (128 * k + j) / 128 = k by omega]

variable {dx : FVec Ideal S512x512 .bf16} {pw : FVec Ideal S1x128x128 .bf16} {pos : IVec S512x1 32} {v0 : BitVec 32}

theorem p88 (hp : R2 ps (fun _ j => P.ps j)) (hd : R2 dm (fun i j => P.dm (b + i) j)) (hw : R2 wo P.wout)
    (hq : R3 pw (fun _ i j => P.wpool 0 i j)) :
    R2 (k0_pay88 (F := Ideal) ps dm wo pw) (fun i j => P.dpool (b + i) (0 + j)) :=
  dpool_block (p86 hp hd hw) hq rfl slices_S512x512_o0_0_S512x128 shapeCasts_S1x128x128_S128x128 (by decide)
theorem p92 (hx : R2 dx (fun i j => P.dmixed (b + i) j)) (hq : R3 pw (fun _ i j => P.wpool 1 i j)) :
    R2 (k0_pay92 (F := Ideal) dx pw) (fun i j => P.dpool (b + i) (128 + j)) :=
  dpool_block hx hq rfl slices_S512x512_o0_128_S512x128 shapeCasts_S1x128x128_S128x128 (by decide)
theorem p95 (hx : R2 dx (fun i j => P.dmixed (b + i) j)) (hq : R3 pw (fun _ i j => P.wpool 2 i j)) :
    R2 (k0_pay95 (F := Ideal) dx pw) (fun i j => P.dpool (b + i) (256 + j)) :=
  dpool_block hx hq rfl slices_S512x512_o0_256_S512x128 shapeCasts_S1x128x128_S128x128 (by decide)
theorem p101 (hx : R2 dx (fun i j => P.dmixed (b + i) j)) (hq : R3 pw (fun _ i j => P.wpool 3 i j)) :
    R2 (k0_pay101 (F := Ideal) dx pw) (fun i j => P.dpool (b + i) (384 + j)) :=
  dpool_block hx hq rfl slices_S512x512_o0_384_S512x128 shapeCasts_S1x128x128_S128x128 (by decide)

theorem p91 (hb : b + 512 ≤ 8192) (hpos : ∀ i, k0_pay87 v0 i = BitVec.ofNat 32 (b + (i 0).val))
    (hp : R2 ps (fun _ j => P.ps j)) (hd : R2 dm (fun i j => P.dm (b + i) j)) (hw : R2 wo P.wout)
    (hq : R3 pw (fun _ i j => P.wpool 0 i j)) :
    R2 (k0_pay91 (F := Ideal) (k0_pay90 v0 ps dm wo pw)) (fun i j => P.q (b + i) (0 + j)) :=
  (q_block (k := 0) (by omega) hb hpos 2#32 rfl rfl (p88 hp hd hw hq) broadcasts_S512x1_S512x128).cast
    shapeCasts_S512x128_S512x128
theorem p94 (hb : b + 512 ≤ 8192) (hpos : ∀ i, pos i = BitVec.ofNat 32 (b + (i 0).val))
    (hx : R2 dx (fun i j => P.dmixed (b + i) j)) (hq : R3 pw (fun _ i j => P.wpool 1 i j)) :
    R2 (k0_pay94 (F := Ideal) dx pos pw) (fun i j => P.q (b + i) (128 + j)) :=
  (q_block (k := 1) (by omega) hb hpos 4#32 rfl rfl (p92 hx hq) broadcasts_S512x1_S512x128).cast shapeCasts_S512x128_S512x128
theorem p100 (hb : b + 512 ≤ 8192) (hpos : ∀ i, pos i = BitVec.ofNat 32 (b + (i 0).val))
    (hx : R2 dx (fun i j => P.dmixed (b + i) j)) (hq : R3 pw (fun _ i j => P.wpool 2 i j)) :
    R2 (k0_pay100 (F := Ideal) pos (k0_pay95 dx pw)) (fun i j => P.q (b + i) (256 + j)) :=
  (q_block (k := 2) (by omega) hb hpos 8#32 rfl rfl (p95 hx hq) broadcasts_S512x1_S512x128).cast shapeCasts_S512x128_S512x128
theorem p104 (hb : b + 512 ≤ 8192) (hpos : ∀ i, pos i = BitVec.ofNat 32 (b + (i 0).val))
    (hx : R2 dx (fun i j => P.dmixed (b + i) j)) (hq : R3 pw (fun _ i j => P.wpool 3 i j)) :
    R2 (k0_pay104 (F := Ideal) (k0_pay103 dx pos pw)) (fun i j => P.q (b + i) (384 + j)) :=
  (q_block (k := 3) (by omega) hb hpos 16#32 rfl rfl (p101 hx hq) broadcasts_S512x1_S512x128).cast shapeCasts_S512x128_S512x128

variable {pl : FVec Ideal S512x512 .bf16} {acc : FVec Ideal S1x128x128 .f32}

theorem p89 (hl : R2 pl (fun i j => P.pooled (b + i) j)) (hp : R2 ps (fun _ j => P.ps j)) (hd : R2 dm (fun i j => P.dm (b + i) j))
    (hw : R2 wo P.wout) (ha : R3 acc (fun _ i j => A i j)) :
    R3 (k0_pay89 (F := Ideal) pl ps dm wo acc)
      (fun _ c e => A c e + ∑ i : Fin 512, P.pooled (b + i) (0 + c) * P.dmixed (b + i) (0 + e)) :=
  dwpool_block hl (p86 hp hd hw) ha slices_S512x512_o0_0_S512x128 shapeCasts_S1x128x128_S128x128 shapeCasts_S128x128_S1x128x128
    (by decide)
theorem p93 (hl : R2 pl (fun i j => P.pooled (b + i) j)) (hx : R2 dx (fun i j => P.dmixed (b + i) j))
    (ha : R3 acc (fun _ i j => A i j)) :
    R3 (k0_pay93 (F := Ideal) pl dx acc)
      (fun _ c e => A c e + ∑ i : Fin 512, P.pooled (b + i) (128 + c) * P.dmixed (b + i) (128 + e)) :=
  dwpool_block hl hx ha slices_S512x512_o0_128_S512x128 shapeCasts_S1x128x128_S128x128 shapeCasts_S128x128_S1x128x128 (by decide)
theorem p99 (hl : R2 pl (fun i j => P.pooled (b + i) j)) (hx : R2 dx (fun i j => P.dmixed (b + i) j))
    (ha : R3 acc (fun _ i j => A i j)) :
    R3 (k0_pay99 (F := Ideal) (k0_pay96 acc) (k0_pay97 pl) (k0_pay98 dx))
      (fun _ c e => A c e + ∑ i : Fin 512, P.pooled (b + i) (256 + c) * P.dmixed (b + i) (256 + e)) :=
  dwpool_block hl hx ha slices_S512x512_o0_256_S512x128 shapeCasts_S1x128x128_S128x128 shapeCasts_S128x128_S1x128x128 (by decide)
theorem p102 (hl : R2 pl (fun i j => P.pooled (b + i) j)) (hx : R2 dx (fun i j => P.dmixed (b + i) j))
    (ha : R3 acc (fun _ i j => A i j)) :
    R3 (k0_pay102 (F := Ideal) pl dx acc)
      (fun _ c e => A c e + ∑ i : Fin 512, P.pooled (b + i) (384 + c) * P.dmixed (b + i) (384 + e)) :=
  dwpool_block hl hx ha slices_S512x512_o0_384_S512x128 shapeCasts_S1x128x128_S128x128 shapeCasts_S128x128_S1x128x128 (by decide)

/-! ### The windows' gradients summed -/

/-- The queue at distance `k`, of a pool group. -/
abbrev Q (P : Params) (b o k : ℕ) (i j : ℕ) : ℝ := P.qz (b + (k + i)) (o + j)

theorem dxa_eq (g o i j w : ℕ) (hg : o = 128 * g) (hj : j < 128) (hw : w = width g) :
    P.dxa (b + i) (o + j) = (∑ k ∈ Finset.range w, Q P b o k i j) - P.dpool (b + i) (o + j) := by
  unfold Params.dxa
  subst hg
  rw [show (128 * g + j) / 128 = g by omega, ← hw]
  refine congrArg (· - _) (Finset.sum_congr rfl fun k _ => ?_)
  rw [show b + i + k = b + (k + i) by omega]

section Windows

variable {x q0 q1 q2 q3 q4 q5 q6 q7 q8 q9 q10 q11 q12 q13 q14 q15 : FVec Ideal S512x128 .f32}

theorem p105 (hx : R2 x (fun i j => P.dpool (b + i) (0 + j))) (h0 : R2 q0 (Q P b 0 0)) (h1 : R2 q1 (Q P b 0 1)) :
    R2 (k0_pay105 (F := Ideal) x q0 q1) (fun i j => P.dxa (b + i) (0 + j)) :=
  ((h0.add h1).sub hx).congr fun i j _ hj => by
    rw [dxa_eq 0 0 i j 2 rfl hj rfl]; simp only [Finset.sum_range_succ, Finset.sum_range_zero, zero_add]
theorem p106 (hx : R2 x (fun i j => P.dpool (b + i) (128 + j))) (h0 : R2 q0 (Q P b 128 0)) (h1 : R2 q1 (Q P b 128 1))
    (h2 : R2 q2 (Q P b 128 2)) (h3 : R2 q3 (Q P b 128 3)) :
    R2 (k0_pay106 (F := Ideal) x q0 q1 q2 q3) (fun i j => P.dxa (b + i) (128 + j)) :=
  ((((h0.add h1).add h2).add h3).sub hx).congr fun i j _ hj => by
    rw [dxa_eq 1 128 i j 4 rfl hj rfl]; simp only [Finset.sum_range_succ, Finset.sum_range_zero, zero_add]
theorem p108 (hx : R2 x (fun i j => P.dpool (b + i) (256 + j))) (h0 : R2 q0 (Q P b 256 0)) (h1 : R2 q1 (Q P b 256 1))
    (h2 : R2 q2 (Q P b 256 2)) (h3 : R2 q3 (Q P b 256 3)) (h4 : R2 q4 (Q P b 256 4)) (h5 : R2 q5 (Q P b 256 5))
    (h6 : R2 q6 (Q P b 256 6)) (h7 : R2 q7 (Q P b 256 7)) :
    R2 (k0_pay108 (F := Ideal) x (k0_pay107 q0 q1 q2 q3 q4 q5 q6 q7)) (fun i j => P.dxa (b + i) (256 + j)) :=
  ((((((((h0.add h1).add h2).add h3).add h4).add h5).add h6).add h7).sub hx).congr fun i j _ hj => by
    rw [dxa_eq 2 256 i j 8 rfl hj rfl]; simp only [Finset.sum_range_succ, Finset.sum_range_zero, zero_add]
theorem p110 (hx : R2 x (fun i j => P.dpool (b + i) (384 + j))) (h0 : R2 q0 (Q P b 384 0)) (h1 : R2 q1 (Q P b 384 1))
    (h2 : R2 q2 (Q P b 384 2)) (h3 : R2 q3 (Q P b 384 3)) (h4 : R2 q4 (Q P b 384 4)) (h5 : R2 q5 (Q P b 384 5))
    (h6 : R2 q6 (Q P b 384 6)) (h7 : R2 q7 (Q P b 384 7)) (h8 : R2 q8 (Q P b 384 8)) (h9 : R2 q9 (Q P b 384 9))
    (h10 : R2 q10 (Q P b 384 10)) (h11 : R2 q11 (Q P b 384 11)) (h12 : R2 q12 (Q P b 384 12)) (h13 : R2 q13 (Q P b 384 13))
    (h14 : R2 q14 (Q P b 384 14)) (h15 : R2 q15 (Q P b 384 15)) :
    R2 (k0_pay110 (F := Ideal) x (k0_pay109 q0 q1 q2 q3 q4 q5 q6 q7 q8 q9 q10 q11 q12 q13 q14) q15)
      (fun i j => P.dxa (b + i) (384 + j)) :=
  ((((((((((((((((h0.add h1).add h2).add h3).add h4).add h5).add h6).add h7).add h8).add h9).add h10).add h11).add h12).add
    h13).add h14).add h15).sub hx).congr fun i j _ hj => by
    rw [dxa_eq 3 384 i j 16 rfl hj rfl]; simp only [Finset.sum_range_succ, Finset.sum_range_zero, zero_add]

end Windows

end MixBwd
-- ==== Proof.Pay4.lean ====
/-
  The kernel's backward values on a tile, from the spatial products' gradients to the results.
-/
module

public import proofs.«01_k».proof.Proof.Pay3

@[expose] public section

set_option maxRecDepth 65536

noncomputable section

namespace MixBwd

open Idealize.ShloMosaic Idealize.SL.Sem Cert.KernelIdeal Cert.KernelIdeal.Gen

variable {P : Params} {b M : ℕ} {A : ℕ → ℕ → ℝ}

/-! ### The gate and the spatial output -/

variable {u dy sv d v : FVec Ideal S512x512 .f32}

theorem p112 (hs : R2 sv (fun i j => P.sv (b + i) j)) (hy : R2 dy (fun i j => P.dyb (b + i) j)) :
    R2 (k0_pay112 (F := Ideal) sv dy) (fun i j => P.du (b + i) j) := hy.mul hs
theorem p113 (hu : R2 u (fun i j => P.u (b + i) j)) (hy : R2 dy (fun i j => P.dyb (b + i) j)) :
    R2 (k0_pay113 (F := Ideal) u dy) (fun i j => P.dsv (b + i) j) := hy.mul hu

/-! ### The spatial bias' gradient: the tile's four row groups added -/

variable {acc : FVec Ideal S128x128 .f32}

/-- The four row groups of the spatial gradient added to what was there. -/
def groups (P : Params) (b o : ℕ) (A : ℕ → ℕ → ℝ) (i j : ℕ) : ℝ := A i j + ∑ q : Fin 4, P.dsv (b + (128 * q + i)) (o + j)

theorem groups_eq (o i j : ℕ) :
    A i j + (((P.dsv (b + (0 + i)) (o + j) + P.dsv (b + (128 + i)) (o + j)) + P.dsv (b + (256 + i)) (o + j))
      + P.dsv (b + (384 + i)) (o + j)) = groups P b o A i j := by
  unfold groups
  rw [Fin.sum_univ_four]
  rfl

theorem p172' {o : ℕ} (hd : R2 d (fun i j => P.dsv (b + i) j)) (ha : R2 acc A)
    (h0 : (⟨2, ![512, 512]⟩ : Shape).Slices ![0, o] ⟨2, ![128, 128]⟩) (h1 : (⟨2, ![512, 512]⟩ : Shape).Slices ![128, o] ⟨2, ![128, 128]⟩)
    (h2 : (⟨2, ![512, 512]⟩ : Shape).Slices ![256, o] ⟨2, ![128, 128]⟩) (h3 : (⟨2, ![512, 512]⟩ : Shape).Slices ![384, o] ⟨2, ![128, 128]⟩) :
    R2 (shapeCast S128x128 (addf (F := Ideal) (φ := .f32) acc (addf (F := Ideal) (φ := .f32) (addf (F := Ideal) (φ := .f32)
      (addf (F := Ideal) (φ := .f32) (extractStridedSlice S128x128 ![0, o] d h0) (extractStridedSlice S128x128 ![128, o] d h1))
      (extractStridedSlice S128x128 ![256, o] d h2)) (extractStridedSlice S128x128 ![384, o] d h3)))
      shapeCasts_S128x128_S128x128) (groups P b o A) :=
  ((ha.add ((((hd.slice h0).add (hd.slice h1)).add (hd.slice h2)).add (hd.slice h3))).cast shapeCasts_S128x128_S128x128).congr
    fun i j _ _ => groups_eq o i j

theorem p122 (hu : R2 u (fun i j => P.u (b + i) j)) (hy : R2 dy (fun i j => P.dyb (b + i) j)) (ha : R2 acc A) :
    R2 (k0_pay122 (F := Ideal) u dy acc) (groups P b 0 A) :=
  p172' (p113 hu hy) ha slices_S512x512_o0_0_S128x128 slices_S512x512_o128_0_S128x128 slices_S512x512_o256_0_S128x128 slices_S512x512_o384_0_S128x128
theorem p140 (hd : R2 d (fun i j => P.dsv (b + i) j)) (ha : R2 acc A) :
    R2 (k0_pay140 (F := Ideal) (k0_pay132 d) (k0_pay133 d) (k0_pay134 d) (k0_pay135 d) acc) (groups P b 128 A) :=
  p172' hd ha slices_S512x512_o0_128_S128x128 slices_S512x512_o128_128_S128x128 slices_S512x512_o256_128_S128x128 slices_S512x512_o384_128_S128x128
theorem p156 (hd : R2 d (fun i j => P.dsv (b + i) j)) (ha : R2 acc A) :
    R2 (k0_pay156 (F := Ideal) d acc) (groups P b 256 A) :=
  p172' hd ha slices_S512x512_o0_256_S128x128 slices_S512x512_o128_256_S128x128 slices_S512x512_o256_256_S128x128 slices_S512x512_o384_256_S128x128
theorem p172 (hd : R2 d (fun i j => P.dsv (b + i) j)) (ha : R2 acc A) :
    R2 (k0_pay172 (F := Ideal) d acc) (groups P b 384 A) :=
  p172' hd ha slices_S512x512_o0_384_S128x128 slices_S512x512_o128_384_S128x128 slices_S512x512_o256_384_S128x128 slices_S512x512_o384_384_S128x128

/-! ### The spatial weights' gradient -/

variable {ac : FVec Ideal S1x128x128 .f32}

/-- A head's products over the tile's four row groups, added to what was there. -/
def prods (P : Params) (b o : ℕ) (A : ℕ → ℕ → ℝ) (i j : ℕ) : ℝ :=
  A i j + ∑ q : Fin 4, ∑ c : Fin 64, P.dsv (b + (128 * q + i)) (o + c) * P.vl (b + (128 * q + j)) (o + c)

theorem p130 (hu : R2 u (fun i j => P.u (b + i) j)) (hy : R2 dy (fun i j => P.dyb (b + i) j)) (hv : R2 v (fun i j => P.vl (b + i) j)) (ha : R3 ac (fun _ i j => A i j)) :
    R3 (k0_pay130 (F := Ideal) (k0_pay118 v) (k0_pay119 v) (k0_pay120 v) (k0_pay121 v) (k0_pay124 u dy) ac) (fun _ i j => prods P b 0 A i j) :=
  (lower_grad (L := fun i j => P.dsv (b + i) (0 + j)) (L' := fun i j => P.vl (b + i) (0 + j))
    (lower_r lane ((p113 hu hy).slice slices_S512x512_o0_0_S128x128) ((p113 hu hy).slice slices_S512x512_o128_0_S128x128) ((p113 hu hy).slice slices_S512x512_o256_0_S128x128) ((p113 hu hy).slice slices_S512x512_o384_0_S128x128))
    (beside_r (hv.slice slices_S512x512_o0_0_S128x128) (hv.slice slices_S512x512_o128_0_S128x128) (hv.slice slices_S512x512_o256_0_S128x128) (hv.slice slices_S512x512_o384_0_S128x128)) ha)
theorem p131 (hu : R2 u (fun i j => P.u (b + i) j)) (hy : R2 dy (fun i j => P.dyb (b + i) j)) (hv : R2 v (fun i j => P.vl (b + i) j)) (ha : R3 ac (fun _ i j => A i j)) :
    R3 (k0_pay131 (F := Ideal) (k0_pay116 u dy) (k0_pay117 u dy) (k0_pay118 v) (k0_pay119 v) (k0_pay120 v) (k0_pay121 v) k0_pay123 (k0_pay125 u dy) (k0_pay126 u dy) ac) (fun _ i j => prods P b 64 A i j) :=
  (upper_grad (L := fun i j => P.dsv (b + i) (0 + j)) (L' := fun i j => P.vl (b + i) (0 + j))
    (upper_r lane ((p113 hu hy).slice slices_S512x512_o0_0_S128x128) ((p113 hu hy).slice slices_S512x512_o128_0_S128x128) ((p113 hu hy).slice slices_S512x512_o256_0_S128x128) ((p113 hu hy).slice slices_S512x512_o384_0_S128x128))
    (beside_r (hv.slice slices_S512x512_o0_0_S128x128) (hv.slice slices_S512x512_o128_0_S128x128) (hv.slice slices_S512x512_o256_0_S128x128) (hv.slice slices_S512x512_o384_0_S128x128)) ha).congr fun _ i j _ _ _ => by
    unfold prods; simp only [← add_assoc, Nat.reduceAdd]
theorem p146 (hd : R2 d (fun i j => P.dsv (b + i) j)) (hv : R2 v (fun i j => P.vl (b + i) j)) (ha : R3 ac (fun _ i j => A i j)) :
    R3 (k0_pay146 (F := Ideal) (k0_pay136 v) (k0_pay137 v) (k0_pay138 v) (k0_pay139 v) (k0_pay142 (k0_pay132 d) (k0_pay133 d) (k0_pay134 d) (k0_pay135 d)) ac) (fun _ i j => prods P b 128 A i j) :=
  (lower_grad (L := fun i j => P.dsv (b + i) (128 + j)) (L' := fun i j => P.vl (b + i) (128 + j))
    (lower_r lane (hd.slice slices_S512x512_o0_128_S128x128) (hd.slice slices_S512x512_o128_128_S128x128) (hd.slice slices_S512x512_o256_128_S128x128) (hd.slice slices_S512x512_o384_128_S128x128))
    (beside_r (hv.slice slices_S512x512_o0_128_S128x128) (hv.slice slices_S512x512_o128_128_S128x128) (hv.slice slices_S512x512_o256_128_S128x128) (hv.slice slices_S512x512_o384_128_S128x128)) ha)
theorem p147 (hd : R2 d (fun i j => P.dsv (b + i) j)) (hv : R2 v (fun i j => P.vl (b + i) j)) (ha : R3 ac (fun _ i j => A i j)) :
    R3 (k0_pay147 (F := Ideal) (k0_pay136 v) (k0_pay137 v) (k0_pay138 v) (k0_pay139 v) (k0_pay143 (k0_pay132 d) (k0_pay133 d) (k0_pay134 d) (k0_pay135 d)) ac) (fun _ i j => prods P b 192 A i j) :=
  (upper_grad (L := fun i j => P.dsv (b + i) (128 + j)) (L' := fun i j => P.vl (b + i) (128 + j))
    (upper_r lane (hd.slice slices_S512x512_o0_128_S128x128) (hd.slice slices_S512x512_o128_128_S128x128) (hd.slice slices_S512x512_o256_128_S128x128) (hd.slice slices_S512x512_o384_128_S128x128))
    (beside_r (hv.slice slices_S512x512_o0_128_S128x128) (hv.slice slices_S512x512_o128_128_S128x128) (hv.slice slices_S512x512_o256_128_S128x128) (hv.slice slices_S512x512_o384_128_S128x128)) ha).congr fun _ i j _ _ _ => by
    unfold prods; simp only [← add_assoc, Nat.reduceAdd]
theorem p162 (hd : R2 d (fun i j => P.dsv (b + i) j)) (hv : R2 v (fun i j => P.vl (b + i) j)) (ha : R3 ac (fun _ i j => A i j)) :
    R3 (k0_pay162 (F := Ideal) (k0_pay148 d) (k0_pay149 d) (k0_pay150 d) (k0_pay151 d) (k0_pay152 v) (k0_pay153 v) (k0_pay154 v) (k0_pay155 v) k0_pay157 (FloatOps.ofBits FTy.f32 0#32) ac) (fun _ i j => prods P b 256 A i j) :=
  (lower_grad (L := fun i j => P.dsv (b + i) (256 + j)) (L' := fun i j => P.vl (b + i) (256 + j))
    (lower_r lane (hd.slice slices_S512x512_o0_256_S128x128) (hd.slice slices_S512x512_o128_256_S128x128) (hd.slice slices_S512x512_o256_256_S128x128) (hd.slice slices_S512x512_o384_256_S128x128))
    (beside_r (hv.slice slices_S512x512_o0_256_S128x128) (hv.slice slices_S512x512_o128_256_S128x128) (hv.slice slices_S512x512_o256_256_S128x128) (hv.slice slices_S512x512_o384_256_S128x128)) ha)
theorem p163 (hd : R2 d (fun i j => P.dsv (b + i) j)) (hv : R2 v (fun i j => P.vl (b + i) j)) (ha : R3 ac (fun _ i j => A i j)) :
    R3 (k0_pay163 (F := Ideal) (k0_pay159 (k0_pay148 d) (k0_pay149 d) (k0_pay150 d) (k0_pay151 d) k0_pay157) (k0_pay161 (k0_pay152 v) (k0_pay153 v) (k0_pay154 v) (k0_pay155 v)) ac) (fun _ i j => prods P b 320 A i j) :=
  (upper_grad (L := fun i j => P.dsv (b + i) (256 + j)) (L' := fun i j => P.vl (b + i) (256 + j))
    (upper_r lane (hd.slice slices_S512x512_o0_256_S128x128) (hd.slice slices_S512x512_o128_256_S128x128) (hd.slice slices_S512x512_o256_256_S128x128) (hd.slice slices_S512x512_o384_256_S128x128))
    (beside_r (hv.slice slices_S512x512_o0_256_S128x128) (hv.slice slices_S512x512_o128_256_S128x128) (hv.slice slices_S512x512_o256_256_S128x128) (hv.slice slices_S512x512_o384_256_S128x128)) ha).congr fun _ i j _ _ _ => by
    unfold prods; simp only [← add_assoc, Nat.reduceAdd]
theorem p180 (hd : R2 d (fun i j => P.dsv (b + i) j)) (hv : R2 v (fun i j => P.vl (b + i) j)) (ha : R3 ac (fun _ i j => A i j)) :
    R3 (k0_pay180 (F := Ideal) (k0_pay168 v) (k0_pay169 v) (k0_pay170 v) (k0_pay171 v) (k0_pay174 d) ac) (fun _ i j => prods P b 384 A i j) :=
  (lower_grad (L := fun i j => P.dsv (b + i) (384 + j)) (L' := fun i j => P.vl (b + i) (384 + j))
    (lower_r lane (hd.slice slices_S512x512_o0_384_S128x128) (hd.slice slices_S512x512_o128_384_S128x128) (hd.slice slices_S512x512_o256_384_S128x128) (hd.slice slices_S512x512_o384_384_S128x128))
    (beside_r (hv.slice slices_S512x512_o0_384_S128x128) (hv.slice slices_S512x512_o128_384_S128x128) (hv.slice slices_S512x512_o256_384_S128x128) (hv.slice slices_S512x512_o384_384_S128x128)) ha)
theorem p181 (hd : R2 d (fun i j => P.dsv (b + i) j)) (hv : R2 v (fun i j => P.vl (b + i) j)) (ha : R3 ac (fun _ i j => A i j)) :
    R3 (k0_pay181 (F := Ideal) (k0_pay167 d) (k0_pay168 v) (k0_pay169 v) (k0_pay170 v) (k0_pay171 v) k0_pay173 (k0_pay175 d) (k0_pay176 d) (k0_pay177 d) ac) (fun _ i j => prods P b 448 A i j) :=
  (upper_grad (L := fun i j => P.dsv (b + i) (384 + j)) (L' := fun i j => P.vl (b + i) (384 + j))
    (upper_r lane (hd.slice slices_S512x512_o0_384_S128x128) (hd.slice slices_S512x512_o128_384_S128x128) (hd.slice slices_S512x512_o256_384_S128x128) (hd.slice slices_S512x512_o384_384_S128x128))
    (beside_r (hv.slice slices_S512x512_o0_384_S128x128) (hv.slice slices_S512x512_o128_384_S128x128) (hv.slice slices_S512x512_o256_384_S128x128) (hv.slice slices_S512x512_o384_384_S128x128)) ha).congr fun _ i j _ _ _ => by
    unfold prods; simp only [← add_assoc, Nat.reduceAdd]

/-! ### The normed gate half's gradient -/

variable {w0 w1 w2 w3 : FVec Ideal S1x128x256 .bf16}

theorem p182 (hb : b = 512 * M) (hu : R2 u (fun i j => P.u (b + i) j)) (hy : R2 dy (fun i j => P.dyb (b + i) j))
    (hw0 : R3 w0 (fun _ i j => wt P 0 i j)) (hw1 : R3 w1 (fun _ i j => wt P 1 i j))
    (hw2 : R3 w2 (fun _ i j => wt P 2 i j)) (hw3 : R3 w3 (fun _ i j => wt P 3 i j)) :
    R2 (k0_pay182 (F := Ideal)
      (k0_pay128 (k0_pay116 u dy) (k0_pay117 u dy) k0_pay123 (k0_pay124 u dy) (k0_pay125 u dy) (k0_pay126 u dy) w0)
      (k0_pay144 (k0_pay132 (k0_pay113 u dy)) (k0_pay133 (k0_pay113 u dy)) (k0_pay134 (k0_pay113 u dy))
        (k0_pay135 (k0_pay113 u dy)) w1)
      (k0_pay160 (k0_pay148 (k0_pay113 u dy)) (k0_pay149 (k0_pay113 u dy)) (k0_pay150 (k0_pay113 u dy))
        (k0_pay151 (k0_pay113 u dy)) k0_pay157 (FloatOps.ofBits FTy.f32 0#32) w2)
      (k0_pay167 (k0_pay113 u dy)) k0_pay173 (k0_pay174 (k0_pay113 u dy)) (k0_pay175 (k0_pay113 u dy))
      (k0_pay176 (k0_pay113 u dy)) (k0_pay177 (k0_pay113 u dy)) w3) (fun i j => P.dvl (b + i) j) := by
  have hd := p113 hu hy
  have b0 := p182' (lower_r (L := fun i j => P.dsv (b + i) (0 + j)) lane (hd.slice slices_S512x512_o0_0_S128x128) (hd.slice slices_S512x512_o128_0_S128x128) (hd.slice slices_S512x512_o256_0_S128x128) (hd.slice slices_S512x512_o384_0_S128x128))
    (upper_r (L := fun i j => P.dsv (b + i) (0 + j)) lane (hd.slice slices_S512x512_o0_0_S128x128) (hd.slice slices_S512x512_o128_0_S128x128) (hd.slice slices_S512x512_o256_0_S128x128) (hd.slice slices_S512x512_o384_0_S128x128))
    hw0 _ rfl
  have b1 := p182' (lower_r (L := fun i j => P.dsv (b + i) (128 + j)) lane (hd.slice slices_S512x512_o0_128_S128x128) (hd.slice slices_S512x512_o128_128_S128x128) (hd.slice slices_S512x512_o256_128_S128x128) (hd.slice slices_S512x512_o384_128_S128x128))
    (upper_r (L := fun i j => P.dsv (b + i) (128 + j)) lane (hd.slice slices_S512x512_o0_128_S128x128) (hd.slice slices_S512x512_o128_128_S128x128) (hd.slice slices_S512x512_o256_128_S128x128) (hd.slice slices_S512x512_o384_128_S128x128))
    hw1 _ rfl
  have b2 := p182' (lower_r (L := fun i j => P.dsv (b + i) (256 + j)) lane (hd.slice slices_S512x512_o0_256_S128x128) (hd.slice slices_S512x512_o128_256_S128x128) (hd.slice slices_S512x512_o256_256_S128x128) (hd.slice slices_S512x512_o384_256_S128x128))
    (upper_r (L := fun i j => P.dsv (b + i) (256 + j)) lane (hd.slice slices_S512x512_o0_256_S128x128) (hd.slice slices_S512x512_o128_256_S128x128) (hd.slice slices_S512x512_o256_256_S128x128) (hd.slice slices_S512x512_o384_256_S128x128))
    hw2 _ rfl
  have b3 := p182' (lower_r (L := fun i j => P.dsv (b + i) (384 + j)) lane (hd.slice slices_S512x512_o0_384_S128x128) (hd.slice slices_S512x512_o128_384_S128x128) (hd.slice slices_S512x512_o256_384_S128x128) (hd.slice slices_S512x512_o384_384_S128x128))
    (upper_r (L := fun i j => P.dsv (b + i) (384 + j)) lane (hd.slice slices_S512x512_o0_384_S128x128) (hd.slice slices_S512x512_o128_384_S128x128) (hd.slice slices_S512x512_o256_384_S128x128) (hd.slice slices_S512x512_o384_384_S128x128))
    hw3 _ rfl
  exact R2.cat4 (n := 512) (m := 512) (w := 128) (fun i j => P.dvl (b + i) j) b0 b1 b2 b3
    concatenates_S512x128_S512x128_S512x128_S512x128_S512x512_d1
    (fun i j _ hj => heads_dvl hb 0 i j hj 0 rfl) (fun i j _ hj => heads_dvl hb 1 i j hj 128 rfl)
    (fun i j _ hj => heads_dvl hb 2 i j hj 256 rfl) (fun i j _ hj => heads_dvl hb 3 i j hj 384 rfl)

variable {vh dv : FVec Ideal S512x512 .f32} {row : FVec Ideal S1x512 .f32} {B : ℕ → ℝ}

theorem p185 {v514 v579 v644 : FVec Ideal S512x128 .f32} {v666 : FVec Ideal S128x128 .f32} {v681 : IVec S128x128 1}
    {v690 : FVec Ideal S128x512 .f32} {v692 v694 v696 : FVec Ideal S128x128 .f32} {v700 : FVec Ideal S1x128x256 .bf16}
    (hh : R2 vh (fun i j => P.vh (b + i) j))
    (hv : R2 (k0_pay182 (F := Ideal) v514 v579 v644 v666 v681 v690 v692 v694 v696 v700) (fun i j => P.dvl (b + i) j))
    (ha : R2 row (fun _ j => B j)) :
    R2 (k0_pay185 (F := Ideal) (k0_pay183 row) (k0_pay184 vh v514 v579 v644 v666 v681 v690 v692 v694 v696 v700))
      (fun _ j => B j + ∑ i : Fin 512, P.dvl (b + i) j * P.vh (b + i) j) :=
  (ha.cast shapeCasts_S1x512_S1x512).add ((hv.mul hh).colSum reduces_S512x512_S512_2 (.inl rfl) rfl shapeCasts_S512_S1x512)

theorem p186 (hv : R2 dv (fun i j => P.dvl (b + i) j)) (ha : R2 row (fun _ j => B j)) :
    R2 (k0_pay186 (F := Ideal) dv row) (fun _ j => B j + ∑ i : Fin 512, P.dvl (b + i) j) :=
  (ha.cast shapeCasts_S1x512_S1x512).add (hv.colSum _ _ _ _)

/-! ### The projections' gradient -/

variable {vc : FVec Ideal S8x512 .f32} {g' : FVec Ideal S512x1024 .f32} {rs : FVec Ideal S512x1 .f32} {du : FVec Ideal S512x512 .f32}
variable {a0 a1 a2 a3 : FVec Ideal S512x128 .f32}

theorem p187 (hc : R2 vc (vecs P)) (hg : R2 g' (fun i j => gd (P.zb (b + i) j))) (hr : R2 rs (fun i _ => P.rs (b + i)))
    (hh : R2 vh (fun i j => P.vh (b + i) j)) (h0 : R2 a0 (fun i j => P.dxa (b + i) (0 + j)))
    (h1 : R2 a1 (fun i j => P.dxa (b + i) (128 + j))) (h2 : R2 a2 (fun i j => P.dxa (b + i) (256 + j)))
    (h3 : R2 a3 (fun i j => P.dxa (b + i) (384 + j))) (hu : R2 du (fun i j => P.du (b + i) j))
    (hv : R2 dv (fun i j => P.dvl (b + i) j)) :
    R2 (k0_pay187 (F := Ideal) vc g' rs vh a0 a1 a2 a3 du dv) (fun i j => P.dproj (b + i) j) := by
  have hl := (hc.slice (n' := 1) (m' := 512) (r := 1) (c := 0) slices_S8x512_o1_0_S1x512).congr
    (g := fun _ j => P.lg j) fun i j hi _ => by rw [show i = 0 by omega, zero_add]; rfl
  have hd : R2 _ (fun i j => P.dvh (b + i) j) := hv.mul (hl.row broadcasts_S1x512_S512x512)
  have m1 := ((hd.rowSum reduces_S512x512_S512 (.inl rfl) rfl shapeCasts_S512_S512x1).div (R2.const k_512)
    fun _ _ => by norm_num).column broadcasts_S512x1_S512x512
  have m2 := (((hd.mul hh).rowSum reduces_S512x512_S512 (.inl rfl) rfl shapeCasts_S512_S512x1).div (R2.const k_512)
    fun _ _ => by norm_num).column broadcasts_S512x1_S512x512
  have hx := (hr.column broadcasts_S512x1_S512x512).mul ((hd.sub m1).sub (hh.mul m2))
  have hz := (R2.cat2 (n := 512) (m := 1024) (w := 512) (l := 512)
    (fun i j => if j < 512 then P.du (b + i) j else P.dv (b + i) (j - 512)) hu hx concatenates_S512x512_S512x512_S512x1024_d1
    (fun i j _ hj => by
      beta_reduce
      rw [zero_add, if_pos hj])
    (fun i j _ hj => by
      beta_reduce
      rw [if_neg (by omega), show 0 + 512 + j - 512 = j by omega]
      rfl)).mul hg
  exact R2.cat5 (n := 512) (m := 1536) (w := 128) (l := 1024) (fun i j => P.dproj (b + i) j) h0 h1 h2 h3 hz
    concatenates_S512x128_S512x128_S512x128_S512x128_S512x1024_S512x1536_d1
    (fun i j _ hj => by unfold Params.dproj; rw [if_pos (by omega)])
    (fun i j _ hj => by unfold Params.dproj; rw [if_pos (by omega)])
    (fun i j _ hj => by unfold Params.dproj; rw [if_pos (by omega)])
    (fun i j _ hj => by unfold Params.dproj; rw [if_pos (by omega)])
    (fun i j _ hj => by
      unfold Params.dproj
      rw [if_neg (show ¬0 + 128 + 128 + 128 + 128 + j < 512 by omega), show 0 + 128 + 128 + 128 + 128 + j - 512 = j by omega]
      rfl)

theorem p188 {h : FVec Ideal S512x1024 .bf16} {ac : FVec Ideal S1024x1536 .f32} (hh : R2 h (fun i j => P.h (b + i) j))
    (hp : R2 (k0_pay187 (F := Ideal) vc g' rs vh a0 a1 a2 a3 du dv) (fun i j => P.dproj (b + i) j)) (ha : R2 ac A) :
    R2 (k0_pay188 (F := Ideal) vc h g' rs vh a0 a1 a2 a3 du dv ac)
      (fun e j => A e j + ∑ i : Fin 512, P.h (b + i) e * P.dproj (b + i) j) :=
  (ha.cast shapeCasts_S1024x1536_S1024x1536).add (hh.tmm hp (by decide))

variable {dp : FVec Ideal S512x1536 .bf16} {wi : FVec Ideal S1024x1536 .bf16}

theorem p190 (hp : R2 dp (fun i j => P.dproj (b + i) j)) (hw : R2 wi P.win) :
    R2 (k0_pay190 (F := Ideal) dp wi) (fun i j => P.dh (b + i) j) := hp.mmt hw (by decide)

/-! ### The first norm's gradient and the vectors of the model's width -/

variable {gn sc ro : FVec Ideal S1x1024 .f32} {r : FVec Ideal S512x1 .f32} {xn hp dxo x' : FVec Ideal S512x1024 .f32}

theorem p192 (hg : R2 gn (fun _ j => P.gn j)) (hs : R2 sc (fun _ j => P.scale j)) (hr : R2 r (fun i _ => P.r (b + i)))
    (hx : R2 xn (fun i j => P.xn (b + i) j)) (hd : R2 dp (fun i j => P.dproj (b + i) j)) (hw : R2 wi P.win) :
    R2 (k0_pay192 (F := Ideal) gn sc r xn dp wi)
      (fun i j => P.r (b + i) * (P.dxn (b + i) j - P.xn (b + i) j * P.m3 (b + i))) := by
  have h : R2 _ (fun i j => P.dxn (b + i) j) := ((p190 hd hw).mul ((hg.mul (p191 hs)).row broadcasts_S1x1024_S512x1024)).congr
    fun i j _ _ => by unfold Params.dxn Params.dhp; ring
  exact (hr.column broadcasts_S512x1_S512x1024).mul (h.sub (hx.mul
    ((((h.mul hx).rowSum reduces_S512x1024_S512 (.inl rfl) rfl shapeCasts_S512_S512x1).div (R2.const k_1024)
      fun _ _ => by norm_num).column broadcasts_S512x1_S512x1024)))

theorem p1 (ho : R2 dxo (fun i j => P.dxo (b + i) j))
    (hx : R2 x' (fun i j => P.r (b + i) * (P.dxn (b + i) j - P.xn (b + i) j * P.m3 (b + i)))) :
    R2 (k0_pay1 (F := Ideal) dxo x') (fun i j => P.dx (b + i) j) := ho.add hx

theorem p193 (hd : R2 dp (fun i j => P.dproj (b + i) j)) (hw : R2 wi P.win) (ha : R2 ro (fun _ j => B j)) :
    R2 (k0_pay193 (F := Ideal) dp wi ro) (fun _ j => B j + ∑ i : Fin 512, P.dh (b + i) j) :=
  (ha.cast shapeCasts_S1x1024_S1x1024).add ((p190 hd hw).colSum _ _ _ _)

theorem p194 (hh : R2 hp (fun i j => P.hp (b + i) j)) (hd : R2 dp (fun i j => P.dproj (b + i) j)) (hw : R2 wi P.win)
    (ha : R2 ro (fun _ j => B j)) :
    R2 (k0_pay194 (F := Ideal) hp dp wi ro) (fun _ j => B j + ∑ i : Fin 512, P.dh (b + i) j * P.hp (b + i) j) :=
  (ha.cast shapeCasts_S1x1024_S1x1024).add (((p190 hd hw).mul hh).colSum _ _ _ _)

theorem p195 (hs : R2 sc (fun _ j => P.scale j)) (hx : R2 xn (fun i j => P.xn (b + i) j))
    (hd : R2 dp (fun i j => P.dproj (b + i) j)) (hw : R2 wi P.win) (ha : R2 ro (fun _ j => B j)) :
    R2 (k0_pay195 (F := Ideal) sc xn dp wi ro) (fun _ j => B j + ∑ i : Fin 512, P.dhp (b + i) j * P.xn (b + i) j) :=
  (ha.cast shapeCasts_S1x1024_S1x1024).add
    ((((p190 hd hw).mul ((p191 hs).row broadcasts_S1x1024_S512x1024)).mul hx).colSum _ _ _ _)

/-! ### The last tile -/

variable {wo : FVec Ideal S1024x1024 .bf16} {ao : FVec Ideal S1024x1024 .f32} {gt' : FVec Ideal S1x1024 .f32}

theorem p4 (hw : R2 wo P.wout) (ho : R2 ao A) (ha : R2 ro (fun _ j => B j)) :
    R2 (k0_pay4 (F := Ideal) ao ro wo) (fun _ j => B j + ∑ i : Fin 1024, P.wout i j * A i j) :=
  (ha.cast shapeCasts_S1x1024_S1x1024).add
    (((hw.cast shapeCasts_S1024x1024_S1024x1024).mul (ho.cast shapeCasts_S1024x1024_S1024x1024)).colSum _ _ _ _)

theorem p5 (hg : R2 gt' (fun _ j => P.gate j)) (ho : R2 ao A) :
    R2 (k0_pay5 (F := Ideal) gt' ao) (fun i j => A i j * P.gate j) :=
  (ho.cast shapeCasts_S1024x1024_S1024x1024).mul (hg.row broadcasts_S1x1024_S1024x1024)

/-- On or below the diagonal. -/
theorem below (i : S128x128.Idx) :
    cmpi .sle (iota .tc S128x128 32 [1] iota_S128x128_d1_w32) (iota .tc S128x128 32 [0] iota_S128x128_d0_w32) i
      = if (i 1).val ≤ (i 0).val then 1#1 else 0#1 := by
  have h0 : (i 0).val < 128 := (i 0).isLt
  have h1 : (i 1).val < 128 := (i 1).isLt
  show IntOp.cmpi .sle (iota .tc S128x128 32 [1] iota_S128x128_d1_w32 i) (iota .tc S128x128 32 [0] iota_S128x128_d0_w32 i) = _
  rw [show iota .tc S128x128 32 [1] iota_S128x128_d1_w32 i = BitVec.ofNat 32 (i 1).val by rw [WordCmp.iota_at]; simp,
    show iota .tc S128x128 32 [0] iota_S128x128_d0_w32 i = BitVec.ofNat 32 (i 0).val by rw [WordCmp.iota_at]; simp,
    WordCmp.cmpi_sle_ofNat (by norm_num; omega) (by norm_num; omega)]
  by_cases h : (i 1).val ≤ (i 0).val <;> simp [h]

theorem p6 (ha : R3 ac (fun _ i j => A i j)) :
    R3 (k0_pay6 (F := Ideal) ac) (fun _ i j => if j ≤ i then A i j else 0) :=
  R3.slab (R2.pick (p := fun i j => j ≤ i) below (ha.drop shapeCasts_S1x128x128_S128x128) R2.zero) shapeCasts_S128x128_S1x128x128

/-- The number of a column's head, as the kernel computes it. -/
def headWord (c : BitVec 32) : BitVec 32 :=
  Scalar.select (IntOp.andi
      (IntOp.cmpi .ne
        (IntOp.subi ((IntOp.cmpi .sgt c 0#32).setWidth 32) ((IntOp.cmpi .slt c 0#32).setWidth 32))
        (Scalar.subi (Scalar.extui (Scalar.cmpi .sgt 64#32 0#32)) (Scalar.extui (Scalar.cmpi .slt 64#32 0#32))))
      (IntOp.cmpi .ne (IntOp.remsi .vector c 64#32) 0#32))
    (IntOp.subi (IntOp.divsi .vector c 64#32) 1#32) (IntOp.divsi .vector c 64#32)

theorem headWord_eq : ∀ c : Fin 512, headWord (BitVec.ofNat 32 c.val) = BitVec.ofNat 32 (c.val / 64) := by decide +kernel

/-- A column's head, compared with the row. -/
theorem head_row (i : S8x512.Idx) :
    (cmpi .eq (select (andi (cmpi .ne k0_pay17 k0_pay18)
        (cmpi .ne (remsi (iota .tc S8x512 32 [1] iota_S8x512_d1_w32) (broadcast S8x512 64#32)) (broadcast S8x512 0#32)))
      (subi k0_pay16 (broadcast S8x512 1#32)) k0_pay16) (iota .tc S8x512 32 [0] iota_S8x512_d0_w32)) i
      = if (i 1).val / 64 = (i 0).val then 1#1 else 0#1 := by
  have h0 : (i 0).val < 8 := (i 0).isLt
  have h1 : (i 1).val < 512 := (i 1).isLt
  show IntOp.cmpi .eq (headWord (iota .tc S8x512 32 [1] iota_S8x512_d1_w32 i)) (iota .tc S8x512 32 [0] iota_S8x512_d0_w32 i) = _
  rw [show iota .tc S8x512 32 [1] iota_S8x512_d1_w32 i = BitVec.ofNat 32 (i 1).val by rw [WordCmp.iota_at]; simp,
    show iota .tc S8x512 32 [0] iota_S8x512_d0_w32 i = BitVec.ofNat 32 (i 0).val by rw [WordCmp.iota_at]; simp,
    headWord_eq ⟨(i 1).val, h1⟩, WordCmp.cmpi_eq_ofNat (by norm_num; omega) (by norm_num; omega)]
  by_cases h : (i 1).val / 64 = (i 0).val <;> simp [h]

/-- A sum over 512 columns of which one head's are kept. -/
theorem sum_head (f : ℕ → ℝ) (h : ℕ) (hh : h < 8) :
    ∑ n : Fin 512, (if n.val / 64 = h then 1 else 0) * f n = ∑ c : Fin 64, f (64 * h + c) := by
  have e : ∑ n : Fin 512, (if n.val / 64 = h then 1 else 0) * f n
      = ∑ q : Fin 8, ∑ c : Fin 64, (if q.val = h then 1 else 0) * f (64 * q + c) := by
    rw [show (∑ n : Fin 512, (if n.val / 64 = h then 1 else 0) * f n)
        = ∑ n : Fin (8 * 64), (if n.val / 64 = h then 1 else 0) * f n from rfl,
      ← (finProdFinEquiv (m := 8) (n := 64)).sum_comp, Fintype.sum_prod_type]
    refine Finset.sum_congr rfl fun q _ => Finset.sum_congr rfl fun c _ => ?_
    rw [show ((finProdFinEquiv (m := 8) (n := 64) (q, c)).val) = c.val + 64 * q.val from rfl,
      show (c.val + 64 * q.val) / 64 = q.val by omega, show c.val + 64 * q.val = 64 * q.val + c.val by omega]
  rw [e, Finset.sum_eq_single (⟨h, hh⟩ : Fin 8)]
  · simp
  · intro q _ hq
    have : ¬q.val = h := fun e => hq (Fin.ext e)
    simp [this]
  · simp

theorem p2 {ab : FVec Ideal S128x512 .f32} (ha : R2 ab A) :
    R2 (k0_pay2 (F := Ideal) (iota .tc S8x512 32 [0] iota_S8x512_d0_w32) (iota .tc S8x512 32 [1] iota_S8x512_d1_w32) 64#32
      k0_pay16 k0_pay17 k0_pay18 ab) (fun h t => ∑ c : Fin 64, A t (64 * h + c)) :=
  ((R2.pick (p := fun h c => c / 64 = h) head_row (R2.const k_one) R2.zero).mmt ha (by decide)).congr
    fun h t hh _ => sum_head (fun c => A t c) h hh

end MixBwd
-- ==== Proof.Pieces.lean ====
/-
  Buffers filled piece by piece: which real array the pieces leave, and what a later load of part of them reads.
-/
module

public import proofs.«01_k».proof.Proof.Tile

@[expose] public section

set_option maxRecDepth 65536

noncomputable section

namespace MixBwd

open Idealize.ShloMosaic Idealize.ShloMosaic.ValueIdx Idealize.SL.Sem

variable {l n m l' n' m' p r c : ℕ}

/-- The real matrix `f` as a buffer's contents. -/
def E2 (f : ℕ → ℕ → ℝ) : (⟨2, ![n, m]⟩ : Shape).Idx → Elt Ideal .f32 := fun y => ((f (y 0).val (y 1).val : ℝ) : EReal)

/-- The real stack `f` as a buffer's contents. -/
def E3 (f : ℕ → ℕ → ℕ → ℝ) : (⟨3, ![l, n, m]⟩ : Shape).Idx → Elt Ideal .f32 :=
  fun y => ((f (y 0).val (y 1).val (y 2).val : ℝ) : EReal)

/-- A store of part of `f` is a block of `f`. -/
theorem piece2 {f g : ℕ → ℕ → ℝ} {w : (⟨2, ![n', m']⟩ : Shape).Idx → Elt Ideal .f32}
    (inb : ∀ k, ![r, c] k + ![n', m'] k ≤ (⟨2, ![n, m]⟩ : Shape).size k) (h : R2 w g)
    (e : ∀ i j, i < n' → j < m' → g i j = f (r + i) (c + j)) (x : (⟨2, ![n', m']⟩ : Shape).Idx) :
    w x = E2 f ((Rect.unit (s := ⟨2, ![n, m]⟩) ![r, c] ![n', m'] inb).emb x) := by
  refine (h x).trans ?_
  show _ = ((f (r + 1 * (x 0).val) (c + 1 * (x 1).val) : ℝ) : EReal)
  rw [one_mul, one_mul, e _ _ (x 0).isLt (x 1).isLt]

theorem piece3 {f g : ℕ → ℕ → ℕ → ℝ} {w : (⟨3, ![l', n', m']⟩ : Shape).Idx → Elt Ideal .f32}
    (inb : ∀ k, ![p, r, c] k + ![l', n', m'] k ≤ (⟨3, ![l, n, m]⟩ : Shape).size k) (h : R3 w g)
    (e : ∀ k i j, k < l' → i < n' → j < m' → g k i j = f (p + k) (r + i) (c + j)) (x : (⟨3, ![l', n', m']⟩ : Shape).Idx) :
    w x = E3 f ((Rect.unit (s := ⟨3, ![l, n, m]⟩) ![p, r, c] ![l', n', m'] inb).emb x) := by
  refine (h x).trans ?_
  show _ = ((f (p + 1 * (x 0).val) (r + 1 * (x 1).val) (c + 1 * (x 2).val) : ℝ) : EReal)
  rw [one_mul, one_mul, one_mul, e _ _ _ (x 0).isLt (x 1).isLt (x 2).isLt]

/-- An index of a box. -/
theorem in2 {y : (⟨2, ![n, m]⟩ : Shape).Idx} (inb : ∀ k, ![r, c] k + ![n', m'] k ≤ (⟨2, ![n, m]⟩ : Shape).size k) :
    y ∈ (Rect.unit (s := ⟨2, ![n, m]⟩) ![r, c] ![n', m'] inb).set
      ↔ (r ≤ (y 0).val ∧ (y 0).val < r + n') ∧ (c ≤ (y 1).val ∧ (y 1).val < c + m') := by
  rw [Rect.mem_set_unit]
  constructor
  · intro h
    exact ⟨h 0, h 1⟩
  · rintro ⟨h0, h1⟩ a
    match a with
    | ⟨0, _⟩ => exact h0
    | ⟨1, _⟩ => exact h1

theorem in3 {y : (⟨3, ![l, n, m]⟩ : Shape).Idx}
    (inb : ∀ k, ![p, r, c] k + ![l', n', m'] k ≤ (⟨3, ![l, n, m]⟩ : Shape).size k) :
    y ∈ (Rect.unit (s := ⟨3, ![l, n, m]⟩) ![p, r, c] ![l', n', m'] inb).set
      ↔ (p ≤ (y 0).val ∧ (y 0).val < p + l') ∧ (r ≤ (y 1).val ∧ (y 1).val < r + n')
        ∧ (c ≤ (y 2).val ∧ (y 2).val < c + m') := by
  rw [Rect.mem_set_unit]
  constructor
  · intro h
    exact ⟨h 0, h 1, h 2⟩
  · rintro ⟨h0, h1, h2⟩ a
    match a with
    | ⟨0, _⟩ => exact h0
    | ⟨1, _⟩ => exact h1
    | ⟨2, _⟩ => exact h2

/-- What pieces of `f` leave of a matrix they cover, over anything before. -/
theorem R2.pieces {f : ℕ → ℕ → ℝ} (L L' : List (View.Piece (Elt Ideal) ⟨2, ![n, m]⟩ .f32)) (h : View.PiecesOf (E2 f) L)
    (hc : ∀ y : (⟨2, ![n, m]⟩ : Shape).Idx, ∃ q ∈ L, y ∈ q.1.set) : R2 (View.canon (L ++ L')) f :=
  fun y => View.canon_append_of_piecesOf (E2 f) L' L h y (hc y)

theorem R3.pieces {f : ℕ → ℕ → ℕ → ℝ} (L L' : List (View.Piece (Elt Ideal) ⟨3, ![l, n, m]⟩ .f32)) (h : View.PiecesOf (E3 f) L)
    (hc : ∀ y : (⟨3, ![l, n, m]⟩ : Shape).Idx, ∃ q ∈ L, y ∈ q.1.set) : R3 (View.canon (L ++ L')) f :=
  fun y => View.canon_append_of_piecesOf (E3 f) L' L h y (hc y)

/-! ### The pieces of this kernel's buffers -/

/-- A stack of four matrices, each stored. -/
theorem R3.four {f : ℕ → ℕ → ℕ → ℝ} {w0 w1 w2 w3 : (⟨3, ![1, n, m]⟩ : Shape).Idx → Elt Ideal .f32} (i0 i1 i2 i3)
    (L' : List (View.Piece (Elt Ideal) ⟨3, ![4, n, m]⟩ .f32)) (h0 : R3 w0 (fun _ i j => f 0 i j)) (h1 : R3 w1 (fun _ i j => f 1 i j))
    (h2 : R3 w2 (fun _ i j => f 2 i j)) (h3 : R3 w3 (fun _ i j => f 3 i j)) :
    R3 (View.canon (⟨Rect.unit (s := ⟨3, ![4, n, m]⟩) ![3, 0, 0] ![1, n, m] i3, w3⟩
      :: ⟨Rect.unit (s := ⟨3, ![4, n, m]⟩) ![2, 0, 0] ![1, n, m] i2, w2⟩
      :: ⟨Rect.unit (s := ⟨3, ![4, n, m]⟩) ![1, 0, 0] ![1, n, m] i1, w1⟩
      :: ⟨Rect.unit (s := ⟨3, ![4, n, m]⟩) ![0, 0, 0] ![1, n, m] i0, w0⟩ :: L')) f := by
  refine R3.pieces (f := f) [⟨Rect.unit (s := ⟨3, ![4, n, m]⟩) ![3, 0, 0] ![1, n, m] i3, w3⟩,
    ⟨Rect.unit (s := ⟨3, ![4, n, m]⟩) ![2, 0, 0] ![1, n, m] i2, w2⟩,
    ⟨Rect.unit (s := ⟨3, ![4, n, m]⟩) ![1, 0, 0] ![1, n, m] i1, w1⟩,
    ⟨Rect.unit (s := ⟨3, ![4, n, m]⟩) ![0, 0, 0] ![1, n, m] i0, w0⟩] L'
    ⟨piece3 i3 h3 ?_, piece3 i2 h2 ?_, piece3 i1 h1 ?_, piece3 i0 h0 ?_, trivial⟩
    fun y => ?_
  iterate 4
    intro k i j hk _ _
    rw [show k = 0 by omega]
    simp only [zero_add, add_zero]
  have y0 : (y 0).val < 4 := (y 0).isLt
  have y1 : (y 1).val < n := (y 1).isLt
  have y2 : (y 2).val < m := (y 2).isLt
  rcases (by omega : (y 0).val = 0 ∨ (y 0).val = 1 ∨ (y 0).val = 2 ∨ (y 0).val = 3) with h | h | h | h
  · exact ⟨_, .tail _ (.tail _ (.tail _ (.head _))), (in3 i0).2 (by omega)⟩
  · exact ⟨_, .tail _ (.tail _ (.head _)), (in3 i1).2 (by omega)⟩
  · exact ⟨_, .tail _ (.head _), (in3 i2).2 (by omega)⟩
  · exact ⟨_, .head _, (in3 i3).2 (by omega)⟩

/-- A stack of eight matrices, each stored. -/
theorem R3.eight {f : ℕ → ℕ → ℕ → ℝ} {w0 w1 w2 w3 w4 w5 w6 w7 : (⟨3, ![1, n, m]⟩ : Shape).Idx → Elt Ideal .f32}
    (i0 i1 i2 i3 i4 i5 i6 i7) (L' : List (View.Piece (Elt Ideal) ⟨3, ![8, n, m]⟩ .f32)) (h0 : R3 w0 (fun _ i j => f 0 i j))
    (h1 : R3 w1 (fun _ i j => f 1 i j)) (h2 : R3 w2 (fun _ i j => f 2 i j)) (h3 : R3 w3 (fun _ i j => f 3 i j))
    (h4 : R3 w4 (fun _ i j => f 4 i j)) (h5 : R3 w5 (fun _ i j => f 5 i j)) (h6 : R3 w6 (fun _ i j => f 6 i j))
    (h7 : R3 w7 (fun _ i j => f 7 i j)) :
    R3 (View.canon (⟨Rect.unit (s := ⟨3, ![8, n, m]⟩) ![7, 0, 0] ![1, n, m] i7, w7⟩
      :: ⟨Rect.unit (s := ⟨3, ![8, n, m]⟩) ![6, 0, 0] ![1, n, m] i6, w6⟩
      :: ⟨Rect.unit (s := ⟨3, ![8, n, m]⟩) ![5, 0, 0] ![1, n, m] i5, w5⟩
      :: ⟨Rect.unit (s := ⟨3, ![8, n, m]⟩) ![4, 0, 0] ![1, n, m] i4, w4⟩
      :: ⟨Rect.unit (s := ⟨3, ![8, n, m]⟩) ![3, 0, 0] ![1, n, m] i3, w3⟩
      :: ⟨Rect.unit (s := ⟨3, ![8, n, m]⟩) ![2, 0, 0] ![1, n, m] i2, w2⟩
      :: ⟨Rect.unit (s := ⟨3, ![8, n, m]⟩) ![1, 0, 0] ![1, n, m] i1, w1⟩
      :: ⟨Rect.unit (s := ⟨3, ![8, n, m]⟩) ![0, 0, 0] ![1, n, m] i0, w0⟩ :: L')) f := by
  refine R3.pieces (f := f) [⟨Rect.unit (s := ⟨3, ![8, n, m]⟩) ![7, 0, 0] ![1, n, m] i7, w7⟩,
    ⟨Rect.unit (s := ⟨3, ![8, n, m]⟩) ![6, 0, 0] ![1, n, m] i6, w6⟩,
    ⟨Rect.unit (s := ⟨3, ![8, n, m]⟩) ![5, 0, 0] ![1, n, m] i5, w5⟩,
    ⟨Rect.unit (s := ⟨3, ![8, n, m]⟩) ![4, 0, 0] ![1, n, m] i4, w4⟩,
    ⟨Rect.unit (s := ⟨3, ![8, n, m]⟩) ![3, 0, 0] ![1, n, m] i3, w3⟩,
    ⟨Rect.unit (s := ⟨3, ![8, n, m]⟩) ![2, 0, 0] ![1, n, m] i2, w2⟩,
    ⟨Rect.unit (s := ⟨3, ![8, n, m]⟩) ![1, 0, 0] ![1, n, m] i1, w1⟩,
    ⟨Rect.unit (s := ⟨3, ![8, n, m]⟩) ![0, 0, 0] ![1, n, m] i0, w0⟩] L'
    ⟨piece3 i7 h7 ?_, piece3 i6 h6 ?_, piece3 i5 h5 ?_, piece3 i4 h4 ?_, piece3 i3 h3 ?_, piece3 i2 h2 ?_, piece3 i1 h1 ?_,
      piece3 i0 h0 ?_, trivial⟩ fun y => ?_
  iterate 8
    intro k i j hk _ _
    rw [show k = 0 by omega]
    simp only [zero_add, add_zero]
  have y0 : (y 0).val < 8 := (y 0).isLt
  have y1 : (y 1).val < n := (y 1).isLt
  have y2 : (y 2).val < m := (y 2).isLt
  rcases (by omega : (y 0).val = 0 ∨ (y 0).val = 1 ∨ (y 0).val = 2 ∨ (y 0).val = 3 ∨ (y 0).val = 4 ∨ (y 0).val = 5
    ∨ (y 0).val = 6 ∨ (y 0).val = 7) with h | h | h | h | h | h | h | h
  · exact ⟨_, .tail _ (.tail _ (.tail _ (.tail _ (.tail _ (.tail _ (.tail _ (.head _))))))), (in3 i0).2 (by omega)⟩
  · exact ⟨_, .tail _ (.tail _ (.tail _ (.tail _ (.tail _ (.tail _ (.head _)))))), (in3 i1).2 (by omega)⟩
  · exact ⟨_, .tail _ (.tail _ (.tail _ (.tail _ (.tail _ (.head _))))), (in3 i2).2 (by omega)⟩
  · exact ⟨_, .tail _ (.tail _ (.tail _ (.tail _ (.head _)))), (in3 i3).2 (by omega)⟩
  · exact ⟨_, .tail _ (.tail _ (.tail _ (.head _))), (in3 i4).2 (by omega)⟩
  · exact ⟨_, .tail _ (.tail _ (.head _)), (in3 i5).2 (by omega)⟩
  · exact ⟨_, .tail _ (.head _), (in3 i6).2 (by omega)⟩
  · exact ⟨_, .head _, (in3 i7).2 (by omega)⟩

/-- A matrix of 512 columns, stored in four blocks of columns. -/
theorem R2.blocks {f : ℕ → ℕ → ℝ} {w0 w1 w2 w3 : (⟨2, ![n, 128]⟩ : Shape).Idx → Elt Ideal .f32} (i0 i1 i2 i3)
    (L' : List (View.Piece (Elt Ideal) ⟨2, ![n, 512]⟩ .f32)) (h0 : R2 w0 (fun i j => f i (0 + j))) (h1 : R2 w1 (fun i j => f i (128 + j)))
    (h2 : R2 w2 (fun i j => f i (256 + j))) (h3 : R2 w3 (fun i j => f i (384 + j))) :
    R2 (View.canon (⟨Rect.unit (s := ⟨2, ![n, 512]⟩) ![0, 384] ![n, 128] i3, w3⟩
      :: ⟨Rect.unit (s := ⟨2, ![n, 512]⟩) ![0, 256] ![n, 128] i2, w2⟩
      :: ⟨Rect.unit (s := ⟨2, ![n, 512]⟩) ![0, 128] ![n, 128] i1, w1⟩
      :: ⟨Rect.unit (s := ⟨2, ![n, 512]⟩) ![0, 0] ![n, 128] i0, w0⟩ :: L')) f := by
  refine R2.pieces (f := f) [⟨Rect.unit (s := ⟨2, ![n, 512]⟩) ![0, 384] ![n, 128] i3, w3⟩,
    ⟨Rect.unit (s := ⟨2, ![n, 512]⟩) ![0, 256] ![n, 128] i2, w2⟩,
    ⟨Rect.unit (s := ⟨2, ![n, 512]⟩) ![0, 128] ![n, 128] i1, w1⟩,
    ⟨Rect.unit (s := ⟨2, ![n, 512]⟩) ![0, 0] ![n, 128] i0, w0⟩] L'
    ⟨piece2 i3 h3 ?_, piece2 i2 h2 ?_, piece2 i1 h1 ?_, piece2 i0 h0 ?_, trivial⟩
    fun y => ?_
  iterate 4
    intro i j _ _
    rw [zero_add i]
  have y0 : (y 0).val < n := (y 0).isLt
  have y1 : (y 1).val < 512 := (y 1).isLt
  rcases (by omega : (y 1).val < 128 ∨ (128 ≤ (y 1).val ∧ (y 1).val < 256) ∨ (256 ≤ (y 1).val ∧ (y 1).val < 384)
    ∨ 384 ≤ (y 1).val) with h | h | h | h
  · exact ⟨_, .tail _ (.tail _ (.tail _ (.head _))), (in2 i0).2 (by omega)⟩
  · exact ⟨_, .tail _ (.tail _ (.head _)), (in2 i1).2 (by omega)⟩
  · exact ⟨_, .tail _ (.head _), (in2 i2).2 (by omega)⟩
  · exact ⟨_, .head _, (in2 i3).2 (by omega)⟩

section Rows

variable {sig : RefSig} {κ : Kind} {sp : Space} (v : View sig κ sp ⟨2, ![n, m]⟩ .f32) (X : v.ty.Contents (Elt Ideal))

/-- Pieces of `f` stored over a matrix that holds `f` wherever no piece is. -/
theorem R2.over {f : ℕ → ℕ → ℝ} (L : List (View.Piece (Elt Ideal) ⟨2, ![n, m]⟩ .f32)) (h : View.PiecesOf (E2 f) L)
    (ho : ∀ y : (⟨2, ![n, m]⟩ : Shape).Idx, (∀ q ∈ L, y ∉ q.1.set) → v.read (Elt Ideal) X y = E2 f y) :
    R2 (v.read (Elt Ideal) (v.writes (Elt Ideal) X L)) f := fun y => by
  by_cases hc : ∃ q ∈ L, y ∈ q.1.set
  · exact View.read_writes_apply_of_pieces v X (E2 f) L h.mem y hc
  · have hc' : ∀ q ∈ L, y ∉ q.1.set := fun q hq hy => hc ⟨q, hq, hy⟩
    exact (View.read_writes_apply_of_forall_not_mem v X y L hc').trans (ho y hc')

/-- A part of a matrix loaded after pieces of `f` were stored over one that holds `f` there wherever no piece is. -/
theorem R2.load {f : ℕ → ℕ → ℝ} (L : List (View.Piece (Elt Ideal) ⟨2, ![n, m]⟩ .f32)) (h : View.PiecesOf (E2 f) L)
    (inb : ∀ k, ![r, c] k + ![n', m'] k ≤ (⟨2, ![n, m]⟩ : Shape).size k)
    (ho : ∀ y : (⟨2, ![n, m]⟩ : Shape).Idx, r ≤ (y 0).val → (y 0).val < r + n' → c ≤ (y 1).val → (y 1).val < c + m' →
      (∀ q ∈ L, y ∉ q.1.set) → v.read (Elt Ideal) X y = E2 f y) :
    R2 (n := n') (m := m') (View.ld (v.read (Elt Ideal) (v.writes (Elt Ideal) X L))
      (Rect.unit (s := ⟨2, ![n, m]⟩) ![r, c] ![n', m'] inb)) (fun i j => f (r + i) (c + j)) := fun x => by
  have key : v.read (Elt Ideal) (v.writes (Elt Ideal) X L) ((Rect.unit (s := ⟨2, ![n, m]⟩) ![r, c] ![n', m'] inb).emb x)
      = E2 f ((Rect.unit (s := ⟨2, ![n, m]⟩) ![r, c] ![n', m'] inb).emb x) := by
    by_cases hc : ∃ q ∈ L, (Rect.unit (s := ⟨2, ![n, m]⟩) ![r, c] ![n', m'] inb).emb x ∈ q.1.set
    · exact View.read_writes_apply_of_pieces v X (E2 f) L h.mem _ hc
    · have hc' : ∀ q ∈ L, (Rect.unit (s := ⟨2, ![n, m]⟩) ![r, c] ![n', m'] inb).emb x ∉ q.1.set := fun q hq hy => hc ⟨q, hq, hy⟩
      have hx := (in2 inb).1 (LoadRect.idx_mem _ x)
      exact (View.read_writes_apply_of_forall_not_mem v X _ L hc').trans (ho _ hx.1.1 hx.1.2 hx.2.1 hx.2.2 hc')
  refine key.trans ?_
  show ((f (r + 1 * (x 0).val) (c + 1 * (x 1).val) : ℝ) : EReal) = _
  rw [one_mul, one_mul]

/-- The same, where the pieces cover the part. -/
theorem R2.loadCov {f : ℕ → ℕ → ℝ} (L : List (View.Piece (Elt Ideal) ⟨2, ![n, m]⟩ .f32)) (h : View.PiecesOf (E2 f) L)
    (inb : ∀ k, ![r, c] k + ![n', m'] k ≤ (⟨2, ![n, m]⟩ : Shape).size k)
    (hc : ∀ y : (⟨2, ![n, m]⟩ : Shape).Idx, r ≤ (y 0).val → (y 0).val < r + n' → c ≤ (y 1).val → (y 1).val < c + m' →
      ∃ q ∈ L, y ∈ q.1.set) :
    R2 (n := n') (m := m') (v.readCov L (Rect.unit (s := ⟨2, ![n, m]⟩) ![r, c] ![n', m'] inb).toLoadRect)
      (fun i j => f (r + i) (c + j)) :=
  R2.load v v.junk L h inb fun y a0 a1 b0 b1 hn => by
    obtain ⟨q, hq, hy⟩ := hc y a0 a1 b0 b1
    exact absurd hy (hn q hq)

end Rows

end MixBwd
-- ==== Proof.Blk.lean ====
/-
  One tile of the backward pass: the twelve blocks it reads, the values the kernel computes from them before it touches an
  accumulator, and the real arrays these are.
-/
module

public import proofs.«01_k».proof.Proof.Pay4
public import proofs.«01_k».proof.Proof.Pieces

@[expose] public section

set_option maxRecDepth 65536

noncomputable section

namespace MixBwd

open Idealize.ShloMosaic Idealize.SL.Sem Cert.KernelIdeal Cert.KernelIdeal.Gen

/-- The blocks a tile reads, and its number. -/
structure Blk where
  v0 : BitVec 32
  x : Vec Ideal S512x1024 .f32
  dxo : Vec Ideal S512x1024 .f32
  pl : Vec Ideal S512x512 .bf16
  zb : Vec Ideal S512x1024 .f32
  md : Vec Ideal S8x1024 .f32
  wi : Vec Ideal S1024x1536 .bf16
  wp : Vec Ideal S4x128x128 .bf16
  vc : Vec Ideal S8x512 .f32
  wc : Vec Ideal S4x128x256 .bf16
  wt : Vec Ideal S4x128x256 .bf16
  bi : Vec Ideal S128x512 .f32
  wo : Vec Ideal S1024x1024 .bf16

/-- The four vectors of the model's width, in rows. -/
def mods (P : Params) (i j : ℕ) : ℝ :=
  if i = 0 then P.shift j else if i = 1 then P.scale j else if i = 2 then P.gate j else if i = 3 then P.gn j else 0

/-- The blocks hold the problem's arrays: rows `512 M` and on of the sequence arrays, and the whole parameters. -/
structure Blk.Good (B : Blk) (P : Params) (M : ℕ) : Prop where
  M_le : M ≤ 15
  v0 : B.v0 = BitVec.ofNat 32 M
  x : R2 B.x (fun i j => P.x (512 * M + i) j)
  dxo : R2 B.dxo (fun i j => P.dxo (512 * M + i) j)
  pl : R2 B.pl (fun i j => P.pooled (512 * M + i) j)
  zb : R2 B.zb (fun i j => P.zb (512 * M + i) j)
  md : R2 B.md (mods P)
  wi : R2 B.wi P.win
  wp : R3 B.wp P.wpool
  vc : R2 B.vc (vecs P)
  wc : R3 B.wc (MixBwd.wc P)
  wt : R3 B.wt (MixBwd.wt P)
  bi : R2 B.bi (fun t k => P.bsp (k / 64) t)
  wo : R2 B.wo P.wout

namespace Blk

variable (B : Blk)

abbrev shift := View.ld (Val := Elt Ideal) (e' := .f32) B.md (Rect.unit ![0, 0] ![1, 1024] inb_S8x1024_S1x1024_0_0)
abbrev scale := View.ld (Val := Elt Ideal) (e' := .f32) B.md (Rect.unit ![1, 0] ![1, 1024] inb_S8x1024_S1x1024_1_0)
abbrev gate := View.ld (Val := Elt Ideal) (e' := .f32) B.md (Rect.unit ![2, 0] ![1, 1024] inb_S8x1024_S1x1024_2_0)
abbrev gnorm := View.ld (Val := Elt Ideal) (e' := .f32) B.md (Rect.unit ![3, 0] ![1, 1024] inb_S8x1024_S1x1024_3_0)
abbrev wp0 := View.ld (Val := Elt Ideal) (e' := .bf16) B.wp (Rect.unit ![0, 0, 0] ![1, 128, 128] inb_S4x128x128_S1x128x128_0_0_0)
abbrev wp1 := View.ld (Val := Elt Ideal) (e' := .bf16) B.wp (Rect.unit ![1, 0, 0] ![1, 128, 128] inb_S4x128x128_S1x128x128_1_0_0)
abbrev wp2 := View.ld (Val := Elt Ideal) (e' := .bf16) B.wp (Rect.unit ![2, 0, 0] ![1, 128, 128] inb_S4x128x128_S1x128x128_2_0_0)
abbrev wp3 := View.ld (Val := Elt Ideal) (e' := .bf16) B.wp (Rect.unit ![3, 0, 0] ![1, 128, 128] inb_S4x128x128_S1x128x128_3_0_0)
abbrev wc0 := View.ld (Val := Elt Ideal) (e' := .bf16) B.wc (Rect.unit ![0, 0, 0] ![1, 128, 256] inb_S4x128x256_S1x128x256_0_0_0)
abbrev wc1 := View.ld (Val := Elt Ideal) (e' := .bf16) B.wc (Rect.unit ![1, 0, 0] ![1, 128, 256] inb_S4x128x256_S1x128x256_1_0_0)
abbrev wc2 := View.ld (Val := Elt Ideal) (e' := .bf16) B.wc (Rect.unit ![2, 0, 0] ![1, 128, 256] inb_S4x128x256_S1x128x256_2_0_0)
abbrev wc3 := View.ld (Val := Elt Ideal) (e' := .bf16) B.wc (Rect.unit ![3, 0, 0] ![1, 128, 256] inb_S4x128x256_S1x128x256_3_0_0)
abbrev wt0 := View.ld (Val := Elt Ideal) (e' := .bf16) B.wt (Rect.unit ![0, 0, 0] ![1, 128, 256] inb_S4x128x256_S1x128x256_0_0_0)
abbrev wt1 := View.ld (Val := Elt Ideal) (e' := .bf16) B.wt (Rect.unit ![1, 0, 0] ![1, 128, 256] inb_S4x128x256_S1x128x256_1_0_0)
abbrev wt2 := View.ld (Val := Elt Ideal) (e' := .bf16) B.wt (Rect.unit ![2, 0, 0] ![1, 128, 256] inb_S4x128x256_S1x128x256_2_0_0)
abbrev wt3 := View.ld (Val := Elt Ideal) (e' := .bf16) B.wt (Rect.unit ![3, 0, 0] ![1, 128, 256] inb_S4x128x256_S1x128x256_3_0_0)
abbrev bi0 := View.ld (Val := Elt Ideal) (e' := .f32) B.bi (Rect.unit ![0, 0] ![128, 128] inb_S128x512_S128x128_0_0)
abbrev bi1 := View.ld (Val := Elt Ideal) (e' := .f32) B.bi (Rect.unit ![0, 128] ![128, 128] inb_S128x512_S128x128_0_128)
abbrev bi2 := View.ld (Val := Elt Ideal) (e' := .f32) B.bi (Rect.unit ![0, 256] ![128, 128] inb_S128x512_S128x128_0_256)
abbrev bi3 := View.ld (Val := Elt Ideal) (e' := .f32) B.bi (Rect.unit ![0, 384] ![128, 128] inb_S128x512_S128x128_0_384)
abbrev gn := k0_pay27 (F := Ideal) B.gnorm
abbrev sc := k0_pay28 (F := Ideal) B.scale
abbrev ga := k0_pay29 (F := Ideal) B.gate
abbrev vcs := k0_pay30 (F := Ideal) B.vc
abbrev hh := k0_pay34 (F := Ideal) B.gnorm B.scale B.shift B.x
abbrev hp := k0_pay33 (F := Ideal) B.gnorm B.x
abbrev r := k0_pay31 (F := Ideal) B.x
abbrev xn := k0_pay32 (F := Ideal) B.x
abbrev g := k0_pay41 (F := Ideal) B.zb
abbrev gd' := k0_pay43 (F := Ideal) (k0_pay38 B.zb) (k0_pay39 B.zb) (k0_pay40 B.zb) (k0_pay42 B.zb)
abbrev u := k0_pay44 (F := Ideal) B.g
abbrev rs := k0_pay46 (F := Ideal) B.g
abbrev vh := k0_pay47 (F := Ideal) B.g
abbrev vl := k0_pay48 (F := Ideal) B.vcs B.g
abbrev ps := k0_pay37 (F := Ideal) B.vcs
abbrev mx := k0_pay36 (F := Ideal) B.pl B.wp0 B.wp1 B.wp2 B.wp3
abbrev pls := k0_pay35 (F := Ideal) B.pl
abbrev dm := k0_pay80 (F := Ideal) B.ga B.dxo
abbrev wos := k0_pay81 (F := Ideal) B.wo
abbrev wis := k0_pay189 (F := Ideal) B.wi
abbrev dyb := k0_pay84 (F := Ideal) B.dm B.wos
abbrev dmx := k0_pay86 (F := Ideal) B.ps B.dm B.wos
abbrev pos := k0_pay87 B.v0
abbrev sv0 := k0_pay54 (F := Ideal) (k0_pay49 B.vcs B.g) (k0_pay50 B.vcs B.g) (k0_pay51 B.vcs B.g) (k0_pay52 B.vcs B.g) k0_pay53 (FloatOps.ofBits FTy.f32 0#32) B.wc0 B.bi0
abbrev sv1 := k0_pay62 (F := Ideal) (k0_pay55 B.vl) (k0_pay56 B.vl) (k0_pay57 B.vl) (k0_pay58 B.vl) k0_pay59 (k0_pay60 B.vl) k0_pay61 B.wc1 B.bi1
abbrev sv2 := k0_pay71 (F := Ideal) (k0_pay63 B.vl) (k0_pay64 B.vl) (k0_pay65 B.vl) (k0_pay66 B.vl) k0_pay67 (k0_pay68 B.vl) (k0_pay69 B.vl) (k0_pay70 B.vl) B.wc2 B.bi2
abbrev sv := k0_pay78 (F := Ideal) B.sv0 B.sv1 B.sv2 (k0_pay72 B.vl) (k0_pay73 B.vl) (k0_pay74 B.vl) (k0_pay75 B.vl) k0_pay76 (k0_pay77 B.vl) B.wc3 B.bi3
abbrev d := k0_pay113 (F := Ideal) B.u B.dyb
abbrev du := k0_pay112 (F := Ideal) B.sv B.dyb
abbrev dl0 := k0_pay128 (F := Ideal) (k0_pay116 B.u B.dyb) (k0_pay117 B.u B.dyb) k0_pay123 (k0_pay124 B.u B.dyb) (k0_pay125 B.u B.dyb) (k0_pay126 B.u B.dyb) B.wt0
abbrev dl1 := k0_pay144 (F := Ideal) (k0_pay132 B.d) (k0_pay133 B.d) (k0_pay134 B.d) (k0_pay135 B.d) B.wt1
abbrev dl2 := k0_pay160 (F := Ideal) (k0_pay148 B.d) (k0_pay149 B.d) (k0_pay150 B.d) (k0_pay151 B.d) k0_pay157 (FloatOps.ofBits FTy.f32 0#32) B.wt2
abbrev dvl := k0_pay182 (F := Ideal) B.dl0 B.dl1 B.dl2 (k0_pay167 B.d) k0_pay173 (k0_pay174 B.d) (k0_pay175 B.d) (k0_pay176 B.d) (k0_pay177 B.d) B.wt3
abbrev q0 := k0_pay91 (F := Ideal) (k0_pay90 B.v0 B.ps B.dm B.wos B.wp0)
abbrev q1 := k0_pay94 (F := Ideal) B.dmx B.pos B.wp1
abbrev q2 := k0_pay100 (F := Ideal) B.pos (k0_pay95 B.dmx B.wp2)
abbrev q3 := k0_pay104 (F := Ideal) (k0_pay103 B.dmx B.pos B.wp3)
abbrev dp0 := k0_pay88 (F := Ideal) B.ps B.dm B.wos B.wp0
abbrev dp1 := k0_pay92 (F := Ideal) B.dmx B.wp1
abbrev dp2 := k0_pay95 (F := Ideal) B.dmx B.wp2
abbrev dp3 := k0_pay101 (F := Ideal) B.dmx B.wp3

variable {B} {P : Params} {M : ℕ}

namespace Good

theorem shift' (G : B.Good P M) : R2 B.shift (fun _ j => P.shift j) := (G.md.ld inb_S8x1024_S1x1024_0_0).congr fun i j hi _ => by
  rw [show i = 0 by omega]; simp only [zero_add, add_zero]; rfl
theorem scale' (G : B.Good P M) : R2 B.scale (fun _ j => P.scale j) := (G.md.ld inb_S8x1024_S1x1024_1_0).congr fun i j hi _ => by
  rw [show i = 0 by omega]; simp only [zero_add, add_zero]; rfl
theorem gate' (G : B.Good P M) : R2 B.gate (fun _ j => P.gate j) := (G.md.ld inb_S8x1024_S1x1024_2_0).congr fun i j hi _ => by
  rw [show i = 0 by omega]; simp only [zero_add, add_zero]; rfl
theorem gnorm' (G : B.Good P M) : R2 B.gnorm (fun _ j => P.gn j) := (G.md.ld inb_S8x1024_S1x1024_3_0).congr fun i j hi _ => by
  rw [show i = 0 by omega]; simp only [zero_add, add_zero]; rfl
theorem wp0 (G : B.Good P M) : R3 B.wp0 (fun _ i j => P.wpool 0 i j) := (G.wp.ldb inb_S4x128x128_S1x128x128_0_0_0).congr
  fun k i j hk _ _ => by rw [show k = 0 by omega]; simp only [zero_add, add_zero]
theorem wp1 (G : B.Good P M) : R3 B.wp1 (fun _ i j => P.wpool 1 i j) := (G.wp.ldb inb_S4x128x128_S1x128x128_1_0_0).congr
  fun k i j hk _ _ => by rw [show k = 0 by omega]; simp only [zero_add, add_zero]
theorem wp2 (G : B.Good P M) : R3 B.wp2 (fun _ i j => P.wpool 2 i j) := (G.wp.ldb inb_S4x128x128_S1x128x128_2_0_0).congr
  fun k i j hk _ _ => by rw [show k = 0 by omega]; simp only [zero_add, add_zero]
theorem wp3 (G : B.Good P M) : R3 B.wp3 (fun _ i j => P.wpool 3 i j) := (G.wp.ldb inb_S4x128x128_S1x128x128_3_0_0).congr
  fun k i j hk _ _ => by rw [show k = 0 by omega]; simp only [zero_add, add_zero]
theorem wc0 (G : B.Good P M) : R3 B.wc0 (fun _ i j => MixBwd.wc P 0 i j) := (G.wc.ldb inb_S4x128x256_S1x128x256_0_0_0).congr
  fun k i j hk _ _ => by rw [show k = 0 by omega]; simp only [zero_add, add_zero]
theorem wc1 (G : B.Good P M) : R3 B.wc1 (fun _ i j => MixBwd.wc P 1 i j) := (G.wc.ldb inb_S4x128x256_S1x128x256_1_0_0).congr
  fun k i j hk _ _ => by rw [show k = 0 by omega]; simp only [zero_add, add_zero]
theorem wc2 (G : B.Good P M) : R3 B.wc2 (fun _ i j => MixBwd.wc P 2 i j) := (G.wc.ldb inb_S4x128x256_S1x128x256_2_0_0).congr
  fun k i j hk _ _ => by rw [show k = 0 by omega]; simp only [zero_add, add_zero]
theorem wc3 (G : B.Good P M) : R3 B.wc3 (fun _ i j => MixBwd.wc P 3 i j) := (G.wc.ldb inb_S4x128x256_S1x128x256_3_0_0).congr
  fun k i j hk _ _ => by rw [show k = 0 by omega]; simp only [zero_add, add_zero]
theorem wt0 (G : B.Good P M) : R3 B.wt0 (fun _ i j => MixBwd.wt P 0 i j) := (G.wt.ldb inb_S4x128x256_S1x128x256_0_0_0).congr
  fun k i j hk _ _ => by rw [show k = 0 by omega]; simp only [zero_add, add_zero]
theorem wt1 (G : B.Good P M) : R3 B.wt1 (fun _ i j => MixBwd.wt P 1 i j) := (G.wt.ldb inb_S4x128x256_S1x128x256_1_0_0).congr
  fun k i j hk _ _ => by rw [show k = 0 by omega]; simp only [zero_add, add_zero]
theorem wt2 (G : B.Good P M) : R3 B.wt2 (fun _ i j => MixBwd.wt P 2 i j) := (G.wt.ldb inb_S4x128x256_S1x128x256_2_0_0).congr
  fun k i j hk _ _ => by rw [show k = 0 by omega]; simp only [zero_add, add_zero]
theorem wt3 (G : B.Good P M) : R3 B.wt3 (fun _ i j => MixBwd.wt P 3 i j) := (G.wt.ldb inb_S4x128x256_S1x128x256_3_0_0).congr
  fun k i j hk _ _ => by rw [show k = 0 by omega]; simp only [zero_add, add_zero]
theorem bi0 (G : B.Good P M) : R2 B.bi0 (fun t k => P.bsp ((0 + k) / 64) t) := (G.bi.ld inb_S128x512_S128x128_0_0).congr
  fun i j _ _ => by rw [zero_add i]
theorem bi1 (G : B.Good P M) : R2 B.bi1 (fun t k => P.bsp ((128 + k) / 64) t) := (G.bi.ld inb_S128x512_S128x128_0_128).congr
  fun i j _ _ => by rw [zero_add i]
theorem bi2 (G : B.Good P M) : R2 B.bi2 (fun t k => P.bsp ((256 + k) / 64) t) := (G.bi.ld inb_S128x512_S128x128_0_256).congr
  fun i j _ _ => by rw [zero_add i]
theorem bi3 (G : B.Good P M) : R2 B.bi3 (fun t k => P.bsp ((384 + k) / 64) t) := (G.bi.ld inb_S128x512_S128x128_0_384).congr
  fun i j _ _ => by rw [zero_add i]
theorem gn (G : B.Good P M) : R2 B.gn (fun _ j => P.gn j) :=
  G.gnorm'.cast _
theorem sc (G : B.Good P M) : R2 B.sc (fun _ j => P.scale j) :=
  G.scale'.cast _
theorem ga (G : B.Good P M) : R2 B.ga (fun _ j => P.gate j) :=
  G.gate'.cast _
theorem vcs (G : B.Good P M) : R2 B.vcs (vecs P) :=
  G.vc.cast _
theorem hh (G : B.Good P M) : R2 B.hh (fun i j => P.h (512 * M + i) j) :=
  p34 G.x G.gnorm' G.scale' G.shift'
theorem hp (G : B.Good P M) : R2 B.hp (fun i j => P.hp (512 * M + i) j) :=
  p33 G.x G.gnorm'
theorem r (G : B.Good P M) : R2 B.r (fun i _ => P.r (512 * M + i)) :=
  p31 G.x
theorem xn (G : B.Good P M) : R2 B.xn (fun i j => P.xn (512 * M + i) j) :=
  p32 G.x
theorem g (G : B.Good P M) : R2 B.g (gz P (512 * M)) :=
  p41 G.zb
theorem gd' (G : B.Good P M) : R2 B.gd' (fun i j => gd (P.zb (512 * M + i) j)) :=
  p43 G.zb
theorem u (G : B.Good P M) : R2 B.u (fun i j => P.u (512 * M + i) j) :=
  p44 G.g
theorem rs (G : B.Good P M) : R2 B.rs (fun i _ => P.rs (512 * M + i)) :=
  p46 G.g
theorem vh (G : B.Good P M) : R2 B.vh (fun i j => P.vh (512 * M + i) j) :=
  p47 G.g
theorem vl (G : B.Good P M) : R2 B.vl (fun i j => P.vl (512 * M + i) j) :=
  p48 G.vcs G.g
theorem ps (G : B.Good P M) : R2 B.ps (fun _ j => P.ps j) :=
  p37 G.vcs
theorem mx (G : B.Good P M) : R2 B.mx (fun i j => P.mixed (512 * M + i) j) :=
  p36 G.pl G.wp0 G.wp1 G.wp2 G.wp3
theorem pls (G : B.Good P M) : R2 B.pls (fun i j => P.pooled (512 * M + i) j) :=
  G.pl.cast shapeCasts_S512x512_S512x512
theorem dm (G : B.Good P M) : R2 B.dm (fun i j => P.dm (512 * M + i) j) :=
  p80 G.ga G.dxo
theorem wos (G : B.Good P M) : R2 B.wos P.wout :=
  G.wo.cast shapeCasts_S1024x1024_S1024x1024
theorem wis (G : B.Good P M) : R2 B.wis P.win :=
  G.wi.cast shapeCasts_S1024x1536_S1024x1536
theorem dyb (G : B.Good P M) : R2 B.dyb (fun i j => P.dyb (512 * M + i) j) :=
  p84 G.dm G.wos
theorem dmx (G : B.Good P M) : R2 B.dmx (fun i j => P.dmixed (512 * M + i) j) :=
  p86 G.ps G.dm G.wos
theorem sv (G : B.Good P M) : R2 B.sv (fun i j => P.sv (512 * M + i) j) :=
  p78 rfl G.vl G.wc0 G.wc1 G.wc2 G.wc3 G.bi0 G.bi1 G.bi2 G.bi3
theorem d (G : B.Good P M) : R2 B.d (fun i j => P.dsv (512 * M + i) j) :=
  p113 G.u G.dyb
theorem du (G : B.Good P M) : R2 B.du (fun i j => P.du (512 * M + i) j) :=
  p112 G.sv G.dyb
theorem dvl (G : B.Good P M) : R2 B.dvl (fun i j => P.dvl (512 * M + i) j) :=
  p182 rfl G.u G.dyb G.wt0 G.wt1 G.wt2 G.wt3
theorem dp0 (G : B.Good P M) : R2 B.dp0 (fun i j => P.dpool (512 * M + i) (0 + j)) :=
  p88 G.ps G.dm G.wos G.wp0
theorem dp1 (G : B.Good P M) : R2 B.dp1 (fun i j => P.dpool (512 * M + i) (128 + j)) :=
  p92 G.dmx G.wp1
theorem dp2 (G : B.Good P M) : R2 B.dp2 (fun i j => P.dpool (512 * M + i) (256 + j)) :=
  p95 G.dmx G.wp2
theorem dp3 (G : B.Good P M) : R2 B.dp3 (fun i j => P.dpool (512 * M + i) (384 + j)) :=
  p101 G.dmx G.wp3

theorem in_range (G : B.Good P M) : 512 * M + 512 ≤ 8192 := by have := G.M_le; omega

/-- The rows' positions in the sequence. -/
theorem pos (G : B.Good P M) (i : S512x1.Idx) : B.pos i = BitVec.ofNat 32 (512 * M + (i 0).val) := by
  show IntOp.addi (Scalar.muli B.v0 512#32) (iota .tc S512x1 32 [0] iota_S512x1_d0_w32 i) = _
  have hi : (i 0).val < 512 := (i 0).isLt
  rw [show iota .tc S512x1 32 [0] iota_S512x1_d0_w32 i = BitVec.ofNat 32 (i 0).val by rw [WordCmp.iota_at]; simp, G.v0]
  show BitVec.ofNat 32 M * BitVec.ofNat 32 512 + BitVec.ofNat 32 (i 0).val = _
  rw [← BitVec.ofNat_mul, ← BitVec.ofNat_add, mul_comm]

theorem q0 (G : B.Good P M) : R2 B.q0 (fun i j => P.q (512 * M + i) (0 + j)) :=
  p91 G.in_range G.pos G.ps G.dm G.wos G.wp0
theorem q1 (G : B.Good P M) : R2 B.q1 (fun i j => P.q (512 * M + i) (128 + j)) :=
  p94 G.in_range G.pos G.dmx G.wp1
theorem q2 (G : B.Good P M) : R2 B.q2 (fun i j => P.q (512 * M + i) (256 + j)) :=
  p100 G.in_range G.pos G.dmx G.wp2
theorem q3 (G : B.Good P M) : R2 B.q3 (fun i j => P.q (512 * M + i) (384 + j)) :=
  p104 G.in_range G.pos G.dmx G.wp3

/-- A row of the tile's queue. -/
theorem qz_eq (G : B.Good P M) (i j : ℕ) (hi : i < 512) : P.q (512 * M + i) j = P.qz (512 * M + i) j := by
  have := G.in_range
  unfold Params.qz
  rw [if_pos (by omega)]

theorem q0z (G : B.Good P M) : R2 B.q0 (Q P (512 * M) 0 0) :=
  G.q0.congr fun i j hi _ => by rw [G.qz_eq i _ hi, Q, zero_add i]
theorem q1z (G : B.Good P M) : R2 B.q1 (Q P (512 * M) 128 0) :=
  G.q1.congr fun i j hi _ => by rw [G.qz_eq i _ hi, Q, zero_add i]
theorem q2z (G : B.Good P M) : R2 B.q2 (Q P (512 * M) 256 0) :=
  G.q2.congr fun i j hi _ => by rw [G.qz_eq i _ hi, Q, zero_add i]
theorem q3z (G : B.Good P M) : R2 B.q3 (Q P (512 * M) 384 0) :=
  G.q3.congr fun i j hi _ => by rw [G.qz_eq i _ hi, Q, zero_add i]

end Good

end Blk

end MixBwd
-- ==== Proof.Queue.lean ====
/-
  The queue of the pooled half's gradient: a tile's four column blocks over the sixteen rows carried from the tile after it.
-/
module

public import proofs.«01_k».proof.Proof.Blk

@[expose] public section

set_option maxRecDepth 65536

noncomputable section

namespace MixBwd

open Idealize.ShloMosaic Idealize.SL.Sem Cert.KernelIdeal Cert.KernelIdeal.Gen

variable {B : Blk} {P : Params} {M : ℕ}

/-- The queue's rows from the tile's first on. -/
abbrev queue (P : Params) (M : ℕ) (i j : ℕ) : ℝ := P.qz (512 * M + i) j

/-- The sixteen carried rows hold the rows after the tile. -/
def Carry (P : Params) (M : ℕ) (X : S528x512.Idx → Elt Ideal .f32) : Prop :=
  ∀ y, 512 ≤ (y 0).val → X y = E2 (queue P M) y

/-- The stores of the first 1 column blocks. -/
abbrev Blk.put0 (B : Blk) (L : List (View.Piece (Elt Ideal) S528x512 .f32)) : List (View.Piece (Elt Ideal) S528x512 .f32) :=
  ⟨Rect.unit (s := S528x512) ![0, 0] ![512, 128] inb_S528x512_S512x128_0_0, B.q0⟩ :: L

/-- The stores of the first 2 column blocks. -/
abbrev Blk.put1 (B : Blk) (L : List (View.Piece (Elt Ideal) S528x512 .f32)) : List (View.Piece (Elt Ideal) S528x512 .f32) :=
  ⟨Rect.unit (s := S528x512) ![0, 128] ![512, 128] inb_S528x512_S512x128_0_128, B.q1⟩ :: B.put0 L

/-- The stores of the first 3 column blocks. -/
abbrev Blk.put2 (B : Blk) (L : List (View.Piece (Elt Ideal) S528x512 .f32)) : List (View.Piece (Elt Ideal) S528x512 .f32) :=
  ⟨Rect.unit (s := S528x512) ![0, 256] ![512, 128] inb_S528x512_S512x128_0_256, B.q2⟩ :: B.put1 L

/-- The stores of the first 4 column blocks. -/
abbrev Blk.put3 (B : Blk) (L : List (View.Piece (Elt Ideal) S528x512 .f32)) : List (View.Piece (Elt Ideal) S528x512 .f32) :=
  ⟨Rect.unit (s := S528x512) ![0, 384] ![512, 128] inb_S528x512_S512x128_0_384, B.q3⟩ :: B.put2 L

theorem put0_of (G : B.Good P M) {L : List (View.Piece (Elt Ideal) S528x512 .f32)} (h : View.PiecesOf (E2 (queue P M)) L) :
    View.PiecesOf (E2 (queue P M)) (B.put0 L) :=
  ⟨piece2 inb_S528x512_S512x128_0_0 G.q0 fun i j hi _ => by rw [G.qz_eq i _ hi, queue, zero_add i], h⟩

theorem put1_of (G : B.Good P M) {L : List (View.Piece (Elt Ideal) S528x512 .f32)} (h : View.PiecesOf (E2 (queue P M)) L) :
    View.PiecesOf (E2 (queue P M)) (B.put1 L) :=
  ⟨piece2 inb_S528x512_S512x128_0_128 G.q1 fun i j hi _ => by rw [G.qz_eq i _ hi, queue, zero_add i], put0_of G h⟩

theorem put2_of (G : B.Good P M) {L : List (View.Piece (Elt Ideal) S528x512 .f32)} (h : View.PiecesOf (E2 (queue P M)) L) :
    View.PiecesOf (E2 (queue P M)) (B.put2 L) :=
  ⟨piece2 inb_S528x512_S512x128_0_256 G.q2 fun i j hi _ => by rw [G.qz_eq i _ hi, queue, zero_add i], put1_of G h⟩

theorem put3_of (G : B.Good P M) {L : List (View.Piece (Elt Ideal) S528x512 .f32)} (h : View.PiecesOf (E2 (queue P M)) L) :
    View.PiecesOf (E2 (queue P M)) (B.put3 L) :=
  ⟨piece2 inb_S528x512_S512x128_0_384 G.q3 fun i j hi _ => by rw [G.qz_eq i _ hi, queue, zero_add i], put2_of G h⟩

/-- Every row of the tile is in one of the four blocks. -/
theorem put3_covers {L : List (View.Piece (Elt Ideal) S528x512 .f32)} (y : S528x512.Idx) (hy : (y 0).val < 512) :
    ∃ q ∈ B.put3 L, y ∈ q.1.set := by
  have y1 : (y 1).val < 512 := (y 1).isLt
  rcases (by omega : (y 1).val < 128 ∨ (128 ≤ (y 1).val ∧ (y 1).val < 256) ∨ (256 ≤ (y 1).val ∧ (y 1).val < 384)
    ∨ 384 ≤ (y 1).val) with h | h | h | h
  · exact ⟨_, .tail _ (.tail _ (.tail _ (.head _))), (in2 inb_S528x512_S512x128_0_0).2 (by omega)⟩
  · exact ⟨_, .tail _ (.tail _ (.head _)), (in2 inb_S528x512_S512x128_0_128).2 (by omega)⟩
  · exact ⟨_, .tail _ (.head _), (in2 inb_S528x512_S512x128_0_256).2 (by omega)⟩
  · exact ⟨_, .head _, (in2 inb_S528x512_S512x128_0_384).2 (by omega)⟩

/-- The scratch buffer's contents as an array. -/
abbrev Blk.ldq (B : Blk) (X : (View.whole cc0_scratch0).ty.Contents (Elt Ideal)) (k o : ℕ)
    (inb : ∀ a, ![k, o] a + ![512, 128] a ≤ S528x512.size a) :=
  View.ld (Val := Elt Ideal) (e' := .f32) (View.read (Elt Ideal) (View.whole cc0_scratch0)
    ((View.whole cc0_scratch0).writes (Elt Ideal) X (B.put3 []))) (Rect.unit (s := S528x512) ![k, o] ![512, 128] inb)

/-- A load of 512 rows, some of them carried. -/
theorem ldq_r (G : B.Good P M) {X : (View.whole cc0_scratch0).ty.Contents (Elt Ideal)}
    (hX : Carry P M (View.read (Elt Ideal) (View.whole cc0_scratch0) X)) {k o : ℕ}
    (inb : ∀ a, ![k, o] a + ![512, 128] a ≤ S528x512.size a) : R2 (B.ldq X k o inb) (Q P (512 * M) o k) :=
  R2.load (View.whole cc0_scratch0) X (B.put3 []) (put3_of G trivial) inb fun y _ _ _ _ hn => by
    refine hX y ?_
    by_contra hy
    obtain ⟨q, hq, h⟩ := put3_covers (B := B) (L := []) y (by omega)
    exact hn q hq h

/-- The rows past the end of the sequence, which the first tile stores. -/
abbrev past : List (View.Piece (Elt Ideal) S528x512 .f32) :=
  [⟨Rect.unit (s := S528x512) ![512, 0] ![16, 512] inb_S528x512_S16x512_512_0, k0_pay26 (F := Ideal)⟩]

theorem past_of (hM : M = 15) : View.PiecesOf (E2 (queue P M)) past :=
  ⟨piece2 inb_S528x512_S16x512_512_0 (R2.zero.cast shapeCasts_S16x512_S16x512) fun i j _ _ => by
    rw [queue, Params.qz, if_neg (by omega)], trivial⟩

/-- The first tile's load of 512 rows of column block 0. -/
abbrev Blk.ldz0 (B : Blk) (k : ℕ) (inb : ∀ a, ![k, 0] a + ![512, 128] a ≤ S528x512.size a) :=
  View.readCov (Val := Elt Ideal) (View.whole cc0_scratch0) (B.put0 past) (Rect.unit (s := S528x512) ![k, 0] ![512, 128] inb).toLoadRect

theorem ldz0_r (G : B.Good P M) (hM : M = 15) {k : ℕ} (inb : ∀ a, ![k, 0] a + ![512, 128] a ≤ S528x512.size a) :
    R2 (B.ldz0 k inb) (Q P (512 * M) 0 k) :=
  R2.loadCov (View.whole cc0_scratch0) (B.put0 past) (put0_of G (past_of hM)) inb fun y _ h1 h2 h3 => by
    have y0 : (y 0).val < 528 := (y 0).isLt
    have y1 : (y 1).val < 512 := (y 1).isLt
    by_cases h : (y 0).val < 512
    · exact ⟨_, .head _, (in2 inb_S528x512_S512x128_0_0).2 (by omega)⟩
    · exact ⟨_, .tail _ (.head _), (in2 inb_S528x512_S16x512_512_0).2 (by omega)⟩

/-- The first tile's load of 512 rows of column block 1. -/
abbrev Blk.ldz1 (B : Blk) (k : ℕ) (inb : ∀ a, ![k, 128] a + ![512, 128] a ≤ S528x512.size a) :=
  View.readCov (Val := Elt Ideal) (View.whole cc0_scratch0) (B.put1 past) (Rect.unit (s := S528x512) ![k, 128] ![512, 128] inb).toLoadRect

theorem ldz1_r (G : B.Good P M) (hM : M = 15) {k : ℕ} (inb : ∀ a, ![k, 128] a + ![512, 128] a ≤ S528x512.size a) :
    R2 (B.ldz1 k inb) (Q P (512 * M) 128 k) :=
  R2.loadCov (View.whole cc0_scratch0) (B.put1 past) (put1_of G (past_of hM)) inb fun y _ h1 h2 h3 => by
    have y0 : (y 0).val < 528 := (y 0).isLt
    have y1 : (y 1).val < 512 := (y 1).isLt
    by_cases h : (y 0).val < 512
    · exact ⟨_, .head _, (in2 inb_S528x512_S512x128_0_128).2 (by omega)⟩
    · exact ⟨_, .tail _ (.tail _ (.head _)), (in2 inb_S528x512_S16x512_512_0).2 (by omega)⟩

/-- The first tile's load of 512 rows of column block 2. -/
abbrev Blk.ldz2 (B : Blk) (k : ℕ) (inb : ∀ a, ![k, 256] a + ![512, 128] a ≤ S528x512.size a) :=
  View.readCov (Val := Elt Ideal) (View.whole cc0_scratch0) (B.put2 past) (Rect.unit (s := S528x512) ![k, 256] ![512, 128] inb).toLoadRect

theorem ldz2_r (G : B.Good P M) (hM : M = 15) {k : ℕ} (inb : ∀ a, ![k, 256] a + ![512, 128] a ≤ S528x512.size a) :
    R2 (B.ldz2 k inb) (Q P (512 * M) 256 k) :=
  R2.loadCov (View.whole cc0_scratch0) (B.put2 past) (put2_of G (past_of hM)) inb fun y _ h1 h2 h3 => by
    have y0 : (y 0).val < 528 := (y 0).isLt
    have y1 : (y 1).val < 512 := (y 1).isLt
    by_cases h : (y 0).val < 512
    · exact ⟨_, .head _, (in2 inb_S528x512_S512x128_0_256).2 (by omega)⟩
    · exact ⟨_, .tail _ (.tail _ (.tail _ (.head _))), (in2 inb_S528x512_S16x512_512_0).2 (by omega)⟩

/-- The first tile's load of 512 rows of column block 3. -/
abbrev Blk.ldz3 (B : Blk) (k : ℕ) (inb : ∀ a, ![k, 384] a + ![512, 128] a ≤ S528x512.size a) :=
  View.readCov (Val := Elt Ideal) (View.whole cc0_scratch0) (B.put3 past) (Rect.unit (s := S528x512) ![k, 384] ![512, 128] inb).toLoadRect

theorem ldz3_r (G : B.Good P M) (hM : M = 15) {k : ℕ} (inb : ∀ a, ![k, 384] a + ![512, 128] a ≤ S528x512.size a) :
    R2 (B.ldz3 k inb) (Q P (512 * M) 384 k) :=
  R2.loadCov (View.whole cc0_scratch0) (B.put3 past) (put3_of G (past_of hM)) inb fun y _ h1 h2 h3 => by
    have y0 : (y 0).val < 528 := (y 0).isLt
    have y1 : (y 1).val < 512 := (y 1).isLt
    by_cases h : (y 0).val < 512
    · exact ⟨_, .head _, (in2 inb_S528x512_S512x128_0_384).2 (by omega)⟩
    · exact ⟨_, .tail _ (.tail _ (.tail _ (.tail _ (.head _)))), (in2 inb_S528x512_S16x512_512_0).2 (by omega)⟩

/-- The rows the next tile carries. -/
theorem carry_next {L : List (View.Piece (Elt Ideal) S528x512 .f32)}
    {w : S16x512.Idx → Elt Ideal .f32} (hw : R2 w (queue P (M + 1))) :
    Carry P M (View.canon (⟨Rect.unit (s := S528x512) ![512, 0] ![16, 512] inb_S528x512_S16x512_512_0, w⟩ :: L)) := fun y hy => by
  have y0 : (y 0).val < 528 := (y 0).isLt
  have y1 : (y 1).val < 512 := (y 1).isLt
  obtain ⟨x, rfl⟩ := LoadRect.exists_idx_of_mem _ ((in2 inb_S528x512_S16x512_512_0).2 (by omega : (512 ≤ (y 0).val ∧ (y 0).val < 512 + 16)
    ∧ (0 ≤ (y 1).val ∧ (y 1).val < 0 + 512)))
  refine (View.canon_cons_emb (Rect.unit (s := S528x512) ![512, 0] ![16, 512] inb_S528x512_S16x512_512_0) w L x).trans ?_
  exact piece2 inb_S528x512_S16x512_512_0 hw (fun i j _ _ => by
    show P.qz (512 * (M + 1) + i) j = P.qz (512 * M + (512 + i)) (0 + j)
    rw [show 512 * (M + 1) + i = 512 * M + (512 + i) by omega, zero_add]) x

/-- The tile's first sixteen rows, loaded. -/
theorem top_r (G : B.Good P M) {L : List (View.Piece (Elt Ideal) S528x512 .f32)} (h : View.PiecesOf (E2 (queue P M)) L) :
    R2 (k0_pay111 (F := Ideal) ((View.whole cc0_scratch0).readCov (B.put3 L)
      (Rect.unit (s := S528x512) ![0, 0] ![16, 512] inb_S528x512_S16x512_0_0).toLoadRect)) (queue P M) :=
  ((R2.loadCov (View.whole cc0_scratch0) (B.put3 L) (put3_of G h) inb_S528x512_S16x512_0_0
    fun y _ h1 _ _ => put3_covers y (by omega)).cast shapeCasts_S16x512_S16x512).congr fun i j _ _ => by rw [zero_add, zero_add]

/-- The tile's stores leave the next tile, the one before it in the sequence, its carried rows. -/
theorem carry_tile (G : B.Good P M) (L : List (View.Piece (Elt Ideal) S528x512 .f32)) (h : View.PiecesOf (E2 (queue P M)) L) {N : ℕ}
    (hN : M = N + 1) :
    Carry P N (View.canon (⟨Rect.unit (s := S528x512) ![512, 0] ![16, 512] inb_S528x512_S16x512_512_0,
      k0_pay111 (F := Ideal) ((View.whole cc0_scratch0).readCov (B.put3 L)
        (Rect.unit (s := S528x512) ![0, 0] ![16, 512] inb_S528x512_S16x512_0_0).toLoadRect)⟩ :: B.put3 L)) := by
  subst hN
  exact carry_next (top_r G h)

/-! ### The windows summed, and the projections' gradient -/

namespace Blk

variable (B) (X : (View.whole cc0_scratch0).ty.Contents (Elt Ideal))

abbrev c0 := k0_pay105 (F := Ideal) B.dp0 B.q0 (B.ldq X 1 0 inb_S528x512_S512x128_1_0)
abbrev c1 := k0_pay106 (F := Ideal) B.dp1 B.q1 (B.ldq X 1 128 inb_S528x512_S512x128_1_128) (B.ldq X 2 128 inb_S528x512_S512x128_2_128) (B.ldq X 3 128 inb_S528x512_S512x128_3_128)
abbrev c2 := k0_pay108 (F := Ideal) B.dp2 (k0_pay107 B.q2 (B.ldq X 1 256 inb_S528x512_S512x128_1_256) (B.ldq X 2 256 inb_S528x512_S512x128_2_256) (B.ldq X 3 256 inb_S528x512_S512x128_3_256) (B.ldq X 4 256 inb_S528x512_S512x128_4_256) (B.ldq X 5 256 inb_S528x512_S512x128_5_256) (B.ldq X 6 256 inb_S528x512_S512x128_6_256) (B.ldq X 7 256 inb_S528x512_S512x128_7_256))
abbrev c3 := k0_pay110 (F := Ideal) B.dp3 (k0_pay109 B.q3 (B.ldq X 1 384 inb_S528x512_S512x128_1_384) (B.ldq X 2 384 inb_S528x512_S512x128_2_384) (B.ldq X 3 384 inb_S528x512_S512x128_3_384) (B.ldq X 4 384 inb_S528x512_S512x128_4_384) (B.ldq X 5 384 inb_S528x512_S512x128_5_384) (B.ldq X 6 384 inb_S528x512_S512x128_6_384) (B.ldq X 7 384 inb_S528x512_S512x128_7_384) (B.ldq X 8 384 inb_S528x512_S512x128_8_384) (B.ldq X 9 384 inb_S528x512_S512x128_9_384) (B.ldq X 10 384 inb_S528x512_S512x128_10_384) (B.ldq X 11 384 inb_S528x512_S512x128_11_384) (B.ldq X 12 384 inb_S528x512_S512x128_12_384) (B.ldq X 13 384 inb_S528x512_S512x128_13_384) (B.ldq X 14 384 inb_S528x512_S512x128_14_384)) (B.ldq X 15 384 inb_S528x512_S512x128_15_384)
abbrev z0 := k0_pay105 (F := Ideal) B.dp0 B.q0 (B.ldz0 1 inb_S528x512_S512x128_1_0)
abbrev z1 := k0_pay106 (F := Ideal) B.dp1 B.q1 (B.ldz1 1 inb_S528x512_S512x128_1_128) (B.ldz1 2 inb_S528x512_S512x128_2_128) (B.ldz1 3 inb_S528x512_S512x128_3_128)
abbrev z2 := k0_pay108 (F := Ideal) B.dp2 (k0_pay107 B.q2 (B.ldz2 1 inb_S528x512_S512x128_1_256) (B.ldz2 2 inb_S528x512_S512x128_2_256) (B.ldz2 3 inb_S528x512_S512x128_3_256) (B.ldz2 4 inb_S528x512_S512x128_4_256) (B.ldz2 5 inb_S528x512_S512x128_5_256) (B.ldz2 6 inb_S528x512_S512x128_6_256) (B.ldz2 7 inb_S528x512_S512x128_7_256))
abbrev z3 := k0_pay110 (F := Ideal) B.dp3 (k0_pay109 B.q3 (B.ldz3 1 inb_S528x512_S512x128_1_384) (B.ldz3 2 inb_S528x512_S512x128_2_384) (B.ldz3 3 inb_S528x512_S512x128_3_384) (B.ldz3 4 inb_S528x512_S512x128_4_384) (B.ldz3 5 inb_S528x512_S512x128_5_384) (B.ldz3 6 inb_S528x512_S512x128_6_384) (B.ldz3 7 inb_S528x512_S512x128_7_384) (B.ldz3 8 inb_S528x512_S512x128_8_384) (B.ldz3 9 inb_S528x512_S512x128_9_384) (B.ldz3 10 inb_S528x512_S512x128_10_384) (B.ldz3 11 inb_S528x512_S512x128_11_384) (B.ldz3 12 inb_S528x512_S512x128_12_384) (B.ldz3 13 inb_S528x512_S512x128_13_384) (B.ldz3 14 inb_S528x512_S512x128_14_384)) (B.ldz3 15 inb_S528x512_S512x128_15_384)

end Blk

theorem c0_r (G : B.Good P M) {X : (View.whole cc0_scratch0).ty.Contents (Elt Ideal)}
    (hX : Carry P M (View.read (Elt Ideal) (View.whole cc0_scratch0) X)) :
    R2 (B.c0 X) (fun i j => P.dxa (512 * M + i) (0 + j)) :=
  p105 G.dp0 G.q0z (ldq_r G hX inb_S528x512_S512x128_1_0)
theorem c1_r (G : B.Good P M) {X : (View.whole cc0_scratch0).ty.Contents (Elt Ideal)}
    (hX : Carry P M (View.read (Elt Ideal) (View.whole cc0_scratch0) X)) :
    R2 (B.c1 X) (fun i j => P.dxa (512 * M + i) (128 + j)) :=
  p106 G.dp1 G.q1z (ldq_r G hX inb_S528x512_S512x128_1_128) (ldq_r G hX inb_S528x512_S512x128_2_128) (ldq_r G hX inb_S528x512_S512x128_3_128)
theorem c2_r (G : B.Good P M) {X : (View.whole cc0_scratch0).ty.Contents (Elt Ideal)}
    (hX : Carry P M (View.read (Elt Ideal) (View.whole cc0_scratch0) X)) :
    R2 (B.c2 X) (fun i j => P.dxa (512 * M + i) (256 + j)) :=
  p108 G.dp2 G.q2z (ldq_r G hX inb_S528x512_S512x128_1_256) (ldq_r G hX inb_S528x512_S512x128_2_256) (ldq_r G hX inb_S528x512_S512x128_3_256) (ldq_r G hX inb_S528x512_S512x128_4_256) (ldq_r G hX inb_S528x512_S512x128_5_256) (ldq_r G hX inb_S528x512_S512x128_6_256) (ldq_r G hX inb_S528x512_S512x128_7_256)
theorem c3_r (G : B.Good P M) {X : (View.whole cc0_scratch0).ty.Contents (Elt Ideal)}
    (hX : Carry P M (View.read (Elt Ideal) (View.whole cc0_scratch0) X)) :
    R2 (B.c3 X) (fun i j => P.dxa (512 * M + i) (384 + j)) :=
  p110 G.dp3 G.q3z (ldq_r G hX inb_S528x512_S512x128_1_384) (ldq_r G hX inb_S528x512_S512x128_2_384) (ldq_r G hX inb_S528x512_S512x128_3_384) (ldq_r G hX inb_S528x512_S512x128_4_384) (ldq_r G hX inb_S528x512_S512x128_5_384) (ldq_r G hX inb_S528x512_S512x128_6_384) (ldq_r G hX inb_S528x512_S512x128_7_384) (ldq_r G hX inb_S528x512_S512x128_8_384) (ldq_r G hX inb_S528x512_S512x128_9_384) (ldq_r G hX inb_S528x512_S512x128_10_384) (ldq_r G hX inb_S528x512_S512x128_11_384) (ldq_r G hX inb_S528x512_S512x128_12_384) (ldq_r G hX inb_S528x512_S512x128_13_384) (ldq_r G hX inb_S528x512_S512x128_14_384) (ldq_r G hX inb_S528x512_S512x128_15_384)
theorem z0_r (G : B.Good P M) (hM : M = 15) :
    R2 (B.z0) (fun i j => P.dxa (512 * M + i) (0 + j)) :=
  p105 G.dp0 G.q0z (ldz0_r G hM inb_S528x512_S512x128_1_0)
theorem z1_r (G : B.Good P M) (hM : M = 15) :
    R2 (B.z1) (fun i j => P.dxa (512 * M + i) (128 + j)) :=
  p106 G.dp1 G.q1z (ldz1_r G hM inb_S528x512_S512x128_1_128) (ldz1_r G hM inb_S528x512_S512x128_2_128) (ldz1_r G hM inb_S528x512_S512x128_3_128)
theorem z2_r (G : B.Good P M) (hM : M = 15) :
    R2 (B.z2) (fun i j => P.dxa (512 * M + i) (256 + j)) :=
  p108 G.dp2 G.q2z (ldz2_r G hM inb_S528x512_S512x128_1_256) (ldz2_r G hM inb_S528x512_S512x128_2_256) (ldz2_r G hM inb_S528x512_S512x128_3_256) (ldz2_r G hM inb_S528x512_S512x128_4_256) (ldz2_r G hM inb_S528x512_S512x128_5_256) (ldz2_r G hM inb_S528x512_S512x128_6_256) (ldz2_r G hM inb_S528x512_S512x128_7_256)
theorem z3_r (G : B.Good P M) (hM : M = 15) :
    R2 (B.z3) (fun i j => P.dxa (512 * M + i) (384 + j)) :=
  p110 G.dp3 G.q3z (ldz3_r G hM inb_S528x512_S512x128_1_384) (ldz3_r G hM inb_S528x512_S512x128_2_384) (ldz3_r G hM inb_S528x512_S512x128_3_384) (ldz3_r G hM inb_S528x512_S512x128_4_384) (ldz3_r G hM inb_S528x512_S512x128_5_384) (ldz3_r G hM inb_S528x512_S512x128_6_384) (ldz3_r G hM inb_S528x512_S512x128_7_384) (ldz3_r G hM inb_S528x512_S512x128_8_384) (ldz3_r G hM inb_S528x512_S512x128_9_384) (ldz3_r G hM inb_S528x512_S512x128_10_384) (ldz3_r G hM inb_S528x512_S512x128_11_384) (ldz3_r G hM inb_S528x512_S512x128_12_384) (ldz3_r G hM inb_S528x512_S512x128_13_384) (ldz3_r G hM inb_S528x512_S512x128_14_384) (ldz3_r G hM inb_S528x512_S512x128_15_384)

variable {a0 a1 a2 a3 : FVec Ideal S512x128 .f32}

/-- The projections' gradient from the pooled half's. -/
abbrev Blk.dpj (B : Blk) (a0 a1 a2 a3 : FVec Ideal S512x128 .f32) := k0_pay187 (F := Ideal) B.vcs B.gd' B.rs B.vh a0 a1 a2 a3 B.du B.dvl

/-- The four column blocks of the pooled half's gradient. -/
structure Cols (P : Params) (M : ℕ) (a0 a1 a2 a3 : FVec Ideal S512x128 .f32) : Prop where
  h0 : R2 a0 (fun i j => P.dxa (512 * M + i) (0 + j))
  h1 : R2 a1 (fun i j => P.dxa (512 * M + i) (128 + j))
  h2 : R2 a2 (fun i j => P.dxa (512 * M + i) (256 + j))
  h3 : R2 a3 (fun i j => P.dxa (512 * M + i) (384 + j))

theorem cols_c (G : B.Good P M) {X : (View.whole cc0_scratch0).ty.Contents (Elt Ideal)}
    (hX : Carry P M (View.read (Elt Ideal) (View.whole cc0_scratch0) X)) : Cols P M (B.c0 X) (B.c1 X) (B.c2 X) (B.c3 X) :=
  ⟨c0_r G hX, c1_r G hX, c2_r G hX, c3_r G hX⟩
theorem cols_z (G : B.Good P M) (hM : M = 15) : Cols P M B.z0 B.z1 B.z2 B.z3 := ⟨z0_r G hM, z1_r G hM, z2_r G hM, z3_r G hM⟩

theorem dpj_r (G : B.Good P M) (h : Cols P M a0 a1 a2 a3) : R2 (B.dpj a0 a1 a2 a3) (fun i j => P.dproj (512 * M + i) j) :=
  p187 G.vcs G.gd' G.rs G.vh h.h0 h.h1 h.h2 h.h3 G.du G.dvl

end MixBwd
-- ==== Proof.Sums.lean ====
/-
  What the accumulators hold after a number of tiles, taken from the last tile of the sequence back, and their totals.
-/
module

public import proofs.«01_k».proof.Proof.Spec

@[expose] public section

noncomputable section

namespace MixBwd

open Finset

/-- The sum of `F` over the first rows of the last `n` tiles of sixteen. -/
def acc (n : ℕ) (F : ℕ → ℝ) : ℝ := ∑ m ∈ range n, F (512 * (15 - m))

theorem acc_zero (F : ℕ → ℝ) : acc 0 F = 0 := by
  unfold acc
  rw [sum_range_zero]

theorem acc_succ (n : ℕ) (F : ℕ → ℝ) : acc (n + 1) F = acc n F + F (512 * (15 - n)) := by
  unfold acc
  rw [sum_range_succ]

theorem acc_all (F : ℕ → ℝ) : acc 16 F = ∑ m : Fin 16, F (512 * m) := by
  unfold acc
  rw [Finset.sum_range_reflect (fun m => F (512 * m)) 16, Finset.sum_range]

/-- Rows counted tile by tile. -/
theorem sum_tiles {a b N : ℕ} (hN : N = a * b) (f : ℕ → ℝ) : ∑ m : Fin a, ∑ i : Fin b, f (b * m + i) = ∑ s : Fin N, f s := by
  subst hN
  rw [← (finProdFinEquiv (m := a) (n := b)).sum_comp, Fintype.sum_prod_type]
  refine sum_congr rfl fun q _ => sum_congr rfl fun c _ => ?_
  rw [show (finProdFinEquiv (m := a) (n := b) (q, c)).val = c.val + b * q.val from rfl, add_comm]

theorem acc_rows (f : ℕ → ℝ) : acc 16 (fun b => ∑ i : Fin 512, f (b + i)) = ∑ s : Fin 8192, f s :=
  (acc_all _).trans (sum_tiles (by norm_num) f)

theorem acc_blocks (g : ℕ → ℝ) : acc 16 (fun b => ∑ q : Fin 4, g (b + 128 * q)) = ∑ k : Fin 64, g (128 * k) := by
  rw [acc_all, ← sum_tiles (a := 16) (b := 4) (by norm_num) fun k => g (128 * k)]
  refine sum_congr rfl fun m _ => sum_congr rfl fun q _ => congrArg g ?_
  omega

namespace Params

variable (P : Params) (n : ℕ)

def aWin (e j : ℕ) : ℝ := acc n fun b => ∑ i : Fin 512, P.h (b + i) e * P.dproj (b + i) j
def aWout (j e : ℕ) : ℝ := acc n fun b => ∑ i : Fin 512, P.cat (b + i) j * P.dxo (b + i) e
def aPool (g c e : ℕ) : ℝ := acc n fun b => ∑ i : Fin 512, P.pooled (b + i) (128 * g + c) * P.dmixed (b + i) (128 * g + e)
def aSp (h i j : ℕ) : ℝ :=
  acc n fun b => ∑ q : Fin 4, ∑ c : Fin 64, P.dsv (b + (128 * q + i)) (64 * h + c) * P.vl (b + (128 * q + j)) (64 * h + c)
def aBias (i j : ℕ) : ℝ := acc n fun b => ∑ q : Fin 4, P.dsv (b + (128 * q + i)) j
def aHalf (r j : ℕ) : ℝ :=
  if r = 0 then acc n fun b => ∑ i : Fin 512, P.dcat (b + i) j * P.mixed (b + i) j
  else if r = 1 then acc n fun b => ∑ i : Fin 512, P.dvl (b + i) j * P.vh (b + i) j
  else if r = 2 then acc n fun b => ∑ i : Fin 512, P.dvl (b + i) j else 0
/-- The vectors of the model's width; the gate's row stays 0 until the last tile. -/
def aFull (r j : ℕ) : ℝ :=
  if r = 0 then acc n fun b => ∑ i : Fin 512, P.dh (b + i) j
  else if r = 1 then acc n fun b => ∑ i : Fin 512, P.dh (b + i) j * P.hp (b + i) j
  else if r = 3 then acc n fun b => ∑ i : Fin 512, P.dhp (b + i) j * P.xn (b + i) j else 0

theorem aWin_succ (e j : ℕ) : P.aWin (n + 1) e j
    = P.aWin n e j + ∑ i : Fin 512, P.h (512 * (15 - n) + i) e * P.dproj (512 * (15 - n) + i) j := acc_succ _ _
theorem aWout_succ (j e : ℕ) : P.aWout (n + 1) j e
    = P.aWout n j e + ∑ i : Fin 512, P.cat (512 * (15 - n) + i) j * P.dxo (512 * (15 - n) + i) e := acc_succ _ _
theorem aPool_succ (g c e : ℕ) : P.aPool (n + 1) g c e = P.aPool n g c e
    + ∑ i : Fin 512, P.pooled (512 * (15 - n) + i) (128 * g + c) * P.dmixed (512 * (15 - n) + i) (128 * g + e) := acc_succ _ _
theorem aSp_succ (h i j : ℕ) : P.aSp (n + 1) h i j = P.aSp n h i j + ∑ q : Fin 4, ∑ c : Fin 64,
    P.dsv (512 * (15 - n) + (128 * q + i)) (64 * h + c) * P.vl (512 * (15 - n) + (128 * q + j)) (64 * h + c) := acc_succ _ _
theorem aBias_succ (i j : ℕ) : P.aBias (n + 1) i j
    = P.aBias n i j + ∑ q : Fin 4, P.dsv (512 * (15 - n) + (128 * q + i)) j := acc_succ _ _
theorem aHalf_succ0 (j : ℕ) : P.aHalf (n + 1) 0 j = P.aHalf n 0 j
    + ∑ i : Fin 512, P.dcat (512 * (15 - n) + i) j * P.mixed (512 * (15 - n) + i) j := by
  simp [aHalf, acc_succ]
theorem aHalf_succ1 (j : ℕ) : P.aHalf (n + 1) 1 j = P.aHalf n 1 j
    + ∑ i : Fin 512, P.dvl (512 * (15 - n) + i) j * P.vh (512 * (15 - n) + i) j := by
  simp [aHalf, acc_succ]
theorem aHalf_succ2 (j : ℕ) : P.aHalf (n + 1) 2 j = P.aHalf n 2 j + ∑ i : Fin 512, P.dvl (512 * (15 - n) + i) j := by
  simp [aHalf, acc_succ]
theorem aFull_succ0 (j : ℕ) : P.aFull (n + 1) 0 j = P.aFull n 0 j + ∑ i : Fin 512, P.dh (512 * (15 - n) + i) j := by
  simp [aFull, acc_succ]
theorem aFull_succ1 (j : ℕ) : P.aFull (n + 1) 1 j = P.aFull n 1 j
    + ∑ i : Fin 512, P.dh (512 * (15 - n) + i) j * P.hp (512 * (15 - n) + i) j := by
  simp [aFull, acc_succ]
theorem aFull_succ3 (j : ℕ) : P.aFull (n + 1) 3 j = P.aFull n 3 j
    + ∑ i : Fin 512, P.dhp (512 * (15 - n) + i) j * P.xn (512 * (15 - n) + i) j := by
  simp [aFull, acc_succ]

theorem aWin_zero (e j : ℕ) : P.aWin 0 e j = 0 := acc_zero _
theorem aWout_zero (j e : ℕ) : P.aWout 0 j e = 0 := acc_zero _
theorem aPool_zero (g c e : ℕ) : P.aPool 0 g c e = 0 := acc_zero _
theorem aSp_zero (h i j : ℕ) : P.aSp 0 h i j = 0 := acc_zero _
theorem aBias_zero (i j : ℕ) : P.aBias 0 i j = 0 := acc_zero _
theorem aHalf_zero (r j : ℕ) : P.aHalf 0 r j = 0 := by
  unfold aHalf
  simp only [acc_zero, ite_self]
theorem aFull_zero (r j : ℕ) : P.aFull 0 r j = 0 := by
  unfold aFull
  simp only [acc_zero, ite_self]

/-! ### The totals -/

theorem aWin_all (e j : ℕ) : P.aWin 16 e j = P.dwin e j := acc_rows fun s => P.h s e * P.dproj s j
theorem aWout_all (j e : ℕ) : P.aWout 16 j e * P.gate e = P.dwout j e :=
  congrArg (· * P.gate e) (acc_rows fun s => P.cat s j * P.dxo s e)
theorem aPool_all (g c e : ℕ) : P.aPool 16 g c e = P.dwpool g c e :=
  acc_rows fun s => P.pooled s (128 * g + c) * P.dmixed s (128 * g + e)
theorem aSp_all (h i j : ℕ) : (if j ≤ i then P.aSp 16 h i j else 0) = P.dwsp h i j := by
  unfold dwsp aSp
  refine if_congr Iff.rfl ?_ rfl
  refine Eq.trans ?_ (acc_blocks fun k => ∑ c : Fin 64, P.dsv (k + i) (64 * h + c) * P.vl (k + j) (64 * h + c))
  simp only [add_assoc]
theorem aBias_all (h t : ℕ) : ∑ c : Fin 64, P.aBias 16 t (64 * h + c) = P.dbsp h t := by
  unfold dbsp
  rw [sum_comm]
  refine sum_congr rfl fun c _ => ?_
  refine Eq.trans ?_ (acc_blocks fun k => P.dsv (k + t) (64 * h + c))
  unfold aBias
  simp only [add_assoc]
theorem aHalf_all (r j : ℕ) : P.aHalf 16 r j = P.v512 r j := by
  unfold aHalf v512
  rw [acc_rows fun s => P.dcat s j * P.mixed s j, acc_rows fun s => P.dvl s j * P.vh s j, acc_rows fun s => P.dvl s j]
  rfl
theorem aFull_all (r j : ℕ) : (if r = 2 then 0 + ∑ i : Fin 1024, P.wout i j * P.aWout 16 i j else P.aFull 16 r j) = P.vd r j := by
  have hg : (0 + ∑ i : Fin 1024, P.wout i j * P.aWout 16 i j) = P.dgate j := by
    unfold dgate mix
    rw [zero_add]
    simp only [mul_sum]
    rw [sum_comm]
    refine sum_congr rfl fun i _ => ?_
    unfold aWout
    rw [acc_rows fun s => P.cat s i * P.dxo s j, mul_sum]
    refine sum_congr rfl fun s _ => ?_
    ring
  unfold aFull vd
  rw [hg, acc_rows fun s => P.dh s j, acc_rows fun s => P.dh s j * P.hp s j, acc_rows fun s => P.dhp s j * P.xn s j]
  by_cases h0 : r = 0
  · subst h0; rfl
  by_cases h1 : r = 1
  · subst h1; rfl
  by_cases h2 : r = 2
  · subst h2; rfl
  by_cases h3 : r = 3
  · subst h3; rfl
  simp only [if_neg h0, if_neg h1, if_neg h2, if_neg h3]

end Params

end MixBwd
-- ==== Proof.Accum.lean ====
/-
  The accumulators of a tile: each store adds the tile's part to what was there.
-/
module

public import proofs.«01_k».proof.Proof.Queue
public import proofs.«01_k».proof.Proof.Sums

@[expose] public section

set_option maxRecDepth 65536

noncomputable section

namespace MixBwd

open Idealize.ShloMosaic Idealize.SL.Sem Cert.KernelIdeal Cert.KernelIdeal.Gen

section Rows

variable {n m r : ℕ}

/-- A row loaded from a matrix. -/
theorem R2.line {a : (⟨2, ![n, m]⟩ : Shape).Idx → EReal} {f : ℕ → ℕ → ℝ} (h : R2 a f)
    (inb : ∀ k, ![r, 0] k + ![1, m] k ≤ (⟨2, ![n, m]⟩ : Shape).size k) :
    R2 (n := 1) (m := m) (View.ld (Val := Elt Ideal) (e' := .f32) (S := ⟨2, ![n, m]⟩) a (Rect.unit (s := ⟨2, ![n, m]⟩) ![r, 0] ![1, m] inb))
      (fun _ j => f r j) :=
  (h.ld inb).congr fun i j hi _ => by rw [show i = 0 by omega]; simp only [zero_add, add_zero]

/-- Some columns loaded from a matrix. -/
theorem R2.cols {m' c : ℕ} {a : (⟨2, ![n, m]⟩ : Shape).Idx → EReal} {f : ℕ → ℕ → ℝ} (h : R2 a f)
    (inb : ∀ k, ![0, c] k + ![n, m'] k ≤ (⟨2, ![n, m]⟩ : Shape).size k) :
    R2 (n := n) (m := m') (View.ld (Val := Elt Ideal) (e' := .f32) (S := ⟨2, ![n, m]⟩) a (Rect.unit (s := ⟨2, ![n, m]⟩) ![0, c] ![n, m'] inb))
      (fun i j => f i (c + j)) :=
  (h.ld inb).congr fun i j _ _ => by simp only [zero_add]

/-- One matrix loaded from a stack. -/
theorem R3.layer {l p : ℕ} {a : (⟨3, ![l, n, m]⟩ : Shape).Idx → EReal} {f : ℕ → ℕ → ℕ → ℝ} (h : R3 a f)
    (inb : ∀ k, ![p, 0, 0] k + ![1, n, m] k ≤ (⟨3, ![l, n, m]⟩ : Shape).size k) :
    R3 (l := 1) (n := n) (m := m) (View.ld (Val := Elt Ideal) (e' := .f32) (S := ⟨3, ![l, n, m]⟩) a
      (Rect.unit (s := ⟨3, ![l, n, m]⟩) ![p, 0, 0] ![1, n, m] inb)) (fun _ i j => f p i j) :=
  (h.ld inb).congr fun k i j hk _ _ => by rw [show k = 0 by omega]; simp only [zero_add, add_zero]

/-- A stored row of `f`. -/
theorem line_piece {f : ℕ → ℕ → ℝ} {w : (⟨2, ![1, m]⟩ : Shape).Idx → Elt Ideal .f32}
    (inb : ∀ k, ![r, 0] k + ![1, m] k ≤ (⟨2, ![n, m]⟩ : Shape).size k) (h : R2 w (fun _ j => f r j))
    (x : (⟨2, ![1, m]⟩ : Shape).Idx) : w x = E2 f ((Rect.unit (s := ⟨2, ![n, m]⟩) ![r, 0] ![1, m] inb).emb x) :=
  piece2 inb h (fun i j hi _ => by rw [show i = 0 by omega]; simp only [zero_add, add_zero]) x

/-- An index outside a stored row. -/
theorem not_line {y : (⟨2, ![n, m]⟩ : Shape).Idx} (inb : ∀ k, ![r, 0] k + ![1, m] k ≤ (⟨2, ![n, m]⟩ : Shape).size k)
    (h : y ∉ (Rect.unit (s := ⟨2, ![n, m]⟩) ![r, 0] ![1, m] inb).set) : (y 0).val ≠ r := fun hr =>
  h ((in2 inb).2 ⟨by omega, Nat.zero_le _, by have : (y 1).val < m := (y 1).isLt; omega⟩)

/-- An index outside three stored rows. -/
theorem not_lines {p q r : ℕ} {y : (⟨2, ![n, m]⟩ : Shape).Idx} (i0 : ∀ k, ![p, 0] k + ![1, m] k ≤ (⟨2, ![n, m]⟩ : Shape).size k)
    (i1 : ∀ k, ![q, 0] k + ![1, m] k ≤ (⟨2, ![n, m]⟩ : Shape).size k) (i2 : ∀ k, ![r, 0] k + ![1, m] k ≤ (⟨2, ![n, m]⟩ : Shape).size k)
    {w0 w1 w2 : (⟨2, ![1, m]⟩ : Shape).Idx → Elt Ideal .f32}
    (h : ∀ a ∈ ([⟨Rect.unit (s := ⟨2, ![n, m]⟩) ![p, 0] ![1, m] i0, w0⟩, ⟨Rect.unit (s := ⟨2, ![n, m]⟩) ![q, 0] ![1, m] i1, w1⟩,
      ⟨Rect.unit (s := ⟨2, ![n, m]⟩) ![r, 0] ![1, m] i2, w2⟩] : List (View.Piece (Elt Ideal) ⟨2, ![n, m]⟩ .f32)), y ∉ a.1.set) :
    (y 0).val ≠ p ∧ (y 0).val ≠ q ∧ (y 0).val ≠ r := by
  have h0 := List.forall_mem_cons.1 h
  have h1 := List.forall_mem_cons.1 h0.2
  have h2 := List.forall_mem_cons.1 h1.2
  exact ⟨not_line i0 h0.1, not_line i1 h1.1, not_line i2 h2.1⟩

/-- An index outside a row stored first and the stores after it. -/
theorem not_line_cons {y : (⟨2, ![n, m]⟩ : Shape).Idx} (i0 : ∀ k, ![r, 0] k + ![1, m] k ≤ (⟨2, ![n, m]⟩ : Shape).size k)
    {w0 : (⟨2, ![1, m]⟩ : Shape).Idx → Elt Ideal .f32} {L : List (View.Piece (Elt Ideal) ⟨2, ![n, m]⟩ .f32)}
    (h : ∀ a ∈ ((⟨Rect.unit (s := ⟨2, ![n, m]⟩) ![r, 0] ![1, m] i0, w0⟩ : View.Piece (Elt Ideal) ⟨2, ![n, m]⟩ .f32) :: L), y ∉ a.1.set) :
    (y 0).val ≠ r ∧ ∀ a ∈ L, y ∉ a.1.set := by
  have h0 := List.forall_mem_cons.1 h
  exact ⟨not_line i0 h0.1, h0.2⟩

/-- Pieces of `f` over a fill that agrees with it where there is no piece. -/
theorem R2.fill {f : ℕ → ℕ → ℝ} (L : List (View.Piece (Elt Ideal) ⟨2, ![n, m]⟩ .f32)) (h : View.PiecesOf (E2 f) L)
    {w : (⟨2, ![n, m]⟩ : Shape).Idx → Elt Ideal .f32} (inb : ∀ k, ![0, 0] k + ![n, m] k ≤ (⟨2, ![n, m]⟩ : Shape).size k)
    (ho : ∀ y : (⟨2, ![n, m]⟩ : Shape).Idx, (∀ q ∈ L, y ∉ q.1.set) → w y = E2 f y) :
    R2 (View.canon (L ++ [⟨Rect.unit (s := ⟨2, ![n, m]⟩) ![0, 0] ![n, m] inb, w⟩])) f := fun y => by
  by_cases hc : ∃ q ∈ L, y ∈ q.1.set
  · exact View.canon_append_of_piecesOf (E2 f) _ L h y hc
  · have hn : ∀ q ∈ L, y ∉ q.1.set := fun q hq hy => hc ⟨q, hq, hy⟩
    have hw := ho y hn
    clear h hc ho
    induction L with
    | nil =>
      refine Eq.trans ?_ hw
      exact congrFun (View.canon_cons_unit_lit (S := ⟨2, ![n, m]⟩) (off := ![0, 0]) inb w [] (fun a => by
        match a with
        | ⟨0, _⟩ => rfl
        | ⟨1, _⟩ => rfl)) y
    | cons q L ih =>
      rw [List.cons_append, View.canon_cons_of_not_mem _ _ (hn q (.head _))]
      exact ih fun q' hq' => hn q' (.tail _ hq')

end Rows

variable {B : Blk} {P : Params} {n : ℕ} {a0 a1 a2 a3 : FVec Ideal S512x128 .f32}

/-! ### Zeros -/

theorem z19 : R2 (k0_pay19 (F := Ideal)) (P.aWin 0) := R2.zero.congr fun _ _ _ _ => (P.aWin_zero _ _).symm
theorem z20 : R2 (k0_pay20 (F := Ideal)) (P.aWout 0) := R2.zero.congr fun _ _ _ _ => (P.aWout_zero _ _).symm
theorem z21 : R3 (k0_pay21 (F := Ideal)) (P.aPool 0) := fun _ => by
  rw [P.aPool_zero]
  exact w_zero
theorem z22 : R3 (k0_pay22 (F := Ideal)) (P.aSp 0) := fun _ => by
  rw [P.aSp_zero]
  exact w_zero
theorem z23 : R2 (k0_pay23 (F := Ideal)) (P.aHalf 0) := R2.zero.congr fun _ _ _ _ => (P.aHalf_zero _ _).symm
theorem z24 : R2 (k0_pay24 (F := Ideal)) (P.aFull 0) := R2.zero.congr fun _ _ _ _ => (P.aFull_zero _ _).symm
theorem z25 : R2 (k0_pay25 (F := Ideal)) (P.aBias 0) :=
  (R2.zero.cast shapeCasts_S128x512_S128x512).congr fun _ _ _ _ => (P.aBias_zero _ _).symm

/-! ### The input gradient -/

theorem dx_r (G : B.Good P (15 - n)) (h : Cols P (15 - n) a0 a1 a2 a3) :
    R2 (k0_pay1 (F := Ideal) B.dxo (k0_pay192 B.gn B.sc B.r B.xn (B.dpj a0 a1 a2 a3) B.wis)) (fun i j => P.dx (512 * (15 - n) + i) j) :=
  p1 G.dxo (p192 G.gn G.sc G.r G.xn (dpj_r G h) G.wis)

/-! ### The two projections' gradients -/

theorem win_r (G : B.Good P (15 - n)) (h : Cols P (15 - n) a0 a1 a2 a3) {a : FVec Ideal S1024x1536 .f32} (ha : R2 a (P.aWin n)) :
    R2 (k0_pay188 (F := Ideal) B.vcs B.hh B.gd' B.rs B.vh a0 a1 a2 a3 B.du B.dvl a) (P.aWin (n + 1)) :=
  (p188 G.hh (dpj_r G h) ha).congr fun _ _ _ _ => (P.aWin_succ n _ _).symm

/-- The output projection's gradient before the gate. -/
abbrev Blk.wog (B : Blk) (a : FVec Ideal S1024x1024 .f32) :=
  k0_pay79 (F := Ideal) B.dxo B.mx B.ps B.u B.sv0 B.sv1 B.sv2 (k0_pay72 B.vl) (k0_pay73 B.vl) (k0_pay74 B.vl) (k0_pay75 B.vl) k0_pay76 (k0_pay77 B.vl) B.wc3 B.bi3 a

theorem wout_r (G : B.Good P (15 - n)) {a : FVec Ideal S1024x1024 .f32} (ha : R2 a (P.aWout n)) : R2 (B.wog a) (P.aWout (n + 1)) :=
  (p79 G.dxo G.mx G.ps G.u G.sv ha).congr fun _ _ _ _ => (P.aWout_succ n _ _).symm

/-! ### The pooled branch's weights -/

variable {l0 l1 l2 l3 l4 l5 l6 l7 : FVec Ideal S1x128x128 .f32} {r0 r1 r2 r3 : FVec Ideal S128x128 .f32}

theorem pool_r (G : B.Good P (15 - n)) (h0 : R3 l0 (fun _ i j => P.aPool n 0 i j)) (h1 : R3 l1 (fun _ i j => P.aPool n 1 i j))
    (h2 : R3 l2 (fun _ i j => P.aPool n 2 i j)) (h3 : R3 l3 (fun _ i j => P.aPool n 3 i j))
    (L' : List (View.Piece (Elt Ideal) S4x128x128 .f32)) (i0 i1 i2 i3) :
    R3 (View.canon (⟨Rect.unit (s := S4x128x128) ![3, 0, 0] ![1, 128, 128] i3, k0_pay102 (F := Ideal) B.pls B.dmx l3⟩
      :: ⟨Rect.unit (s := S4x128x128) ![2, 0, 0] ![1, 128, 128] i2, k0_pay99 (F := Ideal) (k0_pay96 l2) (k0_pay97 B.pls) (k0_pay98 B.dmx)⟩
      :: ⟨Rect.unit (s := S4x128x128) ![1, 0, 0] ![1, 128, 128] i1, k0_pay93 (F := Ideal) B.pls B.dmx l1⟩
      :: ⟨Rect.unit (s := S4x128x128) ![0, 0, 0] ![1, 128, 128] i0, k0_pay89 (F := Ideal) B.pls B.ps B.dm B.wos l0⟩ :: L')) (P.aPool (n + 1)) :=
  R3.four (f := P.aPool (n + 1)) i0 i1 i2 i3 L'
    ((p89 G.pls G.ps G.dm G.wos h0).congr fun _ _ _ _ _ _ => (P.aPool_succ n 0 _ _).symm)
    ((p93 G.pls G.dmx h1).congr fun _ _ _ _ _ _ => (P.aPool_succ n 1 _ _).symm)
    ((p99 G.pls G.dmx h2).congr fun _ _ _ _ _ _ => (P.aPool_succ n 2 _ _).symm)
    ((p102 G.pls G.dmx h3).congr fun _ _ _ _ _ _ => (P.aPool_succ n 3 _ _).symm)

/-! ### The spatial weights -/

abbrev Blk.sp0 (B : Blk) (l : FVec Ideal S1x128x128 .f32) := k0_pay130 (F := Ideal) (k0_pay118 B.vl) (k0_pay119 B.vl) (k0_pay120 B.vl) (k0_pay121 B.vl) (k0_pay124 B.u B.dyb) l
theorem sp0_r (G : B.Good P (15 - n)) {l : FVec Ideal S1x128x128 .f32} (hl : R3 l (fun _ i j => P.aSp n 0 i j)) :
    R3 (B.sp0 l) (fun _ i j => P.aSp (n + 1) 0 i j) :=
  (p130 G.u G.dyb G.vl hl).congr fun _ _ _ _ _ _ => (P.aSp_succ n 0 _ _).symm

abbrev Blk.sp1 (B : Blk) (l : FVec Ideal S1x128x128 .f32) := k0_pay131 (F := Ideal) (k0_pay116 B.u B.dyb) (k0_pay117 B.u B.dyb) (k0_pay118 B.vl) (k0_pay119 B.vl) (k0_pay120 B.vl) (k0_pay121 B.vl) k0_pay123 (k0_pay125 B.u B.dyb) (k0_pay126 B.u B.dyb) l
theorem sp1_r (G : B.Good P (15 - n)) {l : FVec Ideal S1x128x128 .f32} (hl : R3 l (fun _ i j => P.aSp n 1 i j)) :
    R3 (B.sp1 l) (fun _ i j => P.aSp (n + 1) 1 i j) :=
  (p131 G.u G.dyb G.vl hl).congr fun _ _ _ _ _ _ => (P.aSp_succ n 1 _ _).symm

abbrev Blk.sp2 (B : Blk) (l : FVec Ideal S1x128x128 .f32) := k0_pay146 (F := Ideal) (k0_pay136 B.vl) (k0_pay137 B.vl) (k0_pay138 B.vl) (k0_pay139 B.vl) (k0_pay142 (k0_pay132 B.d) (k0_pay133 B.d) (k0_pay134 B.d) (k0_pay135 B.d)) l
theorem sp2_r (G : B.Good P (15 - n)) {l : FVec Ideal S1x128x128 .f32} (hl : R3 l (fun _ i j => P.aSp n 2 i j)) :
    R3 (B.sp2 l) (fun _ i j => P.aSp (n + 1) 2 i j) :=
  (p146 G.d G.vl hl).congr fun _ _ _ _ _ _ => (P.aSp_succ n 2 _ _).symm

abbrev Blk.sp3 (B : Blk) (l : FVec Ideal S1x128x128 .f32) := k0_pay147 (F := Ideal) (k0_pay136 B.vl) (k0_pay137 B.vl) (k0_pay138 B.vl) (k0_pay139 B.vl) (k0_pay143 (k0_pay132 B.d) (k0_pay133 B.d) (k0_pay134 B.d) (k0_pay135 B.d)) l
theorem sp3_r (G : B.Good P (15 - n)) {l : FVec Ideal S1x128x128 .f32} (hl : R3 l (fun _ i j => P.aSp n 3 i j)) :
    R3 (B.sp3 l) (fun _ i j => P.aSp (n + 1) 3 i j) :=
  (p147 G.d G.vl hl).congr fun _ _ _ _ _ _ => (P.aSp_succ n 3 _ _).symm

abbrev Blk.sp4 (B : Blk) (l : FVec Ideal S1x128x128 .f32) := k0_pay162 (F := Ideal) (k0_pay148 B.d) (k0_pay149 B.d) (k0_pay150 B.d) (k0_pay151 B.d) (k0_pay152 B.vl) (k0_pay153 B.vl) (k0_pay154 B.vl) (k0_pay155 B.vl) k0_pay157 (FloatOps.ofBits FTy.f32 0#32) l
theorem sp4_r (G : B.Good P (15 - n)) {l : FVec Ideal S1x128x128 .f32} (hl : R3 l (fun _ i j => P.aSp n 4 i j)) :
    R3 (B.sp4 l) (fun _ i j => P.aSp (n + 1) 4 i j) :=
  (p162 G.d G.vl hl).congr fun _ _ _ _ _ _ => (P.aSp_succ n 4 _ _).symm

abbrev Blk.sp5 (B : Blk) (l : FVec Ideal S1x128x128 .f32) := k0_pay163 (F := Ideal) (k0_pay159 (k0_pay148 B.d) (k0_pay149 B.d) (k0_pay150 B.d) (k0_pay151 B.d) k0_pay157) (k0_pay161 (k0_pay152 B.vl) (k0_pay153 B.vl) (k0_pay154 B.vl) (k0_pay155 B.vl)) l
theorem sp5_r (G : B.Good P (15 - n)) {l : FVec Ideal S1x128x128 .f32} (hl : R3 l (fun _ i j => P.aSp n 5 i j)) :
    R3 (B.sp5 l) (fun _ i j => P.aSp (n + 1) 5 i j) :=
  (p163 G.d G.vl hl).congr fun _ _ _ _ _ _ => (P.aSp_succ n 5 _ _).symm

abbrev Blk.sp6 (B : Blk) (l : FVec Ideal S1x128x128 .f32) := k0_pay180 (F := Ideal) (k0_pay168 B.vl) (k0_pay169 B.vl) (k0_pay170 B.vl) (k0_pay171 B.vl) (k0_pay174 B.d) l
theorem sp6_r (G : B.Good P (15 - n)) {l : FVec Ideal S1x128x128 .f32} (hl : R3 l (fun _ i j => P.aSp n 6 i j)) :
    R3 (B.sp6 l) (fun _ i j => P.aSp (n + 1) 6 i j) :=
  (p180 G.d G.vl hl).congr fun _ _ _ _ _ _ => (P.aSp_succ n 6 _ _).symm

abbrev Blk.sp7 (B : Blk) (l : FVec Ideal S1x128x128 .f32) := k0_pay181 (F := Ideal) (k0_pay167 B.d) (k0_pay168 B.vl) (k0_pay169 B.vl) (k0_pay170 B.vl) (k0_pay171 B.vl) k0_pay173 (k0_pay175 B.d) (k0_pay176 B.d) (k0_pay177 B.d) l
theorem sp7_r (G : B.Good P (15 - n)) {l : FVec Ideal S1x128x128 .f32} (hl : R3 l (fun _ i j => P.aSp n 7 i j)) :
    R3 (B.sp7 l) (fun _ i j => P.aSp (n + 1) 7 i j) :=
  (p181 G.d G.vl hl).congr fun _ _ _ _ _ _ => (P.aSp_succ n 7 _ _).symm

theorem sp_r (G : B.Good P (15 - n)) (h0 : R3 l0 (fun _ i j => P.aSp n 0 i j)) (h1 : R3 l1 (fun _ i j => P.aSp n 1 i j)) (h2 : R3 l2 (fun _ i j => P.aSp n 2 i j)) (h3 : R3 l3 (fun _ i j => P.aSp n 3 i j)) (h4 : R3 l4 (fun _ i j => P.aSp n 4 i j)) (h5 : R3 l5 (fun _ i j => P.aSp n 5 i j)) (h6 : R3 l6 (fun _ i j => P.aSp n 6 i j)) (h7 : R3 l7 (fun _ i j => P.aSp n 7 i j))
    (L' : List (View.Piece (Elt Ideal) S8x128x128 .f32)) (i0 i1 i2 i3 i4 i5 i6 i7) :
    R3 (View.canon (⟨Rect.unit (s := S8x128x128) ![7, 0, 0] ![1, 128, 128] i7, B.sp7 l7⟩
      :: ⟨Rect.unit (s := S8x128x128) ![6, 0, 0] ![1, 128, 128] i6, B.sp6 l6⟩
      :: ⟨Rect.unit (s := S8x128x128) ![5, 0, 0] ![1, 128, 128] i5, B.sp5 l5⟩
      :: ⟨Rect.unit (s := S8x128x128) ![4, 0, 0] ![1, 128, 128] i4, B.sp4 l4⟩
      :: ⟨Rect.unit (s := S8x128x128) ![3, 0, 0] ![1, 128, 128] i3, B.sp3 l3⟩
      :: ⟨Rect.unit (s := S8x128x128) ![2, 0, 0] ![1, 128, 128] i2, B.sp2 l2⟩
      :: ⟨Rect.unit (s := S8x128x128) ![1, 0, 0] ![1, 128, 128] i1, B.sp1 l1⟩
      :: ⟨Rect.unit (s := S8x128x128) ![0, 0, 0] ![1, 128, 128] i0, B.sp0 l0⟩ :: L')) (P.aSp (n + 1)) :=
  R3.eight (f := P.aSp (n + 1)) i0 i1 i2 i3 i4 i5 i6 i7 L' (sp0_r G h0) (sp1_r G h1) (sp2_r G h2) (sp3_r G h3) (sp4_r G h4) (sp5_r G h5) (sp6_r G h6) (sp7_r G h7)

/-- The last tile clears what lies above the diagonal. -/
theorem spLast_r (G : B.Good P (15 - n)) (h0 : R3 l0 (fun _ i j => P.aSp n 0 i j)) (h1 : R3 l1 (fun _ i j => P.aSp n 1 i j)) (h2 : R3 l2 (fun _ i j => P.aSp n 2 i j)) (h3 : R3 l3 (fun _ i j => P.aSp n 3 i j)) (h4 : R3 l4 (fun _ i j => P.aSp n 4 i j)) (h5 : R3 l5 (fun _ i j => P.aSp n 5 i j)) (h6 : R3 l6 (fun _ i j => P.aSp n 6 i j)) (h7 : R3 l7 (fun _ i j => P.aSp n 7 i j))
    (L' : List (View.Piece (Elt Ideal) S8x128x128 .f32)) (i0 i1 i2 i3 i4 i5 i6 i7) :
    R3 (View.canon (⟨Rect.unit (s := S8x128x128) ![7, 0, 0] ![1, 128, 128] i7, k0_pay6 (F := Ideal) (B.sp7 l7)⟩
      :: ⟨Rect.unit (s := S8x128x128) ![6, 0, 0] ![1, 128, 128] i6, k0_pay6 (F := Ideal) (B.sp6 l6)⟩
      :: ⟨Rect.unit (s := S8x128x128) ![5, 0, 0] ![1, 128, 128] i5, k0_pay6 (F := Ideal) (B.sp5 l5)⟩
      :: ⟨Rect.unit (s := S8x128x128) ![4, 0, 0] ![1, 128, 128] i4, k0_pay6 (F := Ideal) (B.sp4 l4)⟩
      :: ⟨Rect.unit (s := S8x128x128) ![3, 0, 0] ![1, 128, 128] i3, k0_pay6 (F := Ideal) (B.sp3 l3)⟩
      :: ⟨Rect.unit (s := S8x128x128) ![2, 0, 0] ![1, 128, 128] i2, k0_pay6 (F := Ideal) (B.sp2 l2)⟩
      :: ⟨Rect.unit (s := S8x128x128) ![1, 0, 0] ![1, 128, 128] i1, k0_pay6 (F := Ideal) (B.sp1 l1)⟩
      :: ⟨Rect.unit (s := S8x128x128) ![0, 0, 0] ![1, 128, 128] i0, k0_pay6 (F := Ideal) (B.sp0 l0)⟩ :: L')) (fun h i j => if j ≤ i then P.aSp (n + 1) h i j else 0) :=
  R3.eight (f := fun h i j => if j ≤ i then P.aSp (n + 1) h i j else 0) i0 i1 i2 i3 i4 i5 i6 i7 L' (p6 (sp0_r G h0)) (p6 (sp1_r G h1)) (p6 (sp2_r G h2)) (p6 (sp3_r G h3)) (p6 (sp4_r G h4)) (p6 (sp5_r G h5)) (p6 (sp6_r G h6)) (p6 (sp7_r G h7))

/-! ### The spatial bias -/

/-- The four stores of the bias' gradient. -/
abbrev Blk.biases (B : Blk) (r0 r1 r2 r3 : FVec Ideal S128x128 .f32) (L' : List (View.Piece (Elt Ideal) S128x512 .f32)) : List (View.Piece (Elt Ideal) S128x512 .f32) :=
  ⟨Rect.unit (s := S128x512) ![0, 384] ![128, 128] inb_S128x512_S128x128_0_384, k0_pay172 (F := Ideal) B.d r3⟩
  :: ⟨Rect.unit (s := S128x512) ![0, 256] ![128, 128] inb_S128x512_S128x128_0_256, k0_pay156 (F := Ideal) B.d r2⟩
  :: ⟨Rect.unit (s := S128x512) ![0, 128] ![128, 128] inb_S128x512_S128x128_0_128, k0_pay140 (F := Ideal) (k0_pay132 B.d) (k0_pay133 B.d) (k0_pay134 B.d) (k0_pay135 B.d) r1⟩
  :: ⟨Rect.unit (s := S128x512) ![0, 0] ![128, 128] inb_S128x512_S128x128_0_0, k0_pay122 (F := Ideal) B.u B.dyb r0⟩ :: L'

theorem bias_r (G : B.Good P (15 - n)) (h0 : R2 r0 (fun i j => P.aBias n i (0 + j))) (h1 : R2 r1 (fun i j => P.aBias n i (128 + j)))
    (h2 : R2 r2 (fun i j => P.aBias n i (256 + j))) (h3 : R2 r3 (fun i j => P.aBias n i (384 + j)))
    (L' : List (View.Piece (Elt Ideal) S128x512 .f32)) : R2 (View.canon (B.biases r0 r1 r2 r3 L')) (P.aBias (n + 1)) :=
  R2.blocks (f := P.aBias (n + 1)) inb_S128x512_S128x128_0_0 inb_S128x512_S128x128_0_128 inb_S128x512_S128x128_0_256 inb_S128x512_S128x128_0_384 L'
    ((p122 G.u G.dyb h0).congr fun _ _ _ _ => (P.aBias_succ n _ _).symm)
    ((p140 G.d h1).congr fun _ _ _ _ => (P.aBias_succ n _ _).symm)
    ((p156 G.d h2).congr fun _ _ _ _ => (P.aBias_succ n _ _).symm)
    ((p172 G.d h3).congr fun _ _ _ _ => (P.aBias_succ n _ _).symm)

/-! ### The vectors of half the width -/

variable {s0 s1 s2 s3 : FVec Ideal S1x512 .f32} {t0 t1 t2 t3 : FVec Ideal S1x1024 .f32}

/-- The three rows stored. -/
abbrev Blk.halves (B : Blk) (s0 s1 s2 : FVec Ideal S1x512 .f32) : List (View.Piece (Elt Ideal) S8x512 .f32) :=
  [⟨Rect.unit (s := S8x512) ![2, 0] ![1, 512] inb_S8x512_S1x512_2_0, k0_pay186 (F := Ideal) B.dvl s2⟩,
   ⟨Rect.unit (s := S8x512) ![1, 0] ![1, 512] inb_S8x512_S1x512_1_0, k0_pay185 (F := Ideal) (k0_pay183 s1) (k0_pay184 B.vh B.dl0 B.dl1 B.dl2 (k0_pay167 B.d) k0_pay173 (k0_pay174 B.d) (k0_pay175 B.d) (k0_pay176 B.d) (k0_pay177 B.d) B.wt3)⟩,
   ⟨Rect.unit (s := S8x512) ![0, 0] ![1, 512] inb_S8x512_S1x512_0_0, k0_pay85 (F := Ideal) B.mx B.dm B.wos s0⟩]

theorem halves_of (G : B.Good P (15 - n)) (h0 : R2 s0 (fun _ j => P.aHalf n 0 j)) (h1 : R2 s1 (fun _ j => P.aHalf n 1 j))
    (h2 : R2 s2 (fun _ j => P.aHalf n 2 j)) : View.PiecesOf (E2 (P.aHalf (n + 1))) (B.halves s0 s1 s2) :=
  ⟨line_piece (f := P.aHalf (n + 1)) inb_S8x512_S1x512_2_0 ((p186 G.dvl h2).congr fun _ _ _ _ => (P.aHalf_succ2 n _).symm),
   line_piece (f := P.aHalf (n + 1)) inb_S8x512_S1x512_1_0 ((p185 G.vh G.dvl h1).congr fun _ _ _ _ => (P.aHalf_succ1 n _).symm),
   line_piece (f := P.aHalf (n + 1)) inb_S8x512_S1x512_0_0 ((p85 G.mx G.dm G.wos h0).congr fun _ _ _ _ => (P.aHalf_succ0 n _).symm), trivial⟩

theorem halves_rest {y : S8x512.Idx} (h : ∀ q ∈ B.halves s0 s1 s2, y ∉ q.1.set) (k : ℕ) : P.aHalf k (y 0).val (y 1).val = 0 := by
  obtain ⟨h2, h1, h0⟩ := not_lines inb_S8x512_S1x512_2_0 inb_S8x512_S1x512_1_0 inb_S8x512_S1x512_0_0 h
  unfold Params.aHalf
  rw [if_neg h0, if_neg h1, if_neg h2]

/-! ### The vectors of the model's width -/

/-- The three rows stored by every tile. -/
abbrev Blk.fulls (B : Blk) (a0 a1 a2 a3 : FVec Ideal S512x128 .f32) (t0 t1 t3 : FVec Ideal S1x1024 .f32) : List (View.Piece (Elt Ideal) S8x1024 .f32) :=
  [⟨Rect.unit (s := S8x1024) ![3, 0] ![1, 1024] inb_S8x1024_S1x1024_3_0, k0_pay195 (F := Ideal) B.sc B.xn (B.dpj a0 a1 a2 a3) B.wis t3⟩,
   ⟨Rect.unit (s := S8x1024) ![1, 0] ![1, 1024] inb_S8x1024_S1x1024_1_0, k0_pay194 (F := Ideal) B.hp (B.dpj a0 a1 a2 a3) B.wis t1⟩,
   ⟨Rect.unit (s := S8x1024) ![0, 0] ![1, 1024] inb_S8x1024_S1x1024_0_0, k0_pay193 (F := Ideal) (B.dpj a0 a1 a2 a3) B.wis t0⟩]

theorem fulls_of (G : B.Good P (15 - n)) (h : Cols P (15 - n) a0 a1 a2 a3) (h0 : R2 t0 (fun _ j => P.aFull n 0 j))
    (h1 : R2 t1 (fun _ j => P.aFull n 1 j)) (h3 : R2 t3 (fun _ j => P.aFull n 3 j)) {f : ℕ → ℕ → ℝ}
    (hf : ∀ r j, r ≠ 2 → f r j = P.aFull (n + 1) r j) : View.PiecesOf (E2 f) (B.fulls a0 a1 a2 a3 t0 t1 t3) :=
  ⟨line_piece (f := f) inb_S8x1024_S1x1024_3_0 ((p195 G.sc G.xn (dpj_r G h) G.wis h3).congr fun _ _ _ _ => ((hf 3 _ (by omega)).trans (P.aFull_succ3 n _)).symm),
   line_piece (f := f) inb_S8x1024_S1x1024_1_0 ((p194 G.hp (dpj_r G h) G.wis h1).congr fun _ _ _ _ => ((hf 1 _ (by omega)).trans (P.aFull_succ1 n _)).symm),
   line_piece (f := f) inb_S8x1024_S1x1024_0_0 ((p193 (dpj_r G h) G.wis h0).congr fun _ _ _ _ => ((hf 0 _ (by omega)).trans (P.aFull_succ0 n _)).symm), trivial⟩

theorem fulls_rest {y : S8x1024.Idx} (h : ∀ q ∈ B.fulls a0 a1 a2 a3 t0 t1 t3, y ∉ q.1.set) (k : ℕ) :
    P.aFull k (y 0).val (y 1).val = 0 := by
  obtain ⟨h3, h1, h0⟩ := not_lines inb_S8x1024_S1x1024_3_0 inb_S8x1024_S1x1024_1_0 inb_S8x1024_S1x1024_0_0 h
  unfold Params.aFull
  rw [if_neg h0, if_neg h1, if_neg h3]

section Stores

variable {sig : RefSig} {κ : Kind} {sp : Space}

theorem halves_fill (G : B.Good P (15 - n)) (h0 : R2 s0 (fun _ j => P.aHalf n 0 j)) (h1 : R2 s1 (fun _ j => P.aHalf n 1 j))
    (h2 : R2 s2 (fun _ j => P.aHalf n 2 j)) {w : FVec Ideal S8x512 .f32} (hw : R2 w (P.aHalf n)) (inb) :
    R2 (View.canon (B.halves s0 s1 s2 ++ [⟨Rect.unit (s := S8x512) ![0, 0] ![8, 512] inb, w⟩])) (P.aHalf (n + 1)) :=
  R2.fill (f := P.aHalf (n + 1)) _ (halves_of G h0 h1 h2) inb fun y hy => (hw y).trans
    (congrArg _ ((halves_rest hy n).trans (halves_rest hy (n + 1)).symm))

theorem halves_over (G : B.Good P (15 - n)) (h0 : R2 s0 (fun _ j => P.aHalf n 0 j)) (h1 : R2 s1 (fun _ j => P.aHalf n 1 j))
    (h2 : R2 s2 (fun _ j => P.aHalf n 2 j)) {v : View sig κ sp S8x512 .f32} {X : v.ty.Contents (Elt Ideal)}
    (hw : R2 (v.read (Elt Ideal) X) (P.aHalf n)) :
    R2 (v.read (Elt Ideal) (v.writes (Elt Ideal) X (B.halves s0 s1 s2))) (P.aHalf (n + 1)) :=
  R2.over (f := P.aHalf (n + 1)) v X _ (halves_of G h0 h1 h2) fun y hy => (hw y).trans
    (congrArg _ ((halves_rest hy n).trans (halves_rest hy (n + 1)).symm))

theorem fulls_fill (G : B.Good P (15 - n)) (h : Cols P (15 - n) a0 a1 a2 a3) (h0 : R2 t0 (fun _ j => P.aFull n 0 j))
    (h1 : R2 t1 (fun _ j => P.aFull n 1 j)) (h3 : R2 t3 (fun _ j => P.aFull n 3 j)) {w : FVec Ideal S8x1024 .f32}
    (hw : R2 w (P.aFull n)) (inb) :
    R2 (View.canon (B.fulls a0 a1 a2 a3 t0 t1 t3 ++ [⟨Rect.unit (s := S8x1024) ![0, 0] ![8, 1024] inb, w⟩])) (P.aFull (n + 1)) :=
  R2.fill (f := P.aFull (n + 1)) _ (fulls_of G h h0 h1 h3 fun _ _ _ => rfl) inb fun y hy => (hw y).trans
    (congrArg _ ((fulls_rest hy n).trans (fulls_rest hy (n + 1)).symm))

theorem fulls_over (G : B.Good P (15 - n)) (h : Cols P (15 - n) a0 a1 a2 a3) (h0 : R2 t0 (fun _ j => P.aFull n 0 j))
    (h1 : R2 t1 (fun _ j => P.aFull n 1 j)) (h3 : R2 t3 (fun _ j => P.aFull n 3 j)) {v : View sig κ sp S8x1024 .f32}
    {X : v.ty.Contents (Elt Ideal)} (hw : R2 (v.read (Elt Ideal) X) (P.aFull n)) :
    R2 (v.read (Elt Ideal) (v.writes (Elt Ideal) X (B.fulls a0 a1 a2 a3 t0 t1 t3))) (P.aFull (n + 1)) :=
  R2.over (f := P.aFull (n + 1)) v X _ (fulls_of G h h0 h1 h3 fun _ _ _ => rfl) fun y hy => (hw y).trans
    (congrArg _ ((fulls_rest hy n).trans (fulls_rest hy (n + 1)).symm))

/-- The vectors of the model's width after the last tile, which adds the gate's row. -/
def fullLast (P : Params) (n r j : ℕ) : ℝ :=
  if r = 2 then 0 + ∑ i : Fin 1024, P.wout i j * P.aWout n i j else P.aFull n r j

theorem fulls_last (G : B.Good P (15 - n)) (h : Cols P (15 - n) a0 a1 a2 a3) (h0 : R2 t0 (fun _ j => P.aFull n 0 j))
    (h1 : R2 t1 (fun _ j => P.aFull n 1 j)) (h2 : R2 t2 (fun _ j => P.aFull n 2 j)) (h3 : R2 t3 (fun _ j => P.aFull n 3 j))
    {a : FVec Ideal S1024x1024 .f32} (ha : R2 a (P.aWout (n + 1))) {v : View sig κ sp S8x1024 .f32}
    {X : v.ty.Contents (Elt Ideal)} (hw : R2 (v.read (Elt Ideal) X) (P.aFull n)) :
    R2 (v.read (Elt Ideal) (v.writes (Elt Ideal) X
      (⟨Rect.unit (s := S8x1024) ![2, 0] ![1, 1024] inb_S8x1024_S1x1024_2_0, k0_pay4 (F := Ideal) a t2 B.wo⟩
        :: B.fulls a0 a1 a2 a3 t0 t1 t3))) (fullLast P (n + 1)) :=
  R2.over (f := fullLast P (n + 1)) v X _ ⟨line_piece (f := fullLast P (n + 1)) inb_S8x1024_S1x1024_2_0
      ((p4 G.wo ha h2).congr fun _ j _ _ => by
        unfold fullLast
        rw [if_pos rfl]
        exact congrArg (· + _) (by unfold Params.aFull; rfl)),
      fulls_of G h h0 h1 h3 fun r j hr => by unfold fullLast; rw [if_neg hr]⟩
    fun y hy => by
      obtain ⟨h2', hr⟩ := not_line_cons inb_S8x1024_S1x1024_2_0 hy
      refine (hw y).trans (congrArg _ ((fulls_rest hr n).trans ?_))
      unfold fullLast
      rw [if_neg h2']
      exact (fulls_rest hr (n + 1)).symm

end Stores

end MixBwd
-- ==== Proof.State.lean ====
/-
  What the result and scratch buffers hold after a number of tiles, the last tile of the sequence first.
-/
module

public import proofs.«01_k».proof.Proof.Accum
public import proofs.«01_k».proof.Proof.Gen.KernelIdeal.Value
public import Idealize.ShloMosaic.Lib.Pipeline.ValueKit
public import Idealize.ShloMosaic.Lib.Pipeline.ReadBack

@[expose] public section

set_option maxRecDepth 65536

noncomputable section

namespace MixBwd

open Idealize.ShloMosaic Idealize.SL.Sem Cert.KernelIdeal Cert.KernelIdeal.Gen

variable (m : (l : Loc nD τ sig) → Buf (Elt Ideal) l) (c : Dev nD)

/-- The blocks tile `t` of the grid reads; the grid counts the sequence's tiles from the last. -/
abbrev blk (t : Fin cfg0.N) : Blk where
  v0 := Scalar.subi (15#32) (BitVec.ofNat 32 (grid0.coords t 0))
  x := iblk (F := Ideal) m c 0 t
  dxo := iblk (F := Ideal) m c 1 t
  pl := iblk (F := Ideal) m c 2 t
  zb := iblk (F := Ideal) m c 3 t
  md := iblk (F := Ideal) m c 4 t
  wi := iblk (F := Ideal) m c 5 t
  wp := iblk (F := Ideal) m c 6 t
  vc := iblk (F := Ideal) m c 7 t
  wc := iblk (F := Ideal) m c 8 t
  wt := iblk (F := Ideal) m c 9 t
  bi := iblk (F := Ideal) m c 10 t
  wo := iblk (F := Ideal) m c 11 t

/-- After `n` tiles, the last of them the grid's tile `k`. -/
structure Inv (P : Params) (n : ℕ) (k : ℕ) (hk : k < cfg0.N) : Prop where
  win : R2 (Gen.outsAt0 (F := Ideal) m c k hk).2.1 (P.aWin n)
  wout : R2 (Gen.outsAt0 (F := Ideal) m c k hk).2.2.1 (P.aWout n)
  pool : R3 (Gen.outsAt0 (F := Ideal) m c k hk).2.2.2.1 (P.aPool n)
  sp : R3 (Gen.outsAt0 (F := Ideal) m c k hk).2.2.2.2.1 (P.aSp n)
  half : R2 (Gen.outsAt0 (F := Ideal) m c k hk).2.2.2.2.2.2.1 (P.aHalf n)
  full : R2 (Gen.outsAt0 (F := Ideal) m c k hk).2.2.2.2.2.2.2.1 (P.aFull n)
  carry : Carry P (15 - n) (Gen.outsAt0 (F := Ideal) m c k hk).2.2.2.2.2.2.2.2.1
  bias : R2 (Gen.outsAt0 (F := Ideal) m c k hk).2.2.2.2.2.2.2.2.2 (P.aBias n)

variable {m c} {P : Params} {n k : ℕ} {hk : k < cfg0.N}

/-- The carried rows, read back from the scratch buffer. -/
theorem carried (I : Inv m c P n k hk) (h : (Memref.whole cc0_scratch0).IsWhole) :
    Carry P (15 - n) (View.read (Elt Ideal) (View.whole cc0_scratch0)
      (h.unread (Gen.outsAt0 (F := Ideal) m c k hk).2.2.2.2.2.2.2.2.1)) := by
  rw [read_unread_whole]
  exact I.carry

theorem whole_r (h : (Memref.whole cc0_scratch1).IsWhole) {X : S128x512.Idx → Elt Ideal .f32} {f : ℕ → ℕ → ℝ} (hX : R2 X f) :
    R2 (n := 128) (m := 512) (View.read (Elt Ideal) (View.whole cc0_scratch1) (h.unread X)) f := by
  rw [read_unread_whole]
  exact hX

theorem unread_r {n m : ℕ} {κ : Kind} {sp : Space} {r : Memref sig κ sp ⟨2, ![n, m]⟩ .f32} (h : r.IsWhole)
    {X : (⟨2, ![n, m]⟩ : Shape).Idx → Elt Ideal .f32} {f : ℕ → ℕ → ℝ} (hX : R2 X f) :
    R2 (r.view.read (Elt Ideal) (h.unread X)) f := by
  rw [h.read_unread]
  exact hX

/-- The whole of what stores left, loaded back. -/
theorem wholeCov {L : List (View.Piece (Elt Ideal) S128x512 .f32)} {f : ℕ → ℕ → ℝ} (h : R2 (View.canon L) f) (inb) :
    R2 (n := 128) (m := 512) ((View.whole cc0_scratch1).readCov L (Rect.unit (s := S128x512) ![0, 0] ![128, 512] inb).toLoadRect) f :=
  fun y => by
  rw [View.readCov_eq_canon']
  refine (h _).trans ?_
  show ((f (0 + 1 * (y 0).val) (0 + 1 * (y 1).val) : ℝ) : EReal) = _
  rw [zero_add, zero_add, one_mul, one_mul]

end MixBwd
-- ==== Proof.StepA.lean ====
/-
  The first tile taken: what it leaves in every result and scratch buffer.
-/
module

public import proofs.«01_k».proof.Proof.State

@[expose] public section

set_option maxRecDepth 65536

noncomputable section

namespace MixBwd

open Idealize.ShloMosaic Idealize.SL.Sem Cert.KernelIdeal Cert.KernelIdeal.Gen

variable {m : (l : Loc nD τ sig) → Buf (Elt Ideal) l} {c : Dev nD} {t : Fin cfg0.N} {P : Params}

theorem first_dx (h0 : t.val % 16 = 0) (h1 : ¬t.val % 16 = 15) (G : (blk m c t).Good P (15 - 0)) : R2 (Gen.outsAt0 (F := Ideal) m c t.val t.isLt).1 (fun i j => P.dx (512 * (15 - 0) + i) j) := by
  have key := dx_r (n := 0) G (cols_z G rfl)
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key

theorem first_win (h0 : t.val % 16 = 0) (h1 : ¬t.val % 16 = 15) (G : (blk m c t).Good P (15 - 0)) : R2 (Gen.outsAt0 (F := Ideal) m c t.val t.isLt).2.1 (P.aWin 1) := by
  have key := win_r (n := 0) G (cols_z G rfl) z19
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key

theorem first_wout (h0 : t.val % 16 = 0) (h1 : ¬t.val % 16 = 15) (G : (blk m c t).Good P (15 - 0)) : R2 (Gen.outsAt0 (F := Ideal) m c t.val t.isLt).2.2.1 (P.aWout 1) := by
  have key := wout_r (n := 0) G z20
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key

theorem first_pool (h0 : t.val % 16 = 0) (h1 : ¬t.val % 16 = 15) (G : (blk m c t).Good P (15 - 0)) : R3 (Gen.outsAt0 (F := Ideal) m c t.val t.isLt).2.2.2.1 (P.aPool 1) := by
  have key := fun L : List (View.Piece (Elt Ideal) S4x128x128 .f32) => pool_r (n := 0) G (z21.layer inb_S4x128x128_S1x128x128_0_0_0) (z21.layer inb_S4x128x128_S1x128x128_1_0_0) (z21.layer inb_S4x128x128_S1x128x128_2_0_0) (z21.layer inb_S4x128x128_S1x128x128_3_0_0) L inb_S4x128x128_S1x128x128_0_0_0 inb_S4x128x128_S1x128x128_1_0_0 inb_S4x128x128_S1x128x128_2_0_0 inb_S4x128x128_S1x128x128_3_0_0
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key _

theorem first_sp (h0 : t.val % 16 = 0) (h1 : ¬t.val % 16 = 15) (G : (blk m c t).Good P (15 - 0)) : R3 (Gen.outsAt0 (F := Ideal) m c t.val t.isLt).2.2.2.2.1 (P.aSp 1) := by
  have key := fun L : List (View.Piece (Elt Ideal) S8x128x128 .f32) => sp_r (n := 0) G (z22.layer inb_S8x128x128_S1x128x128_0_0_0) (z22.layer inb_S8x128x128_S1x128x128_1_0_0) (z22.layer inb_S8x128x128_S1x128x128_2_0_0) (z22.layer inb_S8x128x128_S1x128x128_3_0_0) (z22.layer inb_S8x128x128_S1x128x128_4_0_0) (z22.layer inb_S8x128x128_S1x128x128_5_0_0) (z22.layer inb_S8x128x128_S1x128x128_6_0_0) (z22.layer inb_S8x128x128_S1x128x128_7_0_0) L inb_S8x128x128_S1x128x128_0_0_0 inb_S8x128x128_S1x128x128_1_0_0 inb_S8x128x128_S1x128x128_2_0_0 inb_S8x128x128_S1x128x128_3_0_0 inb_S8x128x128_S1x128x128_4_0_0 inb_S8x128x128_S1x128x128_5_0_0 inb_S8x128x128_S1x128x128_6_0_0 inb_S8x128x128_S1x128x128_7_0_0
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key _

theorem first_half (h0 : t.val % 16 = 0) (h1 : ¬t.val % 16 = 15) (G : (blk m c t).Good P (15 - 0)) : R2 (Gen.outsAt0 (F := Ideal) m c t.val t.isLt).2.2.2.2.2.2.1 (P.aHalf 1) := by
  have key := fun i => halves_fill (n := 0) G (z23.line inb_S8x512_S1x512_0_0) (z23.line inb_S8x512_S1x512_1_0) (z23.line inb_S8x512_S1x512_2_0) z23 i
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key _

theorem first_full (h0 : t.val % 16 = 0) (h1 : ¬t.val % 16 = 15) (G : (blk m c t).Good P (15 - 0)) : R2 (Gen.outsAt0 (F := Ideal) m c t.val t.isLt).2.2.2.2.2.2.2.1 (P.aFull 1) := by
  have key := fun i => fulls_fill (n := 0) G (cols_z G rfl) (z24.line inb_S8x1024_S1x1024_0_0) (z24.line inb_S8x1024_S1x1024_1_0) (z24.line inb_S8x1024_S1x1024_3_0) z24 i
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key _

theorem first_carry (h0 : t.val % 16 = 0) (h1 : ¬t.val % 16 = 15) (G : (blk m c t).Good P (15 - 0)) : Carry P (15 - 1) (Gen.outsAt0 (F := Ideal) m c t.val t.isLt).2.2.2.2.2.2.2.2.1 := by
  have key := carry_tile (N := 15 - 1) G past (past_of rfl) rfl
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key

theorem first_bias (h0 : t.val % 16 = 0) (h1 : ¬t.val % 16 = 15) (G : (blk m c t).Good P (15 - 0)) : R2 (Gen.outsAt0 (F := Ideal) m c t.val t.isLt).2.2.2.2.2.2.2.2.2 (P.aBias 1) := by
  have key := fun L : List (View.Piece (Elt Ideal) S128x512 .f32) => bias_r (n := 0) G (z25.cols inb_S128x512_S128x128_0_0) (z25.cols inb_S128x512_S128x128_0_128) (z25.cols inb_S128x512_S128x128_0_256) (z25.cols inb_S128x512_S128x128_0_384) L
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_A m c t h0 h1]
  frame_open
  simp (disch := decide) only [↓ View.readCov_skip, ↓ View.readCov_cons_toLoadRect, ↓ View.readCov_fill]
  frame_out
  exact key _

end MixBwd
-- ==== Proof.StepB.lean ====
/-
  A tile between: what it leaves in every result and scratch buffer, from what the tile before left.
-/
module

public import proofs.«01_k».proof.Proof.State

@[expose] public section

set_option maxRecDepth 65536

noncomputable section

namespace MixBwd

open Idealize.ShloMosaic Idealize.SL.Sem Cert.KernelIdeal Cert.KernelIdeal.Gen

variable {m : (l : Loc nD τ sig) → Buf (Elt Ideal) l} {c : Dev nD} {t : Fin cfg0.N} {P : Params}

theorem inner_dx {n : ℕ} (h0 : ¬t.val % 16 = 0) (h1 : ¬t.val % 16 = 15) (G : (blk m c t).Good P (15 - n)) (I : Inv m c P n (t.val - 1) (by have := t.isLt; omega)) : R2 (Gen.outsAt0 (F := Ideal) m c t.val t.isLt).1 (fun i j => P.dx (512 * (15 - n) + i) j) := by
  have key := dx_r (n := n) G (cols_c G (carried I (Memref.isWhole_whole _)))
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key

theorem inner_win {n : ℕ} (h0 : ¬t.val % 16 = 0) (h1 : ¬t.val % 16 = 15) (G : (blk m c t).Good P (15 - n)) (I : Inv m c P n (t.val - 1) (by have := t.isLt; omega)) : R2 (Gen.outsAt0 (F := Ideal) m c t.val t.isLt).2.1 (P.aWin (n + 1)) := by
  have key := win_r (n := n) G (cols_c G (carried I (Memref.isWhole_whole _))) I.win
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key

theorem inner_wout {n : ℕ} (h0 : ¬t.val % 16 = 0) (h1 : ¬t.val % 16 = 15) (G : (blk m c t).Good P (15 - n)) (I : Inv m c P n (t.val - 1) (by have := t.isLt; omega)) : R2 (Gen.outsAt0 (F := Ideal) m c t.val t.isLt).2.2.1 (P.aWout (n + 1)) := by
  have key := wout_r (n := n) G I.wout
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key

theorem inner_pool {n : ℕ} (h0 : ¬t.val % 16 = 0) (h1 : ¬t.val % 16 = 15) (G : (blk m c t).Good P (15 - n)) (I : Inv m c P n (t.val - 1) (by have := t.isLt; omega)) : R3 (Gen.outsAt0 (F := Ideal) m c t.val t.isLt).2.2.2.1 (P.aPool (n + 1)) := by
  have key := fun L : List (View.Piece (Elt Ideal) S4x128x128 .f32) => pool_r (n := n) G (I.pool.layer inb_S4x128x128_S1x128x128_0_0_0) (I.pool.layer inb_S4x128x128_S1x128x128_1_0_0) (I.pool.layer inb_S4x128x128_S1x128x128_2_0_0) (I.pool.layer inb_S4x128x128_S1x128x128_3_0_0) L inb_S4x128x128_S1x128x128_0_0_0 inb_S4x128x128_S1x128x128_1_0_0 inb_S4x128x128_S1x128x128_2_0_0 inb_S4x128x128_S1x128x128_3_0_0
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key _

theorem inner_sp {n : ℕ} (h0 : ¬t.val % 16 = 0) (h1 : ¬t.val % 16 = 15) (G : (blk m c t).Good P (15 - n)) (I : Inv m c P n (t.val - 1) (by have := t.isLt; omega)) : R3 (Gen.outsAt0 (F := Ideal) m c t.val t.isLt).2.2.2.2.1 (P.aSp (n + 1)) := by
  have key := fun L : List (View.Piece (Elt Ideal) S8x128x128 .f32) => sp_r (n := n) G (I.sp.layer inb_S8x128x128_S1x128x128_0_0_0) (I.sp.layer inb_S8x128x128_S1x128x128_1_0_0) (I.sp.layer inb_S8x128x128_S1x128x128_2_0_0) (I.sp.layer inb_S8x128x128_S1x128x128_3_0_0) (I.sp.layer inb_S8x128x128_S1x128x128_4_0_0) (I.sp.layer inb_S8x128x128_S1x128x128_5_0_0) (I.sp.layer inb_S8x128x128_S1x128x128_6_0_0) (I.sp.layer inb_S8x128x128_S1x128x128_7_0_0) L inb_S8x128x128_S1x128x128_0_0_0 inb_S8x128x128_S1x128x128_1_0_0 inb_S8x128x128_S1x128x128_2_0_0 inb_S8x128x128_S1x128x128_3_0_0 inb_S8x128x128_S1x128x128_4_0_0 inb_S8x128x128_S1x128x128_5_0_0 inb_S8x128x128_S1x128x128_6_0_0 inb_S8x128x128_S1x128x128_7_0_0
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key _

theorem inner_half {n : ℕ} (h0 : ¬t.val % 16 = 0) (h1 : ¬t.val % 16 = 15) (G : (blk m c t).Good P (15 - n)) (I : Inv m c P n (t.val - 1) (by have := t.isLt; omega)) : R2 (Gen.outsAt0 (F := Ideal) m c t.val t.isLt).2.2.2.2.2.2.1 (P.aHalf (n + 1)) := by
  have key := halves_over (n := n) G (I.half.line inb_S8x512_S1x512_0_0) (I.half.line inb_S8x512_S1x512_1_0) (I.half.line inb_S8x512_S1x512_2_0) (unread_r (hs0_18 t) I.half)
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key

theorem inner_full {n : ℕ} (h0 : ¬t.val % 16 = 0) (h1 : ¬t.val % 16 = 15) (G : (blk m c t).Good P (15 - n)) (I : Inv m c P n (t.val - 1) (by have := t.isLt; omega)) : R2 (Gen.outsAt0 (F := Ideal) m c t.val t.isLt).2.2.2.2.2.2.2.1 (P.aFull (n + 1)) := by
  have key := fulls_over (n := n) G (cols_c G (carried I (Memref.isWhole_whole _))) (I.full.line inb_S8x1024_S1x1024_0_0) (I.full.line inb_S8x1024_S1x1024_1_0) (I.full.line inb_S8x1024_S1x1024_3_0) (unread_r (hs0_19 t) I.full)
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key

theorem inner_carry {n : ℕ} (h0 : ¬t.val % 16 = 0) (h1 : ¬t.val % 16 = 15) (G : (blk m c t).Good P (15 - n)) (I : Inv m c P n (t.val - 1) (by have := t.isLt; omega)) (hn : 15 - n = 15 - (n + 1) + 1) : Carry P (15 - (n + 1)) (Gen.outsAt0 (F := Ideal) m c t.val t.isLt).2.2.2.2.2.2.2.2.1 := by
  have key := carry_tile G [] trivial hn
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key

theorem inner_bias {n : ℕ} (h0 : ¬t.val % 16 = 0) (h1 : ¬t.val % 16 = 15) (G : (blk m c t).Good P (15 - n)) (I : Inv m c P n (t.val - 1) (by have := t.isLt; omega)) : R2 (Gen.outsAt0 (F := Ideal) m c t.val t.isLt).2.2.2.2.2.2.2.2.2 (P.aBias (n + 1)) := by
  have key := fun L : List (View.Piece (Elt Ideal) S128x512 .f32) => bias_r (n := n) G ((whole_r (Memref.isWhole_whole _) I.bias).cols inb_S128x512_S128x128_0_0) ((whole_r (Memref.isWhole_whole _) I.bias).cols inb_S128x512_S128x128_0_128) ((whole_r (Memref.isWhole_whole _) I.bias).cols inb_S128x512_S128x128_0_256) ((whole_r (Memref.isWhole_whole _) I.bias).cols inb_S128x512_S128x128_0_384) L
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_B m c t h0 h1]
  frame_open
  simp (disch := decide) only [↓ View.readCov_skip, ↓ View.readCov_cons_toLoadRect, ↓ View.readCov_fill]
  frame_out
  exact key _

end MixBwd
-- ==== Proof.StepC.lean ====
/-
  The last tile taken: what it leaves in every result.
-/
module

public import proofs.«01_k».proof.Proof.State

@[expose] public section

set_option maxRecDepth 65536

noncomputable section

namespace MixBwd

open Idealize.ShloMosaic Idealize.SL.Sem Cert.KernelIdeal Cert.KernelIdeal.Gen

variable {m : (l : Loc nD τ sig) → Buf (Elt Ideal) l} {c : Dev nD} {t : Fin cfg0.N} {P : Params}

theorem last_dx (h0 : ¬t.val % 16 = 0) (h1 : t.val % 16 = 15) (G : (blk m c t).Good P (15 - 15)) (I : Inv m c P 15 (t.val - 1) (by have := t.isLt; omega)) : R2 (Gen.outsAt0 (F := Ideal) m c t.val t.isLt).1 (fun i j => P.dx (512 * (15 - 15) + i) j) := by
  have key := dx_r (n := 15) G (cols_c G (carried I (Memref.isWhole_whole _)))
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key

theorem last_win (h0 : ¬t.val % 16 = 0) (h1 : t.val % 16 = 15) (G : (blk m c t).Good P (15 - 15)) (I : Inv m c P 15 (t.val - 1) (by have := t.isLt; omega)) : R2 (Gen.outsAt0 (F := Ideal) m c t.val t.isLt).2.1 (P.aWin 16) := by
  have key := win_r (n := 15) G (cols_c G (carried I (Memref.isWhole_whole _))) I.win
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key

theorem last_wout (h0 : ¬t.val % 16 = 0) (h1 : t.val % 16 = 15) (G : (blk m c t).Good P (15 - 15)) (I : Inv m c P 15 (t.val - 1) (by have := t.isLt; omega)) : R2 (Gen.outsAt0 (F := Ideal) m c t.val t.isLt).2.2.1 (fun i j => P.aWout 16 i j * P.gate j) := by
  have key := p5 G.ga (wout_r (n := 15) G I.wout)
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key

theorem last_pool (h0 : ¬t.val % 16 = 0) (h1 : t.val % 16 = 15) (G : (blk m c t).Good P (15 - 15)) (I : Inv m c P 15 (t.val - 1) (by have := t.isLt; omega)) : R3 (Gen.outsAt0 (F := Ideal) m c t.val t.isLt).2.2.2.1 (P.aPool 16) := by
  have key := fun L : List (View.Piece (Elt Ideal) S4x128x128 .f32) => pool_r (n := 15) G (I.pool.layer inb_S4x128x128_S1x128x128_0_0_0) (I.pool.layer inb_S4x128x128_S1x128x128_1_0_0) (I.pool.layer inb_S4x128x128_S1x128x128_2_0_0) (I.pool.layer inb_S4x128x128_S1x128x128_3_0_0) L inb_S4x128x128_S1x128x128_0_0_0 inb_S4x128x128_S1x128x128_1_0_0 inb_S4x128x128_S1x128x128_2_0_0 inb_S4x128x128_S1x128x128_3_0_0
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key _

theorem last_sp (h0 : ¬t.val % 16 = 0) (h1 : t.val % 16 = 15) (G : (blk m c t).Good P (15 - 15)) (I : Inv m c P 15 (t.val - 1) (by have := t.isLt; omega)) : R3 (Gen.outsAt0 (F := Ideal) m c t.val t.isLt).2.2.2.2.1 (fun h i j => if j ≤ i then P.aSp 16 h i j else 0) := by
  have key := fun L : List (View.Piece (Elt Ideal) S8x128x128 .f32) => spLast_r (n := 15) G (I.sp.layer inb_S8x128x128_S1x128x128_0_0_0) (I.sp.layer inb_S8x128x128_S1x128x128_1_0_0) (I.sp.layer inb_S8x128x128_S1x128x128_2_0_0) (I.sp.layer inb_S8x128x128_S1x128x128_3_0_0) (I.sp.layer inb_S8x128x128_S1x128x128_4_0_0) (I.sp.layer inb_S8x128x128_S1x128x128_5_0_0) (I.sp.layer inb_S8x128x128_S1x128x128_6_0_0) (I.sp.layer inb_S8x128x128_S1x128x128_7_0_0) L inb_S8x128x128_S1x128x128_0_0_0 inb_S8x128x128_S1x128x128_1_0_0 inb_S8x128x128_S1x128x128_2_0_0 inb_S8x128x128_S1x128x128_3_0_0 inb_S8x128x128_S1x128x128_4_0_0 inb_S8x128x128_S1x128x128_5_0_0 inb_S8x128x128_S1x128x128_6_0_0 inb_S8x128x128_S1x128x128_7_0_0
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key _

theorem last_half (h0 : ¬t.val % 16 = 0) (h1 : t.val % 16 = 15) (G : (blk m c t).Good P (15 - 15)) (I : Inv m c P 15 (t.val - 1) (by have := t.isLt; omega)) : R2 (Gen.outsAt0 (F := Ideal) m c t.val t.isLt).2.2.2.2.2.2.1 (P.aHalf 16) := by
  have key := halves_over (n := 15) G (I.half.line inb_S8x512_S1x512_0_0) (I.half.line inb_S8x512_S1x512_1_0) (I.half.line inb_S8x512_S1x512_2_0) (unread_r (hs0_18 t) I.half)
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key

theorem last_full (h0 : ¬t.val % 16 = 0) (h1 : t.val % 16 = 15) (G : (blk m c t).Good P (15 - 15)) (I : Inv m c P 15 (t.val - 1) (by have := t.isLt; omega)) : R2 (Gen.outsAt0 (F := Ideal) m c t.val t.isLt).2.2.2.2.2.2.2.1 (fullLast P 16) := by
  have key := fulls_last (n := 15) G (cols_c G (carried I (Memref.isWhole_whole _))) (I.full.line inb_S8x1024_S1x1024_0_0) (I.full.line inb_S8x1024_S1x1024_1_0) (I.full.line inb_S8x1024_S1x1024_2_0) (I.full.line inb_S8x1024_S1x1024_3_0) (wout_r (n := 15) G I.wout) (unread_r (hs0_19 t) I.full)
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key

theorem last_dbsp (h0 : ¬t.val % 16 = 0) (h1 : t.val % 16 = 15) (G : (blk m c t).Good P (15 - 15)) (I : Inv m c P 15 (t.val - 1) (by have := t.isLt; omega)) : R2 (Gen.outsAt0 (F := Ideal) m c t.val t.isLt).2.2.2.2.2.1 (fun h i => ∑ c : Fin 64, P.aBias 16 i (64 * h + c)) := by
  have key := p2 (wholeCov (bias_r (n := 15) G ((whole_r (Memref.isWhole_whole _) I.bias).cols inb_S128x512_S128x128_0_0) ((whole_r (Memref.isWhole_whole _) I.bias).cols inb_S128x512_S128x128_0_128) ((whole_r (Memref.isWhole_whole _) I.bias).cols inb_S128x512_S128x128_0_256) ((whole_r (Memref.isWhole_whole _) I.bias).cols inb_S128x512_S128x128_0_384) []) inb_S128x512_S128x512_0_0)
  dsimp only [Blk.shift, Blk.scale, Blk.gate, Blk.gnorm, Blk.wp0, Blk.wp1, Blk.wp2, Blk.wp3, Blk.wc0, Blk.wc1, Blk.wc2, Blk.wc3,
    Blk.wt0, Blk.wt1, Blk.wt2, Blk.wt3, Blk.bi0, Blk.bi1, Blk.bi2, Blk.bi3, Blk.gn, Blk.sc, Blk.ga, Blk.vcs, Blk.hh, Blk.hp,
    Blk.r, Blk.xn, Blk.g, Blk.gd', Blk.u, Blk.rs, Blk.vh, Blk.vl, Blk.ps, Blk.mx, Blk.pls, Blk.dm, Blk.wos, Blk.wis, Blk.dyb,
    Blk.dmx, Blk.pos, Blk.sv0, Blk.sv1, Blk.sv2, Blk.sv, Blk.d, Blk.du, Blk.dl0, Blk.dl1, Blk.dl2, Blk.dvl, Blk.q0, Blk.q1,
    Blk.q2, Blk.q3, Blk.dp0, Blk.dp1, Blk.dp2, Blk.dp3, Blk.put0, Blk.put1, Blk.put2, Blk.put3, Blk.ldq, past, Blk.ldz0,
    Blk.ldz1, Blk.ldz2, Blk.ldz3, Blk.c0, Blk.c1, Blk.c2, Blk.c3, Blk.z0, Blk.z1, Blk.z2, Blk.z3, Blk.dpj, Blk.wog, Blk.sp0,
    Blk.sp1, Blk.sp2, Blk.sp3, Blk.sp4, Blk.sp5, Blk.sp6, Blk.sp7, Blk.biases, Blk.halves, Blk.fulls, blk] at key
  rw [Gen.outsAt0_C m c t h0 h1]
  frame_open
  simp (disch := decide) only [↓ View.readCov_skip, ↓ View.readCov_cons_toLoadRect, ↓ View.readCov_fill]
  frame_out
  exact key

end MixBwd
-- ==== Proof.Final.lean ====
/-
  The kernel's eight results as real arrays, from blocks that hold the problem's arrays.
-/
module

public import proofs.«01_k».proof.Proof.StepA
public import proofs.«01_k».proof.Proof.StepB
public import proofs.«01_k».proof.Proof.StepC
public import Idealize.ShloMosaic.Lib.Pipeline.ValueKit

@[expose] public section

set_option maxRecDepth 65536

noncomputable section

namespace MixBwd

open Idealize.ShloMosaic Idealize.SL.Sem Cert.KernelIdeal Cert.KernelIdeal.Gen

variable {m : (l : Loc nD τ sig) → Buf (Elt Ideal) l} {c : Dev nD} {P : Params}

theorem tiles : cfg0.N = 16 := rfl

theorem inv_first {t : Fin cfg0.N} (h0 : t.val % 16 = 0) (h1 : ¬t.val % 16 = 15) (g : (blk m c t).Good P (15 - 0)) :
    Inv m c P 1 t.val t.isLt where
  win := first_win h0 h1 g
  wout := first_wout h0 h1 g
  pool := first_pool h0 h1 g
  sp := first_sp h0 h1 g
  half := first_half h0 h1 g
  full := first_full h0 h1 g
  carry := first_carry h0 h1 g
  bias := first_bias h0 h1 g

theorem inv_next {t : Fin cfg0.N} {n : ℕ} (h0 : ¬t.val % 16 = 0) (h1 : ¬t.val % 16 = 15) (g : (blk m c t).Good P (15 - n))
    (I : Inv m c P n (t.val - 1) (by have := t.isLt; omega)) (hn : 15 - n = 15 - (n + 1) + 1) :
    Inv m c P (n + 1) t.val t.isLt where
  win := inner_win h0 h1 g I
  wout := inner_wout h0 h1 g I
  pool := inner_pool h0 h1 g I
  sp := inner_sp h0 h1 g I
  half := inner_half h0 h1 g I
  full := inner_full h0 h1 g I
  carry := inner_carry h0 h1 g I hn
  bias := inner_bias h0 h1 g I

theorem inv (G : ∀ t : Fin cfg0.N, (blk m c t).Good P (15 - t.val)) :
    ∀ k (hk : k < cfg0.N), k < 15 → Inv m c P (k + 1) k hk := by
  intro k
  induction k with
  | zero => exact fun hk _ => inv_first (t := ⟨0, hk⟩) (Nat.zero_mod 16) (by simp only [Nat.zero_mod]; omega) (G ⟨0, hk⟩)
  | succ k ih =>
    exact fun hk hl => inv_next (t := ⟨k + 1, hk⟩) (n := k + 1) (by simp only; omega) (by simp only; omega) (G ⟨k + 1, hk⟩)
      (ih (by omega) (by omega)) (by omega)

/-- What the last tile finds. -/
theorem invLast (G : ∀ t : Fin cfg0.N, (blk m c t).Good P (15 - t.val)) : Inv m c P 15 14 (by rw [tiles]; omega) :=
  inv G 14 _ (by omega)

/-- The input gradient, tile by tile. -/
theorem dx_tile (G : ∀ t : Fin cfg0.N, (blk m c t).Good P (15 - t.val)) (t : Fin cfg0.N) :
    R2 (Gen.outsAt0 (F := Ideal) m c t.val t.isLt).1 (fun i j => P.dx (512 * (15 - t.val) + i) j) := by
  obtain ⟨k, hk⟩ := t
  rw [tiles] at hk
  rcases Nat.lt_trichotomy k 0 with h | rfl | h
  · omega
  · exact first_dx (t := ⟨0, hk⟩) (by show 0 % 16 = 0; omega) (by show ¬(0 % 16 = 15); omega) (G ⟨0, hk⟩)
  · obtain ⟨j, rfl⟩ : ∃ j, k = j + 1 := ⟨k - 1, by omega⟩
    by_cases h15 : j + 1 = 15
    · obtain rfl : j = 14 := by omega
      exact last_dx (t := ⟨14 + 1, hk⟩) (by show ¬((14 + 1) % 16 = 0); omega) (by show (14 + 1) % 16 = 15; omega) (G ⟨14 + 1, hk⟩)
        (invLast G)
    · exact inner_dx (t := ⟨j + 1, hk⟩) (n := j + 1) (by show ¬((j + 1) % 16 = 0); omega) (by show ¬((j + 1) % 16 = 15); omega)
        (G ⟨j + 1, hk⟩) (inv G j (by rw [tiles]; omega) (by omega))

theorem index12 : ∀ t : Fin cfg0.N, win0_12.index t 0 = 15 - t.val ∧ win0_12.index t 1 = 0 := by decide +kernel

/-- The input gradient. -/
theorem dx_array (G : ∀ t : Fin cfg0.N, (blk m c t).Good P (15 - t.val)) :
    (dats (F := Ideal) m 0 c).arrAt 12 cfg0.N = fun i => ((P.dx (i 0).val (i 1).val : ℝ) : EReal) := by
  refine (dats m 0 c).arrAt_eq_of_covers 12 _ (by decide +kernel) fun t hf y => ?_
  blk_simp
  rw [after0_12]
  refine (dx_tile G t y).trans ?_
  obtain ⟨i0, i1⟩ := index12 t
  rw [i0, i1, zero_mul, zero_add, Nat.mul_comm (15 - t.val)]

/-- The last tile is the sixteenth. -/
theorem end0 : ¬t0_15.val % 16 = 0 := by show ¬(15 % 16 = 0); omega

theorem end1 : t0_15.val % 16 = 15 := by show 15 % 16 = 15; omega

theorem goodLast (G : ∀ t : Fin cfg0.N, (blk m c t).Good P (15 - t.val)) : (blk m c t0_15).Good P (15 - 15) := G t0_15

/-- The input projection's gradient. -/
theorem win_array (G : ∀ t : Fin cfg0.N, (blk m c t).Good P (15 - t.val)) :
    (dats (F := Ideal) m 0 c).arrAt 13 cfg0.N = fun i => ((P.dwin (i 0).val (i 1).val : ℝ) : EReal) := by
  refine (dats m 0 c).arrAt_eq_of_after_last 13 t0_15 (by decide +kernel) _ fun j => ?_
  blk_simp
  rw [after0_13]
  exact (last_win end0 end1 (goodLast G) (invLast G) j).trans (congrArg _ (P.aWin_all (j 0).val (j 1).val))

/-- The output projection's gradient. -/
theorem wout_array (G : ∀ t : Fin cfg0.N, (blk m c t).Good P (15 - t.val)) :
    (dats (F := Ideal) m 0 c).arrAt 14 cfg0.N = fun i => ((P.dwout (i 0).val (i 1).val : ℝ) : EReal) := by
  refine (dats m 0 c).arrAt_eq_of_after_last 14 t0_15 (by decide +kernel) _ fun j => ?_
  blk_simp
  rw [after0_14]
  exact (last_wout end0 end1 (goodLast G) (invLast G) j).trans (congrArg _ (P.aWout_all (j 0).val (j 1).val))

/-- The pooling weights' gradient. -/
theorem pool_array (G : ∀ t : Fin cfg0.N, (blk m c t).Good P (15 - t.val)) :
    (dats (F := Ideal) m 0 c).arrAt 15 cfg0.N = fun i => ((P.dwpool (i 0).val (i 1).val (i 2).val : ℝ) : EReal) := by
  refine (dats m 0 c).arrAt_eq_of_after_last 15 t0_15 (by decide +kernel) _ fun j => ?_
  blk_simp
  rw [after0_15]
  exact (last_pool end0 end1 (goodLast G) (invLast G) j).trans (congrArg _ (P.aPool_all (j 0).val (j 1).val (j 2).val))

/-- The spatial weights' gradient. -/
theorem sp_array (G : ∀ t : Fin cfg0.N, (blk m c t).Good P (15 - t.val)) :
    (dats (F := Ideal) m 0 c).arrAt 16 cfg0.N = fun i => ((P.dwsp (i 0).val (i 1).val (i 2).val : ℝ) : EReal) := by
  refine (dats m 0 c).arrAt_eq_of_after_last 16 t0_15 (by decide +kernel) _ fun j => ?_
  blk_simp
  rw [after0_16]
  exact (last_sp end0 end1 (goodLast G) (invLast G) j).trans (congrArg _ (P.aSp_all (j 0).val (j 1).val (j 2).val))

/-- The spatial biases' gradient. -/
theorem dbsp_array (G : ∀ t : Fin cfg0.N, (blk m c t).Good P (15 - t.val)) :
    (dats (F := Ideal) m 0 c).arrAt 17 cfg0.N = fun i => ((P.dbsp (i 0).val (i 1).val : ℝ) : EReal) := by
  refine (dats m 0 c).arrAt_eq_of_after_last 17 t0_15 (by decide +kernel) _ fun j => ?_
  blk_simp
  rw [after0_17]
  exact (last_dbsp end0 end1 (goodLast G) (invLast G) j).trans (congrArg _ (P.aBias_all (j 0).val (j 1).val))

/-- The gradients of the vectors of the half width. -/
theorem half_array (G : ∀ t : Fin cfg0.N, (blk m c t).Good P (15 - t.val)) :
    (dats (F := Ideal) m 0 c).arrAt 18 cfg0.N = fun i => ((P.v512 (i 0).val (i 1).val : ℝ) : EReal) := by
  refine (dats m 0 c).arrAt_eq_of_after_last 18 t0_15 (by decide +kernel) _ fun j => ?_
  blk_simp
  rw [after0_18]
  exact (last_half end0 end1 (goodLast G) (invLast G) j).trans (congrArg _ (P.aHalf_all (j 0).val (j 1).val))

/-- The gradients of the vectors of the full width. -/
theorem full_array (G : ∀ t : Fin cfg0.N, (blk m c t).Good P (15 - t.val)) :
    (dats (F := Ideal) m 0 c).arrAt 19 cfg0.N = fun i => ((P.vd (i 0).val (i 1).val : ℝ) : EReal) := by
  refine (dats m 0 c).arrAt_eq_of_after_last 19 t0_15 (by decide +kernel) _ fun j => ?_
  blk_simp
  rw [after0_19]
  exact (last_full end0 end1 (goodLast G) (invLast G) j).trans (congrArg _ (P.aFull_all (j 0).val (j 1).val))

end MixBwd
-- ==== Proof.RefArgs.lean ====
/-
  The reference's arguments as the entries of real arrays, its causal mask, and the two norms' gradients in the
  reference's form.
-/
module

public import proofs.«01_k».proof.Proof.Gen.ReferenceIdeal.Read
public import proofs.«01_k».proof.Proof.Arrange
public import Idealize.ShloMosaic.Lib.TwoAxisContraction

@[expose] public section

noncomputable section

namespace MixBwd

open Idealize.ShloMosaic Cert.ReferenceIdeal Cert.ReferenceIdeal.Read Finset

/-- The fourteen argument arrays hold the entries of `P`. -/
structure Args (P : Params) (x0 x1 : (⟨S8192x1024, .f32⟩ : BufTy).Contents (Elt Ideal))
    (x2 x3 x4 x5 : (⟨S1x1024, .f32⟩ : BufTy).Contents (Elt Ideal)) (x6 : (⟨S1024x1536, .f32⟩ : BufTy).Contents (Elt Ideal))
    (x7 : (⟨S4x128x128, .f32⟩ : BufTy).Contents (Elt Ideal)) (x8 x9 x10 : (⟨S1x512, .f32⟩ : BufTy).Contents (Elt Ideal))
    (x11 : (⟨S8x128x128, .f32⟩ : BufTy).Contents (Elt Ideal)) (x12 : (⟨S8x128, .f32⟩ : BufTy).Contents (Elt Ideal))
    (x13 : (⟨S1024x1024, .f32⟩ : BufTy).Contents (Elt Ideal)) : Prop where
  x : ∀ i, x0 i = ((P.x (i 0).val (i 1).val : ℝ) : EReal)
  dxo : ∀ i, x1 i = ((P.dxo (i 0).val (i 1).val : ℝ) : EReal)
  shift : ∀ i, x2 i = ((P.shift (i 1).val : ℝ) : EReal)
  scale : ∀ i, x3 i = ((P.scale (i 1).val : ℝ) : EReal)
  gate : ∀ i, x4 i = ((P.gate (i 1).val : ℝ) : EReal)
  gn : ∀ i, x5 i = ((P.gn (i 1).val : ℝ) : EReal)
  win : ∀ i, x6 i = ((P.win (i 0).val (i 1).val : ℝ) : EReal)
  wpool : ∀ i, x7 i = ((P.wpool (i 0).val (i 1).val (i 2).val : ℝ) : EReal)
  ps : ∀ i, x8 i = ((P.ps (i 1).val : ℝ) : EReal)
  lg : ∀ i, x9 i = ((P.lg (i 1).val : ℝ) : EReal)
  lb : ∀ i, x10 i = ((P.lb (i 1).val : ℝ) : EReal)
  wsp : ∀ i, x11 i = ((P.wsp (i 0).val (i 1).val (i 2).val : ℝ) : EReal)
  bsp : ∀ i, x12 i = ((P.bsp (i 0).val (i 1).val : ℝ) : EReal)
  wout : ∀ i, x13 i = ((P.wout (i 0).val (i 1).val : ℝ) : EReal)

/-- The causal mask. -/
theorem mask_r (i : S8x128x128.Idx) :
    val_main_v165_1 (F := Ideal) i = if (i 2).val ≤ (i 1).val then 1#1 else 0#1 := by
  rw [val_main_v165_1_apply, val_main_v164_apply, val_main_v163_apply]
  have h := tril_word (i 1).val (i 2).val (i 1).isLt (i 2).isLt
  have e : val_main_call1_v4 (F := Ideal) (idx_main_v164 (idx_main_v165_1 i)) = if (i 2).val ≤ (i 1).val then 1#1 else 0#1 := h
  rw [e]
  by_cases h : (i 2).val ≤ (i 1).val
  · rw [if_pos h]; rfl
  · rw [if_neg h]; rfl

namespace Params

variable (P : Params)

/-! The reference differentiates a norm through its mean and its square root, term by term. -/

def t1 (s : ℕ) : ℝ := ∑ k : Fin 512, P.vc s k * P.dvh s k
def t2 (s : ℕ) : ℝ := ∑ k : Fin 512, -(P.dvh s k * P.rs s)
def t3 (s : ℕ) : ℝ := P.t1 s * (-1 / 2 * (P.rs s / P.var s)) / 512
def t4 (s : ℕ) : ℝ := ∑ k : Fin 512, -(P.t3 s * (2 * P.vc s k))
def t5 (s : ℕ) : ℝ := ∑ d : Fin 1024, P.x s d * P.dxn s d
def t6 (s : ℕ) : ℝ := P.t5 s * (-1 / 2 * (P.r s / P.ms s)) / 1024
def dz (s k : ℕ) : ℝ := if k < 512 then P.du s k else P.dv s (k - 512)

theorem rs_sq (s : ℕ) : P.rs s / P.var s = P.rs s * (P.rs s * P.rs s) := by
  have h := P.var_pos s
  unfold rs
  rw [← mul_inv, Real.mul_self_sqrt h.le]
  rfl

theorem r_sq (s : ℕ) : P.r s / P.ms s = P.r s * (P.r s * P.r s) := by
  have h := P.ms_pos s
  unfold r
  rw [← mul_inv, Real.mul_self_sqrt h.le]
  rfl

theorem sum_vc (s : ℕ) : ∑ k : Fin 512, P.vc s k = 0 := by
  unfold vc mu
  rw [sum_sub_distrib, sum_const, card_univ, Fintype.card_fin, nsmul_eq_mul]
  push_cast
  ring

theorem t4_eq (s : ℕ) : P.t4 s = 0 := by
  unfold t4
  rw [sum_neg_distrib, ← mul_sum, ← mul_sum, P.sum_vc]
  ring

theorem t2_eq (s : ℕ) : P.t2 s = -(P.rs s * (512 * P.m1 s)) := by
  unfold t2 m1
  rw [sum_neg_distrib, ← sum_mul]
  ring

theorem t1_eq (s : ℕ) : P.t1 s * P.rs s = 512 * P.m2 s := by
  unfold t1 m2
  rw [sum_mul, mul_div_cancel₀ _ (by norm_num)]
  refine sum_congr rfl fun k _ => ?_
  unfold vh
  ring

theorem dv_eq (s k : ℕ) :
    P.dvh s k * P.rs s + P.t3 s * (2 * P.vc s k) + (P.t2 s + P.t4 s) / 512 = P.dv s k := by
  have h1 := P.t1_eq s
  rw [P.t4_eq, P.t2_eq]
  unfold t3 dv vh
  rw [P.rs_sq]
  have : P.t1 s * (-1 / 2 * (P.rs s * (P.rs s * P.rs s))) / 512 * (2 * P.vc s k)
      = -(P.t1 s * P.rs s) / 512 * (P.rs s * P.rs s * P.vc s k) := by ring
  rw [this, h1]
  ring

theorem t5_eq (s : ℕ) : P.t5 s * P.r s = 1024 * P.m3 s := by
  unfold t5 m3
  rw [sum_mul, mul_div_cancel₀ _ (by norm_num)]
  refine sum_congr rfl fun d _ => ?_
  unfold xn
  ring

theorem dx_eq (s d : ℕ) :
    P.dxo s d + P.dxn s d * P.r s + P.x s d * P.t6 s + P.t6 s * P.x s d = P.dx s d := by
  have h1 := P.t5_eq s
  unfold t6 dx xn
  rw [P.r_sq]
  have : P.t5 s * (-1 / 2 * (P.r s * (P.r s * P.r s))) / 1024
      = -1 / 2 * (P.t5 s * P.r s) / 1024 * (P.r s * P.r s) := by ring
  rw [this, h1]
  ring

end Params

end MixBwd
-- ==== Proof.Ref1.lean ====
/-
  The reference read at an index, on finite arguments: the norm, the projection, the pools.
-/
module

public import proofs.«01_k».proof.Proof.Gen.ReferenceIdeal.Read
public import proofs.«01_k».proof.Proof.RefArgs

@[expose] public section

set_option maxRecDepth 65536

noncomputable section

namespace MixBwd

open Idealize.ShloMosaic Cert.ReferenceIdeal Cert.ReferenceIdeal.Read

variable {P : Params} {x0 x1 : (⟨S8192x1024, .f32⟩ : BufTy).Contents (Elt Ideal)}
  {x2 x3 x4 x5 : (⟨S1x1024, .f32⟩ : BufTy).Contents (Elt Ideal)} {x6 : (⟨S1024x1536, .f32⟩ : BufTy).Contents (Elt Ideal)}
  {x7 : (⟨S4x128x128, .f32⟩ : BufTy).Contents (Elt Ideal)} {x8 x9 x10 : (⟨S1x512, .f32⟩ : BufTy).Contents (Elt Ideal)}
  {x11 : (⟨S8x128x128, .f32⟩ : BufTy).Contents (Elt Ideal)} {x12 : (⟨S8x128, .f32⟩ : BufTy).Contents (Elt Ideal)}
  {x13 : (⟨S1024x1024, .f32⟩ : BufTy).Contents (Elt Ideal)}

variable (H : Args P x0 x1 x2 x3 x4 x5 x6 x7 x8 x9 x10 x11 x12 x13)

theorem r3 (i : S8192x1.Idx) : val_main_v3 (F := Ideal) i = ((1024 : ℝ) : EReal) :=
  (val_main_v3_apply i).trans w_1024

theorem r5 (i : S8192x1.Idx) : val_main_v5 (F := Ideal) i = ((eps : ℝ) : EReal) :=
  (val_main_v5_apply i).trans w_eps

theorem r9 (i : S8192x1.Idx) : val_main_v9 (F := Ideal) i = (((-1 / 2) : ℝ) : EReal) :=
  (val_main_v9_apply i).trans w_mhalf

theorem r15 (i : S1x1024.Idx) : val_main_v15 (F := Ideal) i = ((1 : ℝ) : EReal) :=
  (val_main_v15_apply i).trans w_one

theorem r28 (i : S2x128.Idx) : val_main_v28 (F := Ideal) i = ((0 : ℝ) : EReal) :=
  (val_main_v28_apply i).trans w_zero

theorem r36 : ∀ i, val_main_v36 (F := Ideal) i = ((cnt 0 (i 0).val : ℝ) : EReal) := by
  intro i
  exact cnt_word 0 (i 0).val (by norm_num) (i 0).isLt _ rfl

theorem r37 : ∀ i, val_main_v37 (F := Ideal)  i = ((cnt 0 (i 0).val : ℝ) : EReal) := fun i =>
  (val_main_v37_apply i).trans (r36 _)

theorem r39 : ∀ i, val_main_v39 (F := Ideal)  i = ((cnt 0 (i 0).val : ℝ) : EReal) := fun i =>
  (val_main_v39_apply i).trans (r37 _)

theorem r46 (i : S4x128.Idx) : val_main_v46 (F := Ideal) i = ((0 : ℝ) : EReal) :=
  (val_main_v46_apply i).trans w_zero

theorem r54 : ∀ i, val_main_v54 (F := Ideal) i = ((cnt 1 (i 0).val : ℝ) : EReal) := by
  intro i
  exact cnt_word 1 (i 0).val (by norm_num) (i 0).isLt _ rfl

theorem r55 : ∀ i, val_main_v55 (F := Ideal)  i = ((cnt 1 (i 0).val : ℝ) : EReal) := fun i =>
  (val_main_v55_apply i).trans (r54 _)

theorem r57 : ∀ i, val_main_v57 (F := Ideal)  i = ((cnt 1 (i 0).val : ℝ) : EReal) := fun i =>
  (val_main_v57_apply i).trans (r55 _)

theorem r64 (i : S8x128.Idx) : val_main_v64 (F := Ideal) i = ((0 : ℝ) : EReal) :=
  (val_main_v64_apply i).trans w_zero

theorem r72 : ∀ i, val_main_v72 (F := Ideal) i = ((cnt 2 (i 0).val : ℝ) : EReal) := by
  intro i
  exact cnt_word 2 (i 0).val (by norm_num) (i 0).isLt _ rfl

theorem r73 : ∀ i, val_main_v73 (F := Ideal)  i = ((cnt 2 (i 0).val : ℝ) : EReal) := fun i =>
  (val_main_v73_apply i).trans (r72 _)

theorem r75 : ∀ i, val_main_v75 (F := Ideal)  i = ((cnt 2 (i 0).val : ℝ) : EReal) := fun i =>
  (val_main_v75_apply i).trans (r73 _)

theorem r82 (i : S16x128.Idx) : val_main_v82 (F := Ideal) i = ((0 : ℝ) : EReal) :=
  (val_main_v82_apply i).trans w_zero

theorem r90 : ∀ i, val_main_v90 (F := Ideal) i = ((cnt 3 (i 0).val : ℝ) : EReal) := by
  intro i
  exact cnt_word 3 (i 0).val (by norm_num) (i 0).isLt _ rfl

theorem r91 : ∀ i, val_main_v91 (F := Ideal)  i = ((cnt 3 (i 0).val : ℝ) : EReal) := fun i =>
  (val_main_v91_apply i).trans (r90 _)

theorem r93 : ∀ i, val_main_v93 (F := Ideal)  i = ((cnt 3 (i 0).val : ℝ) : EReal) := fun i =>
  (val_main_v93_apply i).trans (r91 _)

include H

theorem r0 : ∀ i, val_main_v0 (F := Ideal) x0 i = (((P.x (i 0).val (i 1).val * P.x (i 0).val (i 1).val) : ℝ) : EReal) := fun i =>
  (val_main_v0_apply x0 i).trans ((congrArg₂ (FloatOps.mulf (F := Ideal) (φ := .f32)) (H.x i) (H.x i)).trans (mul_r _ _))

theorem r1 : ∀ i, val_main_v1 (F := Ideal) x0 i = (((∑ k1 : Fin 1024, (P.x (i 0).val k1.val * P.x (i 0).val k1.val)) : ℝ) : EReal) := fun i =>
  (val_main_v1_apply x0 i).trans (red_r w_zero (fun k => r0 H _))

theorem r2 : ∀ i, val_main_v2 (F := Ideal) x0 i = (((∑ k1 : Fin 1024, (P.x (i 0).val k1.val * P.x (i 0).val k1.val)) : ℝ) : EReal) := fun i =>
  (val_main_v2_apply x0 i).trans (r1 H _)

theorem r4 : ∀ i, val_main_v4 (F := Ideal) x0 i = ((((∑ k1 : Fin 1024, (P.x (i 0).val k1.val * P.x (i 0).val k1.val)) / 1024) : ℝ) : EReal) := fun i =>
  (val_main_v4_apply x0 i).trans ((congrArg₂ (FloatOps.hostDivf (F := Ideal) (φ := .f32)) (r2 H i) (r3 i)).trans (hdiv_r _ _ (by norm_num)))

theorem r6 : ∀ i, val_main_v6 (F := Ideal) x0 i = ((P.ms (i 0).val : ℝ) : EReal) := fun i => by
  refine (show _ = (((((∑ k1 : Fin 1024, (P.x (i 0).val k1.val * P.x (i 0).val k1.val)) / 1024) + eps) : ℝ) : EReal) from (val_main_v6_apply x0 i).trans ((congrArg₂ (FloatOps.addf (F := Ideal) (φ := .f32)) (r4 H i) (r5 i)).trans (add_r _ _))).trans (congrArg _ ?_)
  rfl

theorem r7 : ∀ i, val_main_v7 (F := Ideal) x0 i = ((P.r (i 0).val : ℝ) : EReal) := fun i => by
  refine (show _ = (((Real.sqrt (P.ms (i 0).val))⁻¹ : ℝ) : EReal) from (val_main_v7_apply x0 i).trans ((congrArg (FloatOps.hostUnary (F := Ideal) .rsqrt (φ := .f32)) (r6 H i)).trans (hrsqrt_r _ (P.ms_pos _)))).trans (congrArg _ ?_)
  rfl

theorem r8 : ∀ i, val_main_v8 (F := Ideal) x0 i = (((P.r (i 0).val / P.ms (i 0).val) : ℝ) : EReal) := fun i =>
  (val_main_v8_apply x0 i).trans ((congrArg₂ (FloatOps.hostDivf (F := Ideal) (φ := .f32)) (r7 H i) (r6 H i)).trans (hdiv_r _ _ (P.ms_pos _).ne'))

theorem r10 : ∀ i, val_main_v10 (F := Ideal) x0 i = ((((-1 / 2) * (P.r (i 0).val / P.ms (i 0).val)) : ℝ) : EReal) := fun i =>
  (val_main_v10_apply x0 i).trans ((congrArg₂ (FloatOps.mulf (F := Ideal) (φ := .f32)) (r9 i) (r8 H i)).trans (mul_r _ _))

theorem r11 : ∀ i, val_main_v11 (F := Ideal) x0 i = ((P.r (i 0).val : ℝ) : EReal) := fun i =>
  (val_main_v11_apply x0 i).trans (r7 H _)

theorem r12 : ∀ i, val_main_v12 (F := Ideal) x0 i = ((P.xn (i 0).val (i 1).val : ℝ) : EReal) := fun i => by
  refine (show _ = (((P.x (i 0).val (i 1).val * P.r (i 0).val) : ℝ) : EReal) from (val_main_v12_apply x0 i).trans ((congrArg₂ (FloatOps.mulf (F := Ideal) (φ := .f32)) (H.x i) (r11 H i)).trans (mul_r _ _))).trans (congrArg _ ?_)
  rfl

theorem r13 : ∀ i, val_main_v13 (F := Ideal) x5 i = ((P.gn (i 1).val : ℝ) : EReal) := fun i =>
  (val_main_v13_apply x5 i).trans (H.gn _)

theorem r14 : ∀ i, val_main_v14 (F := Ideal) x0 x5 i = ((P.hp (i 0).val (i 1).val : ℝ) : EReal) := fun i => by
  refine (show _ = (((P.xn (i 0).val (i 1).val * P.gn (i 1).val) : ℝ) : EReal) from (val_main_v14_apply x0 x5 i).trans ((congrArg₂ (FloatOps.mulf (F := Ideal) (φ := .f32)) (r12 H i) (r13 H i)).trans (mul_r _ _))).trans (congrArg _ ?_)
  rfl

theorem r16 : ∀ i, val_main_v16 (F := Ideal) x3 i = (((1 + P.scale (i 1).val) : ℝ) : EReal) := fun i =>
  (val_main_v16_apply x3 i).trans ((congrArg₂ (FloatOps.addf (F := Ideal) (φ := .f32)) (r15 i) (H.scale i)).trans (add_r _ _))

theorem r17 : ∀ i, val_main_v17 (F := Ideal) x3 i = (((1 + P.scale (i 1).val) : ℝ) : EReal) := fun i =>
  (val_main_v17_apply x3 i).trans (r16 H _)

theorem r18 : ∀ i, val_main_v18 (F := Ideal) x0 x3 x5 i = (((P.hp (i 0).val (i 1).val * (1 + P.scale (i 1).val)) : ℝ) : EReal) := fun i =>
  (val_main_v18_apply x0 x3 x5 i).trans ((congrArg₂ (FloatOps.mulf (F := Ideal) (φ := .f32)) (r14 H i) (r17 H i)).trans (mul_r _ _))

theorem r19 : ∀ i, val_main_v19 (F := Ideal) x2 i = ((P.shift (i 1).val : ℝ) : EReal) := fun i =>
  (val_main_v19_apply x2 i).trans (H.shift _)

theorem r20 : ∀ i, val_main_v20 (F := Ideal) x0 x2 x3 x5 i = ((P.h (i 0).val (i 1).val : ℝ) : EReal) := fun i => by
  refine (show _ = ((((P.hp (i 0).val (i 1).val * (1 + P.scale (i 1).val)) + P.shift (i 1).val) : ℝ) : EReal) from (val_main_v20_apply x0 x2 x3 x5 i).trans ((congrArg₂ (FloatOps.addf (F := Ideal) (φ := .f32)) (r18 H i) (r19 H i)).trans (add_r _ _))).trans (congrArg _ ?_)
  rfl

theorem r21 : ∀ i, val_main_v21 (F := Ideal) x0 x2 x3 x5 x6 i = ((P.proj (i 0).val (i 1).val : ℝ) : EReal) := fun i => by
  refine (show _ = (((∑ k2 : Fin 1024, P.h (i 0).val k2.val * P.win k2.val (i 1).val) : ℝ) : EReal) from (val_main_v21_apply x0 x2 x3 x5 x6 i).trans (dot_r (fun k => r20 H _) (fun k => H.win _))).trans (congrArg _ ?_)
  rfl

theorem r22 : ∀ i, val_main_v22 (F := Ideal) x0 x2 x3 x5 x6 i = ((P.proj (i 0).val (i 1).val : ℝ) : EReal) := fun i =>
  (val_main_v22_apply x0 x2 x3 x5 x6 i).trans (r21 H _)

theorem r23 : ∀ i, val_main_v23 (F := Ideal) x0 x2 x3 x5 x6 i = ((P.proj (i 0).val (128 * (i 1).val + (i 2).val) : ℝ) : EReal) := fun i => by
  refine (show _ = ((P.proj ((((i 0).val * 4 + (i 1).val) * 128 + (i 2).val) / 512) ((((i 0).val * 4 + (i 1).val) * 128 + (i 2).val) % 512) : ℝ) : EReal) from (val_main_v23_apply x0 x2 x3 x5 x6 i).trans (r22 H _)).trans (congrArg _ ?_)
  have h0 : (i 0).val < 8192 := (i 0).isLt
  have h1 : (i 1).val < 4 := (i 1).isLt
  have h2 : (i 2).val < 128 := (i 2).isLt
  exact congrArg₂ P.proj (by omega) (by omega)

theorem r24 : ∀ i, val_main_v24 (F := Ideal) x0 x2 x3 x5 x6 i = ((P.csum (i 0).val (128 * (i 1).val + (i 2).val) : ℝ) : EReal) := by
  intro i
  unfold val_main_v24
  refine (hostWindow_r (n := 8192) (b := 4) (c := 128) (lo := 8191) (hi := 0) (val_main_v23 (F := Ideal) x0 x2 x3 x5 x6)
    (fun s g c => P.proj s (128 * g + c)) (r23 H) _ _ _ (fun j => (val_main_call0_call0_v0_apply j).trans ((val_main_call0_call0_cst_apply _).trans w_zero)) i).trans
    (congrArg _ ?_)
  exact prefix_r (fun s => P.proj s (128 * (i 1).val + (i 2).val)) 8191 8192 (i 0).val (by norm_num) (i 0).isLt

theorem r26 : ∀ i, val_main_v26 (F := Ideal) x0 x2 x3 x5 x6 i = ((P.csum (i 0).val (128 * (i 1).val + (i 2).val) : ℝ) : EReal) := fun i =>
  (val_main_v26_apply x0 x2 x3 x5 x6 i).trans (r24 H _)

theorem r27 : ∀ i, val_main_v27 (F := Ideal) x0 x2 x3 x5 x6 i = ((P.csum (i 0).val (128 * 0 + (i 1).val) : ℝ) : EReal) := fun i => by
  refine (show _ = ((P.csum (((i 0).val * 128 + (i 1).val) / 128) (128 * 0 + (((i 0).val * 128 + (i 1).val) % 128)) : ℝ) : EReal) from (val_main_v27_apply x0 x2 x3 x5 x6 i).trans (r26 H _)).trans (congrArg _ ?_)
  have h0 : (i 0).val < 8192 := (i 0).isLt
  have h1 : (i 1).val < 128 := (i 1).isLt
  exact congrArg₂ P.csum (by omega) (by omega)

theorem r29 : ∀ i, val_main_v29 (F := Ideal) x0 x2 x3 x5 x6 i = ((P.csum (i 0).val (128 * 0 + (i 1).val) : ℝ) : EReal) := fun i =>
  (val_main_v29_apply x0 x2 x3 x5 x6 i).trans (r27 H _)

theorem r30 : ∀ i, val_main_v30 (F := Ideal) x0 x2 x3 x5 x6 i = (((if (i 0).val < 2 then 0 else P.csum ((i 0).val - 2) (128 * 0 + (i 1).val)) : ℝ) : EReal) := by
  exact cat0_r _ _ (fun _ _ => 0) (fun s c => P.csum s (128 * 0 + c)) r28 (r29 H) _ rfl

theorem r38 : ∀ i, val_main_v38 (F := Ideal) x0 x2 x3 x5 x6 i = (((P.csum (i 0).val (128 * 0 + (i 1).val) - (if (i 0).val < 2 then 0 else P.csum ((i 0).val - 2) (128 * 0 + (i 1).val))) : ℝ) : EReal) := fun i =>
  (val_main_v38_apply x0 x2 x3 x5 x6 i).trans ((congrArg₂ (FloatOps.subf (F := Ideal) (φ := .f32)) (r27 H i) (r30 H i)).trans (sub_r _ _))

theorem r40 : ∀ i, val_main_v40 (F := Ideal) x0 x2 x3 x5 x6 i = ((((P.csum (i 0).val (128 * 0 + (i 1).val) - (if (i 0).val < 2 then 0 else P.csum ((i 0).val - 2) (128 * 0 + (i 1).val))) / cnt 0 (i 0).val) : ℝ) : EReal) := fun i =>
  (val_main_v40_apply x0 x2 x3 x5 x6 i).trans ((congrArg₂ (FloatOps.hostDivf (F := Ideal) (φ := .f32)) (r38 H i) (r39 i)).trans (hdiv_r _ _ (cnt_pos _ _).ne'))

theorem r41 : ∀ i, val_main_v41 (F := Ideal) x0 x2 x3 x5 x6 i = ((P.proj (i 0).val (128 * (i 1).val + (i 2).val) : ℝ) : EReal) := fun i =>
  (val_main_v41_apply x0 x2 x3 x5 x6 i).trans (r23 H _)

theorem r42 : ∀ i, val_main_v42 (F := Ideal) x0 x2 x3 x5 x6 i = ((P.proj (i 0).val (128 * 0 + (i 1).val) : ℝ) : EReal) := fun i => by
  refine (show _ = ((P.proj (((i 0).val * 128 + (i 1).val) / 128) (128 * 0 + (((i 0).val * 128 + (i 1).val) % 128)) : ℝ) : EReal) from (val_main_v42_apply x0 x2 x3 x5 x6 i).trans (r41 H _)).trans (congrArg _ ?_)
  have h0 : (i 0).val < 8192 := (i 0).isLt
  have h1 : (i 1).val < 128 := (i 1).isLt
  exact congrArg₂ P.proj (by omega) (by omega)

theorem r43 : ∀ i, val_main_v43 (F := Ideal) x0 x2 x3 x5 x6 i = ((P.pooled (i 0).val (128 * 0 + (i 1).val) : ℝ) : EReal) := fun i => by
  refine (show _ = (((((P.csum (i 0).val (128 * 0 + (i 1).val) - (if (i 0).val < 2 then 0 else P.csum ((i 0).val - 2) (128 * 0 + (i 1).val))) / cnt 0 (i 0).val) - P.proj (i 0).val (128 * 0 + (i 1).val)) : ℝ) : EReal) from (val_main_v43_apply x0 x2 x3 x5 x6 i).trans ((congrArg₂ (FloatOps.subf (F := Ideal) (φ := .f32)) (r40 H i) (r42 H i)).trans (sub_r _ _))).trans (congrArg _ ?_)
  have h0 : (i 0).val < 8192 := (i 0).isLt
  have h1 : (i 1).val < 128 := (i 1).isLt
  simp only [Params.pooled, show (128 * 0 + (i 1).val) / 128 = 0 by omega]; rfl

theorem r44 : ∀ i, val_main_v44 (F := Ideal) x0 x2 x3 x5 x6 i = ((P.csum (i 0).val (128 * (1 + (i 1).val) + (i 2).val) : ℝ) : EReal) := fun i =>
  (val_main_v44_apply x0 x2 x3 x5 x6 i).trans (r24 H _)

theorem r45 : ∀ i, val_main_v45 (F := Ideal) x0 x2 x3 x5 x6 i = ((P.csum (i 0).val (128 * 1 + (i 1).val) : ℝ) : EReal) := fun i => by
  refine (show _ = ((P.csum (((i 0).val * 128 + (i 1).val) / 128) (128 * (1 + 0) + (((i 0).val * 128 + (i 1).val) % 128)) : ℝ) : EReal) from (val_main_v45_apply x0 x2 x3 x5 x6 i).trans (r44 H _)).trans (congrArg _ ?_)
  have h0 : (i 0).val < 8192 := (i 0).isLt
  have h1 : (i 1).val < 128 := (i 1).isLt
  exact congrArg₂ P.csum (by omega) (by omega)

theorem r47 : ∀ i, val_main_v47 (F := Ideal) x0 x2 x3 x5 x6 i = ((P.csum (i 0).val (128 * 1 + (i 1).val) : ℝ) : EReal) := fun i =>
  (val_main_v47_apply x0 x2 x3 x5 x6 i).trans (r45 H _)

theorem r48 : ∀ i, val_main_v48 (F := Ideal) x0 x2 x3 x5 x6 i = (((if (i 0).val < 4 then 0 else P.csum ((i 0).val - 4) (128 * 1 + (i 1).val)) : ℝ) : EReal) := by
  exact cat0_r _ _ (fun _ _ => 0) (fun s c => P.csum s (128 * 1 + c)) r46 (r47 H) _ rfl

theorem r56 : ∀ i, val_main_v56 (F := Ideal) x0 x2 x3 x5 x6 i = (((P.csum (i 0).val (128 * 1 + (i 1).val) - (if (i 0).val < 4 then 0 else P.csum ((i 0).val - 4) (128 * 1 + (i 1).val))) : ℝ) : EReal) := fun i =>
  (val_main_v56_apply x0 x2 x3 x5 x6 i).trans ((congrArg₂ (FloatOps.subf (F := Ideal) (φ := .f32)) (r45 H i) (r48 H i)).trans (sub_r _ _))

theorem r58 : ∀ i, val_main_v58 (F := Ideal) x0 x2 x3 x5 x6 i = ((((P.csum (i 0).val (128 * 1 + (i 1).val) - (if (i 0).val < 4 then 0 else P.csum ((i 0).val - 4) (128 * 1 + (i 1).val))) / cnt 1 (i 0).val) : ℝ) : EReal) := fun i =>
  (val_main_v58_apply x0 x2 x3 x5 x6 i).trans ((congrArg₂ (FloatOps.hostDivf (F := Ideal) (φ := .f32)) (r56 H i) (r57 i)).trans (hdiv_r _ _ (cnt_pos _ _).ne'))

theorem r59 : ∀ i, val_main_v59 (F := Ideal) x0 x2 x3 x5 x6 i = ((P.proj (i 0).val (128 * (1 + (i 1).val) + (i 2).val) : ℝ) : EReal) := fun i =>
  (val_main_v59_apply x0 x2 x3 x5 x6 i).trans (r23 H _)

theorem r60 : ∀ i, val_main_v60 (F := Ideal) x0 x2 x3 x5 x6 i = ((P.proj (i 0).val (128 * 1 + (i 1).val) : ℝ) : EReal) := fun i => by
  refine (show _ = ((P.proj (((i 0).val * 128 + (i 1).val) / 128) (128 * (1 + 0) + (((i 0).val * 128 + (i 1).val) % 128)) : ℝ) : EReal) from (val_main_v60_apply x0 x2 x3 x5 x6 i).trans (r59 H _)).trans (congrArg _ ?_)
  have h0 : (i 0).val < 8192 := (i 0).isLt
  have h1 : (i 1).val < 128 := (i 1).isLt
  exact congrArg₂ P.proj (by omega) (by omega)

theorem r61 : ∀ i, val_main_v61 (F := Ideal) x0 x2 x3 x5 x6 i = ((P.pooled (i 0).val (128 * 1 + (i 1).val) : ℝ) : EReal) := fun i => by
  refine (show _ = (((((P.csum (i 0).val (128 * 1 + (i 1).val) - (if (i 0).val < 4 then 0 else P.csum ((i 0).val - 4) (128 * 1 + (i 1).val))) / cnt 1 (i 0).val) - P.proj (i 0).val (128 * 1 + (i 1).val)) : ℝ) : EReal) from (val_main_v61_apply x0 x2 x3 x5 x6 i).trans ((congrArg₂ (FloatOps.subf (F := Ideal) (φ := .f32)) (r58 H i) (r60 H i)).trans (sub_r _ _))).trans (congrArg _ ?_)
  have h0 : (i 0).val < 8192 := (i 0).isLt
  have h1 : (i 1).val < 128 := (i 1).isLt
  simp only [Params.pooled, show (128 * 1 + (i 1).val) / 128 = 1 by omega]; rfl

theorem r62 : ∀ i, val_main_v62 (F := Ideal) x0 x2 x3 x5 x6 i = ((P.csum (i 0).val (128 * (2 + (i 1).val) + (i 2).val) : ℝ) : EReal) := fun i =>
  (val_main_v62_apply x0 x2 x3 x5 x6 i).trans (r24 H _)

theorem r63 : ∀ i, val_main_v63 (F := Ideal) x0 x2 x3 x5 x6 i = ((P.csum (i 0).val (128 * 2 + (i 1).val) : ℝ) : EReal) := fun i => by
  refine (show _ = ((P.csum (((i 0).val * 128 + (i 1).val) / 128) (128 * (2 + 0) + (((i 0).val * 128 + (i 1).val) % 128)) : ℝ) : EReal) from (val_main_v63_apply x0 x2 x3 x5 x6 i).trans (r62 H _)).trans (congrArg _ ?_)
  have h0 : (i 0).val < 8192 := (i 0).isLt
  have h1 : (i 1).val < 128 := (i 1).isLt
  exact congrArg₂ P.csum (by omega) (by omega)

theorem r65 : ∀ i, val_main_v65 (F := Ideal) x0 x2 x3 x5 x6 i = ((P.csum (i 0).val (128 * 2 + (i 1).val) : ℝ) : EReal) := fun i =>
  (val_main_v65_apply x0 x2 x3 x5 x6 i).trans (r63 H _)

theorem r66 : ∀ i, val_main_v66 (F := Ideal) x0 x2 x3 x5 x6 i = (((if (i 0).val < 8 then 0 else P.csum ((i 0).val - 8) (128 * 2 + (i 1).val)) : ℝ) : EReal) := by
  exact cat0_r _ _ (fun _ _ => 0) (fun s c => P.csum s (128 * 2 + c)) r64 (r65 H) _ rfl

theorem r74 : ∀ i, val_main_v74 (F := Ideal) x0 x2 x3 x5 x6 i = (((P.csum (i 0).val (128 * 2 + (i 1).val) - (if (i 0).val < 8 then 0 else P.csum ((i 0).val - 8) (128 * 2 + (i 1).val))) : ℝ) : EReal) := fun i =>
  (val_main_v74_apply x0 x2 x3 x5 x6 i).trans ((congrArg₂ (FloatOps.subf (F := Ideal) (φ := .f32)) (r63 H i) (r66 H i)).trans (sub_r _ _))

theorem r76 : ∀ i, val_main_v76 (F := Ideal) x0 x2 x3 x5 x6 i = ((((P.csum (i 0).val (128 * 2 + (i 1).val) - (if (i 0).val < 8 then 0 else P.csum ((i 0).val - 8) (128 * 2 + (i 1).val))) / cnt 2 (i 0).val) : ℝ) : EReal) := fun i =>
  (val_main_v76_apply x0 x2 x3 x5 x6 i).trans ((congrArg₂ (FloatOps.hostDivf (F := Ideal) (φ := .f32)) (r74 H i) (r75 i)).trans (hdiv_r _ _ (cnt_pos _ _).ne'))

theorem r77 : ∀ i, val_main_v77 (F := Ideal) x0 x2 x3 x5 x6 i = ((P.proj (i 0).val (128 * (2 + (i 1).val) + (i 2).val) : ℝ) : EReal) := fun i =>
  (val_main_v77_apply x0 x2 x3 x5 x6 i).trans (r23 H _)

theorem r78 : ∀ i, val_main_v78 (F := Ideal) x0 x2 x3 x5 x6 i = ((P.proj (i 0).val (128 * 2 + (i 1).val) : ℝ) : EReal) := fun i => by
  refine (show _ = ((P.proj (((i 0).val * 128 + (i 1).val) / 128) (128 * (2 + 0) + (((i 0).val * 128 + (i 1).val) % 128)) : ℝ) : EReal) from (val_main_v78_apply x0 x2 x3 x5 x6 i).trans (r77 H _)).trans (congrArg _ ?_)
  have h0 : (i 0).val < 8192 := (i 0).isLt
  have h1 : (i 1).val < 128 := (i 1).isLt
  exact congrArg₂ P.proj (by omega) (by omega)

theorem r79 : ∀ i, val_main_v79 (F := Ideal) x0 x2 x3 x5 x6 i = ((P.pooled (i 0).val (128 * 2 + (i 1).val) : ℝ) : EReal) := fun i => by
  refine (show _ = (((((P.csum (i 0).val (128 * 2 + (i 1).val) - (if (i 0).val < 8 then 0 else P.csum ((i 0).val - 8) (128 * 2 + (i 1).val))) / cnt 2 (i 0).val) - P.proj (i 0).val (128 * 2 + (i 1).val)) : ℝ) : EReal) from (val_main_v79_apply x0 x2 x3 x5 x6 i).trans ((congrArg₂ (FloatOps.subf (F := Ideal) (φ := .f32)) (r76 H i) (r78 H i)).trans (sub_r _ _))).trans (congrArg _ ?_)
  have h0 : (i 0).val < 8192 := (i 0).isLt
  have h1 : (i 1).val < 128 := (i 1).isLt
  simp only [Params.pooled, show (128 * 2 + (i 1).val) / 128 = 2 by omega]; rfl

theorem r80 : ∀ i, val_main_v80 (F := Ideal) x0 x2 x3 x5 x6 i = ((P.csum (i 0).val (128 * (3 + (i 1).val) + (i 2).val) : ℝ) : EReal) := fun i =>
  (val_main_v80_apply x0 x2 x3 x5 x6 i).trans (r24 H _)

theorem r81 : ∀ i, val_main_v81 (F := Ideal) x0 x2 x3 x5 x6 i = ((P.csum (i 0).val (128 * 3 + (i 1).val) : ℝ) : EReal) := fun i => by
  refine (show _ = ((P.csum (((i 0).val * 128 + (i 1).val) / 128) (128 * (3 + 0) + (((i 0).val * 128 + (i 1).val) % 128)) : ℝ) : EReal) from (val_main_v81_apply x0 x2 x3 x5 x6 i).trans (r80 H _)).trans (congrArg _ ?_)
  have h0 : (i 0).val < 8192 := (i 0).isLt
  have h1 : (i 1).val < 128 := (i 1).isLt
  exact congrArg₂ P.csum (by omega) (by omega)

theorem r83 : ∀ i, val_main_v83 (F := Ideal) x0 x2 x3 x5 x6 i = ((P.csum (i 0).val (128 * 3 + (i 1).val) : ℝ) : EReal) := fun i =>
  (val_main_v83_apply x0 x2 x3 x5 x6 i).trans (r81 H _)

theorem r84 : ∀ i, val_main_v84 (F := Ideal) x0 x2 x3 x5 x6 i = (((if (i 0).val < 16 then 0 else P.csum ((i 0).val - 16) (128 * 3 + (i 1).val)) : ℝ) : EReal) := by
  exact cat0_r _ _ (fun _ _ => 0) (fun s c => P.csum s (128 * 3 + c)) r82 (r83 H) _ rfl

theorem r92 : ∀ i, val_main_v92 (F := Ideal) x0 x2 x3 x5 x6 i = (((P.csum (i 0).val (128 * 3 + (i 1).val) - (if (i 0).val < 16 then 0 else P.csum ((i 0).val - 16) (128 * 3 + (i 1).val))) : ℝ) : EReal) := fun i =>
  (val_main_v92_apply x0 x2 x3 x5 x6 i).trans ((congrArg₂ (FloatOps.subf (F := Ideal) (φ := .f32)) (r81 H i) (r84 H i)).trans (sub_r _ _))

theorem r94 : ∀ i, val_main_v94 (F := Ideal) x0 x2 x3 x5 x6 i = ((((P.csum (i 0).val (128 * 3 + (i 1).val) - (if (i 0).val < 16 then 0 else P.csum ((i 0).val - 16) (128 * 3 + (i 1).val))) / cnt 3 (i 0).val) : ℝ) : EReal) := fun i =>
  (val_main_v94_apply x0 x2 x3 x5 x6 i).trans ((congrArg₂ (FloatOps.hostDivf (F := Ideal) (φ := .f32)) (r92 H i) (r93 i)).trans (hdiv_r _ _ (cnt_pos _ _).ne'))

theorem r95 : ∀ i, val_main_v95 (F := Ideal) x0 x2 x3 x5 x6 i = ((P.proj (i 0).val (128 * (3 + (i 1).val) + (i 2).val) : ℝ) : EReal) := fun i =>
  (val_main_v95_apply x0 x2 x3 x5 x6 i).trans (r23 H _)

theorem r96 : ∀ i, val_main_v96 (F := Ideal) x0 x2 x3 x5 x6 i = ((P.proj (i 0).val (128 * 3 + (i 1).val) : ℝ) : EReal) := fun i => by
  refine (show _ = ((P.proj (((i 0).val * 128 + (i 1).val) / 128) (128 * (3 + 0) + (((i 0).val * 128 + (i 1).val) % 128)) : ℝ) : EReal) from (val_main_v96_apply x0 x2 x3 x5 x6 i).trans (r95 H _)).trans (congrArg _ ?_)
  have h0 : (i 0).val < 8192 := (i 0).isLt
  have h1 : (i 1).val < 128 := (i 1).isLt
  exact congrArg₂ P.proj (by omega) (by omega)

theorem r97 : ∀ i, val_main_v97 (F := Ideal) x0 x2 x3 x5 x6 i = ((P.pooled (i 0).val (128 * 3 + (i 1).val) : ℝ) : EReal) := fun i => by
  refine (show _ = (((((P.csum (i 0).val (128 * 3 + (i 1).val) - (if (i 0).val < 16 then 0 else P.csum ((i 0).val - 16) (128 * 3 + (i 1).val))) / cnt 3 (i 0).val) - P.proj (i 0).val (128 * 3 + (i 1).val)) : ℝ) : EReal) from (val_main_v97_apply x0 x2 x3 x5 x6 i).trans ((congrArg₂ (FloatOps.subf (F := Ideal) (φ := .f32)) (r94 H i) (r96 H i)).trans (sub_r _ _))).trans (congrArg _ ?_)
  have h0 : (i 0).val < 8192 := (i 0).isLt
  have h1 : (i 1).val < 128 := (i 1).isLt
  simp only [Params.pooled, show (128 * 3 + (i 1).val) / 128 = 3 by omega]; rfl

theorem r98 : ∀ i, val_main_v98 (F := Ideal) x0 x2 x3 x5 x6 i = ((P.pooled (i 0).val (128 * 0 + (i 2).val) : ℝ) : EReal) := fun i =>
  (val_main_v98_apply x0 x2 x3 x5 x6 i).trans (r43 H _)

theorem r99 : ∀ i, val_main_v99 (F := Ideal) x0 x2 x3 x5 x6 i = ((P.pooled (i 0).val (128 * 1 + (i 2).val) : ℝ) : EReal) := fun i =>
  (val_main_v99_apply x0 x2 x3 x5 x6 i).trans (r61 H _)

theorem r100 : ∀ i, val_main_v100 (F := Ideal) x0 x2 x3 x5 x6 i = ((P.pooled (i 0).val (128 * 2 + (i 2).val) : ℝ) : EReal) := fun i =>
  (val_main_v100_apply x0 x2 x3 x5 x6 i).trans (r79 H _)

theorem r101 : ∀ i, val_main_v101 (F := Ideal) x0 x2 x3 x5 x6 i = ((P.pooled (i 0).val (128 * 3 + (i 2).val) : ℝ) : EReal) := fun i =>
  (val_main_v101_apply x0 x2 x3 x5 x6 i).trans (r97 H _)

end MixBwd
-- ==== Proof.Ref2.lean ====
/-
  The same: the mixed groups, the gated branch, the layer norm, the spatial gate, the concatenated halves.
-/
module

public import proofs.«01_k».proof.Proof.Gen.ReferenceIdeal.Read
public import proofs.«01_k».proof.Proof.Ref1

@[expose] public section

set_option maxRecDepth 65536

noncomputable section

namespace MixBwd

open Idealize.ShloMosaic Cert.ReferenceIdeal Cert.ReferenceIdeal.Read

variable {P : Params} {x0 x1 : (⟨S8192x1024, .f32⟩ : BufTy).Contents (Elt Ideal)}
  {x2 x3 x4 x5 : (⟨S1x1024, .f32⟩ : BufTy).Contents (Elt Ideal)} {x6 : (⟨S1024x1536, .f32⟩ : BufTy).Contents (Elt Ideal)}
  {x7 : (⟨S4x128x128, .f32⟩ : BufTy).Contents (Elt Ideal)} {x8 x9 x10 : (⟨S1x512, .f32⟩ : BufTy).Contents (Elt Ideal)}
  {x11 : (⟨S8x128x128, .f32⟩ : BufTy).Contents (Elt Ideal)} {x12 : (⟨S8x128, .f32⟩ : BufTy).Contents (Elt Ideal)}
  {x13 : (⟨S1024x1024, .f32⟩ : BufTy).Contents (Elt Ideal)}

variable (H : Args P x0 x1 x2 x3 x4 x5 x6 x7 x8 x9 x10 x11 x12 x13)

theorem r112 (i : S8192x1024.Idx) : val_main_v112 (F := Ideal) i = ((3 : ℝ) : EReal) :=
  (val_main_v112_apply i).trans w_three

theorem r114 (i : S8192x1024.Idx) : val_main_v114 (F := Ideal) i = ((8943 : ℝ) : EReal) :=
  (val_main_v114_apply i).trans w_8943

theorem r116 (i : S8192x1024.Idx) : val_main_v116 (F := Ideal) i = ((200000 : ℝ) : EReal) :=
  (val_main_v116_apply i).trans w_200000

theorem r119 (i : S8192x1024.Idx) : val_main_v119 (F := Ideal) i = ((gk : ℝ) : EReal) :=
  (val_main_v119_apply i).trans w_gk

theorem r122 (i : S8192x1024.Idx) : val_main_v122 (F := Ideal) i = ((1 : ℝ) : EReal) :=
  (val_main_v122_apply i).trans w_one

theorem r124 (i : S8192x1024.Idx) : val_main_v124 (F := Ideal) i = ((1 : ℝ) : EReal) :=
  (val_main_v124_apply i).trans w_one

theorem r127 (i : S8192x1024.Idx) : val_main_v127 (F := Ideal) i = ((1 : ℝ) : EReal) :=
  (val_main_v127_apply i).trans w_one

theorem r129 (i : S8192x1024.Idx) : val_main_v129 (F := Ideal) i = (((1 / 2) : ℝ) : EReal) :=
  (val_main_v129_apply i).trans w_half

theorem r136 (i : S8192x1.Idx) : val_main_v136 (F := Ideal) i = ((512 : ℝ) : EReal) :=
  (val_main_v136_apply i).trans w_512

theorem r141 (i : S8192x512.Idx) : val_main_v141 (F := Ideal) i = ((2 : ℝ) : EReal) :=
  (val_main_v141_apply i).trans w_two

theorem r145 (i : S8192x1.Idx) : val_main_v145 (F := Ideal) i = ((512 : ℝ) : EReal) :=
  (val_main_v145_apply i).trans w_512

theorem r149 (i : S8192x1.Idx) : val_main_v149 (F := Ideal) i = ((eps : ℝ) : EReal) :=
  (val_main_v149_apply i).trans w_eps

theorem r153 (i : S8192x1.Idx) : val_main_v153 (F := Ideal) i = (((-1 / 2) : ℝ) : EReal) :=
  (val_main_v153_apply i).trans w_mhalf

include H

theorem r102 : ∀ i, val_main_v102 (F := Ideal) x0 x2 x3 x5 x6 i = ((P.pooled (i 0).val (128 * (i 1).val + (i 2).val) : ℝ) : EReal) := by
  intro i
  exact layers_r _ _ _ _ (fun s g c => P.pooled s (128 * g + c)) (r98 H) (r99 H) (r100 H) (r101 H) _ i

theorem r103 : ∀ i, val_main_v103 (F := Ideal) x0 x2 x3 x5 x6 x7 i = ((P.mixed (i 2).val (128 * (i 0).val + (i 1).val) : ℝ) : EReal) := fun i => by
  refine (show _ = (((∑ k3 : Fin 128, P.wpool (i 0).val k3.val (i 1).val * P.pooled (i 2).val (128 * (i 0).val + k3.val)) : ℝ) : EReal) from (val_main_v103_apply x0 x2 x3 x5 x6 x7 i).trans (dot_r (fun k => H.wpool _) (fun k => r102 H _))).trans (congrArg _ ?_)
  have h0 : (i 0).val < 4 := (i 0).isLt
  have h1 : (i 1).val < 128 := (i 1).isLt
  have h2 : (i 2).val < 8192 := (i 2).isLt
  refine Finset.sum_congr rfl fun k _ => ?_
  rw [show (128 * (i 0).val + (i 1).val) / 128 = (i 0).val by omega, show (128 * (i 0).val + (i 1).val) % 128 = (i 1).val by omega, mul_comm]

theorem r104 : ∀ i, val_main_v104 (F := Ideal) x0 x2 x3 x5 x6 x7 i = ((P.mixed (i 0).val (128 * (i 1).val + (i 2).val) : ℝ) : EReal) := fun i =>
  (val_main_v104_apply x0 x2 x3 x5 x6 x7 i).trans (r103 H _)

theorem r105 : ∀ i, val_main_v105 (F := Ideal) x0 x2 x3 x5 x6 x7 i = ((P.mixed (i 0).val (i 1).val : ℝ) : EReal) := fun i => by
  refine (show _ = ((P.mixed (((i 0).val * 512 + (i 1).val) / 512) (128 * (((i 0).val * 512 + (i 1).val) / 128 % 4) + (((i 0).val * 512 + (i 1).val) % 128)) : ℝ) : EReal) from (val_main_v105_apply x0 x2 x3 x5 x6 x7 i).trans (r104 H _)).trans (congrArg _ ?_)
  have h0 : (i 0).val < 8192 := (i 0).isLt
  have h1 : (i 1).val < 512 := (i 1).isLt
  exact congrArg₂ P.mixed (by omega) (by omega)

theorem r106 : ∀ i, val_main_v106 (F := Ideal) x8 i = ((P.ps (i 1).val : ℝ) : EReal) := fun i =>
  (val_main_v106_apply x8 i).trans (H.ps _)

theorem r107 : ∀ i, val_main_v107 (F := Ideal) x0 x2 x3 x5 x6 x7 x8 i = (((P.mixed (i 0).val (i 1).val * P.ps (i 1).val) : ℝ) : EReal) := fun i =>
  (val_main_v107_apply x0 x2 x3 x5 x6 x7 x8 i).trans ((congrArg₂ (FloatOps.mulf (F := Ideal) (φ := .f32)) (r105 H i) (r106 H i)).trans (mul_r _ _))

theorem r108 : ∀ i, val_main_v108 (F := Ideal) x0 x2 x3 x5 x6 i = ((P.zb (i 0).val (i 1).val : ℝ) : EReal) := fun i => by
  refine (show _ = ((P.proj (i 0).val (512 + (i 1).val) : ℝ) : EReal) from (val_main_v108_apply x0 x2 x3 x5 x6 i).trans (r21 H _)).trans (congrArg _ ?_)
  have h0 : (i 0).val < 8192 := (i 0).isLt
  have h1 : (i 1).val < 1024 := (i 1).isLt
  exact congrArg (P.proj _) (by omega)

theorem r109 : ∀ i, val_main_v109 (F := Ideal) x0 x2 x3 x5 x6 i = (((P.zb (i 0).val (i 1).val * P.zb (i 0).val (i 1).val) : ℝ) : EReal) := fun i =>
  (val_main_v109_apply x0 x2 x3 x5 x6 i).trans ((congrArg₂ (FloatOps.mulf (F := Ideal) (φ := .f32)) (r108 H i) (r108 H i)).trans (mul_r _ _))

theorem r110 : ∀ i, val_main_v110 (F := Ideal) x0 x2 x3 x5 x6 i = ((((P.zb (i 0).val (i 1).val * P.zb (i 0).val (i 1).val) * P.zb (i 0).val (i 1).val) : ℝ) : EReal) := fun i =>
  (val_main_v110_apply x0 x2 x3 x5 x6 i).trans ((congrArg₂ (FloatOps.mulf (F := Ideal) (φ := .f32)) (r109 H i) (r108 H i)).trans (mul_r _ _))

theorem r111 : ∀ i, val_main_v111 (F := Ideal) x0 x2 x3 x5 x6 i = (((P.zb (i 0).val (i 1).val * P.zb (i 0).val (i 1).val) : ℝ) : EReal) := fun i =>
  (val_main_v111_apply x0 x2 x3 x5 x6 i).trans ((congrArg₂ (FloatOps.mulf (F := Ideal) (φ := .f32)) (r108 H i) (r108 H i)).trans (mul_r _ _))

theorem r113 : ∀ i, val_main_v113 (F := Ideal) x0 x2 x3 x5 x6 i = (((3 * (P.zb (i 0).val (i 1).val * P.zb (i 0).val (i 1).val)) : ℝ) : EReal) := fun i =>
  (val_main_v113_apply x0 x2 x3 x5 x6 i).trans ((congrArg₂ (FloatOps.mulf (F := Ideal) (φ := .f32)) (r112 i) (r111 H i)).trans (mul_r _ _))

theorem r115 : ∀ i, val_main_v115 (F := Ideal) x0 x2 x3 x5 x6 i = (((8943 * ((P.zb (i 0).val (i 1).val * P.zb (i 0).val (i 1).val) * P.zb (i 0).val (i 1).val)) : ℝ) : EReal) := fun i =>
  (val_main_v115_apply x0 x2 x3 x5 x6 i).trans ((congrArg₂ (FloatOps.mulf (F := Ideal) (φ := .f32)) (r114 i) (r110 H i)).trans (mul_r _ _))

theorem r117 : ∀ i, val_main_v117 (F := Ideal) x0 x2 x3 x5 x6 i = ((((8943 * ((P.zb (i 0).val (i 1).val * P.zb (i 0).val (i 1).val) * P.zb (i 0).val (i 1).val)) / 200000) : ℝ) : EReal) := fun i =>
  (val_main_v117_apply x0 x2 x3 x5 x6 i).trans ((congrArg₂ (FloatOps.hostDivf (F := Ideal) (φ := .f32)) (r115 H i) (r116 i)).trans (hdiv_r _ _ (by norm_num)))

theorem r118 : ∀ i, val_main_v118 (F := Ideal) x0 x2 x3 x5 x6 i = (((P.zb (i 0).val (i 1).val + ((8943 * ((P.zb (i 0).val (i 1).val * P.zb (i 0).val (i 1).val) * P.zb (i 0).val (i 1).val)) / 200000)) : ℝ) : EReal) := fun i =>
  (val_main_v118_apply x0 x2 x3 x5 x6 i).trans ((congrArg₂ (FloatOps.addf (F := Ideal) (φ := .f32)) (r108 H i) (r117 H i)).trans (add_r _ _))

theorem r120 : ∀ i, val_main_v120 (F := Ideal) x0 x2 x3 x5 x6 i = (((gk * (P.zb (i 0).val (i 1).val + ((8943 * ((P.zb (i 0).val (i 1).val * P.zb (i 0).val (i 1).val) * P.zb (i 0).val (i 1).val)) / 200000))) : ℝ) : EReal) := fun i =>
  (val_main_v120_apply x0 x2 x3 x5 x6 i).trans ((congrArg₂ (FloatOps.mulf (F := Ideal) (φ := .f32)) (r119 i) (r118 H i)).trans (mul_r _ _))

theorem r121 : ∀ i, val_main_v121 (F := Ideal) x0 x2 x3 x5 x6 i = ((gt (P.zb (i 0).val (i 1).val) : ℝ) : EReal) := fun i => by
  refine (show _ = ((Real.tanh ((gk * (P.zb (i 0).val (i 1).val + ((8943 * ((P.zb (i 0).val (i 1).val * P.zb (i 0).val (i 1).val) * P.zb (i 0).val (i 1).val)) / 200000)))) : ℝ) : EReal) from (val_main_v121_apply x0 x2 x3 x5 x6 i).trans ((congrArg (FloatOps.hostUnary (F := Ideal) .tanh (φ := .f32)) (r120 H i)).trans (htanh_r _))).trans (congrArg _ ?_)
  exact congrArg Real.tanh (by unfold ga; ring)

theorem r123 : ∀ i, val_main_v123 (F := Ideal) x0 x2 x3 x5 x6 i = (((1 + gt (P.zb (i 0).val (i 1).val)) : ℝ) : EReal) := fun i =>
  (val_main_v123_apply x0 x2 x3 x5 x6 i).trans ((congrArg₂ (FloatOps.addf (F := Ideal) (φ := .f32)) (r122 i) (r121 H i)).trans (add_r _ _))

theorem r125 : ∀ i, val_main_v125 (F := Ideal) x0 x2 x3 x5 x6 i = (((1 - gt (P.zb (i 0).val (i 1).val)) : ℝ) : EReal) := fun i =>
  (val_main_v125_apply x0 x2 x3 x5 x6 i).trans ((congrArg₂ (FloatOps.subf (F := Ideal) (φ := .f32)) (r124 i) (r121 H i)).trans (sub_r _ _))

theorem r126 : ∀ i, val_main_v126 (F := Ideal) x0 x2 x3 x5 x6 i = ((((1 + gt (P.zb (i 0).val (i 1).val)) * (1 - gt (P.zb (i 0).val (i 1).val))) : ℝ) : EReal) := fun i =>
  (val_main_v126_apply x0 x2 x3 x5 x6 i).trans ((congrArg₂ (FloatOps.mulf (F := Ideal) (φ := .f32)) (r123 H i) (r125 H i)).trans (mul_r _ _))

theorem r128 : ∀ i, val_main_v128 (F := Ideal) x0 x2 x3 x5 x6 i = (((1 + gt (P.zb (i 0).val (i 1).val)) : ℝ) : EReal) := fun i =>
  (val_main_v128_apply x0 x2 x3 x5 x6 i).trans ((congrArg₂ (FloatOps.addf (F := Ideal) (φ := .f32)) (r127 i) (r121 H i)).trans (add_r _ _))

theorem r130 : ∀ i, val_main_v130 (F := Ideal) x0 x2 x3 x5 x6 i = ((((1 / 2) * (1 + gt (P.zb (i 0).val (i 1).val))) : ℝ) : EReal) := fun i =>
  (val_main_v130_apply x0 x2 x3 x5 x6 i).trans ((congrArg₂ (FloatOps.mulf (F := Ideal) (φ := .f32)) (r129 i) (r128 H i)).trans (mul_r _ _))

theorem r131 : ∀ i, val_main_v131 (F := Ideal) x0 x2 x3 x5 x6 i = ((ge (P.zb (i 0).val (i 1).val) : ℝ) : EReal) := fun i => by
  refine (show _ = (((P.zb (i 0).val (i 1).val * ((1 / 2) * (1 + gt (P.zb (i 0).val (i 1).val)))) : ℝ) : EReal) from (val_main_v131_apply x0 x2 x3 x5 x6 i).trans ((congrArg₂ (FloatOps.mulf (F := Ideal) (φ := .f32)) (r108 H i) (r130 H i)).trans (mul_r _ _))).trans (congrArg _ ?_)
  rfl

theorem r132 : ∀ i, val_main_v132 (F := Ideal) x0 x2 x3 x5 x6 i = ((P.u (i 0).val (i 1).val : ℝ) : EReal) := fun i => by
  refine (show _ = ((ge (P.zb (i 0).val (i 1).val) : ℝ) : EReal) from (val_main_v132_apply x0 x2 x3 x5 x6 i).trans (r131 H _)).trans (congrArg _ ?_)
  rfl

theorem r133 : ∀ i, val_main_v133 (F := Ideal) x0 x2 x3 x5 x6 i = ((P.v (i 0).val (i 1).val : ℝ) : EReal) := fun i => by
  refine (show _ = ((ge (P.zb (i 0).val (512 + (i 1).val)) : ℝ) : EReal) from (val_main_v133_apply x0 x2 x3 x5 x6 i).trans (r131 H _)).trans (congrArg _ ?_)
  have h0 : (i 0).val < 8192 := (i 0).isLt
  have h1 : (i 1).val < 512 := (i 1).isLt
  exact congrArg (fun j => ge (P.zb _ j)) (by omega)

theorem r134 : ∀ i, val_main_v134 (F := Ideal) x0 x2 x3 x5 x6 i = (((∑ k4 : Fin 512, P.v (i 0).val k4.val) : ℝ) : EReal) := fun i =>
  (val_main_v134_apply x0 x2 x3 x5 x6 i).trans (red_r w_zero (fun k => r133 H _))

theorem r135 : ∀ i, val_main_v135 (F := Ideal) x0 x2 x3 x5 x6 i = (((∑ k4 : Fin 512, P.v (i 0).val k4.val) : ℝ) : EReal) := fun i =>
  (val_main_v135_apply x0 x2 x3 x5 x6 i).trans (r134 H _)

theorem r137 : ∀ i, val_main_v137 (F := Ideal) x0 x2 x3 x5 x6 i = ((P.mu (i 0).val : ℝ) : EReal) := fun i => by
  refine (show _ = ((((∑ k4 : Fin 512, P.v (i 0).val k4.val) / 512) : ℝ) : EReal) from (val_main_v137_apply x0 x2 x3 x5 x6 i).trans ((congrArg₂ (FloatOps.hostDivf (F := Ideal) (φ := .f32)) (r135 H i) (r136 i)).trans (hdiv_r _ _ (by norm_num)))).trans (congrArg _ ?_)
  rfl

theorem r138 : ∀ i, val_main_v138 (F := Ideal) x0 x2 x3 x5 x6 i = ((P.mu (i 0).val : ℝ) : EReal) := fun i =>
  (val_main_v138_apply x0 x2 x3 x5 x6 i).trans (r137 H _)

theorem r139 : ∀ i, val_main_v139 (F := Ideal) x0 x2 x3 x5 x6 i = ((P.vc (i 0).val (i 1).val : ℝ) : EReal) := fun i => by
  refine (show _ = (((P.v (i 0).val (i 1).val - P.mu (i 0).val) : ℝ) : EReal) from (val_main_v139_apply x0 x2 x3 x5 x6 i).trans ((congrArg₂ (FloatOps.subf (F := Ideal) (φ := .f32)) (r133 H i) (r138 H i)).trans (sub_r _ _))).trans (congrArg _ ?_)
  rfl

theorem r140 : ∀ i, val_main_v140 (F := Ideal) x0 x2 x3 x5 x6 i = (((P.vc (i 0).val (i 1).val * P.vc (i 0).val (i 1).val) : ℝ) : EReal) := fun i =>
  (val_main_v140_apply x0 x2 x3 x5 x6 i).trans ((congrArg₂ (FloatOps.mulf (F := Ideal) (φ := .f32)) (r139 H i) (r139 H i)).trans (mul_r _ _))

theorem r142 : ∀ i, val_main_v142 (F := Ideal) x0 x2 x3 x5 x6 i = (((2 * P.vc (i 0).val (i 1).val) : ℝ) : EReal) := fun i =>
  (val_main_v142_apply x0 x2 x3 x5 x6 i).trans ((congrArg₂ (FloatOps.mulf (F := Ideal) (φ := .f32)) (r141 i) (r139 H i)).trans (mul_r _ _))

theorem r143 : ∀ i, val_main_v143 (F := Ideal) x0 x2 x3 x5 x6 i = (((∑ k5 : Fin 512, (P.vc (i 0).val k5.val * P.vc (i 0).val k5.val)) : ℝ) : EReal) := fun i =>
  (val_main_v143_apply x0 x2 x3 x5 x6 i).trans (red_r w_zero (fun k => r140 H _))

theorem r144 : ∀ i, val_main_v144 (F := Ideal) x0 x2 x3 x5 x6 i = (((∑ k5 : Fin 512, (P.vc (i 0).val k5.val * P.vc (i 0).val k5.val)) : ℝ) : EReal) := fun i =>
  (val_main_v144_apply x0 x2 x3 x5 x6 i).trans (r143 H _)

theorem r146 : ∀ i, val_main_v146 (F := Ideal) x0 x2 x3 x5 x6 i = ((((∑ k5 : Fin 512, (P.vc (i 0).val k5.val * P.vc (i 0).val k5.val)) / 512) : ℝ) : EReal) := fun i =>
  (val_main_v146_apply x0 x2 x3 x5 x6 i).trans ((congrArg₂ (FloatOps.hostDivf (F := Ideal) (φ := .f32)) (r144 H i) (r145 i)).trans (hdiv_r _ _ (by norm_num)))

theorem r147 : ∀ i, val_main_v147 (F := Ideal) x0 x2 x3 x5 x6 i = ((P.mu (i 0).val : ℝ) : EReal) := fun i =>
  (val_main_v147_apply x0 x2 x3 x5 x6 i).trans (r137 H _)

theorem r148 : ∀ i, val_main_v148 (F := Ideal) x0 x2 x3 x5 x6 i = ((P.vc (i 0).val (i 1).val : ℝ) : EReal) := fun i => by
  refine (show _ = (((P.v (i 0).val (i 1).val - P.mu (i 0).val) : ℝ) : EReal) from (val_main_v148_apply x0 x2 x3 x5 x6 i).trans ((congrArg₂ (FloatOps.subf (F := Ideal) (φ := .f32)) (r133 H i) (r147 H i)).trans (sub_r _ _))).trans (congrArg _ ?_)
  rfl

theorem r150 : ∀ i, val_main_v150 (F := Ideal) x0 x2 x3 x5 x6 i = ((P.var (i 0).val : ℝ) : EReal) := fun i => by
  refine (show _ = (((((∑ k5 : Fin 512, (P.vc (i 0).val k5.val * P.vc (i 0).val k5.val)) / 512) + eps) : ℝ) : EReal) from (val_main_v150_apply x0 x2 x3 x5 x6 i).trans ((congrArg₂ (FloatOps.addf (F := Ideal) (φ := .f32)) (r146 H i) (r149 i)).trans (add_r _ _))).trans (congrArg _ ?_)
  rfl

theorem r151 : ∀ i, val_main_v151 (F := Ideal) x0 x2 x3 x5 x6 i = ((P.rs (i 0).val : ℝ) : EReal) := fun i => by
  refine (show _ = (((Real.sqrt (P.var (i 0).val))⁻¹ : ℝ) : EReal) from (val_main_v151_apply x0 x2 x3 x5 x6 i).trans ((congrArg (FloatOps.hostUnary (F := Ideal) .rsqrt (φ := .f32)) (r150 H i)).trans (hrsqrt_r _ (P.var_pos _)))).trans (congrArg _ ?_)
  rfl

theorem r152 : ∀ i, val_main_v152 (F := Ideal) x0 x2 x3 x5 x6 i = (((P.rs (i 0).val / P.var (i 0).val) : ℝ) : EReal) := fun i =>
  (val_main_v152_apply x0 x2 x3 x5 x6 i).trans ((congrArg₂ (FloatOps.hostDivf (F := Ideal) (φ := .f32)) (r151 H i) (r150 H i)).trans (hdiv_r _ _ (P.var_pos _).ne'))

theorem r154 : ∀ i, val_main_v154 (F := Ideal) x0 x2 x3 x5 x6 i = ((((-1 / 2) * (P.rs (i 0).val / P.var (i 0).val)) : ℝ) : EReal) := fun i =>
  (val_main_v154_apply x0 x2 x3 x5 x6 i).trans ((congrArg₂ (FloatOps.mulf (F := Ideal) (φ := .f32)) (r153 i) (r152 H i)).trans (mul_r _ _))

theorem r155 : ∀ i, val_main_v155 (F := Ideal) x0 x2 x3 x5 x6 i = ((P.rs (i 0).val : ℝ) : EReal) := fun i =>
  (val_main_v155_apply x0 x2 x3 x5 x6 i).trans (r151 H _)

theorem r156 : ∀ i, val_main_v156 (F := Ideal) x0 x2 x3 x5 x6 i = ((P.vh (i 0).val (i 1).val : ℝ) : EReal) := fun i => by
  refine (show _ = (((P.vc (i 0).val (i 1).val * P.rs (i 0).val) : ℝ) : EReal) from (val_main_v156_apply x0 x2 x3 x5 x6 i).trans ((congrArg₂ (FloatOps.mulf (F := Ideal) (φ := .f32)) (r148 H i) (r155 H i)).trans (mul_r _ _))).trans (congrArg _ ?_)
  rfl

theorem r157 : ∀ i, val_main_v157 (F := Ideal) x9 i = ((P.lg (i 1).val : ℝ) : EReal) := fun i =>
  (val_main_v157_apply x9 i).trans (H.lg _)

theorem r158 : ∀ i, val_main_v158 (F := Ideal) x0 x2 x3 x5 x6 x9 i = (((P.vh (i 0).val (i 1).val * P.lg (i 1).val) : ℝ) : EReal) := fun i =>
  (val_main_v158_apply x0 x2 x3 x5 x6 x9 i).trans ((congrArg₂ (FloatOps.mulf (F := Ideal) (φ := .f32)) (r156 H i) (r157 H i)).trans (mul_r _ _))

theorem r159 : ∀ i, val_main_v159 (F := Ideal) x10 i = ((P.lb (i 1).val : ℝ) : EReal) := fun i =>
  (val_main_v159_apply x10 i).trans (H.lb _)

theorem r160 : ∀ i, val_main_v160 (F := Ideal) x0 x2 x3 x5 x6 x9 x10 i = ((P.vl (i 0).val (i 1).val : ℝ) : EReal) := fun i => by
  refine (show _ = ((((P.vh (i 0).val (i 1).val * P.lg (i 1).val) + P.lb (i 1).val) : ℝ) : EReal) from (val_main_v160_apply x0 x2 x3 x5 x6 x9 x10 i).trans ((congrArg₂ (FloatOps.addf (F := Ideal) (φ := .f32)) (r158 H i) (r159 H i)).trans (add_r _ _))).trans (congrArg _ ?_)
  rfl

theorem r161 : ∀ i, val_main_v161 (F := Ideal) x0 x2 x3 x5 x6 x9 x10 i = ((P.vl (128 * (i 0).val + (i 1).val) (64 * (i 2).val + (i 3).val) : ℝ) : EReal) := fun i => by
  refine (show _ = ((P.vl (((((i 0).val * 128 + (i 1).val) * 8 + (i 2).val) * 64 + (i 3).val) / 512) (((((i 0).val * 128 + (i 1).val) * 8 + (i 2).val) * 64 + (i 3).val) % 512) : ℝ) : EReal) from (val_main_v161_apply x0 x2 x3 x5 x6 x9 x10 i).trans (r160 H _)).trans (congrArg _ ?_)
  have h0 : (i 0).val < 64 := (i 0).isLt
  have h1 : (i 1).val < 128 := (i 1).isLt
  have h2 : (i 2).val < 8 := (i 2).isLt
  have h3 : (i 3).val < 64 := (i 3).isLt
  exact congrArg₂ P.vl (by omega) (by omega)

theorem r165_0 : ∀ i, val_main_v165_0 (F := Ideal) x11 i = ((P.wm (i 0).val (i 1).val (i 2).val : ℝ) : EReal) := by
  intro i
  refine (val_main_v165_0_apply x11 i).trans ?_
  rw [mask_r, H.wsp, val_main_call2_v1_apply, val_main_cst_35_apply]
  unfold Params.wm
  by_cases h : (i 2).val ≤ (i 1).val
  · rw [if_pos h, if_pos h]; rfl
  · rw [if_neg h, if_neg h]; exact w_zero

theorem r166 : ∀ i, val_main_v166 (F := Ideal) x0 x2 x3 x5 x6 x9 x10 x11 i = (((∑ k6 : Fin 128, P.vl (128 * (i 1).val + k6.val) (64 * (i 0).val + (i 2).val) * P.wm (i 0).val (i 3).val k6.val) : ℝ) : EReal) := fun i =>
  (val_main_v166_apply x0 x2 x3 x5 x6 x9 x10 x11 i).trans (dot_r (fun k => r161 H _) (fun k => r165_0 H _))

theorem r167 : ∀ i, val_main_v167 (F := Ideal) x0 x2 x3 x5 x6 x9 x10 x11 i = (((∑ k6 : Fin 128, P.vl (128 * (i 0).val + k6.val) (64 * (i 2).val + (i 3).val) * P.wm (i 2).val (i 1).val k6.val) : ℝ) : EReal) := fun i =>
  (val_main_v167_apply x0 x2 x3 x5 x6 x9 x10 x11 i).trans (r166 H _)

theorem r168 : ∀ i, val_main_v168 (F := Ideal) x12 i = ((P.bsp (i 1).val (i 0).val : ℝ) : EReal) := fun i =>
  (val_main_v168_apply x12 i).trans (H.bsp _)

theorem r169 : ∀ i, val_main_v169 (F := Ideal) x12 i = ((P.bsp (i 2).val (i 1).val : ℝ) : EReal) := fun i =>
  (val_main_v169_apply x12 i).trans (r168 H _)

theorem r170 : ∀ i, val_main_v170 (F := Ideal) x12 i = ((P.bsp (i 2).val (i 1).val : ℝ) : EReal) := fun i =>
  (val_main_v170_apply x12 i).trans (r169 H _)

theorem r171 : ∀ i, val_main_v171 (F := Ideal) x0 x2 x3 x5 x6 x9 x10 x11 x12 i = ((P.sv (128 * (i 0).val + (i 1).val) (64 * (i 2).val + (i 3).val) : ℝ) : EReal) := fun i => by
  refine (show _ = ((((∑ k6 : Fin 128, P.vl (128 * (i 0).val + k6.val) (64 * (i 2).val + (i 3).val) * P.wm (i 2).val (i 1).val k6.val) + P.bsp (i 2).val (i 1).val) : ℝ) : EReal) from (val_main_v171_apply x0 x2 x3 x5 x6 x9 x10 x11 x12 i).trans ((congrArg₂ (FloatOps.addf (F := Ideal) (φ := .f32)) (r167 H i) (r170 H i)).trans (add_r _ _))).trans (congrArg _ ?_)
  have h0 : (i 0).val < 64 := (i 0).isLt
  have h1 : (i 1).val < 128 := (i 1).isLt
  have h2 : (i 2).val < 8 := (i 2).isLt
  have h3 : (i 3).val < 64 := (i 3).isLt
  simp only [Params.sv, show (64 * (i 2).val + (i 3).val) / 64 = (i 2).val by omega, show (128 * (i 0).val + (i 1).val) % 128 = (i 1).val by omega,
    show (128 * (i 0).val + (i 1).val) / 128 = (i 0).val by omega, mul_comm]

theorem r172 : ∀ i, val_main_v172 (F := Ideal) x0 x2 x3 x5 x6 x9 x10 x11 x12 i = ((P.sv (i 0).val (i 1).val : ℝ) : EReal) := fun i => by
  refine (show _ = ((P.sv (128 * (((i 0).val * 512 + (i 1).val) / 65536) + (((i 0).val * 512 + (i 1).val) / 512 % 128)) (64 * (((i 0).val * 512 + (i 1).val) / 64 % 8) + (((i 0).val * 512 + (i 1).val) % 64)) : ℝ) : EReal) from (val_main_v172_apply x0 x2 x3 x5 x6 x9 x10 x11 x12 i).trans (r171 H _)).trans (congrArg _ ?_)
  have h0 : (i 0).val < 8192 := (i 0).isLt
  have h1 : (i 1).val < 512 := (i 1).isLt
  exact congrArg₂ P.sv (by omega) (by omega)

theorem r173 : ∀ i, val_main_v173 (F := Ideal) x0 x2 x3 x5 x6 x9 x10 x11 x12 i = ((P.yb (i 0).val (i 1).val : ℝ) : EReal) := fun i => by
  refine (show _ = (((P.u (i 0).val (i 1).val * P.sv (i 0).val (i 1).val) : ℝ) : EReal) from (val_main_v173_apply x0 x2 x3 x5 x6 x9 x10 x11 x12 i).trans ((congrArg₂ (FloatOps.mulf (F := Ideal) (φ := .f32)) (r132 H i) (r172 H i)).trans (mul_r _ _))).trans (congrArg _ ?_)
  rfl

theorem r174 : ∀ i, val_main_v174 (F := Ideal) x0 x2 x3 x5 x6 x7 x8 x9 x10 x11 x12 i = ((P.cat (i 0).val (i 1).val : ℝ) : EReal) := by
  intro i
  exact cat1_r _ _ (fun s j => P.mixed s j * P.ps j) P.yb (r107 H) (r173 H) _ rfl i

theorem r175 : ∀ i, val_main_v175 (F := Ideal) x0 x2 x3 x5 x6 x7 x8 x9 x10 x11 x12 x13 i = ((P.mix (i 0).val (i 1).val : ℝ) : EReal) := fun i => by
  refine (show _ = (((∑ k7 : Fin 1024, P.cat (i 0).val k7.val * P.wout k7.val (i 1).val) : ℝ) : EReal) from (val_main_v175_apply x0 x2 x3 x5 x6 x7 x8 x9 x10 x11 x12 x13 i).trans (dot_r (fun k => r174 H _) (fun k => H.wout _))).trans (congrArg _ ?_)
  rfl

theorem r179 : ∀ i, val_main_v179 (F := Ideal) x1 i = ((P.dxo (i 0).val (i 1).val : ℝ) : EReal) := fun i => by
  refine (show _ = ((P.dxo (((i 0).val * 1024 + (i 1).val) / 1024) (((i 0).val * 1024 + (i 1).val) % 1024) : ℝ) : EReal) from (val_main_v179_apply x1 i).trans (H.dxo _)).trans (congrArg _ ?_)
  have h0 : (i 0).val < 8192 := (i 0).isLt
  have h1 : (i 1).val < 1024 := (i 1).isLt
  exact congrArg₂ P.dxo (by omega) (by omega)

theorem r180 : ∀ i, val_main_v180 (F := Ideal) x4 i = ((P.gate (i 1).val : ℝ) : EReal) := fun i =>
  (val_main_v180_apply x4 i).trans (H.gate _)

theorem r181 : ∀ i, val_main_v181 (F := Ideal) x1 x4 i = ((P.dm (i 0).val (i 1).val : ℝ) : EReal) := fun i => by
  refine (show _ = (((P.gate (i 1).val * P.dxo (i 0).val (i 1).val) : ℝ) : EReal) from (val_main_v181_apply x1 x4 i).trans ((congrArg₂ (FloatOps.mulf (F := Ideal) (φ := .f32)) (r180 H i) (r179 H i)).trans (mul_r _ _))).trans (congrArg _ ?_)
  exact mul_comm _ _

theorem r182 : ∀ i, val_main_v182 (F := Ideal) x0 x1 x2 x3 x5 x6 x7 x8 x9 x10 x11 x12 x13 i = (((P.dxo (i 0).val (i 1).val * P.mix (i 0).val (i 1).val) : ℝ) : EReal) := fun i =>
  (val_main_v182_apply x0 x1 x2 x3 x5 x6 x7 x8 x9 x10 x11 x12 x13 i).trans ((congrArg₂ (FloatOps.mulf (F := Ideal) (φ := .f32)) (r179 H i) (r175 H i)).trans (mul_r _ _))

theorem r183 : ∀ i, val_main_v183 (F := Ideal) x0 x1 x2 x3 x5 x6 x7 x8 x9 x10 x11 x12 x13 i = ((P.dgate (i 0).val : ℝ) : EReal) := fun i => by
  refine (show _ = (((∑ k8 : Fin 8192, (P.dxo k8.val (i 0).val * P.mix k8.val (i 0).val)) : ℝ) : EReal) from (val_main_v183_apply x0 x1 x2 x3 x5 x6 x7 x8 x9 x10 x11 x12 x13 i).trans (red_r w_zero (fun k => r182 H _))).trans (congrArg _ ?_)
  rfl

theorem r184 : ∀ i, val_main_v184 (F := Ideal) x0 x1 x2 x3 x5 x6 x7 x8 x9 x10 x11 x12 x13 i = ((P.dgate (i 1).val : ℝ) : EReal) := fun i => by
  refine (show _ = ((P.dgate ((i 0).val * 1024 + (i 1).val) : ℝ) : EReal) from (val_main_v184_apply x0 x1 x2 x3 x5 x6 x7 x8 x9 x10 x11 x12 x13 i).trans (r183 H _)).trans (congrArg _ ?_)
  have h0 : (i 0).val < 1 := (i 0).isLt
  have h1 : (i 1).val < 1024 := (i 1).isLt
  exact congrArg P.dgate (by omega)

theorem r185 : ∀ i, val_main_v185 (F := Ideal) x0 x1 x2 x3 x4 x5 x6 x7 x8 x9 x10 x11 x12 i = (((∑ k9 : Fin 8192, P.dm k9.val (i 0).val * P.cat k9.val (i 1).val) : ℝ) : EReal) := fun i =>
  (val_main_v185_apply x0 x1 x2 x3 x4 x5 x6 x7 x8 x9 x10 x11 x12 i).trans (dot_r (fun k => r181 H _) (fun k => r174 H _))

theorem r186 : ∀ i, val_main_v186 (F := Ideal) x0 x1 x2 x3 x4 x5 x6 x7 x8 x9 x10 x11 x12 i = ((P.dwout (i 0).val (i 1).val : ℝ) : EReal) := fun i => by
  refine (show _ = (((∑ k9 : Fin 8192, P.dm k9.val (i 1).val * P.cat k9.val (i 0).val) : ℝ) : EReal) from (val_main_v186_apply x0 x1 x2 x3 x4 x5 x6 x7 x8 x9 x10 x11 x12 i).trans (r185 H _)).trans (congrArg _ ?_)
  unfold Params.dwout Params.dm; rw [Finset.sum_mul]; exact Finset.sum_congr rfl fun k _ => by ring

end MixBwd
-- ==== Proof.Host.lean ====
/-
  The arrays that the kernel's call is given, over the reals: what the forward pass saved is the reference's own, and the
  parameters are packed in rows and tables.
-/
module

public import proofs.«01_k».proof.Proof.Final
public import proofs.«01_k».proof.Proof.Ref2
public import Idealize.ShloMosaic.Lib.Pipeline.ValueKit
public import Idealize.ShloMosaic.Lib.Claim
public import Idealize.ShloMosaic.Lib.StableHlo.RunRead

@[expose] public section

set_option maxRecDepth 65536

noncomputable section

namespace MixBwd

open Idealize.ShloMosaic Idealize.SL.Sem Cert.KernelIdeal Cert.KernelIdeal.Gen

/-! The concatenations of arrays, with the arrays as arguments. -/

def cat2 {α : Type} (t : Shape) (d : Fin t.rank) (s0 s1 : Shape) (a : s0.Idx → α) (b : s1.Idx → α)
    (h : Shape.Concatenates [s0, s1] t d) : t.Idx → α := concatenate t d [⟨s0, a⟩, ⟨s1, b⟩] h

theorem cat2_eq {α : Type} (t : Shape) (d : Fin t.rank) (s0 s1 : Shape) (a : s0.Idx → α) (b : s1.Idx → α)
    (h : Shape.Concatenates [s0, s1] t d) : concatenate t d [⟨s0, a⟩, ⟨s1, b⟩] h = cat2 t d s0 s1 a b h := rfl

def cat4 {α : Type} (t : Shape) (d : Fin t.rank) (s0 s1 s2 s3 : Shape) (a : s0.Idx → α) (b : s1.Idx → α) (e : s2.Idx → α) (f : s3.Idx → α)
    (h : Shape.Concatenates [s0, s1, s2, s3] t d) : t.Idx → α := concatenate t d [⟨s0, a⟩, ⟨s1, b⟩, ⟨s2, e⟩, ⟨s3, f⟩] h

theorem cat4_eq {α : Type} (t : Shape) (d : Fin t.rank) (s0 s1 s2 s3 : Shape) (a : s0.Idx → α) (b : s1.Idx → α) (e : s2.Idx → α) (f : s3.Idx → α)
    (h : Shape.Concatenates [s0, s1, s2, s3] t d) : concatenate t d [⟨s0, a⟩, ⟨s1, b⟩, ⟨s2, e⟩, ⟨s3, f⟩] h = cat4 t d s0 s1 s2 s3 a b e f h := rfl

def cat5 {α : Type} (t : Shape) (d : Fin t.rank) (s0 s1 s2 s3 s4 : Shape) (a : s0.Idx → α) (b : s1.Idx → α) (e : s2.Idx → α) (f : s3.Idx → α) (g : s4.Idx → α)
    (h : Shape.Concatenates [s0, s1, s2, s3, s4] t d) : t.Idx → α := concatenate t d [⟨s0, a⟩, ⟨s1, b⟩, ⟨s2, e⟩, ⟨s3, f⟩, ⟨s4, g⟩] h

theorem cat5_eq {α : Type} (t : Shape) (d : Fin t.rank) (s0 s1 s2 s3 s4 : Shape) (a : s0.Idx → α) (b : s1.Idx → α) (e : s2.Idx → α) (f : s3.Idx → α) (g : s4.Idx → α)
    (h : Shape.Concatenates [s0, s1, s2, s3, s4] t d) : concatenate t d [⟨s0, a⟩, ⟨s1, b⟩, ⟨s2, e⟩, ⟨s3, f⟩, ⟨s4, g⟩] h = cat5 t d s0 s1 s2 s3 s4 a b e f g h := rfl

/-! The tables of the spatial weights. -/

/-- The spatial weights below and on the diagonal, zero above it. -/
def maskedSp (a : S8x128x128.Idx → EReal) : S8x128x128.Idx → EReal :=
  select (broadcastInDim S8x128x128 ![0, 1, 2] bcast_S1x128x128_S8x128x128_0_1_2 (broadcastInDim S1x128x128 ![1, 2]
      bcast_S128x128_S1x128x128_1_2 (cmpi .sle (iotaInDim S128x128 32 1) (iotaInDim S128x128 32 0)))) a
    (broadcastInDim S8x128x128 ![] bcast_S_S8x128x128 (constant (F := Ideal) S_ .f32 0x00000000#32))

theorem masked_r {P : Params} {a : S8x128x128.Idx → EReal} (ha : R3 a P.wsp) : R3 (maskedSp a) P.wm := by
  intro i
  have h1 : (i 1).val < 128 := (i 1).isLt
  have h2 : (i 2).val < 128 := (i 2).isLt
  have e : maskedSp a i = Scalar.select (IntOp.cmpi .sle (BitVec.ofNat 32 (i 2).val) (BitVec.ofNat 32 (i 1).val)) (a i)
      (FloatOps.ofBits (F := Ideal) .f32 0x00000000#32) := rfl
  rw [e, WordCmp.cmpi_sle_ofNat (by norm_num; omega) (by norm_num; omega), ha]
  unfold Params.wm
  by_cases h : (i 2).val ≤ (i 1).val
  · rw [if_pos h, decide_eq_true h]; rfl
  · rw [if_neg h, decide_eq_false h]; exact w_zero

/-- Every other layer. -/
theorem R3.layers {f : ℕ → ℕ → ℕ → ℝ} {a : S8x128x128.Idx → EReal} (ha : R3 a f) (o : ℕ)
    (h : S8x128x128.SlicesBy ![o, 0, 0] ![2, 1, 1] S4x128x128) :
    R3 (Host.slice S4x128x128 ![o, 0, 0] ![2, 1, 1] a h) (fun p i j => f (o + 2 * p) i j) := by
  intro i
  rw [Host.slice_apply, ha]
  refine congrArg _ ?_
  show f (o + 2 * (i 0).val) (0 + 1 * (i 1).val) (0 + 1 * (i 2).val) = _
  rw [zero_add, one_mul, zero_add, one_mul]

theorem R3.flip {f : ℕ → ℕ → ℕ → ℝ} {a : S8x128x128.Idx → EReal} (ha : R3 a f)
    (h : S8x128x128.Transposes [0, 2, 1] S8x128x128) :
    R3 (transpose S8x128x128 [0, 2, 1] a h) (fun p i j => f p j i) := by
  intro i
  rw [transpose_apply [0, 2, 1] a h i (fun k => match k with
    | ⟨0, _⟩ => i 0
    | ⟨1, _⟩ => i 2
    | ⟨2, _⟩ => i 1) (fun k => by
    match k with
    | ⟨0, _⟩ => rfl
    | ⟨1, _⟩ => rfl
    | ⟨2, _⟩ => rfl), ha]

/-- Two tables side by side. -/
theorem R3.pair {f g : ℕ → ℕ → ℕ → ℝ} {x y : S4x128x128.Idx → EReal} (hx : R3 x f) (hy : R3 y g)
    (h : Shape.Concatenates [S4x128x128, S4x128x128] S4x128x256 2) :
    R3 (cat2 S4x128x256 2 S4x128x128 S4x128x128 x y h) (fun p i k => if k < 128 then f p i k else g p i (k - 128)) := by
  intro j
  unfold cat2
  have hj : (j 2).val < 256 := (j 2).isLt
  by_cases e : (j 2).val < 128
  · simp only [if_pos e]
    rw [concatenate_pair_apply_left 2 x y h j rfl (fun k => match k with
        | ⟨0, _⟩ => j 0
        | ⟨1, _⟩ => j 1
        | ⟨2, _⟩ => ⟨(j 2).val, e⟩) (fun k => by
        match k with
        | ⟨0, _⟩ => rfl
        | ⟨1, _⟩ => rfl
        | ⟨2, _⟩ => rfl), hx]
  · simp only [if_neg e]
    rw [concatenate_pair_apply_right 2 x y h j rfl rfl (fun k => match k with
        | ⟨0, _⟩ => j 0
        | ⟨1, _⟩ => j 1
        | ⟨2, _⟩ => (⟨(j 2).val - 128, by omega⟩ : Fin 128)) (fun k hk => by
        match k with
        | ⟨0, _⟩ => rfl
        | ⟨1, _⟩ => rfl
        | ⟨2, _⟩ => exact absurd rfl hk) (by show (j 2).val - 128 + 128 = (j 2).val; omega), hy]

/-- Both layers of every pair, side by side. -/
theorem R3.pairs {f : ℕ → ℕ → ℕ → ℝ} {a : S8x128x128.Idx → EReal} (ha : R3 a f)
    (h0 : S8x128x128.SlicesBy ![0, 0, 0] ![2, 1, 1] S4x128x128) (h1 : S8x128x128.SlicesBy ![1, 0, 0] ![2, 1, 1] S4x128x128)
    (h : Shape.Concatenates [S4x128x128, S4x128x128] S4x128x256 2) :
    R3 (cat2 S4x128x256 2 S4x128x128 S4x128x128 (Host.slice S4x128x128 ![0, 0, 0] ![2, 1, 1] a h0)
      (Host.slice S4x128x128 ![1, 0, 0] ![2, 1, 1] a h1) h) (fun p i k => f (2 * p + k / 128) i (k % 128)) := by
  intro j
  refine ((ha.layers 0 h0).pair (ha.layers 1 h1) h j).trans (congrArg _ ?_)
  have hj : (j 2).val < 256 := (j 2).isLt
  by_cases e : (j 2).val < 128
  · simp only [if_pos e]
    rw [show 0 + 2 * (j 0).val = 2 * (j 0).val + (j 2).val / 128 by omega, show (j 2).val % 128 = (j 2).val by omega]
  · simp only [if_neg e]
    rw [show 1 + 2 * (j 0).val = 2 * (j 0).val + (j 2).val / 128 by omega, show (j 2).val % 128 = (j 2).val - 128 by omega]

/-- The spatial biases, a column for every channel. -/
theorem biasTable_r {P : Params} {a : S8x128.Idx → EReal} (ha : R2 a P.bsp) (h : S8x128.Transposes [1, 0] S128x8)
    (hc : S128x8x64.ShapeCasts S128x512) :
    R2 (shapeCast S128x512 (broadcastInDim S128x8x64 ![0, 1] bcast_S128x8_S128x8x64_0_1 (transpose S128x8 [1, 0] a h)) hc)
      (fun t k => P.bsp (k / 64) t) := by
  intro i
  have h1 : (i 1).val < 512 := (i 1).isLt
  rw [shapeCast_apply _ hc i (fun k => match k with
    | ⟨0, _⟩ => i 0
    | ⟨1, _⟩ => (⟨(i 1).val / 64, by omega⟩ : Fin 8)
    | ⟨2, _⟩ => (⟨(i 1).val % 64, by omega⟩ : Fin 64)) (by
      rw [Shape.rowMajor_val_three, Shape.rowMajor_val_two]
      show ((i 0).val * 8 + (i 1).val / 64) * 64 + (i 1).val % 64 = (i 0).val * 512 + (i 1).val
      omega)]
  refine (transpose_apply [1, 0] a h _ (fun k => match k with
    | ⟨0, _⟩ => (⟨(i 1).val / 64, by omega⟩ : Fin 8)
    | ⟨1, _⟩ => i 0) (fun k => by
    match k with
    | ⟨0, _⟩ => rfl
    | ⟨1, _⟩ => rfl)).trans (ha _)

/-- Groups of columns laid out in a row. -/
theorem groups_r {f : ℕ → ℕ → ℝ} {a : S8192x4x128.Idx → EReal}
    (ha : ∀ i, a i = ((f (i 0).val (128 * (i 1).val + (i 2).val) : ℝ) : EReal)) (hc : S8192x4x128.ShapeCasts S8192x512) :
    R2 (shapeCast S8192x512 a hc) f := by
  intro i
  have h1 : (i 1).val < 512 := (i 1).isLt
  rw [shapeCast_apply _ hc i (fun k => match k with
    | ⟨0, _⟩ => i 0
    | ⟨1, _⟩ => (⟨(i 1).val / 128, by omega⟩ : Fin 4)
    | ⟨2, _⟩ => (⟨(i 1).val % 128, by omega⟩ : Fin 128)) (by
      rw [Shape.rowMajor_val_three, Shape.rowMajor_val_two]
      show ((i 0).val * 4 + (i 1).val / 128) * 128 + (i 1).val % 128 = (i 0).val * 512 + (i 1).val
      omega), ha]
  refine congrArg _ ?_
  show f (i 0).val (128 * ((i 1).val / 128) + (i 1).val % 128) = _
  rw [Nat.div_add_mod]

/-! What the call's operands hold. -/

variable {m : (l : Loc nD τ sig) → Buf (Elt Ideal) l} {c : Dev nD} {P : Params}

/-- The fourteen arguments hold the entries of `P`. -/
abbrev Holds (m : (l : Loc nD τ sig) → Buf (Elt Ideal) l) (c : Dev nD) (P : Params) : Prop :=
  Args P (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13))

theorem v97_r (H : Holds m c P) : R2 (n := 8192) (m := 512) (V (F := Ideal) m c main_v97) P.pooled := by
  have e : V (F := Ideal) m c main_v97 = (shapeCast S8192x512 (Cert.ReferenceIdeal.Read.val_main_v102 (F := Ideal) (m (c, Proc.tc.devRef main_arg0)) (m (c, Proc.tc.devRef main_arg2)) (m (c, Proc.tc.devRef main_arg3))
      (m (c, Proc.tc.devRef main_arg5)) (m (c, Proc.tc.devRef main_arg6))) shapeCasts_S8192x4x128_S8192x512 : S8192x512.Idx → EReal) := by
    entry_read
    after_reads_simp [cat2_eq, cat4_eq, cat5_eq, Matrix.cons_val]
    rfl
  rw [e]
  exact groups_r (r102 H) _

theorem v98_r (H : Holds m c P) : R2 (n := 8192) (m := 1024) (V (F := Ideal) m c main_v98) P.zb := by
  have e : V (F := Ideal) m c main_v98 = ((Cert.ReferenceIdeal.Read.val_main_v108 (F := Ideal) (m (c, Proc.tc.devRef main_arg0)) (m (c, Proc.tc.devRef main_arg2)) (m (c, Proc.tc.devRef main_arg3))
      (m (c, Proc.tc.devRef main_arg5)) (m (c, Proc.tc.devRef main_arg6))) : S8192x1024.Idx → EReal) := by
    entry_read
    after_reads_simp [cat2_eq, cat4_eq, cat5_eq, Matrix.cons_val]
    rfl
  rw [e]
  exact r108 H

theorem v117_r (H : Holds m c P) : R2 (n := 8) (m := 1024) (V (F := Ideal) m c main_v117) (mods P) := by
  have e : V (F := Ideal) m c main_v117 = (cat5 S8x1024 0 S1x1024 S1x1024 S1x1024 S1x1024 S4x1024 (m (c, Proc.tc.devRef main_arg2)) (m (c, Proc.tc.devRef main_arg3))
      (m (c, Proc.tc.devRef main_arg4)) (m (c, Proc.tc.devRef main_arg5))
      (broadcastInDim S4x1024 ![] bcast_S_S4x1024 (constant (F := Ideal) S_ .f32 0x00000000#32)) concatenates_S1x1024_S1x1024_S1x1024_S1x1024_S4x1024_S8x1024_d0 : S8x1024.Idx → EReal) := by
    entry_read
    after_reads_simp [cat2_eq, cat4_eq, cat5_eq, Matrix.cons_val]
  rw [e]
  exact rows44_r _ _ _ _ _ P.shift P.scale P.gate P.gn H.shift H.scale H.gate H.gn (fun _ => w_zero) _

theorem v119_r (H : Holds m c P) : R2 (n := 8) (m := 512) (V (F := Ideal) m c main_v119) (vecs P) := by
  have e : V (F := Ideal) m c main_v119 = (cat4 S8x512 0 S1x512 S1x512 S1x512 S5x512 (m (c, Proc.tc.devRef main_arg8)) (m (c, Proc.tc.devRef main_arg9)) (m (c, Proc.tc.devRef main_arg10))
      (broadcastInDim S5x512 ![] bcast_S_S5x512 (constant (F := Ideal) S_ .f32 0x00000000#32)) concatenates_S1x512_S1x512_S1x512_S5x512_S8x512_d0 : S8x512.Idx → EReal) := by
    entry_read
    after_reads_simp [cat2_eq, cat4_eq, cat5_eq, Matrix.cons_val]
  rw [e]
  exact rows35_r _ _ _ _ P.ps P.lg P.lb H.ps H.lg H.lb (fun _ => w_zero) _

theorem v107_r (H : Holds m c P) : R3 (l := 4) (n := 128) (m := 256) (V (F := Ideal) m c main_v107) (wc P) := by
  have e : V (F := Ideal) m c main_v107 = (cat2 S4x128x256 2 S4x128x128 S4x128x128
      (Host.slice S4x128x128 ![0, 0, 0] ![2, 1, 1] (maskedSp (m (c, Proc.tc.devRef main_arg11))) slicesBy_S8x128x128_S4x128x128_0s2_0s1_0s1)
      (Host.slice S4x128x128 ![1, 0, 0] ![2, 1, 1] (maskedSp (m (c, Proc.tc.devRef main_arg11))) slicesBy_S8x128x128_S4x128x128_1s2_0s1_0s1)
      concatenates_S4x128x128_S4x128x128_S4x128x256_d2 : S4x128x256.Idx → EReal) := by
    entry_read
    after_reads_simp [cat2_eq, cat4_eq, cat5_eq, Matrix.cons_val]
    rfl
  rw [e]
  exact (masked_r H.wsp).pairs _ _ _

theorem v112_r (H : Holds m c P) : R3 (l := 4) (n := 128) (m := 256) (V (F := Ideal) m c main_v112) (wt P) := by
  have e : V (F := Ideal) m c main_v112 = (cat2 S4x128x256 2 S4x128x128 S4x128x128
      (Host.slice S4x128x128 ![0, 0, 0] ![2, 1, 1] (transpose S8x128x128 [0, 2, 1] (maskedSp (m (c, Proc.tc.devRef main_arg11))) transposes_S8x128x128_S8x128x128_0_2_1) slicesBy_S8x128x128_S4x128x128_0s2_0s1_0s1)
      (Host.slice S4x128x128 ![1, 0, 0] ![2, 1, 1] (transpose S8x128x128 [0, 2, 1] (maskedSp (m (c, Proc.tc.devRef main_arg11))) transposes_S8x128x128_S8x128x128_0_2_1) slicesBy_S8x128x128_S4x128x128_1s2_0s1_0s1)
      concatenates_S4x128x128_S4x128x128_S4x128x256_d2 : S4x128x256.Idx → EReal) := by
    entry_read
    after_reads_simp [cat2_eq, cat4_eq, cat5_eq, Matrix.cons_val]
    rfl
  rw [e]
  exact ((masked_r H.wsp).flip _).pairs _ _ _

theorem v115_r (H : Holds m c P) : R2 (n := 128) (m := 512) (V (F := Ideal) m c main_v115) (fun t k => P.bsp (k / 64) t) := by
  have e : V (F := Ideal) m c main_v115 = (shapeCast S128x512 (broadcastInDim S128x8x64 ![0, 1] bcast_S128x8_S128x8x64_0_1
      (transpose S128x8 [1, 0] (m (c, Proc.tc.devRef main_arg12)) transposes_S8x128_S128x8_1_0)) shapeCasts_S128x8x64_S128x512 : S128x512.Idx → EReal) := by
    entry_read
    after_reads_simp [cat2_eq, cat4_eq, cat5_eq, Matrix.cons_val]
    rfl
  rw [e]
  exact biasTable_r H.bsp _ _

theorem v120_r (H : Holds m c P) : R2 (n := 1024) (m := 1536) (V (F := Ideal) m c main_v120) P.win := by
  have e : V (F := Ideal) m c main_v120 = ((m (c, Proc.tc.devRef main_arg6)) : S1024x1536.Idx → EReal) := by
    entry_read
    after_reads_simp [cat2_eq, cat4_eq, cat5_eq, Matrix.cons_val]
    rfl
  rw [e]
  exact H.win

theorem v121_r (H : Holds m c P) : R3 (l := 4) (n := 128) (m := 128) (V (F := Ideal) m c main_v121) P.wpool := by
  have e : V (F := Ideal) m c main_v121 = ((m (c, Proc.tc.devRef main_arg7)) : S4x128x128.Idx → EReal) := by
    entry_read
    after_reads_simp [cat2_eq, cat4_eq, cat5_eq, Matrix.cons_val]
    rfl
  rw [e]
  exact H.wpool

theorem v122_r (H : Holds m c P) : R2 (n := 1024) (m := 1024) (V (F := Ideal) m c main_v122) P.wout := by
  have e : V (F := Ideal) m c main_v122 = ((m (c, Proc.tc.devRef main_arg13)) : S1024x1024.Idx → EReal) := by
    entry_read
    after_reads_simp [cat2_eq, cat4_eq, cat5_eq, Matrix.cons_val]
    rfl
  rw [e]
  exact H.wout

end MixBwd
-- ==== Proof.Blocks.lean ====
/-
  The blocks that a tile of the grid is given: rows of the sequence arrays, and the parameters whole.
-/
module

public import proofs.«01_k».proof.Proof.Host

@[expose] public section

set_option maxRecDepth 65536

noncomputable section

namespace MixBwd

open Idealize.ShloMosaic Idealize.SL.Sem Cert.KernelIdeal Cert.KernelIdeal.Gen

variable {m : (l : Loc nD τ sig) → Buf (Elt Ideal) l} {c : Dev nD} {P : Params}

/-- Which block of an input a tile reads. -/
theorem index_in : ∀ t : Fin cfg0.N,
    (win0_0.index t 0 = 15 - t.val ∧ win0_0.index t 1 = 0) ∧ (win0_1.index t 0 = 15 - t.val ∧ win0_1.index t 1 = 0) ∧
    (win0_2.index t 0 = 15 - t.val ∧ win0_2.index t 1 = 0) ∧ (win0_3.index t 0 = 15 - t.val ∧ win0_3.index t 1 = 0) := by
  decide +kernel

theorem index_whole : ∀ t : Fin cfg0.N,
    (win0_4.index t 0 = 0 ∧ win0_4.index t 1 = 0) ∧ (win0_5.index t 0 = 0 ∧ win0_5.index t 1 = 0) ∧
    (win0_6.index t 0 = 0 ∧ win0_6.index t 1 = 0 ∧ win0_6.index t 2 = 0) ∧ (win0_7.index t 0 = 0 ∧ win0_7.index t 1 = 0) ∧
    (win0_8.index t 0 = 0 ∧ win0_8.index t 1 = 0 ∧ win0_8.index t 2 = 0) ∧
    (win0_9.index t 0 = 0 ∧ win0_9.index t 1 = 0 ∧ win0_9.index t 2 = 0) ∧
    (win0_10.index t 0 = 0 ∧ win0_10.index t 1 = 0) ∧ (win0_11.index t 0 = 0 ∧ win0_11.index t 1 = 0) := by
  decide +kernel

theorem varg0_r (H : Holds m c P) : R2 (n := 8192) (m := 1024) (V (F := Ideal) m c main_arg0) P.x := by
  rw [V_main_arg0]
  exact H.x

theorem varg1_r (H : Holds m c P) : R2 (n := 8192) (m := 1024) (V (F := Ideal) m c main_arg1) P.dxo := by
  rw [V_main_arg1]
  exact H.dxo

theorem x_block (H : Holds m c P) (t : Fin cfg0.N) :
    R2 (n := 512) (m := 1024) (iblk (F := Ideal) m c 0 t) (fun i j => P.x (512 * (15 - t.val) + i) j) := by
  intro y
  blk_simp [iblk]
  refine (varg0_r H _).trans ?_
  blk_simp
  obtain ⟨i0, i1⟩ := (index_in t).1
  rw [i0, i1, zero_mul, zero_add, Nat.mul_comm (15 - t.val)]

theorem dxo_block (H : Holds m c P) (t : Fin cfg0.N) :
    R2 (n := 512) (m := 1024) (iblk (F := Ideal) m c 1 t) (fun i j => P.dxo (512 * (15 - t.val) + i) j) := by
  intro y
  blk_simp [iblk]
  refine (varg1_r H _).trans ?_
  blk_simp
  obtain ⟨i0, i1⟩ := (index_in t).2.1
  rw [i0, i1, zero_mul, zero_add, Nat.mul_comm (15 - t.val)]

theorem pl_block (H : Holds m c P) (t : Fin cfg0.N) :
    R2 (n := 512) (m := 512) (iblk (F := Ideal) m c 2 t) (fun i j => P.pooled (512 * (15 - t.val) + i) j) := by
  intro y
  blk_simp [iblk]
  refine (v97_r H _).trans ?_
  blk_simp
  obtain ⟨i0, i1⟩ := (index_in t).2.2.1
  rw [i0, i1, zero_mul, zero_add, Nat.mul_comm (15 - t.val)]

theorem zb_block (H : Holds m c P) (t : Fin cfg0.N) :
    R2 (n := 512) (m := 1024) (iblk (F := Ideal) m c 3 t) (fun i j => P.zb (512 * (15 - t.val) + i) j) := by
  intro y
  blk_simp [iblk]
  refine (v98_r H _).trans ?_
  blk_simp
  obtain ⟨i0, i1⟩ := (index_in t).2.2.2
  rw [i0, i1, zero_mul, zero_add, Nat.mul_comm (15 - t.val)]

theorem md_block (H : Holds m c P) (t : Fin cfg0.N) : R2 (n := 8) (m := 1024) (iblk (F := Ideal) m c 4 t) (mods P) := by
  intro y
  blk_simp [iblk]
  refine (v117_r H _).trans ?_
  blk_simp
  obtain ⟨i0, i1⟩ := (index_whole t).1
  rw [i0, i1]
  simp only [zero_mul, zero_add]

theorem wi_block (H : Holds m c P) (t : Fin cfg0.N) : R2 (n := 1024) (m := 1536) (iblk (F := Ideal) m c 5 t) P.win := by
  intro y
  blk_simp [iblk]
  refine (v120_r H _).trans ?_
  blk_simp
  obtain ⟨i0, i1⟩ := (index_whole t).2.1
  rw [i0, i1]
  simp only [zero_mul, zero_add]

theorem wp_block (H : Holds m c P) (t : Fin cfg0.N) : R3 (l := 4) (n := 128) (m := 128) (iblk (F := Ideal) m c 6 t) P.wpool := by
  intro y
  blk_simp [iblk]
  refine (v121_r H _).trans ?_
  blk_simp
  obtain ⟨i0, i1, i2⟩ := (index_whole t).2.2.1
  rw [i0, i1, i2]
  simp only [zero_mul, zero_add]

theorem vc_block (H : Holds m c P) (t : Fin cfg0.N) : R2 (n := 8) (m := 512) (iblk (F := Ideal) m c 7 t) (vecs P) := by
  intro y
  blk_simp [iblk]
  refine (v119_r H _).trans ?_
  blk_simp
  obtain ⟨i0, i1⟩ := (index_whole t).2.2.2.1
  rw [i0, i1]
  simp only [zero_mul, zero_add]

theorem wc_block (H : Holds m c P) (t : Fin cfg0.N) : R3 (l := 4) (n := 128) (m := 256) (iblk (F := Ideal) m c 8 t) (wc P) := by
  intro y
  blk_simp [iblk]
  refine (v107_r H _).trans ?_
  blk_simp
  obtain ⟨i0, i1, i2⟩ := (index_whole t).2.2.2.2.1
  rw [i0, i1, i2]
  simp only [zero_mul, zero_add]

theorem wt_block (H : Holds m c P) (t : Fin cfg0.N) : R3 (l := 4) (n := 128) (m := 256) (iblk (F := Ideal) m c 9 t) (wt P) := by
  intro y
  blk_simp [iblk]
  refine (v112_r H _).trans ?_
  blk_simp
  obtain ⟨i0, i1, i2⟩ := (index_whole t).2.2.2.2.2.1
  rw [i0, i1, i2]
  simp only [zero_mul, zero_add]

theorem bi_block (H : Holds m c P) (t : Fin cfg0.N) : R2 (n := 128) (m := 512) (iblk (F := Ideal) m c 10 t) (fun t k => P.bsp (k / 64) t) := by
  intro y
  blk_simp [iblk]
  refine (v115_r H _).trans ?_
  blk_simp
  obtain ⟨i0, i1⟩ := (index_whole t).2.2.2.2.2.2.1
  rw [i0, i1]
  simp only [zero_mul, zero_add]

theorem wo_block (H : Holds m c P) (t : Fin cfg0.N) : R2 (n := 1024) (m := 1024) (iblk (F := Ideal) m c 11 t) P.wout := by
  intro y
  blk_simp [iblk]
  refine (v122_r H _).trans ?_
  blk_simp
  obtain ⟨i0, i1⟩ := (index_whole t).2.2.2.2.2.2.2
  rw [i0, i1]
  simp only [zero_mul, zero_add]

theorem v0_word : ∀ t : Fin cfg0.N, Scalar.subi 15#32 (BitVec.ofNat 32 (grid0.coords t 0).val) = BitVec.ofNat 32 (15 - t.val) := by
  decide +kernel

set_option maxHeartbeats 2000000 in
/-- The blocks of every tile hold the problem's arrays. -/
theorem good (H : Holds m c P) (t : Fin cfg0.N) : (blk m c t).Good P (15 - t.val) := by
  refine ⟨?_, ?_, ?_, ?_, ?_, ?_, ?_, ?_, ?_, ?_, ?_, ?_, ?_, ?_⟩
  · exact Nat.sub_le _ _
  · exact v0_word t
  · exact x_block H t
  · exact dxo_block H t
  · exact pl_block H t
  · exact zb_block H t
  · exact md_block H t
  · exact wi_block H t
  · exact wp_block H t
  · exact vc_block H t
  · exact wc_block H t
  · exact wt_block H t
  · exact bi_block H t
  · exact wo_block H t

end MixBwd
-- ==== Proof.Ref3.lean ====
/-
  The same: the gradients of the output product, of the spatial gate and of the layer norm.
-/
module

public import proofs.«01_k».proof.Proof.Gen.ReferenceIdeal.Read
public import proofs.«01_k».proof.Proof.Ref2

@[expose] public section

set_option maxRecDepth 65536

noncomputable section

namespace MixBwd

open Idealize.ShloMosaic Cert.ReferenceIdeal Cert.ReferenceIdeal.Read

variable {P : Params} {x0 x1 : (⟨S8192x1024, .f32⟩ : BufTy).Contents (Elt Ideal)}
  {x2 x3 x4 x5 : (⟨S1x1024, .f32⟩ : BufTy).Contents (Elt Ideal)} {x6 : (⟨S1024x1536, .f32⟩ : BufTy).Contents (Elt Ideal)}
  {x7 : (⟨S4x128x128, .f32⟩ : BufTy).Contents (Elt Ideal)} {x8 x9 x10 : (⟨S1x512, .f32⟩ : BufTy).Contents (Elt Ideal)}
  {x11 : (⟨S8x128x128, .f32⟩ : BufTy).Contents (Elt Ideal)} {x12 : (⟨S8x128, .f32⟩ : BufTy).Contents (Elt Ideal)}
  {x13 : (⟨S1024x1024, .f32⟩ : BufTy).Contents (Elt Ideal)}

variable (H : Args P x0 x1 x2 x3 x4 x5 x6 x7 x8 x9 x10 x11 x12 x13)

theorem r219 (i : S8192x1.Idx) : val_main_v219 (F := Ideal) i = ((512 : ℝ) : EReal) :=
  (val_main_v219_apply i).trans w_512

theorem r229 (i : S8192x1.Idx) : val_main_v229 (F := Ideal) i = ((512 : ℝ) : EReal) :=
  (val_main_v229_apply i).trans w_512

theorem r237 (i : S8192x1024.Idx) : val_main_v237 (F := Ideal) i = (((1 / 2) : ℝ) : EReal) :=
  (val_main_v237_apply i).trans w_half

theorem r240 (i : S8192x1024.Idx) : val_main_v240 (F := Ideal) i = ((gk : ℝ) : EReal) :=
  (val_main_v240_apply i).trans w_gk

theorem r243 (i : S8192x1024.Idx) : val_main_v243 (F := Ideal) i = ((200000 : ℝ) : EReal) :=
  (val_main_v243_apply i).trans w_200000

theorem r245 (i : S8192x1024.Idx) : val_main_v245 (F := Ideal) i = ((8943 : ℝ) : EReal) :=
  (val_main_v245_apply i).trans w_8943

include H

theorem r187 : ∀ i, val_main_v187 (F := Ideal) x1 x4 x13 i = ((P.dcat (i 0).val (i 1).val : ℝ) : EReal) := fun i => by
  refine (show _ = (((∑ k10 : Fin 1024, P.dm (i 0).val k10.val * P.wout (i 1).val k10.val) : ℝ) : EReal) from (val_main_v187_apply x1 x4 x13 i).trans (dot_r (fun k => r181 H _) (fun k => H.wout _))).trans (congrArg _ ?_)
  rfl

theorem r188 : ∀ i, val_main_v188 (F := Ideal) x1 x4 x13 i = ((P.dcat (i 0).val (i 1).val : ℝ) : EReal) := fun i =>
  (val_main_v188_apply x1 x4 x13 i).trans (r187 H _)

theorem r189 : ∀ i, val_main_v189 (F := Ideal) x1 x4 x13 i = ((P.dyb (i 0).val (i 1).val : ℝ) : EReal) := fun i => by
  refine (show _ = ((P.dcat (i 0).val (512 + (i 1).val) : ℝ) : EReal) from (val_main_v189_apply x1 x4 x13 i).trans (r187 H _)).trans (congrArg _ ?_)
  rfl

theorem r190 : ∀ i, val_main_v190 (F := Ideal) x0 x1 x2 x3 x4 x5 x6 x13 i = ((P.dsv (i 0).val (i 1).val : ℝ) : EReal) := fun i => by
  refine (show _ = (((P.u (i 0).val (i 1).val * P.dyb (i 0).val (i 1).val) : ℝ) : EReal) from (val_main_v190_apply x0 x1 x2 x3 x4 x5 x6 x13 i).trans ((congrArg₂ (FloatOps.mulf (F := Ideal) (φ := .f32)) (r132 H i) (r189 H i)).trans (mul_r _ _))).trans (congrArg _ ?_)
  exact mul_comm _ _

theorem r191 : ∀ i, val_main_v191 (F := Ideal) x0 x1 x2 x3 x4 x5 x6 x9 x10 x11 x12 x13 i = ((P.du (i 0).val (i 1).val : ℝ) : EReal) := fun i => by
  refine (show _ = (((P.dyb (i 0).val (i 1).val * P.sv (i 0).val (i 1).val) : ℝ) : EReal) from (val_main_v191_apply x0 x1 x2 x3 x4 x5 x6 x9 x10 x11 x12 x13 i).trans ((congrArg₂ (FloatOps.mulf (F := Ideal) (φ := .f32)) (r189 H i) (r172 H i)).trans (mul_r _ _))).trans (congrArg _ ?_)
  rfl

theorem r192 : ∀ i, val_main_v192 (F := Ideal) x0 x1 x2 x3 x4 x5 x6 x13 i = ((P.dsv (128 * (i 0).val + (i 1).val) (64 * (i 2).val + (i 3).val) : ℝ) : EReal) := fun i => by
  refine (show _ = ((P.dsv (((((i 0).val * 128 + (i 1).val) * 8 + (i 2).val) * 64 + (i 3).val) / 512) (((((i 0).val * 128 + (i 1).val) * 8 + (i 2).val) * 64 + (i 3).val) % 512) : ℝ) : EReal) from (val_main_v192_apply x0 x1 x2 x3 x4 x5 x6 x13 i).trans (r190 H _)).trans (congrArg _ ?_)
  have h0 : (i 0).val < 64 := (i 0).isLt
  have h1 : (i 1).val < 128 := (i 1).isLt
  have h2 : (i 2).val < 8 := (i 2).isLt
  have h3 : (i 3).val < 64 := (i 3).isLt
  exact congrArg₂ P.dsv (by omega) (by omega)

theorem r193 : ∀ i, val_main_v193 (F := Ideal) x0 x1 x2 x3 x4 x5 x6 x13 i = ((P.dbsp (i 1).val (i 0).val : ℝ) : EReal) := by
  intro i
  exact outer_r _ _ (fun n t h c => P.dsv (128 * n + t) (64 * h + c)) (r192 H) _ w_zero (i 0).val (i 1).val i (fun j => by
    constructor
    · intro h; rw [← h]; exact ⟨rfl, rfl⟩
    · intro h; funext a
      match a with
      | ⟨0, _⟩ => exact Fin.ext h.1
      | ⟨1, _⟩ => exact Fin.ext h.2) (i 0).isLt (i 1).isLt

theorem r194 : ∀ i, val_main_v194 (F := Ideal) x0 x1 x2 x3 x4 x5 x6 x13 i = ((P.dbsp (i 2).val (i 1).val : ℝ) : EReal) := fun i => by
  refine (show _ = ((P.dbsp (((((i 0).val * 128 + (i 1).val) * 8 + (i 2).val) * 1 + (i 3).val) % 8) (((((i 0).val * 128 + (i 1).val) * 8 + (i 2).val) * 1 + (i 3).val) / 8) : ℝ) : EReal) from (val_main_v194_apply x0 x1 x2 x3 x4 x5 x6 x13 i).trans (r193 H _)).trans (congrArg _ ?_)
  have h0 : (i 0).val < 1 := (i 0).isLt
  have h1 : (i 1).val < 128 := (i 1).isLt
  have h2 : (i 2).val < 8 := (i 2).isLt
  have h3 : (i 3).val < 1 := (i 3).isLt
  exact congrArg₂ P.dbsp (by omega) (by omega)

theorem r195 : ∀ i, val_main_v195 (F := Ideal) x0 x1 x2 x3 x4 x5 x6 x13 i = ((P.dbsp (i 1).val (i 0).val : ℝ) : EReal) := by
  intro i
  refine (outer_r _ _ (fun n t h c => P.dbsp h t) (r194 H) _ w_zero (i 0).val (i 1).val i (fun j => by
    constructor
    · intro h; rw [← h]; exact ⟨rfl, rfl⟩
    · intro h; funext a
      match a with
      | ⟨0, _⟩ => exact Fin.ext h.1
      | ⟨1, _⟩ => exact Fin.ext h.2) (i 0).isLt (i 1).isLt).trans (congrArg _ ?_)
  simp

theorem r196 : ∀ i, val_main_v196 (F := Ideal) x0 x1 x2 x3 x4 x5 x6 x13 i = ((P.dbsp (i 0).val (i 1).val : ℝ) : EReal) := fun i => by
  refine (show _ = ((P.dbsp (i 0).val (i 1).val : ℝ) : EReal) from (val_main_v196_apply x0 x1 x2 x3 x4 x5 x6 x13 i).trans (r195 H _)).trans (congrArg _ ?_)
  rfl

theorem r197 : ∀ i, val_main_v197 (F := Ideal) x0 x1 x2 x3 x4 x5 x6 x13 i = ((P.dsv (128 * (i 1).val + (i 3).val) (64 * (i 0).val + (i 2).val) : ℝ) : EReal) := fun i =>
  (val_main_v197_apply x0 x1 x2 x3 x4 x5 x6 x13 i).trans (r192 H _)

theorem r198 : ∀ i, val_main_v198 (F := Ideal) x0 x1 x2 x3 x4 x5 x6 x9 x10 x13 i = (((∑ n : Fin 64, ∑ c : Fin 64, P.dsv (128 * n + (i 1).val) (64 * (i 0).val + c) * P.vl (128 * n + (i 2).val) (64 * (i 0).val + c)) : ℝ) : EReal) := by
  intro i
  unfold val_main_v198
  have a := r197 H
  have b := r161 H
  generalize val_main_v197 (F := Ideal) x0 x1 x2 x3 x4 x5 x6 x13 = y at a
  generalize val_main_v161 (F := Ideal) x0 x2 x3 x5 x6 x9 x10 = z at b
  simp only [Host.dotGeneral]
  rw [Ideal.dotGeneral_apply, ValueIdx.sum_contr2 dot_S8x64x64x128_S64x128x8x64_S8x128x128_12_03_3_1_0_2 64 64 rfl rfl rfl, ← sum_r]
  refine Finset.sum_congr rfl fun n _ => ?_
  rw [← sum_r]
  refine Finset.sum_congr rfl fun c _ => ?_
  have k0 := ValueIdx.contrEquiv2_symm_val0 dot_S8x64x64x128_S64x128x8x64_S8x128x128_12_03_3_1_0_2 64 64 rfl rfl rfl (n, c)
  have k1 := ValueIdx.contrEquiv2_symm_val1 dot_S8x64x64x128_S64x128x8x64_S8x128x128_12_03_3_1_0_2 64 64 rfl rfl rfl (n, c)
  generalize (ValueIdx.contrEquiv2 dot_S8x64x64x128_S64x128x8x64_S8x128x128_12_03_3_1_0_2 64 64 rfl rfl rfl).symm (n, c) = k at k0 k1
  rw [a, b, ← EReal.coe_mul]
  rw [show (dot_S8x64x64x128_S64x128x8x64_S8x128x128_12_03_3_1_0_2.lhsIdx i k 0).val = (i 0).val from rfl, show (dot_S8x64x64x128_S64x128x8x64_S8x128x128_12_03_3_1_0_2.lhsIdx i k 1).val = n.val from k0,
    show (dot_S8x64x64x128_S64x128x8x64_S8x128x128_12_03_3_1_0_2.lhsIdx i k 2).val = c.val from k1, show (dot_S8x64x64x128_S64x128x8x64_S8x128x128_12_03_3_1_0_2.lhsIdx i k 3).val = (i 1).val from rfl,
    show (dot_S8x64x64x128_S64x128x8x64_S8x128x128_12_03_3_1_0_2.rhsIdx i k 0).val = n.val from k0, show (dot_S8x64x64x128_S64x128x8x64_S8x128x128_12_03_3_1_0_2.rhsIdx i k 1).val = (i 2).val from rfl,
    show (dot_S8x64x64x128_S64x128x8x64_S8x128x128_12_03_3_1_0_2.rhsIdx i k 2).val = (i 0).val from rfl, show (dot_S8x64x64x128_S64x128x8x64_S8x128x128_12_03_3_1_0_2.rhsIdx i k 3).val = c.val from k1]

theorem r199 : ∀ i, val_main_v199 (F := Ideal) x0 x1 x2 x3 x4 x5 x6 x11 x13 i = (((∑ k11 : Fin 128, P.dsv (128 * (i 1).val + k11.val) (64 * (i 0).val + (i 2).val) * P.wm (i 0).val k11.val (i 3).val) : ℝ) : EReal) := fun i =>
  (val_main_v199_apply x0 x1 x2 x3 x4 x5 x6 x11 x13 i).trans (dot_r (fun k => r197 H _) (fun k => r165_0 H _))

theorem r200 : ∀ i, val_main_v200 (F := Ideal) x0 x1 x2 x3 x4 x5 x6 x11 x13 i = ((P.dvl (128 * (i 0).val + (i 1).val) (64 * (i 2).val + (i 3).val) : ℝ) : EReal) := fun i => by
  refine (show _ = (((∑ k11 : Fin 128, P.dsv (128 * (i 0).val + k11.val) (64 * (i 2).val + (i 3).val) * P.wm (i 2).val k11.val (i 1).val) : ℝ) : EReal) from (val_main_v200_apply x0 x1 x2 x3 x4 x5 x6 x11 x13 i).trans (r199 H _)).trans (congrArg _ ?_)
  have h0 : (i 0).val < 64 := (i 0).isLt
  have h1 : (i 1).val < 128 := (i 1).isLt
  have h2 : (i 2).val < 8 := (i 2).isLt
  have h3 : (i 3).val < 64 := (i 3).isLt
  simp only [Params.dvl, show (64 * (i 2).val + (i 3).val) / 64 = (i 2).val by omega, show (128 * (i 0).val + (i 1).val) % 128 = (i 1).val by omega,
    show (128 * (i 0).val + (i 1).val) / 128 = (i 0).val by omega, mul_comm]

theorem r201 : ∀ i, val_main_v201 (F := Ideal) x0 x1 x2 x3 x4 x5 x6 x9 x10 x13 i = ((P.dwsp (i 0).val (i 1).val (i 2).val : ℝ) : EReal) := by
  intro i
  refine (val_main_v201_apply x0 x1 x2 x3 x4 x5 x6 x9 x10 x13 i).trans ?_
  rw [mask_r, r198 H, val_main_call3_v0_apply, val_main_call3_cst_apply]
  unfold Params.dwsp
  by_cases h : (i 2).val ≤ (i 1).val
  · rw [if_pos h, if_pos h]; rfl
  · rw [if_neg h, if_neg h]; exact w_zero

theorem r202 : ∀ i, val_main_v202 (F := Ideal) x0 x1 x2 x3 x4 x5 x6 x11 x13 i = ((P.dvl (i 0).val (i 1).val : ℝ) : EReal) := fun i => by
  refine (show _ = ((P.dvl (128 * (((i 0).val * 512 + (i 1).val) / 65536) + (((i 0).val * 512 + (i 1).val) / 512 % 128)) (64 * (((i 0).val * 512 + (i 1).val) / 64 % 8) + (((i 0).val * 512 + (i 1).val) % 64)) : ℝ) : EReal) from (val_main_v202_apply x0 x1 x2 x3 x4 x5 x6 x11 x13 i).trans (r200 H _)).trans (congrArg _ ?_)
  have h0 : (i 0).val < 8192 := (i 0).isLt
  have h1 : (i 1).val < 512 := (i 1).isLt
  exact congrArg₂ P.dvl (by omega) (by omega)

theorem r203 : ∀ i, val_main_v203 (F := Ideal) x0 x1 x2 x3 x4 x5 x6 x11 x13 i = ((P.dlb (i 0).val : ℝ) : EReal) := fun i => by
  refine (show _ = (((∑ k12 : Fin 8192, P.dvl k12.val (i 0).val) : ℝ) : EReal) from (val_main_v203_apply x0 x1 x2 x3 x4 x5 x6 x11 x13 i).trans (red_r w_zero (fun k => r202 H _))).trans (congrArg _ ?_)
  rfl

theorem r204 : ∀ i, val_main_v204 (F := Ideal) x0 x1 x2 x3 x4 x5 x6 x11 x13 i = ((P.dlb (i 1).val : ℝ) : EReal) := fun i => by
  refine (show _ = ((P.dlb ((i 0).val * 512 + (i 1).val) : ℝ) : EReal) from (val_main_v204_apply x0 x1 x2 x3 x4 x5 x6 x11 x13 i).trans (r203 H _)).trans (congrArg _ ?_)
  have h0 : (i 0).val < 1 := (i 0).isLt
  have h1 : (i 1).val < 512 := (i 1).isLt
  exact congrArg P.dlb (by omega)

theorem r205 : ∀ i, val_main_v205 (F := Ideal) x0 x1 x2 x3 x4 x5 x6 x11 x13 i = (((P.vh (i 0).val (i 1).val * P.dvl (i 0).val (i 1).val) : ℝ) : EReal) := fun i =>
  (val_main_v205_apply x0 x1 x2 x3 x4 x5 x6 x11 x13 i).trans ((congrArg₂ (FloatOps.mulf (F := Ideal) (φ := .f32)) (r156 H i) (r202 H i)).trans (mul_r _ _))

theorem r206 : ∀ i, val_main_v206 (F := Ideal) x0 x1 x2 x3 x4 x5 x6 x11 x13 i = ((P.dlg (i 0).val : ℝ) : EReal) := fun i => by
  refine (show _ = (((∑ k13 : Fin 8192, (P.vh k13.val (i 0).val * P.dvl k13.val (i 0).val)) : ℝ) : EReal) from (val_main_v206_apply x0 x1 x2 x3 x4 x5 x6 x11 x13 i).trans (red_r w_zero (fun k => r205 H _))).trans (congrArg _ ?_)
  exact Finset.sum_congr rfl fun k _ => mul_comm _ _

theorem r207 : ∀ i, val_main_v207 (F := Ideal) x0 x1 x2 x3 x4 x5 x6 x11 x13 i = ((P.dlg (i 1).val : ℝ) : EReal) := fun i => by
  refine (show _ = ((P.dlg ((i 0).val * 512 + (i 1).val) : ℝ) : EReal) from (val_main_v207_apply x0 x1 x2 x3 x4 x5 x6 x11 x13 i).trans (r206 H _)).trans (congrArg _ ?_)
  have h0 : (i 0).val < 1 := (i 0).isLt
  have h1 : (i 1).val < 512 := (i 1).isLt
  exact congrArg P.dlg (by omega)

theorem r208 : ∀ i, val_main_v208 (F := Ideal) x9 i = ((P.lg (i 1).val : ℝ) : EReal) := fun i =>
  (val_main_v208_apply x9 i).trans (H.lg _)

theorem r209 : ∀ i, val_main_v209 (F := Ideal) x0 x1 x2 x3 x4 x5 x6 x9 x11 x13 i = ((P.dvh (i 0).val (i 1).val : ℝ) : EReal) := fun i => by
  refine (show _ = (((P.dvl (i 0).val (i 1).val * P.lg (i 1).val) : ℝ) : EReal) from (val_main_v209_apply x0 x1 x2 x3 x4 x5 x6 x9 x11 x13 i).trans ((congrArg₂ (FloatOps.mulf (F := Ideal) (φ := .f32)) (r202 H i) (r208 H i)).trans (mul_r _ _))).trans (congrArg _ ?_)
  rfl

theorem r210 : ∀ i, val_main_v210 (F := Ideal) x0 x1 x2 x3 x4 x5 x6 x9 x11 x13 i = (((P.vc (i 0).val (i 1).val * P.dvh (i 0).val (i 1).val) : ℝ) : EReal) := fun i =>
  (val_main_v210_apply x0 x1 x2 x3 x4 x5 x6 x9 x11 x13 i).trans ((congrArg₂ (FloatOps.mulf (F := Ideal) (φ := .f32)) (r148 H i) (r209 H i)).trans (mul_r _ _))

theorem r211 : ∀ i, val_main_v211 (F := Ideal) x0 x1 x2 x3 x4 x5 x6 x9 x11 x13 i = ((P.t1 (i 0).val : ℝ) : EReal) := fun i => by
  refine (show _ = (((∑ k14 : Fin 512, (P.vc (i 0).val k14.val * P.dvh (i 0).val k14.val)) : ℝ) : EReal) from (val_main_v211_apply x0 x1 x2 x3 x4 x5 x6 x9 x11 x13 i).trans (red_r w_zero (fun k => r210 H _))).trans (congrArg _ ?_)
  rfl

theorem r212 : ∀ i, val_main_v212 (F := Ideal) x0 x1 x2 x3 x4 x5 x6 x9 x11 x13 i = ((P.t1 (i 0).val : ℝ) : EReal) := fun i => by
  refine (show _ = ((P.t1 ((i 0).val * 1 + (i 1).val) : ℝ) : EReal) from (val_main_v212_apply x0 x1 x2 x3 x4 x5 x6 x9 x11 x13 i).trans (r211 H _)).trans (congrArg _ ?_)
  have h0 : (i 0).val < 8192 := (i 0).isLt
  have h1 : (i 1).val < 1 := (i 1).isLt
  exact congrArg P.t1 (by omega)

theorem r213 : ∀ i, val_main_v213 (F := Ideal) x0 x2 x3 x5 x6 i = ((P.rs (i 0).val : ℝ) : EReal) := fun i =>
  (val_main_v213_apply x0 x2 x3 x5 x6 i).trans (r151 H _)

theorem r214 : ∀ i, val_main_v214 (F := Ideal) x0 x1 x2 x3 x4 x5 x6 x9 x11 x13 i = (((P.dvh (i 0).val (i 1).val * P.rs (i 0).val) : ℝ) : EReal) := fun i =>
  (val_main_v214_apply x0 x1 x2 x3 x4 x5 x6 x9 x11 x13 i).trans ((congrArg₂ (FloatOps.mulf (F := Ideal) (φ := .f32)) (r209 H i) (r213 H i)).trans (mul_r _ _))

theorem r215 : ∀ i, val_main_v215 (F := Ideal) x0 x1 x2 x3 x4 x5 x6 x9 x11 x13 i = (((P.t1 (i 0).val * ((-1 / 2) * (P.rs (i 0).val / P.var (i 0).val))) : ℝ) : EReal) := fun i =>
  (val_main_v215_apply x0 x1 x2 x3 x4 x5 x6 x9 x11 x13 i).trans ((congrArg₂ (FloatOps.mulf (F := Ideal) (φ := .f32)) (r212 H i) (r154 H i)).trans (mul_r _ _))

theorem r216 : ∀ i, val_main_v216 (F := Ideal) x0 x1 x2 x3 x4 x5 x6 x9 x11 x13 i = (((-(P.dvh (i 0).val (i 1).val * P.rs (i 0).val)) : ℝ) : EReal) := fun i =>
  (val_main_v216_apply x0 x1 x2 x3 x4 x5 x6 x9 x11 x13 i).trans ((congrArg (FloatOps.hostNegf (F := Ideal) (φ := .f32)) (r214 H i)).trans (hneg_r _))

theorem r217 : ∀ i, val_main_v217 (F := Ideal) x0 x1 x2 x3 x4 x5 x6 x9 x11 x13 i = ((P.t2 (i 0).val : ℝ) : EReal) := fun i => by
  refine (show _ = (((∑ k15 : Fin 512, (-(P.dvh (i 0).val k15.val * P.rs (i 0).val))) : ℝ) : EReal) from (val_main_v217_apply x0 x1 x2 x3 x4 x5 x6 x9 x11 x13 i).trans (red_r w_zero (fun k => r216 H _))).trans (congrArg _ ?_)
  rfl

theorem r218 : ∀ i, val_main_v218 (F := Ideal) x0 x1 x2 x3 x4 x5 x6 x9 x11 x13 i = ((P.t2 (i 0).val : ℝ) : EReal) := fun i => by
  refine (show _ = ((P.t2 ((i 0).val * 1 + (i 1).val) : ℝ) : EReal) from (val_main_v218_apply x0 x1 x2 x3 x4 x5 x6 x9 x11 x13 i).trans (r217 H _)).trans (congrArg _ ?_)
  have h0 : (i 0).val < 8192 := (i 0).isLt
  have h1 : (i 1).val < 1 := (i 1).isLt
  exact congrArg P.t2 (by omega)

theorem r220 : ∀ i, val_main_v220 (F := Ideal) x0 x1 x2 x3 x4 x5 x6 x9 x11 x13 i = ((P.t3 (i 0).val : ℝ) : EReal) := fun i => by
  refine (show _ = ((((P.t1 (i 0).val * ((-1 / 2) * (P.rs (i 0).val / P.var (i 0).val))) / 512) : ℝ) : EReal) from (val_main_v220_apply x0 x1 x2 x3 x4 x5 x6 x9 x11 x13 i).trans ((congrArg₂ (FloatOps.hostDivf (F := Ideal) (φ := .f32)) (r215 H i) (r219 i)).trans (hdiv_r _ _ (by norm_num)))).trans (congrArg _ ?_)
  rfl

theorem r221 : ∀ i, val_main_v221 (F := Ideal) x0 x1 x2 x3 x4 x5 x6 x9 x11 x13 i = ((P.t3 (i 0).val : ℝ) : EReal) := fun i => by
  refine (show _ = (((∑ k16 : Fin 1, P.t3 (i 0).val) : ℝ) : EReal) from (val_main_v221_apply x0 x1 x2 x3 x4 x5 x6 x9 x11 x13 i).trans (red_r w_zero (fun k => r220 H _))).trans (congrArg _ ?_)
  simp

theorem r222 : ∀ i, val_main_v222 (F := Ideal) x0 x1 x2 x3 x4 x5 x6 x9 x11 x13 i = ((P.t3 (i 0).val : ℝ) : EReal) := fun i =>
  (val_main_v222_apply x0 x1 x2 x3 x4 x5 x6 x9 x11 x13 i).trans (r221 H _)

theorem r223 : ∀ i, val_main_v223 (F := Ideal) x0 x1 x2 x3 x4 x5 x6 x9 x11 x13 i = (((P.t3 (i 0).val * (2 * P.vc (i 0).val (i 1).val)) : ℝ) : EReal) := fun i =>
  (val_main_v223_apply x0 x1 x2 x3 x4 x5 x6 x9 x11 x13 i).trans ((congrArg₂ (FloatOps.mulf (F := Ideal) (φ := .f32)) (r222 H i) (r142 H i)).trans (mul_r _ _))

theorem r224 : ∀ i, val_main_v224 (F := Ideal) x0 x1 x2 x3 x4 x5 x6 x9 x11 x13 i = (((-(P.t3 (i 0).val * (2 * P.vc (i 0).val (i 1).val))) : ℝ) : EReal) := fun i =>
  (val_main_v224_apply x0 x1 x2 x3 x4 x5 x6 x9 x11 x13 i).trans ((congrArg (FloatOps.hostNegf (F := Ideal) (φ := .f32)) (r223 H i)).trans (hneg_r _))

theorem r225 : ∀ i, val_main_v225 (F := Ideal) x0 x1 x2 x3 x4 x5 x6 x9 x11 x13 i = ((P.t4 (i 0).val : ℝ) : EReal) := fun i => by
  refine (show _ = (((∑ k17 : Fin 512, (-(P.t3 (i 0).val * (2 * P.vc (i 0).val k17.val)))) : ℝ) : EReal) from (val_main_v225_apply x0 x1 x2 x3 x4 x5 x6 x9 x11 x13 i).trans (red_r w_zero (fun k => r224 H _))).trans (congrArg _ ?_)
  rfl

theorem r226 : ∀ i, val_main_v226 (F := Ideal) x0 x1 x2 x3 x4 x5 x6 x9 x11 x13 i = ((P.t4 (i 0).val : ℝ) : EReal) := fun i => by
  refine (show _ = ((P.t4 ((i 0).val * 1 + (i 1).val) : ℝ) : EReal) from (val_main_v226_apply x0 x1 x2 x3 x4 x5 x6 x9 x11 x13 i).trans (r225 H _)).trans (congrArg _ ?_)
  have h0 : (i 0).val < 8192 := (i 0).isLt
  have h1 : (i 1).val < 1 := (i 1).isLt
  exact congrArg P.t4 (by omega)

theorem r227 : ∀ i, val_main_v227 (F := Ideal) x0 x1 x2 x3 x4 x5 x6 x9 x11 x13 i = ((((P.dvh (i 0).val (i 1).val * P.rs (i 0).val) + (P.t3 (i 0).val * (2 * P.vc (i 0).val (i 1).val))) : ℝ) : EReal) := fun i =>
  (val_main_v227_apply x0 x1 x2 x3 x4 x5 x6 x9 x11 x13 i).trans ((congrArg₂ (FloatOps.addf (F := Ideal) (φ := .f32)) (r214 H i) (r223 H i)).trans (add_r _ _))

theorem r228 : ∀ i, val_main_v228 (F := Ideal) x0 x1 x2 x3 x4 x5 x6 x9 x11 x13 i = (((P.t2 (i 0).val + P.t4 (i 0).val) : ℝ) : EReal) := fun i =>
  (val_main_v228_apply x0 x1 x2 x3 x4 x5 x6 x9 x11 x13 i).trans ((congrArg₂ (FloatOps.addf (F := Ideal) (φ := .f32)) (r218 H i) (r226 H i)).trans (add_r _ _))

theorem r230 : ∀ i, val_main_v230 (F := Ideal) x0 x1 x2 x3 x4 x5 x6 x9 x11 x13 i = ((((P.t2 (i 0).val + P.t4 (i 0).val) / 512) : ℝ) : EReal) := fun i =>
  (val_main_v230_apply x0 x1 x2 x3 x4 x5 x6 x9 x11 x13 i).trans ((congrArg₂ (FloatOps.hostDivf (F := Ideal) (φ := .f32)) (r228 H i) (r229 i)).trans (hdiv_r _ _ (by norm_num)))

theorem r231 : ∀ i, val_main_v231 (F := Ideal) x0 x1 x2 x3 x4 x5 x6 x9 x11 x13 i = ((((P.t2 (i 0).val + P.t4 (i 0).val) / 512) : ℝ) : EReal) := fun i => by
  refine (show _ = (((∑ k18 : Fin 1, ((P.t2 (i 0).val + P.t4 (i 0).val) / 512)) : ℝ) : EReal) from (val_main_v231_apply x0 x1 x2 x3 x4 x5 x6 x9 x11 x13 i).trans (red_r w_zero (fun k => r230 H _))).trans (congrArg _ ?_)
  simp

theorem r232 : ∀ i, val_main_v232 (F := Ideal) x0 x1 x2 x3 x4 x5 x6 x9 x11 x13 i = ((((P.t2 (i 0).val + P.t4 (i 0).val) / 512) : ℝ) : EReal) := fun i =>
  (val_main_v232_apply x0 x1 x2 x3 x4 x5 x6 x9 x11 x13 i).trans (r231 H _)

theorem r233 : ∀ i, val_main_v233 (F := Ideal) x0 x1 x2 x3 x4 x5 x6 x9 x11 x13 i = ((P.dv (i 0).val (i 1).val : ℝ) : EReal) := fun i => by
  refine (show _ = (((((P.dvh (i 0).val (i 1).val * P.rs (i 0).val) + (P.t3 (i 0).val * (2 * P.vc (i 0).val (i 1).val))) + ((P.t2 (i 0).val + P.t4 (i 0).val) / 512)) : ℝ) : EReal) from (val_main_v233_apply x0 x1 x2 x3 x4 x5 x6 x9 x11 x13 i).trans ((congrArg₂ (FloatOps.addf (F := Ideal) (φ := .f32)) (r227 H i) (r232 H i)).trans (add_r _ _))).trans (congrArg _ ?_)
  exact P.dv_eq _ _

theorem r234 : ∀ i, val_main_v234 (F := Ideal) x0 x1 x2 x3 x4 x5 x6 x9 x10 x11 x12 x13 i = ((P.dz (i 0).val (i 1).val : ℝ) : EReal) := by
  intro i
  exact cat1_r _ _ P.du P.dv (r191 H) (r233 H) _ rfl i

theorem r235 : ∀ i, val_main_v235 (F := Ideal) x0 x1 x2 x3 x4 x5 x6 x9 x10 x11 x12 x13 i = (((P.zb (i 0).val (i 1).val * P.dz (i 0).val (i 1).val) : ℝ) : EReal) := fun i =>
  (val_main_v235_apply x0 x1 x2 x3 x4 x5 x6 x9 x10 x11 x12 x13 i).trans ((congrArg₂ (FloatOps.mulf (F := Ideal) (φ := .f32)) (r108 H i) (r234 H i)).trans (mul_r _ _))

theorem r236 : ∀ i, val_main_v236 (F := Ideal) x0 x1 x2 x3 x4 x5 x6 x9 x10 x11 x12 x13 i = (((P.dz (i 0).val (i 1).val * ((1 / 2) * (1 + gt (P.zb (i 0).val (i 1).val)))) : ℝ) : EReal) := fun i =>
  (val_main_v236_apply x0 x1 x2 x3 x4 x5 x6 x9 x10 x11 x12 x13 i).trans ((congrArg₂ (FloatOps.mulf (F := Ideal) (φ := .f32)) (r234 H i) (r130 H i)).trans (mul_r _ _))

theorem r238 : ∀ i, val_main_v238 (F := Ideal) x0 x1 x2 x3 x4 x5 x6 x9 x10 x11 x12 x13 i = ((((1 / 2) * (P.zb (i 0).val (i 1).val * P.dz (i 0).val (i 1).val)) : ℝ) : EReal) := fun i =>
  (val_main_v238_apply x0 x1 x2 x3 x4 x5 x6 x9 x10 x11 x12 x13 i).trans ((congrArg₂ (FloatOps.mulf (F := Ideal) (φ := .f32)) (r237 i) (r235 H i)).trans (mul_r _ _))

theorem r239 : ∀ i, val_main_v239 (F := Ideal) x0 x1 x2 x3 x4 x5 x6 x9 x10 x11 x12 x13 i = (((((1 / 2) * (P.zb (i 0).val (i 1).val * P.dz (i 0).val (i 1).val)) * ((1 + gt (P.zb (i 0).val (i 1).val)) * (1 - gt (P.zb (i 0).val (i 1).val)))) : ℝ) : EReal) := fun i =>
  (val_main_v239_apply x0 x1 x2 x3 x4 x5 x6 x9 x10 x11 x12 x13 i).trans ((congrArg₂ (FloatOps.mulf (F := Ideal) (φ := .f32)) (r238 H i) (r126 H i)).trans (mul_r _ _))

theorem r241 : ∀ i, val_main_v241 (F := Ideal) x0 x1 x2 x3 x4 x5 x6 x9 x10 x11 x12 x13 i = (((gk * (((1 / 2) * (P.zb (i 0).val (i 1).val * P.dz (i 0).val (i 1).val)) * ((1 + gt (P.zb (i 0).val (i 1).val)) * (1 - gt (P.zb (i 0).val (i 1).val))))) : ℝ) : EReal) := fun i =>
  (val_main_v241_apply x0 x1 x2 x3 x4 x5 x6 x9 x10 x11 x12 x13 i).trans ((congrArg₂ (FloatOps.mulf (F := Ideal) (φ := .f32)) (r240 i) (r239 H i)).trans (mul_r _ _))

theorem r242 : ∀ i, val_main_v242 (F := Ideal) x0 x1 x2 x3 x4 x5 x6 x9 x10 x11 x12 x13 i = ((((P.dz (i 0).val (i 1).val * ((1 / 2) * (1 + gt (P.zb (i 0).val (i 1).val)))) + (gk * (((1 / 2) * (P.zb (i 0).val (i 1).val * P.dz (i 0).val (i 1).val)) * ((1 + gt (P.zb (i 0).val (i 1).val)) * (1 - gt (P.zb (i 0).val (i 1).val)))))) : ℝ) : EReal) := fun i =>
  (val_main_v242_apply x0 x1 x2 x3 x4 x5 x6 x9 x10 x11 x12 x13 i).trans ((congrArg₂ (FloatOps.addf (F := Ideal) (φ := .f32)) (r236 H i) (r241 H i)).trans (add_r _ _))

theorem r244 : ∀ i, val_main_v244 (F := Ideal) x0 x1 x2 x3 x4 x5 x6 x9 x10 x11 x12 x13 i = ((((gk * (((1 / 2) * (P.zb (i 0).val (i 1).val * P.dz (i 0).val (i 1).val)) * ((1 + gt (P.zb (i 0).val (i 1).val)) * (1 - gt (P.zb (i 0).val (i 1).val))))) / 200000) : ℝ) : EReal) := fun i =>
  (val_main_v244_apply x0 x1 x2 x3 x4 x5 x6 x9 x10 x11 x12 x13 i).trans ((congrArg₂ (FloatOps.hostDivf (F := Ideal) (φ := .f32)) (r241 H i) (r243 i)).trans (hdiv_r _ _ (by norm_num)))

theorem r246 : ∀ i, val_main_v246 (F := Ideal) x0 x1 x2 x3 x4 x5 x6 x9 x10 x11 x12 x13 i = (((8943 * ((gk * (((1 / 2) * (P.zb (i 0).val (i 1).val * P.dz (i 0).val (i 1).val)) * ((1 + gt (P.zb (i 0).val (i 1).val)) * (1 - gt (P.zb (i 0).val (i 1).val))))) / 200000)) : ℝ) : EReal) := fun i =>
  (val_main_v246_apply x0 x1 x2 x3 x4 x5 x6 x9 x10 x11 x12 x13 i).trans ((congrArg₂ (FloatOps.mulf (F := Ideal) (φ := .f32)) (r245 i) (r244 H i)).trans (mul_r _ _))

theorem r247 : ∀ i, val_main_v247 (F := Ideal) x0 x1 x2 x3 x4 x5 x6 x9 x10 x11 x12 x13 i = ((((8943 * ((gk * (((1 / 2) * (P.zb (i 0).val (i 1).val * P.dz (i 0).val (i 1).val)) * ((1 + gt (P.zb (i 0).val (i 1).val)) * (1 - gt (P.zb (i 0).val (i 1).val))))) / 200000)) * (3 * (P.zb (i 0).val (i 1).val * P.zb (i 0).val (i 1).val))) : ℝ) : EReal) := fun i =>
  (val_main_v247_apply x0 x1 x2 x3 x4 x5 x6 x9 x10 x11 x12 x13 i).trans ((congrArg₂ (FloatOps.mulf (F := Ideal) (φ := .f32)) (r246 H i) (r113 H i)).trans (mul_r _ _))

end MixBwd
-- ==== Proof.Ref4.lean ====
/-
  The same: the gradients of the pools, of the projection, of the first norm; the results.
-/
module

public import proofs.«01_k».proof.Proof.Gen.ReferenceIdeal.Read
public import proofs.«01_k».proof.Proof.Ref3

@[expose] public section

set_option maxRecDepth 65536

noncomputable section

namespace MixBwd

open Idealize.ShloMosaic Cert.ReferenceIdeal Cert.ReferenceIdeal.Read

variable {P : Params} {x0 x1 : (⟨S8192x1024, .f32⟩ : BufTy).Contents (Elt Ideal)}
  {x2 x3 x4 x5 : (⟨S1x1024, .f32⟩ : BufTy).Contents (Elt Ideal)} {x6 : (⟨S1024x1536, .f32⟩ : BufTy).Contents (Elt Ideal)}
  {x7 : (⟨S4x128x128, .f32⟩ : BufTy).Contents (Elt Ideal)} {x8 x9 x10 : (⟨S1x512, .f32⟩ : BufTy).Contents (Elt Ideal)}
  {x11 : (⟨S8x128x128, .f32⟩ : BufTy).Contents (Elt Ideal)} {x12 : (⟨S8x128, .f32⟩ : BufTy).Contents (Elt Ideal)}
  {x13 : (⟨S1024x1024, .f32⟩ : BufTy).Contents (Elt Ideal)}

variable (H : Args P x0 x1 x2 x3 x4 x5 x6 x7 x8 x9 x10 x11 x12 x13)

theorem r272 : ∀ i, val_main_v272 (F := Ideal)  i = ((cnt 3 (i 0).val : ℝ) : EReal) := fun i =>
  (val_main_v272_apply i).trans (r91 _)

theorem r285 : ∀ i, val_main_v285 (F := Ideal)  i = ((cnt 2 (i 0).val : ℝ) : EReal) := fun i =>
  (val_main_v285_apply i).trans (r73 _)

theorem r299 : ∀ i, val_main_v299 (F := Ideal)  i = ((cnt 1 (i 0).val : ℝ) : EReal) := fun i =>
  (val_main_v299_apply i).trans (r55 _)

theorem r313 : ∀ i, val_main_v313 (F := Ideal)  i = ((cnt 0 (i 0).val : ℝ) : EReal) := fun i =>
  (val_main_v313_apply i).trans (r37 _)

theorem r350 (i : S8192x1.Idx) : val_main_v350 (F := Ideal) i = ((1024 : ℝ) : EReal) :=
  (val_main_v350_apply i).trans w_1024

theorem r358 (i : S5x512.Idx) : val_main_v358 (F := Ideal) i = ((0 : ℝ) : EReal) :=
  (val_main_v358_apply i).trans w_zero

theorem r360 (i : S4x1024.Idx) : val_main_v360 (F := Ideal) i = ((0 : ℝ) : EReal) :=
  (val_main_v360_apply i).trans w_zero

include H

theorem r248 : ∀ i, val_main_v248 (F := Ideal) x0 x1 x2 x3 x4 x5 x6 x9 x10 x11 x12 x13 i = ((P.dzb (i 0).val (i 1).val : ℝ) : EReal) := fun i => by
  refine (show _ = (((((P.dz (i 0).val (i 1).val * ((1 / 2) * (1 + gt (P.zb (i 0).val (i 1).val)))) + (gk * (((1 / 2) * (P.zb (i 0).val (i 1).val * P.dz (i 0).val (i 1).val)) * ((1 + gt (P.zb (i 0).val (i 1).val)) * (1 - gt (P.zb (i 0).val (i 1).val)))))) + ((8943 * ((gk * (((1 / 2) * (P.zb (i 0).val (i 1).val * P.dz (i 0).val (i 1).val)) * ((1 + gt (P.zb (i 0).val (i 1).val)) * (1 - gt (P.zb (i 0).val (i 1).val))))) / 200000)) * (3 * (P.zb (i 0).val (i 1).val * P.zb (i 0).val (i 1).val)))) : ℝ) : EReal) from (val_main_v248_apply x0 x1 x2 x3 x4 x5 x6 x9 x10 x11 x12 x13 i).trans ((congrArg₂ (FloatOps.addf (F := Ideal) (φ := .f32)) (r242 H i) (r247 H i)).trans (add_r _ _))).trans (congrArg _ ?_)
  simp only [Params.dzb, Params.dz, gd, ga]; ring

theorem r249 : ∀ i, val_main_v249 (F := Ideal) x0 x1 x2 x3 x4 x5 x6 x9 x10 x11 x12 x13 i = (((if 512 ≤ (i 1).val then P.dzb (i 0).val ((i 1).val - 512) else 0) : ℝ) : EReal) := by
  intro i
  refine (pad2_r _ P.dzb (r248 H) _ (fun _ => w_zero) _ _ i).trans (congrArg _ ?_)
  have h0 : (i 0).val < 8192 := (i 0).isLt
  have h1 : (i 1).val < 1536 := (i 1).isLt
  exact if_congr (by omega) (by rw [Nat.sub_zero]) rfl

theorem r250 : ∀ i, val_main_v250 (F := Ideal) x0 x1 x2 x3 x4 x5 x6 x7 x13 i = (((P.mixed (i 0).val (i 1).val * P.dcat (i 0).val (i 1).val) : ℝ) : EReal) := fun i =>
  (val_main_v250_apply x0 x1 x2 x3 x4 x5 x6 x7 x13 i).trans ((congrArg₂ (FloatOps.mulf (F := Ideal) (φ := .f32)) (r105 H i) (r188 H i)).trans (mul_r _ _))

theorem r251 : ∀ i, val_main_v251 (F := Ideal) x0 x1 x2 x3 x4 x5 x6 x7 x13 i = ((P.dps (i 0).val : ℝ) : EReal) := fun i => by
  refine (show _ = (((∑ k19 : Fin 8192, (P.mixed k19.val (i 0).val * P.dcat k19.val (i 0).val)) : ℝ) : EReal) from (val_main_v251_apply x0 x1 x2 x3 x4 x5 x6 x7 x13 i).trans (red_r w_zero (fun k => r250 H _))).trans (congrArg _ ?_)
  exact Finset.sum_congr rfl fun k _ => mul_comm _ _

theorem r252 : ∀ i, val_main_v252 (F := Ideal) x0 x1 x2 x3 x4 x5 x6 x7 x13 i = ((P.dps (i 1).val : ℝ) : EReal) := fun i => by
  refine (show _ = ((P.dps ((i 0).val * 512 + (i 1).val) : ℝ) : EReal) from (val_main_v252_apply x0 x1 x2 x3 x4 x5 x6 x7 x13 i).trans (r251 H _)).trans (congrArg _ ?_)
  have h0 : (i 0).val < 1 := (i 0).isLt
  have h1 : (i 1).val < 512 := (i 1).isLt
  exact congrArg P.dps (by omega)

theorem r253 : ∀ i, val_main_v253 (F := Ideal) x8 i = ((P.ps (i 1).val : ℝ) : EReal) := fun i =>
  (val_main_v253_apply x8 i).trans (H.ps _)

theorem r254 : ∀ i, val_main_v254 (F := Ideal) x1 x4 x8 x13 i = ((P.dmixed (i 0).val (i 1).val : ℝ) : EReal) := fun i => by
  refine (show _ = (((P.dcat (i 0).val (i 1).val * P.ps (i 1).val) : ℝ) : EReal) from (val_main_v254_apply x1 x4 x8 x13 i).trans ((congrArg₂ (FloatOps.mulf (F := Ideal) (φ := .f32)) (r188 H i) (r253 H i)).trans (mul_r _ _))).trans (congrArg _ ?_)
  rfl

theorem r255 : ∀ i, val_main_v255 (F := Ideal) x1 x4 x8 x13 i = ((P.dmixed (i 0).val (128 * (i 1).val + (i 2).val) : ℝ) : EReal) := fun i => by
  refine (show _ = ((P.dmixed ((((i 0).val * 4 + (i 1).val) * 128 + (i 2).val) / 512) ((((i 0).val * 4 + (i 1).val) * 128 + (i 2).val) % 512) : ℝ) : EReal) from (val_main_v255_apply x1 x4 x8 x13 i).trans (r254 H _)).trans (congrArg _ ?_)
  have h0 : (i 0).val < 8192 := (i 0).isLt
  have h1 : (i 1).val < 4 := (i 1).isLt
  have h2 : (i 2).val < 128 := (i 2).isLt
  exact congrArg₂ P.dmixed (by omega) (by omega)

theorem r256 : ∀ i, val_main_v256 (F := Ideal) x1 x4 x8 x13 i = ((P.dmixed (i 2).val (128 * (i 0).val + (i 1).val) : ℝ) : EReal) := fun i =>
  (val_main_v256_apply x1 x4 x8 x13 i).trans (r255 H _)

theorem r257 : ∀ i, val_main_v257 (F := Ideal) x1 x4 x7 x8 x13 i = ((P.dpool (i 1).val (128 * (i 0).val + (i 2).val) : ℝ) : EReal) := fun i => by
  refine (show _ = (((∑ k20 : Fin 128, P.dmixed (i 1).val (128 * (i 0).val + k20.val) * P.wpool (i 0).val (i 2).val k20.val) : ℝ) : EReal) from (val_main_v257_apply x1 x4 x7 x8 x13 i).trans (dot_r (fun k => r256 H _) (fun k => H.wpool _))).trans (congrArg _ ?_)
  have h0 : (i 0).val < 4 := (i 0).isLt
  have h1 : (i 1).val < 8192 := (i 1).isLt
  have h2 : (i 2).val < 128 := (i 2).isLt
  refine Finset.sum_congr rfl fun k _ => ?_
  rw [show (128 * (i 0).val + (i 2).val) / 128 = (i 0).val by omega, show (128 * (i 0).val + (i 2).val) % 128 = (i 2).val by omega]

theorem r258 : ∀ i, val_main_v258 (F := Ideal) x1 x4 x7 x8 x13 i = ((P.dpool (i 0).val (128 * (i 1).val + (i 2).val) : ℝ) : EReal) := fun i =>
  (val_main_v258_apply x1 x4 x7 x8 x13 i).trans (r257 H _)

theorem r259 : ∀ i, val_main_v259 (F := Ideal) x0 x1 x2 x3 x4 x5 x6 x8 x13 i = (((∑ k21 : Fin 8192, P.dmixed k21.val (128 * (i 0).val + (i 1).val) * P.pooled k21.val (128 * (i 0).val + (i 2).val)) : ℝ) : EReal) := fun i =>
  (val_main_v259_apply x0 x1 x2 x3 x4 x5 x6 x8 x13 i).trans (dot_r (fun k => r256 H _) (fun k => r102 H _))

theorem r260 : ∀ i, val_main_v260 (F := Ideal) x0 x1 x2 x3 x4 x5 x6 x8 x13 i = ((P.dwpool (i 0).val (i 1).val (i 2).val : ℝ) : EReal) := fun i => by
  refine (show _ = (((∑ k21 : Fin 8192, P.dmixed k21.val (128 * (i 0).val + (i 2).val) * P.pooled k21.val (128 * (i 0).val + (i 1).val)) : ℝ) : EReal) from (val_main_v260_apply x0 x1 x2 x3 x4 x5 x6 x8 x13 i).trans (r259 H _)).trans (congrArg _ ?_)
  exact Finset.sum_congr rfl fun k _ => mul_comm _ _

theorem r261 : ∀ i, val_main_v261 (F := Ideal) x1 x4 x7 x8 x13 i = ((P.dpool (i 0).val (128 * (i 1).val + (i 2).val) : ℝ) : EReal) := fun i =>
  (val_main_v261_apply x1 x4 x7 x8 x13 i).trans (r258 H _)

theorem r262 : ∀ i, val_main_v262 (F := Ideal) x1 x4 x7 x8 x13 i = ((P.dpool (i 0).val (128 * 0 + (i 1).val) : ℝ) : EReal) := fun i => by
  refine (show _ = ((P.dpool (((i 0).val * 128 + (i 1).val) / 128) (128 * 0 + (((i 0).val * 128 + (i 1).val) % 128)) : ℝ) : EReal) from (val_main_v262_apply x1 x4 x7 x8 x13 i).trans (r261 H _)).trans (congrArg _ ?_)
  have h0 : (i 0).val < 8192 := (i 0).isLt
  have h1 : (i 1).val < 128 := (i 1).isLt
  exact congrArg₂ P.dpool (by omega) (by omega)

theorem r263 : ∀ i, val_main_v263 (F := Ideal) x1 x4 x7 x8 x13 i = ((P.dpool (i 0).val (128 * (1 + (i 1).val) + (i 2).val) : ℝ) : EReal) := fun i =>
  (val_main_v263_apply x1 x4 x7 x8 x13 i).trans (r258 H _)

theorem r264 : ∀ i, val_main_v264 (F := Ideal) x1 x4 x7 x8 x13 i = ((P.dpool (i 0).val (128 * 1 + (i 1).val) : ℝ) : EReal) := fun i => by
  refine (show _ = ((P.dpool (((i 0).val * 128 + (i 1).val) / 128) (128 * (1 + 0) + (((i 0).val * 128 + (i 1).val) % 128)) : ℝ) : EReal) from (val_main_v264_apply x1 x4 x7 x8 x13 i).trans (r263 H _)).trans (congrArg _ ?_)
  have h0 : (i 0).val < 8192 := (i 0).isLt
  have h1 : (i 1).val < 128 := (i 1).isLt
  exact congrArg₂ P.dpool (by omega) (by omega)

theorem r265 : ∀ i, val_main_v265 (F := Ideal) x1 x4 x7 x8 x13 i = ((P.dpool (i 0).val (128 * (2 + (i 1).val) + (i 2).val) : ℝ) : EReal) := fun i =>
  (val_main_v265_apply x1 x4 x7 x8 x13 i).trans (r258 H _)

theorem r266 : ∀ i, val_main_v266 (F := Ideal) x1 x4 x7 x8 x13 i = ((P.dpool (i 0).val (128 * 2 + (i 1).val) : ℝ) : EReal) := fun i => by
  refine (show _ = ((P.dpool (((i 0).val * 128 + (i 1).val) / 128) (128 * (2 + 0) + (((i 0).val * 128 + (i 1).val) % 128)) : ℝ) : EReal) from (val_main_v266_apply x1 x4 x7 x8 x13 i).trans (r265 H _)).trans (congrArg _ ?_)
  have h0 : (i 0).val < 8192 := (i 0).isLt
  have h1 : (i 1).val < 128 := (i 1).isLt
  exact congrArg₂ P.dpool (by omega) (by omega)

theorem r267 : ∀ i, val_main_v267 (F := Ideal) x1 x4 x7 x8 x13 i = ((P.dpool (i 0).val (128 * (3 + (i 1).val) + (i 2).val) : ℝ) : EReal) := fun i =>
  (val_main_v267_apply x1 x4 x7 x8 x13 i).trans (r258 H _)

theorem r268 : ∀ i, val_main_v268 (F := Ideal) x1 x4 x7 x8 x13 i = ((P.dpool (i 0).val (128 * 3 + (i 1).val) : ℝ) : EReal) := fun i => by
  refine (show _ = ((P.dpool (((i 0).val * 128 + (i 1).val) / 128) (128 * (3 + 0) + (((i 0).val * 128 + (i 1).val) % 128)) : ℝ) : EReal) from (val_main_v268_apply x1 x4 x7 x8 x13 i).trans (r267 H _)).trans (congrArg _ ?_)
  have h0 : (i 0).val < 8192 := (i 0).isLt
  have h1 : (i 1).val < 128 := (i 1).isLt
  exact congrArg₂ P.dpool (by omega) (by omega)

theorem r269 : ∀ i, val_main_v269 (F := Ideal) x1 x4 x7 x8 x13 i = (((-P.dpool (i 0).val (128 * 3 + (i 1).val)) : ℝ) : EReal) := fun i =>
  (val_main_v269_apply x1 x4 x7 x8 x13 i).trans ((congrArg (FloatOps.hostNegf (F := Ideal) (φ := .f32)) (r268 H i)).trans (hneg_r _))

theorem r270 : ∀ i, val_main_v270 (F := Ideal) x1 x4 x7 x8 x13 i = (((-P.dpool (i 0).val (128 * 3 + (i 2).val)) : ℝ) : EReal) := fun i =>
  (val_main_v270_apply x1 x4 x7 x8 x13 i).trans (r269 H _)

theorem r271 : ∀ i, val_main_v271 (F := Ideal) x1 x4 x7 x8 x13 i = (((if (i 1).val = 3 then -P.dpool (i 0).val (128 * 3 + (i 2).val) else 0) : ℝ) : EReal) := by
  intro i
  exact padLayer_r _ (fun s c => -P.dpool s (128 * 3 + c)) (r270 H) _ (fun _ => w_zero) _ _ rfl i

theorem r273 : ∀ i, val_main_v273 (F := Ideal) x1 x4 x7 x8 x13 i = ((P.q (i 0).val (128 * 3 + (i 1).val) : ℝ) : EReal) := fun i => by
  refine (show _ = (((P.dpool (i 0).val (128 * 3 + (i 1).val) / cnt 3 (i 0).val) : ℝ) : EReal) from (val_main_v273_apply x1 x4 x7 x8 x13 i).trans ((congrArg₂ (FloatOps.hostDivf (F := Ideal) (φ := .f32)) (r268 H i) (r272 i)).trans (hdiv_r _ _ (cnt_pos _ _).ne'))).trans (congrArg _ ?_)
  have h0 : (i 0).val < 8192 := (i 0).isLt
  have h1 : (i 1).val < 128 := (i 1).isLt
  simp only [Params.q, show (128 * 3 + (i 1).val) / 128 = 3 by omega]

theorem r274 : ∀ i, val_main_v274 (F := Ideal) x1 x4 x7 x8 x13 i = (((-P.q (i 0).val (128 * 3 + (i 1).val)) : ℝ) : EReal) := fun i =>
  (val_main_v274_apply x1 x4 x7 x8 x13 i).trans ((congrArg (FloatOps.hostNegf (F := Ideal) (φ := .f32)) (r273 H i)).trans (hneg_r _))

theorem r276 : ∀ i, val_main_v276 (F := Ideal) x1 x4 x7 x8 x13 i = (((-P.q (16 + (i 0).val) (128 * 3 + (i 1).val)) : ℝ) : EReal) := fun i =>
  (val_main_v276_apply x1 x4 x7 x8 x13 i).trans (r274 H _)

theorem r277 : ∀ i, val_main_v277 (F := Ideal) x1 x4 x7 x8 x13 i = (((-P.qz ((i 0).val + 16) (128 * 3 + (i 1).val)) : ℝ) : EReal) := by
  intro i
  refine (pad2_r _ (fun s c => -P.q (16 + s) (128 * 3 + c)) (r276 H) _ (fun _ => w_zero) _ _ i).trans (congrArg _ ?_)
  have h0 : (i 0).val < 8192 := (i 0).isLt
  have h1 : (i 1).val < 128 := (i 1).isLt
  unfold Params.qz
  by_cases h : (i 0).val + 16 < 8192
  · rw [if_pos h, if_pos (by omega), Nat.sub_zero, Nat.sub_zero, add_comm]
  · rw [if_neg h, if_neg (by omega), neg_zero]

theorem r278 : ∀ i, val_main_v278 (F := Ideal) x1 x4 x7 x8 x13 i = (((P.q (i 0).val (128 * 3 + (i 1).val) + (-P.qz ((i 0).val + 16) (128 * 3 + (i 1).val))) : ℝ) : EReal) := fun i =>
  (val_main_v278_apply x1 x4 x7 x8 x13 i).trans ((congrArg₂ (FloatOps.addf (F := Ideal) (φ := .f32)) (r273 H i) (r277 H i)).trans (add_r _ _))

theorem r279 : ∀ i, val_main_v279 (F := Ideal) x1 x4 x7 x8 x13 i = (((P.q (i 0).val (128 * 3 + (i 2).val) + (-P.qz ((i 0).val + 16) (128 * 3 + (i 2).val))) : ℝ) : EReal) := fun i =>
  (val_main_v279_apply x1 x4 x7 x8 x13 i).trans (r278 H _)

theorem r280 : ∀ i, val_main_v280 (F := Ideal) x1 x4 x7 x8 x13 i = (((if (i 1).val = 3 then P.q (i 0).val (128 * 3 + (i 2).val) + -P.qz ((i 0).val + 16) (128 * 3 + (i 2).val) else 0) : ℝ) : EReal) := by
  intro i
  exact padLayer_r _ (fun s c => P.q s (128 * 3 + c) + -P.qz (s + 16) (128 * 3 + c)) (r279 H) _ (fun _ => w_zero) _ _ rfl i

theorem r281 : ∀ i, val_main_v281 (F := Ideal) x1 x4 x7 x8 x13 i = (((-P.dpool (i 0).val (128 * 2 + (i 1).val)) : ℝ) : EReal) := fun i =>
  (val_main_v281_apply x1 x4 x7 x8 x13 i).trans ((congrArg (FloatOps.hostNegf (F := Ideal) (φ := .f32)) (r266 H i)).trans (hneg_r _))

theorem r282 : ∀ i, val_main_v282 (F := Ideal) x1 x4 x7 x8 x13 i = (((-P.dpool (i 0).val (128 * 2 + (i 2).val)) : ℝ) : EReal) := fun i =>
  (val_main_v282_apply x1 x4 x7 x8 x13 i).trans (r281 H _)

theorem r283 : ∀ i, val_main_v283 (F := Ideal) x1 x4 x7 x8 x13 i = (((if (i 1).val = 2 then -P.dpool (i 0).val (128 * 2 + (i 2).val) else 0) : ℝ) : EReal) := by
  intro i
  exact padLayer_r _ (fun s c => -P.dpool s (128 * 2 + c)) (r282 H) _ (fun _ => w_zero) _ _ rfl i

theorem r284 : ∀ i, val_main_v284 (F := Ideal) x1 x4 x7 x8 x13 i = ((((if (i 1).val = 3 then -P.dpool (i 0).val (128 * 3 + (i 2).val) else 0) + (if (i 1).val = 2 then -P.dpool (i 0).val (128 * 2 + (i 2).val) else 0)) : ℝ) : EReal) := fun i =>
  (val_main_v284_apply x1 x4 x7 x8 x13 i).trans ((congrArg₂ (FloatOps.addf (F := Ideal) (φ := .f32)) (r271 H i) (r283 H i)).trans (add_r _ _))

theorem r286 : ∀ i, val_main_v286 (F := Ideal) x1 x4 x7 x8 x13 i = ((P.q (i 0).val (128 * 2 + (i 1).val) : ℝ) : EReal) := fun i => by
  refine (show _ = (((P.dpool (i 0).val (128 * 2 + (i 1).val) / cnt 2 (i 0).val) : ℝ) : EReal) from (val_main_v286_apply x1 x4 x7 x8 x13 i).trans ((congrArg₂ (FloatOps.hostDivf (F := Ideal) (φ := .f32)) (r266 H i) (r285 i)).trans (hdiv_r _ _ (cnt_pos _ _).ne'))).trans (congrArg _ ?_)
  have h0 : (i 0).val < 8192 := (i 0).isLt
  have h1 : (i 1).val < 128 := (i 1).isLt
  simp only [Params.q, show (128 * 2 + (i 1).val) / 128 = 2 by omega]

theorem r287 : ∀ i, val_main_v287 (F := Ideal) x1 x4 x7 x8 x13 i = (((-P.q (i 0).val (128 * 2 + (i 1).val)) : ℝ) : EReal) := fun i =>
  (val_main_v287_apply x1 x4 x7 x8 x13 i).trans ((congrArg (FloatOps.hostNegf (F := Ideal) (φ := .f32)) (r286 H i)).trans (hneg_r _))

theorem r289 : ∀ i, val_main_v289 (F := Ideal) x1 x4 x7 x8 x13 i = (((-P.q (8 + (i 0).val) (128 * 2 + (i 1).val)) : ℝ) : EReal) := fun i =>
  (val_main_v289_apply x1 x4 x7 x8 x13 i).trans (r287 H _)

theorem r290 : ∀ i, val_main_v290 (F := Ideal) x1 x4 x7 x8 x13 i = (((-P.qz ((i 0).val + 8) (128 * 2 + (i 1).val)) : ℝ) : EReal) := by
  intro i
  refine (pad2_r _ (fun s c => -P.q (8 + s) (128 * 2 + c)) (r289 H) _ (fun _ => w_zero) _ _ i).trans (congrArg _ ?_)
  have h0 : (i 0).val < 8192 := (i 0).isLt
  have h1 : (i 1).val < 128 := (i 1).isLt
  unfold Params.qz
  by_cases h : (i 0).val + 8 < 8192
  · rw [if_pos h, if_pos (by omega), Nat.sub_zero, Nat.sub_zero, add_comm]
  · rw [if_neg h, if_neg (by omega), neg_zero]

theorem r291 : ∀ i, val_main_v291 (F := Ideal) x1 x4 x7 x8 x13 i = (((P.q (i 0).val (128 * 2 + (i 1).val) + (-P.qz ((i 0).val + 8) (128 * 2 + (i 1).val))) : ℝ) : EReal) := fun i =>
  (val_main_v291_apply x1 x4 x7 x8 x13 i).trans ((congrArg₂ (FloatOps.addf (F := Ideal) (φ := .f32)) (r286 H i) (r290 H i)).trans (add_r _ _))

theorem r292 : ∀ i, val_main_v292 (F := Ideal) x1 x4 x7 x8 x13 i = (((P.q (i 0).val (128 * 2 + (i 2).val) + (-P.qz ((i 0).val + 8) (128 * 2 + (i 2).val))) : ℝ) : EReal) := fun i =>
  (val_main_v292_apply x1 x4 x7 x8 x13 i).trans (r291 H _)

theorem r293 : ∀ i, val_main_v293 (F := Ideal) x1 x4 x7 x8 x13 i = (((if (i 1).val = 2 then P.q (i 0).val (128 * 2 + (i 2).val) + -P.qz ((i 0).val + 8) (128 * 2 + (i 2).val) else 0) : ℝ) : EReal) := by
  intro i
  exact padLayer_r _ (fun s c => P.q s (128 * 2 + c) + -P.qz (s + 8) (128 * 2 + c)) (r292 H) _ (fun _ => w_zero) _ _ rfl i

theorem r294 : ∀ i, val_main_v294 (F := Ideal) x1 x4 x7 x8 x13 i = ((((if (i 1).val = 3 then P.q (i 0).val (128 * 3 + (i 2).val) + -P.qz ((i 0).val + 16) (128 * 3 + (i 2).val) else 0) + (if (i 1).val = 2 then P.q (i 0).val (128 * 2 + (i 2).val) + -P.qz ((i 0).val + 8) (128 * 2 + (i 2).val) else 0)) : ℝ) : EReal) := fun i =>
  (val_main_v294_apply x1 x4 x7 x8 x13 i).trans ((congrArg₂ (FloatOps.addf (F := Ideal) (φ := .f32)) (r280 H i) (r293 H i)).trans (add_r _ _))

theorem r295 : ∀ i, val_main_v295 (F := Ideal) x1 x4 x7 x8 x13 i = (((-P.dpool (i 0).val (128 * 1 + (i 1).val)) : ℝ) : EReal) := fun i =>
  (val_main_v295_apply x1 x4 x7 x8 x13 i).trans ((congrArg (FloatOps.hostNegf (F := Ideal) (φ := .f32)) (r264 H i)).trans (hneg_r _))

theorem r296 : ∀ i, val_main_v296 (F := Ideal) x1 x4 x7 x8 x13 i = (((-P.dpool (i 0).val (128 * 1 + (i 2).val)) : ℝ) : EReal) := fun i =>
  (val_main_v296_apply x1 x4 x7 x8 x13 i).trans (r295 H _)

theorem r297 : ∀ i, val_main_v297 (F := Ideal) x1 x4 x7 x8 x13 i = (((if (i 1).val = 1 then -P.dpool (i 0).val (128 * 1 + (i 2).val) else 0) : ℝ) : EReal) := by
  intro i
  exact padLayer_r _ (fun s c => -P.dpool s (128 * 1 + c)) (r296 H) _ (fun _ => w_zero) _ _ rfl i

theorem r298 : ∀ i, val_main_v298 (F := Ideal) x1 x4 x7 x8 x13 i = (((((if (i 1).val = 3 then -P.dpool (i 0).val (128 * 3 + (i 2).val) else 0) + (if (i 1).val = 2 then -P.dpool (i 0).val (128 * 2 + (i 2).val) else 0)) + (if (i 1).val = 1 then -P.dpool (i 0).val (128 * 1 + (i 2).val) else 0)) : ℝ) : EReal) := fun i =>
  (val_main_v298_apply x1 x4 x7 x8 x13 i).trans ((congrArg₂ (FloatOps.addf (F := Ideal) (φ := .f32)) (r284 H i) (r297 H i)).trans (add_r _ _))

theorem r300 : ∀ i, val_main_v300 (F := Ideal) x1 x4 x7 x8 x13 i = ((P.q (i 0).val (128 * 1 + (i 1).val) : ℝ) : EReal) := fun i => by
  refine (show _ = (((P.dpool (i 0).val (128 * 1 + (i 1).val) / cnt 1 (i 0).val) : ℝ) : EReal) from (val_main_v300_apply x1 x4 x7 x8 x13 i).trans ((congrArg₂ (FloatOps.hostDivf (F := Ideal) (φ := .f32)) (r264 H i) (r299 i)).trans (hdiv_r _ _ (cnt_pos _ _).ne'))).trans (congrArg _ ?_)
  have h0 : (i 0).val < 8192 := (i 0).isLt
  have h1 : (i 1).val < 128 := (i 1).isLt
  simp only [Params.q, show (128 * 1 + (i 1).val) / 128 = 1 by omega]

theorem r301 : ∀ i, val_main_v301 (F := Ideal) x1 x4 x7 x8 x13 i = (((-P.q (i 0).val (128 * 1 + (i 1).val)) : ℝ) : EReal) := fun i =>
  (val_main_v301_apply x1 x4 x7 x8 x13 i).trans ((congrArg (FloatOps.hostNegf (F := Ideal) (φ := .f32)) (r300 H i)).trans (hneg_r _))

theorem r303 : ∀ i, val_main_v303 (F := Ideal) x1 x4 x7 x8 x13 i = (((-P.q (4 + (i 0).val) (128 * 1 + (i 1).val)) : ℝ) : EReal) := fun i =>
  (val_main_v303_apply x1 x4 x7 x8 x13 i).trans (r301 H _)

theorem r304 : ∀ i, val_main_v304 (F := Ideal) x1 x4 x7 x8 x13 i = (((-P.qz ((i 0).val + 4) (128 * 1 + (i 1).val)) : ℝ) : EReal) := by
  intro i
  refine (pad2_r _ (fun s c => -P.q (4 + s) (128 * 1 + c)) (r303 H) _ (fun _ => w_zero) _ _ i).trans (congrArg _ ?_)
  have h0 : (i 0).val < 8192 := (i 0).isLt
  have h1 : (i 1).val < 128 := (i 1).isLt
  unfold Params.qz
  by_cases h : (i 0).val + 4 < 8192
  · rw [if_pos h, if_pos (by omega), Nat.sub_zero, Nat.sub_zero, add_comm]
  · rw [if_neg h, if_neg (by omega), neg_zero]

theorem r305 : ∀ i, val_main_v305 (F := Ideal) x1 x4 x7 x8 x13 i = (((P.q (i 0).val (128 * 1 + (i 1).val) + (-P.qz ((i 0).val + 4) (128 * 1 + (i 1).val))) : ℝ) : EReal) := fun i =>
  (val_main_v305_apply x1 x4 x7 x8 x13 i).trans ((congrArg₂ (FloatOps.addf (F := Ideal) (φ := .f32)) (r300 H i) (r304 H i)).trans (add_r _ _))

theorem r306 : ∀ i, val_main_v306 (F := Ideal) x1 x4 x7 x8 x13 i = (((P.q (i 0).val (128 * 1 + (i 2).val) + (-P.qz ((i 0).val + 4) (128 * 1 + (i 2).val))) : ℝ) : EReal) := fun i =>
  (val_main_v306_apply x1 x4 x7 x8 x13 i).trans (r305 H _)

theorem r307 : ∀ i, val_main_v307 (F := Ideal) x1 x4 x7 x8 x13 i = (((if (i 1).val = 1 then P.q (i 0).val (128 * 1 + (i 2).val) + -P.qz ((i 0).val + 4) (128 * 1 + (i 2).val) else 0) : ℝ) : EReal) := by
  intro i
  exact padLayer_r _ (fun s c => P.q s (128 * 1 + c) + -P.qz (s + 4) (128 * 1 + c)) (r306 H) _ (fun _ => w_zero) _ _ rfl i

theorem r308 : ∀ i, val_main_v308 (F := Ideal) x1 x4 x7 x8 x13 i = (((((if (i 1).val = 3 then P.q (i 0).val (128 * 3 + (i 2).val) + -P.qz ((i 0).val + 16) (128 * 3 + (i 2).val) else 0) + (if (i 1).val = 2 then P.q (i 0).val (128 * 2 + (i 2).val) + -P.qz ((i 0).val + 8) (128 * 2 + (i 2).val) else 0)) + (if (i 1).val = 1 then P.q (i 0).val (128 * 1 + (i 2).val) + -P.qz ((i 0).val + 4) (128 * 1 + (i 2).val) else 0)) : ℝ) : EReal) := fun i =>
  (val_main_v308_apply x1 x4 x7 x8 x13 i).trans ((congrArg₂ (FloatOps.addf (F := Ideal) (φ := .f32)) (r294 H i) (r307 H i)).trans (add_r _ _))

theorem r309 : ∀ i, val_main_v309 (F := Ideal) x1 x4 x7 x8 x13 i = (((-P.dpool (i 0).val (128 * 0 + (i 1).val)) : ℝ) : EReal) := fun i =>
  (val_main_v309_apply x1 x4 x7 x8 x13 i).trans ((congrArg (FloatOps.hostNegf (F := Ideal) (φ := .f32)) (r262 H i)).trans (hneg_r _))

theorem r310 : ∀ i, val_main_v310 (F := Ideal) x1 x4 x7 x8 x13 i = (((-P.dpool (i 0).val (128 * 0 + (i 2).val)) : ℝ) : EReal) := fun i =>
  (val_main_v310_apply x1 x4 x7 x8 x13 i).trans (r309 H _)

theorem r311 : ∀ i, val_main_v311 (F := Ideal) x1 x4 x7 x8 x13 i = (((if (i 1).val = 0 then -P.dpool (i 0).val (128 * 0 + (i 2).val) else 0) : ℝ) : EReal) := by
  intro i
  exact padLayer_r _ (fun s c => -P.dpool s (128 * 0 + c)) (r310 H) _ (fun _ => w_zero) _ _ rfl i

theorem r312 : ∀ i, val_main_v312 (F := Ideal) x1 x4 x7 x8 x13 i = (((-P.dpool (i 0).val (128 * (i 1).val + (i 2).val)) : ℝ) : EReal) := fun i => by
  refine (show _ = ((((((if (i 1).val = 3 then -P.dpool (i 0).val (128 * 3 + (i 2).val) else 0) + (if (i 1).val = 2 then -P.dpool (i 0).val (128 * 2 + (i 2).val) else 0)) + (if (i 1).val = 1 then -P.dpool (i 0).val (128 * 1 + (i 2).val) else 0)) + (if (i 1).val = 0 then -P.dpool (i 0).val (128 * 0 + (i 2).val) else 0)) : ℝ) : EReal) from (val_main_v312_apply x1 x4 x7 x8 x13 i).trans ((congrArg₂ (FloatOps.addf (F := Ideal) (φ := .f32)) (r298 H i) (r311 H i)).trans (add_r _ _))).trans (congrArg _ ?_)
  have h0 : (i 0).val < 8192 := (i 0).isLt
  have h1 : (i 1).val < 4 := (i 1).isLt
  have h2 : (i 2).val < 128 := (i 2).isLt
  have key : (i 1).val = 0 ∨ (i 1).val = 1 ∨ (i 1).val = 2 ∨ (i 1).val = 3 := by omega
  rcases key with e | e | e | e <;> rw [e] <;> simp

theorem r314 : ∀ i, val_main_v314 (F := Ideal) x1 x4 x7 x8 x13 i = ((P.q (i 0).val (128 * 0 + (i 1).val) : ℝ) : EReal) := fun i => by
  refine (show _ = (((P.dpool (i 0).val (128 * 0 + (i 1).val) / cnt 0 (i 0).val) : ℝ) : EReal) from (val_main_v314_apply x1 x4 x7 x8 x13 i).trans ((congrArg₂ (FloatOps.hostDivf (F := Ideal) (φ := .f32)) (r262 H i) (r313 i)).trans (hdiv_r _ _ (cnt_pos _ _).ne'))).trans (congrArg _ ?_)
  have h0 : (i 0).val < 8192 := (i 0).isLt
  have h1 : (i 1).val < 128 := (i 1).isLt
  simp only [Params.q, show (128 * 0 + (i 1).val) / 128 = 0 by omega]

theorem r315 : ∀ i, val_main_v315 (F := Ideal) x1 x4 x7 x8 x13 i = (((-P.q (i 0).val (128 * 0 + (i 1).val)) : ℝ) : EReal) := fun i =>
  (val_main_v315_apply x1 x4 x7 x8 x13 i).trans ((congrArg (FloatOps.hostNegf (F := Ideal) (φ := .f32)) (r314 H i)).trans (hneg_r _))

theorem r317 : ∀ i, val_main_v317 (F := Ideal) x1 x4 x7 x8 x13 i = (((-P.q (2 + (i 0).val) (128 * 0 + (i 1).val)) : ℝ) : EReal) := fun i =>
  (val_main_v317_apply x1 x4 x7 x8 x13 i).trans (r315 H _)

theorem r318 : ∀ i, val_main_v318 (F := Ideal) x1 x4 x7 x8 x13 i = (((-P.qz ((i 0).val + 2) (128 * 0 + (i 1).val)) : ℝ) : EReal) := by
  intro i
  refine (pad2_r _ (fun s c => -P.q (2 + s) (128 * 0 + c)) (r317 H) _ (fun _ => w_zero) _ _ i).trans (congrArg _ ?_)
  have h0 : (i 0).val < 8192 := (i 0).isLt
  have h1 : (i 1).val < 128 := (i 1).isLt
  unfold Params.qz
  by_cases h : (i 0).val + 2 < 8192
  · rw [if_pos h, if_pos (by omega), Nat.sub_zero, Nat.sub_zero, add_comm]
  · rw [if_neg h, if_neg (by omega), neg_zero]

theorem r319 : ∀ i, val_main_v319 (F := Ideal) x1 x4 x7 x8 x13 i = (((P.q (i 0).val (128 * 0 + (i 1).val) + (-P.qz ((i 0).val + 2) (128 * 0 + (i 1).val))) : ℝ) : EReal) := fun i =>
  (val_main_v319_apply x1 x4 x7 x8 x13 i).trans ((congrArg₂ (FloatOps.addf (F := Ideal) (φ := .f32)) (r314 H i) (r318 H i)).trans (add_r _ _))

theorem r320 : ∀ i, val_main_v320 (F := Ideal) x1 x4 x7 x8 x13 i = (((P.q (i 0).val (128 * 0 + (i 2).val) + (-P.qz ((i 0).val + 2) (128 * 0 + (i 2).val))) : ℝ) : EReal) := fun i =>
  (val_main_v320_apply x1 x4 x7 x8 x13 i).trans (r319 H _)

theorem r321 : ∀ i, val_main_v321 (F := Ideal) x1 x4 x7 x8 x13 i = (((if (i 1).val = 0 then P.q (i 0).val (128 * 0 + (i 2).val) + -P.qz ((i 0).val + 2) (128 * 0 + (i 2).val) else 0) : ℝ) : EReal) := by
  intro i
  exact padLayer_r _ (fun s c => P.q s (128 * 0 + c) + -P.qz (s + 2) (128 * 0 + c)) (r320 H) _ (fun _ => w_zero) _ _ rfl i

theorem r322 : ∀ i, val_main_v322 (F := Ideal) x1 x4 x7 x8 x13 i = (((P.q (i 0).val (128 * (i 1).val + (i 2).val) + -P.qz ((i 0).val + width (i 1).val) (128 * (i 1).val + (i 2).val)) : ℝ) : EReal) := fun i => by
  refine (show _ = ((((((if (i 1).val = 3 then P.q (i 0).val (128 * 3 + (i 2).val) + -P.qz ((i 0).val + 16) (128 * 3 + (i 2).val) else 0) + (if (i 1).val = 2 then P.q (i 0).val (128 * 2 + (i 2).val) + -P.qz ((i 0).val + 8) (128 * 2 + (i 2).val) else 0)) + (if (i 1).val = 1 then P.q (i 0).val (128 * 1 + (i 2).val) + -P.qz ((i 0).val + 4) (128 * 1 + (i 2).val) else 0)) + (if (i 1).val = 0 then P.q (i 0).val (128 * 0 + (i 2).val) + -P.qz ((i 0).val + 2) (128 * 0 + (i 2).val) else 0)) : ℝ) : EReal) from (val_main_v322_apply x1 x4 x7 x8 x13 i).trans ((congrArg₂ (FloatOps.addf (F := Ideal) (φ := .f32)) (r308 H i) (r321 H i)).trans (add_r _ _))).trans (congrArg _ ?_)
  have h0 : (i 0).val < 8192 := (i 0).isLt
  have h1 : (i 1).val < 4 := (i 1).isLt
  have h2 : (i 2).val < 128 := (i 2).isLt
  have key : (i 1).val = 0 ∨ (i 1).val = 1 ∨ (i 1).val = 2 ∨ (i 1).val = 3 := by omega
  rcases key with e | e | e | e <;> rw [e] <;> simp [width]

theorem r323 : ∀ i, val_main_v323 (F := Ideal) x1 x4 x7 x8 x13 i = (((∑ k ∈ Finset.range (width (i 1).val), P.qz ((i 0).val + k) (128 * (i 1).val + (i 2).val)) : ℝ) : EReal) := by
  intro i
  unfold val_main_v323
  refine (hostWindow_r (n := 8192) (b := 4) (c := 128) (lo := 0) (hi := 8191) (val_main_v322 (F := Ideal) x1 x4 x7 x8 x13)
    (fun s g c => P.q s (128 * g + c) + -P.qz (s + width g) (128 * g + c)) (r322 H) _ _ _
    (fun j => (val_main_call4_call0_v0_apply j).trans ((val_main_call4_call0_cst_apply _).trans w_zero)) i).trans (congrArg _ ?_)
  rw [← suffix_r (fun s => P.qz s (128 * (i 1).val + (i 2).val)) 8192 (width (i 1).val) (i 0).val
    (fun s hs => if_neg (not_lt.mpr hs))]
  refine Finset.sum_congr rfl fun k _ => ?_
  by_cases h : (i 0).val + k.val < 8192
  · rw [if_pos h, if_pos ⟨Nat.zero_le _, by omega⟩, Nat.sub_zero, ← sub_eq_add_neg]
    exact congrArg (· - _) (if_pos h).symm
  · rw [if_neg h, if_neg fun h' => h (by omega)]

theorem r324 : ∀ i, val_main_v324 (F := Ideal) x1 x4 x7 x8 x13 i = ((P.dxa (i 0).val (128 * (i 1).val + (i 2).val) : ℝ) : EReal) := fun i => by
  refine (show _ = ((((-P.dpool (i 0).val (128 * (i 1).val + (i 2).val)) + (∑ k ∈ Finset.range (width (i 1).val), P.qz ((i 0).val + k) (128 * (i 1).val + (i 2).val))) : ℝ) : EReal) from (val_main_v324_apply x1 x4 x7 x8 x13 i).trans ((congrArg₂ (FloatOps.addf (F := Ideal) (φ := .f32)) (r312 H i) (r323 H i)).trans (add_r _ _))).trans (congrArg _ ?_)
  have h0 : (i 0).val < 8192 := (i 0).isLt
  have h1 : (i 1).val < 4 := (i 1).isLt
  have h2 : (i 2).val < 128 := (i 2).isLt
  unfold Params.dxa
  rw [show (128 * (i 1).val + (i 2).val) / 128 = (i 1).val by omega]
  ring

theorem r325 : ∀ i, val_main_v325 (F := Ideal) x1 x4 x7 x8 x13 i = ((P.dxa (i 0).val (i 1).val : ℝ) : EReal) := fun i => by
  refine (show _ = ((P.dxa (((i 0).val * 512 + (i 1).val) / 512) (128 * (((i 0).val * 512 + (i 1).val) / 128 % 4) + (((i 0).val * 512 + (i 1).val) % 128)) : ℝ) : EReal) from (val_main_v325_apply x1 x4 x7 x8 x13 i).trans (r324 H _)).trans (congrArg _ ?_)
  have h0 : (i 0).val < 8192 := (i 0).isLt
  have h1 : (i 1).val < 512 := (i 1).isLt
  exact congrArg₂ P.dxa (by omega) (by omega)

theorem r326 : ∀ i, val_main_v326 (F := Ideal) x1 x4 x7 x8 x13 i = (((if (i 1).val < 512 then P.dxa (i 0).val (i 1).val else 0) : ℝ) : EReal) := by
  intro i
  refine (pad2_r _ P.dxa (r325 H) _ (fun _ => w_zero) _ _ i).trans (congrArg _ ?_)
  have h0 : (i 0).val < 8192 := (i 0).isLt
  have h1 : (i 1).val < 1536 := (i 1).isLt
  exact if_congr (by omega) (by rw [Nat.sub_zero, Nat.sub_zero]) rfl

theorem r327 : ∀ i, val_main_v327 (F := Ideal) x0 x1 x2 x3 x4 x5 x6 x7 x8 x9 x10 x11 x12 x13 i = ((P.dproj (i 0).val (i 1).val : ℝ) : EReal) := fun i => by
  refine (show _ = ((((if 512 ≤ (i 1).val then P.dzb (i 0).val ((i 1).val - 512) else 0) + (if (i 1).val < 512 then P.dxa (i 0).val (i 1).val else 0)) : ℝ) : EReal) from (val_main_v327_apply x0 x1 x2 x3 x4 x5 x6 x7 x8 x9 x10 x11 x12 x13 i).trans ((congrArg₂ (FloatOps.addf (F := Ideal) (φ := .f32)) (r249 H i) (r326 H i)).trans (add_r _ _))).trans (congrArg _ ?_)
  have h0 : (i 0).val < 8192 := (i 0).isLt
  have h1 : (i 1).val < 1536 := (i 1).isLt
  unfold Params.dproj
  by_cases h : (i 1).val < 512
  · rw [if_neg (by omega), if_pos h, if_pos h, zero_add]
  · rw [if_pos (by omega), if_neg h, if_neg h, add_zero]

theorem r328 : ∀ i, val_main_v328 (F := Ideal) x0 x1 x2 x3 x4 x5 x6 x7 x8 x9 x10 x11 x12 x13 i = (((∑ k22 : Fin 8192, P.dproj k22.val (i 0).val * P.h k22.val (i 1).val) : ℝ) : EReal) := fun i =>
  (val_main_v328_apply x0 x1 x2 x3 x4 x5 x6 x7 x8 x9 x10 x11 x12 x13 i).trans (dot_r (fun k => r327 H _) (fun k => r20 H _))

theorem r329 : ∀ i, val_main_v329 (F := Ideal) x0 x1 x2 x3 x4 x5 x6 x7 x8 x9 x10 x11 x12 x13 i = ((P.dwin (i 0).val (i 1).val : ℝ) : EReal) := fun i => by
  refine (show _ = (((∑ k22 : Fin 8192, P.dproj k22.val (i 1).val * P.h k22.val (i 0).val) : ℝ) : EReal) from (val_main_v329_apply x0 x1 x2 x3 x4 x5 x6 x7 x8 x9 x10 x11 x12 x13 i).trans (r328 H _)).trans (congrArg _ ?_)
  exact Finset.sum_congr rfl fun k _ => mul_comm _ _

theorem r330 : ∀ i, val_main_v330 (F := Ideal) x0 x1 x2 x3 x4 x5 x6 x7 x8 x9 x10 x11 x12 x13 i = ((P.dh (i 0).val (i 1).val : ℝ) : EReal) := fun i => by
  refine (show _ = (((∑ k23 : Fin 1536, P.dproj (i 0).val k23.val * P.win (i 1).val k23.val) : ℝ) : EReal) from (val_main_v330_apply x0 x1 x2 x3 x4 x5 x6 x7 x8 x9 x10 x11 x12 x13 i).trans (dot_r (fun k => r327 H _) (fun k => H.win _))).trans (congrArg _ ?_)
  rfl

theorem r331 : ∀ i, val_main_v331 (F := Ideal) x0 x1 x2 x3 x4 x5 x6 x7 x8 x9 x10 x11 x12 x13 i = ((P.dshift (i 0).val : ℝ) : EReal) := fun i => by
  refine (show _ = (((∑ k24 : Fin 8192, P.dh k24.val (i 0).val) : ℝ) : EReal) from (val_main_v331_apply x0 x1 x2 x3 x4 x5 x6 x7 x8 x9 x10 x11 x12 x13 i).trans (red_r w_zero (fun k => r330 H _))).trans (congrArg _ ?_)
  rfl

theorem r332 : ∀ i, val_main_v332 (F := Ideal) x0 x1 x2 x3 x4 x5 x6 x7 x8 x9 x10 x11 x12 x13 i = ((P.dshift (i 1).val : ℝ) : EReal) := fun i => by
  refine (show _ = ((P.dshift ((i 0).val * 1024 + (i 1).val) : ℝ) : EReal) from (val_main_v332_apply x0 x1 x2 x3 x4 x5 x6 x7 x8 x9 x10 x11 x12 x13 i).trans (r331 H _)).trans (congrArg _ ?_)
  have h0 : (i 0).val < 1 := (i 0).isLt
  have h1 : (i 1).val < 1024 := (i 1).isLt
  exact congrArg P.dshift (by omega)

theorem r333 : ∀ i, val_main_v333 (F := Ideal) x0 x1 x2 x3 x4 x5 x6 x7 x8 x9 x10 x11 x12 x13 i = (((P.hp (i 0).val (i 1).val * P.dh (i 0).val (i 1).val) : ℝ) : EReal) := fun i =>
  (val_main_v333_apply x0 x1 x2 x3 x4 x5 x6 x7 x8 x9 x10 x11 x12 x13 i).trans ((congrArg₂ (FloatOps.mulf (F := Ideal) (φ := .f32)) (r14 H i) (r330 H i)).trans (mul_r _ _))

theorem r334 : ∀ i, val_main_v334 (F := Ideal) x0 x1 x2 x3 x4 x5 x6 x7 x8 x9 x10 x11 x12 x13 i = ((P.dscale (i 0).val : ℝ) : EReal) := fun i => by
  refine (show _ = (((∑ k25 : Fin 8192, (P.hp k25.val (i 0).val * P.dh k25.val (i 0).val)) : ℝ) : EReal) from (val_main_v334_apply x0 x1 x2 x3 x4 x5 x6 x7 x8 x9 x10 x11 x12 x13 i).trans (red_r w_zero (fun k => r333 H _))).trans (congrArg _ ?_)
  exact Finset.sum_congr rfl fun k _ => mul_comm _ _

theorem r335 : ∀ i, val_main_v335 (F := Ideal) x0 x1 x2 x3 x4 x5 x6 x7 x8 x9 x10 x11 x12 x13 i = ((P.dscale (i 1).val : ℝ) : EReal) := fun i => by
  refine (show _ = ((P.dscale ((i 0).val * 1024 + (i 1).val) : ℝ) : EReal) from (val_main_v335_apply x0 x1 x2 x3 x4 x5 x6 x7 x8 x9 x10 x11 x12 x13 i).trans (r334 H _)).trans (congrArg _ ?_)
  have h0 : (i 0).val < 1 := (i 0).isLt
  have h1 : (i 1).val < 1024 := (i 1).isLt
  exact congrArg P.dscale (by omega)

theorem r336 : ∀ i, val_main_v336 (F := Ideal) x3 i = (((1 + P.scale (i 1).val) : ℝ) : EReal) := fun i =>
  (val_main_v336_apply x3 i).trans (r16 H _)

theorem r337 : ∀ i, val_main_v337 (F := Ideal) x0 x1 x2 x3 x4 x5 x6 x7 x8 x9 x10 x11 x12 x13 i = ((P.dhp (i 0).val (i 1).val : ℝ) : EReal) := fun i => by
  refine (show _ = (((P.dh (i 0).val (i 1).val * (1 + P.scale (i 1).val)) : ℝ) : EReal) from (val_main_v337_apply x0 x1 x2 x3 x4 x5 x6 x7 x8 x9 x10 x11 x12 x13 i).trans ((congrArg₂ (FloatOps.mulf (F := Ideal) (φ := .f32)) (r330 H i) (r336 H i)).trans (mul_r _ _))).trans (congrArg _ ?_)
  rfl

theorem r338 : ∀ i, val_main_v338 (F := Ideal) x0 x1 x2 x3 x4 x5 x6 x7 x8 x9 x10 x11 x12 x13 i = (((P.xn (i 0).val (i 1).val * P.dhp (i 0).val (i 1).val) : ℝ) : EReal) := fun i =>
  (val_main_v338_apply x0 x1 x2 x3 x4 x5 x6 x7 x8 x9 x10 x11 x12 x13 i).trans ((congrArg₂ (FloatOps.mulf (F := Ideal) (φ := .f32)) (r12 H i) (r337 H i)).trans (mul_r _ _))

theorem r339 : ∀ i, val_main_v339 (F := Ideal) x0 x1 x2 x3 x4 x5 x6 x7 x8 x9 x10 x11 x12 x13 i = ((P.dgn (i 0).val : ℝ) : EReal) := fun i => by
  refine (show _ = (((∑ k26 : Fin 8192, (P.xn k26.val (i 0).val * P.dhp k26.val (i 0).val)) : ℝ) : EReal) from (val_main_v339_apply x0 x1 x2 x3 x4 x5 x6 x7 x8 x9 x10 x11 x12 x13 i).trans (red_r w_zero (fun k => r338 H _))).trans (congrArg _ ?_)
  exact Finset.sum_congr rfl fun k _ => mul_comm _ _

theorem r340 : ∀ i, val_main_v340 (F := Ideal) x0 x1 x2 x3 x4 x5 x6 x7 x8 x9 x10 x11 x12 x13 i = ((P.dgn (i 1).val : ℝ) : EReal) := fun i => by
  refine (show _ = ((P.dgn ((i 0).val * 1024 + (i 1).val) : ℝ) : EReal) from (val_main_v340_apply x0 x1 x2 x3 x4 x5 x6 x7 x8 x9 x10 x11 x12 x13 i).trans (r339 H _)).trans (congrArg _ ?_)
  have h0 : (i 0).val < 1 := (i 0).isLt
  have h1 : (i 1).val < 1024 := (i 1).isLt
  exact congrArg P.dgn (by omega)

theorem r341 : ∀ i, val_main_v341 (F := Ideal) x5 i = ((P.gn (i 1).val : ℝ) : EReal) := fun i =>
  (val_main_v341_apply x5 i).trans (H.gn _)

theorem r342 : ∀ i, val_main_v342 (F := Ideal) x0 x1 x2 x3 x4 x5 x6 x7 x8 x9 x10 x11 x12 x13 i = ((P.dxn (i 0).val (i 1).val : ℝ) : EReal) := fun i => by
  refine (show _ = (((P.dhp (i 0).val (i 1).val * P.gn (i 1).val) : ℝ) : EReal) from (val_main_v342_apply x0 x1 x2 x3 x4 x5 x6 x7 x8 x9 x10 x11 x12 x13 i).trans ((congrArg₂ (FloatOps.mulf (F := Ideal) (φ := .f32)) (r337 H i) (r341 H i)).trans (mul_r _ _))).trans (congrArg _ ?_)
  rfl

theorem r343 : ∀ i, val_main_v343 (F := Ideal) x0 x1 x2 x3 x4 x5 x6 x7 x8 x9 x10 x11 x12 x13 i = (((P.x (i 0).val (i 1).val * P.dxn (i 0).val (i 1).val) : ℝ) : EReal) := fun i =>
  (val_main_v343_apply x0 x1 x2 x3 x4 x5 x6 x7 x8 x9 x10 x11 x12 x13 i).trans ((congrArg₂ (FloatOps.mulf (F := Ideal) (φ := .f32)) (H.x i) (r342 H i)).trans (mul_r _ _))

theorem r344 : ∀ i, val_main_v344 (F := Ideal) x0 x1 x2 x3 x4 x5 x6 x7 x8 x9 x10 x11 x12 x13 i = ((P.t5 (i 0).val : ℝ) : EReal) := fun i => by
  refine (show _ = (((∑ k27 : Fin 1024, (P.x (i 0).val k27.val * P.dxn (i 0).val k27.val)) : ℝ) : EReal) from (val_main_v344_apply x0 x1 x2 x3 x4 x5 x6 x7 x8 x9 x10 x11 x12 x13 i).trans (red_r w_zero (fun k => r343 H _))).trans (congrArg _ ?_)
  rfl

theorem r345 : ∀ i, val_main_v345 (F := Ideal) x0 x1 x2 x3 x4 x5 x6 x7 x8 x9 x10 x11 x12 x13 i = ((P.t5 (i 0).val : ℝ) : EReal) := fun i => by
  refine (show _ = ((P.t5 ((i 0).val * 1 + (i 1).val) : ℝ) : EReal) from (val_main_v345_apply x0 x1 x2 x3 x4 x5 x6 x7 x8 x9 x10 x11 x12 x13 i).trans (r344 H _)).trans (congrArg _ ?_)
  have h0 : (i 0).val < 8192 := (i 0).isLt
  have h1 : (i 1).val < 1 := (i 1).isLt
  exact congrArg P.t5 (by omega)

theorem r346 : ∀ i, val_main_v346 (F := Ideal) x0 i = ((P.r (i 0).val : ℝ) : EReal) := fun i =>
  (val_main_v346_apply x0 i).trans (r7 H _)

theorem r347 : ∀ i, val_main_v347 (F := Ideal) x0 x1 x2 x3 x4 x5 x6 x7 x8 x9 x10 x11 x12 x13 i = (((P.dxn (i 0).val (i 1).val * P.r (i 0).val) : ℝ) : EReal) := fun i =>
  (val_main_v347_apply x0 x1 x2 x3 x4 x5 x6 x7 x8 x9 x10 x11 x12 x13 i).trans ((congrArg₂ (FloatOps.mulf (F := Ideal) (φ := .f32)) (r342 H i) (r346 H i)).trans (mul_r _ _))

theorem r348 : ∀ i, val_main_v348 (F := Ideal) x0 x1 x2 x3 x4 x5 x6 x7 x8 x9 x10 x11 x12 x13 i = (((P.dxo (i 0).val (i 1).val + (P.dxn (i 0).val (i 1).val * P.r (i 0).val)) : ℝ) : EReal) := fun i =>
  (val_main_v348_apply x0 x1 x2 x3 x4 x5 x6 x7 x8 x9 x10 x11 x12 x13 i).trans ((congrArg₂ (FloatOps.addf (F := Ideal) (φ := .f32)) (H.dxo i) (r347 H i)).trans (add_r _ _))

theorem r349 : ∀ i, val_main_v349 (F := Ideal) x0 x1 x2 x3 x4 x5 x6 x7 x8 x9 x10 x11 x12 x13 i = (((P.t5 (i 0).val * ((-1 / 2) * (P.r (i 0).val / P.ms (i 0).val))) : ℝ) : EReal) := fun i =>
  (val_main_v349_apply x0 x1 x2 x3 x4 x5 x6 x7 x8 x9 x10 x11 x12 x13 i).trans ((congrArg₂ (FloatOps.mulf (F := Ideal) (φ := .f32)) (r345 H i) (r10 H i)).trans (mul_r _ _))

theorem r351 : ∀ i, val_main_v351 (F := Ideal) x0 x1 x2 x3 x4 x5 x6 x7 x8 x9 x10 x11 x12 x13 i = ((P.t6 (i 0).val : ℝ) : EReal) := fun i => by
  refine (show _ = ((((P.t5 (i 0).val * ((-1 / 2) * (P.r (i 0).val / P.ms (i 0).val))) / 1024) : ℝ) : EReal) from (val_main_v351_apply x0 x1 x2 x3 x4 x5 x6 x7 x8 x9 x10 x11 x12 x13 i).trans ((congrArg₂ (FloatOps.hostDivf (F := Ideal) (φ := .f32)) (r349 H i) (r350 i)).trans (hdiv_r _ _ (by norm_num)))).trans (congrArg _ ?_)
  rfl

theorem r352 : ∀ i, val_main_v352 (F := Ideal) x0 x1 x2 x3 x4 x5 x6 x7 x8 x9 x10 x11 x12 x13 i = ((P.t6 (i 0).val : ℝ) : EReal) := fun i => by
  refine (show _ = (((∑ k28 : Fin 1, P.t6 (i 0).val) : ℝ) : EReal) from (val_main_v352_apply x0 x1 x2 x3 x4 x5 x6 x7 x8 x9 x10 x11 x12 x13 i).trans (red_r w_zero (fun k => r351 H _))).trans (congrArg _ ?_)
  simp

theorem r353 : ∀ i, val_main_v353 (F := Ideal) x0 x1 x2 x3 x4 x5 x6 x7 x8 x9 x10 x11 x12 x13 i = ((P.t6 (i 0).val : ℝ) : EReal) := fun i =>
  (val_main_v353_apply x0 x1 x2 x3 x4 x5 x6 x7 x8 x9 x10 x11 x12 x13 i).trans (r352 H _)

theorem r354 : ∀ i, val_main_v354 (F := Ideal) x0 x1 x2 x3 x4 x5 x6 x7 x8 x9 x10 x11 x12 x13 i = (((P.x (i 0).val (i 1).val * P.t6 (i 0).val) : ℝ) : EReal) := fun i =>
  (val_main_v354_apply x0 x1 x2 x3 x4 x5 x6 x7 x8 x9 x10 x11 x12 x13 i).trans ((congrArg₂ (FloatOps.mulf (F := Ideal) (φ := .f32)) (H.x i) (r353 H i)).trans (mul_r _ _))

theorem r355 : ∀ i, val_main_v355 (F := Ideal) x0 x1 x2 x3 x4 x5 x6 x7 x8 x9 x10 x11 x12 x13 i = ((((P.dxo (i 0).val (i 1).val + (P.dxn (i 0).val (i 1).val * P.r (i 0).val)) + (P.x (i 0).val (i 1).val * P.t6 (i 0).val)) : ℝ) : EReal) := fun i =>
  (val_main_v355_apply x0 x1 x2 x3 x4 x5 x6 x7 x8 x9 x10 x11 x12 x13 i).trans ((congrArg₂ (FloatOps.addf (F := Ideal) (φ := .f32)) (r348 H i) (r354 H i)).trans (add_r _ _))

theorem r356 : ∀ i, val_main_v356 (F := Ideal) x0 x1 x2 x3 x4 x5 x6 x7 x8 x9 x10 x11 x12 x13 i = (((P.t6 (i 0).val * P.x (i 0).val (i 1).val) : ℝ) : EReal) := fun i =>
  (val_main_v356_apply x0 x1 x2 x3 x4 x5 x6 x7 x8 x9 x10 x11 x12 x13 i).trans ((congrArg₂ (FloatOps.mulf (F := Ideal) (φ := .f32)) (r353 H i) (H.x i)).trans (mul_r _ _))

theorem r357 : ∀ i, val_main_v357 (F := Ideal) x0 x1 x2 x3 x4 x5 x6 x7 x8 x9 x10 x11 x12 x13 i = ((P.dx (i 0).val (i 1).val : ℝ) : EReal) := fun i => by
  refine (show _ = (((((P.dxo (i 0).val (i 1).val + (P.dxn (i 0).val (i 1).val * P.r (i 0).val)) + (P.x (i 0).val (i 1).val * P.t6 (i 0).val)) + (P.t6 (i 0).val * P.x (i 0).val (i 1).val)) : ℝ) : EReal) from (val_main_v357_apply x0 x1 x2 x3 x4 x5 x6 x7 x8 x9 x10 x11 x12 x13 i).trans ((congrArg₂ (FloatOps.addf (F := Ideal) (φ := .f32)) (r355 H i) (r356 H i)).trans (add_r _ _))).trans (congrArg _ ?_)
  exact P.dx_eq _ _

theorem r359 : ∀ i, val_main_v359 (F := Ideal) x0 x1 x2 x3 x4 x5 x6 x7 x11 x13 i = ((P.v512 (i 0).val (i 1).val : ℝ) : EReal) := by
  intro i
  exact rows35_r _ _ _ _ P.dps P.dlg P.dlb (r252 H) (r207 H) (r204 H) r358 _ i

theorem r361 : ∀ i, val_main_v361 (F := Ideal) x0 x1 x2 x3 x4 x5 x6 x7 x8 x9 x10 x11 x12 x13 i = ((P.vd (i 0).val (i 1).val : ℝ) : EReal) := by
  intro i
  exact rows44_r _ _ _ _ _ P.dshift P.dscale P.dgate P.dgn (r332 H) (r335 H) (r184 H) (r340 H) r360 _ i

end MixBwd
-- ==== Proof.Runs.lean ====
/-
  The claims that are about one program each: the frames of the kernel, of its idealized form and of the reference, and
  the two constants that the idealized form names.
-/
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

noncomputable section

namespace MixBwd

open Idealize.ShloMosaic Idealize.SL.Sem

theorem finite_facts : Cert.Pre_finite.Facts where
  bcast_S_S8192x1024 := by decide
  bcast_S_S1x1024 := by decide
  bcast_S_S1024x1536 := by decide
  bcast_S_S4x128x128 := by decide
  bcast_S_S1x512 := by decide
  bcast_S_S8x128x128 := by decide
  bcast_S_S8x128 := by decide
  bcast_S_S1024x1024 := by decide

/-- The reference, host operations only, keeps its arguments; it has no semaphores. -/
theorem reference_frame : Cert.quiescent_ReferenceIdeal := fun m ρ _ =>
  (θ_run (Cert.ReferenceIdeal.defs (F := Ideal)) _ _).mono
    (fun r h => ⟨fun c => (h c).2.2.2.2.2.2.2.2, sem_eq_zero_of_no_sems (by decide) r.2⟩)
    (Cert.ReferenceIdeal.Value.run (F := Ideal) m ρ)

theorem constants : Cert.preserves_Kernel_KernelIdeal :=
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩

end MixBwd
-- ==== Proof.Claims.lean ====
/-
  The value claim: from finite arguments, the eight arrays of the kernel are those of the reference.
-/
module

public import proofs.«01_k».proof.Defs
public import proofs.«01_k».proof.Proof.Gen.KernelIdeal.Value
public import proofs.«01_k».proof.Proof.Gen.ReferenceIdeal.Run
public import proofs.«01_k».proof.Proof.Blocks
public import proofs.«01_k».proof.Proof.Ref4
public import proofs.«01_k».proof.Proof.Runs

@[expose] public section

set_option maxRecDepth 65536

noncomputable section

namespace MixBwd

open Idealize.ShloMosaic Idealize.SL.Sem

/-! ## Finite arrays hold reals -/

/-- What the precondition computes of one array: true where the magnitude is below infinity. -/
theorem real_of_finite {S : Shape} (x : S.Idx → EReal)
    (b : (⟨0, ![]⟩ : Shape).BroadcastsInDim S (![] : Fin 0 → Fin S.rank))
    (h : cmpf (F := Ideal) (φ := .f32) .olt (Host.absf (F := Ideal) (φ := .f32) x)
      (broadcastInDim S ![] b (constant (F := Ideal) ⟨0, ![]⟩ .f32 0x7F800000#32)) = fun _ => 1#1) (i : S.Idx) :
    x i = ((x i).toReal : EReal) := by
  have h1 : Ideal.cmp .olt (max (x i) (-(x i))) (Ideal.ofBits .f32 0x7F800000#32) = 1#1 := congrFun h i
  have ht : Ideal.ofBits .f32 0x7F800000#32 = ⊤ := by simp [Ideal.ofBits, Ideal.ieee]
  rw [ht] at h1
  have h2 : max (x i) (-(x i)) < ⊤ := by
    by_contra hn
    have : Ideal.cmp .olt (max (x i) (-(x i))) ⊤ = 0#1 := by
      show BitVec.ofBool (decide (max (x i) (-(x i)) < ⊤)) = 0#1
      rw [decide_eq_false hn]; rfl
    rw [this] at h1
    exact absurd h1 (by decide)
  refine (EReal.coe_toReal (fun e => ?_) fun e => ?_).symm
  · rw [e] at h2; simp at h2
  · rw [e] at h2; simp at h2

/-- The reals in an array of two axes, of one row, and of three axes. -/
def readM {n m : ℕ} (x : (⟨2, ![n, m]⟩ : Shape).Idx → EReal) (i j : ℕ) : ℝ :=
  if h : i < n ∧ j < m then (x (ix2 ⟨i, h.1⟩ ⟨j, h.2⟩)).toReal else 0

def readV {m : ℕ} (x : (⟨2, ![1, m]⟩ : Shape).Idx → EReal) (j : ℕ) : ℝ := readM x 0 j

def readC {n m k : ℕ} (x : (⟨3, ![n, m, k]⟩ : Shape).Idx → EReal) (i j l : ℕ) : ℝ :=
  if h : i < n ∧ j < m ∧ l < k then (x (ix3 ⟨i, h.1⟩ ⟨j, h.2.1⟩ ⟨l, h.2.2⟩)).toReal else 0

theorem readM_r {n m : ℕ} (x : (⟨2, ![n, m]⟩ : Shape).Idx → EReal) (h : ∀ i, x i = ((x i).toReal : EReal))
    (i : (⟨2, ![n, m]⟩ : Shape).Idx) : x i = ((readM x (i 0).val (i 1).val : ℝ) : EReal) := by
  have e : i = ix2 (i 0) (i 1) := by funext a; fin_cases a <;> rfl
  have hb : (i 0).val < n ∧ (i 1).val < m := ⟨(i 0).isLt, (i 1).isLt⟩
  refine (h i).trans (congrArg _ ?_)
  unfold readM
  rw [dif_pos hb]
  exact congrArg (fun k => (x k).toReal) e

theorem readV_r {m : ℕ} (x : (⟨2, ![1, m]⟩ : Shape).Idx → EReal) (h : ∀ i, x i = ((x i).toReal : EReal))
    (i : (⟨2, ![1, m]⟩ : Shape).Idx) : x i = ((readV x (i 1).val : ℝ) : EReal) := by
  have h0 : (i 0).val = 0 := Nat.lt_one_iff.mp (i 0).isLt
  have k := readM_r x h i
  rw [h0] at k
  exact k

theorem readC_r {n m k : ℕ} (x : (⟨3, ![n, m, k]⟩ : Shape).Idx → EReal) (h : ∀ i, x i = ((x i).toReal : EReal))
    (i : (⟨3, ![n, m, k]⟩ : Shape).Idx) : x i = ((readC x (i 0).val (i 1).val (i 2).val : ℝ) : EReal) := by
  have e : i = ix3 (i 0) (i 1) (i 2) := by funext a; fin_cases a <;> rfl
  have hb : (i 0).val < n ∧ (i 1).val < m ∧ (i 2).val < k := ⟨(i 0).isLt, (i 1).isLt, (i 2).isLt⟩
  refine (h i).trans (congrArg _ ?_)
  unfold readC
  rw [dif_pos hb]
  exact congrArg (fun k => (x k).toReal) e

section Arguments

open Cert.ReferenceIdeal

/-- The reals in the fourteen arguments. -/
def paramsOf (x0 x1 : (⟨S8192x1024, .f32⟩ : BufTy).Contents (Elt Ideal))
    (x2 x3 x4 x5 : (⟨S1x1024, .f32⟩ : BufTy).Contents (Elt Ideal)) (x6 : (⟨S1024x1536, .f32⟩ : BufTy).Contents (Elt Ideal))
    (x7 : (⟨S4x128x128, .f32⟩ : BufTy).Contents (Elt Ideal)) (x8 x9 x10 : (⟨S1x512, .f32⟩ : BufTy).Contents (Elt Ideal))
    (x11 : (⟨S8x128x128, .f32⟩ : BufTy).Contents (Elt Ideal)) (x12 : (⟨S8x128, .f32⟩ : BufTy).Contents (Elt Ideal))
    (x13 : (⟨S1024x1024, .f32⟩ : BufTy).Contents (Elt Ideal)) : Params where
  x := readM x0
  dxo := readM x1
  shift := readV x2
  scale := readV x3
  gate := readV x4
  gn := readV x5
  win := readM x6
  wpool := readC x7
  ps := readV x8
  lg := readV x9
  lb := readV x10
  wsp := readC x11
  bsp := readM x12
  wout := readM x13

attribute [local instance] finite_facts in
/-- Arguments that the precondition accepts hold the reals read from them. -/
theorem args_of_finite (x0 x1 : (⟨S8192x1024, .f32⟩ : BufTy).Contents (Elt Ideal))
    (x2 x3 x4 x5 : (⟨S1x1024, .f32⟩ : BufTy).Contents (Elt Ideal)) (x6 : (⟨S1024x1536, .f32⟩ : BufTy).Contents (Elt Ideal))
    (x7 : (⟨S4x128x128, .f32⟩ : BufTy).Contents (Elt Ideal)) (x8 x9 x10 : (⟨S1x512, .f32⟩ : BufTy).Contents (Elt Ideal))
    (x11 : (⟨S8x128x128, .f32⟩ : BufTy).Contents (Elt Ideal)) (x12 : (⟨S8x128, .f32⟩ : BufTy).Contents (Elt Ideal))
    (x13 : (⟨S1024x1024, .f32⟩ : BufTy).Contents (Elt Ideal))
    (hf : (Cert.Pre_finite.fn (F := Ideal) x0 x1 x2 x3 x4 x5 x6 x7 x8 x9 x10 x11 x12 x13).1 = (fun _ => 1#1) ∧ (Cert.Pre_finite.fn (F := Ideal) x0 x1 x2 x3 x4 x5 x6 x7 x8 x9 x10 x11 x12 x13).2.1 = (fun _ => 1#1) ∧ (Cert.Pre_finite.fn (F := Ideal) x0 x1 x2 x3 x4 x5 x6 x7 x8 x9 x10 x11 x12 x13).2.2.1 = (fun _ => 1#1) ∧ (Cert.Pre_finite.fn (F := Ideal) x0 x1 x2 x3 x4 x5 x6 x7 x8 x9 x10 x11 x12 x13).2.2.2.1 = (fun _ => 1#1) ∧ (Cert.Pre_finite.fn (F := Ideal) x0 x1 x2 x3 x4 x5 x6 x7 x8 x9 x10 x11 x12 x13).2.2.2.2.1 = (fun _ => 1#1) ∧ (Cert.Pre_finite.fn (F := Ideal) x0 x1 x2 x3 x4 x5 x6 x7 x8 x9 x10 x11 x12 x13).2.2.2.2.2.1 = (fun _ => 1#1) ∧ (Cert.Pre_finite.fn (F := Ideal) x0 x1 x2 x3 x4 x5 x6 x7 x8 x9 x10 x11 x12 x13).2.2.2.2.2.2.1 = (fun _ => 1#1) ∧ (Cert.Pre_finite.fn (F := Ideal) x0 x1 x2 x3 x4 x5 x6 x7 x8 x9 x10 x11 x12 x13).2.2.2.2.2.2.2.1 = (fun _ => 1#1) ∧ (Cert.Pre_finite.fn (F := Ideal) x0 x1 x2 x3 x4 x5 x6 x7 x8 x9 x10 x11 x12 x13).2.2.2.2.2.2.2.2.1 = (fun _ => 1#1) ∧ (Cert.Pre_finite.fn (F := Ideal) x0 x1 x2 x3 x4 x5 x6 x7 x8 x9 x10 x11 x12 x13).2.2.2.2.2.2.2.2.2.1 = (fun _ => 1#1) ∧ (Cert.Pre_finite.fn (F := Ideal) x0 x1 x2 x3 x4 x5 x6 x7 x8 x9 x10 x11 x12 x13).2.2.2.2.2.2.2.2.2.2.1 = (fun _ => 1#1) ∧ (Cert.Pre_finite.fn (F := Ideal) x0 x1 x2 x3 x4 x5 x6 x7 x8 x9 x10 x11 x12 x13).2.2.2.2.2.2.2.2.2.2.2.1 = (fun _ => 1#1) ∧ (Cert.Pre_finite.fn (F := Ideal) x0 x1 x2 x3 x4 x5 x6 x7 x8 x9 x10 x11 x12 x13).2.2.2.2.2.2.2.2.2.2.2.2.1 = (fun _ => 1#1) ∧ (Cert.Pre_finite.fn (F := Ideal) x0 x1 x2 x3 x4 x5 x6 x7 x8 x9 x10 x11 x12 x13).2.2.2.2.2.2.2.2.2.2.2.2.2 = (fun _ => 1#1)) :
    Args (paramsOf x0 x1 x2 x3 x4 x5 x6 x7 x8 x9 x10 x11 x12 x13) x0 x1 x2 x3 x4 x5 x6 x7 x8 x9 x10 x11 x12 x13 where
  x := readM_r x0 (real_of_finite x0 _ hf.1)
  dxo := readM_r x1 (real_of_finite x1 _ hf.2.1)
  shift := readV_r x2 (real_of_finite x2 _ hf.2.2.1)
  scale := readV_r x3 (real_of_finite x3 _ hf.2.2.2.1)
  gate := readV_r x4 (real_of_finite x4 _ hf.2.2.2.2.1)
  gn := readV_r x5 (real_of_finite x5 _ hf.2.2.2.2.2.1)
  win := readM_r x6 (real_of_finite x6 _ hf.2.2.2.2.2.2.1)
  wpool := readC_r x7 (real_of_finite x7 _ hf.2.2.2.2.2.2.2.1)
  ps := readV_r x8 (real_of_finite x8 _ hf.2.2.2.2.2.2.2.2.1)
  lg := readV_r x9 (real_of_finite x9 _ hf.2.2.2.2.2.2.2.2.2.1)
  lb := readV_r x10 (real_of_finite x10 _ hf.2.2.2.2.2.2.2.2.2.2.1)
  wsp := readC_r x11 (real_of_finite x11 _ hf.2.2.2.2.2.2.2.2.2.2.2.1)
  bsp := readM_r x12 (real_of_finite x12 _ hf.2.2.2.2.2.2.2.2.2.2.2.2.1)
  wout := readM_r x13 (real_of_finite x13 _ hf.2.2.2.2.2.2.2.2.2.2.2.2.2)

/-- Equal arguments hold the same reals. -/
theorem args_congr {P : Params} (y0 y1 : (⟨S8192x1024, .f32⟩ : BufTy).Contents (Elt Ideal))
    (y2 y3 y4 y5 : (⟨S1x1024, .f32⟩ : BufTy).Contents (Elt Ideal)) (y6 : (⟨S1024x1536, .f32⟩ : BufTy).Contents (Elt Ideal))
    (y7 : (⟨S4x128x128, .f32⟩ : BufTy).Contents (Elt Ideal)) (y8 y9 y10 : (⟨S1x512, .f32⟩ : BufTy).Contents (Elt Ideal))
    (y11 : (⟨S8x128x128, .f32⟩ : BufTy).Contents (Elt Ideal)) (y12 : (⟨S8x128, .f32⟩ : BufTy).Contents (Elt Ideal))
    (y13 : (⟨S1024x1024, .f32⟩ : BufTy).Contents (Elt Ideal))
    (x0 x1 : (⟨S8192x1024, .f32⟩ : BufTy).Contents (Elt Ideal))
    (x2 x3 x4 x5 : (⟨S1x1024, .f32⟩ : BufTy).Contents (Elt Ideal)) (x6 : (⟨S1024x1536, .f32⟩ : BufTy).Contents (Elt Ideal))
    (x7 : (⟨S4x128x128, .f32⟩ : BufTy).Contents (Elt Ideal)) (x8 x9 x10 : (⟨S1x512, .f32⟩ : BufTy).Contents (Elt Ideal))
    (x11 : (⟨S8x128x128, .f32⟩ : BufTy).Contents (Elt Ideal)) (x12 : (⟨S8x128, .f32⟩ : BufTy).Contents (Elt Ideal))
    (x13 : (⟨S1024x1024, .f32⟩ : BufTy).Contents (Elt Ideal))
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (H : Args P x0 x1 x2 x3 x4 x5 x6 x7 x8 x9 x10 x11 x12 x13) : Args P y0 y1 y2 y3 y4 y5 y6 y7 y8 y9 y10 y11 y12 y13 := by
  subst e0 e1 e2 e3 e4 e5 e6 e7 e8 e9 e10 e11 e12 e13
  exact H

end Arguments

/-- The real arguments of device `c`. -/
abbrev realsAt (m : (l : Loc Cert.KernelIdeal.nD Cert.KernelIdeal.τ Cert.KernelIdeal.sig) → Buf (Elt Ideal) l)
    (c : Dev Cert.KernelIdeal.nD) : Params :=
  paramsOf (m (c, Proc.tc.devRef Cert.KernelIdeal.main_arg0)) (m (c, Proc.tc.devRef Cert.KernelIdeal.main_arg1)) (m (c, Proc.tc.devRef Cert.KernelIdeal.main_arg2)) (m (c, Proc.tc.devRef Cert.KernelIdeal.main_arg3)) (m (c, Proc.tc.devRef Cert.KernelIdeal.main_arg4)) (m (c, Proc.tc.devRef Cert.KernelIdeal.main_arg5)) (m (c, Proc.tc.devRef Cert.KernelIdeal.main_arg6)) (m (c, Proc.tc.devRef Cert.KernelIdeal.main_arg7)) (m (c, Proc.tc.devRef Cert.KernelIdeal.main_arg8)) (m (c, Proc.tc.devRef Cert.KernelIdeal.main_arg9)) (m (c, Proc.tc.devRef Cert.KernelIdeal.main_arg10)) (m (c, Proc.tc.devRef Cert.KernelIdeal.main_arg11)) (m (c, Proc.tc.devRef Cert.KernelIdeal.main_arg12)) (m (c, Proc.tc.devRef Cert.KernelIdeal.main_arg13))

attribute [local instance] finite_facts in
theorem holds_of_pre {m : (l : Loc Cert.KernelIdeal.nD Cert.KernelIdeal.τ Cert.KernelIdeal.sig) → Buf (Elt Ideal) l}
    (h : Cert.Pre_KernelIdeal_finite m) (c : Dev Cert.KernelIdeal.nD) : Holds m c (realsAt m c) :=
  args_of_finite _ _ _ _ _ _ _ _ _ _ _ _ _ _ (h c)

section Algebraic

attribute [local instance] Cert.KernelIdeal.Gen.facts Cert.ReferenceIdeal.Gen.facts finite_facts

set_option maxHeartbeats 2000000 in
open Cert.KernelIdeal.Gen Cert.KernelIdeal.Value in
theorem algebraic : Cert.algebraic_KernelIdeal_ReferenceIdeal_pre_finite := by
  intro m g m' g' hp ha
  refine ⟨fun c => (dats (F := Ideal) m 0 c).arrAt 12 Cert.KernelIdeal.cfg0.N, fun c => (dats (F := Ideal) m 0 c).arrAt 13 Cert.KernelIdeal.cfg0.N, fun c => (dats (F := Ideal) m 0 c).arrAt 14 Cert.KernelIdeal.cfg0.N, fun c => (dats (F := Ideal) m 0 c).arrAt 15 Cert.KernelIdeal.cfg0.N, fun c => (dats (F := Ideal) m 0 c).arrAt 16 Cert.KernelIdeal.cfg0.N, fun c => (dats (F := Ideal) m 0 c).arrAt 17 Cert.KernelIdeal.cfg0.N, fun c => (dats (F := Ideal) m 0 c).arrAt 18 Cert.KernelIdeal.cfg0.N, fun c => (dats (F := Ideal) m 0 c).arrAt 19 Cert.KernelIdeal.cfg0.N,
    run_blocks (F := Ideal) m g, ?_⟩
  refine (θ_run (Cert.ReferenceIdeal.defs (F := Ideal)) _ _).mono (fun r h c => ?_)
    (Cert.ReferenceIdeal.Value.run (F := Ideal) m' g')
  have H : Holds m c (realsAt m c) := holds_of_pre hp c
  have G := fun t => good H t
  obtain ⟨a0, a1, a2, a3, a4, a5, a6, a7, a8, a9, a10, a11, a12, a13⟩ := ha c
  have A := args_congr _ _ _ _ _ _ _ _ _ _ _ _ _ _ _ _ _ _ _ _ _ _ _ _ _ _ _ _ a0 a1 a2 a3 a4 a5 a6 a7 a8 a9 a10 a11 a12 a13 H
  obtain ⟨h0, h1, h2, h3, h4, h5, h6, h7, kept⟩ := h c
  refine ⟨?_, ?_, ?_, ?_, ?_, ?_, ?_, ?_, kept⟩
  · exact (h0.trans (Cert.ReferenceIdeal.Read.val_main_v357_eq (F := Ideal) (StableHlo.launchContents m' c))).trans
      ((funext (r357 A)).trans (dx_array G).symm)
  · exact (h1.trans (Cert.ReferenceIdeal.Read.val_main_v329_eq (F := Ideal) (StableHlo.launchContents m' c))).trans
      ((funext (r329 A)).trans (win_array G).symm)
  · exact (h2.trans (Cert.ReferenceIdeal.Read.val_main_v186_eq (F := Ideal) (StableHlo.launchContents m' c))).trans
      ((funext (r186 A)).trans (wout_array G).symm)
  · exact (h3.trans (Cert.ReferenceIdeal.Read.val_main_v260_eq (F := Ideal) (StableHlo.launchContents m' c))).trans
      ((funext (r260 A)).trans (pool_array G).symm)
  · exact (h4.trans (Cert.ReferenceIdeal.Read.val_main_v201_eq (F := Ideal) (StableHlo.launchContents m' c))).trans
      ((funext (r201 A)).trans (sp_array G).symm)
  · exact (h5.trans (Cert.ReferenceIdeal.Read.val_main_v196_eq (F := Ideal) (StableHlo.launchContents m' c))).trans
      ((funext (r196 A)).trans (dbsp_array G).symm)
  · exact (h6.trans (Cert.ReferenceIdeal.Read.val_main_v359_eq (F := Ideal) (StableHlo.launchContents m' c))).trans
      ((funext (r359 A)).trans (half_array G).symm)
  · exact (h7.trans (Cert.ReferenceIdeal.Read.val_main_v361_eq (F := Ideal) (StableHlo.launchContents m' c))).trans
      ((funext (r361 A)).trans (full_array G).symm)

end Algebraic

end MixBwd
-- ==== Proof.FfnTile.lean ====
/-
  The feed-forward half of the layer, entry by entry over the extended reals, and the kernel's operations on tiles:
  which array each one gives.
-/
module

public import proofs.«01_k».proof.Proof.Tile

@[expose] public section

noncomputable section

namespace FfnFwd

open Idealize.ShloMosaic Idealize.ShloMosaic.ValueIdx Idealize.SL.Sem MixBwd

/-! ### The mathematics -/

/-- The number that a constant of the programs stands for. -/
def lit (b : BitVec 32) : EReal := FloatOps.ofBits (F := Ideal) .f32 b

/-- The logistic function of the extended reals. -/
def sig (z : EReal) : EReal := FloatOps.logistic (F := Ideal) (φ := .f32) z

/-- What the feed-forward half of the layer is given: the rows, their modulation, the norm's weights and two matrices. -/
structure Net where
  x : ℕ → ℕ → EReal
  shift : ℕ → EReal
  scale : ℕ → EReal
  gate : ℕ → EReal
  gn : ℕ → EReal
  win : ℕ → ℕ → EReal
  wout : ℕ → ℕ → EReal

namespace Net

variable (N : Net)

/-- The mean square of a row. -/
def ms (i : ℕ) : EReal := FloatOps.divf (F := Ideal) (φ := .f32) (∑ k : Fin 1024, N.x i k * N.x i k) (lit 0x44800000#32)
/-- One over the root mean square of a row. -/
def r (i : ℕ) : EReal := FloatOps.rsqrt (F := Ideal) (φ := .f32) (N.ms i + lit 0x358637BD#32)
/-- The modulated norm of the rows. -/
def h (i j : ℕ) : EReal := N.x i j * N.r i * N.gn j * (lit 0x3F800000#32 + N.scale j) + N.shift j
/-- The first product. -/
def up (i j : ℕ) : EReal := ∑ k : Fin 1024, N.h i k * N.win k j
/-- Its first half, the gates. -/
def g (i j : ℕ) : EReal := N.up i j
/-- Its second half. -/
def u (i j : ℕ) : EReal := N.up i (2816 + j)
/-- The gated units. -/
def a (i j : ℕ) : EReal := N.g i j * sig (N.g i j) * N.u i j
/-- The second product over the first `n` units. -/
def part (n i j : ℕ) : EReal := ∑ k ∈ Finset.range n, N.a i k * N.wout k j
/-- What the half adds to the rows. -/
def y (i j : ℕ) : EReal := N.part 2816 i j
/-- The rows after it. -/
def xo (i j : ℕ) : EReal := N.x i j + lit 0x3F000000#32 * N.gate j * N.y i j

/-- The first matrix as the kernel is given it: two groups of columns, the gates' before the others' in each. -/
def wgu (l i j : ℕ) : EReal := if j < 1408 then N.win i (1408 * l + j) else N.win i (2816 + (1408 * l + (j - 1408)))
/-- The second matrix as the kernel is given it: two groups of rows. -/
def wo (l i j : ℕ) : EReal := N.wout (1408 * l + i) j

theorem part_step (l i j : ℕ) :
    N.part (1408 * (l + 1)) i j = N.part (1408 * l) i j + ∑ k : Fin 1408, N.a i (1408 * l + k) * N.wo l k j := by
  unfold part wo
  rw [Nat.mul_succ, Finset.sum_range_add, Finset.sum_range (n := 1408) (f := fun k => N.a i (1408 * l + k) * N.wout (1408 * l + k) j)]

theorem part_zero (i j : ℕ) : N.part 0 i j = 0 := by simp [part]

end Net

/-! ### Tiles -/

/-- The matrix `v` holds the numbers `f`. -/
def X2 {n m : ℕ} (v : (⟨2, ![n, m]⟩ : Shape).Idx → EReal) (f : ℕ → ℕ → EReal) : Prop := ∀ i, v i = f (i 0).val (i 1).val

/-- The stack of matrices `v` holds the numbers `f`. -/
def X3 {l n m : ℕ} (v : (⟨3, ![l, n, m]⟩ : Shape).Idx → EReal) (f : ℕ → ℕ → ℕ → EReal) : Prop :=
  ∀ i, v i = f (i 0).val (i 1).val (i 2).val

variable {n m : ℕ}

theorem X2.congr {v : (⟨2, ![n, m]⟩ : Shape).Idx → EReal} {f g : ℕ → ℕ → EReal} (h : X2 v f)
    (e : ∀ i j, i < n → j < m → f i j = g i j) : X2 v g :=
  fun i => (h i).trans (e _ _ (i 0).isLt (i 1).isLt)

theorem X3.congr {l : ℕ} {v : (⟨3, ![l, n, m]⟩ : Shape).Idx → EReal} {f g : ℕ → ℕ → ℕ → EReal} (h : X3 v f)
    (e : ∀ k i j, k < l → i < n → j < m → f k i j = g k i j) : X3 v g :=
  fun i => (h i).trans (e _ _ _ (i 0).isLt (i 1).isLt (i 2).isLt)

theorem X2.eq {v w : (⟨2, ![n, m]⟩ : Shape).Idx → EReal} {f : ℕ → ℕ → EReal} (h : X2 v f) (h' : X2 w f) : v = w :=
  funext fun i => (h i).trans (h' i).symm

section Pointwise

variable {a b : FVec Ideal ⟨2, ![n, m]⟩ .f32} {f g : ℕ → ℕ → EReal}

theorem X2.add (ha : X2 a f) (hb : X2 b g) : X2 (addf a b) (fun i j => f i j + g i j) :=
  fun i => congrArg₂ (FloatOps.addf (F := Ideal) (φ := .f32)) (ha i) (hb i)
theorem X2.sub (ha : X2 a f) (hb : X2 b g) : X2 (subf a b) (fun i j => f i j - g i j) :=
  fun i => congrArg₂ (FloatOps.subf (F := Ideal) (φ := .f32)) (ha i) (hb i)
theorem X2.mul (ha : X2 a f) (hb : X2 b g) : X2 (mulf a b) (fun i j => f i j * g i j) :=
  fun i => congrArg₂ (FloatOps.mulf (F := Ideal) (φ := .f32)) (ha i) (hb i)
theorem X2.div (ha : X2 a f) (hb : X2 b g) :
    X2 (divf a b) (fun i j => FloatOps.divf (F := Ideal) (φ := .f32) (f i j) (g i j)) :=
  fun i => congrArg₂ (FloatOps.divf (F := Ideal) (φ := .f32)) (ha i) (hb i)
theorem X2.rsqrt (ha : X2 a f) : X2 (Idealize.ShloMosaic.rsqrt a) (fun i j => FloatOps.rsqrt (F := Ideal) (φ := .f32) (f i j)) :=
  fun i => congrArg (FloatOps.rsqrt (F := Ideal) (φ := .f32)) (ha i)
theorem X2.sig (ha : X2 a f) : X2 (logistic a) (fun i j => sig (f i j)) :=
  fun i => congrArg (FloatOps.logistic (F := Ideal) (φ := .f32)) (ha i)
theorem X2.const (b : BitVec 32) :
    X2 (broadcast (⟨2, ![n, m]⟩ : Shape) (Scalar.ofBits (F := Ideal) .f32 b)) (fun _ _ => lit b) := fun _ => rfl

end Pointwise

section Shape

variable {a : FVec Ideal ⟨2, ![n, m]⟩ .f32} {f : ℕ → ℕ → EReal}

theorem X2.cast (ha : X2 a f) (h : (⟨2, ![n, m]⟩ : Shape).ShapeCasts ⟨2, ![n, m]⟩) : X2 (shapeCast ⟨2, ![n, m]⟩ a h) f := by
  rw [shapeCast_self]; exact ha

theorem X3.drop {f : ℕ → ℕ → ℕ → EReal} {w : (⟨3, ![1, n, m]⟩ : Shape).Idx → EReal} (hw : X3 w f)
    (h : (⟨3, ![1, n, m]⟩ : Shape).ShapeCasts ⟨2, ![n, m]⟩) : X2 (shapeCast ⟨2, ![n, m]⟩ w h) (fun i j => f 0 i j) :=
  fun i => by
    obtain ⟨p, q, rfl⟩ := ex2 i
    rw [shapeCast_1ab_ab_apply, hw]
    rfl

theorem X2.row {v : (⟨2, ![1, m]⟩ : Shape).Idx → EReal} (hv : X2 v f) (h : (⟨2, ![1, m]⟩ : Shape).Broadcasts ⟨2, ![n, m]⟩) :
    X2 (broadcastTo ⟨2, ![n, m]⟩ v h) (fun _ j => f 0 j) := fun i => by
  refine (broadcastTo_apply v h i (ValueIdx.ix2 (0 : Fin 1) (i 1)) fun a => ?_).trans (hv _)
  match a with
  | ⟨0, _⟩ => rfl
  | ⟨1, _⟩ =>
    show (i 1).val = if m = 1 then 0 else (i 1).val
    split_ifs with e
    · have : (i 1).val < m := (i 1).isLt
      omega
    · rfl

theorem X2.column {v : (⟨2, ![n, 1]⟩ : Shape).Idx → EReal} (hv : X2 v f) (h : (⟨2, ![n, 1]⟩ : Shape).Broadcasts ⟨2, ![n, m]⟩) :
    X2 (broadcastTo ⟨2, ![n, m]⟩ v h) (fun i _ => f i 0) := fun i => by
  refine (broadcastTo_apply v h i (ValueIdx.ix2 (i 0) (0 : Fin 1)) fun a => ?_).trans (hv _)
  match a with
  | ⟨0, _⟩ =>
    show (i 0).val = if n = 1 then 0 else (i 0).val
    split_ifs with e
    · have : (i 0).val < n := (i 0).isLt
      omega
    · rfl
  | ⟨1, _⟩ => rfl

theorem X2.slice (ha : X2 a f) {n' m' r c : ℕ} (h : (⟨2, ![n, m]⟩ : Shape).Slices ![r, c] ⟨2, ![n', m']⟩) :
    X2 (extractStridedSlice ⟨2, ![n', m']⟩ ![r, c] a h) (fun i j => f (r + i) (c + j)) := fun i => by
  have h0 := h.2 0
  have h1 := h.2 1
  change r + n' ≤ n at h0
  change c + m' ≤ m at h1
  have i0 : (i 0).val < n' := (i 0).isLt
  have i1 : (i 1).val < m' := (i 1).isLt
  exact (extractStridedSlice_apply ![r, c] a h i (ValueIdx.ix2 (⟨r + (i 0).val, by omega⟩ : Fin n) (⟨c + (i 1).val, by omega⟩ : Fin m))
    fun k => by match k with
      | ⟨0, _⟩ => rfl
      | ⟨1, _⟩ => rfl).trans (ha _)

/-- A load of part of a matrix. -/
theorem X2.ld (ha : X2 a f) {n' m' r c : ℕ} (inb : ∀ k, ![r, c] k + ![n', m'] k ≤ (⟨2, ![n, m]⟩ : Shape).size k) :
    X2 (n := n') (m := m')
      (View.ld (Val := Elt Ideal) (e' := .f32) (S := ⟨2, ![n, m]⟩) a (Rect.unit (s := ⟨2, ![n, m]⟩) ![r, c] ![n', m'] inb))
      (fun i j => f (r + i) (c + j)) := fun i => by
  have h0 := inb 0
  have h1 := inb 1
  change r + n' ≤ n at h0
  change c + m' ≤ m at h1
  have i0 : (i 0).val < n' := (i 0).isLt
  have i1 : (i 1).val < m' := (i 1).isLt
  exact (View.ld_unit_apply_of (Val := Elt Ideal) (e := .f32) a ![r, c] ![n', m'] inb i
    (ValueIdx.ix2 (⟨r + (i 0).val, by omega⟩ : Fin n) (⟨c + (i 1).val, by omega⟩ : Fin m)) fun k => by match k with
      | ⟨0, _⟩ => rfl
      | ⟨1, _⟩ => rfl).trans (ha _)

/-- A load of one matrix of a stack, whichever way the offsets are written. -/
theorem X3.ld {l : ℕ} {a : (⟨3, ![l, n, m]⟩ : Shape).Idx → EReal} {f : ℕ → ℕ → ℕ → EReal} (ha : X3 a f) {p : ℕ} {o : Fin 3 → ℕ}
    (ho : o = ![p, 0, 0]) (inb : ∀ k, o k + ![1, n, m] k ≤ (⟨3, ![l, n, m]⟩ : Shape).size k) :
    X3 (l := 1) (n := n) (m := m) (View.ld (Val := Elt Ideal) (e' := .bf16) (S := ⟨3, ![l, n, m]⟩) a
      (Rect.unit (s := ⟨3, ![l, n, m]⟩) o ![1, n, m] inb)) (fun k i j => f (p + k) i j) := fun i => by
  subst ho
  have h0 := inb 0
  change p + 1 ≤ l at h0
  have i0 : (i 0).val < 1 := (i 0).isLt
  have i1 : (i 1).val < n := (i 1).isLt
  have i2 : (i 2).val < m := (i 2).isLt
  exact (View.ld_unit_apply_of (Val := Elt Ideal) (e := .bf16) a ![p, 0, 0] ![1, n, m] inb i
    (ValueIdx.ix3 (⟨p + (i 0).val, by omega⟩ : Fin l) (⟨(i 1).val, by omega⟩ : Fin n) (⟨(i 2).val, by omega⟩ : Fin m))
    fun k => by match k with
      | ⟨0, _⟩ => rfl
      | ⟨1, _⟩ => exact (Nat.zero_add _).symm
      | ⟨2, _⟩ => exact (Nat.zero_add _).symm).trans (ha _)

/-- The row sums, as a column. -/
theorem X2.rowSum (ha : X2 a f) (h : (⟨2, ![n, m]⟩ : Shape).Reduces [1] ⟨1, ![n]⟩) (hφ : FKind.Formats FTy.f32)
    (hacc : 0x00000000#32 = FKind.add.neutral FTy.f32 hφ) (hc : (⟨1, ![n]⟩ : Shape).ShapeCasts ⟨2, ![n, 1]⟩) :
    X2 (shapeCast ⟨2, ![n, 1]⟩ (multiReduction (F := Ideal) (φ := .f32) .add [1] ⟨1, ![n]⟩ a 0x00000000#32 h hφ hacc) hc)
      (fun i _ => ∑ k : Fin m, f i k) := fun i => by
  obtain ⟨p, q, rfl⟩ := ex2 i
  rw [shapeCast_a_a1_apply, Ideal.multiReduction_add_single]
  exact Finset.sum_congr rfl fun k _ => ha _

/-- Rows by columns. -/
theorem X2.mm {k : ℕ} {g : ℕ → ℕ → EReal} {a : (⟨2, ![n, k]⟩ : Shape).Idx → EReal} {b : (⟨2, ![k, m]⟩ : Shape).Idx → EReal}
    (ha : X2 a f) (hb : X2 b g) (wf : DotDims.WF ⟨2, ![n, k]⟩ ⟨2, ![k, m]⟩ ⟨2, ![n, m]⟩ [1] [0] [0] [1] [] []) :
    X2 (Ideal.matmul ⟨[1], [0], [0], [1], [], [], wf⟩ a b (constant (F := Ideal) ⟨2, ![n, m]⟩ .f32 0x00000000#32))
      (fun i j => ∑ t : Fin k, f i t * g t j) := fun i => by
  rw [Ideal.matmul_apply₁ _ rfl rfl]
  refine (congrArg₂ (· + ·) (w_zero.trans EReal.coe_zero) (Finset.sum_congr rfl fun t _ => congrArg₂ (· * ·) (ha _) (hb _))).trans ?_
  exact zero_add _

end Shape

end FfnFwd

end
-- ==== Proof.FfnHost.lean ====
/-
  The parameters of the feed-forward half as the host packs them: vectors in rows of a table, and the two matrices cut
  into groups.
-/
module

public import proofs.«01_k».proof.Proof.FfnTile
public import Idealize.ShloMosaic.Lib.StableHlo.RunRead

@[expose] public section

noncomputable section

namespace FfnFwd

open Idealize.ShloMosaic Idealize.SL.Sem MixBwd

/-! The concatenations of arrays, with the arrays as arguments. -/

def join2 {α : Type} (t : Shape) (d : Fin t.rank) (s0 s1 : Shape) (a : s0.Idx → α) (b : s1.Idx → α)
    (h : Shape.Concatenates [s0, s1] t d) : t.Idx → α := concatenate t d [⟨s0, a⟩, ⟨s1, b⟩] h

theorem join2_eq {α : Type} (t : Shape) (d : Fin t.rank) (s0 s1 : Shape) (a : s0.Idx → α) (b : s1.Idx → α)
    (h : Shape.Concatenates [s0, s1] t d) : concatenate t d [⟨s0, a⟩, ⟨s1, b⟩] h = join2 t d s0 s1 a b h := rfl

def join5 {α : Type} (t : Shape) (d : Fin t.rank) (s0 s1 s2 s3 s4 : Shape) (a : s0.Idx → α) (b : s1.Idx → α) (e : s2.Idx → α)
    (f : s3.Idx → α) (g : s4.Idx → α) (h : Shape.Concatenates [s0, s1, s2, s3, s4] t d) : t.Idx → α :=
  concatenate t d [⟨s0, a⟩, ⟨s1, b⟩, ⟨s2, e⟩, ⟨s3, f⟩, ⟨s4, g⟩] h

theorem join5_eq {α : Type} (t : Shape) (d : Fin t.rank) (s0 s1 s2 s3 s4 : Shape) (a : s0.Idx → α) (b : s1.Idx → α) (e : s2.Idx → α)
    (f : s3.Idx → α) (g : s4.Idx → α) (h : Shape.Concatenates [s0, s1, s2, s3, s4] t d) :
    concatenate t d [⟨s0, a⟩, ⟨s1, b⟩, ⟨s2, e⟩, ⟨s3, f⟩, ⟨s4, g⟩] h = join5 t d s0 s1 s2 s3 s4 a b e f g h := rfl

/-- A row of a table whose first rows are given one by one. -/
theorem X2.rows {c : ℕ} {x0 x1 x2 x3 : (⟨2, ![1, c]⟩ : Shape).Idx → EReal} {y : (⟨2, ![4, c]⟩ : Shape).Idx → EReal}
    {f0 f1 f2 f3 : ℕ → EReal} (h0 : X2 x0 (fun _ j => f0 j)) (h1 : X2 x1 (fun _ j => f1 j)) (h2 : X2 x2 (fun _ j => f2 j))
    (h3 : X2 x3 (fun _ j => f3 j))
    (h : Shape.Concatenates [⟨2, ![1, c]⟩, ⟨2, ![1, c]⟩, ⟨2, ![1, c]⟩, ⟨2, ![1, c]⟩, ⟨2, ![4, c]⟩] ⟨2, ![8, c]⟩ 0)
    (p : Fin 8) (q : Fin c) (hp : p.val < 4) :
    join5 ⟨2, ![8, c]⟩ 0 ⟨2, ![1, c]⟩ ⟨2, ![1, c]⟩ ⟨2, ![1, c]⟩ ⟨2, ![1, c]⟩ ⟨2, ![4, c]⟩ x0 x1 x2 x3 y h (ValueIdx.ix2 p q)
      = if p.val = 0 then f0 q else if p.val = 1 then f1 q else if p.val = 2 then f2 q else f3 q := by
  unfold join5
  let xs : List ((s : Shape) × (s.Idx → EReal)) :=
    [⟨⟨2, ![1, c]⟩, x0⟩, ⟨⟨2, ![1, c]⟩, x1⟩, ⟨⟨2, ![1, c]⟩, x2⟩, ⟨⟨2, ![1, c]⟩, x3⟩, ⟨⟨2, ![4, c]⟩, y⟩]
  have col : ∀ b : Fin 2, b ≠ 0 → (ValueIdx.ix2 (0 : Fin 1) q b).val = (ValueIdx.ix2 p q b).val := fun b hb => by
    match b with
    | ⟨0, _⟩ => exact absurd rfl hb
    | ⟨1, _⟩ => rfl
  rcases (by omega : p.val = 0 ∨ p.val = 1 ∨ p.val = 2 ∨ p.val = 3) with e | e | e | e
  · refine (concatenate_apply_piece 0 xs h (ValueIdx.ix2 p q) 0 (by show 0 < 5; norm_num) ⟨2, ![1, c]⟩ x0 rfl rfl 0 rfl (ValueIdx.ix2 (0 : Fin 1) q)
      col (by show 0 + 0 = p.val; omega)).trans ((h0 _).trans ?_)
    rw [if_pos e]; rfl
  · refine (concatenate_apply_piece 0 xs h (ValueIdx.ix2 p q) 1 (by show 1 < 5; norm_num) ⟨2, ![1, c]⟩ x1 rfl rfl 1 rfl (ValueIdx.ix2 (0 : Fin 1) q)
      col (by show 1 + 0 = p.val; omega)).trans ((h1 _).trans ?_)
    rw [if_neg (by omega), if_pos e]; rfl
  · refine (concatenate_apply_piece 0 xs h (ValueIdx.ix2 p q) 2 (by show 2 < 5; norm_num) ⟨2, ![1, c]⟩ x2 rfl rfl 2 rfl (ValueIdx.ix2 (0 : Fin 1) q)
      col (by show 2 + 0 = p.val; omega)).trans ((h2 _).trans ?_)
    rw [if_neg (by omega), if_neg (by omega), if_pos e]; rfl
  · refine (concatenate_apply_piece 0 xs h (ValueIdx.ix2 p q) 3 (by show 3 < 5; norm_num) ⟨2, ![1, c]⟩ x3 rfl rfl 3 rfl (ValueIdx.ix2 (0 : Fin 1) q)
      col (by show 3 + 0 = p.val; omega)).trans ((h3 _).trans ?_)
    rw [if_neg (by omega), if_neg (by omega), if_neg (by omega)]; rfl

/-- The first matrix in two groups of columns. -/
theorem X2.wide {N : Net} {w : (⟨2, ![1024, 5632]⟩ : Shape).Idx → EReal} (hw : X2 w N.win)
    (h1 : (⟨2, ![1024, 5632]⟩ : Shape).ShapeCasts ⟨4, ![1024, 2, 2, 1408]⟩)
    (h2 : (⟨4, ![1024, 2, 2, 1408]⟩ : Shape).Transposes [2, 0, 1, 3] ⟨4, ![2, 1024, 2, 1408]⟩)
    (h3 : (⟨4, ![2, 1024, 2, 1408]⟩ : Shape).ShapeCasts ⟨3, ![2, 1024, 2816]⟩) :
    X3 (shapeCast ⟨3, ![2, 1024, 2816]⟩ (transpose ⟨4, ![2, 1024, 2, 1408]⟩ [2, 0, 1, 3] (shapeCast ⟨4, ![1024, 2, 2, 1408]⟩ w h1) h2) h3)
      N.wgu := fun i => by
  obtain ⟨l, p, q, rfl⟩ := ex3 i
  have hl := l.isLt
  have hq := q.isLt
  have key : ∀ (e : Fin 2) (c : Fin 1408), q.val = 1408 * e.val + c.val →
      shapeCast ⟨3, ![2, 1024, 2816]⟩ (transpose ⟨4, ![2, 1024, 2, 1408]⟩ [2, 0, 1, 3] (shapeCast ⟨4, ![1024, 2, 2, 1408]⟩ w h1) h2) h3
        (ValueIdx.ix3 l p q) = N.win p.val (2816 * e.val + (1408 * l.val + c.val)) := fun e c hc => by
    have he := e.isLt
    have hc' := c.isLt
    rw [shapeCast_apply _ h3 (ValueIdx.ix3 l p q) (ValueIdx.ix4 l p e c) (by
      rw [Shape.rowMajor_val_four, Shape.rowMajor_val_three]
      show ((l.val * 1024 + p.val) * 2 + e.val) * 1408 + c.val = (l.val * 1024 + p.val) * 2816 + q.val
      omega)]
    rw [transpose_apply [2, 0, 1, 3] _ h2 (ValueIdx.ix4 l p e c) (ValueIdx.ix4 p e l c) (fun b => by
      match b with
      | ⟨0, _⟩ => rfl
      | ⟨1, _⟩ => rfl
      | ⟨2, _⟩ => rfl
      | ⟨3, _⟩ => rfl)]
    rw [shapeCast_apply _ h1 (ValueIdx.ix4 p e l c) (ValueIdx.ix2 p (⟨2816 * e.val + (1408 * l.val + c.val), by omega⟩ : Fin 5632)) (by
      rw [Shape.rowMajor_val_four, Shape.rowMajor_val_two]
      show p.val * 5632 + (2816 * e.val + (1408 * l.val + c.val)) = ((p.val * 2 + e.val) * 2 + l.val) * 1408 + c.val
      omega)]
    exact hw _
  show _ = N.wgu l.val p.val q.val
  unfold Net.wgu
  by_cases hj : q.val < 1408
  · rw [if_pos hj, key 0 ⟨q.val, hj⟩ (by show q.val = 1408 * 0 + q.val; omega)]
    exact congrArg _ (Nat.zero_add _)
  · rw [if_neg hj, key 1 ⟨q.val - 1408, by omega⟩ (by show q.val = 1408 * 1 + (q.val - 1408); omega)]
    rfl

/-- The second matrix in two groups of rows. -/
theorem X2.tall {N : Net} {w : (⟨2, ![2816, 1024]⟩ : Shape).Idx → EReal} (hw : X2 w N.wout)
    (h1 : (⟨2, ![2816, 1024]⟩ : Shape).ShapeCasts ⟨3, ![2, 1408, 1024]⟩) :
    X3 (shapeCast ⟨3, ![2, 1408, 1024]⟩ w h1) N.wo := fun i => by
  obtain ⟨l, p, q, rfl⟩ := ex3 i
  have hl := l.isLt
  have hp := p.isLt
  rw [shapeCast_apply _ h1 (ValueIdx.ix3 l p q) (ValueIdx.ix2 (⟨1408 * l.val + p.val, by omega⟩ : Fin 2816) q) (by
      rw [Shape.rowMajor_val_three, Shape.rowMajor_val_two]
      show (1408 * l.val + p.val) * 1024 + q.val = (l.val * 1408 + p.val) * 1024 + q.val
      omega)]
  exact hw _

end FfnFwd

end
-- ==== Proof.Ffn2Pay.lean ====
/-
  What the feed-forward kernel without a loss computes at a point of its grid.
-/
module

public import proofs.«01_k».proof.Proof.FfnTile
public import proofs.«01_k».proof.Proof.Gen.Kernel2Ideal.Value

@[expose] public section

set_option maxRecDepth 65536

noncomputable section

namespace Ffn2

open Idealize.ShloMosaic Idealize.SL.Sem MixBwd FfnFwd Cert.Kernel2Ideal Cert.Kernel2Ideal.Gen

variable {N : Net} {b l : ℕ}

section Up

variable {v5 : FVec Ideal S512x1024 .f32} {v6 v8 v10 : FVec Ideal S1x1024 .f32} {v32 : FVec Ideal S1x1024x2816 .bf16}
  (hx : X2 v5 (fun i j => N.x (b + i) j)) (hg : X2 v6 (fun _ j => N.gn j)) (hs : X2 v8 (fun _ j => N.scale j))
  (ht : X2 v10 (fun _ j => N.shift j)) (hw : X3 v32 (fun _ i j => N.wgu l i j))

include hx hg hs ht hw

theorem pay5_x : X2 (k0_pay5 (F := Ideal) v5 v6 v8 v10 v32) (fun i j => ∑ k : Fin 1024, N.h (b + i) k * N.wgu l k j) := by
  have hr := ((((hx.mul hx).rowSum reduces_S512x1024_S512 (.inl rfl) rfl shapeCasts_S512_S512x1).div (X2.const 0x44800000#32)).add
    (X2.const 0x358637BD#32)).rsqrt.column broadcasts_S512x1_S512x1024
  have hh := (((hx.mul hr).mul ((hg.cast shapeCasts_S1x1024_S1x1024).row broadcasts_S1x1024_S512x1024)).mul
    (((X2.const 0x3F800000#32).add (hs.cast shapeCasts_S1x1024_S1x1024)).row broadcasts_S1x1024_S512x1024)).add
    ((ht.cast shapeCasts_S1x1024_S1x1024).row broadcasts_S1x1024_S512x1024)
  exact hh.mm (hw.drop shapeCasts_S1x1024x2816_S1024x2816) _

theorem pay6_x : X2 (k0_pay6 (F := Ideal) v5 v6 v8 v10 v32) (fun i j => N.g (b + i) (1408 * l + j)) := by
  refine ((pay5_x hx hg hs ht hw).slice slices_S512x2816_o0_0_S512x1408).congr fun i j _ hj => ?_
  show (∑ k : Fin 1024, N.h (b + (0 + i)) k * N.wgu l k (0 + j)) = ∑ k : Fin 1024, N.h (b + i) k * N.win k (1408 * l + j)
  refine Finset.sum_congr rfl fun k _ => ?_
  rw [Nat.zero_add, Nat.zero_add, Net.wgu, if_pos hj]

theorem pay7_x : X2 (k0_pay7 (F := Ideal) v5 v6 v8 v10 v32) (fun i j => N.u (b + i) (1408 * l + j)) := by
  refine ((pay5_x hx hg hs ht hw).slice slices_S512x2816_o0_1408_S512x1408).congr fun i j _ hj => ?_
  show (∑ k : Fin 1024, N.h (b + (0 + i)) k * N.wgu l k (1408 + j)) = ∑ k : Fin 1024, N.h (b + i) k * N.win k (2816 + (1408 * l + j))
  refine Finset.sum_congr rfl fun k _ => ?_
  rw [Nat.zero_add, Net.wgu, if_neg (by omega), Nat.add_sub_cancel_left]

end Up

section Down

variable {v36 v38 : FVec Ideal S512x1408 .bf16} {v48 : FVec Ideal S512x1024 .f32} {v52 : FVec Ideal S1x1408x1024 .bf16}
  (hg : X2 v36 (fun i j => N.g (b + i) (1408 * l + j))) (hu : X2 v38 (fun i j => N.u (b + i) (1408 * l + j)))
  (hw : X3 v52 (fun _ i j => N.wo l i j)) (hl : l < 2) (ha : l = 1 → X2 v48 (fun i j => N.part (1408 * l) (b + i) j))

include hg hu hw hl ha

theorem pay1_x : X2 (k0_pay1 (F := Ideal) (BitVec.ofNat 32 l) v36 v38 v48 v52) (fun i j => N.part (1408 * (l + 1)) (b + i) j) := by
  have hd := (((X2.mul (a := v36) hg (X2.sig (a := v36) hg)).mul hu).mm (hw.drop shapeCasts_S1x1408x1024_S1408x1024)
    dot_S512x1408_S1408x1024_S512x1024_1_0_0_1_n_n.wf)
  have h0 : X2 (Scalar.select (Scalar.cmpi .eq (BitVec.ofNat 32 l) 0#32) (broadcast S512x1024 (Scalar.ofBits (F := Ideal) .f32 0x00000000#32)) v48)
      (fun i j => N.part (1408 * l) (b + i) j) := by
    rcases (by omega : l = 0 ∨ l = 1) with rfl | rfl
    · intro i
      exact (w_zero.trans EReal.coe_zero).trans (N.part_zero _ _).symm
    · exact ha rfl
  exact (h0.add hd).congr fun i j _ _ => (N.part_step l _ _).symm

theorem pay2_x : X2 (k0_pay2 (F := Ideal) (BitVec.ofNat 32 l) v36 v38 v48 v52) (fun i j => N.part (1408 * (l + 1)) (b + i) j) :=
  (pay1_x hg hu hw hl ha).cast shapeCasts_S512x1024_S512x1024

theorem pay3_x {v59 : FVec Ideal S512x1024 .f32} {v60 : FVec Ideal S1x1024 .f32} (hx : X2 v59 (fun i j => N.x (b + i) j))
    (hq : X2 v60 (fun _ j => N.gate j)) : X2 (k0_pay3 (F := Ideal) (BitVec.ofNat 32 l) v36 v38 v48 v52 v59 v60)
      (fun i j => N.x (b + i) j + lit 0x3F000000#32 * N.gate j * N.part (1408 * (l + 1)) (b + i) j) :=
  hx.add ((((X2.const 0x3F000000#32).mul (hq.cast shapeCasts_S1x1024_S1x1024)).row broadcasts_S1x1024_S512x1024).mul
    (pay1_x hg hu hw hl ha))

end Down

end Ffn2

end
-- ==== Proof.Ffn2Host.lean ====
/-
  What the feed-forward kernel without a loss is given: the table of rows, the two matrices in groups, and the blocks of a
  point of its grid.
-/
module

public import proofs.«01_k».proof.Proof.FfnHost
public import proofs.«01_k».proof.Proof.Ffn2Pay
public import Idealize.ShloMosaic.Lib.Claim

@[expose] public section

set_option maxRecDepth 65536

noncomputable section

namespace Ffn2

open Idealize.ShloMosaic Idealize.SL.Sem MixBwd FfnFwd Cert.Kernel2Ideal Cert.Kernel2Ideal.Gen

variable {m : (l : Loc nD τ sig) → Buf (Elt Ideal) l} {c : Dev nD} {N : Net}

/-- The memory holds the arguments `N`. -/
structure Holds (m : (l : Loc nD τ sig) → Buf (Elt Ideal) l) (c : Dev nD) (N : Net) : Prop where
  x : X2 (n := 8192) (m := 1024) (m (c, Proc.tc.devRef main_arg0)) N.x
  shift : X2 (n := 1) (m := 1024) (m (c, Proc.tc.devRef main_arg1)) (fun _ j => N.shift j)
  scale : X2 (n := 1) (m := 1024) (m (c, Proc.tc.devRef main_arg2)) (fun _ j => N.scale j)
  gate : X2 (n := 1) (m := 1024) (m (c, Proc.tc.devRef main_arg3)) (fun _ j => N.gate j)
  gn : X2 (n := 1) (m := 1024) (m (c, Proc.tc.devRef main_arg4)) (fun _ j => N.gn j)
  win : X2 (n := 1024) (m := 5632) (m (c, Proc.tc.devRef main_arg5)) N.win
  wout : X2 (n := 2816) (m := 1024) (m (c, Proc.tc.devRef main_arg6)) N.wout

theorem table (H : Holds m c N) (p : Fin 8) (q : Fin 1024) (hp : p.val < 4) : (V (F := Ideal) m c main_v1 : S8x1024.Idx → EReal) (ValueIdx.ix2 p q)
    = if p.val = 0 then N.shift q else if p.val = 1 then N.scale q else if p.val = 2 then N.gate q else N.gn q := by
  have e : V (F := Ideal) m c main_v1 = (join5 S8x1024 0 S1x1024 S1x1024 S1x1024 S1x1024 S4x1024 (m (c, Proc.tc.devRef main_arg1))
      (m (c, Proc.tc.devRef main_arg2)) (m (c, Proc.tc.devRef main_arg3)) (m (c, Proc.tc.devRef main_arg4))
      (broadcastInDim S4x1024 ![] bcast_S_S4x1024 (constant (F := Ideal) S_ .f32 0x00000000#32))
      concatenates_S1x1024_S1x1024_S1x1024_S1x1024_S4x1024_S8x1024_d0 : S8x1024.Idx → EReal) := by
    after_reads_simp [join2_eq, join5_eq, Matrix.cons_val]
  rw [e]
  exact X2.rows H.shift H.scale H.gate H.gn _ p q hp

theorem wgu (H : Holds m c N) : X3 (l := 2) (n := 1024) (m := 2816) (V (F := Ideal) m c main_v5) N.wgu := by
  have e : V (F := Ideal) m c main_v5 = (shapeCast S2x1024x2816 (transpose S2x1024x2x1408 [2, 0, 1, 3]
      (shapeCast S1024x2x2x1408 (m (c, Proc.tc.devRef main_arg5)) shapeCasts_S1024x5632_S1024x2x2x1408)
      transposes_S1024x2x2x1408_S2x1024x2x1408_2_0_1_3) shapeCasts_S2x1024x2x1408_S2x1024x2816 : S2x1024x2816.Idx → EReal) := by
    entry_read
    after_reads_simp [join2_eq, join5_eq, Matrix.cons_val]
    rfl
  rw [e]
  exact X2.wide H.win _ _ _

theorem wo (H : Holds m c N) : X3 (l := 2) (n := 1408) (m := 1024) (V (F := Ideal) m c main_v7) N.wo := by
  have e : V (F := Ideal) m c main_v7 = (shapeCast S2x1408x1024 (m (c, Proc.tc.devRef main_arg6))
      shapeCasts_S2816x1024_S2x1408x1024 : S2x1408x1024.Idx → EReal) := by
    entry_read
    rfl
  rw [e]
  exact X2.tall H.wout _

theorem index_in : ∀ t : Fin cfg0.N,
    (win0_0.index t 0 = t.val / 2 ∧ win0_0.index t 1 = 0) ∧ (win0_1.index t 0 = 0 ∧ win0_1.index t 1 = 0) := by
  decide +kernel

theorem x_block (H : Holds m c N) (t : Fin cfg0.N) :
    X2 (n := 512) (m := 1024) (iblk (F := Ideal) m c 0 t) (fun i j => N.x (512 * (t.val / 2) + i) j) := by
  intro y
  blk_simp [iblk]
  have e : X2 (n := 8192) (m := 1024) (V (F := Ideal) m c main_arg0) N.x := by rw [V_main_arg0]; exact H.x
  refine (e _).trans ?_
  blk_simp
  obtain ⟨i0, i1⟩ := (index_in t).1
  rw [i0, i1, zero_mul, zero_add, Nat.mul_comm (t.val / 2)]

theorem table_block (H : Holds m c N) (t : Fin cfg0.N) (p : Fin 8) (q : Fin 1024) (hp : p.val < 4) :
    (iblk (F := Ideal) m c 1 t : S8x1024.Idx → EReal) (ValueIdx.ix2 p q)
      = if p.val = 0 then N.shift q else if p.val = 1 then N.scale q else if p.val = 2 then N.gate q else N.gn q := by
  blk_simp [iblk]
  refine Eq.trans (congrArg (V (F := Ideal) m c main_v1 : S8x1024.Idx → EReal) (funext fun a => Fin.ext ?_)) (table H p q hp)
  obtain ⟨i0, i1⟩ := (index_in t).2
  match a with
  | ⟨0, _⟩ => blk_simp; rw [i0]; simp
  | ⟨1, _⟩ => blk_simp; rw [i1]; simp

/-- A row of the table as the kernel loads it. -/
theorem row_block (H : Holds m c N) (t : Fin cfg0.N) {r : ℕ} (hr : r < 4)
    (inb : ∀ k, ![r, 0] k + ![1, 1024] k ≤ S8x1024.size k) {f : ℕ → EReal}
    (hf : f = fun j => if r = 0 then N.shift j else if r = 1 then N.scale j else if r = 2 then N.gate j else N.gn j) :
    X2 (n := 1) (m := 1024)
      (View.ld (Val := Elt Ideal) (e' := .f32) (S := S8x1024) (iblk (F := Ideal) m c 1 t) (Rect.unit (s := S8x1024) ![r, 0] ![1, 1024] inb))
      (fun _ j => f j) := fun i => by
  subst hf
  have i0 : (i 0).val < 1 := (i 0).isLt
  have i1 : (i 1).val < 1024 := (i 1).isLt
  exact (View.ld_unit_apply_of (Val := Elt Ideal) (e := .f32) (iblk (F := Ideal) m c 1 t) ![r, 0] ![1, 1024] inb i
    (ValueIdx.ix2 (⟨r, by omega⟩ : Fin 8) (⟨(i 1).val, i1⟩ : Fin 1024)) fun k => by match k with
      | ⟨0, _⟩ => show r = r + (i 0).val; omega
      | ⟨1, _⟩ => exact (Nat.zero_add _).symm).trans (table_block H t _ _ hr)

end Ffn2

end
-- ==== Proof.Ffn2Step.lean ====
/-
  The points of the grid of the feed-forward kernel without a loss: what each leaves, and what is carried to the next.
-/
module

public import proofs.«01_k».proof.Proof.Ffn2Host

@[expose] public section

set_option maxRecDepth 65536

noncomputable section

namespace Ffn2

open Idealize.ShloMosaic Idealize.SL.Sem MixBwd FfnFwd Cert.Kernel2Ideal Cert.Kernel2Ideal.Gen

variable {m : (l : Loc nD τ sig) → Buf (Elt Ideal) l} {c : Dev nD} {N : Net}

theorem off1 : ∀ t : Fin cfg0.N, k0_off1 (grid0.coords t) = ![t.val % 2, 0, 0] := by decide +kernel

theorem off2 : ∀ t : Fin cfg0.N, k0_off2 (grid0.coords t) = ![t.val % 2, 0, 0] := by decide +kernel

theorem coord1 : ∀ t : Fin cfg0.N, (grid0.coords t 1).val = t.val % 2 := by decide +kernel

/-- What one point of the grid leaves: the saved products, the rows after the half once both groups are added, and what
    it carries to the next point. -/
structure Left (m : (l : Loc nD τ sig) → Buf (Elt Ideal) l) (c : Dev nD) (N : Net) (n : ℕ) (hn : n < cfg0.N) : Prop where
  out : X2 (n := 512) (m := 1024) (outsAt0 (F := Ideal) m c n hn).1
    (fun i j => N.x (512 * (n / 2) + i) j + lit 0x3F000000#32 * N.gate j * N.part (1408 * (n % 2 + 1)) (512 * (n / 2) + i) j)
  g : X2 (n := 512) (m := 1408) (outsAt0 (F := Ideal) m c n hn).2.1 (fun i j => N.g (512 * (n / 2) + i) (1408 * (n % 2) + j))
  u : X2 (n := 512) (m := 1408) (outsAt0 (F := Ideal) m c n hn).2.2.1 (fun i j => N.u (512 * (n / 2) + i) (1408 * (n % 2) + j))
  acc : X2 (n := 512) (m := 1024) (outsAt0 (F := Ideal) m c n hn).2.2.2.1
    (fun i j => N.part (1408 * (n % 2 + 1)) (512 * (n / 2) + i) j)
  wgu : X3 (l := 2) (n := 1024) (m := 2816) (outsAt0 (F := Ideal) m c n hn).2.2.2.2.1 N.wgu
  wo : X3 (l := 2) (n := 1408) (m := 1024) (outsAt0 (F := Ideal) m c n hn).2.2.2.2.2 N.wo

/-! ### A point, given the matrices it reads -/

section Point

variable {t : Fin cfg0.N} {w1 : FVec Ideal S2x1024x2816 .bf16} {w2 : FVec Ideal S2x1408x1024 .bf16} {a : FVec Ideal S512x1024 .f32}

abbrev row (m : (l : Loc nD τ sig) → Buf (Elt Ideal) l) (c : Dev nD) (t : Fin cfg0.N) (r : ℕ)
    (inb : ∀ k, ![r, 0] k + ![1, 1024] k ≤ S8x1024.size k) : FVec Ideal S1x1024 .f32 :=
  View.ld (Val := Elt Ideal) (e' := .f32) (S := S8x1024) (iblk (F := Ideal) m c 1 t) (Rect.unit (s := S8x1024) ![r, 0] ![1, 1024] inb)

abbrev tg (m : (l : Loc nD τ sig) → Buf (Elt Ideal) l) (c : Dev nD) (t : Fin cfg0.N) (w1 : FVec Ideal S2x1024x2816 .bf16) :
    FVec Ideal S512x1408 .bf16 :=
  k0_pay6 (F := Ideal) (iblk (F := Ideal) m c 0 t) (row m c t 3 inb_S8x1024_S1x1024_3_0) (row m c t 1 inb_S8x1024_S1x1024_1_0)
    (row m c t 0 inb_S8x1024_S1x1024_0_0)
    (View.ld (Val := Elt Ideal) (e' := .bf16) (S := S2x1024x2816) w1 (Rect.unit (s := S2x1024x2816) (k0_off1 (grid0.coords t)) ![1, 1024, 2816] (k0_off1_inb _)))

abbrev tu (m : (l : Loc nD τ sig) → Buf (Elt Ideal) l) (c : Dev nD) (t : Fin cfg0.N) (w1 : FVec Ideal S2x1024x2816 .bf16) :
    FVec Ideal S512x1408 .bf16 :=
  k0_pay7 (F := Ideal) (iblk (F := Ideal) m c 0 t) (row m c t 3 inb_S8x1024_S1x1024_3_0) (row m c t 1 inb_S8x1024_S1x1024_1_0)
    (row m c t 0 inb_S8x1024_S1x1024_0_0)
    (View.ld (Val := Elt Ideal) (e' := .bf16) (S := S2x1024x2816) w1 (Rect.unit (s := S2x1024x2816) (k0_off1 (grid0.coords t)) ![1, 1024, 2816] (k0_off1_inb _)))

abbrev lo (t : Fin cfg0.N) (w2 : FVec Ideal S2x1408x1024 .bf16) : FVec Ideal S1x1408x1024 .bf16 :=
  View.ld (Val := Elt Ideal) (e' := .bf16) (S := S2x1408x1024) w2 (Rect.unit (s := S2x1408x1024) (k0_off2 (grid0.coords t)) ![1, 1408, 1024] (k0_off2_inb _))

variable (H : Holds m c N) (h1 : X3 (l := 2) (n := 1024) (m := 2816) w1 N.wgu) (h2 : X3 (l := 2) (n := 1408) (m := 1024) w2 N.wo)
  (ha : t.val % 2 = 1 → X2 (n := 512) (m := 1024) a (fun i j => N.part (1408 * (t.val % 2)) (512 * (t.val / 2) + i) j))

include H h1

theorem tg_x : X2 (tg m c t w1) (fun i j => N.g (512 * (t.val / 2) + i) (1408 * (t.val % 2) + j)) :=
  pay6_x (x_block H t) (row_block H t (by norm_num) _ rfl) (row_block H t (by norm_num) _ rfl) (row_block H t (by norm_num) _ rfl)
    ((h1.ld (off1 t) (k0_off1_inb _)).congr fun k i j hk _ _ => by rw [show k = 0 by omega]; rfl)

theorem tu_x : X2 (tu m c t w1) (fun i j => N.u (512 * (t.val / 2) + i) (1408 * (t.val % 2) + j)) :=
  pay7_x (x_block H t) (row_block H t (by norm_num) _ rfl) (row_block H t (by norm_num) _ rfl) (row_block H t (by norm_num) _ rfl)
    ((h1.ld (off1 t) (k0_off1_inb _)).congr fun k i j hk _ _ => by rw [show k = 0 by omega]; rfl)

include h2 ha

theorem acc_x : X2 (k0_pay2 (F := Ideal) (BitVec.ofNat 32 (grid0.coords t 1).val) (tg m c t w1) (tu m c t w1) a (lo t w2))
    (fun i j => N.part (1408 * (t.val % 2 + 1)) (512 * (t.val / 2) + i) j) := by
  rw [coord1 t]
  exact pay2_x (tg_x H h1) (tu_x H h1) ((h2.ld (off2 t) (k0_off2_inb _)).congr fun k i j hk _ _ => by rw [show k = 0 by omega]; rfl)
    (Nat.mod_lt _ (by norm_num)) ha

theorem out_x : X2 (k0_pay3 (F := Ideal) (BitVec.ofNat 32 (grid0.coords t 1).val) (tg m c t w1) (tu m c t w1) a (lo t w2)
      (iblk (F := Ideal) m c 0 t) (row m c t 2 inb_S8x1024_S1x1024_2_0))
    (fun i j => N.x (512 * (t.val / 2) + i) j + lit 0x3F000000#32 * N.gate j * N.part (1408 * (t.val % 2 + 1)) (512 * (t.val / 2) + i) j) := by
  rw [coord1 t]
  exact pay3_x (tg_x H h1) (tu_x H h1) ((h2.ld (off2 t) (k0_off2_inb _)).congr fun k i j hk _ _ => by rw [show k = 0 by omega]; rfl)
    (Nat.mod_lt _ (by norm_num)) ha (x_block H t) (row_block H t (by norm_num) _ rfl)

end Point

/-! ### The first point: the matrices have just been brought in -/

variable {t : Fin cfg0.N}

theorem whole_x3 {n0 n1 n2 : ℕ} {w : (⟨3, ![n0, n1, n2]⟩ : Shape).Idx → Elt Ideal .bf16} {f : ℕ → ℕ → ℕ → EReal} (hw : X3 w f) :
    X3 (View.canon (Val := Elt Ideal) (e := .bf16) [⟨Rect.whole ⟨3, ![n0, n1, n2]⟩, w⟩]) f := fun i => by
  have e := View.canon_cons_emb (Val := Elt Ideal) (e := .bf16) (Rect.whole ⟨3, ![n0, n1, n2]⟩) w [] i
  rw [Rect.emb_whole_apply] at e
  exact e.trans (hw i)

theorem first (H : Holds m c N) (h0 : t.val % 32 = 0) : Left m c N t.val t.isLt := by
  have e1 : t.val % 2 = 0 := by omega
  have h1 := whole_x3 (wgu H)
  have h2 := whole_x3 (wo H)
  have ha : t.val % 2 = 1 → X2 (n := 512) (m := 1024) (k0_pay4 (F := Ideal)) (fun i j => N.part (1408 * (t.val % 2)) (512 * (t.val / 2) + i) j) :=
    fun h => absurd h (by omega)
  refine ⟨?_, ?_, ?_, ?_, ?_, ?_⟩ <;> rw [Gen.outsAt0_A m c t h0] <;> frame_open
  · simp (disch := decide) only [↓ View.readCov_skip, ↓ View.readCov_cons_toLoadRect, ↓ View.readCov_fill]
    frame_out
    exact out_x H h1 h2 ha
  · simp (disch := decide) only [↓ View.readCov_skip, ↓ View.readCov_cons_toLoadRect, ↓ View.readCov_fill]
    frame_out
    exact tg_x H h1
  · simp (disch := decide) only [↓ View.readCov_skip, ↓ View.readCov_cons_toLoadRect, ↓ View.readCov_fill]
    frame_out
    exact tu_x H h1
  · simp (disch := decide) only [↓ View.readCov_skip, ↓ View.readCov_cons_toLoadRect, ↓ View.readCov_fill]
    frame_out
    exact acc_x H h1 h2 ha
  · frame_out
    exact h1
  · frame_out
    exact h2

/-! ### A later point: the matrices are kept, and the second of two points adds to the first's product -/

theorem later (H : Holds m c N) (h0 : ¬t.val % 32 = 0) (I : Left m c N (t.val - 1) (by omega)) : Left m c N t.val t.isLt := by
  have h1 : ∀ h : (Memref.whole cc0_scratch1).IsWhole, X3 (l := 2) (n := 1024) (m := 2816) (View.read (Elt Ideal) (View.whole cc0_scratch1)
      (h.unread (outsAt0 (F := Ideal) m c (t.val - 1) (by omega)).2.2.2.2.1)) N.wgu := fun h => by
    rw [read_unread_whole]
    exact I.wgu
  have h2 : ∀ h : (Memref.whole cc0_scratch2).IsWhole, X3 (l := 2) (n := 1408) (m := 1024) (View.read (Elt Ideal) (View.whole cc0_scratch2)
      (h.unread (outsAt0 (F := Ideal) m c (t.val - 1) (by omega)).2.2.2.2.2)) N.wo := fun h => by
    rw [read_unread_whole]
    exact I.wo
  have ha : ∀ h : (Memref.whole cc0_scratch0).IsWhole, t.val % 2 = 1 → X2 (n := 512) (m := 1024) (View.read (Elt Ideal) (View.whole cc0_scratch0)
      (h.unread (outsAt0 (F := Ideal) m c (t.val - 1) (by omega)).2.2.2.1))
      (fun i j => N.part (1408 * (t.val % 2)) (512 * (t.val / 2) + i) j) := fun h e => by
    rw [read_unread_whole]
    exact I.acc.congr fun i j _ _ => by
      rw [show (t.val - 1) % 2 + 1 = t.val % 2 by omega, show (t.val - 1) / 2 = t.val / 2 by omega]
  refine ⟨?_, ?_, ?_, ?_, ?_, ?_⟩ <;> rw [Gen.outsAt0_B m c t h0]
  · frame_open
    frame_out
    exact out_x H (h1 _) (h2 _) (ha _)
  · frame_open
    frame_out
    exact tg_x H (h1 _)
  · frame_open
    frame_out
    exact tu_x H (h1 _)
  · frame_open
    frame_out
    exact acc_x H (h1 _) (h2 _) (ha _)
  · exact I.wgu
  · exact I.wo

/-- What every point of the grid leaves. -/
theorem left (H : Holds m c N) : ∀ (n : ℕ) (hn : n < cfg0.N), Left m c N n hn
  | 0, hn => first (t := ⟨0, hn⟩) H (by norm_num)
  | n + 1, hn => by
    have h32 : n + 1 < 32 := hn
    exact later (t := ⟨n + 1, hn⟩) H (by show ¬(n + 1) % 32 = 0; omega) (left H n (Nat.lt_of_succ_lt hn))

end Ffn2

end
-- ==== Proof.Ffn2Final.lean ====
/-
  The three arrays of the feed-forward kernel without a loss, from the points of its grid.
-/
module

public import proofs.«01_k».proof.Proof.Ffn2Step

@[expose] public section

set_option maxRecDepth 65536

noncomputable section

namespace Ffn2

open Idealize.ShloMosaic Idealize.SL.Sem MixBwd FfnFwd Cert.Kernel2Ideal Cert.Kernel2Ideal.Gen

variable {m : (l : Loc nD τ sig) → Buf (Elt Ideal) l} {c : Dev nD} {N : Net}

theorem index_out : ∀ t : Fin cfg0.N,
    (win0_2.index t 0 = t.val / 2 ∧ win0_2.index t 1 = 0) ∧ (win0_3.index t 0 = t.val / 2 ∧ win0_3.index t 1 = t.val % 2) ∧
    (win0_4.index t 0 = t.val / 2 ∧ win0_4.index t 1 = t.val % 2) := by
  decide +kernel

/-- The rows are written back once both groups of units are added. -/
theorem second : ∀ t : Fin cfg0.N, (cfg0.win 2).flush t = true → t.val % 2 = 1 := by decide +kernel

theorem xo_array (H : Holds m c N) :
    (dats (F := Ideal) m 0 c).arrAt 2 cfg0.N = fun i => N.xo (i 0).val (i 1).val := by
  refine (dats m 0 c).arrAt_eq_of_covers 2 _ (by decide +kernel) fun t hf y => ?_
  have h2 := second t hf
  blk_simp
  rw [after0_2]
  refine ((left H t.val t.isLt).out y).trans ?_
  obtain ⟨i0, i1⟩ := (index_out t).1
  rw [i0, i1, zero_mul, zero_add, Nat.mul_comm (t.val / 2), h2]
  rfl

theorem g_array (H : Holds m c N) : (dats (F := Ideal) m 0 c).arrAt 3 cfg0.N = fun i => N.g (i 0).val (i 1).val := by
  refine (dats m 0 c).arrAt_eq_of_covers 3 _ (by decide +kernel) fun t hf y => ?_
  blk_simp
  rw [after0_3]
  refine ((left H t.val t.isLt).g y).trans ?_
  obtain ⟨i0, i1⟩ := (index_out t).2.1
  rw [i0, i1, Nat.mul_comm (t.val / 2), Nat.mul_comm (t.val % 2)]

theorem u_array (H : Holds m c N) : (dats (F := Ideal) m 0 c).arrAt 4 cfg0.N = fun i => N.u (i 0).val (i 1).val := by
  refine (dats m 0 c).arrAt_eq_of_covers 4 _ (by decide +kernel) fun t hf y => ?_
  blk_simp
  rw [after0_4]
  refine ((left H t.val t.isLt).u y).trans ?_
  obtain ⟨i0, i1⟩ := (index_out t).2.2
  rw [i0, i1, Nat.mul_comm (t.val / 2), Nat.mul_comm (t.val % 2)]

end Ffn2

end
-- ==== Proof.Ffn2Ref.lean ====
/-
  The reference of the feed-forward half without a loss, read entry by entry.
-/
module

public import proofs.«01_k».proof.Proof.FfnHost
public import proofs.«01_k».proof.Proof.Gen.Reference2Ideal.Read

@[expose] public section

set_option maxRecDepth 65536

noncomputable section

namespace Ffn2

open Idealize.ShloMosaic Idealize.SL.Sem MixBwd FfnFwd Cert.Reference2Ideal Cert.Reference2Ideal.Read

/-- The arrays hold the arguments `N`. -/
structure Args (N : Net) (x0 : S8192x1024.Idx → EReal) (x1 x2 x3 x4 : S1x1024.Idx → EReal) (x5 : S1024x5632.Idx → EReal)
    (x6 : S2816x1024.Idx → EReal) : Prop where
  x : X2 x0 N.x
  shift : X2 x1 (fun _ j => N.shift j)
  scale : X2 x2 (fun _ j => N.scale j)
  gate : X2 x3 (fun _ j => N.gate j)
  gn : X2 x4 (fun _ j => N.gn j)
  win : X2 x5 N.win
  wout : X2 x6 N.wout

variable {N : Net} {x0 : S8192x1024.Idx → EReal} {x1 x2 x3 x4 : S1x1024.Idx → EReal} {x5 : S1024x5632.Idx → EReal}
  {x6 : S2816x1024.Idx → EReal} (A : Args N x0 x1 x2 x3 x4 x5 x6)

/-- The logistic function, written out. -/
theorem sig_eq (z : EReal) : FfnFwd.sig z = FloatOps.hostDivf (F := Ideal) (φ := .f32) (FloatOps.ofBits (F := Ideal) .f32 0x3F800000#32)
    (FloatOps.addf (F := Ideal) (φ := .f32) (FloatOps.ofBits (F := Ideal) .f32 0x3F800000#32)
      (FloatOps.hostUnary (F := Ideal) (φ := .f32) .exp (FloatOps.hostNegf (F := Ideal) (φ := .f32) z))) := by
  have h1 : FloatOps.ofBits (F := Ideal) .f32 0x3F800000#32 = (1 : EReal) := w_one.trans EReal.coe_one
  rw [h1]
  rfl

include A

theorem v1_x (i : S8192.Idx) : val_main_v1 (F := Ideal) x0 i = ∑ k : Fin 1024, N.x (i 0).val k * N.x (i 0).val k := by
  rw [val_main_v1_apply]
  refine (congrArg₂ (· + ·) (w_zero.trans EReal.coe_zero) (Finset.sum_congr rfl fun k _ => congrArg₂ (· * ·) (A.x _) (A.x _))).trans ?_
  exact zero_add _

theorem v7_x (i : S8192x1.Idx) : val_main_v7 (F := Ideal) x0 i = N.r (i 0).val := by
  show FloatOps.hostUnary (F := Ideal) (φ := .f32) .rsqrt (FloatOps.addf (F := Ideal) (φ := .f32) (FloatOps.hostDivf (F := Ideal) (φ := .f32)
    (val_main_v2 (F := Ideal) x0 i) (val_main_v3 (F := Ideal) i)) (val_main_v5 (F := Ideal) i)) = _
  rw [val_main_v2_apply, v1_x A, val_main_v3_apply, val_main_v5_apply]
  rfl

theorem v17_x (i : S8192x1024.Idx) : val_main_v17 (F := Ideal) x0 x1 x2 x4 i = N.h (i 0).val (i 1).val := by
  show x0 i * val_main_v8 (F := Ideal) x0 i * val_main_v10 (F := Ideal) x4 i * val_main_v14 (F := Ideal) x2 i + val_main_v16 (F := Ideal) x1 i = _
  rw [val_main_v8_apply, v7_x A, val_main_v10_apply, val_main_v14_apply, val_main_v16_apply, val_main_v13_apply, val_main_v12_apply,
    A.x, A.gn, A.scale, A.shift]
  rfl

theorem v18_x (i : S8192x5632.Idx) : val_main_v18 (F := Ideal) x0 x1 x2 x4 x5 i = N.up (i 0).val (i 1).val := by
  rw [val_main_v18_apply]
  exact Finset.sum_congr rfl fun k _ => congrArg₂ (· * ·) (v17_x A _) (A.win _)

theorem v19_x (i : S8192x2816.Idx) : val_main_v19 (F := Ideal) x0 x1 x2 x4 x5 i = N.g (i 0).val (i 1).val := by
  rw [val_main_v19_apply, v18_x A]
  rfl

theorem v20_x (i : S8192x2816.Idx) : val_main_v20 (F := Ideal) x0 x1 x2 x4 x5 i = N.u (i 0).val (i 1).val := by
  rw [val_main_v20_apply, v18_x A]
  rfl

theorem v24_x (i : S8192x2816.Idx) : val_main_v24 (F := Ideal) x0 x1 x2 x4 x5 i = N.a (i 0).val (i 1).val := by
  rw [val_main_v24_apply, val_main_v23_apply, val_main_call0_v5_apply, val_main_call0_v4_apply, val_main_call0_v3_apply,
    val_main_call0_v2_apply, val_main_call0_v1_apply, val_main_call0_v0_apply, v19_x A, v20_x A]
  refine congrArg (· * N.u _ _) (congrArg (N.g _ _ * ·) ?_)
  exact (sig_eq _).symm

theorem v25_x (i : S8192x1024.Idx) : val_main_v25 (F := Ideal) x0 x1 x2 x4 x5 x6 i = N.y (i 0).val (i 1).val := by
  rw [val_main_v25_apply, Net.y, Net.part, Finset.sum_range (n := 2816)]
  exact Finset.sum_congr rfl fun k _ => congrArg₂ (· * ·) (v24_x A _) (A.wout _)

theorem v28_x : val_main_v28 (F := Ideal) x0 x1 x2 x3 x4 x5 x6 = fun i => N.xo (i 0).val (i 1).val := funext fun i => by
  rw [val_main_v28_apply, val_main_v27_apply, v25_x A, val_main_v26_apply, val_main_v22_apply, val_main_v21_apply, A.x, A.gate]
  rfl

theorem v29_x : val_main_v29 (F := Ideal) x0 x1 x2 x4 x5 = fun i => N.g (i 0).val (i 1).val := funext fun i => v19_x A i

theorem v30_x : val_main_v30 (F := Ideal) x0 x1 x2 x4 x5 = fun i => N.u (i 0).val (i 1).val := funext fun i => v20_x A i

end Ffn2

end
-- ==== Proof.Ffn2Claims.lean ====
/-
  The claims about the feed-forward kernel without a loss: the frame of its reference, and that the rows it leaves and
  the two activations it saves are those of the reference, over all extended reals.
-/
module

public import proofs.«01_k».proof.Defs
public import proofs.«01_k».proof.Proof.Gen.Kernel2Ideal.Value
public import proofs.«01_k».proof.Proof.Gen.Reference2Ideal.Run
public import proofs.«01_k».proof.Proof.Ffn2Final
public import proofs.«01_k».proof.Proof.Ffn2Ref

@[expose] public section

set_option maxRecDepth 65536

noncomputable section

namespace FfnFwd

open Idealize.ShloMosaic

/-- An array of two axes as a function of two indices, 0 outside. -/
def entries {n m : ℕ} (v : (⟨2, ![n, m]⟩ : Shape).Idx → EReal) (i j : ℕ) : EReal :=
  if h : i < n ∧ j < m then v (ValueIdx.ix2 ⟨i, h.1⟩ ⟨j, h.2⟩) else 0

theorem X2.entries {n m : ℕ} (v : (⟨2, ![n, m]⟩ : Shape).Idx → EReal) : X2 v (entries v) := fun i => by
  have e : i = ValueIdx.ix2 (i 0) (i 1) := by funext a; fin_cases a <;> rfl
  have hb : (i 0).val < n ∧ (i 1).val < m := ⟨(i 0).isLt, (i 1).isLt⟩
  unfold FfnFwd.entries
  rw [dif_pos hb]
  exact congrArg v e

/-- An array of one row. -/
theorem X2.entries_row {m : ℕ} (v : (⟨2, ![1, m]⟩ : Shape).Idx → EReal) : X2 v (fun _ j => FfnFwd.entries v 0 j) := fun i => by
  have h0 : (i 0).val = 0 := Nat.lt_one_iff.mp (i 0).isLt
  refine (X2.entries v i).trans ?_
  rw [h0]

end FfnFwd

namespace Ffn2

open Idealize.ShloMosaic Idealize.SL.Sem MixBwd FfnFwd

/-- The reference, host operations only, keeps its arguments; it has no semaphores. -/
theorem reference_frame : Cert.quiescent_Reference2Ideal := fun m ρ _ =>
  (θ_run (Cert.Reference2Ideal.defs (F := Ideal)) _ _).mono
    (fun r h => ⟨fun c => (h c).2.2.2, sem_eq_zero_of_no_sems (by decide) r.2⟩)
    (Cert.Reference2Ideal.Value.run (F := Ideal) m ρ)

section

open Cert.Kernel2Ideal Cert.Kernel2Ideal.Gen

variable (m : (l : Loc nD τ sig) → Buf (Elt Ideal) l) (c : Dev nD)

/-- What the memory holds of the arguments. -/
def held : Net where
  x := entries (m (c, Proc.tc.devRef main_arg0))
  shift j := entries (m (c, Proc.tc.devRef main_arg1)) 0 j
  scale j := entries (m (c, Proc.tc.devRef main_arg2)) 0 j
  gate j := entries (m (c, Proc.tc.devRef main_arg3)) 0 j
  gn j := entries (m (c, Proc.tc.devRef main_arg4)) 0 j
  win := entries (m (c, Proc.tc.devRef main_arg5))
  wout := entries (m (c, Proc.tc.devRef main_arg6))

theorem holds : Holds m c (held m c) :=
  ⟨X2.entries _, X2.entries_row _, X2.entries_row _, X2.entries_row _, X2.entries_row _, X2.entries _, X2.entries _⟩

theorem args : Args (held m c) (m (c, Proc.tc.devRef main_arg0)) (m (c, Proc.tc.devRef main_arg1)) (m (c, Proc.tc.devRef main_arg2))
    (m (c, Proc.tc.devRef main_arg3)) (m (c, Proc.tc.devRef main_arg4)) (m (c, Proc.tc.devRef main_arg5))
    (m (c, Proc.tc.devRef main_arg6)) :=
  ⟨X2.entries _, X2.entries_row _, X2.entries_row _, X2.entries_row _, X2.entries_row _, X2.entries _, X2.entries _⟩

end

open Cert.Reference2Ideal.Read in
attribute [local instance] Cert.Kernel2Ideal.Gen.facts Cert.Reference2Ideal.Gen.facts in
theorem algebraic : Cert.algebraic_Kernel2Ideal_Reference2Ideal := by
  intro m g m' g' hp ha
  refine ⟨fun c => (Cert.Kernel2Ideal.Gen.dats (F := Ideal) m 0 c).arrAt 2 Cert.Kernel2Ideal.cfg0.N,
    fun c => (Cert.Kernel2Ideal.Gen.dats (F := Ideal) m 0 c).arrAt 3 Cert.Kernel2Ideal.cfg0.N,
    fun c => (Cert.Kernel2Ideal.Gen.dats (F := Ideal) m 0 c).arrAt 4 Cert.Kernel2Ideal.cfg0.N,
    Cert.Kernel2Ideal.Value.run_blocks (F := Ideal) m g, ?_⟩
  refine (θ_run (Cert.Reference2Ideal.defs (F := Ideal)) _ _).mono (fun r h c => ?_)
    (Cert.Reference2Ideal.Value.run (F := Ideal) m' g')
  obtain ⟨a0, a1, a2, a3, a4, a5, a6⟩ := ha c
  obtain ⟨h0, h1, h2, kept⟩ := h c
  refine ⟨?_, ?_, ?_, kept⟩
  · refine Eq.trans ?_ (xo_array (holds m c)).symm
    refine h0.trans ((val_main_v28_eq _ _ _ _ _ _ _).trans ?_)
    rw [a0, a1, a2, a3, a4, a5, a6]
    exact v28_x (args m c)
  · refine Eq.trans ?_ (g_array (holds m c)).symm
    refine h1.trans ((val_main_v29_eq _ _ _ _ _).trans ?_)
    rw [a0, a1, a2, a4, a5]
    exact v29_x (args m c)
  · refine Eq.trans ?_ (u_array (holds m c)).symm
    refine h2.trans ((val_main_v30_eq _ _ _ _ _).trans ?_)
    rw [a0, a1, a2, a4, a5]
    exact v30_x (args m c)

end Ffn2

end
-- ==== Proof.FfnLoss.lean ====
/-
  The loss at the end of the layer, its gradient in the closed form and as differentiation gives it.
-/
module

public import proofs.«01_k».proof.Proof.FfnTile

@[expose] public section

noncomputable section

namespace FfnFwd

open Idealize.ShloMosaic MixBwd

theorem lit_half : lit 0x3F000000#32 = ((1 / 2 : ℝ) : EReal) := w_half
theorem lit_mhalf : lit 0xBF000000#32 = ((-1 / 2 : ℝ) : EReal) := w_mhalf
theorem lit_one : lit 0x3F800000#32 = ((1 : ℝ) : EReal) := w_one
theorem lit_two : lit 0x40000000#32 = ((2 : ℝ) : EReal) := w_two
theorem lit_1024 : lit 0x44800000#32 = ((1024 : ℝ) : EReal) := w_1024
theorem lit_eps : lit 0x358637BD#32 = ((eps : ℝ) : EReal) := w_eps
theorem lit_zero : lit 0x00000000#32 = 0 := w_zero.trans EReal.coe_zero
theorem lit_i1024 : lit 0x3A800000#32 = ((1 / 1024 : ℝ) : EReal) := by
  show Ideal.ofBits .f32 0x3A800000#32 = _
  simp [Ideal.ofBits, Ideal.ieee, -EReal.coe_mul]; norm_num [← EReal.coe_mul]
theorem lit_i2048 : lit 0x3A000000#32 = ((1 / 2048 : ℝ) : EReal) := by
  show Ideal.ofBits .f32 0x3A000000#32 = _
  simp [Ideal.ofBits, Ideal.ieee, -EReal.coe_mul]; norm_num [← EReal.coe_mul]

theorem div_1024 (a : EReal) : FloatOps.divf (F := Ideal) (φ := .f32) a (lit 0x44800000#32) = a * ((1 / 1024 : ℝ) : EReal) := by
  rw [lit_1024]
  exact Ideal.div_coe (by norm_num) a

theorem left_distrib_coe {c : ℝ} (hc : 0 ≤ c) (a b : EReal) : (c : EReal) * (a + b) = (c : EReal) * a + (c : EReal) * b :=
  EReal.left_distrib_of_nonneg_of_ne_top (EReal.coe_nonneg.mpr hc) (EReal.coe_ne_top c) a b

/-- A nonnegative real factor goes into a sum of extended reals. -/
theorem coe_mul_sum {ι : Type*} (s : Finset ι) (c : ℝ) (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, left_distrib_coe hc, ih]

/-- A sum over tiles of 512 rows is the sum over the rows. -/
theorem sum_tiles (f : ℕ → EReal) (n : ℕ) : ∑ q ∈ Finset.range n, ∑ p : Fin 512, f (512 * q + p) = ∑ i ∈ Finset.range (512 * n), f i := by
  induction n with
  | zero => simp
  | succ n ih =>
    rw [Finset.sum_range_succ, ih, Nat.mul_succ, Finset.sum_range_add, Finset.sum_range (n := 512) (f := fun k => f (512 * n + k))]

/-- The rows that the layer ends with, what they should be, and the weights of the last norm. -/
structure Head where
  y : ℕ → ℕ → EReal
  t : ℕ → ℕ → EReal
  gf : ℕ → EReal

namespace Head

variable (K : Head)

/-- The mean square of a row and the small number under the root. -/
def ms (i : ℕ) : EReal := FloatOps.divf (F := Ideal) (φ := .f32) (∑ k : Fin 1024, K.y i k * K.y i k) (lit 0x44800000#32) + lit 0x358637BD#32
/-- One over the root mean square of a row. -/
def r (i : ℕ) : EReal := FloatOps.rsqrt (F := Ideal) (φ := .f32) (K.ms i)
/-- The normed rows. -/
def xn (i j : ℕ) : EReal := K.y i j * K.r i
/-- The errors. -/
def err (i j : ℕ) : EReal := K.xn i j * K.gf j - K.t i j
/-- The gradient of the norm's output. -/
def dy (i j : ℕ) : EReal := K.err i j * lit 0x3A800000#32
/-- The gradient of the normed rows. -/
def dxn (i j : ℕ) : EReal := K.dy i j * K.gf j
/-- The mean of their products with the normed rows. -/
def mean (i : ℕ) : EReal := FloatOps.divf (F := Ideal) (φ := .f32) (∑ k : Fin 1024, K.dxn i k * K.xn i k) (lit 0x44800000#32)
/-- The gradient of the rows. -/
def dx (i j : ℕ) : EReal := K.r i * (K.dxn i j - K.xn i j * K.mean i)
/-- The squared errors of a row. -/
def sq (i : ℕ) : EReal := ∑ k : Fin 1024, K.err i k * K.err i k
/-- The loss of the first `n` tiles. -/
def loss (n : ℕ) : EReal := ∑ q ∈ Finset.range n, lit 0x3A000000#32 * ∑ p : Fin 512, K.sq (512 * q + p)
/-- The gradient of the weights from the first `n` tiles. -/
def dgf (n j : ℕ) : EReal := ∑ q ∈ Finset.range n, ∑ p : Fin 512, K.dy (512 * q + p) j * K.xn (512 * q + p) j

/-! ### As differentiation gives them -/

theorem dy_eq (i j : ℕ) : FloatOps.divf (F := Ideal) (φ := .f32) (lit 0x3F000000#32 * lit 0x3F800000#32) (lit 0x44800000#32)
    * (lit 0x40000000#32 * K.err i j) = K.dy i j := by
  rw [div_1024, dy, lit_half, lit_one, lit_two, lit_i1024, ← mul_assoc, mul_comm (K.err i j)]
  refine congrArg (· * K.err i j) ?_
  rw [← EReal.coe_mul, ← EReal.coe_mul, ← EReal.coe_mul]
  norm_num

theorem loss_eq : lit 0x3F000000#32 * ∑ i : Fin 8192, FloatOps.divf (F := Ideal) (φ := .f32) (K.sq i) (lit 0x44800000#32) = K.loss 16 := by
  have e : ∀ i : ℕ, FloatOps.divf (F := Ideal) (φ := .f32) (K.sq i) (lit 0x44800000#32) = ((1 / 1024 : ℝ) : EReal) * K.sq i := fun i => by
    rw [div_1024, mul_comm]
  simp only [e]
  rw [← Finset.sum_range (n := 8192) (f := fun i => ((1 / 1024 : ℝ) : EReal) * K.sq i), ← coe_mul_sum _ _ (by norm_num), ← mul_assoc, loss,
    lit_i2048, ← coe_mul_sum _ _ (by norm_num), sum_tiles, lit_half, ← EReal.coe_mul]
  norm_num

theorem dgf_eq (j : ℕ) : ∑ i : Fin 8192, K.xn i j * K.dy i j = K.dgf 16 j := by
  rw [← Finset.sum_range (n := 8192) (f := fun i => K.xn i j * K.dy i j), dgf, sum_tiles (fun i => K.dy i j * K.xn i j)]
  exact Finset.sum_congr rfl fun i _ => mul_comm _ _

/-- A row with an infinite element: the root's inverse is zero. -/
theorem r_of_top {i : ℕ} (h : ∃ k : Fin 1024, ¬ K.y i k = ((K.y i k).toReal : EReal)) : K.ms i = ⊤ ∧ K.r i = 0 := by
  obtain ⟨k, hk⟩ := h
  have h0 : ∀ a : EReal, 0 ≤ a * a := fun a => by
    induction a using EReal.rec with
    | bot => exact le_of_lt EReal.zero_lt_top
    | top => exact le_of_lt EReal.zero_lt_top
    | coe a => rw [← EReal.coe_mul]; exact EReal.coe_nonneg.mpr (mul_self_nonneg a)
  have ht : K.y i k * K.y i k = ⊤ := by
    generalize K.y i k = a at hk
    induction a using EReal.rec with
    | bot => rfl
    | top => rfl
    | coe a => exact absurd rfl hk
  have hs : ∑ k : Fin 1024, K.y i k * K.y i k = ⊤ := by
    have := Finset.single_le_sum (f := fun k : Fin 1024 => K.y i k * K.y i k) (fun k _ => h0 _) (Finset.mem_univ k)
    rw [ht] at this
    exact top_le_iff.mp this
  have hm : K.ms i = ⊤ := by
    rw [ms, hs, div_1024, lit_eps, EReal.top_mul_coe_of_pos (by norm_num), EReal.top_add_coe]
  exact ⟨hm, by rw [r, hm]; rfl⟩

/-- A row of reals: the mean square is positive, and its root's inverse is real. -/
theorem r_of_real {i : ℕ} (h : ∀ k : Fin 1024, K.y i k = ((K.y i k).toReal : EReal)) :
    ∃ m q : ℝ, 0 < m ∧ 0 < q ∧ q * q * m = 1 ∧ K.ms i = (m : EReal) ∧ K.r i = (q : EReal) := by
  have hm : K.ms i = (((∑ k : Fin 1024, (K.y i k).toReal * (K.y i k).toReal) * (1 / 1024) + eps : ℝ) : EReal) := by
    rw [ms, div_1024, lit_eps, EReal.coe_add, EReal.coe_mul, ← sum_r]
    refine congrArg (· * _ + _) (Finset.sum_congr rfl fun k _ => ?_)
    rw [EReal.coe_mul, ← h k]
  have he : (0 : ℝ) < eps := by norm_num [eps]
  have hp : (0 : ℝ) < (∑ k : Fin 1024, (K.y i k).toReal * (K.y i k).toReal) * (1 / 1024) + eps :=
    add_pos_of_nonneg_of_pos (mul_nonneg (Finset.sum_nonneg fun k _ => mul_self_nonneg _) (by norm_num)) he
  refine ⟨_, _, hp, inv_pos.mpr (Real.sqrt_pos.mpr hp), ?_, hm, ?_⟩
  · rw [← mul_inv, Real.mul_self_sqrt hp.le, inv_mul_cancel₀ hp.ne']
  · rw [r, hm]
    exact rsqrt_r' _ hp

theorem dx_eq (i : ℕ) {j : ℕ} (hj : j < 1024) : K.dxn i j * K.r i
    + FloatOps.divf (F := Ideal) (φ := .f32) ((∑ k : Fin 1024, K.y i k * K.dxn i k)
        * (lit 0xBF000000#32 * FloatOps.divf (F := Ideal) (φ := .f32) (K.r i) (K.ms i))) (lit 0x44800000#32)
      * (lit 0x40000000#32 * K.y i j) = K.dx i j := by
  by_cases h : ∀ k : Fin 1024, K.y i k = ((K.y i k).toReal : EReal)
  · obtain ⟨m, q, hm, hq, e, em, er⟩ := K.r_of_real h
    have ey := h ⟨j, hj⟩
    have ed : FloatOps.divf (F := Ideal) (φ := .f32) (K.r i) (K.ms i) = ((q * (1 / m) : ℝ) : EReal) := by
      rw [er, em, EReal.coe_mul]
      exact Ideal.div_coe hm.ne' _
    have es : ∑ k : Fin 1024, K.dxn i k * K.xn i k = (q : EReal) * ∑ k : Fin 1024, K.y i k * K.dxn i k := by
      rw [coe_mul_sum _ _ hq.le]
      refine Finset.sum_congr rfl fun k _ => ?_
      rw [xn, er, mul_comm, mul_right_comm, mul_comm _ (q : EReal), mul_comm]
    rw [dx, mean, es, div_1024, div_1024, ed, xn, er, lit_mhalf, lit_two]
    generalize ∑ k : Fin 1024, K.y i k * K.dxn i k = T
    generalize K.dxn i j = D
    change K.y i j = _ at ey
    rw [ey]
    generalize (K.y i j).toReal = y
    rw [sub_eq_add_neg, left_distrib_coe hq.le, mul_comm D]
    refine congrArg _ ?_
    have l : T * (((-1 / 2 : ℝ) : EReal) * ((q * (1 / m) : ℝ) : EReal)) * ((1 / 1024 : ℝ) : EReal) * (((2 : ℝ) : EReal) * (y : EReal))
        = T * (((-1 / 2) * (q * (1 / m)) * (1 / 1024) * (2 * y) : ℝ) : EReal) := by
      push_cast
      simp only [mul_assoc]
    have r : (q : EReal) * -((y : EReal) * (q : EReal) * ((q : EReal) * T * ((1 / 1024 : ℝ) : EReal)))
        = T * ((-(q * (y * q * (q * (1 / 1024)))) : ℝ) : EReal) := by
      rw [EReal.coe_neg, mul_neg, mul_neg]
      refine congrArg _ ?_
      push_cast
      ac_rfl
    rw [l, r]
    refine congrArg (fun z : ℝ => T * (z : EReal)) ?_
    have e1 : 1 / m = q * q := by field_simp; linarith
    rw [e1]
    ring
  · have h' : ∃ k : Fin 1024, ¬ K.y i k = ((K.y i k).toReal : EReal) := not_forall.mp h
    obtain ⟨em, er⟩ := K.r_of_top h'
    have ed : FloatOps.divf (F := Ideal) (φ := .f32) (K.r i) (K.ms i) = 0 := by
      rw [er, em]
      show Ideal.div 0 ⊤ = 0
      unfold Ideal.div
      rw [if_neg (by decide), zero_mul]
    rw [dx, ed, er, div_1024]
    simp

end Head

end FfnFwd

end
-- ==== Proof.Ffn3Pay.lean ====
/-
  What the feed-forward kernel with the loss computes at a point of its grid.
-/
module

public import proofs.«01_k».proof.Proof.FfnLoss
public import proofs.«01_k».proof.Proof.Gen.Kernel3Ideal.Value

@[expose] public section

set_option maxRecDepth 65536

noncomputable section

namespace Ffn3

open Idealize.ShloMosaic Idealize.SL.Sem MixBwd FfnFwd Cert.Kernel3Ideal Cert.Kernel3Ideal.Gen

variable {N : Net} {b l : ℕ}

section Up

variable {v5 : FVec Ideal S512x1024 .f32} {v6 v8 v10 : FVec Ideal S1x1024 .f32} {v32 : FVec Ideal S1x1024x2816 .bf16}
  (hx : X2 v5 (fun i j => N.x (b + i) j)) (hg : X2 v6 (fun _ j => N.gn j)) (hs : X2 v8 (fun _ j => N.scale j))
  (ht : X2 v10 (fun _ j => N.shift j)) (hw : X3 v32 (fun _ i j => N.wgu l i j))

include hx hg hs ht hw

theorem pay16_x : X2 (k0_pay16 (F := Ideal) v5 v6 v8 v10 v32) (fun i j => ∑ k : Fin 1024, N.h (b + i) k * N.wgu l k j) := by
  have hr := ((((hx.mul hx).rowSum reduces_S512x1024_S512 (.inl rfl) rfl shapeCasts_S512_S512x1).div (X2.const 0x44800000#32)).add
    (X2.const 0x358637BD#32)).rsqrt.column broadcasts_S512x1_S512x1024
  have hh := (((hx.mul hr).mul ((hg.cast shapeCasts_S1x1024_S1x1024).row broadcasts_S1x1024_S512x1024)).mul
    (((X2.const 0x3F800000#32).add (hs.cast shapeCasts_S1x1024_S1x1024)).row broadcasts_S1x1024_S512x1024)).add
    ((ht.cast shapeCasts_S1x1024_S1x1024).row broadcasts_S1x1024_S512x1024)
  exact hh.mm (hw.drop shapeCasts_S1x1024x2816_S1024x2816) _

theorem pay17_x : X2 (k0_pay17 (F := Ideal) v5 v6 v8 v10 v32) (fun i j => N.g (b + i) (1408 * l + j)) := by
  refine ((pay16_x hx hg hs ht hw).slice slices_S512x2816_o0_0_S512x1408).congr fun i j _ hj => ?_
  show (∑ k : Fin 1024, N.h (b + (0 + i)) k * N.wgu l k (0 + j)) = ∑ k : Fin 1024, N.h (b + i) k * N.win k (1408 * l + j)
  refine Finset.sum_congr rfl fun k _ => ?_
  rw [Nat.zero_add, Nat.zero_add, Net.wgu, if_pos hj]

theorem pay18_x : X2 (k0_pay18 (F := Ideal) v5 v6 v8 v10 v32) (fun i j => N.u (b + i) (1408 * l + j)) := by
  refine ((pay16_x hx hg hs ht hw).slice slices_S512x2816_o0_1408_S512x1408).congr fun i j _ hj => ?_
  show (∑ k : Fin 1024, N.h (b + (0 + i)) k * N.wgu l k (1408 + j)) = ∑ k : Fin 1024, N.h (b + i) k * N.win k (2816 + (1408 * l + j))
  refine Finset.sum_congr rfl fun k _ => ?_
  rw [Nat.zero_add, Net.wgu, if_neg (by omega), Nat.add_sub_cancel_left]

end Up

section Down

variable {v36 v38 : FVec Ideal S512x1408 .bf16} {v48 : FVec Ideal S512x1024 .f32} {v52 : FVec Ideal S1x1408x1024 .bf16}
  (hg : X2 v36 (fun i j => N.g (b + i) (1408 * l + j))) (hu : X2 v38 (fun i j => N.u (b + i) (1408 * l + j)))
  (hw : X3 v52 (fun _ i j => N.wo l i j)) (hl : l < 2) (ha : l = 1 → X2 v48 (fun i j => N.part (1408 * l) (b + i) j))

include hg hu hw hl ha

theorem pay1_x : X2 (k0_pay1 (F := Ideal) (BitVec.ofNat 32 l) v36 v38 v48 v52) (fun i j => N.part (1408 * (l + 1)) (b + i) j) := by
  have hd := (((X2.mul (a := v36) hg (X2.sig (a := v36) hg)).mul hu).mm (hw.drop shapeCasts_S1x1408x1024_S1408x1024)
    dot_S512x1408_S1408x1024_S512x1024_1_0_0_1_n_n.wf)
  have h0 : X2 (Scalar.select (Scalar.cmpi .eq (BitVec.ofNat 32 l) 0#32) (broadcast S512x1024 (Scalar.ofBits (F := Ideal) .f32 0x00000000#32)) v48)
      (fun i j => N.part (1408 * l) (b + i) j) := by
    rcases (by omega : l = 0 ∨ l = 1) with rfl | rfl
    · intro i
      exact (w_zero.trans EReal.coe_zero).trans (N.part_zero _ _).symm
    · exact ha rfl
  exact (h0.add hd).congr fun i j _ _ => (N.part_step l _ _).symm

theorem pay2_x : X2 (k0_pay2 (F := Ideal) (BitVec.ofNat 32 l) v36 v38 v48 v52) (fun i j => N.part (1408 * (l + 1)) (b + i) j) :=
  (pay1_x hg hu hw hl ha).cast shapeCasts_S512x1024_S512x1024

theorem pay3_x {v59 : FVec Ideal S512x1024 .f32} {v60 : FVec Ideal S1x1024 .f32} (hx : X2 v59 (fun i j => N.x (b + i) j))
    (hq : X2 v60 (fun _ j => N.gate j)) : X2 (k0_pay3 (F := Ideal) (BitVec.ofNat 32 l) v36 v38 v48 v52 v59 v60)
      (fun i j => N.x (b + i) j + lit 0x3F000000#32 * N.gate j * N.part (1408 * (l + 1)) (b + i) j) :=
  hx.add ((((X2.const 0x3F000000#32).mul (hq.cast shapeCasts_S1x1024_S1x1024)).row broadcasts_S1x1024_S512x1024).mul
    (pay1_x hg hu hw hl ha))

end Down

section Loss

variable {K : Head} {v66 v70 : FVec Ideal S512x1024 .f32} {v71 v108 v114 : FVec Ideal S1x1024 .f32} {v109 : FVec Ideal S8x128 .f32}
  (hy : X2 v66 (fun i j => K.y (b + i) j)) (ht : X2 v70 (fun i j => K.t (b + i) j)) (hf : X2 v71 (fun _ j => K.gf j))

/-- The column sums, as a row. -/
theorem colSum {n m : ℕ} {a : FVec Ideal ⟨2, ![n, m]⟩ .f32} {f : ℕ → ℕ → EReal} (ha : X2 a f)
    (h : (⟨2, ![n, m]⟩ : Shape).Reduces [0] ⟨1, ![m]⟩) (hφ : FKind.Formats FTy.f32)
    (hacc : 0x00000000#32 = FKind.add.neutral FTy.f32 hφ) (hc : (⟨1, ![m]⟩ : Shape).ShapeCasts ⟨2, ![1, m]⟩) :
    X2 (shapeCast ⟨2, ![1, m]⟩ (multiReduction (F := Ideal) (φ := .f32) .add [0] ⟨1, ![m]⟩ a 0x00000000#32 h hφ hacc) hc)
      (fun _ j => ∑ k : Fin n, f k j) := fun i => by
  obtain ⟨p, q, rfl⟩ := ex2 i
  rw [ValueIdx.shapeCast_a_1a_apply, Ideal.multiReduction_add_single]
  exact Finset.sum_congr rfl fun k _ => ha _

/-- The sum of all elements. -/
theorem total {v : FVec Ideal S512x1024 .f32} {f : ℕ → ℕ → EReal} (hv : X2 v f) :
    extractAt ![0, 0, 0] (shapeCast S1x1x1 (multiReduction (F := Ideal) (φ := .f32) .add [1, 2] S1
      (shapeCast S1x512x1024 v shapeCasts_S512x1024_S1x512x1024) 0x00000000#32 reduces_S1x512x1024_S1 (.inl rfl) rfl) shapeCasts_S1_S1x1x1)
      inpos_S1x1x1_p0_0_0 = ∑ p : Fin 512, ∑ q : Fin 1024, f p q := by
  refine (Ideal.multiReduction_add_total (shapeCast S1x512x1024 v shapeCasts_S512x1024_S1x512x1024) 0x00000000#32 reduces_S1x512x1024_S1
    (by decide) (.inl rfl) rfl _).trans ?_
  refine (Equiv.sum_comp (Shape.reshapeEquiv _) v).trans ?_
  rw [ValueIdx.sum_idx2]
  exact Finset.sum_congr rfl fun p _ => Finset.sum_congr rfl fun q _ => hv _

include hy

theorem pay6_x : X2 (k0_pay6 (F := Ideal) v66) (fun i _ => K.r (b + i)) :=
  ((((hy.mul hy).rowSum reduces_S512x1024_S512 (.inl rfl) rfl shapeCasts_S512_S512x1).div (X2.const 0x44800000#32)).add
    (X2.const 0x358637BD#32)).rsqrt

theorem pay7_x : X2 (k0_pay7 (F := Ideal) v66) (fun i j => K.xn (b + i) j) := hy.mul ((pay6_x hy).column broadcasts_S512x1_S512x1024)

include ht hf

theorem pay8_x : X2 (k0_pay8 (F := Ideal) v66 v70 v71) (fun i j => K.err (b + i) j) :=
  ((pay7_x hy).mul ((hf.cast shapeCasts_S1x1024_S1x1024).row broadcasts_S1x1024_S512x1024)).sub ht

theorem pay9_x : X2 (k0_pay9 (F := Ideal) v66 v70 v71) (fun i j => K.dy (b + i) j) := (pay8_x hy ht hf).mul (X2.const 0x3A800000#32)

theorem pay10_x : X2 (k0_pay10 (F := Ideal) v66 v70 v71) (fun i j => K.dx (b + i) j) := by
  have hd := (pay9_x hy ht hf).mul ((hf.cast shapeCasts_S1x1024_S1x1024).row broadcasts_S1x1024_S512x1024)
  have hm := ((hd.mul (pay7_x hy)).rowSum reduces_S512x1024_S512 (.inl rfl) rfl shapeCasts_S512_S512x1).div (X2.const 0x44800000#32)
  exact ((pay6_x hy).column broadcasts_S512x1_S512x1024).mul
    (hd.sub ((pay7_x hy).mul (hm.column broadcasts_S512x1_S512x1024)))

theorem pay11_x : X2 (k0_pay11 (F := Ideal) v66 v70 v71) (fun _ j => ∑ p : Fin 512, K.dy (b + p) j * K.xn (b + p) j) :=
  colSum ((pay9_x hy ht hf).mul (pay7_x hy)) reduces_S512x1024_S1024 (.inl rfl) rfl shapeCasts_S1024_S1x1024

theorem pay12_x {s : EReal} (hl : X2 v109 (fun _ _ => s)) : X2 (k0_pay12 (F := Ideal) v66 v70 v71 v109)
    (fun _ _ => s + lit 0x3A000000#32 * ∑ p : Fin 512, K.sq (b + p)) :=
  (hl.cast shapeCasts_S8x128_S8x128).add fun _ => congrArg (lit 0x3A000000#32 * ·) (total ((pay8_x hy ht hf).mul (pay8_x hy ht hf)))

omit hy ht hf

theorem pay4_x {f g : ℕ → ℕ → EReal} (h0 : X2 v108 f) (h1 : X2 v114 g) : X2 (k0_pay4 (F := Ideal) v108 v114) (fun i j => g i j + f i j) :=
  (h1.cast shapeCasts_S1x1024_S1x1024).add h0

end Loss

end Ffn3

end
-- ==== Proof.Ffn3Ref.lean ====
/-
  The reference of the feed-forward half with the loss, read entry by entry.
-/
module

public import proofs.«01_k».proof.Proof.FfnHost
public import proofs.«01_k».proof.Proof.FfnLoss
public import proofs.«01_k».proof.Proof.Ffn2Ref
public import proofs.«01_k».proof.Proof.Gen.Reference3Ideal.Read

@[expose] public section

set_option maxRecDepth 65536

noncomputable section

namespace FfnFwd

open Idealize.ShloMosaic Idealize.SL.Sem MixBwd

/-- A table with one row of its own and zeros below. -/
theorem X2.padded {c : ℕ} {x : (⟨2, ![1, c]⟩ : Shape).Idx → EReal} {z : (⟨2, ![7, c]⟩ : Shape).Idx → EReal} {f : ℕ → EReal}
    (hx : X2 x (fun _ j => f j)) (hz : ∀ i, z i = 0)
    (h : Shape.Concatenates [⟨2, ![1, c]⟩, ⟨2, ![7, c]⟩] ⟨2, ![8, c]⟩ 0) (p : Fin 8) (q : Fin c) :
    join2 ⟨2, ![8, c]⟩ 0 ⟨2, ![1, c]⟩ ⟨2, ![7, c]⟩ x z h (ValueIdx.ix2 p q) = if p.val = 0 then f q else 0 := by
  unfold join2
  let xs : List ((s : Shape) × (s.Idx → EReal)) := [⟨⟨2, ![1, c]⟩, x⟩, ⟨⟨2, ![7, c]⟩, z⟩]
  by_cases e : p.val = 0
  · refine (concatenate_apply_piece 0 xs h (ValueIdx.ix2 p q) 0 (by show 0 < 2; norm_num) ⟨2, ![1, c]⟩ x rfl rfl 0 rfl (ValueIdx.ix2 (0 : Fin 1) q)
      (fun b hb => by
        match b with
        | ⟨0, _⟩ => exact absurd rfl hb
        | ⟨1, _⟩ => rfl) (by show 0 + 0 = p.val; omega)).trans ((hx _).trans ?_)
    rw [if_pos e]; rfl
  · have hp := p.isLt
    refine (concatenate_apply_piece 0 xs h (ValueIdx.ix2 p q) 1 (by show 1 < 2; norm_num) ⟨2, ![7, c]⟩ z rfl rfl 1 rfl
      (ValueIdx.ix2 (⟨p.val - 1, by omega⟩ : Fin 7) q)
      (fun b hb => by
        match b with
        | ⟨0, _⟩ => exact absurd rfl hb
        | ⟨1, _⟩ => rfl) (by show 1 + (p.val - 1) = p.val; omega)).trans ((hz _).trans ?_)
    rw [if_neg e]

end FfnFwd

namespace Ffn3

open Idealize.ShloMosaic Idealize.SL.Sem MixBwd FfnFwd Cert.Reference3Ideal Cert.Reference3Ideal.Read

/-- The rows the layer ends with, the targets and the weights of the last norm. -/
def head (N : Net) (t : ℕ → ℕ → EReal) (gf : ℕ → EReal) : Head := ⟨N.xo, t, gf⟩

/-- The arrays hold the arguments `N`, the targets `t` and the last norm's weights `gf`. -/
structure Args (N : Net) (t : ℕ → ℕ → EReal) (gf : ℕ → EReal) (x0 x1 : S8192x1024.Idx → EReal) (x2 x3 x4 x5 : S1x1024.Idx → EReal)
    (x6 : S1024x5632.Idx → EReal) (x7 : S2816x1024.Idx → EReal) (x8 : S1x1024.Idx → EReal) : Prop where
  x : X2 x0 N.x
  t : X2 x1 t
  shift : X2 x2 (fun _ j => N.shift j)
  scale : X2 x3 (fun _ j => N.scale j)
  gate : X2 x4 (fun _ j => N.gate j)
  gn : X2 x5 (fun _ j => N.gn j)
  win : X2 x6 N.win
  wout : X2 x7 N.wout
  gf : X2 x8 (fun _ j => gf j)

variable {N : Net} {t : ℕ → ℕ → EReal} {gf : ℕ → EReal} {x0 x1 : S8192x1024.Idx → EReal} {x2 x3 x4 x5 : S1x1024.Idx → EReal}
  {x6 : S1024x5632.Idx → EReal} {x7 : S2816x1024.Idx → EReal} {x8 : S1x1024.Idx → EReal} (A : Args N t gf x0 x1 x2 x3 x4 x5 x6 x7 x8)

include A

theorem v1_x (i : S8192.Idx) : val_main_v1 (F := Ideal) x0 i = ∑ k : Fin 1024, N.x (i 0).val k * N.x (i 0).val k := by
  rw [val_main_v1_apply]
  refine (congrArg₂ (· + ·) (w_zero.trans EReal.coe_zero) (Finset.sum_congr rfl fun k _ => congrArg₂ (· * ·) (A.x _) (A.x _))).trans ?_
  exact zero_add _

theorem v7_x (i : S8192x1.Idx) : val_main_v7 (F := Ideal) x0 i = N.r (i 0).val := by
  show FloatOps.hostUnary (F := Ideal) (φ := .f32) .rsqrt (FloatOps.addf (F := Ideal) (φ := .f32) (FloatOps.hostDivf (F := Ideal) (φ := .f32)
    (val_main_v2 (F := Ideal) x0 i) (val_main_v3 (F := Ideal) i)) (val_main_v5 (F := Ideal) i)) = _
  rw [val_main_v2_apply, v1_x A, val_main_v3_apply, val_main_v5_apply]
  rfl

theorem v17_x (i : S8192x1024.Idx) : val_main_v17 (F := Ideal) x0 x2 x3 x5 i = N.h (i 0).val (i 1).val := by
  show x0 i * val_main_v8 (F := Ideal) x0 i * val_main_v10 (F := Ideal) x5 i * val_main_v14 (F := Ideal) x3 i + val_main_v16 (F := Ideal) x2 i = _
  rw [val_main_v8_apply, v7_x A, val_main_v10_apply, val_main_v14_apply, val_main_v16_apply, val_main_v13_apply, val_main_v12_apply,
    A.x, A.gn, A.scale, A.shift]
  rfl

theorem v18_x (i : S8192x5632.Idx) : val_main_v18 (F := Ideal) x0 x2 x3 x5 x6 i = N.up (i 0).val (i 1).val := by
  rw [val_main_v18_apply]
  exact Finset.sum_congr rfl fun k _ => congrArg₂ (· * ·) (v17_x A _) (A.win _)

theorem v19_x (i : S8192x2816.Idx) : val_main_v19 (F := Ideal) x0 x2 x3 x5 x6 i = N.g (i 0).val (i 1).val := by
  rw [val_main_v19_apply, v18_x A]
  rfl

theorem v20_x (i : S8192x2816.Idx) : val_main_v20 (F := Ideal) x0 x2 x3 x5 x6 i = N.u (i 0).val (i 1).val := by
  rw [val_main_v20_apply, v18_x A]
  rfl

theorem v24_x (i : S8192x2816.Idx) : val_main_v24 (F := Ideal) x0 x2 x3 x5 x6 i = N.a (i 0).val (i 1).val := by
  rw [val_main_v24_apply, val_main_v23_apply, val_main_call0_v5_apply, val_main_call0_v4_apply, val_main_call0_v3_apply,
    val_main_call0_v2_apply, val_main_call0_v1_apply, val_main_call0_v0_apply, v19_x A, v20_x A]
  refine congrArg (· * N.u _ _) (congrArg (N.g _ _ * ·) ?_)
  exact (Ffn2.sig_eq _).symm

theorem v25_x (i : S8192x1024.Idx) : val_main_v25 (F := Ideal) x0 x2 x3 x5 x6 x7 i = N.y (i 0).val (i 1).val := by
  rw [val_main_v25_apply, Net.y, Net.part, Finset.sum_range (n := 2816)]
  exact Finset.sum_congr rfl fun k _ => congrArg₂ (· * ·) (v24_x A _) (A.wout _)

theorem v28_x : val_main_v28 (F := Ideal) x0 x2 x3 x4 x5 x6 x7 = fun i => N.xo (i 0).val (i 1).val := funext fun i => by
  rw [val_main_v28_apply, val_main_v27_apply, v25_x A, val_main_v26_apply, val_main_v22_apply, val_main_v21_apply, A.x, A.gate]
  rfl

theorem v29_x : val_main_v29 (F := Ideal) x0 x2 x3 x5 x6 = fun i => N.g (i 0).val (i 1).val := funext fun i => v19_x A i

theorem v30_x : val_main_v30 (F := Ideal) x0 x2 x3 x5 x6 = fun i => N.u (i 0).val (i 1).val := funext fun i => v20_x A i

theorem v34_x (i : S8192.Idx) : val_main_v34 (F := Ideal) x0 x2 x3 x4 x5 x6 x7 i
    = ∑ k : Fin 1024, (head N t gf).y (i 0).val k * (head N t gf).y (i 0).val k := by
  rw [val_main_v34_apply]
  refine (congrArg₂ (· + ·) (w_zero.trans EReal.coe_zero) (Finset.sum_congr rfl fun k _ => ?_)).trans (zero_add _)
  rw [val_main_v31_apply, v28_x A]
  rfl

theorem v39_x (i : S8192x1.Idx) : val_main_v39 (F := Ideal) x0 x2 x3 x4 x5 x6 x7 i = (head N t gf).ms (i 0).val := by
  rw [val_main_v39_apply, val_main_v37_apply, val_main_v35_apply, v34_x A, val_main_v36_apply, val_main_v38_apply]
  rfl

theorem v40_x (i : S8192x1.Idx) : val_main_v40 (F := Ideal) x0 x2 x3 x4 x5 x6 x7 i = (head N t gf).r (i 0).val := by
  rw [val_main_v40_apply, v39_x A]
  rfl

theorem v45_x (i : S8192x1024.Idx) : val_main_v45 (F := Ideal) x0 x2 x3 x4 x5 x6 x7 i = (head N t gf).xn (i 0).val (i 1).val := by
  rw [val_main_v45_apply, v28_x A, val_main_v44_apply, v40_x A]
  rfl

theorem v48_x (i : S8192x1024.Idx) : val_main_v48 (F := Ideal) x0 x1 x2 x3 x4 x5 x6 x7 x8 i = (head N t gf).err (i 0).val (i 1).val := by
  rw [val_main_v48_apply, val_main_v47_apply, v45_x A, val_main_v46_apply, A.gf, A.t]
  rfl

theorem v52_x (i : S8192.Idx) : val_main_v52 (F := Ideal) x0 x1 x2 x3 x4 x5 x6 x7 x8 i = (head N t gf).sq (i 0).val := by
  rw [val_main_v52_apply]
  refine (congrArg₂ (· + ·) (w_zero.trans EReal.coe_zero) (Finset.sum_congr rfl fun k _ => ?_)).trans (zero_add _)
  rw [val_main_v49_apply, v48_x A]
  rfl

theorem v54_x (i : S8192.Idx) : val_main_v54 (F := Ideal) x0 x1 x2 x3 x4 x5 x6 x7 x8 i
    = FloatOps.divf (F := Ideal) (φ := .f32) ((head N t gf).sq (i 0).val) (lit 0x44800000#32) := by
  rw [val_main_v54_apply, v52_x A, val_main_v53_apply]
  rfl

theorem v80_x : val_main_v80 (F := Ideal) x0 x1 x2 x3 x4 x5 x6 x7 x8 = fun _ => (head N t gf).loss 16 := funext fun i => by
  rw [val_main_v80_apply, val_main_v56_apply, val_main_v55_apply]
  refine Eq.trans ?_ (head N t gf).loss_eq
  refine congrArg (lit 0x3F000000#32 * ·) ((congrArg₂ (· + ·) (w_zero.trans EReal.coe_zero)
    (Finset.sum_congr rfl fun j _ => v54_x A j)).trans ((zero_add _).trans ?_))
  exact Fintype.sum_equiv (Equiv.piUnique fun a : Fin 1 => Fin ((![8192] : Fin 1 → ℕ) a)) _ _ fun _ => rfl

theorem v62_x (i : S8192x1024.Idx) : val_main_v62 (F := Ideal) x0 x1 x2 x3 x4 x5 x6 x7 x8 i = (head N t gf).dy (i 0).val (i 1).val := by
  rw [val_main_v62_apply, val_main_v61_apply, val_main_v60_apply, val_main_v58_apply, val_main_v57_apply, val_main_v59_apply,
    val_main_v51_apply, val_main_v50_apply, v48_x A]
  exact (head N t gf).dy_eq _ _

theorem v65_x : X2 (val_main_v65 (F := Ideal) x0 x1 x2 x3 x4 x5 x6 x7 x8) (fun _ j => (head N t gf).dgf 16 j) := fun i => by
  rw [val_main_v65_apply, val_main_v64_apply]
  refine (congrArg₂ (· + ·) (w_zero.trans EReal.coe_zero) (Finset.sum_congr rfl fun k _ => ?_)).trans ((zero_add _).trans ((head N t gf).dgf_eq _))
  rw [val_main_v63_apply, v45_x A, v62_x A]
  have i0 : (i 0).val < 1 := (i 0).isLt
  have e : (i 0).val * 1024 + (i 1).val = (i 1).val := by omega
  show (head N t gf).xn k ((i 0).val * 1024 + (i 1).val) * (head N t gf).dy k ((i 0).val * 1024 + (i 1).val) = _
  rw [e]

theorem v82_x (i : S8x1024.Idx) : val_main_v82 (F := Ideal) x0 x1 x2 x3 x4 x5 x6 x7 x8 i = if (i 0).val = 0 then (head N t gf).dgf 16 (i 1).val else 0 := by
  have e : i = ValueIdx.ix2 (i 0) (i 1) := funext fun a => by
    match a with
    | ⟨0, _⟩ => rfl
    | ⟨1, _⟩ => rfl
  rw [e]
  exact (v65_x A).padded (fun i => (val_main_v81_apply (F := Ideal) i).trans (w_zero.trans EReal.coe_zero)) _ (i 0) (i 1)

theorem v67_x (i : S8192x1024.Idx) : val_main_v67 (F := Ideal) x0 x1 x2 x3 x4 x5 x6 x7 x8 i = (head N t gf).dxn (i 0).val (i 1).val := by
  rw [val_main_v67_apply, v62_x A, val_main_v66_apply, A.gf]
  rfl

theorem v69_x (i : S8192.Idx) : val_main_v69 (F := Ideal) x0 x1 x2 x3 x4 x5 x6 x7 x8 i
    = ∑ k : Fin 1024, (head N t gf).y (i 0).val k * (head N t gf).dxn (i 0).val k := by
  rw [val_main_v69_apply]
  refine (congrArg₂ (· + ·) (w_zero.trans EReal.coe_zero) (Finset.sum_congr rfl fun k _ => ?_)).trans (zero_add _)
  rw [val_main_v68_apply, v28_x A, v67_x A]
  rfl

theorem v75_x (i : S8192x1.Idx) : val_main_v75 (F := Ideal) x0 x1 x2 x3 x4 x5 x6 x7 x8 i
    = FloatOps.divf (F := Ideal) (φ := .f32) ((∑ k : Fin 1024, (head N t gf).y (i 0).val k * (head N t gf).dxn (i 0).val k)
        * (lit 0xBF000000#32 * FloatOps.divf (F := Ideal) (φ := .f32) ((head N t gf).r (i 0).val) ((head N t gf).ms (i 0).val))) (lit 0x44800000#32) := by
  rw [val_main_v75_apply, val_main_v73_apply, val_main_v70_apply, v69_x A, val_main_v43_apply, val_main_v42_apply, val_main_v41_apply,
    v40_x A, v39_x A, val_main_v74_apply]
  have i1 : (i 1).val < 1 := (i 1).isLt
  have e : (idx_main_v70 i 0).val = (i 0).val := by show (i 0).val * 1 + (i 1).val = _; omega
  rw [e]
  rfl

theorem v76_x (i : S8192.Idx) : val_main_v76 (F := Ideal) x0 x1 x2 x3 x4 x5 x6 x7 x8 i
    = FloatOps.divf (F := Ideal) (φ := .f32) ((∑ k : Fin 1024, (head N t gf).y (i 0).val k * (head N t gf).dxn (i 0).val k)
        * (lit 0xBF000000#32 * FloatOps.divf (F := Ideal) (φ := .f32) ((head N t gf).r (i 0).val) ((head N t gf).ms (i 0).val))) (lit 0x44800000#32) := by
  rw [val_main_v76_apply]
  refine (congrArg₂ (· + ·) (w_zero.trans EReal.coe_zero) (Fin.sum_univ_one _)).trans ((zero_add _).trans ?_)
  rw [v75_x A]

theorem v79_x : val_main_v79 (F := Ideal) x0 x1 x2 x3 x4 x5 x6 x7 x8 = fun i => (head N t gf).dx (i 0).val (i 1).val := funext fun i => by
  rw [val_main_v79_apply, val_main_v72_apply, v67_x A, val_main_v71_apply, v40_x A, val_main_v78_apply, val_main_v77_apply, v76_x A,
    val_main_v33_apply, val_main_v32_apply, v28_x A]
  exact (head N t gf).dx_eq _ (i 1).isLt

end Ffn3

end
-- ==== Proof.Ffn3Host.lean ====
/-
  What the feed-forward kernel with the loss is given: the table of rows, the two matrices in groups, and the blocks of a
  point of its grid.
-/
module

public import proofs.«01_k».proof.Proof.FfnHost
public import proofs.«01_k».proof.Proof.Ffn3Pay
public import proofs.«01_k».proof.Proof.Ffn3Ref
public import Idealize.ShloMosaic.Lib.Claim

@[expose] public section

set_option maxRecDepth 65536

noncomputable section

namespace Ffn3

open Idealize.ShloMosaic Idealize.SL.Sem MixBwd FfnFwd Cert.Kernel3Ideal Cert.Kernel3Ideal.Gen

variable {m : (l : Loc nD τ sig) → Buf (Elt Ideal) l} {c : Dev nD} {N : Net} {t : ℕ → ℕ → EReal} {gf : ℕ → EReal}

/-- The memory holds the arguments `N`, the targets `t` and the last norm's weights `gf`. -/
structure Holds (m : (l : Loc nD τ sig) → Buf (Elt Ideal) l) (c : Dev nD) (N : Net) (t : ℕ → ℕ → EReal) (gf : ℕ → EReal) : Prop where
  x : X2 (n := 8192) (m := 1024) (m (c, Proc.tc.devRef main_arg0)) N.x
  t : X2 (n := 8192) (m := 1024) (m (c, Proc.tc.devRef main_arg1)) t
  shift : X2 (n := 1) (m := 1024) (m (c, Proc.tc.devRef main_arg2)) (fun _ j => N.shift j)
  scale : X2 (n := 1) (m := 1024) (m (c, Proc.tc.devRef main_arg3)) (fun _ j => N.scale j)
  gate : X2 (n := 1) (m := 1024) (m (c, Proc.tc.devRef main_arg4)) (fun _ j => N.gate j)
  gn : X2 (n := 1) (m := 1024) (m (c, Proc.tc.devRef main_arg5)) (fun _ j => N.gn j)
  win : X2 (n := 1024) (m := 5632) (m (c, Proc.tc.devRef main_arg6)) N.win
  wout : X2 (n := 2816) (m := 1024) (m (c, Proc.tc.devRef main_arg7)) N.wout
  gf : X2 (n := 1) (m := 1024) (m (c, Proc.tc.devRef main_arg8)) (fun _ j => gf j)

theorem table (H : Holds m c N t gf) (p : Fin 8) (q : Fin 1024) (hp : p.val < 4) : (V (F := Ideal) m c main_v3 : S8x1024.Idx → EReal) (ValueIdx.ix2 p q)
    = if p.val = 0 then N.shift q else if p.val = 1 then N.scale q else if p.val = 2 then N.gate q else N.gn q := by
  have e : V (F := Ideal) m c main_v3 = (join5 S8x1024 0 S1x1024 S1x1024 S1x1024 S1x1024 S4x1024 (m (c, Proc.tc.devRef main_arg2))
      (m (c, Proc.tc.devRef main_arg3)) (m (c, Proc.tc.devRef main_arg4)) (m (c, Proc.tc.devRef main_arg5))
      (broadcastInDim S4x1024 ![] bcast_S_S4x1024 (constant (F := Ideal) S_ .f32 0x00000000#32))
      concatenates_S1x1024_S1x1024_S1x1024_S1x1024_S4x1024_S8x1024_d0 : S8x1024.Idx → EReal) := by
    after_reads_simp [join2_eq, join5_eq, Matrix.cons_val]
  rw [e]
  exact X2.rows H.shift H.scale H.gate H.gn _ p q hp

theorem wgu (H : Holds m c N t gf) : X3 (l := 2) (n := 1024) (m := 2816) (V (F := Ideal) m c main_v7) N.wgu := by
  have e : V (F := Ideal) m c main_v7 = (shapeCast S2x1024x2816 (transpose S2x1024x2x1408 [2, 0, 1, 3]
      (shapeCast S1024x2x2x1408 (m (c, Proc.tc.devRef main_arg6)) shapeCasts_S1024x5632_S1024x2x2x1408)
      transposes_S1024x2x2x1408_S2x1024x2x1408_2_0_1_3) shapeCasts_S2x1024x2x1408_S2x1024x2816 : S2x1024x2816.Idx → EReal) := by
    entry_read
    after_reads_simp [join2_eq, join5_eq, Matrix.cons_val]
    rfl
  rw [e]
  exact X2.wide H.win _ _ _

theorem wo (H : Holds m c N t gf) : X3 (l := 2) (n := 1408) (m := 1024) (V (F := Ideal) m c main_v9) N.wo := by
  have e : V (F := Ideal) m c main_v9 = (shapeCast S2x1408x1024 (m (c, Proc.tc.devRef main_arg7))
      shapeCasts_S2816x1024_S2x1408x1024 : S2x1408x1024.Idx → EReal) := by
    entry_read
    rfl
  rw [e]
  exact X2.tall H.wout _

theorem index_in : ∀ n : Fin cfg0.N,
    (win0_0.index n 0 = n.val / 2 ∧ win0_0.index n 1 = 0) ∧ (win0_1.index n 0 = 0 ∧ win0_1.index n 1 = 0) ∧
    (win0_2.index n 0 = n.val / 2 ∧ win0_2.index n 1 = 0) ∧ (win0_3.index n 0 = 0 ∧ win0_3.index n 1 = 0) := by
  decide +kernel

theorem x_block (H : Holds m c N t gf) (n : Fin cfg0.N) :
    X2 (n := 512) (m := 1024) (iblk (F := Ideal) m c 0 n) (fun i j => N.x (512 * (n.val / 2) + i) j) := by
  intro y
  blk_simp [iblk]
  have e : X2 (n := 8192) (m := 1024) (V (F := Ideal) m c main_arg0) N.x := by rw [V_main_arg0]; exact H.x
  refine (e _).trans ?_
  blk_simp
  obtain ⟨i0, i1⟩ := (index_in n).1
  rw [i0, i1, zero_mul, zero_add, Nat.mul_comm (n.val / 2)]

theorem table_block (H : Holds m c N t gf) (n : Fin cfg0.N) (p : Fin 8) (q : Fin 1024) (hp : p.val < 4) :
    (iblk (F := Ideal) m c 1 n : S8x1024.Idx → EReal) (ValueIdx.ix2 p q)
      = if p.val = 0 then N.shift q else if p.val = 1 then N.scale q else if p.val = 2 then N.gate q else N.gn q := by
  blk_simp [iblk]
  refine Eq.trans (congrArg (V (F := Ideal) m c main_v3 : S8x1024.Idx → EReal) (funext fun a => Fin.ext ?_)) (table H p q hp)
  obtain ⟨i0, i1⟩ := (index_in n).2.1
  match a with
  | ⟨0, _⟩ => blk_simp; rw [i0]; simp
  | ⟨1, _⟩ => blk_simp; rw [i1]; simp

/-- A row of the table as the kernel loads it. -/
theorem row_block (H : Holds m c N t gf) (n : Fin cfg0.N) {r : ℕ} (hr : r < 4)
    (inb : ∀ k, ![r, 0] k + ![1, 1024] k ≤ S8x1024.size k) {f : ℕ → EReal}
    (hf : f = fun j => if r = 0 then N.shift j else if r = 1 then N.scale j else if r = 2 then N.gate j else N.gn j) :
    X2 (n := 1) (m := 1024)
      (View.ld (Val := Elt Ideal) (e' := .f32) (S := S8x1024) (iblk (F := Ideal) m c 1 n) (Rect.unit (s := S8x1024) ![r, 0] ![1, 1024] inb))
      (fun _ j => f j) := fun i => by
  subst hf
  have i0 : (i 0).val < 1 := (i 0).isLt
  have i1 : (i 1).val < 1024 := (i 1).isLt
  exact (View.ld_unit_apply_of (Val := Elt Ideal) (e := .f32) (iblk (F := Ideal) m c 1 n) ![r, 0] ![1, 1024] inb i
    (ValueIdx.ix2 (⟨r, by omega⟩ : Fin 8) (⟨(i 1).val, i1⟩ : Fin 1024)) fun k => by match k with
      | ⟨0, _⟩ => show r = r + (i 0).val; omega
      | ⟨1, _⟩ => exact (Nat.zero_add _).symm).trans (table_block H n _ _ hr)

theorem gfTable (H : Holds m c N t gf) (p : Fin 8) (q : Fin 1024) : (V (F := Ideal) m c main_v1 : S8x1024.Idx → EReal) (ValueIdx.ix2 p q)
    = if p.val = 0 then gf q else 0 := by
  have e : V (F := Ideal) m c main_v1 = (join2 S8x1024 0 S1x1024 S7x1024 (m (c, Proc.tc.devRef main_arg8))
      (broadcastInDim S7x1024 ![] bcast_S_S7x1024 (constant (F := Ideal) S_ .f32 0x00000000#32))
      concatenates_S1x1024_S7x1024_S8x1024_d0 : S8x1024.Idx → EReal) := by
    after_reads_simp [join2_eq, join5_eq, Matrix.cons_val]
  rw [e]
  exact X2.padded H.gf (fun i => w_zero.trans EReal.coe_zero) _ p q

theorem t_block (H : Holds m c N t gf) (n : Fin cfg0.N) :
    X2 (n := 512) (m := 1024) (iblk (F := Ideal) m c 2 n) (fun i j => t (512 * (n.val / 2) + i) j) := by
  intro y
  blk_simp [iblk]
  have e : X2 (n := 8192) (m := 1024) (V (F := Ideal) m c main_arg1) t := by rw [V_main_arg1]; exact H.t
  refine (e _).trans ?_
  blk_simp
  obtain ⟨i0, i1⟩ := (index_in n).2.2.1
  rw [i0, i1, zero_mul, zero_add, Nat.mul_comm (n.val / 2)]

theorem gf_block (H : Holds m c N t gf) (n : Fin cfg0.N) (p : Fin 8) (q : Fin 1024) :
    (iblk (F := Ideal) m c 3 n : S8x1024.Idx → EReal) (ValueIdx.ix2 p q) = if p.val = 0 then gf q else 0 := by
  blk_simp [iblk]
  refine Eq.trans (congrArg (V (F := Ideal) m c main_v1 : S8x1024.Idx → EReal) (funext fun a => Fin.ext ?_)) (gfTable H p q)
  obtain ⟨i0, i1⟩ := (index_in n).2.2.2
  match a with
  | ⟨0, _⟩ => blk_simp; rw [i0]; simp
  | ⟨1, _⟩ => blk_simp; rw [i1]; simp

/-- The last norm's weights as the kernel loads them. -/
theorem gf_row (H : Holds m c N t gf) (n : Fin cfg0.N) (inb : ∀ k, ![0, 0] k + ![1, 1024] k ≤ S8x1024.size k) :
    X2 (n := 1) (m := 1024)
      (View.ld (Val := Elt Ideal) (e' := .f32) (S := S8x1024) (iblk (F := Ideal) m c 3 n) (Rect.unit (s := S8x1024) ![0, 0] ![1, 1024] inb))
      (fun _ j => gf j) := fun i => by
  have i0 : (i 0).val < 1 := (i 0).isLt
  have i1 : (i 1).val < 1024 := (i 1).isLt
  exact (View.ld_unit_apply_of (Val := Elt Ideal) (e := .f32) (iblk (F := Ideal) m c 3 n) ![0, 0] ![1, 1024] inb i
    (ValueIdx.ix2 (0 : Fin 8) (⟨(i 1).val, i1⟩ : Fin 1024)) fun k => by match k with
      | ⟨0, _⟩ => show 0 = 0 + (i 0).val; omega
      | ⟨1, _⟩ => exact (Nat.zero_add _).symm).trans (gf_block H n _ _)

end Ffn3

end
-- ==== Proof.Ffn3Point.lean ====
/-
  A point of the grid of the feed-forward kernel with the loss, given the matrices it reads.
-/
module

public import proofs.«01_k».proof.Proof.Ffn3Host
public import proofs.«01_k».proof.Proof.Ffn3Ref
public import Idealize.ShloMosaic.Lib.WritesUnit

@[expose] public section

set_option maxRecDepth 65536

noncomputable section

namespace Ffn3

open Idealize.ShloMosaic Idealize.SL.Sem MixBwd FfnFwd Cert.Kernel3Ideal Cert.Kernel3Ideal.Gen

variable {m : (l : Loc nD τ sig) → Buf (Elt Ideal) l} {c : Dev nD} {N : Net} {t : ℕ → ℕ → EReal} {gf : ℕ → EReal}

theorem off1 : ∀ n : Fin cfg0.N, k0_off1 (grid0.coords n) = ![n.val % 2, 0, 0] := by decide +kernel

theorem off2 : ∀ n : Fin cfg0.N, k0_off2 (grid0.coords n) = ![n.val % 2, 0, 0] := by decide +kernel

theorem coord1 : ∀ n : Fin cfg0.N, (grid0.coords n 1).val = n.val % 2 := by decide +kernel

/-- What one point of the grid leaves: the gradient of the rows once both groups are added, the saved products, the loss and
    the last norm's gradient so far, and what it carries to the next point. -/
structure Left (m : (l : Loc nD τ sig) → Buf (Elt Ideal) l) (c : Dev nD) (N : Net) (t : ℕ → ℕ → EReal) (gf : ℕ → EReal) (n : ℕ)
    (hn : n < cfg0.N) : Prop where
  out : n % 2 = 1 → X2 (n := 512) (m := 1024) (outsAt0 (F := Ideal) m c n hn).1 (fun i j => (head N t gf).dx (512 * (n / 2) + i) j)
  g : X2 (n := 512) (m := 1408) (outsAt0 (F := Ideal) m c n hn).2.1 (fun i j => N.g (512 * (n / 2) + i) (1408 * (n % 2) + j))
  u : X2 (n := 512) (m := 1408) (outsAt0 (F := Ideal) m c n hn).2.2.1 (fun i j => N.u (512 * (n / 2) + i) (1408 * (n % 2) + j))
  loss : X2 (n := 8) (m := 128) (outsAt0 (F := Ideal) m c n hn).2.2.2.1 (fun _ _ => (head N t gf).loss ((n + 1) / 2))
  dgf : X2 (n := 8) (m := 1024) (outsAt0 (F := Ideal) m c n hn).2.2.2.2.1
    (fun i j => if i = 0 then (head N t gf).dgf ((n + 1) / 2) j else 0)
  acc : X2 (n := 512) (m := 1024) (outsAt0 (F := Ideal) m c n hn).2.2.2.2.2.1
    (fun i j => N.part (1408 * (n % 2 + 1)) (512 * (n / 2) + i) j)
  wgu : X3 (l := 2) (n := 1024) (m := 2816) (outsAt0 (F := Ideal) m c n hn).2.2.2.2.2.2.1 N.wgu
  wo : X3 (l := 2) (n := 1408) (m := 1024) (outsAt0 (F := Ideal) m c n hn).2.2.2.2.2.2.2 N.wo

/-! ### A point, given the matrices it reads -/

section Point

variable {n : Fin cfg0.N} {w1 : FVec Ideal S2x1024x2816 .bf16} {w2 : FVec Ideal S2x1408x1024 .bf16} {a : FVec Ideal S512x1024 .f32}

abbrev row (m : (l : Loc nD τ sig) → Buf (Elt Ideal) l) (c : Dev nD) (n : Fin cfg0.N) (r : ℕ)
    (inb : ∀ k, ![r, 0] k + ![1, 1024] k ≤ S8x1024.size k) : FVec Ideal S1x1024 .f32 :=
  View.ld (Val := Elt Ideal) (e' := .f32) (S := S8x1024) (iblk (F := Ideal) m c 1 n) (Rect.unit (s := S8x1024) ![r, 0] ![1, 1024] inb)

abbrev tg (m : (l : Loc nD τ sig) → Buf (Elt Ideal) l) (c : Dev nD) (n : Fin cfg0.N) (w1 : FVec Ideal S2x1024x2816 .bf16) :
    FVec Ideal S512x1408 .bf16 :=
  k0_pay17 (F := Ideal) (iblk (F := Ideal) m c 0 n) (row m c n 3 inb_S8x1024_S1x1024_3_0) (row m c n 1 inb_S8x1024_S1x1024_1_0)
    (row m c n 0 inb_S8x1024_S1x1024_0_0)
    (View.ld (Val := Elt Ideal) (e' := .bf16) (S := S2x1024x2816) w1 (Rect.unit (s := S2x1024x2816) (k0_off1 (grid0.coords n)) ![1, 1024, 2816] (k0_off1_inb _)))

abbrev tu (m : (l : Loc nD τ sig) → Buf (Elt Ideal) l) (c : Dev nD) (n : Fin cfg0.N) (w1 : FVec Ideal S2x1024x2816 .bf16) :
    FVec Ideal S512x1408 .bf16 :=
  k0_pay18 (F := Ideal) (iblk (F := Ideal) m c 0 n) (row m c n 3 inb_S8x1024_S1x1024_3_0) (row m c n 1 inb_S8x1024_S1x1024_1_0)
    (row m c n 0 inb_S8x1024_S1x1024_0_0)
    (View.ld (Val := Elt Ideal) (e' := .bf16) (S := S2x1024x2816) w1 (Rect.unit (s := S2x1024x2816) (k0_off1 (grid0.coords n)) ![1, 1024, 2816] (k0_off1_inb _)))

abbrev lo (n : Fin cfg0.N) (w2 : FVec Ideal S2x1408x1024 .bf16) : FVec Ideal S1x1408x1024 .bf16 :=
  View.ld (Val := Elt Ideal) (e' := .bf16) (S := S2x1408x1024) w2 (Rect.unit (s := S2x1408x1024) (k0_off2 (grid0.coords n)) ![1, 1408, 1024] (k0_off2_inb _))

variable (H : Holds m c N t gf) (h1 : X3 (l := 2) (n := 1024) (m := 2816) w1 N.wgu) (h2 : X3 (l := 2) (n := 1408) (m := 1024) w2 N.wo)
  (ha : n.val % 2 = 1 → X2 (n := 512) (m := 1024) a (fun i j => N.part (1408 * (n.val % 2)) (512 * (n.val / 2) + i) j))

include H h1

theorem tg_x : X2 (tg m c n w1) (fun i j => N.g (512 * (n.val / 2) + i) (1408 * (n.val % 2) + j)) :=
  pay17_x (x_block H n) (row_block H n (by norm_num) _ rfl) (row_block H n (by norm_num) _ rfl) (row_block H n (by norm_num) _ rfl)
    ((h1.ld (off1 n) (k0_off1_inb _)).congr fun k i j hk _ _ => by rw [show k = 0 by omega]; rfl)

theorem tu_x : X2 (tu m c n w1) (fun i j => N.u (512 * (n.val / 2) + i) (1408 * (n.val % 2) + j)) :=
  pay18_x (x_block H n) (row_block H n (by norm_num) _ rfl) (row_block H n (by norm_num) _ rfl) (row_block H n (by norm_num) _ rfl)
    ((h1.ld (off1 n) (k0_off1_inb _)).congr fun k i j hk _ _ => by rw [show k = 0 by omega]; rfl)

include h2 ha

theorem acc_x : X2 (k0_pay2 (F := Ideal) (BitVec.ofNat 32 (grid0.coords n 1).val) (tg m c n w1) (tu m c n w1) a (lo n w2))
    (fun i j => N.part (1408 * (n.val % 2 + 1)) (512 * (n.val / 2) + i) j) := by
  rw [coord1 n]
  exact pay2_x (tg_x H h1) (tu_x H h1) ((h2.ld (off2 n) (k0_off2_inb _)).congr fun k i j hk _ _ => by rw [show k = 0 by omega]; rfl)
    (Nat.mod_lt _ (by norm_num)) ha

theorem out_x : X2 (k0_pay3 (F := Ideal) (BitVec.ofNat 32 (grid0.coords n 1).val) (tg m c n w1) (tu m c n w1) a (lo n w2)
      (iblk (F := Ideal) m c 0 n) (row m c n 2 inb_S8x1024_S1x1024_2_0))
    (fun i j => N.x (512 * (n.val / 2) + i) j + lit 0x3F000000#32 * N.gate j * N.part (1408 * (n.val % 2 + 1)) (512 * (n.val / 2) + i) j) := by
  rw [coord1 n]
  exact pay3_x (tg_x H h1) (tu_x H h1) ((h2.ld (off2 n) (k0_off2_inb _)).congr fun k i j hk _ _ => by rw [show k = 0 by omega]; rfl)
    (Nat.mod_lt _ (by norm_num)) ha (x_block H n) (row_block H n (by norm_num) _ rfl)

abbrev gfr (m : (l : Loc nD τ sig) → Buf (Elt Ideal) l) (c : Dev nD) (n : Fin cfg0.N) : FVec Ideal S1x1024 .f32 :=
  View.ld (Val := Elt Ideal) (e' := .f32) (S := S8x1024) (iblk (F := Ideal) m c 3 n)
    (Rect.unit (s := S8x1024) ![0, 0] ![1, 1024] inb_S8x1024_S1x1024_0_0)

abbrev xo (m : (l : Loc nD τ sig) → Buf (Elt Ideal) l) (c : Dev nD) (n : Fin cfg0.N) (w1 : FVec Ideal S2x1024x2816 .bf16)
    (w2 : FVec Ideal S2x1408x1024 .bf16) (a : FVec Ideal S512x1024 .f32) : FVec Ideal S512x1024 .f32 :=
  k0_pay3 (F := Ideal) (BitVec.ofNat 32 (grid0.coords n 1).val) (tg m c n w1) (tu m c n w1) a (lo n w2)
    (iblk (F := Ideal) m c 0 n) (row m c n 2 inb_S8x1024_S1x1024_2_0)

/-- The rows after the half, at the second of two points. -/
theorem xo_x (e : n.val % 2 = 1) : X2 (xo m c n w1 w2 a) (fun i j => (head N t gf).y (512 * (n.val / 2) + i) j) :=
  (out_x H h1 h2 ha).congr fun i j _ _ => by rw [e]; rfl

theorem dx_x (e : n.val % 2 = 1) : X2 (k0_pay10 (F := Ideal) (xo m c n w1 w2 a) (iblk (F := Ideal) m c 2 n) (gfr m c n))
    (fun i j => (head N t gf).dx (512 * (n.val / 2) + i) j) :=
  pay10_x (xo_x H h1 h2 ha e) (t_block H n) (gf_row H n _)

theorem loss_x (e : n.val % 2 = 1) {s : FVec Ideal S8x128 .f32} (hs : X2 s (fun _ _ => (head N t gf).loss (n.val / 2))) :
    X2 (k0_pay12 (F := Ideal) (xo m c n w1 w2 a) (iblk (F := Ideal) m c 2 n) (gfr m c n) s)
      (fun _ _ => (head N t gf).loss ((n.val + 1) / 2)) :=
  (pay12_x (K := head N t gf) (xo_x H h1 h2 ha e) (t_block H n) (gf_row H n _) hs).congr fun i j _ _ => by
    rw [show (n.val + 1) / 2 = n.val / 2 + 1 by omega, Head.loss, Head.loss, Finset.sum_range_succ]

theorem dgf_x (e : n.val % 2 = 1) {s : FVec Ideal S8x1024 .f32}
    (hs : X2 s (fun i j => if i = 0 then (head N t gf).dgf (n.val / 2) j else 0)) :
    X2 (k0_pay4 (F := Ideal) (k0_pay11 (F := Ideal) (xo m c n w1 w2 a) (iblk (F := Ideal) m c 2 n) (gfr m c n))
        (View.ld (Val := Elt Ideal) (e' := .f32) (S := S8x1024) s (Rect.unit (s := S8x1024) ![0, 0] ![1, 1024] inb_S8x1024_S1x1024_0_0)))
      (fun _ j => (head N t gf).dgf ((n.val + 1) / 2) j) :=
  (pay4_x (pay11_x (K := head N t gf) (xo_x H h1 h2 ha e) (t_block H n) (gf_row H n _))
    (hs.ld (n' := 1) (m' := 1024) (r := 0) (c := 0) inb_S8x1024_S1x1024_0_0)).congr fun i j hi _ => by
    rw [show i = 0 by omega, if_pos rfl, show (n.val + 1) / 2 = n.val / 2 + 1 by omega, Head.dgf, Head.dgf, Finset.sum_range_succ, Nat.zero_add]

end Point

theorem whole_x3 {n0 n1 n2 : ℕ} {w : (⟨3, ![n0, n1, n2]⟩ : Shape).Idx → Elt Ideal .bf16} {f : ℕ → ℕ → ℕ → EReal} (hw : X3 w f) :
    X3 (View.canon (Val := Elt Ideal) (e := .bf16) [⟨Rect.whole ⟨3, ![n0, n1, n2]⟩, w⟩]) f := fun i => by
  have e := View.canon_cons_emb (Val := Elt Ideal) (e := .bf16) (Rect.whole ⟨3, ![n0, n1, n2]⟩) w [] i
  rw [Rect.emb_whole_apply] at e
  exact e.trans (hw i)

/-- A table whose first row is stored again. -/
theorem first_row {κ : Kind} {sp : Space} {r : Memref sig κ sp S8x1024 .f32} (h : r.IsWhole) {x : FVec Ideal S8x1024 .f32}
    {w : FVec Ideal S1x1024 .f32} {f g : ℕ → EReal} (hx : X2 (n := 8) (m := 1024) x (fun i j => if i = 0 then f j else 0))
    (hw : X2 (n := 1) (m := 1024) w (fun _ j => g j)) :
    X2 (n := 8) (m := 1024) (View.read (Elt Ideal) r.view (r.view.writes (Elt Ideal) (h.unread x)
      [⟨Rect.unit ![0, 0] ![1, 1024] inb_S8x1024_S1x1024_0_0, w⟩])) (fun i j => if i = 0 then g j else 0) := fun i => by
  have i1 : (i 1).val < 1024 := (i 1).isLt
  by_cases e : (i 0).val = 0
  · refine (View.read_writes_cons_rows_of_mem (Val := Elt Ideal) (d := ![8, 1024]) (e := .f32) r.view (h.unread x) (off := ![0, 0]) (size := ![1, 1024]) (o := 0)
      inb_S8x1024_S1x1024_0_0 w [] i (ValueIdx.ix2 (0 : Fin 1) (⟨(i 1).val, i1⟩ : Fin 1024)) rfl e rfl).trans ((hw _).trans ?_)
    exact (if_pos e).symm
  · refine (View.read_writes_cons_rows_of_not_mem (Val := Elt Ideal) (d := ![8, 1024]) (e := .f32) r.view (h.unread x) (off := ![0, 0]) (size := ![1, 1024]) (o := 0) (W := 1)
      inb_S8x1024_S1x1024_0_0 w [] i rfl rfl (Or.inr (by omega))).trans ?_
    refine (congrFun (h.read_unread (Val := Elt Ideal) (e := .f32) x) i).trans ((hx i).trans ?_)
    exact (if_neg e).trans (if_neg e).symm

end Ffn3

end
-- ==== Proof.Ffn3First.lean ====
/-
  The first point of the grid of the feed-forward kernel with the loss: the matrices have just been brought in.
-/
module

public import proofs.«01_k».proof.Proof.Ffn3Point

@[expose] public section

set_option maxRecDepth 65536

noncomputable section

namespace Ffn3

open Idealize.ShloMosaic Idealize.SL.Sem MixBwd FfnFwd Cert.Kernel3Ideal Cert.Kernel3Ideal.Gen

variable {m : (l : Loc nD τ sig) → Buf (Elt Ideal) l} {c : Dev nD} {N : Net} {t : ℕ → ℕ → EReal} {gf : ℕ → EReal}

variable {n : Fin cfg0.N}

theorem first (H : Holds m c N t gf) (h0 : n.val = 0) : Left m c N t gf n.val n.isLt := by
  have e1 : ¬n.val % 2 = 1 := by omega
  have h1 := whole_x3 (wgu H)
  have h2 := whole_x3 (wo H)
  have ha : n.val % 2 = 1 → X2 (n := 512) (m := 1024) (k0_pay13 (F := Ideal)) (fun i j => N.part (1408 * (n.val % 2)) (512 * (n.val / 2) + i) j) :=
    fun h => absurd h e1
  refine ⟨fun h => absurd h e1, ?_, ?_, ?_, ?_, ?_, ?_, ?_⟩ <;> rw [Gen.outsAt0_A m c n (by omega) e1] <;> frame_open
  · simp (disch := decide) only [↓ View.readCov_skip, ↓ View.readCov_cons_toLoadRect, ↓ View.readCov_fill]
    frame_out
    exact tg_x H h1
  · simp (disch := decide) only [↓ View.readCov_skip, ↓ View.readCov_cons_toLoadRect, ↓ View.readCov_fill]
    frame_out
    exact tu_x H h1
  · frame_out
    intro i
    show lit 0x00000000#32 = (head N t gf).loss ((n.val + 1) / 2)
    rw [h0, lit_zero]
    simp [Head.loss]
  · frame_out
    intro i
    show lit 0x00000000#32 = if (i 0).val = 0 then (head N t gf).dgf ((n.val + 1) / 2) (i 1).val else 0
    have e : (head N t gf).dgf ((n.val + 1) / 2) (i 1).val = 0 := by
      rw [h0]
      simp [Head.dgf]
    rw [e, lit_zero, ite_self]
  · simp (disch := decide) only [↓ View.readCov_skip, ↓ View.readCov_cons_toLoadRect, ↓ View.readCov_fill]
    frame_out
    exact acc_x H h1 h2 ha
  · frame_out
    exact h1
  · frame_out
    exact h2

end Ffn3

end
-- ==== Proof.Ffn3Later.lean ====
/-
  The later points of the grid of the feed-forward kernel with the loss: the matrices are kept.
-/
module

public import proofs.«01_k».proof.Proof.Ffn3Point

@[expose] public section

set_option maxRecDepth 65536

noncomputable section

namespace Ffn3

open Idealize.ShloMosaic Idealize.SL.Sem MixBwd FfnFwd Cert.Kernel3Ideal Cert.Kernel3Ideal.Gen

variable {m : (l : Loc nD τ sig) → Buf (Elt Ideal) l} {c : Dev nD} {N : Net} {t : ℕ → ℕ → EReal} {gf : ℕ → EReal}

variable {n : Fin cfg0.N}

section Carried

variable (I : Left m c N t gf (n.val - 1) (Nat.lt_of_le_of_lt (Nat.sub_le _ _) n.isLt))

include I

theorem kept1 (h : (Memref.whole cc0_scratch1).IsWhole) : X3 (l := 2) (n := 1024) (m := 2816) (View.read (Elt Ideal) (View.whole cc0_scratch1)
    (h.unread (outsAt0 (F := Ideal) m c (n.val - 1) (Nat.lt_of_le_of_lt (Nat.sub_le _ _) n.isLt)).2.2.2.2.2.2.1)) N.wgu := by
  rw [read_unread_whole]
  exact I.wgu

theorem kept2 (h : (Memref.whole cc0_scratch2).IsWhole) : X3 (l := 2) (n := 1408) (m := 1024) (View.read (Elt Ideal) (View.whole cc0_scratch2)
    (h.unread (outsAt0 (F := Ideal) m c (n.val - 1) (Nat.lt_of_le_of_lt (Nat.sub_le _ _) n.isLt)).2.2.2.2.2.2.2)) N.wo := by
  rw [read_unread_whole]
  exact I.wo

theorem kept0 (h0 : ¬n.val = 0) (h : (Memref.whole cc0_scratch0).IsWhole) : n.val % 2 = 1 → X2 (n := 512) (m := 1024)
    (View.read (Elt Ideal) (View.whole cc0_scratch0) (h.unread (outsAt0 (F := Ideal) m c (n.val - 1) (Nat.lt_of_le_of_lt (Nat.sub_le _ _) n.isLt)).2.2.2.2.2.1))
    (fun i j => N.part (1408 * (n.val % 2)) (512 * (n.val / 2) + i) j) := fun e => by
  rw [read_unread_whole]
  exact I.acc.congr fun i j _ _ => by
    rw [show (n.val - 1) % 2 + 1 = n.val % 2 by omega, show (n.val - 1) / 2 = n.val / 2 by omega]

end Carried

/-- The second of two points adds to the first's product and ends with the loss. -/
theorem second (H : Holds m c N t gf) (h0 : ¬n.val % 32 = 0) (e : n.val % 2 = 1) (I : Left m c N t gf (n.val - 1) (Nat.lt_of_le_of_lt (Nat.sub_le _ _) n.isLt)) :
    Left m c N t gf n.val n.isLt := by
  have hn : ¬n.val = 0 := by omega
  have hl := I.loss
  have hd := I.dgf
  rw [show (n.val - 1 + 1) / 2 = n.val / 2 by omega] at hl hd
  refine ⟨fun _ => ?_, ?_, ?_, ?_, ?_, ?_, ?_, ?_⟩ <;> rw [Gen.outsAt0_B m c n h0 e]
  · frame_open
    frame_out
    exact dx_x H (kept1 I _) (kept2 I _) (kept0 I hn _) e
  · frame_open
    frame_out
    exact tg_x H (kept1 I _)
  · frame_open
    frame_out
    exact tu_x H (kept1 I _)
  · frame_open
    frame_out
    exact loss_x H (kept1 I _) (kept2 I _) (kept0 I hn _) e hl
  · frame_open
    frame_out
    exact first_row _ hd (dgf_x H (kept1 I _) (kept2 I _) (kept0 I hn _) e hd)
  · frame_open
    frame_out
    exact acc_x H (kept1 I _) (kept2 I _) (kept0 I hn _)
  · exact I.wgu
  · exact I.wo

/-- The first of two points, the matrices kept: the loss and the last norm's gradient stay as they were. -/
theorem third (H : Holds m c N t gf) (h0 : ¬n.val % 32 = 0) (e : ¬n.val % 2 = 1) (I : Left m c N t gf (n.val - 1) (Nat.lt_of_le_of_lt (Nat.sub_le _ _) n.isLt)) :
    Left m c N t gf n.val n.isLt := by
  have hn : ¬n.val = 0 := by omega
  have hl := I.loss
  have hd := I.dgf
  rw [show (n.val - 1 + 1) / 2 = (n.val + 1) / 2 by omega] at hl hd
  refine ⟨fun h => absurd h e, ?_, ?_, ?_, ?_, ?_, ?_, ?_⟩ <;> rw [Gen.outsAt0_C m c n h0 e]
  · frame_open
    frame_out
    exact tg_x H (kept1 I _)
  · frame_open
    frame_out
    exact tu_x H (kept1 I _)
  · exact hl
  · exact hd
  · frame_open
    frame_out
    exact acc_x H (kept1 I _) (kept2 I _) (kept0 I hn _)
  · exact I.wgu
  · exact I.wo

end Ffn3

end
-- ==== Proof.Ffn3Final.lean ====
/-
  The five arrays of the feed-forward kernel with the loss, from the points of its grid.
-/
module

public import proofs.«01_k».proof.Proof.Ffn3First
public import proofs.«01_k».proof.Proof.Ffn3Later

@[expose] public section

set_option maxRecDepth 65536

noncomputable section

namespace Ffn3

open Idealize.ShloMosaic Idealize.SL.Sem MixBwd FfnFwd Cert.Kernel3Ideal Cert.Kernel3Ideal.Gen

variable {m : (l : Loc nD τ sig) → Buf (Elt Ideal) l} {c : Dev nD} {N : Net} {t : ℕ → ℕ → EReal} {gf : ℕ → EReal}

/-- What every point of the grid leaves. -/
theorem left (H : Holds m c N t gf) : ∀ (n : ℕ) (hn : n < cfg0.N), Left m c N t gf n hn
  | 0, hn => first (n := ⟨0, hn⟩) H rfl
  | n + 1, hn => by
    have h32 : n + 1 < 32 := hn
    have h0 : ¬(n + 1) % 32 = 0 := by omega
    by_cases e : (n + 1) % 2 = 1
    · exact second (n := ⟨n + 1, hn⟩) H h0 e (left H n (Nat.lt_of_succ_lt hn))
    · exact third (n := ⟨n + 1, hn⟩) H h0 e (left H n (Nat.lt_of_succ_lt hn))

theorem index_out : ∀ n : Fin cfg0.N,
    (win0_4.index n 0 = n.val / 2 ∧ win0_4.index n 1 = 0) ∧ (win0_5.index n 0 = n.val / 2 ∧ win0_5.index n 1 = n.val % 2) ∧
    (win0_6.index n 0 = n.val / 2 ∧ win0_6.index n 1 = n.val % 2) ∧ (win0_8.index n 0 = 0 ∧ win0_8.index n 1 = 0) := by
  decide +kernel

/-- The rows' gradient is written back once both groups of units are added. -/
theorem odd : ∀ n : Fin cfg0.N, (cfg0.win 4).flush n = true → n.val % 2 = 1 := by decide +kernel

/-- The loss and the last norm's gradient are written back at the end. -/
theorem last7 : ∀ n : Fin cfg0.N, (cfg0.win 7).flush n = true → (n.val + 1) / 2 = 16 := by decide +kernel

theorem last8 : ∀ n : Fin cfg0.N, (cfg0.win 8).flush n = true → (n.val + 1) / 2 = 16 := by decide +kernel

theorem dx_array (H : Holds m c N t gf) :
    (dats (F := Ideal) m 0 c).arrAt 4 cfg0.N = fun i => (head N t gf).dx (i 0).val (i 1).val := by
  refine (dats m 0 c).arrAt_eq_of_covers 4 _ (by decide +kernel) fun n hf y => ?_
  have h2 := odd n hf
  blk_simp
  rw [after0_4]
  refine ((left H n.val n.isLt).out h2 y).trans ?_
  obtain ⟨i0, i1⟩ := (index_out n).1
  rw [i0, i1, zero_mul, zero_add, Nat.mul_comm (n.val / 2)]

theorem g_array (H : Holds m c N t gf) : (dats (F := Ideal) m 0 c).arrAt 5 cfg0.N = fun i => N.g (i 0).val (i 1).val := by
  refine (dats m 0 c).arrAt_eq_of_covers 5 _ (by decide +kernel) fun n hf y => ?_
  blk_simp
  rw [after0_5]
  refine ((left H n.val n.isLt).g y).trans ?_
  obtain ⟨i0, i1⟩ := (index_out n).2.1
  rw [i0, i1, Nat.mul_comm (n.val / 2), Nat.mul_comm (n.val % 2)]

theorem u_array (H : Holds m c N t gf) : (dats (F := Ideal) m 0 c).arrAt 6 cfg0.N = fun i => N.u (i 0).val (i 1).val := by
  refine (dats m 0 c).arrAt_eq_of_covers 6 _ (by decide +kernel) fun n hf y => ?_
  blk_simp
  rw [after0_6]
  refine ((left H n.val n.isLt).u y).trans ?_
  obtain ⟨i0, i1⟩ := (index_out n).2.2.1
  rw [i0, i1, Nat.mul_comm (n.val / 2), Nat.mul_comm (n.val % 2)]

theorem loss_array (H : Holds m c N t gf) : (dats (F := Ideal) m 0 c).arrAt 7 cfg0.N = fun _ => (head N t gf).loss 16 := by
  refine (dats m 0 c).arrAt_eq_of_covers 7 _ (by decide +kernel) fun n hf y => ?_
  have h2 := last7 n hf
  blk_simp
  rw [after0_7]
  refine ((left H n.val n.isLt).loss y).trans ?_
  rw [h2]

theorem dgf_array (H : Holds m c N t gf) :
    (dats (F := Ideal) m 0 c).arrAt 8 cfg0.N = fun i => if (i 0).val = 0 then (head N t gf).dgf 16 (i 1).val else 0 := by
  refine (dats m 0 c).arrAt_eq_of_covers 8 _ (by decide +kernel) fun n hf y => ?_
  have h2 := last8 n hf
  blk_simp
  rw [after0_8]
  refine ((left H n.val n.isLt).dgf y).trans ?_
  obtain ⟨i0, i1⟩ := (index_out n).2.2.2
  rw [h2, i0, i1, zero_mul, zero_mul, zero_add, zero_add]

end Ffn3

end
-- ==== Proof.Ffn3Claims.lean ====
/-
  The claims about the feed-forward kernel with the loss: the frame of its reference, and that its five arrays, the
  rows' gradient, the two activations it saves, the loss and the last norm's gradient, are those of the reference, over all extended reals.
-/
module

public import proofs.«01_k».proof.Defs
public import proofs.«01_k».proof.Proof.Gen.Kernel3Ideal.Value
public import proofs.«01_k».proof.Proof.Gen.Reference3Ideal.Run
public import proofs.«01_k».proof.Proof.Ffn3Final
public import proofs.«01_k».proof.Proof.Ffn3Ref
public import proofs.«01_k».proof.Proof.Ffn2Claims

@[expose] public section

set_option maxRecDepth 65536

noncomputable section

namespace Ffn3

open Idealize.ShloMosaic Idealize.SL.Sem MixBwd FfnFwd

/-- The reference, host operations only, keeps its arguments; it has no semaphores. -/
theorem reference_frame : Cert.quiescent_Reference3Ideal := fun m ρ _ =>
  (θ_run (Cert.Reference3Ideal.defs (F := Ideal)) _ _).mono
    (fun r h => ⟨fun c => (h c).2.2.2.2.2, sem_eq_zero_of_no_sems (by decide) r.2⟩)
    (Cert.Reference3Ideal.Value.run (F := Ideal) m ρ)

section

open Cert.Kernel3Ideal Cert.Kernel3Ideal.Gen

variable (m : (l : Loc nD τ sig) → Buf (Elt Ideal) l) (c : Dev nD)

/-- What the memory holds of the arguments of the half. -/
def held : Net where
  x := entries (m (c, Proc.tc.devRef main_arg0))
  shift j := entries (m (c, Proc.tc.devRef main_arg2)) 0 j
  scale j := entries (m (c, Proc.tc.devRef main_arg3)) 0 j
  gate j := entries (m (c, Proc.tc.devRef main_arg4)) 0 j
  gn j := entries (m (c, Proc.tc.devRef main_arg5)) 0 j
  win := entries (m (c, Proc.tc.devRef main_arg6))
  wout := entries (m (c, Proc.tc.devRef main_arg7))

/-- What it holds of the targets. -/
def aim : ℕ → ℕ → EReal := entries (m (c, Proc.tc.devRef main_arg1))

/-- What it holds of the last norm's weights. -/
def final (j : ℕ) : EReal := entries (m (c, Proc.tc.devRef main_arg8)) 0 j

theorem holds : Holds m c (held m c) (aim m c) (final m c) :=
  ⟨X2.entries _, X2.entries _, X2.entries_row _, X2.entries_row _, X2.entries_row _, X2.entries_row _, X2.entries _, X2.entries _,
    X2.entries_row _⟩

theorem args : Args (held m c) (aim m c) (final m c) (m (c, Proc.tc.devRef main_arg0)) (m (c, Proc.tc.devRef main_arg1))
    (m (c, Proc.tc.devRef main_arg2)) (m (c, Proc.tc.devRef main_arg3)) (m (c, Proc.tc.devRef main_arg4)) (m (c, Proc.tc.devRef main_arg5))
    (m (c, Proc.tc.devRef main_arg6)) (m (c, Proc.tc.devRef main_arg7)) (m (c, Proc.tc.devRef main_arg8)) :=
  ⟨X2.entries _, X2.entries _, X2.entries_row _, X2.entries_row _, X2.entries_row _, X2.entries_row _, X2.entries _, X2.entries _,
    X2.entries_row _⟩

end

set_option maxHeartbeats 1000000 in
open Cert.Reference3Ideal.Read in
attribute [local instance] Cert.Kernel3Ideal.Gen.facts Cert.Reference3Ideal.Gen.facts in
theorem algebraic : Cert.algebraic_Kernel3Ideal_Reference3Ideal := by
  intro m g m' g' hp ha
  refine ⟨fun c => (Cert.Kernel3Ideal.Gen.dats (F := Ideal) m 0 c).arrAt 4 Cert.Kernel3Ideal.cfg0.N,
    fun c => (Cert.Kernel3Ideal.Gen.dats (F := Ideal) m 0 c).arrAt 5 Cert.Kernel3Ideal.cfg0.N,
    fun c => (Cert.Kernel3Ideal.Gen.dats (F := Ideal) m 0 c).arrAt 6 Cert.Kernel3Ideal.cfg0.N,
    fun c => (Cert.Kernel3Ideal.Gen.dats (F := Ideal) m 0 c).arrAt 7 Cert.Kernel3Ideal.cfg0.N,
    fun c => (Cert.Kernel3Ideal.Gen.dats (F := Ideal) m 0 c).arrAt 8 Cert.Kernel3Ideal.cfg0.N,
    Cert.Kernel3Ideal.Value.run_blocks (F := Ideal) m g, ?_⟩
  refine (θ_run (Cert.Reference3Ideal.defs (F := Ideal)) _ _).mono (fun r h c => ?_)
    (Cert.Reference3Ideal.Value.run (F := Ideal) m' g')
  obtain ⟨a0, a1, a2, a3, a4, a5, a6, a7, a8⟩ := ha c
  obtain ⟨h0, h1, h2, h3, h4, kept⟩ := h c
  have A := args m c
  rw [← show _ = m (c, _) from a0, ← show _ = m (c, _) from a1, ← show _ = m (c, _) from a2, ← show _ = m (c, _) from a3,
    ← show _ = m (c, _) from a4, ← show _ = m (c, _) from a5, ← show _ = m (c, _) from a6, ← show _ = m (c, _) from a7,
    ← show _ = m (c, _) from a8] at A
  refine ⟨?_, ?_, ?_, ?_, ?_, kept⟩
  · refine Eq.trans ?_ (dx_array (holds m c)).symm
    refine h0.trans ((val_main_v79_eq _ _).trans ?_)
    exact v79_x A
  · refine Eq.trans ?_ (g_array (holds m c)).symm
    refine h1.trans ((val_main_v29_eq _ _ _ _ _).trans ?_)
    exact v29_x A
  · refine Eq.trans ?_ (u_array (holds m c)).symm
    refine h2.trans ((val_main_v30_eq _ _ _ _ _).trans ?_)
    exact v30_x A
  · refine Eq.trans ?_ (loss_array (holds m c)).symm
    refine h3.trans ((val_main_v80_eq _ _).trans ?_)
    exact v80_x A
  · refine Eq.trans ?_ (dgf_array (holds m c)).symm
    refine h4.trans ((val_main_v82_eq _ _).trans ?_)
    exact funext fun i => v82_x A i

end Ffn3

end
-- ==== Proof.BwdPay.lean ====
/-
  The first half of a feed-forward layer's backward pass, on the reals, and what each stored value of its kernel is.
-/
module

public import proofs.«01_k».proof.Proof.Arrange
public import proofs.«01_k».proof.Proof.Ffn2Ref
public import proofs.«01_k».proof.Proof.Gen.Kernel5Ideal.Skeleton

@[expose] public section

set_option maxRecDepth 65536

noncomputable section

namespace FfnBwd

open Idealize.ShloMosaic Idealize.SL.Sem MixBwd FfnFwd Cert.Kernel5Ideal Cert.Kernel5Ideal.Gen

/-- The logistic function of the reals. -/
def sg (z : ℝ) : ℝ := 1 / (1 + Real.exp (-z))

/-- What the pass is given: the saved products, the rows' gradient, the gate and the two matrices. -/
structure Half where
  g : ℕ → ℕ → ℝ
  u : ℕ → ℕ → ℝ
  dxo : ℕ → ℕ → ℝ
  gate : ℕ → ℝ
  wgu : ℕ → ℕ → ℝ
  wo : ℕ → ℕ → ℝ

namespace Half

variable (P : Half)

/-- The gradient of the second product. -/
def dy (i j : ℕ) : ℝ := P.dxo i j * (1 / 2 * P.gate j)
/-- The gradient of the gated units. -/
def da (i k : ℕ) : ℝ := ∑ j : Fin 1024, P.dy i j * P.wo k j
/-- The gradient of the gates' product. -/
def dg (i k : ℕ) : ℝ := P.da i k * P.u i k * (sg (P.g i k) * (1 + P.g i k * (1 - sg (P.g i k))))
/-- The gradient of the other product. -/
def du (i k : ℕ) : ℝ := P.da i k * (P.g i k * sg (P.g i k))
/-- The gated units. -/
def a (i k : ℕ) : ℝ := P.g i k * sg (P.g i k) * P.u i k
/-- Both gradients side by side. -/
def dgu (i k : ℕ) : ℝ := if k < 1408 then P.dg i k else P.du i (k - 1408)
/-- The half's part of the gradient of the layer's input. -/
def dh (i j : ℕ) : ℝ := ∑ k : Fin 2816, P.dgu i k * P.wgu j k
/-- The gated units against the rows' gradient, over `n` tiles of rows. -/
def acc : ℕ → ℕ → ℕ → ℝ
  | 0, _, _ => 0
  | n + 1, k, j => acc n k j + ∑ t : Fin 512, P.a (512 * n + t) k * P.dxo (512 * n + t) j
/-- The half's part of the gate's gradient. -/
def dgate (j : ℕ) : ℝ := 1 / 2 * ∑ k : Fin 1408, P.wo k j * P.acc 16 k j
/-- The table that holds it. -/
def vec (r j : ℕ) : ℝ := if r = 2 then P.dgate j else 0

end Half

theorem sg_pos (z : ℝ) : (1 + Real.exp (-z)) ≠ 0 := by positivity

theorem sig_r (z : ℝ) : FfnFwd.sig (z : EReal) = ((sg z : ℝ) : EReal) := by
  rw [Ffn2.sig_eq]
  have h1 : FloatOps.ofBits (F := Ideal) .f32 0x3F800000#32 = ((1 : ℝ) : EReal) := w_one
  have h2 : FloatOps.hostUnary (F := Ideal) (φ := .f32) .exp (((-z : ℝ) : EReal)) = ((Real.exp (-z) : ℝ) : EReal) := rfl
  rw [hneg_r, h2, h1, add_r, hdiv_r _ _ (sg_pos z)]
  rfl

variable {n m : ℕ}

theorem R2.sig {a : FVec Ideal ⟨2, ![n, m]⟩ .f32} {f : ℕ → ℕ → ℝ} (ha : R2 a f) : R2 (logistic a) (fun i j => sg (f i j)) :=
  fun i => (congrArg FfnFwd.sig (ha i)).trans (sig_r _)

section Payloads

variable {P : Half} {t : ℕ} {v9 : Vec Ideal S1x1024 .f32} {v30 : Vec Ideal S512x1024 .f32} {v36 v38 : Vec Ideal S512x1408 .bf16}
  {v44 : Vec Ideal S1x1408x1024 .bf16} {v59 : Vec Ideal S1024x2816 .bf16}
  (h9 : R2 (n := 1) (m := 1024) v9 (fun _ j => P.gate j))
  (h30 : R2 (n := 512) (m := 1024) v30 (fun i j => P.dxo (512 * t + i) j))
  (h36 : R2 (n := 512) (m := 1408) v36 (fun i k => P.g (512 * t + i) k))
  (h38 : R2 (n := 512) (m := 1408) v38 (fun i k => P.u (512 * t + i) k))
  (h44 : R3 (l := 1) (n := 1408) (m := 1024) v44 (fun _ k j => P.wo k j))
  (h59 : R2 (n := 1024) (m := 2816) v59 P.wgu)

include h9 h30 in
theorem dy_r : R2 (n := 512) (m := 1024) (k0_pay7 (F := Ideal) v9 v30) (fun i j => P.dy (512 * t + i) j) := by
  have h := h30.mul (((R2.const w_half).mul h9).row broadcasts_S1x1024_S512x1024)
  exact h

include h36 in
theorem silu_r : R2 (n := 512) (m := 1408) (k0_pay11 (F := Ideal) (k0_pay8 (F := Ideal) v36))
    (fun i k => P.g (512 * t + i) k * sg (P.g (512 * t + i) k)) := by
  have hg : R2 (n := 512) (m := 1408) (k0_pay8 (F := Ideal) v36) (fun i k => P.g (512 * t + i) k) := h36
  have h := hg.mul (R2.sig hg)
  exact h

include h9 h30 h36 h38 h44 in
theorem dgu_r : R2 (n := 512) (m := 2816) (k0_pay12 (F := Ideal) (k0_pay7 (F := Ideal) v9 v30) (k0_pay8 (F := Ideal) v36) v38 v44)
    (fun i k => P.dgu (512 * t + i) k) := by
  have hg : R2 (n := 512) (m := 1408) (k0_pay8 (F := Ideal) v36) (fun i k => P.g (512 * t + i) k) := h36
  have hu : R2 (n := 512) (m := 1408) (k0_pay9 (F := Ideal) v38) (fun i k => P.u (512 * t + i) k) := h38
  have hs : R2 (n := 512) (m := 1408) (k0_pay10 (F := Ideal) (k0_pay8 (F := Ideal) v36)) (fun i k => sg (P.g (512 * t + i) k)) := R2.sig hg
  have hda := (dy_r h9 h30).mmt (h44.drop shapeCasts_S1x1408x1024_S1408x1024) dot_S512x1024_S1408x1024_S512x1408_1_1_0_0_n_n.wf
  have h1 : R2 (n := 512) (m := 1408) (broadcast S512x1408 (Scalar.ofBits (F := Ideal) .f32 0x3F800000#32)) (fun _ _ => 1) := R2.const w_one
  have hdg := (hda.mul hu).mul (hs.mul (h1.add (hg.mul (h1.sub hs))))
  have hdu := hda.mul (silu_r h36)
  refine R2.cat2 (F := fun i k => P.dgu (512 * t + i) k) hdg hdu concatenates_S512x1408_S512x1408_S512x2816_d1
    (fun i j _ hj => ?_) (fun i j _ hj => ?_)
  · unfold Half.dgu
    rw [if_pos (show 0 + j < 1408 by omega), zero_add]
    rfl
  · unfold Half.dgu
    rw [if_neg (show ¬0 + 1408 + j < 1408 by omega), show 0 + 1408 + j - 1408 = j by omega]
    rfl

include h9 h30 h36 h38 h44 h59 in
theorem dh_r : R2 (n := 512) (m := 1024) (k0_pay13 (F := Ideal) (k0_pay7 (F := Ideal) v9 v30) (k0_pay8 (F := Ideal) v36) v38 v44 v59)
    (fun i j => P.dh (512 * t + i) j) := by
  have h := (dgu_r h9 h30 h36 h38 h44).mmt h59 dot_S512x2816_S1024x2816_S512x1024_1_1_0_0_n_n.wf
  exact h

include h30 h36 h38 in
theorem acc_r {v62 : Vec Ideal S1408x1024 .f32} (h62 : R2 (n := 1408) (m := 1024) v62 (P.acc t)) :
    R2 (n := 1408) (m := 1024) (k0_pay14 (F := Ideal) v30 (k0_pay8 (F := Ideal) v36) v38 v62) (P.acc (t + 1)) := by
  have hu : R2 (n := 512) (m := 1408) (k0_pay9 (F := Ideal) v38) (fun i k => P.u (512 * t + i) k) := h38
  have h := (h62.add (((silu_r h36).mul hu).tmm h30 dot_S512x1408_S512x1024_S1408x1024_0_0_1_1_n_n.wf)).cast shapeCasts_S1408x1024_S1408x1024
  exact h

include h44 in
theorem dgate_r {v79 : Vec Ideal S1408x1024 .f32} {v80 : Vec Ideal S1x1024 .f32} (h79 : R2 (n := 1408) (m := 1024) v79 (P.acc 16))
    (h80 : R2 (n := 1) (m := 1024) v80 (fun _ _ => 0)) :
    R2 (n := 1) (m := 1024) (k0_pay1 (F := Ideal) v79 v80 v44) (fun _ j => P.dgate j) := by
  have hw : R2 (n := 1408) (m := 1024) (extf (F := Ideal) .f32 (shapeCast S1408x1024 v44 shapeCasts_S1x1408x1024_S1408x1024) bitsLt_bf16_f32)
    (fun k j => P.wo k j) := h44.drop shapeCasts_S1x1408x1024_S1408x1024
  have h := (h80.cast shapeCasts_S1x1024_S1x1024).add ((R2.const w_half).mul
    ((hw.mul h79).colSum reduces_S1408x1024_S1024 (.inl rfl) rfl shapeCasts_S1024_S1x1024))
  have h' : R2 (n := 1) (m := 1024) (k0_pay1 (F := Ideal) v79 v80 v44) _ := h
  exact h'.congr fun i j _ _ => zero_add _

theorem acc_zero : R2 (n := 1408) (m := 1024) (k0_pay4 (F := Ideal)) (P.acc 0) := by
  have h := (R2.zero (n := 1408) (m := 1024)).cast shapeCasts_S1408x1024_S1408x1024
  exact h

theorem vec_zero : R2 (n := 8) (m := 1024) (k0_pay5 (F := Ideal)) (fun _ _ => 0) := R2.zero

end Payloads

end FfnBwd

end
-- ==== Proof.BwdStep.lean ====
/-
  The grid of the feed-forward layer's backward kernel: the blocks of a tile, and what every point leaves.
-/
module

public import proofs.«01_k».proof.Proof.BwdPay
public import proofs.«01_k».proof.Proof.Host
public import proofs.«01_k».proof.Proof.Blk
public import proofs.«01_k».proof.Proof.State
public import proofs.«01_k».proof.Proof.Gen.Kernel5Ideal.Frame
public import Idealize.ShloMosaic.Lib.WritesUnit

@[expose] public section

set_option maxRecDepth 65536

noncomputable section

namespace FfnBwd

open Idealize.ShloMosaic Idealize.SL.Sem MixBwd FfnFwd Cert.Kernel5Ideal Cert.Kernel5Ideal.Gen

/-- The arguments hold the reals of `P` wherever the first half reads them. -/
structure Args (P : Half) (x1 : S8192x1024.Idx → EReal) (x2 : S8x1024.Idx → EReal) (x3 : S2x1024x2816.Idx → EReal)
    (x4 : S2x1408x1024.Idx → EReal) (x5 x6 : S8192x2816.Idx → EReal) : Prop where
  dxo : R2 (n := 8192) (m := 1024) x1 P.dxo
  gate : ∀ i, (i 0).val = 2 → x2 i = ((P.gate (i 1).val : ℝ) : EReal)
  wgu : ∀ i, (i 0).val = 0 → x3 i = ((P.wgu (i 1).val (i 2).val : ℝ) : EReal)
  wo : ∀ i, (i 0).val = 0 → x4 i = ((P.wo (i 1).val (i 2).val : ℝ) : EReal)
  g : ∀ i, (i 1).val < 1408 → x5 i = ((P.g (i 0).val (i 1).val : ℝ) : EReal)
  u : ∀ i, (i 1).val < 1408 → x6 i = ((P.u (i 0).val (i 1).val : ℝ) : EReal)

variable {m : (l : Loc nD τ sig) → Buf (Elt Ideal) l} {c : Dev nD} {P : Half} {n : Fin cfg0.N}

abbrev Holds (m : (l : Loc nD τ sig) → Buf (Elt Ideal) l) (c : Dev nD) (P : Half) : Prop :=
  Args P (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6))

theorem index_in : ∀ t : Fin cfg0.N,
    (win0_1.index t 0 = t.val ∧ win0_1.index t 1 = 0) ∧ (win0_2.index t 0 = t.val ∧ win0_2.index t 1 = 0) ∧
    (win0_3.index t 0 = t.val ∧ win0_3.index t 1 = 0) ∧ (win0_4.index t 0 = 0 ∧ win0_4.index t 1 = 0) ∧
    (win0_5.index t 0 = 0 ∧ win0_5.index t 1 = 0 ∧ win0_5.index t 2 = 0) := by
  decide +kernel

theorem dxo_block (H : Holds m c P) (t : Fin cfg0.N) :
    R2 (n := 512) (m := 1024) (iblk (F := Ideal) m c 1 t) (fun i j => P.dxo (512 * t.val + i) j) := by
  intro y
  blk_simp [iblk]
  rw [V_main_arg1]
  refine (H.dxo _).trans ?_
  blk_simp
  obtain ⟨i0, i1⟩ := (index_in t).1
  rw [i0, i1, zero_mul, zero_add, Nat.mul_comm t.val]

theorem g_block (H : Holds m c P) (t : Fin cfg0.N) :
    R2 (n := 512) (m := 1408) (iblk (F := Ideal) m c 2 t) (fun i j => P.g (512 * t.val + i) j) := by
  intro y
  have hy : (y 1).val < 1408 := (y 1).isLt
  obtain ⟨i0, i1⟩ := (index_in t).2.1
  blk_simp [iblk]
  rw [V_main_arg5]
  refine (H.g _ ?_).trans ?_ <;> blk_simp
  · rw [i1, zero_mul, zero_add]
    exact hy
  · rw [i0, i1, zero_mul, zero_add, Nat.mul_comm t.val]

theorem u_block (H : Holds m c P) (t : Fin cfg0.N) :
    R2 (n := 512) (m := 1408) (iblk (F := Ideal) m c 3 t) (fun i j => P.u (512 * t.val + i) j) := by
  intro y
  have hy : (y 1).val < 1408 := (y 1).isLt
  obtain ⟨i0, i1⟩ := (index_in t).2.2.1
  blk_simp [iblk]
  rw [V_main_arg6]
  refine (H.u _ ?_).trans ?_ <;> blk_simp
  · rw [i1, zero_mul, zero_add]
    exact hy
  · rw [i0, i1, zero_mul, zero_add, Nat.mul_comm t.val]

theorem tab_block (H : Holds m c P) (t : Fin cfg0.N) (y : S8x1024.Idx) (hy : (y 0).val = 2) :
    (iblk (F := Ideal) m c 4 t : S8x1024.Idx → EReal) y = ((P.gate (y 1).val : ℝ) : EReal) := by
  obtain ⟨i0, i1⟩ := (index_in t).2.2.2.1
  blk_simp [iblk]
  rw [V_main_arg2]
  refine (H.gate _ ?_).trans ?_ <;> blk_simp
  · rw [i0, zero_mul, zero_add]
    exact hy
  · rw [i1, zero_mul, zero_add]

theorem gate_row (H : Holds m c P) (t : Fin cfg0.N) (inb : ∀ k, ![2, 0] k + ![1, 1024] k ≤ S8x1024.size k) :
    R2 (n := 1) (m := 1024) (View.ld (Val := Elt Ideal) (e' := .f32) (S := S8x1024) (iblk (F := Ideal) m c 4 t)
      (Rect.unit (s := S8x1024) ![2, 0] ![1, 1024] inb)) (fun _ j => P.gate j) := by
  intro y
  have hy : (y 0).val < 1 := (y 0).isLt
  blk_simp
  refine (tab_block H t _ ?_).trans ?_
  · show 2 + 1 * (y 0).val = 2
    omega
  · show ((P.gate (0 + 1 * (y 1).val) : ℝ) : EReal) = _
    rw [zero_add, one_mul]

theorem wo_block (H : Holds m c P) (t : Fin cfg0.N) :
    R3 (l := 1) (n := 1408) (m := 1024) (iblk (F := Ideal) m c 5 t) (fun _ k j => P.wo k j) := by
  intro y
  have hy : (y 0).val < 1 := (y 0).isLt
  obtain ⟨i0, i1, i2⟩ := (index_in t).2.2.2.2
  blk_simp [iblk]
  rw [V_main_arg4]
  refine (H.wo _ ?_).trans ?_ <;> blk_simp
  · omega
  · rw [i1, i2]
    simp only [zero_mul, zero_add]

/-- The first of the two groups of columns, as the copy brings it in. -/
theorem slab_r (H : Holds m c P) (h : S1024x2816.numel = S1x1024x2816.numel) :
    R2 (n := 1024) (m := 2816) (ReadAs.same.apply (View.read (Elt Ideal) (((View.whole main_arg3).slice
      (Rect.unit ![0, 0, 0] ![1, 1024, 2816] inb_S2x1024x2816_S1x1024x2816_0_0_0)).reshape S1024x2816 h) (V (F := Ideal) m c main_arg3))) P.wgu := by
  rw [V_main_arg3]
  have h3 : R3 (l := 1) (n := 1024) (m := 2816) (View.read (Elt Ideal) ((View.whole main_arg3).slice
      (Rect.unit ![0, 0, 0] ![1, 1024, 2816] inb_S2x1024x2816_S1x1024x2816_0_0_0)) (m (c, Proc.tc.devRef main_arg3))) (fun _ j k => P.wgu j k) := fun y => by
    have hy : (y 0).val < 1 := (y 0).isLt
    refine (H.wgu ((Rect.unit (s := S2x1024x2816) ![0, 0, 0] ![1, 1024, 2816] inb_S2x1024x2816_S1x1024x2816_0_0_0).idx y) ?_).trans ?_
    · show 0 + 1 * (y 0).val = 0
      omega
    · show ((P.wgu (0 + 1 * (y 1).val) (0 + 1 * (y 2).val) : ℝ) : EReal) = _
      simp only [zero_add, one_mul]
  have e := h3.drop (show (⟨3, ![1, 1024, 2816]⟩ : Shape).ShapeCasts ⟨2, ![1024, 2816]⟩ from h.symm)
  exact e

/-- What one point of the grid leaves. -/
structure Left (m : (l : Loc nD τ sig) → Buf (Elt Ideal) l) (c : Dev nD) (P : Half) (n : ℕ) (hn : n < cfg0.N) : Prop where
  out : R2 (n := 512) (m := 1024) (outsAt0 (F := Ideal) m c n hn).1 (fun i j => P.dh (512 * n + i) j)
  vec : R2 (n := 8) (m := 1024) (outsAt0 (F := Ideal) m c n hn).2.1 (if n = 15 then P.vec else fun _ _ => 0)
  acc : ¬n = 15 → R2 (n := 1408) (m := 1024) (outsAt0 (F := Ideal) m c n hn).2.2.2.1 (P.acc (n + 1))
  wgu : R2 (n := 1024) (m := 2816) (outsAt0 (F := Ideal) m c n hn).2.2.2.2.1 P.wgu

theorem whole_r {n0 n1 : ℕ} {w : (⟨2, ![n0, n1]⟩ : Shape).Idx → Elt Ideal .bf16} {f : ℕ → ℕ → ℝ} (hw : R2 w f) :
    R2 (View.canon (Val := Elt Ideal) (e := .bf16) [⟨Rect.whole ⟨2, ![n0, n1]⟩, w⟩]) f := fun i => by
  have e := View.canon_cons_emb (Val := Elt Ideal) (e := .bf16) (Rect.whole ⟨2, ![n0, n1]⟩) w [] i
  rw [Rect.emb_whole_apply] at e
  exact e.trans (hw i)

theorem first (H : Holds m c P) (h0 : n.val = 0) : Left m c P n.val n.isLt := by
  have e1 : ¬n.val % 16 = 15 := by omega
  refine ⟨?_, ?_, fun _ => ?_, ?_⟩ <;> rw [Gen.outsAt0_A m c n (by omega) e1] <;> frame_open
  · simp (disch := decide) only [↓ View.readCov_skip, ↓ View.readCov_cons_toLoadRect, ↓ View.readCov_fill]
    frame_out
    refine dh_r (gate_row H n _) (dxo_block H n) (g_block H n) (u_block H n) (wo_block H n) ?_
    rw [View.readCov_eq_canon']
    intro y
    refine (whole_r (slab_r H _) _).trans ?_
    show ((P.wgu (0 + 1 * (y 0).val) (0 + 1 * (y 1).val) : ℝ) : EReal) = _
    simp only [zero_add, one_mul]
  · frame_out
    rw [if_neg (by omega)]
    exact vec_zero
  · simp (disch := decide) only [↓ View.readCov_skip, ↓ View.readCov_cons_toLoadRect, ↓ View.readCov_fill]
    frame_out
    refine acc_r (dxo_block H n) (g_block H n) (u_block H n) ?_
    rw [h0]
    exact acc_zero
  · frame_out
    exact whole_r (slab_r H _)

section Carried

variable (I : Left m c P (n.val - 1) (Nat.lt_of_le_of_lt (Nat.sub_le _ _) n.isLt))

include I

theorem kept2 (h : (Memref.whole cc0_scratch2).IsWhole) : R2 (n := 1024) (m := 2816) (View.read (Elt Ideal) (View.whole cc0_scratch2)
    (h.unread (outsAt0 (F := Ideal) m c (n.val - 1) (Nat.lt_of_le_of_lt (Nat.sub_le _ _) n.isLt)).2.2.2.2.1)) P.wgu := by
  rw [read_unread_whole]
  exact I.wgu

theorem kept1 (h0 : ¬n.val = 0) (h : (Memref.whole cc0_scratch1).IsWhole) : R2 (n := 1408) (m := 1024) (View.read (Elt Ideal) (View.whole cc0_scratch1)
    (h.unread (outsAt0 (F := Ideal) m c (n.val - 1) (Nat.lt_of_le_of_lt (Nat.sub_le _ _) n.isLt)).2.2.2.1)) (P.acc n.val) := by
  have hn : n.val < 16 := n.isLt
  have h1 := I.acc (by omega)
  rw [show n.val - 1 + 1 = n.val by omega] at h1
  rw [read_unread_whole]
  exact h1

end Carried

theorem later (H : Holds m c P) (h0 : ¬n.val % 16 = 0) (e : ¬n.val % 16 = 15) (I : Left m c P (n.val - 1) (Nat.lt_of_le_of_lt (Nat.sub_le _ _) n.isLt)) :
    Left m c P n.val n.isLt := by
  have hn : ¬n.val = 0 := by omega
  have hl : n.val < 16 := n.isLt
  refine ⟨?_, ?_, fun _ => ?_, ?_⟩ <;> rw [Gen.outsAt0_B m c n h0 e]
  · frame_open
    frame_out
    exact dh_r (gate_row H n _) (dxo_block H n) (g_block H n) (u_block H n) (wo_block H n) (kept2 I _)
  · have h1 := I.vec
    rw [if_neg (show ¬n.val - 1 = 15 by omega)] at h1
    rw [if_neg (show ¬n.val = 15 by omega)]
    exact h1
  · frame_open
    frame_out
    exact acc_r (dxo_block H n) (g_block H n) (u_block H n) (kept1 I hn _)
  · exact I.wgu

theorem third_row {κ : Kind} {sp : Space} {r : Memref sig κ sp S8x1024 .f32} (h : r.IsWhole) {x : FVec Ideal S8x1024 .f32}
    {w : FVec Ideal S1x1024 .f32} {g : ℕ → ℝ} (hx : R2 (n := 8) (m := 1024) x (fun _ _ => 0))
    (hw : R2 (n := 1) (m := 1024) w (fun _ j => g j)) :
    R2 (n := 8) (m := 1024) (View.read (Elt Ideal) r.view (r.view.writes (Elt Ideal) (h.unread x)
      [⟨Rect.unit ![2, 0] ![1, 1024] inb_S8x1024_S1x1024_2_0, w⟩])) (fun i j => if i = 2 then g j else 0) := fun i => by
  have i1 : (i 1).val < 1024 := (i 1).isLt
  by_cases e : (i 0).val = 2
  · refine (View.read_writes_cons_rows_of_mem (Val := Elt Ideal) (d := ![8, 1024]) (e := .f32) r.view (h.unread x) (off := ![2, 0]) (size := ![1, 1024]) (o := 2)
      inb_S8x1024_S1x1024_2_0 w [] i (ValueIdx.ix2 (0 : Fin 1) (⟨(i 1).val, i1⟩ : Fin 1024)) rfl e rfl).trans ((hw _).trans ?_)
    exact congrArg _ (if_pos e).symm
  · refine (View.read_writes_cons_rows_of_not_mem (Val := Elt Ideal) (d := ![8, 1024]) (e := .f32) r.view (h.unread x) (off := ![2, 0]) (size := ![1, 1024]) (o := 2) (W := 1)
      inb_S8x1024_S1x1024_2_0 w [] i rfl rfl (by omega)).trans ?_
    refine (congrFun (h.read_unread (Val := Elt Ideal) (e := .f32) x) i).trans ((hx i).trans ?_)
    exact congrArg _ (if_neg e).symm

theorem last (H : Holds m c P) (h0 : ¬n.val % 16 = 0) (e : n.val % 16 = 15) (I : Left m c P (n.val - 1) (Nat.lt_of_le_of_lt (Nat.sub_le _ _) n.isLt)) :
    Left m c P n.val n.isLt := by
  have hn : ¬n.val = 0 := by omega
  have hl : n.val < 16 := n.isLt
  have h15 : n.val = 15 := by omega
  have hv := I.vec
  rw [if_neg (show ¬n.val - 1 = 15 by omega)] at hv
  refine ⟨?_, ?_, fun h => absurd h15 h, ?_⟩ <;> rw [Gen.outsAt0_C m c n h0 e]
  · frame_open
    frame_out
    exact dh_r (gate_row H n _) (dxo_block H n) (g_block H n) (u_block H n) (wo_block H n) (kept2 I _)
  · frame_open
    frame_out
    rw [if_pos h15]
    have ha := acc_r (dxo_block H n) (g_block H n) (u_block H n) (kept1 I hn (Memref.isWhole_whole _))
    rw [show P.acc (n.val + 1) = P.acc 16 by rw [h15]] at ha
    have hr : R2 (n := 1) (m := 1024) (View.ld (Val := Elt Ideal) (e' := .f32) (S := S8x1024) (outsAt0 (F := Ideal) m c (n.val - 1) (Nat.lt_of_le_of_lt (Nat.sub_le _ _) n.isLt)).2.1
        (Rect.unit ![2, 0] ![1, 1024] inb_S8x1024_S1x1024_2_0)) (fun _ _ => 0) := fun y => (hv _).trans rfl
    exact third_row _ hv (dgate_r (wo_block H n) ha hr)
  · exact I.wgu

theorem left (H : Holds m c P) : ∀ n hn, Left m c P n hn
  | 0, hn => first (n := ⟨0, hn⟩) H rfl
  | n + 1, hn => by
    have h16 : n + 1 < 16 := hn
    by_cases e : (n + 1) % 16 = 15
    · exact last (n := ⟨n + 1, hn⟩) H (by show ¬(n + 1) % 16 = 0; omega) e (left H n _)
    · exact later (n := ⟨n + 1, hn⟩) H (by show ¬(n + 1) % 16 = 0; omega) e (left H n _)

end FfnBwd

end
-- ==== Proof.BwdFinal.lean ====
/-
  The two arrays of the feed-forward layer's backward kernel, from the points of its grid.
-/
module

public import proofs.«01_k».proof.Proof.BwdStep

@[expose] public section

set_option maxRecDepth 65536

noncomputable section

namespace FfnBwd

open Idealize.ShloMosaic Idealize.SL.Sem MixBwd FfnFwd Cert.Kernel5Ideal Cert.Kernel5Ideal.Gen

variable {m : (l : Loc nD τ sig) → Buf (Elt Ideal) l} {c : Dev nD} {P : Half}

theorem index_out : ∀ n : Fin cfg0.N,
    (win0_6.index n 0 = n.val ∧ win0_6.index n 1 = 0) ∧ (win0_7.index n 0 = 0 ∧ win0_7.index n 1 = 0) := by
  decide +kernel

/-- The gate's gradient is written back at the end. -/
theorem last7 : ∀ n : Fin cfg0.N, (cfg0.win 7).flush n = true → n.val = 15 := by decide +kernel

theorem dh_array (H : Holds m c P) :
    (dats (F := Ideal) m 0 c).arrAt 6 cfg0.N = fun i => ((P.dh (i 0).val (i 1).val : ℝ) : EReal) := by
  refine (dats m 0 c).arrAt_eq_of_covers 6 _ (by decide +kernel) fun n hf y => ?_
  blk_simp
  rw [after0_6]
  refine ((left H n.val n.isLt).out y).trans ?_
  obtain ⟨i0, i1⟩ := (index_out n).1
  rw [i0, i1, zero_mul, zero_add, Nat.mul_comm n.val]

theorem vec_array (H : Holds m c P) :
    (dats (F := Ideal) m 0 c).arrAt 7 cfg0.N = fun i => ((P.vec (i 0).val (i 1).val : ℝ) : EReal) := by
  refine (dats m 0 c).arrAt_eq_of_covers 7 _ (by decide +kernel) fun n hf y => ?_
  have h2 := last7 n hf
  blk_simp
  rw [after0_7]
  refine ((left H n.val n.isLt).vec y).trans ?_
  obtain ⟨i0, i1⟩ := (index_out n).2
  rw [if_pos h2, i0, i1, zero_mul, zero_mul, zero_add, zero_add]

end FfnBwd

end
-- ==== Proof.BwdRef.lean ====
/-
  The reference of the first half of a feed-forward layer's backward pass over the reals.
-/
module

public import proofs.«01_k».proof.Proof.BwdStep
public import proofs.«01_k».proof.Proof.Sums
public import proofs.«01_k».proof.Proof.HostOps
public import proofs.«01_k».proof.Proof.Gen.Reference5Ideal.Read

@[expose] public section

set_option maxRecDepth 65536

noncomputable section

namespace FfnBwd

open Idealize.ShloMosaic Idealize.SL.Sem MixBwd Cert.Reference5Ideal Cert.Reference5Ideal.Gen Cert.Reference5Ideal.Read

namespace Half

variable (P : Half)

/-- The two halves of the products side by side. -/
theorem dh_split (i j : ℕ) : P.dh i j = ∑ k : Fin 1408, P.du i k * P.wgu j (1408 + k) + ∑ k : Fin 1408, P.dg i k * P.wgu j k := by
  unfold dh
  rw [Fin.sum_univ_add (a := 1408) (b := 1408) (fun k : Fin 2816 => P.dgu i k * P.wgu j k), add_comm]
  refine congrArg₂ (· + ·) (Finset.sum_congr rfl fun k _ => ?_) (Finset.sum_congr rfl fun k _ => ?_)
  · show P.dgu i (1408 + k.val) * P.wgu j (1408 + k.val) = _
    unfold dgu
    rw [if_neg (by omega), Nat.add_sub_cancel_left]
  · show P.dgu i k.val * P.wgu j k.val = _
    unfold dgu
    rw [if_pos k.isLt]

theorem acc_sum (n k j : ℕ) : P.acc n k j = ∑ t : Fin n, ∑ s : Fin 512, P.a (512 * t + s) k * P.dxo (512 * t + s) j := by
  induction n with
  | zero => rfl
  | succ n ih => rw [Fin.sum_univ_castSucc, acc, ih]; rfl

theorem acc_all (k j : ℕ) : P.acc 16 k j = ∑ i : Fin 8192, P.a i k * P.dxo i j :=
  (P.acc_sum 16 k j).trans (sum_tiles (a := 16) (b := 512) (N := 8192) rfl fun i => P.a i k * P.dxo i j)

theorem dgate_eq (j : ℕ) : 1 / 2 * ∑ i : Fin 8192, P.dxo i j * ∑ k : Fin 1408, P.a i k * P.wo k j = P.dgate j := by
  unfold dgate
  congr 1
  simp only [acc_all, Finset.mul_sum]
  rw [Finset.sum_comm]
  exact Finset.sum_congr rfl fun k _ => Finset.sum_congr rfl fun i _ => by ring

end Half

/-- Two rows of zeros, one row, and five rows of zeros. -/
theorem rows_r {c : ℕ} (x : (⟨2, ![2, c]⟩ : Shape).Idx → EReal) (y : (⟨2, ![1, c]⟩ : Shape).Idx → EReal) (z : (⟨2, ![5, c]⟩ : Shape).Idx → EReal)
    (f : ℕ → ℝ) (hx : ∀ i, x i = ((0 : ℝ) : EReal)) (hy : ∀ i, y i = ((f (i 1).val : ℝ) : EReal)) (hz : ∀ i, z i = ((0 : ℝ) : EReal))
    (h : Shape.Concatenates [⟨2, ![2, c]⟩, ⟨2, ![1, c]⟩, ⟨2, ![5, c]⟩] ⟨2, ![8, c]⟩ 0) (j : (⟨2, ![8, c]⟩ : Shape).Idx) :
    concatenate ⟨2, ![8, c]⟩ 0 [⟨⟨2, ![2, c]⟩, x⟩, ⟨⟨2, ![1, c]⟩, y⟩, ⟨⟨2, ![5, c]⟩, z⟩] h j
      = ((if (j 0).val = 2 then f (j 1).val else 0 : ℝ) : EReal) := by
  let xs : List ((s : Shape) × (s.Idx → EReal)) := [⟨⟨2, ![2, c]⟩, x⟩, ⟨⟨2, ![1, c]⟩, y⟩, ⟨⟨2, ![5, c]⟩, z⟩]
  have hj : (j 0).val < 8 := (j 0).isLt
  have key : (j 0).val < 2 ∨ (j 0).val = 2 ∨ 3 ≤ (j 0).val := by omega
  rcases key with e | e | e
  · refine (concatenate_apply_piece 0 xs h j 0 (by show 0 < 3; norm_num) ⟨2, ![2, c]⟩ x rfl rfl 0 rfl (fun q => match q with
        | ⟨0, _⟩ => (⟨(j 0).val, e⟩ : Fin 2)
        | ⟨1, _⟩ => j 1) (fun b hb => by
      match b with
      | ⟨0, _⟩ => exact absurd rfl hb
      | ⟨1, _⟩ => rfl) (by show 0 + (j 0).val = (j 0).val; omega)).trans ((hx _).trans (congrArg _ ?_))
    rw [if_neg (by omega)]
  · refine (concatenate_apply_piece 0 xs h j 1 (by show 1 < 3; norm_num) ⟨2, ![1, c]⟩ y rfl rfl 2 rfl (fun q => match q with
        | ⟨0, _⟩ => (0 : Fin 1)
        | ⟨1, _⟩ => j 1) (fun b hb => by
      match b with
      | ⟨0, _⟩ => exact absurd rfl hb
      | ⟨1, _⟩ => rfl) (by show 2 + 0 = (j 0).val; omega)).trans ((hy _).trans (congrArg _ ?_))
    rw [if_pos e]; rfl
  · refine (concatenate_apply_piece 0 xs h j 2 (by show 2 < 3; norm_num) ⟨2, ![5, c]⟩ z rfl rfl 3 rfl (fun q => match q with
        | ⟨0, _⟩ => (⟨(j 0).val - 3, by omega⟩ : Fin 5)
        | ⟨1, _⟩ => j 1) (fun b hb => by
      match b with
      | ⟨0, _⟩ => exact absurd rfl hb
      | ⟨1, _⟩ => rfl) (by show 3 + ((j 0).val - 3) = (j 0).val; omega)).trans ((hz _).trans (congrArg _ ?_))
    rw [if_neg (by omega)]

variable {P : Half} {x1 : S8192x1024.Idx → EReal} {x2 : S8x1024.Idx → EReal} {x3 : S2x1024x2816.Idx → EReal}
    {x4 : S2x1408x1024.Idx → EReal} {x5 x6 : S8192x2816.Idx → EReal} (A : Args P x1 x2 x3 x4 x5 x6)

include A

theorem r35 (i : S1x1024.Idx) : val_main_v35 (F := Ideal) x2 i = ((1 / 2 * P.gate (i 1).val : ℝ) : EReal) := by
  have h : val_main_v34 (F := Ideal) i = ((1 / 2 : ℝ) : EReal) := by rw [val_main_v34_apply]; exact w_half
  have h2 : val_main_v2 (F := Ideal) x2 i = ((P.gate (i 1).val : ℝ) : EReal) := by
    have hi : (i 0).val < 1 := (i 0).isLt
    rw [val_main_v2_apply]
    exact A.gate _ (by show 2 + (i 0).val = 2; omega)
  rw [val_main_v35_apply, h, h2, mul_r]

theorem r24 (i : S1024x2816.Idx) : val_main_v24 (F := Ideal) x3 i = ((P.wgu (i 0).val (i 1).val : ℝ) : EReal) := by
  have h0 : (i 0).val < 1024 := (i 0).isLt
  have h1 : (i 1).val < 2816 := (i 1).isLt
  rw [val_main_v24_apply, val_main_v23_apply, val_main_v22_apply]
  refine (A.wgu _ rfl).trans ?_
  show ((P.wgu (((i 0).val * 2816 + (i 1).val) / 2816 % 1024) (((i 0).val * 2816 + (i 1).val) % 2816) : ℝ) : EReal) = _
  rw [show ((i 0).val * 2816 + (i 1).val) / 2816 % 1024 = (i 0).val by omega, show ((i 0).val * 2816 + (i 1).val) % 2816 = (i 1).val by omega]

theorem r33 (i : S1408x1024.Idx) : val_main_v33 (F := Ideal) x4 i = ((P.wo (i 0).val (i 1).val : ℝ) : EReal) := by
  have h0 : (i 0).val < 1408 := (i 0).isLt
  have h1 : (i 1).val < 1024 := (i 1).isLt
  rw [val_main_v33_apply, val_main_v32_apply, val_main_v31_apply]
  refine (A.wo _ rfl).trans ?_
  show ((P.wo (((i 0).val * 1024 + (i 1).val) / 1024 % 1408) (((i 0).val * 1024 + (i 1).val) % 1024) : ℝ) : EReal) = _
  rw [show ((i 0).val * 1024 + (i 1).val) / 1024 % 1408 = (i 0).val by omega, show ((i 0).val * 1024 + (i 1).val) % 1024 = (i 1).val by omega]

theorem r28 (i : S8192x1408.Idx) : val_main_v28 (F := Ideal) x5 i = ((P.g (i 0).val (i 1).val : ℝ) : EReal) := by
  rw [val_main_v28_apply, val_main_v27_apply]
  exact A.g _ (i 1).isLt

theorem r30 (i : S8192x1408.Idx) : val_main_v30 (F := Ideal) x6 i = ((P.u (i 0).val (i 1).val : ℝ) : EReal) := by
  rw [val_main_v30_apply, val_main_v29_apply]
  exact A.u _ (i 1).isLt

theorem r36 (i : S8192x1408.Idx) : val_main_v36_2 (F := Ideal) x5 i = ((sg (P.g (i 0).val (i 1).val) : ℝ) : EReal) := by
  refine Eq.trans ?_ ((congrArg FfnFwd.sig (r28 A i)).trans (sig_r _))
  exact (Ffn2.sig_eq _).symm

theorem r37 (i : S8192x1408.Idx) : val_main_v37 (F := Ideal) x5 x6 i = ((P.a (i 0).val (i 1).val : ℝ) : EReal) := by
  rw [val_main_v37_apply, val_main_v36_0_apply, r28 A, r36 A, r30 A, mul_r, mul_r]
  rfl

theorem r46 (i : S8192x1408.Idx) : val_main_v46 (F := Ideal) x1 x2 x4 i = ((P.da (i 0).val (i 1).val : ℝ) : EReal) := by
  rw [val_main_v46_apply]
  refine dot_r (f := fun k : Fin 1024 => P.dy (i 0).val k.val) (f' := fun k : Fin 1024 => P.wo (i 1).val k.val) (fun k => ?_) fun k => r33 A _
  rw [val_main_v42_apply, val_main_v41_apply, r35 A, A.dxo, mul_r, mul_comm]
  rfl

theorem r47 (i : S8192x1408.Idx) : val_main_v47 (F := Ideal) x1 x2 x4 x5 i = ((P.du (i 0).val (i 1).val : ℝ) : EReal) := by
  rw [val_main_v47_apply, val_main_v36_0_apply, r28 A, r36 A, r46 A, mul_r, mul_r, mul_comm]
  rfl

theorem r49 (i : S8192x1408.Idx) : val_main_v49 (F := Ideal) x1 x2 x4 x5 x6 i = ((P.dg (i 0).val (i 1).val : ℝ) : EReal) := by
  have h : val_main_call0_v6 (F := Ideal) i = ((1 : ℝ) : EReal) := by rw [val_main_call0_v6_apply]; exact w_one
  rw [val_main_v49_apply, val_main_call1_v1_apply, val_main_call1_v2_apply, val_main_call1_v0_apply, val_main_v48_apply, val_main_v36_1_apply,
    val_main_call0_v7_apply, h, r28 A, r30 A, r36 A, r46 A]
  simp only [mul_r, sub_r, add_r]
  refine congrArg _ ?_
  unfold Half.dg
  ring

theorem dh_ref (i : S8192x1024.Idx) : val_main_v56 (F := Ideal) x1 x2 x3 x4 x5 x6 i = ((P.dh (i 0).val (i 1).val : ℝ) : EReal) := by
  have hu : val_main_v54 (F := Ideal) x1 x2 x3 x4 x5 i
      = ((∑ k : Fin 1408, P.du (i 0).val k.val * P.wgu (i 1).val (1408 + k.val) : ℝ) : EReal) := by
    rw [val_main_v54_apply]
    refine dot_r (fun k => r47 A _) fun k => ?_
    rw [val_main_v26_apply]
    exact r24 A _
  have hg : val_main_v55 (F := Ideal) x1 x2 x3 x4 x5 x6 i = ((∑ k : Fin 1408, P.dg (i 0).val k.val * P.wgu (i 1).val k.val : ℝ) : EReal) := by
    rw [val_main_v55_apply]
    refine dot_r (fun k => r49 A _) fun k => ?_
    rw [val_main_v25_apply]
    exact r24 A _
  rw [val_main_v56_apply, hu, hg, add_r, P.dh_split]

theorem r51 (i : S1x1024.Idx) : val_main_v51 (F := Ideal) x1 x4 x5 x6 i = ((P.dgate (i 1).val : ℝ) : EReal) := by
  have h : val_main_v50 (F := Ideal) i = ((1 / 2 : ℝ) : EReal) := by rw [val_main_v50_apply]; exact w_half
  have hz : val_main_cst_4 (F := Ideal) (Shape.Idx.first h_S_) = 0 := w_zero.trans EReal.coe_zero
  have hi : (i 0).val < 1 := (i 0).isLt
  have h3 : val_main_v45 (F := Ideal) x1 x4 x5 x6 i
      = ((∑ t : Fin 8192, P.dxo t.val (i 1).val * ∑ k : Fin 1408, P.a t.val k.val * P.wo k.val (i 1).val : ℝ) : EReal) := by
    rw [val_main_v45_apply, val_main_v44_apply, hz, zero_add, ← sum_r]
    refine Finset.sum_congr rfl fun t _ => ?_
    have hd : val_main_v38 (F := Ideal) x4 x5 x6 (idx_main_v44 (idx_main_v45 i) t)
        = ((∑ k : Fin 1408, P.a t.val k.val * P.wo k.val ((i 0).val * 1024 + (i 1).val) : ℝ) : EReal) := by
      rw [val_main_v38_apply]
      exact dot_r (fun k => r37 A _) fun k => r33 A _
    have hx := A.dxo (idx_main_v44 (idx_main_v45 i) t)
    rw [val_main_v43_apply, hd, hx, mul_r]
    show ((P.dxo t.val ((i 0).val * 1024 + (i 1).val) * ∑ k : Fin 1408, P.a t.val k.val * P.wo k.val ((i 0).val * 1024 + (i 1).val) : ℝ) : EReal) = _
    rw [show (i 0).val * 1024 + (i 1).val = (i 1).val by omega]
  rw [val_main_v51_apply, h, h3, mul_r, P.dgate_eq]

theorem vec_ref (i : S8x1024.Idx) : val_main_v59 (F := Ideal) x1 x4 x5 x6 i = ((P.vec (i 0).val (i 1).val : ℝ) : EReal) := by
  have h57 : ∀ y, val_main_v57 (F := Ideal) y = ((0 : ℝ) : EReal) := fun y => by rw [val_main_v57_apply]; exact w_zero
  have h58 : ∀ y, val_main_v58 (F := Ideal) y = ((0 : ℝ) : EReal) := fun y => by rw [val_main_v58_apply]; exact w_zero
  exact rows_r _ _ _ P.dgate h57 (r51 A) h58 concatenates_S2x1024_S1x1024_S5x1024_S8x1024_d0 i

end FfnBwd

end
-- ==== Proof.BwdClaims.lean ====
/-
  The claims about the feed-forward layer's backward kernel: the frame of its reference, and that from finite arguments its
  two arrays are those of the reference.
-/
module

public import proofs.«01_k».proof.Defs
public import proofs.«01_k».proof.Proof.Gen.Kernel5Ideal.Value
public import proofs.«01_k».proof.Proof.Gen.Reference5Ideal.Run
public import proofs.«01_k».proof.Proof.Claims
public import proofs.«01_k».proof.Proof.BwdFinal
public import proofs.«01_k».proof.Proof.BwdRef

@[expose] public section

set_option maxRecDepth 65536

noncomputable section

namespace FfnBwd

open Idealize.ShloMosaic Idealize.SL.Sem MixBwd

theorem finite_facts : Cert.Pre_finite5.Facts where
  slices_S8x1024_S1x1024_2_0 := by decide
  slices_S2x1024x2816_S1x1024x2816_0_0_0 := by decide
  slices_S2x1408x1024_S1x1408x1024_0_0_0 := by decide
  slices_S8192x2816_S8192x1408_0_0 := by decide
  bitsLt_bf16_f32 := by decide
  bcast_S_S8192x1024 := by decide
  bcast_S_S1x1024 := by decide
  bcast_S_S1x1024x2816 := by decide
  bcast_S_S1x1408x1024 := by decide
  bcast_S_S8192x1408 := by decide

/-- The reference, host operations only, keeps its arguments; it has no semaphores. -/
theorem reference_frame : Cert.quiescent_Reference5Ideal := fun m ρ _ =>
  (θ_run (Cert.Reference5Ideal.defs (F := Ideal)) _ _).mono
    (fun r h => ⟨fun c => (h c).2.2, sem_eq_zero_of_no_sems (by decide) r.2⟩)
    (Cert.Reference5Ideal.Value.run (F := Ideal) m ρ)

section Arguments

open Cert.Reference5Ideal

/-- An entry that a slice of real entries holds is real. -/
theorem slice_real {S T : Shape} {off : Fin S.rank → ℕ} (x : S.Idx → EReal) (h : S.Slices off T)
    (hr : ∀ y, extractStridedSlice T off x h y = ((extractStridedSlice T off x h y).toReal : EReal)) (i : S.Idx) (y : T.Idx)
    (e : ∀ a : Fin S.rank, (i a).val = off a + (y (a.cast h.1.symm)).val) : x i = ((x i).toReal : EReal) := by
  have k := hr y
  rw [extractStridedSlice_apply off x h y i e] at k
  exact k

theorem readM_at {n m : ℕ} (x : (⟨2, ![n, m]⟩ : Shape).Idx → EReal) (i : (⟨2, ![n, m]⟩ : Shape).Idx) (h : x i = ((x i).toReal : EReal)) :
    x i = ((readM x (i 0).val (i 1).val : ℝ) : EReal) := by
  have e : i = ValueIdx.ix2 (i 0) (i 1) := by funext a; fin_cases a <;> rfl
  have hb : (i 0).val < n ∧ (i 1).val < m := ⟨(i 0).isLt, (i 1).isLt⟩
  refine h.trans (congrArg _ ?_)
  unfold readM
  rw [dif_pos hb]
  exact congrArg (fun q => (x q).toReal) e

theorem readC_at {n m k : ℕ} (x : (⟨3, ![n, m, k]⟩ : Shape).Idx → EReal) (i : (⟨3, ![n, m, k]⟩ : Shape).Idx)
    (h : x i = ((x i).toReal : EReal)) : x i = ((readC x (i 0).val (i 1).val (i 2).val : ℝ) : EReal) := by
  have e : i = ValueIdx.ix3 (i 0) (i 1) (i 2) := by funext a; fin_cases a <;> rfl
  have hb : (i 0).val < n ∧ (i 1).val < m ∧ (i 2).val < k := ⟨(i 0).isLt, (i 1).isLt, (i 2).isLt⟩
  refine h.trans (congrArg _ ?_)
  unfold readC
  rw [dif_pos hb]
  exact congrArg (fun q => (x q).toReal) e

/-- The reals that the arguments hold. -/
abbrev halfOf (x1 : S8192x1024.Idx → EReal) (x2 : S8x1024.Idx → EReal) (x3 : S2x1024x2816.Idx → EReal)
    (x4 : S2x1408x1024.Idx → EReal) (x5 x6 : S8192x2816.Idx → EReal) : Half :=
  ⟨readM x5, readM x6, readM x1, readM x2 2, readC x3 0, readC x4 0⟩

attribute [local instance] finite_facts in
/-- Arguments that the precondition accepts hold the reals read from them. -/
theorem args_of_finite (x0 x1 : (⟨S8192x1024, .f32⟩ : BufTy).Contents (Elt Ideal)) (x2 : (⟨S8x1024, .f32⟩ : BufTy).Contents (Elt Ideal))
    (x3 : (⟨S2x1024x2816, .bf16⟩ : BufTy).Contents (Elt Ideal)) (x4 : (⟨S2x1408x1024, .bf16⟩ : BufTy).Contents (Elt Ideal))
    (x5 x6 : (⟨S8192x2816, .bf16⟩ : BufTy).Contents (Elt Ideal))
    (hf : (Cert.Pre_finite5.fn (F := Ideal) x0 x1 x2 x3 x4 x5 x6).1 = (fun _ => 1#1)
      ∧ (Cert.Pre_finite5.fn (F := Ideal) x0 x1 x2 x3 x4 x5 x6).2.1 = (fun _ => 1#1)
      ∧ (Cert.Pre_finite5.fn (F := Ideal) x0 x1 x2 x3 x4 x5 x6).2.2.1 = (fun _ => 1#1)
      ∧ (Cert.Pre_finite5.fn (F := Ideal) x0 x1 x2 x3 x4 x5 x6).2.2.2.1 = (fun _ => 1#1)
      ∧ (Cert.Pre_finite5.fn (F := Ideal) x0 x1 x2 x3 x4 x5 x6).2.2.2.2.1 = (fun _ => 1#1)
      ∧ (Cert.Pre_finite5.fn (F := Ideal) x0 x1 x2 x3 x4 x5 x6).2.2.2.2.2 = (fun _ => 1#1)) :
    Args (halfOf x1 x2 x3 x4 x5 x6) x1 x2 x3 x4 x5 x6 := by
  obtain ⟨f1, f2, f3, f4, f5, f6⟩ := hf
  let s2 : _ → EReal := extractStridedSlice Cert.Pre_finite5.S1x1024 ![2, 0] x2 finite_facts.slices_S8x1024_S1x1024_2_0
  have k2 : ∀ y, s2 y = ((s2 y).toReal : EReal) := real_of_finite s2 _ f2
  let s3 : _ → EReal := extractStridedSlice Cert.Pre_finite5.S1x1024x2816 ![0, 0, 0] x3 finite_facts.slices_S2x1024x2816_S1x1024x2816_0_0_0
  have k3 : ∀ y, s3 y = ((s3 y).toReal : EReal) := real_of_finite s3 _ f3
  let s4 : _ → EReal := extractStridedSlice Cert.Pre_finite5.S1x1408x1024 ![0, 0, 0] x4 finite_facts.slices_S2x1408x1024_S1x1408x1024_0_0_0
  have k4 : ∀ y, s4 y = ((s4 y).toReal : EReal) := real_of_finite s4 _ f4
  let s5 : _ → EReal := extractStridedSlice Cert.Pre_finite5.S8192x1408 ![0, 0] x5 finite_facts.slices_S8192x2816_S8192x1408_0_0
  have k5 : ∀ y, s5 y = ((s5 y).toReal : EReal) := real_of_finite s5 _ f5
  let s6 : _ → EReal := extractStridedSlice Cert.Pre_finite5.S8192x1408 ![0, 0] x6 finite_facts.slices_S8192x2816_S8192x1408_0_0
  have k6 : ∀ y, s6 y = ((s6 y).toReal : EReal) := real_of_finite s6 _ f6
  refine ⟨readM_r x1 (real_of_finite x1 _ f1), fun i hi => ?_, fun i hi => ?_, fun i hi => ?_, fun i hi => ?_, fun i hi => ?_⟩
  · refine (readM_at x2 i (slice_real x2 _ k2 i (ValueIdx.ix2 (0 : Fin 1) (i 1)) fun a => match a with
      | ⟨0, _⟩ => hi
      | ⟨1, _⟩ => (Nat.zero_add _).symm)).trans ?_
    rw [hi]
  · refine (readC_at x3 i (slice_real x3 _ k3 i (ValueIdx.ix3 (0 : Fin 1) (i 1) (i 2)) fun a => match a with
      | ⟨0, _⟩ => hi
      | ⟨1, _⟩ => (Nat.zero_add _).symm
      | ⟨2, _⟩ => (Nat.zero_add _).symm)).trans ?_
    rw [hi]
  · refine (readC_at x4 i (slice_real x4 _ k4 i (ValueIdx.ix3 (0 : Fin 1) (i 1) (i 2)) fun a => match a with
      | ⟨0, _⟩ => hi
      | ⟨1, _⟩ => (Nat.zero_add _).symm
      | ⟨2, _⟩ => (Nat.zero_add _).symm)).trans ?_
    rw [hi]
  · exact readM_at x5 i (slice_real x5 _ k5 i (ValueIdx.ix2 (i 0) (⟨(i 1).val, hi⟩ : Fin 1408)) fun a => match a with
      | ⟨0, _⟩ => (Nat.zero_add _).symm
      | ⟨1, _⟩ => (Nat.zero_add _).symm)
  · exact readM_at x6 i (slice_real x6 _ k6 i (ValueIdx.ix2 (i 0) (⟨(i 1).val, hi⟩ : Fin 1408)) fun a => match a with
      | ⟨0, _⟩ => (Nat.zero_add _).symm
      | ⟨1, _⟩ => (Nat.zero_add _).symm)

/-- Equal arguments hold the same reals. -/
theorem args_congr {P : Half} {y1 x1 : S8192x1024.Idx → EReal} {y2 x2 : S8x1024.Idx → EReal} {y3 x3 : S2x1024x2816.Idx → EReal}
    {y4 x4 : S2x1408x1024.Idx → EReal} {y5 x5 y6 x6 : S8192x2816.Idx → EReal}
    (e1 : y1 = x1) (e2 : y2 = x2) (e3 : y3 = x3) (e4 : y4 = x4) (e5 : y5 = x5) (e6 : y6 = x6) (H : Args P x1 x2 x3 x4 x5 x6) :
    Args P y1 y2 y3 y4 y5 y6 := by
  subst e1 e2 e3 e4 e5 e6
  exact H

end Arguments

/-- The real arguments of device `c`. -/
abbrev realsAt (m : (l : Loc Cert.Kernel5Ideal.nD Cert.Kernel5Ideal.τ Cert.Kernel5Ideal.sig) → Buf (Elt Ideal) l)
    (c : Dev Cert.Kernel5Ideal.nD) : Half :=
  halfOf (m (c, Proc.tc.devRef Cert.Kernel5Ideal.main_arg1)) (m (c, Proc.tc.devRef Cert.Kernel5Ideal.main_arg2))
    (m (c, Proc.tc.devRef Cert.Kernel5Ideal.main_arg3)) (m (c, Proc.tc.devRef Cert.Kernel5Ideal.main_arg4))
    (m (c, Proc.tc.devRef Cert.Kernel5Ideal.main_arg5)) (m (c, Proc.tc.devRef Cert.Kernel5Ideal.main_arg6))

attribute [local instance] finite_facts in
theorem holds_of_pre {m : (l : Loc Cert.Kernel5Ideal.nD Cert.Kernel5Ideal.τ Cert.Kernel5Ideal.sig) → Buf (Elt Ideal) l}
    (h : Cert.Pre_Kernel5Ideal_finite5 m) (c : Dev Cert.Kernel5Ideal.nD) : Holds m c (realsAt m c) :=
  args_of_finite _ _ _ _ _ _ _ (h c)

section Algebraic

attribute [local instance] Cert.Kernel5Ideal.Gen.facts Cert.Reference5Ideal.Gen.facts finite_facts

set_option maxHeartbeats 2000000 in
open Cert.Kernel5Ideal.Gen Cert.Kernel5Ideal.Value in
theorem algebraic : Cert.algebraic_Kernel5Ideal_Reference5Ideal_pre_finite5 := by
  intro m g m' g' hp ha
  refine ⟨fun c => (dats (F := Ideal) m 0 c).arrAt 6 Cert.Kernel5Ideal.cfg0.N,
    fun c => (dats (F := Ideal) m 0 c).arrAt 7 Cert.Kernel5Ideal.cfg0.N, ?_, ?_⟩
  · refine (θ_run (Cert.Kernel5Ideal.defs (F := Ideal)) _ _).mono (fun r h c => ?_) (run_blocks (F := Ideal) m g)
    obtain ⟨h0, h1, k0, k1, k2, k3, k4, k5, k6, _⟩ := h c
    exact ⟨h0, h1, k0, k1, k2, k3, k4, k5, k6⟩
  refine (θ_run (Cert.Reference5Ideal.defs (F := Ideal)) _ _).mono (fun r h c => ?_)
    (Cert.Reference5Ideal.Value.run (F := Ideal) m' g')
  have H : Holds m c (realsAt m c) := holds_of_pre hp c
  obtain ⟨a0, a1, a2, a3, a4, a5, a6⟩ := ha c
  have A := args_congr a1 a2 a3 a4 a5 a6 H
  obtain ⟨h0, h1, kept⟩ := h c
  refine ⟨?_, ?_, kept⟩
  · exact (h0.trans (Cert.Reference5Ideal.Read.val_main_v56_eq (F := Ideal) m' c)).trans
      ((funext (dh_ref A)).trans (dh_array H).symm)
  · exact (h1.trans (Cert.Reference5Ideal.Read.val_main_v59_eq (F := Ideal) _ _ _ _)).trans
      ((funext (vec_ref A)).trans (vec_array H).symm)

end Algebraic

end FfnBwd

end
-- ==== Proof.FwdPay.lean ====
/-
  The forward mixer's values on a tile, from its blocks: the windows' sums read off the carried rows, the pooled half, the gated
  half and the rows after the mixer.
-/
module

public import proofs.«01_k».proof.Proof.Pay3
public import proofs.«01_k».proof.Proof.Gen.Kernel4Ideal.Value

@[expose] public section

set_option maxRecDepth 65536

noncomputable section

namespace MixFwd

open Idealize.ShloMosaic Idealize.SL.Sem Cert.Kernel4Ideal Cert.Kernel4Ideal.Gen MixBwd

variable {P : Params} {b M : ℕ}

theorem k_ga : Named.named (F := Ideal) κ "gelu_a" (φ := .f32) 0x3D372713#32 = ((ga : ℝ) : EReal) :=
  IdealRules.named_const.ideal_named_scalar _ _ _ _ rfl

/-! ### The projection -/

section Projection

variable {x : FVec Ideal S512x1024 .f32} {gn sc sh : FVec Ideal S1x1024 .f32} {w : FVec Ideal S1024x1536 .bf16}

theorem f3 (hx : R2 x (fun i j => P.x (b + i) j)) (hg : R2 gn (fun _ j => P.gn j)) (hs : R2 sc (fun _ j => P.scale j))
    (hh : R2 sh (fun _ j => P.shift j)) (hw : R2 w P.win) :
    R2 (k0_pay3 (F := Ideal) x gn sc sh w) (fun i j => P.proj (b + i) j) := by
  have hr : R2 _ (fun i _ => P.r (b + i)) := R2.rsqrt (((hx.mul hx).rowSum reduces_S512x1024_S512 (.inl rfl) rfl
    shapeCasts_S512_S512x1).div (R2.const k_1024) (fun _ _ => by norm_num) |>.add (R2.const k_eps)) fun i _ _ _ => P.ms_pos (b + i)
  have hp : R2 _ (fun i j => P.h (b + i) j) := (((hx.mul (hr.column broadcasts_S512x1_S512x1024)).mul
    ((hg.cast shapeCasts_S1x1024_S1x1024).row broadcasts_S1x1024_S512x1024)).mul
    (((R2.const k_one).add (hs.cast shapeCasts_S1x1024_S1x1024)).row broadcasts_S1x1024_S512x1024)).add
    ((hh.cast shapeCasts_S1x1024_S1x1024).row broadcasts_S1x1024_S512x1024)
  exact hp.mm (hw.cast shapeCasts_S1024x1536_S1024x1536) (by decide)

theorem f4 (h : R2 (k0_pay3 (F := Ideal) x gn sc sh w) (fun i j => P.proj (b + i) j)) :
    R2 (k0_pay4 (F := Ideal) x gn sc sh w) (fun i j => P.proj (b + i) j) :=
  (h.slice slices_S512x1536_o0_0_S512x512).congr fun i j _ _ => by rw [zero_add, zero_add]

theorem f5 (h : R2 (k0_pay3 (F := Ideal) x gn sc sh w) (fun i j => P.proj (b + i) j)) :
    R2 (k0_pay5 (F := Ideal) x gn sc sh w) (fun i j => P.zb (b + i) j) :=
  (h.slice slices_S512x1536_o0_512_S512x1024).congr fun i j _ _ => by rw [zero_add]; rfl

end Projection

/-! ### The windows -/

/-- The pooled half's projection, sixteen rows down: zeros above the sequence's start. -/
def pz (P : Params) (s j : ℕ) : ℝ := if s < 16 then 0 else P.proj (s - 16) j

theorem pz_low (s j : ℕ) (h : s < 16) : pz P s j = 0 := if_pos h
theorem pz_add (s j : ℕ) : pz P (16 + s) j = P.proj s j := by
  unfold pz
  rw [if_neg (by omega), show 16 + s - 16 = s by omega]

theorem sum_pz (s j : ℕ) : ∑ i ∈ Finset.range (16 + (s + 1)), pz P i j = P.csum s j := by
  rw [Finset.sum_range_add]
  unfold Params.csum
  rw [Finset.sum_eq_zero fun i hi => pz_low i j (Finset.mem_range.mp hi), zero_add]
  exact Finset.sum_congr rfl fun i _ => pz_add i j

/-- A difference of running sums is the sum of a window of at most sixteen rows. -/
theorem window (s j w : ℕ) (hw : w ≤ 16) :
    (P.csum s j - if s < w then 0 else P.csum (s - w) j) = ∑ k ∈ Finset.range w, pz P (s + (16 - k)) j := by
  have low : (if s < w then 0 else P.csum (s - w) j) = ∑ i ∈ Finset.range (s + 17 - w), pz P i j := by
    by_cases h : s < w
    · rw [if_pos h]
      exact (Finset.sum_eq_zero fun i hi => pz_low i j (by have := Finset.mem_range.mp hi; omega)).symm
    · rw [if_neg h, ← sum_pz, show s + 17 - w = 16 + (s - w + 1) by omega]
  rw [low, ← sum_pz, show 16 + (s + 1) = s + 17 - w + w by omega, Finset.sum_range_add, add_sub_cancel_left,
    ← Finset.sum_range_reflect]
  refine Finset.sum_congr rfl fun k hk => ?_
  have := Finset.mem_range.mp hk
  rw [show s + 17 - w + (w - 1 - k) = s + (16 - k) by omega]

/-- The shifted rows at row `r` of the carried rows, of a pool group. -/
abbrev Z (P : Params) (b o r : ℕ) (i j : ℕ) : ℝ := pz P (b + (r + i)) (o + j)

theorem pooled_eq (g o i j w : ℕ) (hg : o = 128 * g) (hj : j < 128) (hw : w = width g) (hl : w ≤ 16) :
    P.pooled (b + i) (o + j) = (∑ k ∈ Finset.range w, Z P b o (16 - k) i j) / cnt g (b + i) - P.proj (b + i) (o + j) := by
  unfold Params.pooled
  subst hg
  rw [show (128 * g + j) / 128 = g by omega, ← hw, window _ _ _ hl]
  refine congrArg (fun t => t / _ - _) (Finset.sum_congr rfl fun k _ => ?_)
  rw [show b + i + (16 - k) = b + (16 - k + i) by omega]

theorem pos_r (M : ℕ) (i : S512x1.Idx) : k0_pay7 (BitVec.ofNat 32 M) i = BitVec.ofNat 32 (512 * M + (i 0).val) := by
  show IntOp.addi (Scalar.muli (BitVec.ofNat 32 M) 512#32) (iota .tc S512x1 32 [0] iota_S512x1_d0_w32 i) = _
  have hi : (i 0).val < 512 := (i 0).isLt
  rw [show iota .tc S512x1 32 [0] iota_S512x1_d0_w32 i = BitVec.ofNat 32 (i 0).val by rw [WordCmp.iota_at]; simp]
  show BitVec.ofNat 32 M * BitVec.ofNat 32 512 + BitVec.ofNat 32 (i 0).val = _
  rw [← BitVec.ofNat_mul, ← BitVec.ofNat_add, mul_comm]

/-- A pool group from its window's sum. -/
theorem pool_block {pos : IVec S512x1 32} {k o : ℕ} {s p : (⟨2, ![512, 128]⟩ : Shape).Idx → EReal} (hk : k < 4) (hb : b + 512 ≤ 8192)
    (hpos : ∀ i, pos i = BitVec.ofNat 32 (b + (i 0).val)) (w : BitVec 32) (hw : w = BitVec.ofNat 32 (width k)) (ho : o = 128 * k)
    (n : ℕ) (hn : n = width k) (hl : n ≤ 16)
    (hs : R2 s (fun i j => ∑ k ∈ Finset.range n, Z P b o (16 - k) i j)) (hp : R2 p (fun i j => P.proj (b + i) (o + j)))
    (h : (⟨2, ![512, 1]⟩ : Shape).Broadcasts ⟨2, ![512, 128]⟩) :
    R2 (subf (F := Ideal) (φ := .f32) (divf (F := Ideal) (φ := .f32) s (broadcastTo ⟨2, ![512, 128]⟩
      (sitofp (F := Ideal) .f32 (minsi (addi pos (broadcast S512x1 1#32)) (broadcast S512x1 w))) h)) p)
      (fun i j => P.pooled (b + i) (o + j)) :=
  ((hs.div ((cnt_r hk hb hpos w hw).column h) fun _ _ => (cnt_pos _ _).ne').sub hp).congr fun i j _ hj =>
    (pooled_eq k o i j n ho hj hn hl).symm

/-- A pool group's product with its weights, scaled. -/
theorem branch_block {p : (⟨2, ![512, 128]⟩ : Shape).Idx → EReal} {w : (⟨3, ![1, 128, 128]⟩ : Shape).Idx → EReal}
    {v : (⟨2, ![8, 512]⟩ : Shape).Idx → EReal} {k o : ℕ} (ho : o = 128 * k)
    (hp : R2 p (fun i j => P.pooled (b + i) (o + j))) (hw : R3 w (fun _ i j => P.wpool k i j)) (hv : R2 v (vecs P))
    (h2 : (⟨3, ![1, 128, 128]⟩ : Shape).ShapeCasts ⟨2, ![128, 128]⟩)
    (h3 : (⟨2, ![8, 512]⟩ : Shape).Slices ![0, o] ⟨2, ![1, 128]⟩) (h4 : (⟨2, ![1, 128]⟩ : Shape).Broadcasts ⟨2, ![512, 128]⟩)
    (wf : DotDims.WF ⟨2, ![512, 128]⟩ ⟨2, ![128, 128]⟩ ⟨2, ![512, 128]⟩ [1] [0] [0] [1] [] []) :
    R2 (mulf (F := Ideal) (φ := .f32) (Ideal.matmul ⟨[1], [0], [0], [1], [], [], wf⟩ p
      (shapeCast ⟨2, ![128, 128]⟩ w h2) (constant (F := Ideal) ⟨2, ![512, 128]⟩ .f32 0x00000000#32))
      (broadcastTo ⟨2, ![512, 128]⟩ (extractStridedSlice ⟨2, ![1, 128]⟩ ![0, o] v h3) h4))
      (fun i j => P.mixed (b + i) (o + j) * P.ps (o + j)) :=
  R2.congr (R2.mul (R2.mm hp (hw.drop h2) wf) (R2.row (R2.slice hv h3) h4)) fun i j _ hj => by
    subst ho
    unfold Params.mixed
    rw [show (128 * k + j) / 128 = k by omega, show (128 * k + j) % 128 = j by omega]
    rfl

section Pool

variable {p : FVec Ideal S512x512 .f32} {a : BitVec 32} {pos : IVec S512x1 32} {vc v : FVec Ideal S8x512 .f32}
  {w : FVec Ideal S1x128x128 .bf16} {q1 q2 q3 q4 q5 q6 q7 q8 q9 q10 q11 q12 q13 q14 q15 : FVec Ideal S512x128 .f32}

theorem part (o : ℕ) (hp : R2 p (fun i j => P.proj (b + i) j)) (h : (⟨2, ![512, 512]⟩ : Shape).Slices ![0, o] ⟨2, ![512, 128]⟩) :
    R2 (extractStridedSlice ⟨2, ![512, 128]⟩ ![0, o] p h) (fun i j => P.proj (b + i) (o + j)) :=
  (hp.slice h).congr fun i j _ _ => by rw [zero_add]

theorem row16 (o i j : ℕ) : Z P b o 16 i j = P.proj (b + i) (o + j) := by
  unfold Z
  rw [show b + (16 + i) = 16 + (b + i) by omega, pz_add]

theorem f9 (hb : b + 512 ≤ 8192) (hpos : ∀ i, k0_pay7 a i = BitVec.ofNat 32 (b + (i 0).val)) (hp : R2 p (fun i j => P.proj (b + i) j))
    (h15 : R2 q15 (Z P b 0 15)) : R2 (k0_pay9 (F := Ideal) a p q15) (fun i j => P.pooled (b + i) (0 + j)) :=
  pool_block (k := 0) (by omega) hb hpos 2#32 rfl rfl 2 rfl (by omega)
    (((part 0 hp slices_S512x512_o0_0_S512x128).add h15).congr fun i j _ hj => by
      have e := row16 (P := P) (b := b) 0 i j
      rw [zero_add] at e
      simp only [Finset.sum_range_succ, Finset.sum_range_zero, zero_add]; rw [← e])
    (part 0 hp slices_S512x512_o0_0_S512x128) broadcasts_S512x1_S512x128

theorem f10 (hv : R2 vc (vecs P)) (hw : R3 w (fun _ i j => P.wpool 0 i j))
    (h : R2 (k0_pay9 (F := Ideal) a p q15) (fun i j => P.pooled (b + i) (0 + j))) :
    R2 (k0_pay10 (F := Ideal) a p vc q15 w) (fun i j => P.mixed (b + i) (0 + j) * P.ps (0 + j)) :=
  branch_block (k := 0) rfl h hw (hv.cast shapeCasts_S8x512_S8x512) shapeCasts_S1x128x128_S128x128 slices_S8x512_o0_0_S1x128
    broadcasts_S1x128_S512x128 (by decide)

theorem f13 (hb : b + 512 ≤ 8192) (hpos : ∀ i, k0_pay7 a i = BitVec.ofNat 32 (b + (i 0).val)) (hp : R2 p (fun i j => P.proj (b + i) j))
    (h15 : R2 q15 (Z P b 128 15)) (h14 : R2 q14 (Z P b 128 14)) (h13 : R2 q13 (Z P b 128 13)) :
    R2 (k0_pay13 (F := Ideal) p (k0_pay11 p q15 q14 q13) (k0_pay12 a)) (fun i j => P.pooled (b + i) (128 + j)) :=
  pool_block (k := 1) (by omega) hb hpos 4#32 rfl rfl 4 rfl (by omega)
    (((((part 128 hp slices_S512x512_o0_128_S512x128).add h15).add h14).add h13).congr fun i j _ hj => by
      simp only [Finset.sum_range_succ, Finset.sum_range_zero, zero_add]; rw [← row16])
    (part 128 hp slices_S512x512_o0_128_S512x128) broadcasts_S512x1_S512x128

theorem f14 (hv : R2 v (vecs P)) (hw : R3 w (fun _ i j => P.wpool 1 i j)) {s c : FVec Ideal S512x128 .f32}
    (h : R2 (k0_pay13 (F := Ideal) p s c) (fun i j => P.pooled (b + i) (128 + j))) :
    R2 (k0_pay14 (F := Ideal) p v s c w) (fun i j => P.mixed (b + i) (128 + j) * P.ps (128 + j)) :=
  branch_block (k := 1) rfl h hw hv shapeCasts_S1x128x128_S128x128 slices_S8x512_o0_128_S1x128
    broadcasts_S1x128_S512x128 (by decide)

theorem f15 (hb : b + 512 ≤ 8192) (hpos : ∀ i, pos i = BitVec.ofNat 32 (b + (i 0).val)) (hp : R2 p (fun i j => P.proj (b + i) j))
    (h15 : R2 q15 (Z P b 256 15)) (h14 : R2 q14 (Z P b 256 14)) (h13 : R2 q13 (Z P b 256 13)) (h12 : R2 q12 (Z P b 256 12))
    (h11 : R2 q11 (Z P b 256 11)) (h10 : R2 q10 (Z P b 256 10)) (h9 : R2 q9 (Z P b 256 9)) :
    R2 (k0_pay15 (F := Ideal) p pos q15 q14 q13 q12 q11 q10 q9) (fun i j => P.pooled (b + i) (256 + j)) :=
  pool_block (k := 2) (by omega) hb hpos 8#32 rfl rfl 8 rfl (by omega)
    (((((((((part 256 hp slices_S512x512_o0_256_S512x128).add h15).add h14).add h13).add h12).add h11).add h10).add h9).congr
      fun i j _ hj => by
        simp only [Finset.sum_range_succ, Finset.sum_range_zero, zero_add]; rw [← row16])
    (part 256 hp slices_S512x512_o0_256_S512x128) broadcasts_S512x1_S512x128

theorem f17 (hv : R2 v (vecs P)) (hw : R3 w (fun _ i j => P.wpool 2 i j)) {s : FVec Ideal S512x128 .bf16}
    (h : R2 s (fun i j => P.pooled (b + i) (256 + j))) :
    R2 (k0_pay17 (F := Ideal) v s (k0_pay16 w)) (fun i j => P.mixed (b + i) (256 + j) * P.ps (256 + j)) :=
  branch_block (k := 2) rfl h hw hv shapeCasts_S1x128x128_S128x128 slices_S8x512_o0_256_S1x128
    broadcasts_S1x128_S512x128 (by decide)

theorem f19 (hb : b + 512 ≤ 8192) (hpos : ∀ i, pos i = BitVec.ofNat 32 (b + (i 0).val)) (hp : R2 p (fun i j => P.proj (b + i) j))
    (h15 : R2 q15 (Z P b 384 15)) (h14 : R2 q14 (Z P b 384 14)) (h13 : R2 q13 (Z P b 384 13)) (h12 : R2 q12 (Z P b 384 12))
    (h11 : R2 q11 (Z P b 384 11)) (h10 : R2 q10 (Z P b 384 10)) (h9 : R2 q9 (Z P b 384 9)) (h8 : R2 q8 (Z P b 384 8))
    (h7 : R2 q7 (Z P b 384 7)) (h6 : R2 q6 (Z P b 384 6)) (h5 : R2 q5 (Z P b 384 5)) (h4 : R2 q4 (Z P b 384 4))
    (h3 : R2 q3 (Z P b 384 3)) (h2 : R2 q2 (Z P b 384 2)) (h1 : R2 q1 (Z P b 384 1)) :
    R2 (k0_pay19 (F := Ideal) p pos (k0_pay18 p q15 q14 q13 q12 q11 q10 q9 q8 q7 q6 q5 q4 q3) q2 q1)
      (fun i j => P.pooled (b + i) (384 + j)) :=
  pool_block (k := 3) (by omega) hb hpos 16#32 rfl rfl 16 rfl (by omega)
    (((((((((((((((((part 384 hp slices_S512x512_o0_384_S512x128).add h15).add h14).add h13).add h12).add h11).add h10).add
      h9).add h8).add h7).add h6).add h5).add h4).add h3).add h2).add h1).congr
      fun i j _ hj => by
        simp only [Finset.sum_range_succ, Finset.sum_range_zero, zero_add]; rw [← row16])
    (part 384 hp slices_S512x512_o0_384_S512x128) broadcasts_S512x1_S512x128

theorem f20 (hv : R2 v (vecs P)) (hw : R3 w (fun _ i j => P.wpool 3 i j)) {s : FVec Ideal S512x128 .f32}
    (h : R2 (k0_pay19 (F := Ideal) p pos s q2 q1) (fun i j => P.pooled (b + i) (384 + j))) :
    R2 (k0_pay20 (F := Ideal) p pos v s q2 q1 w) (fun i j => P.mixed (b + i) (384 + j) * P.ps (384 + j)) :=
  branch_block (k := 3) rfl h hw hv shapeCasts_S1x128x128_S128x128 slices_S8x512_o0_384_S1x128
    broadcasts_S1x128_S512x128 (by decide)

theorem f21 {s0 s1 s2 : FVec Ideal S512x128 .bf16} {s : FVec Ideal S512x128 .f32} (h0 : R2 s0 (fun i j => P.pooled (b + i) (0 + j)))
    (h1 : R2 s1 (fun i j => P.pooled (b + i) (128 + j))) (h2 : R2 s2 (fun i j => P.pooled (b + i) (256 + j)))
    (h3 : R2 (k0_pay19 (F := Ideal) p pos s q2 q1) (fun i j => P.pooled (b + i) (384 + j))) :
    R2 (k0_pay21 (F := Ideal) p pos s0 s1 s2 s q2 q1) (fun i j => P.pooled (b + i) j) :=
  R2.cat4 (n := 512) (m := 512) (w := 128) (fun i j => P.pooled (b + i) j) h0 h1 h2 h3
    concatenates_S512x128_S512x128_S512x128_S512x128_S512x512_d1
    (fun _ _ _ _ => rfl) (fun _ _ _ _ => rfl) (fun _ _ _ _ => rfl) (fun _ _ _ _ => rfl)

end Pool

/-! ### The gated half -/

section Gated

variable {z g : FVec Ideal S512x1024 .f32} {vc : FVec Ideal S8x512 .f32} {v : FVec Ideal S512x512 .f32}
  {w0 w1 w2 w3 : FVec Ideal S1x128x256 .bf16} {c0 c1 c2 c3 : FVec Ideal S128x128 .f32}

theorem f23 (hz : R2 z (fun i j => P.zb (b + i) j)) : R2 (k0_pay23 (F := Ideal) z) (gz P b) :=
  (((R2.const k_half).mul hz).mul ((R2.const k_one).add
    ((R2.const k_gk).mul (hz.add (((R2.const k_ga).mul hz).mul (hz.mul hz)))).tanh)).congr fun i j _ _ => by
      unfold gz ge gt; ring_nf

theorem f24 (hz : R2 z (fun i j => P.zb (b + i) j)) : R2 (k0_pay24 (F := Ideal) z) (fun i j => P.u (b + i) j) := p44 (f23 hz)

theorem f25 (hv : R2 vc (vecs P)) (hg : R2 g (gz P b)) : R2 (k0_pay25 (F := Ideal) vc g) (fun i j => P.vl (b + i) j) := p48 hv hg

theorem f36 (hb : b = 512 * M) (hv : R2 (k0_pay25 (F := Ideal) vc g) (fun i j => P.vl (b + i) j))
    (hw : R3 w0 (fun _ i j => wc P 0 i j)) (hc : R2 c0 (fun t k => P.bsp ((0 + k) / 64) t)) :
    R2 (k0_pay36 (F := Ideal) (k0_pay29 vc g) k0_pay30 (k0_pay31 vc g) (k0_pay32 vc g) (k0_pay33 vc g) (k0_pay34 vc g) k0_pay35 w0 c0)
      (fun i j => P.sv (b + i) (0 + j)) := by
  have key := (p78' (lower_r (L := fun i j => P.vl (b + i) (0 + j)) lane (hv.slice slices_S512x512_o0_0_S128x128)
    (hv.slice slices_S512x512_o128_0_S128x128) (hv.slice slices_S512x512_o256_0_S128x128)
    (hv.slice slices_S512x512_o384_0_S128x128)) (upper_r (L := fun i j => P.vl (b + i) (0 + j)) lane
    (hv.slice slices_S512x512_o0_0_S128x128)
    (hv.slice slices_S512x512_o128_0_S128x128) (hv.slice slices_S512x512_o256_0_S128x128)
    (hv.slice slices_S512x512_o384_0_S128x128)) hw hc _ rfl).congr fun i j _ hj => heads_sv hb 0 i j hj 0 rfl
  exact key

theorem f38 (hb : b = 512 * M) (hv : R2 v (fun i j => P.vl (b + i) j))
    (hw : R3 w1 (fun _ i j => wc P 1 i j)) (hc : R2 c1 (fun t k => P.bsp ((128 + k) / 64) t)) :
    R2 (k0_pay38 (F := Ideal) (k0_pay37 v) w1 c1) (fun i j => P.sv (b + i) (128 + j)) := by
  have key := (p78' (lower_r (L := fun i j => P.vl (b + i) (128 + j)) lane (hv.slice slices_S512x512_o0_128_S128x128)
    (hv.slice slices_S512x512_o128_128_S128x128) (hv.slice slices_S512x512_o256_128_S128x128)
    (hv.slice slices_S512x512_o384_128_S128x128)) (upper_r (L := fun i j => P.vl (b + i) (128 + j)) lane
    (hv.slice slices_S512x512_o0_128_S128x128)
    (hv.slice slices_S512x512_o128_128_S128x128) (hv.slice slices_S512x512_o256_128_S128x128)
    (hv.slice slices_S512x512_o384_128_S128x128)) hw hc _ rfl).congr fun i j _ hj => heads_sv hb 1 i j hj 128 rfl
  exact key

theorem f40 (hb : b = 512 * M) (hv : R2 v (fun i j => P.vl (b + i) j))
    (hw : R3 w2 (fun _ i j => wc P 2 i j)) (hc : R2 c2 (fun t k => P.bsp ((256 + k) / 64) t)) :
    R2 (k0_pay40 (F := Ideal) (k0_pay39 v) w2 c2) (fun i j => P.sv (b + i) (256 + j)) := by
  have key := (p78' (lower_r (L := fun i j => P.vl (b + i) (256 + j)) lane (hv.slice slices_S512x512_o0_256_S128x128)
    (hv.slice slices_S512x512_o128_256_S128x128) (hv.slice slices_S512x512_o256_256_S128x128)
    (hv.slice slices_S512x512_o384_256_S128x128)) (upper_r (L := fun i j => P.vl (b + i) (256 + j)) lane
    (hv.slice slices_S512x512_o0_256_S128x128)
    (hv.slice slices_S512x512_o128_256_S128x128) (hv.slice slices_S512x512_o256_256_S128x128)
    (hv.slice slices_S512x512_o384_256_S128x128)) hw hc _ rfl).congr fun i j _ hj => heads_sv hb 2 i j hj 256 rfl
  exact key

/-! ### The rows after the mixer -/

variable {x : FVec Ideal S512x1024 .f32} {y0 y1 y2 y3 s0 s1 s2 : FVec Ideal S512x128 .f32} {u : FVec Ideal S512x512 .f32}
  {gate : FVec Ideal S1x1024 .f32} {wo : FVec Ideal S1024x1024 .bf16}

theorem f1 (hb : b = 512 * M) (hx : R2 x (fun i j => P.x (b + i) j))
    (h0 : R2 y0 (fun i j => P.mixed (b + i) (0 + j) * P.ps (0 + j))) (h1 : R2 y1 (fun i j => P.mixed (b + i) (128 + j) * P.ps (128 + j)))
    (h2 : R2 y2 (fun i j => P.mixed (b + i) (256 + j) * P.ps (256 + j)))
    (h3 : R2 y3 (fun i j => P.mixed (b + i) (384 + j) * P.ps (384 + j)))
    (hu : R2 u (fun i j => P.u (b + i) j)) (k0 : R2 s0 (fun i j => P.sv (b + i) (0 + j))) (k1 : R2 s1 (fun i j => P.sv (b + i) (128 + j)))
    (k2 : R2 s2 (fun i j => P.sv (b + i) (256 + j))) (hv : R2 v (fun i j => P.vl (b + i) j))
    (hw : R3 w3 (fun _ i j => wc P 3 i j)) (hc : R2 c3 (fun t k => P.bsp ((384 + k) / 64) t))
    (hg : R2 gate (fun _ j => P.gate j)) (ho : R2 wo P.wout) :
    R2 (k0_pay1 (F := Ideal) x y0 y1 y2 y3 u s0 s1 s2 (k0_pay41 v w3) c3 gate wo)
      (fun i j => P.x (b + i) j + P.gate j * P.mix (b + i) j) := by
  have k3 := (p78' (lower_r (L := fun i j => P.vl (b + i) (384 + j)) lane (hv.slice slices_S512x512_o0_384_S128x128)
    (hv.slice slices_S512x512_o128_384_S128x128) (hv.slice slices_S512x512_o256_384_S128x128)
    (hv.slice slices_S512x512_o384_384_S128x128)) (upper_r (L := fun i j => P.vl (b + i) (384 + j)) lane
    (hv.slice slices_S512x512_o0_384_S128x128)
    (hv.slice slices_S512x512_o128_384_S128x128) (hv.slice slices_S512x512_o256_384_S128x128)
    (hv.slice slices_S512x512_o384_384_S128x128)) hw hc _ rfl).congr fun i j _ hj => heads_sv hb 3 i j hj 384 rfl
  have hs := R2.cat4 (n := 512) (m := 512) (w := 128) (fun i j => P.sv (b + i) j) k0 k1 k2 k3
    concatenates_S512x128_S512x128_S512x128_S512x128_S512x512_d1
    (fun _ _ _ _ => rfl) (fun _ _ _ _ => rfl) (fun _ _ _ _ => rfl) (fun _ _ _ _ => rfl)
  have hcat := R2.cat5 (n := 512) (m := 1024) (w := 128) (l := 512) (F := fun i j => P.cat (b + i) j) h0 h1 h2 h3 (hu.mul hs)
    concatenates_S512x128_S512x128_S512x128_S512x128_S512x512_S512x1024_d1
    (fun i j _ hj => by beta_reduce; unfold Params.cat; rw [if_pos (by omega)])
    (fun i j _ hj => by beta_reduce; unfold Params.cat; rw [if_pos (by omega)])
    (fun i j _ hj => by beta_reduce; unfold Params.cat; rw [if_pos (by omega)])
    (fun i j _ hj => by beta_reduce; unfold Params.cat; rw [if_pos (by omega)])
    (fun i j _ hj => by
      beta_reduce; unfold Params.cat Params.yb
      rw [if_neg (by omega), show 0 + 128 + 128 + 128 + 128 + j - 512 = j by omega])
  exact hx.add (((hg.cast shapeCasts_S1x1024_S1x1024).row broadcasts_S1x1024_S512x1024).mul
    (hcat.mm (ho.cast shapeCasts_S1024x1024_S1024x1024) (by decide)))

end Gated

end MixFwd
-- ==== Proof.FwdHost.lean ====
/-
  What the mixer's forward kernel is given: the parameters packed in rows and tables, and the blocks of a tile of its grid.
-/
module

public import proofs.«01_k».proof.Proof.Host
public import proofs.«01_k».proof.Proof.FwdPay

@[expose] public section

set_option maxRecDepth 65536

noncomputable section

namespace MixFwd

open Idealize.ShloMosaic Idealize.SL.Sem MixBwd Cert.Kernel4Ideal Cert.Kernel4Ideal.Gen

variable {m : (l : Loc nD τ sig) → Buf (Elt Ideal) l} {c : Dev nD} {P : Params}

/-- The memory holds the arguments `P`; the gradient that the backward pass is also given plays no part. -/
abbrev Holds (m : (l : Loc nD τ sig) → Buf (Elt Ideal) l) (c : Dev nD) (P : Params) : Prop :=
  Args P (m (c, Proc.tc.devRef main_arg0)) (fun _ => 0) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12))

theorem v13_r (H : Holds m c P) : R2 (n := 8) (m := 1024) (V (F := Ideal) m c main_v13) (mods P) := by
  have e : V (F := Ideal) m c main_v13 = (cat5 S8x1024 0 S1x1024 S1x1024 S1x1024 S1x1024 S4x1024 (m (c, Proc.tc.devRef main_arg1)) (m (c, Proc.tc.devRef main_arg2))
      (m (c, Proc.tc.devRef main_arg3)) (m (c, Proc.tc.devRef main_arg4)) (broadcastInDim S4x1024 ![] bcast_S_S4x1024 (constant (F := Ideal) S_ .f32 0x00000000#32))
      concatenates_S1x1024_S1x1024_S1x1024_S1x1024_S4x1024_S8x1024_d0 : S8x1024.Idx → EReal) := by
    entry_read
    after_reads_simp [cat2_eq, cat4_eq, cat5_eq, Matrix.cons_val]
  rw [e]
  exact rows44_r _ _ _ _ _ P.shift P.scale P.gate P.gn H.shift H.scale H.gate H.gn (fun _ => w_zero) _

theorem v15_r (H : Holds m c P) : R2 (n := 8) (m := 512) (V (F := Ideal) m c main_v15) (vecs P) := by
  have e : V (F := Ideal) m c main_v15 = (cat4 S8x512 0 S1x512 S1x512 S1x512 S5x512 (m (c, Proc.tc.devRef main_arg7)) (m (c, Proc.tc.devRef main_arg8)) (m (c, Proc.tc.devRef main_arg9))
      (broadcastInDim S5x512 ![] bcast_S_S5x512 (constant (F := Ideal) S_ .f32 0x00000000#32))
      concatenates_S1x512_S1x512_S1x512_S5x512_S8x512_d0 : S8x512.Idx → EReal) := by
    entry_read
    after_reads_simp [cat2_eq, cat4_eq, cat5_eq, Matrix.cons_val]
  rw [e]
  exact rows35_r _ _ _ _ P.ps P.lg P.lb H.ps H.lg H.lb (fun _ => w_zero) _

theorem v8_r (H : Holds m c P) : R3 (l := 4) (n := 128) (m := 256) (V (F := Ideal) m c main_v8) (wc P) := by
  have e : V (F := Ideal) m c main_v8 = (cat2 S4x128x256 2 S4x128x128 S4x128x128
      (Host.slice S4x128x128 ![0, 0, 0] ![2, 1, 1] (maskedSp (m (c, Proc.tc.devRef main_arg10))) slicesBy_S8x128x128_S4x128x128_0s2_0s1_0s1)
      (Host.slice S4x128x128 ![1, 0, 0] ![2, 1, 1] (maskedSp (m (c, Proc.tc.devRef main_arg10))) slicesBy_S8x128x128_S4x128x128_1s2_0s1_0s1)
      concatenates_S4x128x128_S4x128x128_S4x128x256_d2 : S4x128x256.Idx → EReal) := by
    entry_read
    after_reads_simp [cat2_eq, cat4_eq, cat5_eq, Matrix.cons_val]
    rfl
  rw [e]
  exact (masked_r H.wsp).pairs _ _ _

theorem v11_r (H : Holds m c P) : R2 (n := 128) (m := 512) (V (F := Ideal) m c main_v11) (fun t k => P.bsp (k / 64) t) := by
  have e : V (F := Ideal) m c main_v11 = (shapeCast S128x512 (broadcastInDim S128x8x64 ![0, 1] bcast_S128x8_S128x8x64_0_1
      (transpose S128x8 [1, 0] (m (c, Proc.tc.devRef main_arg11)) transposes_S8x128_S128x8_1_0)) shapeCasts_S128x8x64_S128x512 : S128x512.Idx → EReal) := by
    entry_read
    after_reads_simp [cat2_eq, cat4_eq, cat5_eq, Matrix.cons_val]
    rfl
  rw [e]
  exact biasTable_r H.bsp _ _

theorem v16_r (H : Holds m c P) : R2 (n := 1024) (m := 1536) (V (F := Ideal) m c main_v16) P.win := by
  have e : V (F := Ideal) m c main_v16 = ((m (c, Proc.tc.devRef main_arg5)) : S1024x1536.Idx → EReal) := by
    entry_read
    after_reads_simp [cat2_eq, cat4_eq, cat5_eq, Matrix.cons_val]
    rfl
  rw [e]
  exact H.win

theorem v17_r (H : Holds m c P) : R3 (l := 4) (n := 128) (m := 128) (V (F := Ideal) m c main_v17) P.wpool := by
  have e : V (F := Ideal) m c main_v17 = ((m (c, Proc.tc.devRef main_arg6)) : S4x128x128.Idx → EReal) := by
    entry_read
    after_reads_simp [cat2_eq, cat4_eq, cat5_eq, Matrix.cons_val]
    rfl
  rw [e]
  exact H.wpool

theorem v18_r (H : Holds m c P) : R2 (n := 1024) (m := 1024) (V (F := Ideal) m c main_v18) P.wout := by
  have e : V (F := Ideal) m c main_v18 = ((m (c, Proc.tc.devRef main_arg12)) : S1024x1024.Idx → EReal) := by
    entry_read
    after_reads_simp [cat2_eq, cat4_eq, cat5_eq, Matrix.cons_val]
    rfl
  rw [e]
  exact H.wout

theorem arg0_r (H : Holds m c P) : R2 (n := 8192) (m := 1024) (V (F := Ideal) m c main_arg0) P.x := by
  rw [V_main_arg0]
  exact H.x

/-! ### The blocks -/

theorem index_in : ∀ t : Fin cfg0.N,
    (win0_0.index t 0 = t.val ∧ win0_0.index t 1 = 0) ∧ (win0_1.index t 0 = 0 ∧ win0_1.index t 1 = 0) ∧
    (win0_2.index t 0 = 0 ∧ win0_2.index t 1 = 0) ∧ (win0_3.index t 0 = 0 ∧ win0_3.index t 1 = 0 ∧ win0_3.index t 2 = 0) ∧
    (win0_4.index t 0 = 0 ∧ win0_4.index t 1 = 0) ∧ (win0_5.index t 0 = 0 ∧ win0_5.index t 1 = 0 ∧ win0_5.index t 2 = 0) ∧
    (win0_6.index t 0 = 0 ∧ win0_6.index t 1 = 0) ∧ (win0_7.index t 0 = 0 ∧ win0_7.index t 1 = 0) := by
  decide +kernel

theorem coord : ∀ t : Fin cfg0.N, (grid0.coords t 0).val = t.val := by decide +kernel

theorem x_block (H : Holds m c P) (t : Fin cfg0.N) :
    R2 (n := 512) (m := 1024) (iblk (F := Ideal) m c 0 t) (fun i j => P.x (512 * t.val + i) j) := by
  intro y
  blk_simp [iblk]
  refine (arg0_r H _).trans ?_
  blk_simp
  obtain ⟨i0, i1⟩ := (index_in t).1
  rw [i0, i1, zero_mul, zero_add, Nat.mul_comm t.val]

theorem mod_block (H : Holds m c P) (t : Fin cfg0.N) : R2 (n := 8) (m := 1024) (iblk (F := Ideal) m c 1 t) (mods P) := by
  intro y
  blk_simp [iblk]
  refine (v13_r H _).trans ?_
  blk_simp
  obtain ⟨i0, i1⟩ := (index_in t).2.1
  rw [i0, i1]
  simp only [zero_mul, zero_add]

theorem win_block (H : Holds m c P) (t : Fin cfg0.N) : R2 (n := 1024) (m := 1536) (iblk (F := Ideal) m c 2 t) P.win := by
  intro y
  blk_simp [iblk]
  refine (v16_r H _).trans ?_
  blk_simp
  obtain ⟨i0, i1⟩ := (index_in t).2.2.1
  rw [i0, i1]
  simp only [zero_mul, zero_add]

theorem wpool_block (H : Holds m c P) (t : Fin cfg0.N) : R3 (l := 4) (n := 128) (m := 128) (iblk (F := Ideal) m c 3 t) P.wpool := by
  intro y
  blk_simp [iblk]
  refine (v17_r H _).trans ?_
  blk_simp
  obtain ⟨i0, i1, i2⟩ := (index_in t).2.2.2.1
  rw [i0, i1, i2]
  simp only [zero_mul, zero_add]

theorem vec_block (H : Holds m c P) (t : Fin cfg0.N) : R2 (n := 8) (m := 512) (iblk (F := Ideal) m c 4 t) (vecs P) := by
  intro y
  blk_simp [iblk]
  refine (v15_r H _).trans ?_
  blk_simp
  obtain ⟨i0, i1⟩ := (index_in t).2.2.2.2.1
  rw [i0, i1]
  simp only [zero_mul, zero_add]

theorem sp_block (H : Holds m c P) (t : Fin cfg0.N) : R3 (l := 4) (n := 128) (m := 256) (iblk (F := Ideal) m c 5 t) (wc P) := by
  intro y
  blk_simp [iblk]
  refine (v8_r H _).trans ?_
  blk_simp
  obtain ⟨i0, i1, i2⟩ := (index_in t).2.2.2.2.2.1
  rw [i0, i1, i2]
  simp only [zero_mul, zero_add]

theorem bias_block (H : Holds m c P) (t : Fin cfg0.N) : R2 (n := 128) (m := 512) (iblk (F := Ideal) m c 6 t) (fun t k => P.bsp (k / 64) t) := by
  intro y
  blk_simp [iblk]
  refine (v11_r H _).trans ?_
  blk_simp
  obtain ⟨i0, i1⟩ := (index_in t).2.2.2.2.2.2.1
  rw [i0, i1]
  simp only [zero_mul, zero_add]

theorem wout_block (H : Holds m c P) (t : Fin cfg0.N) : R2 (n := 1024) (m := 1024) (iblk (F := Ideal) m c 7 t) P.wout := by
  intro y
  blk_simp [iblk]
  refine (v18_r H _).trans ?_
  blk_simp
  obtain ⟨i0, i1⟩ := (index_in t).2.2.2.2.2.2.2
  rw [i0, i1]
  simp only [zero_mul, zero_add]

end MixFwd

end
-- ==== Proof.FwdStep.lean ====
/-
  The tiles of the mixer's forward kernel, the first of the sequence first: what each leaves, and the sixteen rows of the
  pooled half that it carries to the next.
-/
module

public import proofs.«01_k».proof.Proof.FwdHost

@[expose] public section

set_option maxRecDepth 65536

noncomputable section

namespace MixFwd

open Idealize.ShloMosaic Idealize.SL.Sem MixBwd Cert.Kernel4Ideal Cert.Kernel4Ideal.Gen

variable {m : (l : Loc nD τ sig) → Buf (Elt Ideal) l} {c : Dev nD} {P : Params} {t : Fin cfg0.N}

/-! ### A tile, given the rows it reads back -/

/-- The loads of 512 rows of a column block. -/
abbrev Loads : Type := ∀ k o : ℕ, (∀ a, ![k, o] a + ![512, 128] a ≤ S528x512.size a) → FVec Ideal S512x128 .f32

/-- They are of the projection, sixteen rows down. -/
abbrev Reads (P : Params) (b : ℕ) (Q : Loads) : Prop := ∀ k o inb, R2 (Q k o inb) (Z P b o k)

abbrev row (m : (l : Loc nD τ sig) → Buf (Elt Ideal) l) (c : Dev nD) (t : Fin cfg0.N) (r : ℕ)
    (inb : ∀ k, ![r, 0] k + ![1, 1024] k ≤ S8x1024.size k) : FVec Ideal S1x1024 .f32 :=
  View.ld (Val := Elt Ideal) (e' := .f32) (S := S8x1024) (iblk (F := Ideal) m c 1 t) (Rect.unit (s := S8x1024) ![r, 0] ![1, 1024] inb)

abbrev wp (m : (l : Loc nD τ sig) → Buf (Elt Ideal) l) (c : Dev nD) (t : Fin cfg0.N) (k : ℕ)
    (inb : ∀ a, ![k, 0, 0] a + ![1, 128, 128] a ≤ S4x128x128.size a) : FVec Ideal S1x128x128 .bf16 :=
  View.ld (Val := Elt Ideal) (e' := .bf16) (S := S4x128x128) (iblk (F := Ideal) m c 3 t) (Rect.unit (s := S4x128x128) ![k, 0, 0] ![1, 128, 128] inb)

abbrev ws (m : (l : Loc nD τ sig) → Buf (Elt Ideal) l) (c : Dev nD) (t : Fin cfg0.N) (k : ℕ)
    (inb : ∀ a, ![k, 0, 0] a + ![1, 128, 256] a ≤ S4x128x256.size a) : FVec Ideal S1x128x256 .bf16 :=
  View.ld (Val := Elt Ideal) (e' := .bf16) (S := S4x128x256) (iblk (F := Ideal) m c 5 t) (Rect.unit (s := S4x128x256) ![k, 0, 0] ![1, 128, 256] inb)

abbrev bs (m : (l : Loc nD τ sig) → Buf (Elt Ideal) l) (c : Dev nD) (t : Fin cfg0.N) (o : ℕ)
    (inb : ∀ a, ![0, o] a + ![128, 128] a ≤ S128x512.size a) : FVec Ideal S128x128 .f32 :=
  View.ld (Val := Elt Ideal) (e' := .f32) (S := S128x512) (iblk (F := Ideal) m c 6 t) (Rect.unit (s := S128x512) ![0, o] ![128, 128] inb)

abbrev at0 (t : Fin cfg0.N) : BitVec 32 := BitVec.ofNat 32 (grid0.coords t 0).val

abbrev pj (m : (l : Loc nD τ sig) → Buf (Elt Ideal) l) (c : Dev nD) (t : Fin cfg0.N) : FVec Ideal S512x512 .f32 :=
  k0_pay4 (F := Ideal) (iblk (F := Ideal) m c 0 t) (row m c t 3 inb_S8x1024_S1x1024_3_0) (row m c t 1 inb_S8x1024_S1x1024_1_0)
    (row m c t 0 inb_S8x1024_S1x1024_0_0) (iblk (F := Ideal) m c 2 t)

abbrev zt (m : (l : Loc nD τ sig) → Buf (Elt Ideal) l) (c : Dev nD) (t : Fin cfg0.N) : FVec Ideal S512x1024 .f32 :=
  k0_pay5 (F := Ideal) (iblk (F := Ideal) m c 0 t) (row m c t 3 inb_S8x1024_S1x1024_3_0) (row m c t 1 inb_S8x1024_S1x1024_1_0)
    (row m c t 0 inb_S8x1024_S1x1024_0_0) (iblk (F := Ideal) m c 2 t)

abbrev vc (m : (l : Loc nD τ sig) → Buf (Elt Ideal) l) (c : Dev nD) (t : Fin cfg0.N) : FVec Ideal S8x512 .f32 :=
  k0_pay8 (F := Ideal) (iblk (F := Ideal) m c 4 t)

abbrev vt (m : (l : Loc nD τ sig) → Buf (Elt Ideal) l) (c : Dev nD) (t : Fin cfg0.N) : FVec Ideal S512x512 .f32 :=
  k0_pay25 (F := Ideal) (vc m c t) (k0_pay23 (zt m c t))

section Point

variable (Q : Loads)

abbrev g0 (m : (l : Loc nD τ sig) → Buf (Elt Ideal) l) (c : Dev nD) (t : Fin cfg0.N) (Q : Loads) : FVec Ideal S512x128 .bf16 :=
  k0_pay9 (F := Ideal) (at0 t) (pj m c t) (Q 15 0 inb_S528x512_S512x128_15_0)

abbrev s1 (m : (l : Loc nD τ sig) → Buf (Elt Ideal) l) (c : Dev nD) (t : Fin cfg0.N) (Q : Loads) : FVec Ideal S512x128 .f32 :=
  k0_pay11 (F := Ideal) (pj m c t) (Q 15 128 inb_S528x512_S512x128_15_128) (Q 14 128 inb_S528x512_S512x128_14_128)
    (Q 13 128 inb_S528x512_S512x128_13_128)

abbrev g2 (m : (l : Loc nD τ sig) → Buf (Elt Ideal) l) (c : Dev nD) (t : Fin cfg0.N) (Q : Loads) : FVec Ideal S512x128 .bf16 :=
  k0_pay15 (F := Ideal) (pj m c t) (k0_pay7 (at0 t)) (Q 15 256 inb_S528x512_S512x128_15_256) (Q 14 256 inb_S528x512_S512x128_14_256)
    (Q 13 256 inb_S528x512_S512x128_13_256) (Q 12 256 inb_S528x512_S512x128_12_256) (Q 11 256 inb_S528x512_S512x128_11_256)
    (Q 10 256 inb_S528x512_S512x128_10_256) (Q 9 256 inb_S528x512_S512x128_9_256)

abbrev s3 (m : (l : Loc nD τ sig) → Buf (Elt Ideal) l) (c : Dev nD) (t : Fin cfg0.N) (Q : Loads) : FVec Ideal S512x128 .f32 :=
  k0_pay18 (F := Ideal) (pj m c t) (Q 15 384 inb_S528x512_S512x128_15_384) (Q 14 384 inb_S528x512_S512x128_14_384)
    (Q 13 384 inb_S528x512_S512x128_13_384) (Q 12 384 inb_S528x512_S512x128_12_384) (Q 11 384 inb_S528x512_S512x128_11_384)
    (Q 10 384 inb_S528x512_S512x128_10_384) (Q 9 384 inb_S528x512_S512x128_9_384) (Q 8 384 inb_S528x512_S512x128_8_384)
    (Q 7 384 inb_S528x512_S512x128_7_384) (Q 6 384 inb_S528x512_S512x128_6_384) (Q 5 384 inb_S528x512_S512x128_5_384)
    (Q 4 384 inb_S528x512_S512x128_4_384) (Q 3 384 inb_S528x512_S512x128_3_384)

/-- The pooled rows that the tile stores. -/
abbrev pooledT (m : (l : Loc nD τ sig) → Buf (Elt Ideal) l) (c : Dev nD) (t : Fin cfg0.N) (Q : Loads) : FVec Ideal S512x512 .bf16 :=
  k0_pay21 (F := Ideal) (pj m c t) (k0_pay7 (at0 t)) (g0 m c t Q) (k0_pay13 (pj m c t) (s1 m c t Q) (k0_pay12 (at0 t))) (g2 m c t Q)
    (s3 m c t Q) (Q 2 384 inb_S528x512_S512x128_2_384) (Q 1 384 inb_S528x512_S512x128_1_384)

/-- The rows after the mixer that the tile stores. -/
abbrev outT (m : (l : Loc nD τ sig) → Buf (Elt Ideal) l) (c : Dev nD) (t : Fin cfg0.N) (Q : Loads) : FVec Ideal S512x1024 .f32 :=
  k0_pay1 (F := Ideal) (iblk (F := Ideal) m c 0 t)
    (k0_pay10 (at0 t) (pj m c t) (iblk (F := Ideal) m c 4 t) (Q 15 0 inb_S528x512_S512x128_15_0) (wp m c t 0 inb_S4x128x128_S1x128x128_0_0_0))
    (k0_pay14 (pj m c t) (vc m c t) (s1 m c t Q) (k0_pay12 (at0 t)) (wp m c t 1 inb_S4x128x128_S1x128x128_1_0_0))
    (k0_pay17 (vc m c t) (g2 m c t Q) (k0_pay16 (wp m c t 2 inb_S4x128x128_S1x128x128_2_0_0)))
    (k0_pay20 (pj m c t) (k0_pay7 (at0 t)) (vc m c t) (s3 m c t Q) (Q 2 384 inb_S528x512_S512x128_2_384)
      (Q 1 384 inb_S528x512_S512x128_1_384) (wp m c t 3 inb_S4x128x128_S1x128x128_3_0_0))
    (k0_pay24 (zt m c t))
    (k0_pay36 (k0_pay29 (vc m c t) (k0_pay23 (zt m c t))) k0_pay30 (k0_pay31 (vc m c t) (k0_pay23 (zt m c t)))
      (k0_pay32 (vc m c t) (k0_pay23 (zt m c t))) (k0_pay33 (vc m c t) (k0_pay23 (zt m c t)))
      (k0_pay34 (vc m c t) (k0_pay23 (zt m c t))) k0_pay35 (ws m c t 0 inb_S4x128x256_S1x128x256_0_0_0) (bs m c t 0 inb_S128x512_S128x128_0_0))
    (k0_pay38 (k0_pay37 (vt m c t)) (ws m c t 1 inb_S4x128x256_S1x128x256_1_0_0) (bs m c t 128 inb_S128x512_S128x128_0_128))
    (k0_pay40 (k0_pay39 (vt m c t)) (ws m c t 2 inb_S4x128x256_S1x128x256_2_0_0) (bs m c t 256 inb_S128x512_S128x128_0_256))
    (k0_pay41 (vt m c t) (ws m c t 3 inb_S4x128x256_S1x128x256_3_0_0)) (bs m c t 384 inb_S128x512_S128x128_0_384)
    (row m c t 2 inb_S8x1024_S1x1024_2_0) (iblk (F := Ideal) m c 7 t)

variable {Q} (H : Holds m c P)

theorem proj_r (H : Holds m c P) (t : Fin cfg0.N) : R2 (k0_pay3 (F := Ideal) (iblk (F := Ideal) m c 0 t)
    (row m c t 3 inb_S8x1024_S1x1024_3_0) (row m c t 1 inb_S8x1024_S1x1024_1_0) (row m c t 0 inb_S8x1024_S1x1024_0_0)
    (iblk (F := Ideal) m c 2 t)) (fun i j => P.proj (512 * t.val + i) j) :=
  f3 (x_block H t) ((mod_block H t).line _) ((mod_block H t).line _) ((mod_block H t).line _) (win_block H t)

theorem pj_r (H : Holds m c P) (t : Fin cfg0.N) : R2 (pj m c t) (fun i j => P.proj (512 * t.val + i) j) := f4 (proj_r H t)

theorem zt_r (H : Holds m c P) (t : Fin cfg0.N) : R2 (zt m c t) (fun i j => P.zb (512 * t.val + i) j) := f5 (proj_r H t)

theorem vc_r (H : Holds m c P) (t : Fin cfg0.N) : R2 (vc m c t) (vecs P) := (vec_block H t).cast shapeCasts_S8x512_S8x512

theorem vt_r (H : Holds m c P) (t : Fin cfg0.N) : R2 (vt m c t) (fun i j => P.vl (512 * t.val + i) j) := f25 (vc_r H t) (f23 (zt_r H t))

theorem pos (t : Fin cfg0.N) (i : S512x1.Idx) : k0_pay7 (at0 t) i = BitVec.ofNat 32 (512 * t.val + (i 0).val) := by
  unfold at0
  rw [coord t]
  exact pos_r _ i

theorem inside (t : Fin cfg0.N) : 512 * t.val + 512 ≤ 8192 := by
  have h : t.val < 16 := t.isLt
  omega

variable (h : Reads P (512 * t.val) Q)

include H h

theorem g0_r : R2 (g0 m c t Q) (fun i j => P.pooled (512 * t.val + i) (0 + j)) :=
  f9 (inside t) (pos t) (pj_r H t) (h 15 0 _)

theorem g1_r : R2 (k0_pay13 (F := Ideal) (pj m c t) (s1 m c t Q) (k0_pay12 (at0 t))) (fun i j => P.pooled (512 * t.val + i) (128 + j)) :=
  f13 (inside t) (pos t) (pj_r H t) (h 15 128 _) (h 14 128 _) (h 13 128 _)

theorem g2_r : R2 (g2 m c t Q) (fun i j => P.pooled (512 * t.val + i) (256 + j)) :=
  f15 (inside t) (pos t) (pj_r H t) (h 15 256 _) (h 14 256 _) (h 13 256 _) (h 12 256 _) (h 11 256 _) (h 10 256 _) (h 9 256 _)

theorem g3_r : R2 (k0_pay19 (F := Ideal) (pj m c t) (k0_pay7 (at0 t)) (s3 m c t Q) (Q 2 384 inb_S528x512_S512x128_2_384)
    (Q 1 384 inb_S528x512_S512x128_1_384)) (fun i j => P.pooled (512 * t.val + i) (384 + j)) :=
  f19 (inside t) (pos t) (pj_r H t) (h 15 384 _) (h 14 384 _) (h 13 384 _) (h 12 384 _) (h 11 384 _) (h 10 384 _) (h 9 384 _)
    (h 8 384 _) (h 7 384 _) (h 6 384 _) (h 5 384 _) (h 4 384 _) (h 3 384 _) (h 2 384 _) (h 1 384 _)

theorem pooledT_r : R2 (pooledT m c t Q) (fun i j => P.pooled (512 * t.val + i) j) :=
  f21 (g0_r H h) (g1_r H h) (g2_r H h) (g3_r H h)

theorem outT_r : R2 (outT m c t Q) (fun i j => P.x (512 * t.val + i) j + P.gate j * P.mix (512 * t.val + i) j) :=
  f1 (M := t.val) rfl (x_block H t)
    (f10 (vec_block H t) ((wpool_block H t).layer _) (g0_r H h))
    (f14 (vc_r H t) ((wpool_block H t).layer _) (g1_r H h))
    (f17 (vc_r H t) ((wpool_block H t).layer _) (g2_r H h))
    (f20 (vc_r H t) ((wpool_block H t).layer _) (g3_r H h))
    (f24 (zt_r H t))
    (f36 (M := t.val) rfl (vt_r H t) ((sp_block H t).layer _) ((bias_block H t).cols _))
    (f38 (M := t.val) rfl (vt_r H t) ((sp_block H t).layer _) ((bias_block H t).cols _))
    (f40 (M := t.val) rfl (vt_r H t) ((sp_block H t).layer _) ((bias_block H t).cols _))
    (vt_r H t) ((sp_block H t).layer _) ((bias_block H t).cols _) ((mod_block H t).line _) (wout_block H t)

end Point

/-! ### The scratch buffer -/

/-- The projection, sixteen rows down from a tile's first. -/
abbrev ext (P : Params) (b : ℕ) (i j : ℕ) : ℝ := pz P (b + i) j

/-- The sixteen carried rows hold the rows before the tile. -/
def Carry (P : Params) (b : ℕ) (X : S528x512.Idx → Elt Ideal .f32) : Prop := ∀ y, (y 0).val < 16 → X y = E2 (ext P b) y

/-- The tile's own rows, stored after them. -/
abbrev own (m : (l : Loc nD τ sig) → Buf (Elt Ideal) l) (c : Dev nD) (t : Fin cfg0.N) (L : List (View.Piece (Elt Ideal) S528x512 .f32)) :
    List (View.Piece (Elt Ideal) S528x512 .f32) :=
  ⟨Rect.unit (s := S528x512) ![16, 0] ![512, 512] inb_S528x512_S512x512_16_0, k0_pay6 (F := Ideal) (pj m c t)⟩ :: L

/-- The zeros before the sequence, which the first tile stores. -/
abbrev before : List (View.Piece (Elt Ideal) S528x512 .f32) :=
  [⟨Rect.unit (s := S528x512) ![0, 0] ![16, 512] inb_S528x512_S16x512_0_0, k0_pay2 (F := Ideal)⟩]

theorem own_of (H : Holds m c P) (t : Fin cfg0.N) {L : List (View.Piece (Elt Ideal) S528x512 .f32)}
    (h : View.PiecesOf (E2 (ext P (512 * t.val))) L) : View.PiecesOf (E2 (ext P (512 * t.val))) (own m c t L) :=
  ⟨piece2 inb_S528x512_S512x512_16_0 ((pj_r H t).cast shapeCasts_S512x512_S512x512) fun i j _ _ => by
    show _ = pz P (512 * t.val + (16 + i)) (0 + j)
    rw [show 512 * t.val + (16 + i) = 16 + (512 * t.val + i) by omega, pz_add, zero_add], h⟩

theorem before_of {b : ℕ} (hb : b = 0) : View.PiecesOf (E2 (ext P b)) before :=
  ⟨piece2 inb_S528x512_S16x512_0_0 (R2.zero.cast shapeCasts_S16x512_S16x512) fun i j hi _ => by
    show _ = pz P (b + (0 + i)) (0 + j)
    rw [pz_low _ _ (by omega)], trivial⟩

theorem own_covers {L : List (View.Piece (Elt Ideal) S528x512 .f32)} (y : S528x512.Idx) (hy : 16 ≤ (y 0).val) :
    ∃ q ∈ own m c t L, y ∈ q.1.set := by
  have y0 : (y 0).val < 528 := (y 0).isLt
  have y1 : (y 1).val < 512 := (y 1).isLt
  exact ⟨_, .head _, (in2 inb_S528x512_S512x512_16_0).2 (by omega)⟩

/-- What the tile's last rows leave for the next. -/
theorem carry_next (H : Holds m c P) {L : List (View.Piece (Elt Ideal) S528x512 .f32)} (h : View.PiecesOf (E2 (ext P (512 * t.val))) L) :
    Carry P (512 * (t.val + 1)) (View.canon (⟨Rect.unit (s := S528x512) ![0, 0] ![16, 512] inb_S528x512_S16x512_0_0,
      k0_pay22 (F := Ideal) ((View.whole cc0_scratch0).readCov (own m c t L)
        (Rect.unit (s := S528x512) ![512, 0] ![16, 512] inb_S528x512_S16x512_512_0).toLoadRect)⟩ :: own m c t L)) := fun y hy => by
  have y1 : (y 1).val < 512 := (y 1).isLt
  obtain ⟨x, rfl⟩ := LoadRect.exists_idx_of_mem _ ((in2 inb_S528x512_S16x512_0_0).2 (by omega : (0 ≤ (y 0).val ∧ (y 0).val < 0 + 16)
    ∧ (0 ≤ (y 1).val ∧ (y 1).val < 0 + 512)))
  refine (View.canon_cons_emb (Rect.unit (s := S528x512) ![0, 0] ![16, 512] inb_S528x512_S16x512_0_0) _ _ x).trans ?_
  exact piece2 inb_S528x512_S16x512_0_0 ((R2.loadCov (View.whole cc0_scratch0) (own m c t L) (own_of H t h) inb_S528x512_S16x512_512_0
    fun y h0 _ _ _ => own_covers y (by omega)).cast shapeCasts_S16x512_S16x512) (fun i j _ _ => by
      show pz P (512 * t.val + (512 + i)) (0 + j) = pz P (512 * (t.val + 1) + (0 + i)) (0 + j)
      rw [show 512 * t.val + (512 + i) = 512 * (t.val + 1) + (0 + i) by omega]) x

/-! ### What a tile leaves -/

structure Left (m : (l : Loc nD τ sig) → Buf (Elt Ideal) l) (c : Dev nD) (P : Params) (n : ℕ) (hn : n < cfg0.N) : Prop where
  out : R2 (n := 512) (m := 1024) (outsAt0 (F := Ideal) m c n hn).1
    (fun i j => P.x (512 * n + i) j + P.gate j * P.mix (512 * n + i) j)
  pooled : R2 (n := 512) (m := 512) (outsAt0 (F := Ideal) m c n hn).2.1 (fun i j => P.pooled (512 * n + i) j)
  zb : R2 (n := 512) (m := 1024) (outsAt0 (F := Ideal) m c n hn).2.2.1 (fun i j => P.zb (512 * n + i) j)
  carry : Carry P (512 * (n + 1)) (outsAt0 (F := Ideal) m c n hn).2.2.2

/-- The first tile reads zeros before its own rows. -/
theorem reads_first (H : Holds m c P) (h0 : t.val = 0) : Reads P (512 * t.val) (fun k o inb => View.readCov (Val := Elt Ideal)
    (View.whole cc0_scratch0) (own m c t before) (Rect.unit (s := S528x512) ![k, o] ![512, 128] inb).toLoadRect) := fun k o inb =>
  R2.loadCov (View.whole cc0_scratch0) (own m c t before) (own_of H t (before_of (by omega))) inb fun y _ _ _ _ => by
    have y0 : (y 0).val < 528 := (y 0).isLt
    have y1 : (y 1).val < 512 := (y 1).isLt
    by_cases h : (y 0).val < 16
    · exact ⟨_, .tail _ (.head _), (in2 inb_S528x512_S16x512_0_0).2 (by omega)⟩
    · exact own_covers y (by omega)

/-- A later tile reads the rows carried to it before its own. -/
theorem reads_later (H : Holds m c P) {X : (View.whole cc0_scratch0).ty.Contents (Elt Ideal)}
    (hX : Carry P (512 * t.val) (View.read (Elt Ideal) (View.whole cc0_scratch0) X)) :
    Reads P (512 * t.val) (fun k o inb => View.ld (Val := Elt Ideal) (e' := .f32) (View.read (Elt Ideal) (View.whole cc0_scratch0)
      ((View.whole cc0_scratch0).writes (Elt Ideal) X (own m c t []))) (Rect.unit (s := S528x512) ![k, o] ![512, 128] inb)) :=
  fun k o inb => R2.load (View.whole cc0_scratch0) X (own m c t []) (own_of H t trivial) inb fun y _ _ _ _ hn => by
    refine hX y ?_
    by_contra hy
    obtain ⟨q, hq, h⟩ := own_covers (m := m) (c := c) (t := t) (L := []) y (by omega)
    exact hn q hq h

theorem first (H : Holds m c P) (h0 : t.val % 16 = 0) : Left m c P t.val t.isLt := by
  have e : t.val = 0 := by
    have h : t.val < 16 := t.isLt
    omega
  have hr := reads_first H e
  have ho := outT_r H hr
  have hp := pooledT_r H hr
  have hn := carry_next (L := before) H (before_of (show 512 * t.val = 0 by omega))
  refine ⟨?_, ?_, ?_, ?_⟩ <;> rw [Gen.outsAt0_A m c t h0] <;> frame_open
  · simp (disch := decide) only [↓ View.readCov_skip, ↓ View.readCov_cons_toLoadRect, ↓ View.readCov_fill]
    frame_out
    exact ho
  · simp (disch := decide) only [↓ View.readCov_skip, ↓ View.readCov_cons_toLoadRect, ↓ View.readCov_fill]
    frame_out
    exact hp
  · frame_out
    exact zt_r H t
  · frame_out
    exact hn

theorem later (H : Holds m c P) (h0 : ¬t.val % 16 = 0) (I : Left m c P (t.val - 1) (by omega)) : Left m c P t.val t.isLt := by
  have hc : ∀ h : (Memref.whole cc0_scratch0).IsWhole, Carry P (512 * t.val) (View.read (Elt Ideal) (View.whole cc0_scratch0)
      (h.unread (outsAt0 (F := Ideal) m c (t.val - 1) (by omega)).2.2.2)) := fun h => by
    rw [read_unread_whole]
    have := I.carry
    rwa [show t.val - 1 + 1 = t.val by omega] at this
  have hn := carry_next (t := t) (L := []) H trivial
  refine ⟨?_, ?_, ?_, ?_⟩ <;> rw [Gen.outsAt0_B m c t h0] <;> frame_open
  · frame_out
    have ho := outT_r H (reads_later H (hc (Memref.isWhole_whole _)))
    exact ho
  · frame_out
    have hp := pooledT_r H (reads_later H (hc (Memref.isWhole_whole _)))
    exact hp
  · frame_out
    exact zt_r H t
  · frame_out
    exact hn

theorem left (H : Holds m c P) : ∀ (n : ℕ) (hn : n < cfg0.N), Left m c P n hn
  | 0, hn => first (t := ⟨0, hn⟩) H (by norm_num)
  | n + 1, hn => by
    have h16 : n + 1 < 16 := hn
    exact later (t := ⟨n + 1, hn⟩) H (by show ¬(n + 1) % 16 = 0; omega) (left H n (Nat.lt_of_succ_lt hn))

end MixFwd

end
-- ==== Proof.FwdFinal.lean ====
/-
  The three arrays of the mixer's forward kernel, from the tiles of its grid.
-/
module

public import proofs.«01_k».proof.Proof.FwdStep

@[expose] public section

set_option maxRecDepth 65536

noncomputable section

namespace MixFwd

open Idealize.ShloMosaic Idealize.SL.Sem MixBwd Cert.Kernel4Ideal Cert.Kernel4Ideal.Gen

variable {m : (l : Loc nD τ sig) → Buf (Elt Ideal) l} {c : Dev nD} {P : Params}

theorem index_out : ∀ t : Fin cfg0.N,
    (win0_8.index t 0 = t.val ∧ win0_8.index t 1 = 0) ∧ (win0_9.index t 0 = t.val ∧ win0_9.index t 1 = 0) ∧
    (win0_10.index t 0 = t.val ∧ win0_10.index t 1 = 0) := by
  decide +kernel

theorem out_array (H : Holds m c P) : (dats (F := Ideal) m 0 c).arrAt 8 cfg0.N = fun i =>
    ((P.x (i 0).val (i 1).val + P.gate (i 1).val * P.mix (i 0).val (i 1).val : ℝ) : EReal) := by
  refine (dats m 0 c).arrAt_eq_of_covers 8 _ (by decide +kernel) fun t hf y => ?_
  blk_simp
  rw [after0_8]
  refine ((left H t.val t.isLt).out y).trans ?_
  obtain ⟨i0, i1⟩ := (index_out t).1
  rw [i0, i1, zero_mul, zero_add, Nat.mul_comm t.val]

theorem pooled_array (H : Holds m c P) : (dats (F := Ideal) m 0 c).arrAt 9 cfg0.N = fun i =>
    ((P.pooled (i 0).val (i 1).val : ℝ) : EReal) := by
  refine (dats m 0 c).arrAt_eq_of_covers 9 _ (by decide +kernel) fun t hf y => ?_
  blk_simp
  rw [after0_9]
  refine ((left H t.val t.isLt).pooled y).trans ?_
  obtain ⟨i0, i1⟩ := (index_out t).2.1
  rw [i0, i1, zero_mul, zero_add, Nat.mul_comm t.val]

theorem zb_array (H : Holds m c P) : (dats (F := Ideal) m 0 c).arrAt 10 cfg0.N = fun i =>
    ((P.zb (i 0).val (i 1).val : ℝ) : EReal) := by
  refine (dats m 0 c).arrAt_eq_of_covers 10 _ (by decide +kernel) fun t hf y => ?_
  blk_simp
  rw [after0_10]
  refine ((left H t.val t.isLt).zb y).trans ?_
  obtain ⟨i0, i1⟩ := (index_out t).2.2
  rw [i0, i1, zero_mul, zero_add, Nat.mul_comm t.val]

end MixFwd

end
-- ==== Proof.FwdRef.lean ====
/-
  The reference of the forward mixer over the reals: its stages are the ones that the gradient's reference takes on the way.
-/
module

public import proofs.«01_k».proof.Proof.Host
public import proofs.«01_k».proof.Proof.Gen.Reference4Ideal.Read

@[expose] public section

set_option maxRecDepth 65536

noncomputable section

namespace MixFwd

open Idealize.ShloMosaic Idealize.SL.Sem MixBwd Cert.Reference4Ideal

variable {P : Params} {x0 : S8192x1024.Idx → EReal} {x1 x2 x3 x4 : S1x1024.Idx → EReal} {x5 : S1024x1536.Idx → EReal}
  {x6 : S4x128x128.Idx → EReal} {x7 x8 x9 : S1x512.Idx → EReal} {x10 : S8x128x128.Idx → EReal} {x11 : S8x128.Idx → EReal}
  {x12 : S1024x1024.Idx → EReal}

theorem same_zb : Read.val_main_v101 (F := Ideal) x0 x1 x2 x4 x5 = Cert.ReferenceIdeal.Read.val_main_v108 (F := Ideal) x0 x1 x2 x4 x5 := rfl

theorem same_pooled : Read.val_main_v95 (F := Ideal) x0 x1 x2 x4 x5 = Cert.ReferenceIdeal.Read.val_main_v102 (F := Ideal) x0 x1 x2 x4 x5 := rfl

theorem same_mix : Read.val_main_v155 (F := Ideal) x0 x1 x2 x4 x5 x6 x7 x8 x9 x10 x11 x12
    = Cert.ReferenceIdeal.Read.val_main_v175 (F := Ideal) x0 x1 x2 x4 x5 x6 x7 x8 x9 x10 x11 x12 := rfl

/-- The three results. -/
theorem pooled_ref (A : Args P x0 (fun _ => 0) x1 x2 x3 x4 x5 x6 x7 x8 x9 x10 x11 x12) (i : S8192x512.Idx) :
    Read.val_main_v160 (F := Ideal) x0 x1 x2 x4 x5 i = ((P.pooled (i 0).val (i 1).val : ℝ) : EReal) :=
  groups_r (r102 A) _ i

theorem zb_ref (A : Args P x0 (fun _ => 0) x1 x2 x3 x4 x5 x6 x7 x8 x9 x10 x11 x12) (i : S8192x1024.Idx) :
    Read.val_main_v101 (F := Ideal) x0 x1 x2 x4 x5 i = ((P.zb (i 0).val (i 1).val : ℝ) : EReal) := r108 A i

theorem out_ref (A : Args P x0 (fun _ => 0) x1 x2 x3 x4 x5 x6 x7 x8 x9 x10 x11 x12) (i : S8192x1024.Idx) :
    Read.val_main_v158 (F := Ideal) x0 x1 x2 x3 x4 x5 x6 x7 x8 x9 x10 x11 x12 i
      = ((P.x (i 0).val (i 1).val + P.gate (i 1).val * P.mix (i 0).val (i 1).val : ℝ) : EReal) := by
  have e : Read.val_main_v156 (F := Ideal) x3 i = ((P.gate (i 1).val : ℝ) : EReal) :=
    (Read.val_main_v156_apply (F := Ideal) x3 i).trans (A.gate _)
  rw [Read.val_main_v158_apply, Read.val_main_v157_apply, e, same_mix]
  refine (congrArg₂ (FloatOps.addf (F := Ideal) (φ := .f32)) (A.x i)
    ((congrArg (FloatOps.mulf (F := Ideal) (φ := .f32) _) (r175 A i)).trans (mul_r _ _))).trans (add_r _ _)

end MixFwd

end
-- ==== Proof.FwdClaims.lean ====
/-
  The claims about the mixer's forward kernel: the frame of its reference, the constant that its idealized form names, and
  that from finite arguments its three arrays are those of the reference.
-/
module

public import proofs.«01_k».proof.Defs
public import proofs.«01_k».proof.Proof.Gen.Kernel4Ideal.Value
public import proofs.«01_k».proof.Proof.Gen.Reference4Ideal.Run
public import proofs.«01_k».proof.Proof.Claims
public import proofs.«01_k».proof.Proof.FwdFinal
public import proofs.«01_k».proof.Proof.FwdRef

@[expose] public section

set_option maxRecDepth 65536

noncomputable section

namespace MixFwd

open Idealize.ShloMosaic Idealize.SL.Sem MixBwd

theorem finite_facts : Cert.Pre_finite4.Facts where
  bcast_S_S8192x1024 := by decide
  bcast_S_S1x1024 := by decide
  bcast_S_S1024x1536 := by decide
  bcast_S_S4x128x128 := by decide
  bcast_S_S1x512 := by decide
  bcast_S_S8x128x128 := by decide
  bcast_S_S8x128 := by decide
  bcast_S_S1024x1024 := by decide

/-- The reference, host operations only, keeps its arguments; it has no semaphores. -/
theorem reference_frame : Cert.quiescent_Reference4Ideal := fun m ρ _ =>
  (θ_run (Cert.Reference4Ideal.defs (F := Ideal)) _ _).mono
    (fun r h => ⟨fun c => (h c).2.2.2, sem_eq_zero_of_no_sems (by decide) r.2⟩)
    (Cert.Reference4Ideal.Value.run (F := Ideal) m ρ)

theorem constants : Cert.preserves_Kernel4_Kernel4Ideal :=
  IdealRules.named_const.statement Cert.Kernel4Ideal.κ "gelu_a" .f32 0x3D372713#32 ((8943 / 200000 : ℝ) : EReal) rfl

section Arguments

open Cert.Reference4Ideal

attribute [local instance] finite_facts in
/-- Arguments that the precondition accepts hold the reals read from them. -/
theorem args_of_finite (x0 : (⟨S8192x1024, .f32⟩ : BufTy).Contents (Elt Ideal))
    (x1 x2 x3 x4 : (⟨S1x1024, .f32⟩ : BufTy).Contents (Elt Ideal)) (x5 : (⟨S1024x1536, .f32⟩ : BufTy).Contents (Elt Ideal))
    (x6 : (⟨S4x128x128, .f32⟩ : BufTy).Contents (Elt Ideal)) (x7 x8 x9 : (⟨S1x512, .f32⟩ : BufTy).Contents (Elt Ideal))
    (x10 : (⟨S8x128x128, .f32⟩ : BufTy).Contents (Elt Ideal)) (x11 : (⟨S8x128, .f32⟩ : BufTy).Contents (Elt Ideal))
    (x12 : (⟨S1024x1024, .f32⟩ : BufTy).Contents (Elt Ideal))
    (hf : (Cert.Pre_finite4.fn (F := Ideal) x0 x1 x2 x3 x4 x5 x6 x7 x8 x9 x10 x11 x12).1 = (fun _ => 1#1)
      ∧ (Cert.Pre_finite4.fn (F := Ideal) x0 x1 x2 x3 x4 x5 x6 x7 x8 x9 x10 x11 x12).2.1 = (fun _ => 1#1)
      ∧ (Cert.Pre_finite4.fn (F := Ideal) x0 x1 x2 x3 x4 x5 x6 x7 x8 x9 x10 x11 x12).2.2.1 = (fun _ => 1#1)
      ∧ (Cert.Pre_finite4.fn (F := Ideal) x0 x1 x2 x3 x4 x5 x6 x7 x8 x9 x10 x11 x12).2.2.2.1 = (fun _ => 1#1)
      ∧ (Cert.Pre_finite4.fn (F := Ideal) x0 x1 x2 x3 x4 x5 x6 x7 x8 x9 x10 x11 x12).2.2.2.2.1 = (fun _ => 1#1)
      ∧ (Cert.Pre_finite4.fn (F := Ideal) x0 x1 x2 x3 x4 x5 x6 x7 x8 x9 x10 x11 x12).2.2.2.2.2.1 = (fun _ => 1#1)
      ∧ (Cert.Pre_finite4.fn (F := Ideal) x0 x1 x2 x3 x4 x5 x6 x7 x8 x9 x10 x11 x12).2.2.2.2.2.2.1 = (fun _ => 1#1)
      ∧ (Cert.Pre_finite4.fn (F := Ideal) x0 x1 x2 x3 x4 x5 x6 x7 x8 x9 x10 x11 x12).2.2.2.2.2.2.2.1 = (fun _ => 1#1)
      ∧ (Cert.Pre_finite4.fn (F := Ideal) x0 x1 x2 x3 x4 x5 x6 x7 x8 x9 x10 x11 x12).2.2.2.2.2.2.2.2.1 = (fun _ => 1#1)
      ∧ (Cert.Pre_finite4.fn (F := Ideal) x0 x1 x2 x3 x4 x5 x6 x7 x8 x9 x10 x11 x12).2.2.2.2.2.2.2.2.2.1 = (fun _ => 1#1)
      ∧ (Cert.Pre_finite4.fn (F := Ideal) x0 x1 x2 x3 x4 x5 x6 x7 x8 x9 x10 x11 x12).2.2.2.2.2.2.2.2.2.2.1 = (fun _ => 1#1)
      ∧ (Cert.Pre_finite4.fn (F := Ideal) x0 x1 x2 x3 x4 x5 x6 x7 x8 x9 x10 x11 x12).2.2.2.2.2.2.2.2.2.2.2.1 = (fun _ => 1#1)
      ∧ (Cert.Pre_finite4.fn (F := Ideal) x0 x1 x2 x3 x4 x5 x6 x7 x8 x9 x10 x11 x12).2.2.2.2.2.2.2.2.2.2.2.2 = (fun _ => 1#1)) :
    Args (paramsOf x0 (fun _ => 0) x1 x2 x3 x4 x5 x6 x7 x8 x9 x10 x11 x12) x0 (fun _ => 0) x1 x2 x3 x4 x5 x6 x7 x8 x9 x10 x11 x12 where
  x := readM_r x0 (real_of_finite x0 _ hf.1)
  dxo := readM_r _ fun _ => (EReal.coe_toReal (by decide) (by decide)).symm
  shift := readV_r x1 (real_of_finite x1 _ hf.2.1)
  scale := readV_r x2 (real_of_finite x2 _ hf.2.2.1)
  gate := readV_r x3 (real_of_finite x3 _ hf.2.2.2.1)
  gn := readV_r x4 (real_of_finite x4 _ hf.2.2.2.2.1)
  win := readM_r x5 (real_of_finite x5 _ hf.2.2.2.2.2.1)
  wpool := readC_r x6 (real_of_finite x6 _ hf.2.2.2.2.2.2.1)
  ps := readV_r x7 (real_of_finite x7 _ hf.2.2.2.2.2.2.2.1)
  lg := readV_r x8 (real_of_finite x8 _ hf.2.2.2.2.2.2.2.2.1)
  lb := readV_r x9 (real_of_finite x9 _ hf.2.2.2.2.2.2.2.2.2.1)
  wsp := readC_r x10 (real_of_finite x10 _ hf.2.2.2.2.2.2.2.2.2.2.1)
  bsp := readM_r x11 (real_of_finite x11 _ hf.2.2.2.2.2.2.2.2.2.2.2.1)
  wout := readM_r x12 (real_of_finite x12 _ hf.2.2.2.2.2.2.2.2.2.2.2.2)

/-- Equal arguments hold the same reals. -/
theorem args_congr {P : Params} (y0 : (⟨S8192x1024, .f32⟩ : BufTy).Contents (Elt Ideal))
    (y1 y2 y3 y4 : (⟨S1x1024, .f32⟩ : BufTy).Contents (Elt Ideal)) (y5 : (⟨S1024x1536, .f32⟩ : BufTy).Contents (Elt Ideal))
    (y6 : (⟨S4x128x128, .f32⟩ : BufTy).Contents (Elt Ideal)) (y7 y8 y9 : (⟨S1x512, .f32⟩ : BufTy).Contents (Elt Ideal))
    (y10 : (⟨S8x128x128, .f32⟩ : BufTy).Contents (Elt Ideal)) (y11 : (⟨S8x128, .f32⟩ : BufTy).Contents (Elt Ideal))
    (y12 : (⟨S1024x1024, .f32⟩ : BufTy).Contents (Elt Ideal))
    (x0 : (⟨S8192x1024, .f32⟩ : BufTy).Contents (Elt Ideal))
    (x1 x2 x3 x4 : (⟨S1x1024, .f32⟩ : BufTy).Contents (Elt Ideal)) (x5 : (⟨S1024x1536, .f32⟩ : BufTy).Contents (Elt Ideal))
    (x6 : (⟨S4x128x128, .f32⟩ : BufTy).Contents (Elt Ideal)) (x7 x8 x9 : (⟨S1x512, .f32⟩ : BufTy).Contents (Elt Ideal))
    (x10 : (⟨S8x128x128, .f32⟩ : BufTy).Contents (Elt Ideal)) (x11 : (⟨S8x128, .f32⟩ : BufTy).Contents (Elt Ideal))
    (x12 : (⟨S1024x1024, .f32⟩ : BufTy).Contents (Elt Ideal))
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (H : Args P x0 (fun _ => 0) x1 x2 x3 x4 x5 x6 x7 x8 x9 x10 x11 x12) :
    Args P y0 (fun _ => 0) y1 y2 y3 y4 y5 y6 y7 y8 y9 y10 y11 y12 := by
  subst e0 e1 e2 e3 e4 e5 e6 e7 e8 e9 e10 e11 e12
  exact H

end Arguments

/-- The real arguments of device `c`. -/
abbrev realsAt (m : (l : Loc Cert.Kernel4Ideal.nD Cert.Kernel4Ideal.τ Cert.Kernel4Ideal.sig) → Buf (Elt Ideal) l)
    (c : Dev Cert.Kernel4Ideal.nD) : Params :=
  paramsOf (m (c, Proc.tc.devRef Cert.Kernel4Ideal.main_arg0)) (fun _ => 0) (m (c, Proc.tc.devRef Cert.Kernel4Ideal.main_arg1)) (m (c, Proc.tc.devRef Cert.Kernel4Ideal.main_arg2)) (m (c, Proc.tc.devRef Cert.Kernel4Ideal.main_arg3)) (m (c, Proc.tc.devRef Cert.Kernel4Ideal.main_arg4)) (m (c, Proc.tc.devRef Cert.Kernel4Ideal.main_arg5)) (m (c, Proc.tc.devRef Cert.Kernel4Ideal.main_arg6)) (m (c, Proc.tc.devRef Cert.Kernel4Ideal.main_arg7)) (m (c, Proc.tc.devRef Cert.Kernel4Ideal.main_arg8)) (m (c, Proc.tc.devRef Cert.Kernel4Ideal.main_arg9)) (m (c, Proc.tc.devRef Cert.Kernel4Ideal.main_arg10)) (m (c, Proc.tc.devRef Cert.Kernel4Ideal.main_arg11)) (m (c, Proc.tc.devRef Cert.Kernel4Ideal.main_arg12))

attribute [local instance] finite_facts in
theorem holds_of_pre {m : (l : Loc Cert.Kernel4Ideal.nD Cert.Kernel4Ideal.τ Cert.Kernel4Ideal.sig) → Buf (Elt Ideal) l}
    (h : Cert.Pre_Kernel4Ideal_finite4 m) (c : Dev Cert.Kernel4Ideal.nD) : Holds m c (realsAt m c) :=
  args_of_finite _ _ _ _ _ _ _ _ _ _ _ _ _ (h c)

section Algebraic

attribute [local instance] Cert.Kernel4Ideal.Gen.facts Cert.Reference4Ideal.Gen.facts finite_facts

set_option maxHeartbeats 2000000 in
open Cert.Kernel4Ideal.Gen Cert.Kernel4Ideal.Value in
theorem algebraic : Cert.algebraic_Kernel4Ideal_Reference4Ideal_pre_finite4 := by
  intro m g m' g' hp ha
  refine ⟨fun c => (dats (F := Ideal) m 0 c).arrAt 8 Cert.Kernel4Ideal.cfg0.N,
    fun c => (dats (F := Ideal) m 0 c).arrAt 9 Cert.Kernel4Ideal.cfg0.N,
    fun c => (dats (F := Ideal) m 0 c).arrAt 10 Cert.Kernel4Ideal.cfg0.N, run_blocks (F := Ideal) m g, ?_⟩
  refine (θ_run (Cert.Reference4Ideal.defs (F := Ideal)) _ _).mono (fun r h c => ?_)
    (Cert.Reference4Ideal.Value.run (F := Ideal) m' g')
  have H : Holds m c (realsAt m c) := holds_of_pre hp c
  obtain ⟨a0, a1, a2, a3, a4, a5, a6, a7, a8, a9, a10, a11, a12⟩ := ha c
  have A := args_congr _ _ _ _ _ _ _ _ _ _ _ _ _ _ _ _ _ _ _ _ _ _ _ _ _ _ a0 a1 a2 a3 a4 a5 a6 a7 a8 a9 a10 a11 a12 H
  obtain ⟨h0, h1, h2, kept⟩ := h c
  refine ⟨?_, ?_, ?_, kept⟩
  · exact (h0.trans (Cert.Reference4Ideal.Read.val_main_v158_eq (F := Ideal) (StableHlo.launchContents m' c))).trans
      ((funext (out_ref A)).trans (out_array H).symm)
  · exact (h1.trans (Cert.Reference4Ideal.Read.val_main_v160_eq (F := Ideal) (StableHlo.launchContents m' c))).trans
      ((funext (pooled_ref A)).trans (pooled_array H).symm)
  · exact (h2.trans (Cert.Reference4Ideal.Read.val_main_v101_eq (F := Ideal) (StableHlo.launchContents m' c))).trans
      ((funext (zb_ref A)).trans (zb_array H).symm)

end Algebraic

end MixFwd

end
-- ==== Proof.lean ====
/-
  The claim, of four calls: the gradient of the token mixer, the feed-forward sublayer without a loss, the feed-forward
  sublayer with the loss and its gradient, and the token mixer itself. Of each, the frames of the kernel, its idealized
  form and its reference, and the equality of the results; of the two calls of the mixer also the named constants. The
  parts are proved in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import proofs.«01_k».proof.Proof.Ffn2Claims
public import proofs.«01_k».proof.Proof.Ffn3Claims
public import proofs.«01_k».proof.Proof.BwdClaims
public import proofs.«01_k».proof.Proof.FwdClaims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    MixBwd.finite_facts, MixFwd.finite_facts, FfnBwd.finite_facts,
    fun m ρ _ => Cert.Kernel.Gen.frame m ρ, fun m ρ _ => Cert.KernelIdeal.Gen.frame m ρ,
    fun m ρ _ => Cert.KernelIdeal.Gen.frame m ρ, MixBwd.reference_frame, fun m ρ _ => MixBwd.reference_frame m ρ trivial,
    fun m ρ _ => Cert.Kernel2.Gen.frame m ρ, fun m ρ _ => Cert.Kernel2Ideal.Gen.frame m ρ, Ffn2.reference_frame,
    fun m ρ _ => Cert.Kernel3.Gen.frame m ρ, fun m ρ _ => Cert.Kernel3Ideal.Gen.frame m ρ, Ffn3.reference_frame,
    fun m ρ _ => Cert.Kernel4.Gen.frame m ρ, fun m ρ _ => Cert.Kernel4Ideal.Gen.frame m ρ,
    fun m ρ _ => Cert.Kernel4Ideal.Gen.frame m ρ, MixFwd.reference_frame, fun m ρ _ => MixFwd.reference_frame m ρ trivial,
    fun m ρ _ => Cert.Kernel5.Gen.frame m ρ, fun m ρ _ => Cert.Kernel5Ideal.Gen.frame m ρ,
    fun m ρ _ => Cert.Kernel5Ideal.Gen.frame m ρ, FfnBwd.reference_frame, fun m ρ _ => FfnBwd.reference_frame m ρ trivial,
    MixBwd.constants, MixBwd.algebraic, trivial, Ffn2.algebraic, trivial, Ffn3.algebraic,
    MixFwd.constants, MixFwd.algebraic, trivial, FfnBwd.algebraic⟩

end Cert.Proof

end
